-- ==== Defs.lean ====
def Pre_Da (m : (ℓ : Loc Cert.Da.nD Cert.Da.τ Cert.Da.sig) → Buf (Elt Bits) ℓ) : Prop :=
  True

def Pre_DaIdeal (m : (ℓ : Loc Cert.DaIdeal.nD Cert.DaIdeal.τ Cert.DaIdeal.sig) → Buf (Elt Ideal) ℓ) : Prop :=
  True

def Pre_DaIdeal_da_finite [hPre_da_finite : Cert.Pre_da_finite.Facts] (m : (ℓ : Loc Cert.DaIdeal.nD Cert.DaIdeal.τ Cert.DaIdeal.sig) → Buf (Elt Ideal) ℓ) : Prop :=
  ∀ c : Dev Cert.DaIdeal.nD,
    (Cert.Pre_da_finite.fn (F := Ideal) (m ((c.tc : Thread Cert.DaIdeal.nD Cert.DaIdeal.τ).loc Cert.DaIdeal.main_arg0)) (m ((c.tc : Thread Cert.DaIdeal.nD Cert.DaIdeal.τ).loc Cert.DaIdeal.main_arg1)) (m ((c.tc : Thread Cert.DaIdeal.nD Cert.DaIdeal.τ).loc Cert.DaIdeal.main_arg2)) (m ((c.tc : Thread Cert.DaIdeal.nD Cert.DaIdeal.τ).loc Cert.DaIdeal.main_arg3))).1 = (fun _ => 1#1)
    ∧ (Cert.Pre_da_finite.fn (F := Ideal) (m ((c.tc : Thread Cert.DaIdeal.nD Cert.DaIdeal.τ).loc Cert.DaIdeal.main_arg0)) (m ((c.tc : Thread Cert.DaIdeal.nD Cert.DaIdeal.τ).loc Cert.DaIdeal.main_arg1)) (m ((c.tc : Thread Cert.DaIdeal.nD Cert.DaIdeal.τ).loc Cert.DaIdeal.main_arg2)) (m ((c.tc : Thread Cert.DaIdeal.nD Cert.DaIdeal.τ).loc Cert.DaIdeal.main_arg3))).2.1 = (fun _ => 1#1)
    ∧ (Cert.Pre_da_finite.fn (F := Ideal) (m ((c.tc : Thread Cert.DaIdeal.nD Cert.DaIdeal.τ).loc Cert.DaIdeal.main_arg0)) (m ((c.tc : Thread Cert.DaIdeal.nD Cert.DaIdeal.τ).loc Cert.DaIdeal.main_arg1)) (m ((c.tc : Thread Cert.DaIdeal.nD Cert.DaIdeal.τ).loc Cert.DaIdeal.main_arg2)) (m ((c.tc : Thread Cert.DaIdeal.nD Cert.DaIdeal.τ).loc Cert.DaIdeal.main_arg3))).2.2 = (fun _ => 1#1)

def Pre_DaRefIdeal (m : (ℓ : Loc Cert.DaRefIdeal.nD Cert.DaRefIdeal.τ Cert.DaRefIdeal.sig) → Buf (Elt Ideal) ℓ) : Prop :=
  True

def Pre_DaRefIdeal_da_finite [hPre_da_finite : Cert.Pre_da_finite.Facts] (m : (ℓ : Loc Cert.DaRefIdeal.nD Cert.DaRefIdeal.τ Cert.DaRefIdeal.sig) → Buf (Elt Ideal) ℓ) : Prop :=
  ∀ c : Dev Cert.DaRefIdeal.nD,
    (Cert.Pre_da_finite.fn (F := Ideal) (m ((c.tc : Thread Cert.DaRefIdeal.nD Cert.DaRefIdeal.τ).loc Cert.DaRefIdeal.main_arg0)) (m ((c.tc : Thread Cert.DaRefIdeal.nD Cert.DaRefIdeal.τ).loc Cert.DaRefIdeal.main_arg1)) (m ((c.tc : Thread Cert.DaRefIdeal.nD Cert.DaRefIdeal.τ).loc Cert.DaRefIdeal.main_arg2)) (m ((c.tc : Thread Cert.DaRefIdeal.nD Cert.DaRefIdeal.τ).loc Cert.DaRefIdeal.main_arg3))).1 = (fun _ => 1#1)
    ∧ (Cert.Pre_da_finite.fn (F := Ideal) (m ((c.tc : Thread Cert.DaRefIdeal.nD Cert.DaRefIdeal.τ).loc Cert.DaRefIdeal.main_arg0)) (m ((c.tc : Thread Cert.DaRefIdeal.nD Cert.DaRefIdeal.τ).loc Cert.DaRefIdeal.main_arg1)) (m ((c.tc : Thread Cert.DaRefIdeal.nD Cert.DaRefIdeal.τ).loc Cert.DaRefIdeal.main_arg2)) (m ((c.tc : Thread Cert.DaRefIdeal.nD Cert.DaRefIdeal.τ).loc Cert.DaRefIdeal.main_arg3))).2.1 = (fun _ => 1#1)
    ∧ (Cert.Pre_da_finite.fn (F := Ideal) (m ((c.tc : Thread Cert.DaRefIdeal.nD Cert.DaRefIdeal.τ).loc Cert.DaRefIdeal.main_arg0)) (m ((c.tc : Thread Cert.DaRefIdeal.nD Cert.DaRefIdeal.τ).loc Cert.DaRefIdeal.main_arg1)) (m ((c.tc : Thread Cert.DaRefIdeal.nD Cert.DaRefIdeal.τ).loc Cert.DaRefIdeal.main_arg2)) (m ((c.tc : Thread Cert.DaRefIdeal.nD Cert.DaRefIdeal.τ).loc Cert.DaRefIdeal.main_arg3))).2.2 = (fun _ => 1#1)

def Pre_Gq (m : (ℓ : Loc Cert.Gq.nD Cert.Gq.τ Cert.Gq.sig) → Buf (Elt Bits) ℓ) : Prop :=
  True

def Pre_GqIdeal (m : (ℓ : Loc Cert.GqIdeal.nD Cert.GqIdeal.τ Cert.GqIdeal.sig) → Buf (Elt Ideal) ℓ) : Prop :=
  True

def Pre_GqIdeal_gq_finite [hPre_gq_finite : Cert.Pre_gq_finite.Facts] (m : (ℓ : Loc Cert.GqIdeal.nD Cert.GqIdeal.τ Cert.GqIdeal.sig) → Buf (Elt Ideal) ℓ) : Prop :=
  ∀ c : Dev Cert.GqIdeal.nD,
    (Cert.Pre_gq_finite.fn (F := Ideal) (m ((c.tc : Thread Cert.GqIdeal.nD Cert.GqIdeal.τ).loc Cert.GqIdeal.main_arg0))) = (fun _ => 1#1)

def Pre_GqRefIdeal (m : (ℓ : Loc Cert.GqRefIdeal.nD Cert.GqRefIdeal.τ Cert.GqRefIdeal.sig) → Buf (Elt Ideal) ℓ) : Prop :=
  True

def Pre_GqRefIdeal_gq_finite [hPre_gq_finite : Cert.Pre_gq_finite.Facts] (m : (ℓ : Loc Cert.GqRefIdeal.nD Cert.GqRefIdeal.τ Cert.GqRefIdeal.sig) → Buf (Elt Ideal) ℓ) : Prop :=
  ∀ c : Dev Cert.GqRefIdeal.nD,
    (Cert.Pre_gq_finite.fn (F := Ideal) (m ((c.tc : Thread Cert.GqRefIdeal.nD Cert.GqRefIdeal.τ).loc Cert.GqRefIdeal.main_arg0))) = (fun _ => 1#1)

def Pre_Inp (m : (ℓ : Loc Cert.Inp.nD Cert.Inp.τ Cert.Inp.sig) → Buf (Elt Bits) ℓ) : Prop :=
  True

def Pre_InpIdeal (m : (ℓ : Loc Cert.InpIdeal.nD Cert.InpIdeal.τ Cert.InpIdeal.sig) → Buf (Elt Ideal) ℓ) : Prop :=
  True

def Pre_InpRefIdeal (m : (ℓ : Loc Cert.InpRefIdeal.nD Cert.InpRefIdeal.τ Cert.InpRefIdeal.sig) → Buf (Elt Ideal) ℓ) : Prop :=
  True

def Pre_Outp (m : (ℓ : Loc Cert.Outp.nD Cert.Outp.τ Cert.Outp.sig) → Buf (Elt Bits) ℓ) : Prop :=
  True

def Pre_OutpIdeal (m : (ℓ : Loc Cert.OutpIdeal.nD Cert.OutpIdeal.τ Cert.OutpIdeal.sig) → Buf (Elt Ideal) ℓ) : Prop :=
  True

def Pre_OutpRefIdeal (m : (ℓ : Loc Cert.OutpRefIdeal.nD Cert.OutpRefIdeal.τ Cert.OutpRefIdeal.sig) → Buf (Elt Ideal) ℓ) : Prop :=
  True

def Pre_Filt (m : (ℓ : Loc Cert.Filt.nD Cert.Filt.τ Cert.Filt.sig) → Buf (Elt Bits) ℓ) : Prop :=
  True

def Pre_FiltIdeal (m : (ℓ : Loc Cert.FiltIdeal.nD Cert.FiltIdeal.τ Cert.FiltIdeal.sig) → Buf (Elt Ideal) ℓ) : Prop :=
  True

def Pre_FiltRefIdeal (m : (ℓ : Loc Cert.FiltRefIdeal.nD Cert.FiltRefIdeal.τ Cert.FiltRefIdeal.sig) → Buf (Elt Ideal) ℓ) : Prop :=
  True

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdRefIdeal (m : (ℓ : Loc Cert.FwdRefIdeal.nD Cert.FwdRefIdeal.τ Cert.FwdRefIdeal.sig) → Buf (Elt Ideal) ℓ) : Prop :=
  True

def Pre_Inva (m : (ℓ : Loc Cert.Inva.nD Cert.Inva.τ Cert.Inva.sig) → Buf (Elt Bits) ℓ) : Prop :=
  True

def Pre_InvaIdeal (m : (ℓ : Loc Cert.InvaIdeal.nD Cert.InvaIdeal.τ Cert.InvaIdeal.sig) → Buf (Elt Ideal) ℓ) : Prop :=
  True

def Pre_InvaRefIdeal (m : (ℓ : Loc Cert.InvaRefIdeal.nD Cert.InvaRefIdeal.τ Cert.InvaRefIdeal.sig) → Buf (Elt Ideal) ℓ) : Prop :=
  True

def Pre_Invb (m : (ℓ : Loc Cert.Invb.nD Cert.Invb.τ Cert.Invb.sig) → Buf (Elt Bits) ℓ) : Prop :=
  True

def Pre_InvbIdeal (m : (ℓ : Loc Cert.InvbIdeal.nD Cert.InvbIdeal.τ Cert.InvbIdeal.sig) → Buf (Elt Ideal) ℓ) : Prop :=
  True

def Pre_InvbRefIdeal (m : (ℓ : Loc Cert.InvbRefIdeal.nD Cert.InvbRefIdeal.τ Cert.InvbRefIdeal.sig) → Buf (Elt Ideal) ℓ) : Prop :=
  True

def Pre_Modu (m : (ℓ : Loc Cert.Modu.nD Cert.Modu.τ Cert.Modu.sig) → Buf (Elt Bits) ℓ) : Prop :=
  True

def Pre_ModuIdeal (m : (ℓ : Loc Cert.ModuIdeal.nD Cert.ModuIdeal.τ Cert.ModuIdeal.sig) → Buf (Elt Ideal) ℓ) : Prop :=
  True

def Pre_ModuRefIdeal (m : (ℓ : Loc Cert.ModuRefIdeal.nD Cert.ModuRefIdeal.τ Cert.ModuRefIdeal.sig) → Buf (Elt Ideal) ℓ) : Prop :=
  True

def Pre_Lna (m : (ℓ : Loc Cert.Lna.nD Cert.Lna.τ Cert.Lna.sig) → Buf (Elt Bits) ℓ) : Prop :=
  True

def Pre_LnaIdeal (m : (ℓ : Loc Cert.LnaIdeal.nD Cert.LnaIdeal.τ Cert.LnaIdeal.sig) → Buf (Elt Ideal) ℓ) : Prop :=
  True

def Pre_LnaRefIdeal (m : (ℓ : Loc Cert.LnaRefIdeal.nD Cert.LnaRefIdeal.τ Cert.LnaRefIdeal.sig) → Buf (Elt Ideal) ℓ) : Prop :=
  True

def Pre_Lnb (m : (ℓ : Loc Cert.Lnb.nD Cert.Lnb.τ Cert.Lnb.sig) → Buf (Elt Bits) ℓ) : Prop :=
  True

def Pre_LnbIdeal (m : (ℓ : Loc Cert.LnbIdeal.nD Cert.LnbIdeal.τ Cert.LnbIdeal.sig) → Buf (Elt Ideal) ℓ) : Prop :=
  True

def Pre_LnbRefIdeal (m : (ℓ : Loc Cert.LnbRefIdeal.nD Cert.LnbRefIdeal.τ Cert.LnbRefIdeal.sig) → Buf (Elt Ideal) ℓ) : Prop :=
  True

def Pre_Lnc (m : (ℓ : Loc Cert.Lnc.nD Cert.Lnc.τ Cert.Lnc.sig) → Buf (Elt Bits) ℓ) : Prop :=
  True

def Pre_LncIdeal (m : (ℓ : Loc Cert.LncIdeal.nD Cert.LncIdeal.τ Cert.LncIdeal.sig) → Buf (Elt Ideal) ℓ) : Prop :=
  True

def Pre_LncRefIdeal (m : (ℓ : Loc Cert.LncRefIdeal.nD Cert.LncRefIdeal.τ Cert.LncRefIdeal.sig) → Buf (Elt Ideal) ℓ) : Prop :=
  True

def Pre_Mpost (m : (ℓ : Loc Cert.Mpost.nD Cert.Mpost.τ Cert.Mpost.sig) → Buf (Elt Bits) ℓ) : Prop :=
  True

def Pre_MpostIdeal (m : (ℓ : Loc Cert.MpostIdeal.nD Cert.MpostIdeal.τ Cert.MpostIdeal.sig) → Buf (Elt Ideal) ℓ) : Prop :=
  True

def Pre_MpostRefIdeal (m : (ℓ : Loc Cert.MpostRefIdeal.nD Cert.MpostRefIdeal.τ Cert.MpostRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Rout (m : (ℓ : Loc Cert.Rout.nD Cert.Rout.τ Cert.Rout.sig) → Buf (Elt Bits) ℓ) : Prop :=
  True

def Pre_RoutIdeal (m : (ℓ : Loc Cert.RoutIdeal.nD Cert.RoutIdeal.τ Cert.RoutIdeal.sig) → Buf (Elt Ideal) ℓ) : Prop :=
  True

def Pre_RoutRefIdeal (m : (ℓ : Loc Cert.RoutRefIdeal.nD Cert.RoutRefIdeal.τ Cert.RoutRefIdeal.sig) → Buf (Elt Ideal) ℓ) : Prop :=
  True

def Pre_Adad (m : (ℓ : Loc Cert.Adad.nD Cert.Adad.τ Cert.Adad.sig) → Buf (Elt Bits) ℓ) : Prop :=
  True

def Pre_AdadIdeal (m : (ℓ : Loc Cert.AdadIdeal.nD Cert.AdadIdeal.τ Cert.AdadIdeal.sig) → Buf (Elt Ideal) ℓ) : Prop :=
  True

def Pre_AdadRefIdeal (m : (ℓ : Loc Cert.AdadRefIdeal.nD Cert.AdadRefIdeal.τ Cert.AdadRefIdeal.sig) → Buf (Elt Ideal) ℓ) : Prop :=
  True

def Pre_Adau (m : (ℓ : Loc Cert.Adau.nD Cert.Adau.τ Cert.Adau.sig) → Buf (Elt Bits) ℓ) : Prop :=
  True

def Pre_AdauIdeal (m : (ℓ : Loc Cert.AdauIdeal.nD Cert.AdauIdeal.τ Cert.AdauIdeal.sig) → Buf (Elt Ideal) ℓ) : Prop :=
  True

def Pre_AdauRefIdeal (m : (ℓ : Loc Cert.AdauRefIdeal.nD Cert.AdauRefIdeal.τ Cert.AdauRefIdeal.sig) → Buf (Elt Ideal) ℓ) : Prop :=
  True

def Pre_Hyfa (m : (ℓ : Loc Cert.Hyfa.nD Cert.Hyfa.τ Cert.Hyfa.sig) → Buf (Elt Bits) ℓ) : Prop :=
  True

def Pre_HyfaIdeal (m : (ℓ : Loc Cert.HyfaIdeal.nD Cert.HyfaIdeal.τ Cert.HyfaIdeal.sig) → Buf (Elt Ideal) ℓ) : Prop :=
  True

def Pre_HyfaRefIdeal (m : (ℓ : Loc Cert.HyfaRefIdeal.nD Cert.HyfaRefIdeal.τ Cert.HyfaRefIdeal.sig) → Buf (Elt Ideal) ℓ) : Prop :=
  True

def Pre_Hyfb (m : (ℓ : Loc Cert.Hyfb.nD Cert.Hyfb.τ Cert.Hyfb.sig) → Buf (Elt Bits) ℓ) : Prop :=
  True

def Pre_HyfbIdeal (m : (ℓ : Loc Cert.HyfbIdeal.nD Cert.HyfbIdeal.τ Cert.HyfbIdeal.sig) → Buf (Elt Ideal) ℓ) : Prop :=
  True

def Pre_HyfbRefIdeal (m : (ℓ : Loc Cert.HyfbRefIdeal.nD Cert.HyfbRefIdeal.τ Cert.HyfbRefIdeal.sig) → Buf (Elt Ideal) ℓ) : Prop :=
  True

def Pre_Hyfc (m : (ℓ : Loc Cert.Hyfc.nD Cert.Hyfc.τ Cert.Hyfc.sig) → Buf (Elt Bits) ℓ) : Prop :=
  True

def Pre_HyfcIdeal (m : (ℓ : Loc Cert.HyfcIdeal.nD Cert.HyfcIdeal.τ Cert.HyfcIdeal.sig) → Buf (Elt Ideal) ℓ) : Prop :=
  True

def Pre_HyfcRefIdeal (m : (ℓ : Loc Cert.HyfcRefIdeal.nD Cert.HyfcRefIdeal.τ Cert.HyfcRefIdeal.sig) → Buf (Elt Ideal) ℓ) : Prop :=
  True

def Pre_Sconv (m : (ℓ : Loc Cert.Sconv.nD Cert.Sconv.τ Cert.Sconv.sig) → Buf (Elt Bits) ℓ) : Prop :=
  True

def Pre_SconvIdeal (m : (ℓ : Loc Cert.SconvIdeal.nD Cert.SconvIdeal.τ Cert.SconvIdeal.sig) → Buf (Elt Ideal) ℓ) : Prop :=
  True

def Pre_SconvRefIdeal (m : (ℓ : Loc Cert.SconvRefIdeal.nD Cert.SconvRefIdeal.τ Cert.SconvRefIdeal.sig) → Buf (Elt Ideal) ℓ) : Prop :=
  True

def Pre_Sctx (m : (ℓ : Loc Cert.Sctx.nD Cert.Sctx.τ Cert.Sctx.sig) → Buf (Elt Bits) ℓ) : Prop :=
  True

def Pre_SctxIdeal (m : (ℓ : Loc Cert.SctxIdeal.nD Cert.SctxIdeal.τ Cert.SctxIdeal.sig) → Buf (Elt Ideal) ℓ) : Prop :=
  True

def Pre_SctxRefIdeal (m : (ℓ : Loc Cert.SctxRefIdeal.nD Cert.SctxRefIdeal.τ Cert.SctxRefIdeal.sig) → Buf (Elt Ideal) ℓ) : Prop :=
  True

def Pre_Qkp (m : (ℓ : Loc Cert.Qkp.nD Cert.Qkp.τ Cert.Qkp.sig) → Buf (Elt Bits) ℓ) : Prop :=
  True

def Pre_QkpIdeal (m : (ℓ : Loc Cert.QkpIdeal.nD Cert.QkpIdeal.τ Cert.QkpIdeal.sig) → Buf (Elt Ideal) ℓ) : Prop :=
  True

def Pre_QkpRefIdeal (m : (ℓ : Loc Cert.QkpRefIdeal.nD Cert.QkpRefIdeal.τ Cert.QkpRefIdeal.sig) → Buf (Elt Ideal) ℓ) : Prop :=
  True

def quiescent_Da [hDa : Cert.Da.Facts] : Prop :=
  ∀ (m : (ℓ : Loc Cert.Da.nD Cert.Da.τ Cert.Da.sig) → Buf (Elt Bits) ℓ) (g : Dev Cert.Da.nD → PrngReg), Pre_Da m →
    θ_run (Cert.Da.defs (F := Bits)) (onTc (τ := Cert.Da.τ) (Cert.Da.main (F := Bits))) ⟨m, fun _ => 0, g⟩ (fun r => (∀ c : Dev Cert.Da.nD,
      r.2.mem ((c.tc : Thread Cert.Da.nD Cert.Da.τ).loc Cert.Da.main_arg0) = m ((c.tc : Thread Cert.Da.nD Cert.Da.τ).loc Cert.Da.main_arg0)
      ∧ r.2.mem ((c.tc : Thread Cert.Da.nD Cert.Da.τ).loc Cert.Da.main_arg1) = m ((c.tc : Thread Cert.Da.nD Cert.Da.τ).loc Cert.Da.main_arg1)
      ∧ r.2.mem ((c.tc : Thread Cert.Da.nD Cert.Da.τ).loc Cert.Da.main_arg2) = m ((c.tc : Thread Cert.Da.nD Cert.Da.τ).loc Cert.Da.main_arg2)
      ∧ r.2.mem ((c.tc : Thread Cert.Da.nD Cert.Da.τ).loc Cert.Da.main_arg3) = m ((c.tc : Thread Cert.Da.nD Cert.Da.τ).loc Cert.Da.main_arg3))
      ∧ r.2.sem = fun _ => 0)

def quiescent_DaIdeal [hDaIdeal : Cert.DaIdeal.Facts] : Prop :=
  ∀ (m : (ℓ : Loc Cert.DaIdeal.nD Cert.DaIdeal.τ Cert.DaIdeal.sig) → Buf (Elt Ideal) ℓ) (g : Dev Cert.DaIdeal.nD → PrngReg), Pre_DaIdeal m →
    θ_run (Cert.DaIdeal.defs (F := Ideal)) (onTc (τ := Cert.DaIdeal.τ) (Cert.DaIdeal.main (F := Ideal))) ⟨m, fun _ => 0, g⟩ (fun r => (∀ c : Dev Cert.DaIdeal.nD,
      r.2.mem ((c.tc : Thread Cert.DaIdeal.nD Cert.DaIdeal.τ).loc Cert.DaIdeal.main_arg0) = m ((c.tc : Thread Cert.DaIdeal.nD Cert.DaIdeal.τ).loc Cert.DaIdeal.main_arg0)
      ∧ r.2.mem ((c.tc : Thread Cert.DaIdeal.nD Cert.DaIdeal.τ).loc Cert.DaIdeal.main_arg1) = m ((c.tc : Thread Cert.DaIdeal.nD Cert.DaIdeal.τ).loc Cert.DaIdeal.main_arg1)
      ∧ r.2.mem ((c.tc : Thread Cert.DaIdeal.nD Cert.DaIdeal.τ).loc Cert.DaIdeal.main_arg2) = m ((c.tc : Thread Cert.DaIdeal.nD Cert.DaIdeal.τ).loc Cert.DaIdeal.main_arg2)
      ∧ r.2.mem ((c.tc : Thread Cert.DaIdeal.nD Cert.DaIdeal.τ).loc Cert.DaIdeal.main_arg3) = m ((c.tc : Thread Cert.DaIdeal.nD Cert.DaIdeal.τ).loc Cert.DaIdeal.main_arg3))
      ∧ r.2.sem = fun _ => 0)

def quiescent_DaIdeal_pre_da_finite [hDaIdeal : Cert.DaIdeal.Facts] [hPre_da_finite : Cert.Pre_da_finite.Facts] : Prop :=
  ∀ (m : (ℓ : Loc Cert.DaIdeal.nD Cert.DaIdeal.τ Cert.DaIdeal.sig) → Buf (Elt Ideal) ℓ) (g : Dev Cert.DaIdeal.nD → PrngReg), Pre_DaIdeal_da_finite m →
    θ_run (Cert.DaIdeal.defs (F := Ideal)) (onTc (τ := Cert.DaIdeal.τ) (Cert.DaIdeal.main (F := Ideal))) ⟨m, fun _ => 0, g⟩ (fun r => (∀ c : Dev Cert.DaIdeal.nD,
      r.2.mem ((c.tc : Thread Cert.DaIdeal.nD Cert.DaIdeal.τ).loc Cert.DaIdeal.main_arg0) = m ((c.tc : Thread Cert.DaIdeal.nD Cert.DaIdeal.τ).loc Cert.DaIdeal.main_arg0)
      ∧ r.2.mem ((c.tc : Thread Cert.DaIdeal.nD Cert.DaIdeal.τ).loc Cert.DaIdeal.main_arg1) = m ((c.tc : Thread Cert.DaIdeal.nD Cert.DaIdeal.τ).loc Cert.DaIdeal.main_arg1)
      ∧ r.2.mem ((c.tc : Thread Cert.DaIdeal.nD Cert.DaIdeal.τ).loc Cert.DaIdeal.main_arg2) = m ((c.tc : Thread Cert.DaIdeal.nD Cert.DaIdeal.τ).loc Cert.DaIdeal.main_arg2)
      ∧ r.2.mem ((c.tc : Thread Cert.DaIdeal.nD Cert.DaIdeal.τ).loc Cert.DaIdeal.main_arg3) = m ((c.tc : Thread Cert.DaIdeal.nD Cert.DaIdeal.τ).loc Cert.DaIdeal.main_arg3))
      ∧ r.2.sem = fun _ => 0)

def quiescent_DaRefIdeal [hDaRefIdeal : Cert.DaRefIdeal.Facts] : Prop :=
  ∀ (m : (ℓ : Loc Cert.DaRefIdeal.nD Cert.DaRefIdeal.τ Cert.DaRefIdeal.sig) → Buf (Elt Ideal) ℓ) (g : Dev Cert.DaRefIdeal.nD → PrngReg), Pre_DaRefIdeal m →
    θ_run (Cert.DaRefIdeal.defs (F := Ideal)) (onTc (τ := Cert.DaRefIdeal.τ) (Cert.DaRefIdeal.main (F := Ideal))) ⟨m, fun _ => 0, g⟩ (fun r => (∀ c : Dev Cert.DaRefIdeal.nD,
      r.2.mem ((c.tc : Thread Cert.DaRefIdeal.nD Cert.DaRefIdeal.τ).loc Cert.DaRefIdeal.main_arg0) = m ((c.tc : Thread Cert.DaRefIdeal.nD Cert.DaRefIdeal.τ).loc Cert.DaRefIdeal.main_arg0)
      ∧ r.2.mem ((c.tc : Thread Cert.DaRefIdeal.nD Cert.DaRefIdeal.τ).loc Cert.DaRefIdeal.main_arg1) = m ((c.tc : Thread Cert.DaRefIdeal.nD Cert.DaRefIdeal.τ).loc Cert.DaRefIdeal.main_arg1)
      ∧ r.2.mem ((c.tc : Thread Cert.DaRefIdeal.nD Cert.DaRefIdeal.τ).loc Cert.DaRefIdeal.main_arg2) = m ((c.tc : Thread Cert.DaRefIdeal.nD Cert.DaRefIdeal.τ).loc Cert.DaRefIdeal.main_arg2)
      ∧ r.2.mem ((c.tc : Thread Cert.DaRefIdeal.nD Cert.DaRefIdeal.τ).loc Cert.DaRefIdeal.main_arg3) = m ((c.tc : Thread Cert.DaRefIdeal.nD Cert.DaRefIdeal.τ).loc Cert.DaRefIdeal.main_arg3))
      ∧ r.2.sem = fun _ => 0)

def quiescent_DaRefIdeal_pre_da_finite [hDaRefIdeal : Cert.DaRefIdeal.Facts] [hPre_da_finite : Cert.Pre_da_finite.Facts] : Prop :=
  ∀ (m : (ℓ : Loc Cert.DaRefIdeal.nD Cert.DaRefIdeal.τ Cert.DaRefIdeal.sig) → Buf (Elt Ideal) ℓ) (g : Dev Cert.DaRefIdeal.nD → PrngReg), Pre_DaRefIdeal_da_finite m →
    θ_run (Cert.DaRefIdeal.defs (F := Ideal)) (onTc (τ := Cert.DaRefIdeal.τ) (Cert.DaRefIdeal.main (F := Ideal))) ⟨m, fun _ => 0, g⟩ (fun r => (∀ c : Dev Cert.DaRefIdeal.nD,
      r.2.mem ((c.tc : Thread Cert.DaRefIdeal.nD Cert.DaRefIdeal.τ).loc Cert.DaRefIdeal.main_arg0) = m ((c.tc : Thread Cert.DaRefIdeal.nD Cert.DaRefIdeal.τ).loc Cert.DaRefIdeal.main_arg0)
      ∧ r.2.mem ((c.tc : Thread Cert.DaRefIdeal.nD Cert.DaRefIdeal.τ).loc Cert.DaRefIdeal.main_arg1) = m ((c.tc : Thread Cert.DaRefIdeal.nD Cert.DaRefIdeal.τ).loc Cert.DaRefIdeal.main_arg1)
      ∧ r.2.mem ((c.tc : Thread Cert.DaRefIdeal.nD Cert.DaRefIdeal.τ).loc Cert.DaRefIdeal.main_arg2) = m ((c.tc : Thread Cert.DaRefIdeal.nD Cert.DaRefIdeal.τ).loc Cert.DaRefIdeal.main_arg2)
      ∧ r.2.mem ((c.tc : Thread Cert.DaRefIdeal.nD Cert.DaRefIdeal.τ).loc Cert.DaRefIdeal.main_arg3) = m ((c.tc : Thread Cert.DaRefIdeal.nD Cert.DaRefIdeal.τ).loc Cert.DaRefIdeal.main_arg3))
      ∧ r.2.sem = fun _ => 0)

def quiescent_Gq [hGq : Cert.Gq.Facts] : Prop :=
  ∀ (m : (ℓ : Loc Cert.Gq.nD Cert.Gq.τ Cert.Gq.sig) → Buf (Elt Bits) ℓ) (g : Dev Cert.Gq.nD → PrngReg), Pre_Gq m →
    θ_run (Cert.Gq.defs (F := Bits)) (onTc (τ := Cert.Gq.τ) (Cert.Gq.main (F := Bits))) ⟨m, fun _ => 0, g⟩ (fun r => (∀ c : Dev Cert.Gq.nD,
      r.2.mem ((c.tc : Thread Cert.Gq.nD Cert.Gq.τ).loc Cert.Gq.main_arg0) = m ((c.tc : Thread Cert.Gq.nD Cert.Gq.τ).loc Cert.Gq.main_arg0))
      ∧ r.2.sem = fun _ => 0)

def quiescent_GqIdeal [hGqIdeal : Cert.GqIdeal.Facts] : Prop :=
  ∀ (m : (ℓ : Loc Cert.GqIdeal.nD Cert.GqIdeal.τ Cert.GqIdeal.sig) → Buf (Elt Ideal) ℓ) (g : Dev Cert.GqIdeal.nD → PrngReg), Pre_GqIdeal m →
    θ_run (Cert.GqIdeal.defs (F := Ideal)) (onTc (τ := Cert.GqIdeal.τ) (Cert.GqIdeal.main (F := Ideal))) ⟨m, fun _ => 0, g⟩ (fun r => (∀ c : Dev Cert.GqIdeal.nD,
      r.2.mem ((c.tc : Thread Cert.GqIdeal.nD Cert.GqIdeal.τ).loc Cert.GqIdeal.main_arg0) = m ((c.tc : Thread Cert.GqIdeal.nD Cert.GqIdeal.τ).loc Cert.GqIdeal.main_arg0))
      ∧ r.2.sem = fun _ => 0)

def quiescent_GqIdeal_pre_gq_finite [hGqIdeal : Cert.GqIdeal.Facts] [hPre_gq_finite : Cert.Pre_gq_finite.Facts] : Prop :=
  ∀ (m : (ℓ : Loc Cert.GqIdeal.nD Cert.GqIdeal.τ Cert.GqIdeal.sig) → Buf (Elt Ideal) ℓ) (g : Dev Cert.GqIdeal.nD → PrngReg), Pre_GqIdeal_gq_finite m →
    θ_run (Cert.GqIdeal.defs (F := Ideal)) (onTc (τ := Cert.GqIdeal.τ) (Cert.GqIdeal.main (F := Ideal))) ⟨m, fun _ => 0, g⟩ (fun r => (∀ c : Dev Cert.GqIdeal.nD,
      r.2.mem ((c.tc : Thread Cert.GqIdeal.nD Cert.GqIdeal.τ).loc Cert.GqIdeal.main_arg0) = m ((c.tc : Thread Cert.GqIdeal.nD Cert.GqIdeal.τ).loc Cert.GqIdeal.main_arg0))
      ∧ r.2.sem = fun _ => 0)

def quiescent_GqRefIdeal [hGqRefIdeal : Cert.GqRefIdeal.Facts] : Prop :=
  ∀ (m : (ℓ : Loc Cert.GqRefIdeal.nD Cert.GqRefIdeal.τ Cert.GqRefIdeal.sig) → Buf (Elt Ideal) ℓ) (g : Dev Cert.GqRefIdeal.nD → PrngReg), Pre_GqRefIdeal m →
    θ_run (Cert.GqRefIdeal.defs (F := Ideal)) (onTc (τ := Cert.GqRefIdeal.τ) (Cert.GqRefIdeal.main (F := Ideal))) ⟨m, fun _ => 0, g⟩ (fun r => (∀ c : Dev Cert.GqRefIdeal.nD,
      r.2.mem ((c.tc : Thread Cert.GqRefIdeal.nD Cert.GqRefIdeal.τ).loc Cert.GqRefIdeal.main_arg0) = m ((c.tc : Thread Cert.GqRefIdeal.nD Cert.GqRefIdeal.τ).loc Cert.GqRefIdeal.main_arg0))
      ∧ r.2.sem = fun _ => 0)

def quiescent_GqRefIdeal_pre_gq_finite [hGqRefIdeal : Cert.GqRefIdeal.Facts] [hPre_gq_finite : Cert.Pre_gq_finite.Facts] : Prop :=
  ∀ (m : (ℓ : Loc Cert.GqRefIdeal.nD Cert.GqRefIdeal.τ Cert.GqRefIdeal.sig) → Buf (Elt Ideal) ℓ) (g : Dev Cert.GqRefIdeal.nD → PrngReg), Pre_GqRefIdeal_gq_finite m →
    θ_run (Cert.GqRefIdeal.defs (F := Ideal)) (onTc (τ := Cert.GqRefIdeal.τ) (Cert.GqRefIdeal.main (F := Ideal))) ⟨m, fun _ => 0, g⟩ (fun r => (∀ c : Dev Cert.GqRefIdeal.nD,
      r.2.mem ((c.tc : Thread Cert.GqRefIdeal.nD Cert.GqRefIdeal.τ).loc Cert.GqRefIdeal.main_arg0) = m ((c.tc : Thread Cert.GqRefIdeal.nD Cert.GqRefIdeal.τ).loc Cert.GqRefIdeal.main_arg0))
      ∧ r.2.sem = fun _ => 0)

def quiescent_Inp [hInp : Cert.Inp.Facts] : Prop :=
  ∀ (m : (ℓ : Loc Cert.Inp.nD Cert.Inp.τ Cert.Inp.sig) → Buf (Elt Bits) ℓ) (g : Dev Cert.Inp.nD → PrngReg), Pre_Inp m →
    θ_run (Cert.Inp.defs (F := Bits)) (onTc (τ := Cert.Inp.τ) (Cert.Inp.main (F := Bits))) ⟨m, fun _ => 0, g⟩ (fun r => (∀ c : Dev Cert.Inp.nD,
      r.2.mem ((c.tc : Thread Cert.Inp.nD Cert.Inp.τ).loc Cert.Inp.main_arg0) = m ((c.tc : Thread Cert.Inp.nD Cert.Inp.τ).loc Cert.Inp.main_arg0)
      ∧ r.2.mem ((c.tc : Thread Cert.Inp.nD Cert.Inp.τ).loc Cert.Inp.main_arg1) = m ((c.tc : Thread Cert.Inp.nD Cert.Inp.τ).loc Cert.Inp.main_arg1))
      ∧ r.2.sem = fun _ => 0)

def quiescent_InpIdeal [hInpIdeal : Cert.InpIdeal.Facts] : Prop :=
  ∀ (m : (ℓ : Loc Cert.InpIdeal.nD Cert.InpIdeal.τ Cert.InpIdeal.sig) → Buf (Elt Ideal) ℓ) (g : Dev Cert.InpIdeal.nD → PrngReg), Pre_InpIdeal m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1))
      ∧ r.2.sem = fun _ => 0)

def quiescent_InpRefIdeal [hInpRefIdeal : Cert.InpRefIdeal.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1))
      ∧ r.2.sem = fun _ => 0)

def quiescent_Outp [hOutp : Cert.Outp.Facts] : Prop :=
  ∀ (m : (ℓ : Loc Cert.Outp.nD Cert.Outp.τ Cert.Outp.sig) → Buf (Elt Bits) ℓ) (g : Dev Cert.Outp.nD → PrngReg), Pre_Outp m →
    θ_run (Cert.Outp.defs (F := Bits)) (onTc (τ := Cert.Outp.τ) (Cert.Outp.main (F := Bits))) ⟨m, fun _ => 0, g⟩ (fun r => (∀ c : Dev Cert.Outp.nD,
      r.2.mem ((c.tc : Thread Cert.Outp.nD Cert.Outp.τ).loc Cert.Outp.main_arg0) = m ((c.tc : Thread Cert.Outp.nD Cert.Outp.τ).loc Cert.Outp.main_arg0)
      ∧ r.2.mem ((c.tc : Thread Cert.Outp.nD Cert.Outp.τ).loc Cert.Outp.main_arg1) = m ((c.tc : Thread Cert.Outp.nD Cert.Outp.τ).loc Cert.Outp.main_arg1)
      ∧ r.2.mem ((c.tc : Thread Cert.Outp.nD Cert.Outp.τ).loc Cert.Outp.main_arg2) = m ((c.tc : Thread Cert.Outp.nD Cert.Outp.τ).loc Cert.Outp.main_arg2)
      ∧ r.2.mem ((c.tc : Thread Cert.Outp.nD Cert.Outp.τ).loc Cert.Outp.main_arg3) = m ((c.tc : Thread Cert.Outp.nD Cert.Outp.τ).loc Cert.Outp.main_arg3)
      ∧ r.2.mem ((c.tc : Thread Cert.Outp.nD Cert.Outp.τ).loc Cert.Outp.main_arg4) = m ((c.tc : Thread Cert.Outp.nD Cert.Outp.τ).loc Cert.Outp.main_arg4))
      ∧ r.2.sem = fun _ => 0)

def quiescent_OutpIdeal [hOutpIdeal : Cert.OutpIdeal.Facts] : Prop :=
  ∀ (m : (ℓ : Loc Cert.OutpIdeal.nD Cert.OutpIdeal.τ Cert.OutpIdeal.sig) → Buf (Elt Ideal) ℓ) (g : Dev Cert.OutpIdeal.nD → PrngReg), Pre_OutpIdeal m →
    θ_run (Cert.OutpIdeal.defs (F := Ideal)) (onTc (τ := Cert.OutpIdeal.τ) (Cert.OutpIdeal.main (F := Ideal))) ⟨m, fun _ => 0, g⟩ (fun r => (∀ c : Dev Cert.OutpIdeal.nD,
      r.2.mem ((c.tc : Thread Cert.OutpIdeal.nD Cert.OutpIdeal.τ).loc Cert.OutpIdeal.main_arg0) = m ((c.tc : Thread Cert.OutpIdeal.nD Cert.OutpIdeal.τ).loc Cert.OutpIdeal.main_arg0)
      ∧ r.2.mem ((c.tc : Thread Cert.OutpIdeal.nD Cert.OutpIdeal.τ).loc Cert.OutpIdeal.main_arg1) = m ((c.tc : Thread Cert.OutpIdeal.nD Cert.OutpIdeal.τ).loc Cert.OutpIdeal.main_arg1)
      ∧ r.2.mem ((c.tc : Thread Cert.OutpIdeal.nD Cert.OutpIdeal.τ).loc Cert.OutpIdeal.main_arg2) = m ((c.tc : Thread Cert.OutpIdeal.nD Cert.OutpIdeal.τ).loc Cert.OutpIdeal.main_arg2)
      ∧ r.2.mem ((c.tc : Thread Cert.OutpIdeal.nD Cert.OutpIdeal.τ).loc Cert.OutpIdeal.main_arg3) = m ((c.tc : Thread Cert.OutpIdeal.nD Cert.OutpIdeal.τ).loc Cert.OutpIdeal.main_arg3)
      ∧ r.2.mem ((c.tc : Thread Cert.OutpIdeal.nD Cert.OutpIdeal.τ).loc Cert.OutpIdeal.main_arg4) = m ((c.tc : Thread Cert.OutpIdeal.nD Cert.OutpIdeal.τ).loc Cert.OutpIdeal.main_arg4))
      ∧ r.2.sem = fun _ => 0)

def quiescent_OutpRefIdeal [hOutpRefIdeal : Cert.OutpRefIdeal.Facts] : Prop :=
  ∀ (m : (ℓ : Loc Cert.OutpRefIdeal.nD Cert.OutpRefIdeal.τ Cert.OutpRefIdeal.sig) → Buf (Elt Ideal) ℓ) (g : Dev Cert.OutpRefIdeal.nD → PrngReg), Pre_OutpRefIdeal m →
    θ_run (Cert.OutpRefIdeal.defs (F := Ideal)) (onTc (τ := Cert.OutpRefIdeal.τ) (Cert.OutpRefIdeal.main (F := Ideal))) ⟨m, fun _ => 0, g⟩ (fun r => (∀ c : Dev Cert.OutpRefIdeal.nD,
      r.2.mem ((c.tc : Thread Cert.OutpRefIdeal.nD Cert.OutpRefIdeal.τ).loc Cert.OutpRefIdeal.main_arg0) = m ((c.tc : Thread Cert.OutpRefIdeal.nD Cert.OutpRefIdeal.τ).loc Cert.OutpRefIdeal.main_arg0)
      ∧ r.2.mem ((c.tc : Thread Cert.OutpRefIdeal.nD Cert.OutpRefIdeal.τ).loc Cert.OutpRefIdeal.main_arg1) = m ((c.tc : Thread Cert.OutpRefIdeal.nD Cert.OutpRefIdeal.τ).loc Cert.OutpRefIdeal.main_arg1)
      ∧ r.2.mem ((c.tc : Thread Cert.OutpRefIdeal.nD Cert.OutpRefIdeal.τ).loc Cert.OutpRefIdeal.main_arg2) = m ((c.tc : Thread Cert.OutpRefIdeal.nD Cert.OutpRefIdeal.τ).loc Cert.OutpRefIdeal.main_arg2)
      ∧ r.2.mem ((c.tc : Thread Cert.OutpRefIdeal.nD Cert.OutpRefIdeal.τ).loc Cert.OutpRefIdeal.main_arg3) = m ((c.tc : Thread Cert.OutpRefIdeal.nD Cert.OutpRefIdeal.τ).loc Cert.OutpRefIdeal.main_arg3)
      ∧ r.2.mem ((c.tc : Thread Cert.OutpRefIdeal.nD Cert.OutpRefIdeal.τ).loc Cert.OutpRefIdeal.main_arg4) = m ((c.tc : Thread Cert.OutpRefIdeal.nD Cert.OutpRefIdeal.τ).loc Cert.OutpRefIdeal.main_arg4))
      ∧ r.2.sem = fun _ => 0)

def quiescent_Filt [hFilt : Cert.Filt.Facts] : Prop :=
  ∀ (m : (ℓ : Loc Cert.Filt.nD Cert.Filt.τ Cert.Filt.sig) → Buf (Elt Bits) ℓ) (g : Dev Cert.Filt.nD → PrngReg), Pre_Filt m →
    θ_run (Cert.Filt.defs (F := Bits)) (onTc (τ := Cert.Filt.τ) (Cert.Filt.main (F := Bits))) ⟨m, fun _ => 0, g⟩ (fun r => (∀ c : Dev Cert.Filt.nD,
      r.2.mem ((c.tc : Thread Cert.Filt.nD Cert.Filt.τ).loc Cert.Filt.main_arg0) = m ((c.tc : Thread Cert.Filt.nD Cert.Filt.τ).loc Cert.Filt.main_arg0)
      ∧ r.2.mem ((c.tc : Thread Cert.Filt.nD Cert.Filt.τ).loc Cert.Filt.main_arg1) = m ((c.tc : Thread Cert.Filt.nD Cert.Filt.τ).loc Cert.Filt.main_arg1))
      ∧ r.2.sem = fun _ => 0)

def quiescent_FiltIdeal [hFiltIdeal : Cert.FiltIdeal.Facts] : Prop :=
  ∀ (m : (ℓ : Loc Cert.FiltIdeal.nD Cert.FiltIdeal.τ Cert.FiltIdeal.sig) → Buf (Elt Ideal) ℓ) (g : Dev Cert.FiltIdeal.nD → PrngReg), Pre_FiltIdeal m →
    θ_run (Cert.FiltIdeal.defs (F := Ideal)) (onTc (τ := Cert.FiltIdeal.τ) (Cert.FiltIdeal.main (F := Ideal))) ⟨m, fun _ => 0, g⟩ (fun r => (∀ c : Dev Cert.FiltIdeal.nD,
      r.2.mem ((c.tc : Thread Cert.FiltIdeal.nD Cert.FiltIdeal.τ).loc Cert.FiltIdeal.main_arg0) = m ((c.tc : Thread Cert.FiltIdeal.nD Cert.FiltIdeal.τ).loc Cert.FiltIdeal.main_arg0)
      ∧ r.2.mem ((c.tc : Thread Cert.FiltIdeal.nD Cert.FiltIdeal.τ).loc Cert.FiltIdeal.main_arg1) = m ((c.tc : Thread Cert.FiltIdeal.nD Cert.FiltIdeal.τ).loc Cert.FiltIdeal.main_arg1))
      ∧ r.2.sem = fun _ => 0)

def quiescent_FiltRefIdeal [hFiltRefIdeal : Cert.FiltRefIdeal.Facts] : Prop :=
  ∀ (m : (ℓ : Loc Cert.FiltRefIdeal.nD Cert.FiltRefIdeal.τ Cert.FiltRefIdeal.sig) → Buf (Elt Ideal) ℓ) (g : Dev Cert.FiltRefIdeal.nD → PrngReg), Pre_FiltRefIdeal m →
    θ_run (Cert.FiltRefIdeal.defs (F := Ideal)) (onTc (τ := Cert.FiltRefIdeal.τ) (Cert.FiltRefIdeal.main (F := Ideal))) ⟨m, fun _ => 0, g⟩ (fun r => (∀ c : Dev Cert.FiltRefIdeal.nD,
      r.2.mem ((c.tc : Thread Cert.FiltRefIdeal.nD Cert.FiltRefIdeal.τ).loc Cert.FiltRefIdeal.main_arg0) = m ((c.tc : Thread Cert.FiltRefIdeal.nD Cert.FiltRefIdeal.τ).loc Cert.FiltRefIdeal.main_arg0)
      ∧ r.2.mem ((c.tc : Thread Cert.FiltRefIdeal.nD Cert.FiltRefIdeal.τ).loc Cert.FiltRefIdeal.main_arg1) = m ((c.tc : Thread Cert.FiltRefIdeal.nD Cert.FiltRefIdeal.τ).loc Cert.FiltRefIdeal.main_arg1))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2)
      ∧ r.2.mem ((c.tc : Thread Cert.Fwd.nD Cert.Fwd.τ).loc Cert.Fwd.main_arg3) = m ((c.tc : Thread Cert.Fwd.nD Cert.Fwd.τ).loc Cert.Fwd.main_arg3))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3))
      ∧ r.2.sem = fun _ => 0)

def quiescent_Inva [hInva : Cert.Inva.Facts] : Prop :=
  ∀ (m : (ℓ : Loc Cert.Inva.nD Cert.Inva.τ Cert.Inva.sig) → Buf (Elt Bits) ℓ) (g : Dev Cert.Inva.nD → PrngReg), Pre_Inva m →
    θ_run (Cert.Inva.defs (F := Bits)) (onTc (τ := Cert.Inva.τ) (Cert.Inva.main (F := Bits))) ⟨m, fun _ => 0, g⟩ (fun r => (∀ c : Dev Cert.Inva.nD,
      r.2.mem ((c.tc : Thread Cert.Inva.nD Cert.Inva.τ).loc Cert.Inva.main_arg0) = m ((c.tc : Thread Cert.Inva.nD Cert.Inva.τ).loc Cert.Inva.main_arg0)
      ∧ r.2.mem ((c.tc : Thread Cert.Inva.nD Cert.Inva.τ).loc Cert.Inva.main_arg1) = m ((c.tc : Thread Cert.Inva.nD Cert.Inva.τ).loc Cert.Inva.main_arg1)
      ∧ r.2.mem ((c.tc : Thread Cert.Inva.nD Cert.Inva.τ).loc Cert.Inva.main_arg2) = m ((c.tc : Thread Cert.Inva.nD Cert.Inva.τ).loc Cert.Inva.main_arg2)
      ∧ r.2.mem ((c.tc : Thread Cert.Inva.nD Cert.Inva.τ).loc Cert.Inva.main_arg3) = m ((c.tc : Thread Cert.Inva.nD Cert.Inva.τ).loc Cert.Inva.main_arg3)
      ∧ r.2.mem ((c.tc : Thread Cert.Inva.nD Cert.Inva.τ).loc Cert.Inva.main_arg4) = m ((c.tc : Thread Cert.Inva.nD Cert.Inva.τ).loc Cert.Inva.main_arg4))
      ∧ r.2.sem = fun _ => 0)

def quiescent_InvaIdeal [hInvaIdeal : Cert.InvaIdeal.Facts] : Prop :=
  ∀ (m : (ℓ : Loc Cert.InvaIdeal.nD Cert.InvaIdeal.τ Cert.InvaIdeal.sig) → Buf (Elt Ideal) ℓ) (g : Dev Cert.InvaIdeal.nD → PrngReg), Pre_InvaIdeal m →
    θ_run (Cert.InvaIdeal.defs (F := Ideal)) (onTc (τ := Cert.InvaIdeal.τ) (Cert.InvaIdeal.main (F := Ideal))) ⟨m, fun _ => 0, g⟩ (fun r => (∀ c : Dev Cert.InvaIdeal.nD,
      r.2.mem ((c.tc : Thread Cert.InvaIdeal.nD Cert.InvaIdeal.τ).loc Cert.InvaIdeal.main_arg0) = m ((c.tc : Thread Cert.InvaIdeal.nD Cert.InvaIdeal.τ).loc Cert.InvaIdeal.main_arg0)
      ∧ r.2.mem ((c.tc : Thread Cert.InvaIdeal.nD Cert.InvaIdeal.τ).loc Cert.InvaIdeal.main_arg1) = m ((c.tc : Thread Cert.InvaIdeal.nD Cert.InvaIdeal.τ).loc Cert.InvaIdeal.main_arg1)
      ∧ r.2.mem ((c.tc : Thread Cert.InvaIdeal.nD Cert.InvaIdeal.τ).loc Cert.InvaIdeal.main_arg2) = m ((c.tc : Thread Cert.InvaIdeal.nD Cert.InvaIdeal.τ).loc Cert.InvaIdeal.main_arg2)
      ∧ r.2.mem ((c.tc : Thread Cert.InvaIdeal.nD Cert.InvaIdeal.τ).loc Cert.InvaIdeal.main_arg3) = m ((c.tc : Thread Cert.InvaIdeal.nD Cert.InvaIdeal.τ).loc Cert.InvaIdeal.main_arg3)
      ∧ r.2.mem ((c.tc : Thread Cert.InvaIdeal.nD Cert.InvaIdeal.τ).loc Cert.InvaIdeal.main_arg4) = m ((c.tc : Thread Cert.InvaIdeal.nD Cert.InvaIdeal.τ).loc Cert.InvaIdeal.main_arg4))
      ∧ r.2.sem = fun _ => 0)

def quiescent_InvaRefIdeal [hInvaRefIdeal : Cert.InvaRefIdeal.Facts] : Prop :=
  ∀ (m : (ℓ : Loc Cert.InvaRefIdeal.nD Cert.InvaRefIdeal.τ Cert.InvaRefIdeal.sig) → Buf (Elt Ideal) ℓ) (g : Dev Cert.InvaRefIdeal.nD → PrngReg), Pre_InvaRefIdeal m →
    θ_run (Cert.InvaRefIdeal.defs (F := Ideal)) (onTc (τ := Cert.InvaRefIdeal.τ) (Cert.InvaRefIdeal.main (F := Ideal))) ⟨m, fun _ => 0, g⟩ (fun r => (∀ c : Dev Cert.InvaRefIdeal.nD,
      r.2.mem ((c.tc : Thread Cert.InvaRefIdeal.nD Cert.InvaRefIdeal.τ).loc Cert.InvaRefIdeal.main_arg0) = m ((c.tc : Thread Cert.InvaRefIdeal.nD Cert.InvaRefIdeal.τ).loc Cert.InvaRefIdeal.main_arg0)
      ∧ r.2.mem ((c.tc : Thread Cert.InvaRefIdeal.nD Cert.InvaRefIdeal.τ).loc Cert.InvaRefIdeal.main_arg1) = m ((c.tc : Thread Cert.InvaRefIdeal.nD Cert.InvaRefIdeal.τ).loc Cert.InvaRefIdeal.main_arg1)
      ∧ r.2.mem ((c.tc : Thread Cert.InvaRefIdeal.nD Cert.InvaRefIdeal.τ).loc Cert.InvaRefIdeal.main_arg2) = m ((c.tc : Thread Cert.InvaRefIdeal.nD Cert.InvaRefIdeal.τ).loc Cert.InvaRefIdeal.main_arg2)
      ∧ r.2.mem ((c.tc : Thread Cert.InvaRefIdeal.nD Cert.InvaRefIdeal.τ).loc Cert.InvaRefIdeal.main_arg3) = m ((c.tc : Thread Cert.InvaRefIdeal.nD Cert.InvaRefIdeal.τ).loc Cert.InvaRefIdeal.main_arg3)
      ∧ r.2.mem ((c.tc : Thread Cert.InvaRefIdeal.nD Cert.InvaRefIdeal.τ).loc Cert.InvaRefIdeal.main_arg4) = m ((c.tc : Thread Cert.InvaRefIdeal.nD Cert.InvaRefIdeal.τ).loc Cert.InvaRefIdeal.main_arg4))
      ∧ r.2.sem = fun _ => 0)

def quiescent_Invb [hInvb : Cert.Invb.Facts] : Prop :=
  ∀ (m : (ℓ : Loc Cert.Invb.nD Cert.Invb.τ Cert.Invb.sig) → Buf (Elt Bits) ℓ) (g : Dev Cert.Invb.nD → PrngReg), Pre_Invb m →
    θ_run (Cert.Invb.defs (F := Bits)) (onTc (τ := Cert.Invb.τ) (Cert.Invb.main (F := Bits))) ⟨m, fun _ => 0, g⟩ (fun r => (∀ c : Dev Cert.Invb.nD,
      r.2.mem ((c.tc : Thread Cert.Invb.nD Cert.Invb.τ).loc Cert.Invb.main_arg0) = m ((c.tc : Thread Cert.Invb.nD Cert.Invb.τ).loc Cert.Invb.main_arg0)
      ∧ r.2.mem ((c.tc : Thread Cert.Invb.nD Cert.Invb.τ).loc Cert.Invb.main_arg1) = m ((c.tc : Thread Cert.Invb.nD Cert.Invb.τ).loc Cert.Invb.main_arg1)
      ∧ r.2.mem ((c.tc : Thread Cert.Invb.nD Cert.Invb.τ).loc Cert.Invb.main_arg2) = m ((c.tc : Thread Cert.Invb.nD Cert.Invb.τ).loc Cert.Invb.main_arg2)
      ∧ r.2.mem ((c.tc : Thread Cert.Invb.nD Cert.Invb.τ).loc Cert.Invb.main_arg3) = m ((c.tc : Thread Cert.Invb.nD Cert.Invb.τ).loc Cert.Invb.main_arg3)
      ∧ r.2.mem ((c.tc : Thread Cert.Invb.nD Cert.Invb.τ).loc Cert.Invb.main_arg4) = m ((c.tc : Thread Cert.Invb.nD Cert.Invb.τ).loc Cert.Invb.main_arg4)
      ∧ r.2.mem ((c.tc : Thread Cert.Invb.nD Cert.Invb.τ).loc Cert.Invb.main_arg5) = m ((c.tc : Thread Cert.Invb.nD Cert.Invb.τ).loc Cert.Invb.main_arg5))
      ∧ r.2.sem = fun _ => 0)

def quiescent_InvbIdeal [hInvbIdeal : Cert.InvbIdeal.Facts] : Prop :=
  ∀ (m : (ℓ : Loc Cert.InvbIdeal.nD Cert.InvbIdeal.τ Cert.InvbIdeal.sig) → Buf (Elt Ideal) ℓ) (g : Dev Cert.InvbIdeal.nD → PrngReg), Pre_InvbIdeal m →
    θ_run (Cert.InvbIdeal.defs (F := Ideal)) (onTc (τ := Cert.InvbIdeal.τ) (Cert.InvbIdeal.main (F := Ideal))) ⟨m, fun _ => 0, g⟩ (fun r => (∀ c : Dev Cert.InvbIdeal.nD,
      r.2.mem ((c.tc : Thread Cert.InvbIdeal.nD Cert.InvbIdeal.τ).loc Cert.InvbIdeal.main_arg0) = m ((c.tc : Thread Cert.InvbIdeal.nD Cert.InvbIdeal.τ).loc Cert.InvbIdeal.main_arg0)
      ∧ r.2.mem ((c.tc : Thread Cert.InvbIdeal.nD Cert.InvbIdeal.τ).loc Cert.InvbIdeal.main_arg1) = m ((c.tc : Thread Cert.InvbIdeal.nD Cert.InvbIdeal.τ).loc Cert.InvbIdeal.main_arg1)
      ∧ r.2.mem ((c.tc : Thread Cert.InvbIdeal.nD Cert.InvbIdeal.τ).loc Cert.InvbIdeal.main_arg2) = m ((c.tc : Thread Cert.InvbIdeal.nD Cert.InvbIdeal.τ).loc Cert.InvbIdeal.main_arg2)
      ∧ r.2.mem ((c.tc : Thread Cert.InvbIdeal.nD Cert.InvbIdeal.τ).loc Cert.InvbIdeal.main_arg3) = m ((c.tc : Thread Cert.InvbIdeal.nD Cert.InvbIdeal.τ).loc Cert.InvbIdeal.main_arg3)
      ∧ r.2.mem ((c.tc : Thread Cert.InvbIdeal.nD Cert.InvbIdeal.τ).loc Cert.InvbIdeal.main_arg4) = m ((c.tc : Thread Cert.InvbIdeal.nD Cert.InvbIdeal.τ).loc Cert.InvbIdeal.main_arg4)
      ∧ r.2.mem ((c.tc : Thread Cert.InvbIdeal.nD Cert.InvbIdeal.τ).loc Cert.InvbIdeal.main_arg5) = m ((c.tc : Thread Cert.InvbIdeal.nD Cert.InvbIdeal.τ).loc Cert.InvbIdeal.main_arg5))
      ∧ r.2.sem = fun _ => 0)

def quiescent_InvbRefIdeal [hInvbRefIdeal : Cert.InvbRefIdeal.Facts] : Prop :=
  ∀ (m : (ℓ : Loc Cert.InvbRefIdeal.nD Cert.InvbRefIdeal.τ Cert.InvbRefIdeal.sig) → Buf (Elt Ideal) ℓ) (g : Dev Cert.InvbRefIdeal.nD → PrngReg), Pre_InvbRefIdeal m →
    θ_run (Cert.InvbRefIdeal.defs (F := Ideal)) (onTc (τ := Cert.InvbRefIdeal.τ) (Cert.InvbRefIdeal.main (F := Ideal))) ⟨m, fun _ => 0, g⟩ (fun r => (∀ c : Dev Cert.InvbRefIdeal.nD,
      r.2.mem ((c.tc : Thread Cert.InvbRefIdeal.nD Cert.InvbRefIdeal.τ).loc Cert.InvbRefIdeal.main_arg0) = m ((c.tc : Thread Cert.InvbRefIdeal.nD Cert.InvbRefIdeal.τ).loc Cert.InvbRefIdeal.main_arg0)
      ∧ r.2.mem ((c.tc : Thread Cert.InvbRefIdeal.nD Cert.InvbRefIdeal.τ).loc Cert.InvbRefIdeal.main_arg1) = m ((c.tc : Thread Cert.InvbRefIdeal.nD Cert.InvbRefIdeal.τ).loc Cert.InvbRefIdeal.main_arg1)
      ∧ r.2.mem ((c.tc : Thread Cert.InvbRefIdeal.nD Cert.InvbRefIdeal.τ).loc Cert.InvbRefIdeal.main_arg2) = m ((c.tc : Thread Cert.InvbRefIdeal.nD Cert.InvbRefIdeal.τ).loc Cert.InvbRefIdeal.main_arg2)
      ∧ r.2.mem ((c.tc : Thread Cert.InvbRefIdeal.nD Cert.InvbRefIdeal.τ).loc Cert.InvbRefIdeal.main_arg3) = m ((c.tc : Thread Cert.InvbRefIdeal.nD Cert.InvbRefIdeal.τ).loc Cert.InvbRefIdeal.main_arg3)
      ∧ r.2.mem ((c.tc : Thread Cert.InvbRefIdeal.nD Cert.InvbRefIdeal.τ).loc Cert.InvbRefIdeal.main_arg4) = m ((c.tc : Thread Cert.InvbRefIdeal.nD Cert.InvbRefIdeal.τ).loc Cert.InvbRefIdeal.main_arg4)
      ∧ r.2.mem ((c.tc : Thread Cert.InvbRefIdeal.nD Cert.InvbRefIdeal.τ).loc Cert.InvbRefIdeal.main_arg5) = m ((c.tc : Thread Cert.InvbRefIdeal.nD Cert.InvbRefIdeal.τ).loc Cert.InvbRefIdeal.main_arg5))
      ∧ r.2.sem = fun _ => 0)

def quiescent_Modu [hModu : Cert.Modu.Facts] : Prop :=
  ∀ (m : (ℓ : Loc Cert.Modu.nD Cert.Modu.τ Cert.Modu.sig) → Buf (Elt Bits) ℓ) (g : Dev Cert.Modu.nD → PrngReg), Pre_Modu m →
    θ_run (Cert.Modu.defs (F := Bits)) (onTc (τ := Cert.Modu.τ) (Cert.Modu.main (F := Bits))) ⟨m, fun _ => 0, g⟩ (fun r => (∀ c : Dev Cert.Modu.nD,
      r.2.mem ((c.tc : Thread Cert.Modu.nD Cert.Modu.τ).loc Cert.Modu.main_arg0) = m ((c.tc : Thread Cert.Modu.nD Cert.Modu.τ).loc Cert.Modu.main_arg0)
      ∧ r.2.mem ((c.tc : Thread Cert.Modu.nD Cert.Modu.τ).loc Cert.Modu.main_arg1) = m ((c.tc : Thread Cert.Modu.nD Cert.Modu.τ).loc Cert.Modu.main_arg1))
      ∧ r.2.sem = fun _ => 0)

def quiescent_ModuIdeal [hModuIdeal : Cert.ModuIdeal.Facts] : Prop :=
  ∀ (m : (ℓ : Loc Cert.ModuIdeal.nD Cert.ModuIdeal.τ Cert.ModuIdeal.sig) → Buf (Elt Ideal) ℓ) (g : Dev Cert.ModuIdeal.nD → PrngReg), Pre_ModuIdeal m →
    θ_run (Cert.ModuIdeal.defs (F := Ideal)) (onTc (τ := Cert.ModuIdeal.τ) (Cert.ModuIdeal.main (F := Ideal))) ⟨m, fun _ => 0, g⟩ (fun r => (∀ c : Dev Cert.ModuIdeal.nD,
      r.2.mem ((c.tc : Thread Cert.ModuIdeal.nD Cert.ModuIdeal.τ).loc Cert.ModuIdeal.main_arg0) = m ((c.tc : Thread Cert.ModuIdeal.nD Cert.ModuIdeal.τ).loc Cert.ModuIdeal.main_arg0)
      ∧ r.2.mem ((c.tc : Thread Cert.ModuIdeal.nD Cert.ModuIdeal.τ).loc Cert.ModuIdeal.main_arg1) = m ((c.tc : Thread Cert.ModuIdeal.nD Cert.ModuIdeal.τ).loc Cert.ModuIdeal.main_arg1))
      ∧ r.2.sem = fun _ => 0)

def quiescent_ModuRefIdeal [hModuRefIdeal : Cert.ModuRefIdeal.Facts] : Prop :=
  ∀ (m : (ℓ : Loc Cert.ModuRefIdeal.nD Cert.ModuRefIdeal.τ Cert.ModuRefIdeal.sig) → Buf (Elt Ideal) ℓ) (g : Dev Cert.ModuRefIdeal.nD → PrngReg), Pre_ModuRefIdeal m →
    θ_run (Cert.ModuRefIdeal.defs (F := Ideal)) (onTc (τ := Cert.ModuRefIdeal.τ) (Cert.ModuRefIdeal.main (F := Ideal))) ⟨m, fun _ => 0, g⟩ (fun r => (∀ c : Dev Cert.ModuRefIdeal.nD,
      r.2.mem ((c.tc : Thread Cert.ModuRefIdeal.nD Cert.ModuRefIdeal.τ).loc Cert.ModuRefIdeal.main_arg0) = m ((c.tc : Thread Cert.ModuRefIdeal.nD Cert.ModuRefIdeal.τ).loc Cert.ModuRefIdeal.main_arg0)
      ∧ r.2.mem ((c.tc : Thread Cert.ModuRefIdeal.nD Cert.ModuRefIdeal.τ).loc Cert.ModuRefIdeal.main_arg1) = m ((c.tc : Thread Cert.ModuRefIdeal.nD Cert.ModuRefIdeal.τ).loc Cert.ModuRefIdeal.main_arg1))
      ∧ r.2.sem = fun _ => 0)

def quiescent_Lna [hLna : Cert.Lna.Facts] : Prop :=
  ∀ (m : (ℓ : Loc Cert.Lna.nD Cert.Lna.τ Cert.Lna.sig) → Buf (Elt Bits) ℓ) (g : Dev Cert.Lna.nD → PrngReg), Pre_Lna m →
    θ_run (Cert.Lna.defs (F := Bits)) (onTc (τ := Cert.Lna.τ) (Cert.Lna.main (F := Bits))) ⟨m, fun _ => 0, g⟩ (fun r => (∀ c : Dev Cert.Lna.nD,
      r.2.mem ((c.tc : Thread Cert.Lna.nD Cert.Lna.τ).loc Cert.Lna.main_arg0) = m ((c.tc : Thread Cert.Lna.nD Cert.Lna.τ).loc Cert.Lna.main_arg0)
      ∧ r.2.mem ((c.tc : Thread Cert.Lna.nD Cert.Lna.τ).loc Cert.Lna.main_arg1) = m ((c.tc : Thread Cert.Lna.nD Cert.Lna.τ).loc Cert.Lna.main_arg1)
      ∧ r.2.mem ((c.tc : Thread Cert.Lna.nD Cert.Lna.τ).loc Cert.Lna.main_arg2) = m ((c.tc : Thread Cert.Lna.nD Cert.Lna.τ).loc Cert.Lna.main_arg2)
      ∧ r.2.mem ((c.tc : Thread Cert.Lna.nD Cert.Lna.τ).loc Cert.Lna.main_arg3) = m ((c.tc : Thread Cert.Lna.nD Cert.Lna.τ).loc Cert.Lna.main_arg3)
      ∧ r.2.mem ((c.tc : Thread Cert.Lna.nD Cert.Lna.τ).loc Cert.Lna.main_arg4) = m ((c.tc : Thread Cert.Lna.nD Cert.Lna.τ).loc Cert.Lna.main_arg4))
      ∧ r.2.sem = fun _ => 0)

def quiescent_LnaIdeal [hLnaIdeal : Cert.LnaIdeal.Facts] : Prop :=
  ∀ (m : (ℓ : Loc Cert.LnaIdeal.nD Cert.LnaIdeal.τ Cert.LnaIdeal.sig) → Buf (Elt Ideal) ℓ) (g : Dev Cert.LnaIdeal.nD → PrngReg), Pre_LnaIdeal m →
    θ_run (Cert.LnaIdeal.defs (F := Ideal)) (onTc (τ := Cert.LnaIdeal.τ) (Cert.LnaIdeal.main (F := Ideal))) ⟨m, fun _ => 0, g⟩ (fun r => (∀ c : Dev Cert.LnaIdeal.nD,
      r.2.mem ((c.tc : Thread Cert.LnaIdeal.nD Cert.LnaIdeal.τ).loc Cert.LnaIdeal.main_arg0) = m ((c.tc : Thread Cert.LnaIdeal.nD Cert.LnaIdeal.τ).loc Cert.LnaIdeal.main_arg0)
      ∧ r.2.mem ((c.tc : Thread Cert.LnaIdeal.nD Cert.LnaIdeal.τ).loc Cert.LnaIdeal.main_arg1) = m ((c.tc : Thread Cert.LnaIdeal.nD Cert.LnaIdeal.τ).loc Cert.LnaIdeal.main_arg1)
      ∧ r.2.mem ((c.tc : Thread Cert.LnaIdeal.nD Cert.LnaIdeal.τ).loc Cert.LnaIdeal.main_arg2) = m ((c.tc : Thread Cert.LnaIdeal.nD Cert.LnaIdeal.τ).loc Cert.LnaIdeal.main_arg2)
      ∧ r.2.mem ((c.tc : Thread Cert.LnaIdeal.nD Cert.LnaIdeal.τ).loc Cert.LnaIdeal.main_arg3) = m ((c.tc : Thread Cert.LnaIdeal.nD Cert.LnaIdeal.τ).loc Cert.LnaIdeal.main_arg3)
      ∧ r.2.mem ((c.tc : Thread Cert.LnaIdeal.nD Cert.LnaIdeal.τ).loc Cert.LnaIdeal.main_arg4) = m ((c.tc : Thread Cert.LnaIdeal.nD Cert.LnaIdeal.τ).loc Cert.LnaIdeal.main_arg4))
      ∧ r.2.sem = fun _ => 0)

def quiescent_LnaRefIdeal [hLnaRefIdeal : Cert.LnaRefIdeal.Facts] : Prop :=
  ∀ (m : (ℓ : Loc Cert.LnaRefIdeal.nD Cert.LnaRefIdeal.τ Cert.LnaRefIdeal.sig) → Buf (Elt Ideal) ℓ) (g : Dev Cert.LnaRefIdeal.nD → PrngReg), Pre_LnaRefIdeal m →
    θ_run (Cert.LnaRefIdeal.defs (F := Ideal)) (onTc (τ := Cert.LnaRefIdeal.τ) (Cert.LnaRefIdeal.main (F := Ideal))) ⟨m, fun _ => 0, g⟩ (fun r => (∀ c : Dev Cert.LnaRefIdeal.nD,
      r.2.mem ((c.tc : Thread Cert.LnaRefIdeal.nD Cert.LnaRefIdeal.τ).loc Cert.LnaRefIdeal.main_arg0) = m ((c.tc : Thread Cert.LnaRefIdeal.nD Cert.LnaRefIdeal.τ).loc Cert.LnaRefIdeal.main_arg0)
      ∧ r.2.mem ((c.tc : Thread Cert.LnaRefIdeal.nD Cert.LnaRefIdeal.τ).loc Cert.LnaRefIdeal.main_arg1) = m ((c.tc : Thread Cert.LnaRefIdeal.nD Cert.LnaRefIdeal.τ).loc Cert.LnaRefIdeal.main_arg1)
      ∧ r.2.mem ((c.tc : Thread Cert.LnaRefIdeal.nD Cert.LnaRefIdeal.τ).loc Cert.LnaRefIdeal.main_arg2) = m ((c.tc : Thread Cert.LnaRefIdeal.nD Cert.LnaRefIdeal.τ).loc Cert.LnaRefIdeal.main_arg2)
      ∧ r.2.mem ((c.tc : Thread Cert.LnaRefIdeal.nD Cert.LnaRefIdeal.τ).loc Cert.LnaRefIdeal.main_arg3) = m ((c.tc : Thread Cert.LnaRefIdeal.nD Cert.LnaRefIdeal.τ).loc Cert.LnaRefIdeal.main_arg3)
      ∧ r.2.mem ((c.tc : Thread Cert.LnaRefIdeal.nD Cert.LnaRefIdeal.τ).loc Cert.LnaRefIdeal.main_arg4) = m ((c.tc : Thread Cert.LnaRefIdeal.nD Cert.LnaRefIdeal.τ).loc Cert.LnaRefIdeal.main_arg4))
      ∧ r.2.sem = fun _ => 0)

def quiescent_Lnb [hLnb : Cert.Lnb.Facts] : Prop :=
  ∀ (m : (ℓ : Loc Cert.Lnb.nD Cert.Lnb.τ Cert.Lnb.sig) → Buf (Elt Bits) ℓ) (g : Dev Cert.Lnb.nD → PrngReg), Pre_Lnb m →
    θ_run (Cert.Lnb.defs (F := Bits)) (onTc (τ := Cert.Lnb.τ) (Cert.Lnb.main (F := Bits))) ⟨m, fun _ => 0, g⟩ (fun r => (∀ c : Dev Cert.Lnb.nD,
      r.2.mem ((c.tc : Thread Cert.Lnb.nD Cert.Lnb.τ).loc Cert.Lnb.main_arg0) = m ((c.tc : Thread Cert.Lnb.nD Cert.Lnb.τ).loc Cert.Lnb.main_arg0)
      ∧ r.2.mem ((c.tc : Thread Cert.Lnb.nD Cert.Lnb.τ).loc Cert.Lnb.main_arg1) = m ((c.tc : Thread Cert.Lnb.nD Cert.Lnb.τ).loc Cert.Lnb.main_arg1)
      ∧ r.2.mem ((c.tc : Thread Cert.Lnb.nD Cert.Lnb.τ).loc Cert.Lnb.main_arg2) = m ((c.tc : Thread Cert.Lnb.nD Cert.Lnb.τ).loc Cert.Lnb.main_arg2)
      ∧ r.2.mem ((c.tc : Thread Cert.Lnb.nD Cert.Lnb.τ).loc Cert.Lnb.main_arg3) = m ((c.tc : Thread Cert.Lnb.nD Cert.Lnb.τ).loc Cert.Lnb.main_arg3)
      ∧ r.2.mem ((c.tc : Thread Cert.Lnb.nD Cert.Lnb.τ).loc Cert.Lnb.main_arg4) = m ((c.tc : Thread Cert.Lnb.nD Cert.Lnb.τ).loc Cert.Lnb.main_arg4)
      ∧ r.2.mem ((c.tc : Thread Cert.Lnb.nD Cert.Lnb.τ).loc Cert.Lnb.main_arg5) = m ((c.tc : Thread Cert.Lnb.nD Cert.Lnb.τ).loc Cert.Lnb.main_arg5))
      ∧ r.2.sem = fun _ => 0)

def quiescent_LnbIdeal [hLnbIdeal : Cert.LnbIdeal.Facts] : Prop :=
  ∀ (m : (ℓ : Loc Cert.LnbIdeal.nD Cert.LnbIdeal.τ Cert.LnbIdeal.sig) → Buf (Elt Ideal) ℓ) (g : Dev Cert.LnbIdeal.nD → PrngReg), Pre_LnbIdeal m →
    θ_run (Cert.LnbIdeal.defs (F := Ideal)) (onTc (τ := Cert.LnbIdeal.τ) (Cert.LnbIdeal.main (F := Ideal))) ⟨m, fun _ => 0, g⟩ (fun r => (∀ c : Dev Cert.LnbIdeal.nD,
      r.2.mem ((c.tc : Thread Cert.LnbIdeal.nD Cert.LnbIdeal.τ).loc Cert.LnbIdeal.main_arg0) = m ((c.tc : Thread Cert.LnbIdeal.nD Cert.LnbIdeal.τ).loc Cert.LnbIdeal.main_arg0)
      ∧ r.2.mem ((c.tc : Thread Cert.LnbIdeal.nD Cert.LnbIdeal.τ).loc Cert.LnbIdeal.main_arg1) = m ((c.tc : Thread Cert.LnbIdeal.nD Cert.LnbIdeal.τ).loc Cert.LnbIdeal.main_arg1)
      ∧ r.2.mem ((c.tc : Thread Cert.LnbIdeal.nD Cert.LnbIdeal.τ).loc Cert.LnbIdeal.main_arg2) = m ((c.tc : Thread Cert.LnbIdeal.nD Cert.LnbIdeal.τ).loc Cert.LnbIdeal.main_arg2)
      ∧ r.2.mem ((c.tc : Thread Cert.LnbIdeal.nD Cert.LnbIdeal.τ).loc Cert.LnbIdeal.main_arg3) = m ((c.tc : Thread Cert.LnbIdeal.nD Cert.LnbIdeal.τ).loc Cert.LnbIdeal.main_arg3)
      ∧ r.2.mem ((c.tc : Thread Cert.LnbIdeal.nD Cert.LnbIdeal.τ).loc Cert.LnbIdeal.main_arg4) = m ((c.tc : Thread Cert.LnbIdeal.nD Cert.LnbIdeal.τ).loc Cert.LnbIdeal.main_arg4)
      ∧ r.2.mem ((c.tc : Thread Cert.LnbIdeal.nD Cert.LnbIdeal.τ).loc Cert.LnbIdeal.main_arg5) = m ((c.tc : Thread Cert.LnbIdeal.nD Cert.LnbIdeal.τ).loc Cert.LnbIdeal.main_arg5))
      ∧ r.2.sem = fun _ => 0)

def quiescent_LnbRefIdeal [hLnbRefIdeal : Cert.LnbRefIdeal.Facts] : Prop :=
  ∀ (m : (ℓ : Loc Cert.LnbRefIdeal.nD Cert.LnbRefIdeal.τ Cert.LnbRefIdeal.sig) → Buf (Elt Ideal) ℓ) (g : Dev Cert.LnbRefIdeal.nD → PrngReg), Pre_LnbRefIdeal m →
    θ_run (Cert.LnbRefIdeal.defs (F := Ideal)) (onTc (τ := Cert.LnbRefIdeal.τ) (Cert.LnbRefIdeal.main (F := Ideal))) ⟨m, fun _ => 0, g⟩ (fun r => (∀ c : Dev Cert.LnbRefIdeal.nD,
      r.2.mem ((c.tc : Thread Cert.LnbRefIdeal.nD Cert.LnbRefIdeal.τ).loc Cert.LnbRefIdeal.main_arg0) = m ((c.tc : Thread Cert.LnbRefIdeal.nD Cert.LnbRefIdeal.τ).loc Cert.LnbRefIdeal.main_arg0)
      ∧ r.2.mem ((c.tc : Thread Cert.LnbRefIdeal.nD Cert.LnbRefIdeal.τ).loc Cert.LnbRefIdeal.main_arg1) = m ((c.tc : Thread Cert.LnbRefIdeal.nD Cert.LnbRefIdeal.τ).loc Cert.LnbRefIdeal.main_arg1)
      ∧ r.2.mem ((c.tc : Thread Cert.LnbRefIdeal.nD Cert.LnbRefIdeal.τ).loc Cert.LnbRefIdeal.main_arg2) = m ((c.tc : Thread Cert.LnbRefIdeal.nD Cert.LnbRefIdeal.τ).loc Cert.LnbRefIdeal.main_arg2)
      ∧ r.2.mem ((c.tc : Thread Cert.LnbRefIdeal.nD Cert.LnbRefIdeal.τ).loc Cert.LnbRefIdeal.main_arg3) = m ((c.tc : Thread Cert.LnbRefIdeal.nD Cert.LnbRefIdeal.τ).loc Cert.LnbRefIdeal.main_arg3)
      ∧ r.2.mem ((c.tc : Thread Cert.LnbRefIdeal.nD Cert.LnbRefIdeal.τ).loc Cert.LnbRefIdeal.main_arg4) = m ((c.tc : Thread Cert.LnbRefIdeal.nD Cert.LnbRefIdeal.τ).loc Cert.LnbRefIdeal.main_arg4)
      ∧ r.2.mem ((c.tc : Thread Cert.LnbRefIdeal.nD Cert.LnbRefIdeal.τ).loc Cert.LnbRefIdeal.main_arg5) = m ((c.tc : Thread Cert.LnbRefIdeal.nD Cert.LnbRefIdeal.τ).loc Cert.LnbRefIdeal.main_arg5))
      ∧ r.2.sem = fun _ => 0)

def quiescent_Lnc [hLnc : Cert.Lnc.Facts] : Prop :=
  ∀ (m : (ℓ : Loc Cert.Lnc.nD Cert.Lnc.τ Cert.Lnc.sig) → Buf (Elt Bits) ℓ) (g : Dev Cert.Lnc.nD → PrngReg), Pre_Lnc m →
    θ_run (Cert.Lnc.defs (F := Bits)) (onTc (τ := Cert.Lnc.τ) (Cert.Lnc.main (F := Bits))) ⟨m, fun _ => 0, g⟩ (fun r => (∀ c : Dev Cert.Lnc.nD,
      r.2.mem ((c.tc : Thread Cert.Lnc.nD Cert.Lnc.τ).loc Cert.Lnc.main_arg0) = m ((c.tc : Thread Cert.Lnc.nD Cert.Lnc.τ).loc Cert.Lnc.main_arg0)
      ∧ r.2.mem ((c.tc : Thread Cert.Lnc.nD Cert.Lnc.τ).loc Cert.Lnc.main_arg1) = m ((c.tc : Thread Cert.Lnc.nD Cert.Lnc.τ).loc Cert.Lnc.main_arg1)
      ∧ r.2.mem ((c.tc : Thread Cert.Lnc.nD Cert.Lnc.τ).loc Cert.Lnc.main_arg2) = m ((c.tc : Thread Cert.Lnc.nD Cert.Lnc.τ).loc Cert.Lnc.main_arg2)
      ∧ r.2.mem ((c.tc : Thread Cert.Lnc.nD Cert.Lnc.τ).loc Cert.Lnc.main_arg3) = m ((c.tc : Thread Cert.Lnc.nD Cert.Lnc.τ).loc Cert.Lnc.main_arg3)
      ∧ r.2.mem ((c.tc : Thread Cert.Lnc.nD Cert.Lnc.τ).loc Cert.Lnc.main_arg4) = m ((c.tc : Thread Cert.Lnc.nD Cert.Lnc.τ).loc Cert.Lnc.main_arg4))
      ∧ r.2.sem = fun _ => 0)

def quiescent_LncIdeal [hLncIdeal : Cert.LncIdeal.Facts] : Prop :=
  ∀ (m : (ℓ : Loc Cert.LncIdeal.nD Cert.LncIdeal.τ Cert.LncIdeal.sig) → Buf (Elt Ideal) ℓ) (g : Dev Cert.LncIdeal.nD → PrngReg), Pre_LncIdeal m →
    θ_run (Cert.LncIdeal.defs (F := Ideal)) (onTc (τ := Cert.LncIdeal.τ) (Cert.LncIdeal.main (F := Ideal))) ⟨m, fun _ => 0, g⟩ (fun r => (∀ c : Dev Cert.LncIdeal.nD,
      r.2.mem ((c.tc : Thread Cert.LncIdeal.nD Cert.LncIdeal.τ).loc Cert.LncIdeal.main_arg0) = m ((c.tc : Thread Cert.LncIdeal.nD Cert.LncIdeal.τ).loc Cert.LncIdeal.main_arg0)
      ∧ r.2.mem ((c.tc : Thread Cert.LncIdeal.nD Cert.LncIdeal.τ).loc Cert.LncIdeal.main_arg1) = m ((c.tc : Thread Cert.LncIdeal.nD Cert.LncIdeal.τ).loc Cert.LncIdeal.main_arg1)
      ∧ r.2.mem ((c.tc : Thread Cert.LncIdeal.nD Cert.LncIdeal.τ).loc Cert.LncIdeal.main_arg2) = m ((c.tc : Thread Cert.LncIdeal.nD Cert.LncIdeal.τ).loc Cert.LncIdeal.main_arg2)
      ∧ r.2.mem ((c.tc : Thread Cert.LncIdeal.nD Cert.LncIdeal.τ).loc Cert.LncIdeal.main_arg3) = m ((c.tc : Thread Cert.LncIdeal.nD Cert.LncIdeal.τ).loc Cert.LncIdeal.main_arg3)
      ∧ r.2.mem ((c.tc : Thread Cert.LncIdeal.nD Cert.LncIdeal.τ).loc Cert.LncIdeal.main_arg4) = m ((c.tc : Thread Cert.LncIdeal.nD Cert.LncIdeal.τ).loc Cert.LncIdeal.main_arg4))
      ∧ r.2.sem = fun _ => 0)

def quiescent_LncRefIdeal [hLncRefIdeal : Cert.LncRefIdeal.Facts] : Prop :=
  ∀ (m : (ℓ : Loc Cert.LncRefIdeal.nD Cert.LncRefIdeal.τ Cert.LncRefIdeal.sig) → Buf (Elt Ideal) ℓ) (g : Dev Cert.LncRefIdeal.nD → PrngReg), Pre_LncRefIdeal m →
    θ_run (Cert.LncRefIdeal.defs (F := Ideal)) (onTc (τ := Cert.LncRefIdeal.τ) (Cert.LncRefIdeal.main (F := Ideal))) ⟨m, fun _ => 0, g⟩ (fun r => (∀ c : Dev Cert.LncRefIdeal.nD,
      r.2.mem ((c.tc : Thread Cert.LncRefIdeal.nD Cert.LncRefIdeal.τ).loc Cert.LncRefIdeal.main_arg0) = m ((c.tc : Thread Cert.LncRefIdeal.nD Cert.LncRefIdeal.τ).loc Cert.LncRefIdeal.main_arg0)
      ∧ r.2.mem ((c.tc : Thread Cert.LncRefIdeal.nD Cert.LncRefIdeal.τ).loc Cert.LncRefIdeal.main_arg1) = m ((c.tc : Thread Cert.LncRefIdeal.nD Cert.LncRefIdeal.τ).loc Cert.LncRefIdeal.main_arg1)
      ∧ r.2.mem ((c.tc : Thread Cert.LncRefIdeal.nD Cert.LncRefIdeal.τ).loc Cert.LncRefIdeal.main_arg2) = m ((c.tc : Thread Cert.LncRefIdeal.nD Cert.LncRefIdeal.τ).loc Cert.LncRefIdeal.main_arg2)
      ∧ r.2.mem ((c.tc : Thread Cert.LncRefIdeal.nD Cert.LncRefIdeal.τ).loc Cert.LncRefIdeal.main_arg3) = m ((c.tc : Thread Cert.LncRefIdeal.nD Cert.LncRefIdeal.τ).loc Cert.LncRefIdeal.main_arg3)
      ∧ r.2.mem ((c.tc : Thread Cert.LncRefIdeal.nD Cert.LncRefIdeal.τ).loc Cert.LncRefIdeal.main_arg4) = m ((c.tc : Thread Cert.LncRefIdeal.nD Cert.LncRefIdeal.τ).loc Cert.LncRefIdeal.main_arg4))
      ∧ r.2.sem = fun _ => 0)

def quiescent_Mpost [hMpost : Cert.Mpost.Facts] : Prop :=
  ∀ (m : (ℓ : Loc Cert.Mpost.nD Cert.Mpost.τ Cert.Mpost.sig) → Buf (Elt Bits) ℓ) (g : Dev Cert.Mpost.nD → PrngReg), Pre_Mpost m →
    θ_run (Cert.Mpost.defs (F := Bits)) (onTc (τ := Cert.Mpost.τ) (Cert.Mpost.main (F := Bits))) ⟨m, fun _ => 0, g⟩ (fun r => (∀ c : Dev Cert.Mpost.nD,
      r.2.mem ((c.tc : Thread Cert.Mpost.nD Cert.Mpost.τ).loc Cert.Mpost.main_arg0) = m ((c.tc : Thread Cert.Mpost.nD Cert.Mpost.τ).loc Cert.Mpost.main_arg0)
      ∧ r.2.mem ((c.tc : Thread Cert.Mpost.nD Cert.Mpost.τ).loc Cert.Mpost.main_arg1) = m ((c.tc : Thread Cert.Mpost.nD Cert.Mpost.τ).loc Cert.Mpost.main_arg1)
      ∧ r.2.mem ((c.tc : Thread Cert.Mpost.nD Cert.Mpost.τ).loc Cert.Mpost.main_arg2) = m ((c.tc : Thread Cert.Mpost.nD Cert.Mpost.τ).loc Cert.Mpost.main_arg2)
      ∧ r.2.mem ((c.tc : Thread Cert.Mpost.nD Cert.Mpost.τ).loc Cert.Mpost.main_arg3) = m ((c.tc : Thread Cert.Mpost.nD Cert.Mpost.τ).loc Cert.Mpost.main_arg3))
      ∧ r.2.sem = fun _ => 0)

def quiescent_MpostIdeal [hMpostIdeal : Cert.MpostIdeal.Facts] : Prop :=
  ∀ (m : (ℓ : Loc Cert.MpostIdeal.nD Cert.MpostIdeal.τ Cert.MpostIdeal.sig) → Buf (Elt Ideal) ℓ) (g : Dev Cert.MpostIdeal.nD → PrngReg), Pre_MpostIdeal m →
    θ_run (Cert.MpostIdeal.defs (F := Ideal)) (onTc (τ := Cert.MpostIdeal.τ) (Cert.MpostIdeal.main (F := Ideal))) ⟨m, fun _ => 0, g⟩ (fun r => (∀ c : Dev Cert.MpostIdeal.nD,
      r.2.mem ((c.tc : Thread Cert.MpostIdeal.nD Cert.MpostIdeal.τ).loc Cert.MpostIdeal.main_arg0) = m ((c.tc : Thread Cert.MpostIdeal.nD Cert.MpostIdeal.τ).loc Cert.MpostIdeal.main_arg0)
      ∧ r.2.mem ((c.tc : Thread Cert.MpostIdeal.nD Cert.MpostIdeal.τ).loc Cert.MpostIdeal.main_arg1) = m ((c.tc : Thread Cert.MpostIdeal.nD Cert.MpostIdeal.τ).loc Cert.MpostIdeal.main_arg1)
      ∧ r.2.mem ((c.tc : Thread Cert.MpostIdeal.nD Cert.MpostIdeal.τ).loc Cert.MpostIdeal.main_arg2) = m ((c.tc : Thread Cert.MpostIdeal.nD Cert.MpostIdeal.τ).loc Cert.MpostIdeal.main_arg2)
      ∧ r.2.mem ((c.tc : Thread Cert.MpostIdeal.nD Cert.MpostIdeal.τ).loc Cert.MpostIdeal.main_arg3) = m ((c.tc : Thread Cert.MpostIdeal.nD Cert.MpostIdeal.τ).loc Cert.MpostIdeal.main_arg3))
      ∧ r.2.sem = fun _ => 0)

def quiescent_MpostRefIdeal [hMpostRefIdeal : Cert.MpostRefIdeal.Facts] : Prop :=
  ∀ (m : (ℓ : Loc Cert.MpostRefIdeal.nD Cert.MpostRefIdeal.τ Cert.MpostRefIdeal.sig) → Buf (Elt Ideal) ℓ) (g : Dev Cert.MpostRefIdeal.nD → PrngReg), Pre_MpostRefIdeal m →
    θ_run (Cert.MpostRefIdeal.defs (F := Ideal)) (onTc (τ := Cert.MpostRefIdeal.τ) (Cert.MpostRefIdeal.main (F := Ideal))) ⟨m, fun _ => 0, g⟩ (fun r => (∀ c : Dev Cert.MpostRefIdeal.nD,
      r.2.mem ((c.tc : Thread Cert.MpostRefIdeal.nD Cert.MpostRefIdeal.τ).loc Cert.MpostRefIdeal.main_arg0) = m ((c.tc : Thread Cert.MpostRefIdeal.nD Cert.MpostRefIdeal.τ).loc Cert.MpostRefIdeal.main_arg0)
      ∧ r.2.mem ((c.tc : Thread Cert.MpostRefIdeal.nD Cert.MpostRefIdeal.τ).loc Cert.MpostRefIdeal.main_arg1) = m ((c.tc : Thread Cert.MpostRefIdeal.nD Cert.MpostRefIdeal.τ).loc Cert.MpostRefIdeal.main_arg1)
      ∧ r.2.mem ((c.tc : Thread Cert.MpostRefIdeal.nD Cert.MpostRefIdeal.τ).loc Cert.MpostRefIdeal.main_arg2) = m ((c.tc : Thread Cert.MpostRefIdeal.nD Cert.MpostRefIdeal.τ).loc Cert.MpostRefIdeal.main_arg2)
      ∧ r.2.mem ((c.tc : Thread Cert.MpostRefIdeal.nD Cert.MpostRefIdeal.τ).loc Cert.MpostRefIdeal.main_arg3) = m ((c.tc : Thread Cert.MpostRefIdeal.nD Cert.MpostRefIdeal.τ).loc Cert.MpostRefIdeal.main_arg3))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1))
      ∧ r.2.sem = fun _ => 0)

def quiescent_Rout [hRout : Cert.Rout.Facts] : Prop :=
  ∀ (m : (ℓ : Loc Cert.Rout.nD Cert.Rout.τ Cert.Rout.sig) → Buf (Elt Bits) ℓ) (g : Dev Cert.Rout.nD → PrngReg), Pre_Rout m →
    θ_run (Cert.Rout.defs (F := Bits)) (onTc (τ := Cert.Rout.τ) (Cert.Rout.main (F := Bits))) ⟨m, fun _ => 0, g⟩ (fun r => (∀ c : Dev Cert.Rout.nD,
      r.2.mem ((c.tc : Thread Cert.Rout.nD Cert.Rout.τ).loc Cert.Rout.main_arg0) = m ((c.tc : Thread Cert.Rout.nD Cert.Rout.τ).loc Cert.Rout.main_arg0)
      ∧ r.2.mem ((c.tc : Thread Cert.Rout.nD Cert.Rout.τ).loc Cert.Rout.main_arg1) = m ((c.tc : Thread Cert.Rout.nD Cert.Rout.τ).loc Cert.Rout.main_arg1))
      ∧ r.2.sem = fun _ => 0)

def quiescent_RoutIdeal [hRoutIdeal : Cert.RoutIdeal.Facts] : Prop :=
  ∀ (m : (ℓ : Loc Cert.RoutIdeal.nD Cert.RoutIdeal.τ Cert.RoutIdeal.sig) → Buf (Elt Ideal) ℓ) (g : Dev Cert.RoutIdeal.nD → PrngReg), Pre_RoutIdeal m →
    θ_run (Cert.RoutIdeal.defs (F := Ideal)) (onTc (τ := Cert.RoutIdeal.τ) (Cert.RoutIdeal.main (F := Ideal))) ⟨m, fun _ => 0, g⟩ (fun r => (∀ c : Dev Cert.RoutIdeal.nD,
      r.2.mem ((c.tc : Thread Cert.RoutIdeal.nD Cert.RoutIdeal.τ).loc Cert.RoutIdeal.main_arg0) = m ((c.tc : Thread Cert.RoutIdeal.nD Cert.RoutIdeal.τ).loc Cert.RoutIdeal.main_arg0)
      ∧ r.2.mem ((c.tc : Thread Cert.RoutIdeal.nD Cert.RoutIdeal.τ).loc Cert.RoutIdeal.main_arg1) = m ((c.tc : Thread Cert.RoutIdeal.nD Cert.RoutIdeal.τ).loc Cert.RoutIdeal.main_arg1))
      ∧ r.2.sem = fun _ => 0)

def quiescent_RoutRefIdeal [hRoutRefIdeal : Cert.RoutRefIdeal.Facts] : Prop :=
  ∀ (m : (ℓ : Loc Cert.RoutRefIdeal.nD Cert.RoutRefIdeal.τ Cert.RoutRefIdeal.sig) → Buf (Elt Ideal) ℓ) (g : Dev Cert.RoutRefIdeal.nD → PrngReg), Pre_RoutRefIdeal m →
    θ_run (Cert.RoutRefIdeal.defs (F := Ideal)) (onTc (τ := Cert.RoutRefIdeal.τ) (Cert.RoutRefIdeal.main (F := Ideal))) ⟨m, fun _ => 0, g⟩ (fun r => (∀ c : Dev Cert.RoutRefIdeal.nD,
      r.2.mem ((c.tc : Thread Cert.RoutRefIdeal.nD Cert.RoutRefIdeal.τ).loc Cert.RoutRefIdeal.main_arg0) = m ((c.tc : Thread Cert.RoutRefIdeal.nD Cert.RoutRefIdeal.τ).loc Cert.RoutRefIdeal.main_arg0)
      ∧ r.2.mem ((c.tc : Thread Cert.RoutRefIdeal.nD Cert.RoutRefIdeal.τ).loc Cert.RoutRefIdeal.main_arg1) = m ((c.tc : Thread Cert.RoutRefIdeal.nD Cert.RoutRefIdeal.τ).loc Cert.RoutRefIdeal.main_arg1))
      ∧ r.2.sem = fun _ => 0)

def quiescent_Adad [hAdad : Cert.Adad.Facts] : Prop :=
  ∀ (m : (ℓ : Loc Cert.Adad.nD Cert.Adad.τ Cert.Adad.sig) → Buf (Elt Bits) ℓ) (g : Dev Cert.Adad.nD → PrngReg), Pre_Adad m →
    θ_run (Cert.Adad.defs (F := Bits)) (onTc (τ := Cert.Adad.τ) (Cert.Adad.main (F := Bits))) ⟨m, fun _ => 0, g⟩ (fun r => (∀ c : Dev Cert.Adad.nD,
      r.2.mem ((c.tc : Thread Cert.Adad.nD Cert.Adad.τ).loc Cert.Adad.main_arg0) = m ((c.tc : Thread Cert.Adad.nD Cert.Adad.τ).loc Cert.Adad.main_arg0)
      ∧ r.2.mem ((c.tc : Thread Cert.Adad.nD Cert.Adad.τ).loc Cert.Adad.main_arg1) = m ((c.tc : Thread Cert.Adad.nD Cert.Adad.τ).loc Cert.Adad.main_arg1))
      ∧ r.2.sem = fun _ => 0)

def quiescent_AdadIdeal [hAdadIdeal : Cert.AdadIdeal.Facts] : Prop :=
  ∀ (m : (ℓ : Loc Cert.AdadIdeal.nD Cert.AdadIdeal.τ Cert.AdadIdeal.sig) → Buf (Elt Ideal) ℓ) (g : Dev Cert.AdadIdeal.nD → PrngReg), Pre_AdadIdeal m →
    θ_run (Cert.AdadIdeal.defs (F := Ideal)) (onTc (τ := Cert.AdadIdeal.τ) (Cert.AdadIdeal.main (F := Ideal))) ⟨m, fun _ => 0, g⟩ (fun r => (∀ c : Dev Cert.AdadIdeal.nD,
      r.2.mem ((c.tc : Thread Cert.AdadIdeal.nD Cert.AdadIdeal.τ).loc Cert.AdadIdeal.main_arg0) = m ((c.tc : Thread Cert.AdadIdeal.nD Cert.AdadIdeal.τ).loc Cert.AdadIdeal.main_arg0)
      ∧ r.2.mem ((c.tc : Thread Cert.AdadIdeal.nD Cert.AdadIdeal.τ).loc Cert.AdadIdeal.main_arg1) = m ((c.tc : Thread Cert.AdadIdeal.nD Cert.AdadIdeal.τ).loc Cert.AdadIdeal.main_arg1))
      ∧ r.2.sem = fun _ => 0)

def quiescent_AdadRefIdeal [hAdadRefIdeal : Cert.AdadRefIdeal.Facts] : Prop :=
  ∀ (m : (ℓ : Loc Cert.AdadRefIdeal.nD Cert.AdadRefIdeal.τ Cert.AdadRefIdeal.sig) → Buf (Elt Ideal) ℓ) (g : Dev Cert.AdadRefIdeal.nD → PrngReg), Pre_AdadRefIdeal m →
    θ_run (Cert.AdadRefIdeal.defs (F := Ideal)) (onTc (τ := Cert.AdadRefIdeal.τ) (Cert.AdadRefIdeal.main (F := Ideal))) ⟨m, fun _ => 0, g⟩ (fun r => (∀ c : Dev Cert.AdadRefIdeal.nD,
      r.2.mem ((c.tc : Thread Cert.AdadRefIdeal.nD Cert.AdadRefIdeal.τ).loc Cert.AdadRefIdeal.main_arg0) = m ((c.tc : Thread Cert.AdadRefIdeal.nD Cert.AdadRefIdeal.τ).loc Cert.AdadRefIdeal.main_arg0)
      ∧ r.2.mem ((c.tc : Thread Cert.AdadRefIdeal.nD Cert.AdadRefIdeal.τ).loc Cert.AdadRefIdeal.main_arg1) = m ((c.tc : Thread Cert.AdadRefIdeal.nD Cert.AdadRefIdeal.τ).loc Cert.AdadRefIdeal.main_arg1))
      ∧ r.2.sem = fun _ => 0)

def quiescent_Adau [hAdau : Cert.Adau.Facts] : Prop :=
  ∀ (m : (ℓ : Loc Cert.Adau.nD Cert.Adau.τ Cert.Adau.sig) → Buf (Elt Bits) ℓ) (g : Dev Cert.Adau.nD → PrngReg), Pre_Adau m →
    θ_run (Cert.Adau.defs (F := Bits)) (onTc (τ := Cert.Adau.τ) (Cert.Adau.main (F := Bits))) ⟨m, fun _ => 0, g⟩ (fun r => (∀ c : Dev Cert.Adau.nD,
      r.2.mem ((c.tc : Thread Cert.Adau.nD Cert.Adau.τ).loc Cert.Adau.main_arg0) = m ((c.tc : Thread Cert.Adau.nD Cert.Adau.τ).loc Cert.Adau.main_arg0)
      ∧ r.2.mem ((c.tc : Thread Cert.Adau.nD Cert.Adau.τ).loc Cert.Adau.main_arg1) = m ((c.tc : Thread Cert.Adau.nD Cert.Adau.τ).loc Cert.Adau.main_arg1))
      ∧ r.2.sem = fun _ => 0)

def quiescent_AdauIdeal [hAdauIdeal : Cert.AdauIdeal.Facts] : Prop :=
  ∀ (m : (ℓ : Loc Cert.AdauIdeal.nD Cert.AdauIdeal.τ Cert.AdauIdeal.sig) → Buf (Elt Ideal) ℓ) (g : Dev Cert.AdauIdeal.nD → PrngReg), Pre_AdauIdeal m →
    θ_run (Cert.AdauIdeal.defs (F := Ideal)) (onTc (τ := Cert.AdauIdeal.τ) (Cert.AdauIdeal.main (F := Ideal))) ⟨m, fun _ => 0, g⟩ (fun r => (∀ c : Dev Cert.AdauIdeal.nD,
      r.2.mem ((c.tc : Thread Cert.AdauIdeal.nD Cert.AdauIdeal.τ).loc Cert.AdauIdeal.main_arg0) = m ((c.tc : Thread Cert.AdauIdeal.nD Cert.AdauIdeal.τ).loc Cert.AdauIdeal.main_arg0)
      ∧ r.2.mem ((c.tc : Thread Cert.AdauIdeal.nD Cert.AdauIdeal.τ).loc Cert.AdauIdeal.main_arg1) = m ((c.tc : Thread Cert.AdauIdeal.nD Cert.AdauIdeal.τ).loc Cert.AdauIdeal.main_arg1))
      ∧ r.2.sem = fun _ => 0)

def quiescent_AdauRefIdeal [hAdauRefIdeal : Cert.AdauRefIdeal.Facts] : Prop :=
  ∀ (m : (ℓ : Loc Cert.AdauRefIdeal.nD Cert.AdauRefIdeal.τ Cert.AdauRefIdeal.sig) → Buf (Elt Ideal) ℓ) (g : Dev Cert.AdauRefIdeal.nD → PrngReg), Pre_AdauRefIdeal m →
    θ_run (Cert.AdauRefIdeal.defs (F := Ideal)) (onTc (τ := Cert.AdauRefIdeal.τ) (Cert.AdauRefIdeal.main (F := Ideal))) ⟨m, fun _ => 0, g⟩ (fun r => (∀ c : Dev Cert.AdauRefIdeal.nD,
      r.2.mem ((c.tc : Thread Cert.AdauRefIdeal.nD Cert.AdauRefIdeal.τ).loc Cert.AdauRefIdeal.main_arg0) = m ((c.tc : Thread Cert.AdauRefIdeal.nD Cert.AdauRefIdeal.τ).loc Cert.AdauRefIdeal.main_arg0)
      ∧ r.2.mem ((c.tc : Thread Cert.AdauRefIdeal.nD Cert.AdauRefIdeal.τ).loc Cert.AdauRefIdeal.main_arg1) = m ((c.tc : Thread Cert.AdauRefIdeal.nD Cert.AdauRefIdeal.τ).loc Cert.AdauRefIdeal.main_arg1))
      ∧ r.2.sem = fun _ => 0)

def quiescent_Hyfa [hHyfa : Cert.Hyfa.Facts] : Prop :=
  ∀ (m : (ℓ : Loc Cert.Hyfa.nD Cert.Hyfa.τ Cert.Hyfa.sig) → Buf (Elt Bits) ℓ) (g : Dev Cert.Hyfa.nD → PrngReg), Pre_Hyfa m →
    θ_run (Cert.Hyfa.defs (F := Bits)) (onTc (τ := Cert.Hyfa.τ) (Cert.Hyfa.main (F := Bits))) ⟨m, fun _ => 0, g⟩ (fun r => (∀ c : Dev Cert.Hyfa.nD,
      r.2.mem ((c.tc : Thread Cert.Hyfa.nD Cert.Hyfa.τ).loc Cert.Hyfa.main_arg0) = m ((c.tc : Thread Cert.Hyfa.nD Cert.Hyfa.τ).loc Cert.Hyfa.main_arg0)
      ∧ r.2.mem ((c.tc : Thread Cert.Hyfa.nD Cert.Hyfa.τ).loc Cert.Hyfa.main_arg1) = m ((c.tc : Thread Cert.Hyfa.nD Cert.Hyfa.τ).loc Cert.Hyfa.main_arg1))
      ∧ r.2.sem = fun _ => 0)

def quiescent_HyfaIdeal [hHyfaIdeal : Cert.HyfaIdeal.Facts] : Prop :=
  ∀ (m : (ℓ : Loc Cert.HyfaIdeal.nD Cert.HyfaIdeal.τ Cert.HyfaIdeal.sig) → Buf (Elt Ideal) ℓ) (g : Dev Cert.HyfaIdeal.nD → PrngReg), Pre_HyfaIdeal m →
    θ_run (Cert.HyfaIdeal.defs (F := Ideal)) (onTc (τ := Cert.HyfaIdeal.τ) (Cert.HyfaIdeal.main (F := Ideal))) ⟨m, fun _ => 0, g⟩ (fun r => (∀ c : Dev Cert.HyfaIdeal.nD,
      r.2.mem ((c.tc : Thread Cert.HyfaIdeal.nD Cert.HyfaIdeal.τ).loc Cert.HyfaIdeal.main_arg0) = m ((c.tc : Thread Cert.HyfaIdeal.nD Cert.HyfaIdeal.τ).loc Cert.HyfaIdeal.main_arg0)
      ∧ r.2.mem ((c.tc : Thread Cert.HyfaIdeal.nD Cert.HyfaIdeal.τ).loc Cert.HyfaIdeal.main_arg1) = m ((c.tc : Thread Cert.HyfaIdeal.nD Cert.HyfaIdeal.τ).loc Cert.HyfaIdeal.main_arg1))
      ∧ r.2.sem = fun _ => 0)

def quiescent_HyfaRefIdeal [hHyfaRefIdeal : Cert.HyfaRefIdeal.Facts] : Prop :=
  ∀ (m : (ℓ : Loc Cert.HyfaRefIdeal.nD Cert.HyfaRefIdeal.τ Cert.HyfaRefIdeal.sig) → Buf (Elt Ideal) ℓ) (g : Dev Cert.HyfaRefIdeal.nD → PrngReg), Pre_HyfaRefIdeal m →
    θ_run (Cert.HyfaRefIdeal.defs (F := Ideal)) (onTc (τ := Cert.HyfaRefIdeal.τ) (Cert.HyfaRefIdeal.main (F := Ideal))) ⟨m, fun _ => 0, g⟩ (fun r => (∀ c : Dev Cert.HyfaRefIdeal.nD,
      r.2.mem ((c.tc : Thread Cert.HyfaRefIdeal.nD Cert.HyfaRefIdeal.τ).loc Cert.HyfaRefIdeal.main_arg0) = m ((c.tc : Thread Cert.HyfaRefIdeal.nD Cert.HyfaRefIdeal.τ).loc Cert.HyfaRefIdeal.main_arg0)
      ∧ r.2.mem ((c.tc : Thread Cert.HyfaRefIdeal.nD Cert.HyfaRefIdeal.τ).loc Cert.HyfaRefIdeal.main_arg1) = m ((c.tc : Thread Cert.HyfaRefIdeal.nD Cert.HyfaRefIdeal.τ).loc Cert.HyfaRefIdeal.main_arg1))
      ∧ r.2.sem = fun _ => 0)

def quiescent_Hyfb [hHyfb : Cert.Hyfb.Facts] : Prop :=
  ∀ (m : (ℓ : Loc Cert.Hyfb.nD Cert.Hyfb.τ Cert.Hyfb.sig) → Buf (Elt Bits) ℓ) (g : Dev Cert.Hyfb.nD → PrngReg), Pre_Hyfb m →
    θ_run (Cert.Hyfb.defs (F := Bits)) (onTc (τ := Cert.Hyfb.τ) (Cert.Hyfb.main (F := Bits))) ⟨m, fun _ => 0, g⟩ (fun r => (∀ c : Dev Cert.Hyfb.nD,
      r.2.mem ((c.tc : Thread Cert.Hyfb.nD Cert.Hyfb.τ).loc Cert.Hyfb.main_arg0) = m ((c.tc : Thread Cert.Hyfb.nD Cert.Hyfb.τ).loc Cert.Hyfb.main_arg0)
      ∧ r.2.mem ((c.tc : Thread Cert.Hyfb.nD Cert.Hyfb.τ).loc Cert.Hyfb.main_arg1) = m ((c.tc : Thread Cert.Hyfb.nD Cert.Hyfb.τ).loc Cert.Hyfb.main_arg1))
      ∧ r.2.sem = fun _ => 0)

def quiescent_HyfbIdeal [hHyfbIdeal : Cert.HyfbIdeal.Facts] : Prop :=
  ∀ (m : (ℓ : Loc Cert.HyfbIdeal.nD Cert.HyfbIdeal.τ Cert.HyfbIdeal.sig) → Buf (Elt Ideal) ℓ) (g : Dev Cert.HyfbIdeal.nD → PrngReg), Pre_HyfbIdeal m →
    θ_run (Cert.HyfbIdeal.defs (F := Ideal)) (onTc (τ := Cert.HyfbIdeal.τ) (Cert.HyfbIdeal.main (F := Ideal))) ⟨m, fun _ => 0, g⟩ (fun r => (∀ c : Dev Cert.HyfbIdeal.nD,
      r.2.mem ((c.tc : Thread Cert.HyfbIdeal.nD Cert.HyfbIdeal.τ).loc Cert.HyfbIdeal.main_arg0) = m ((c.tc : Thread Cert.HyfbIdeal.nD Cert.HyfbIdeal.τ).loc Cert.HyfbIdeal.main_arg0)
      ∧ r.2.mem ((c.tc : Thread Cert.HyfbIdeal.nD Cert.HyfbIdeal.τ).loc Cert.HyfbIdeal.main_arg1) = m ((c.tc : Thread Cert.HyfbIdeal.nD Cert.HyfbIdeal.τ).loc Cert.HyfbIdeal.main_arg1))
      ∧ r.2.sem = fun _ => 0)

def quiescent_HyfbRefIdeal [hHyfbRefIdeal : Cert.HyfbRefIdeal.Facts] : Prop :=
  ∀ (m : (ℓ : Loc Cert.HyfbRefIdeal.nD Cert.HyfbRefIdeal.τ Cert.HyfbRefIdeal.sig) → Buf (Elt Ideal) ℓ) (g : Dev Cert.HyfbRefIdeal.nD → PrngReg), Pre_HyfbRefIdeal m →
    θ_run (Cert.HyfbRefIdeal.defs (F := Ideal)) (onTc (τ := Cert.HyfbRefIdeal.τ) (Cert.HyfbRefIdeal.main (F := Ideal))) ⟨m, fun _ => 0, g⟩ (fun r => (∀ c : Dev Cert.HyfbRefIdeal.nD,
      r.2.mem ((c.tc : Thread Cert.HyfbRefIdeal.nD Cert.HyfbRefIdeal.τ).loc Cert.HyfbRefIdeal.main_arg0) = m ((c.tc : Thread Cert.HyfbRefIdeal.nD Cert.HyfbRefIdeal.τ).loc Cert.HyfbRefIdeal.main_arg0)
      ∧ r.2.mem ((c.tc : Thread Cert.HyfbRefIdeal.nD Cert.HyfbRefIdeal.τ).loc Cert.HyfbRefIdeal.main_arg1) = m ((c.tc : Thread Cert.HyfbRefIdeal.nD Cert.HyfbRefIdeal.τ).loc Cert.HyfbRefIdeal.main_arg1))
      ∧ r.2.sem = fun _ => 0)

def quiescent_Hyfc [hHyfc : Cert.Hyfc.Facts] : Prop :=
  ∀ (m : (ℓ : Loc Cert.Hyfc.nD Cert.Hyfc.τ Cert.Hyfc.sig) → Buf (Elt Bits) ℓ) (g : Dev Cert.Hyfc.nD → PrngReg), Pre_Hyfc m →
    θ_run (Cert.Hyfc.defs (F := Bits)) (onTc (τ := Cert.Hyfc.τ) (Cert.Hyfc.main (F := Bits))) ⟨m, fun _ => 0, g⟩ (fun r => (∀ c : Dev Cert.Hyfc.nD,
      r.2.mem ((c.tc : Thread Cert.Hyfc.nD Cert.Hyfc.τ).loc Cert.Hyfc.main_arg0) = m ((c.tc : Thread Cert.Hyfc.nD Cert.Hyfc.τ).loc Cert.Hyfc.main_arg0)
      ∧ r.2.mem ((c.tc : Thread Cert.Hyfc.nD Cert.Hyfc.τ).loc Cert.Hyfc.main_arg1) = m ((c.tc : Thread Cert.Hyfc.nD Cert.Hyfc.τ).loc Cert.Hyfc.main_arg1))
      ∧ r.2.sem = fun _ => 0)

def quiescent_HyfcIdeal [hHyfcIdeal : Cert.HyfcIdeal.Facts] : Prop :=
  ∀ (m : (ℓ : Loc Cert.HyfcIdeal.nD Cert.HyfcIdeal.τ Cert.HyfcIdeal.sig) → Buf (Elt Ideal) ℓ) (g : Dev Cert.HyfcIdeal.nD → PrngReg), Pre_HyfcIdeal m →
    θ_run (Cert.HyfcIdeal.defs (F := Ideal)) (onTc (τ := Cert.HyfcIdeal.τ) (Cert.HyfcIdeal.main (F := Ideal))) ⟨m, fun _ => 0, g⟩ (fun r => (∀ c : Dev Cert.HyfcIdeal.nD,
      r.2.mem ((c.tc : Thread Cert.HyfcIdeal.nD Cert.HyfcIdeal.τ).loc Cert.HyfcIdeal.main_arg0) = m ((c.tc : Thread Cert.HyfcIdeal.nD Cert.HyfcIdeal.τ).loc Cert.HyfcIdeal.main_arg0)
      ∧ r.2.mem ((c.tc : Thread Cert.HyfcIdeal.nD Cert.HyfcIdeal.τ).loc Cert.HyfcIdeal.main_arg1) = m ((c.tc : Thread Cert.HyfcIdeal.nD Cert.HyfcIdeal.τ).loc Cert.HyfcIdeal.main_arg1))
      ∧ r.2.sem = fun _ => 0)

def quiescent_HyfcRefIdeal [hHyfcRefIdeal : Cert.HyfcRefIdeal.Facts] : Prop :=
  ∀ (m : (ℓ : Loc Cert.HyfcRefIdeal.nD Cert.HyfcRefIdeal.τ Cert.HyfcRefIdeal.sig) → Buf (Elt Ideal) ℓ) (g : Dev Cert.HyfcRefIdeal.nD → PrngReg), Pre_HyfcRefIdeal m →
    θ_run (Cert.HyfcRefIdeal.defs (F := Ideal)) (onTc (τ := Cert.HyfcRefIdeal.τ) (Cert.HyfcRefIdeal.main (F := Ideal))) ⟨m, fun _ => 0, g⟩ (fun r => (∀ c : Dev Cert.HyfcRefIdeal.nD,
      r.2.mem ((c.tc : Thread Cert.HyfcRefIdeal.nD Cert.HyfcRefIdeal.τ).loc Cert.HyfcRefIdeal.main_arg0) = m ((c.tc : Thread Cert.HyfcRefIdeal.nD Cert.HyfcRefIdeal.τ).loc Cert.HyfcRefIdeal.main_arg0)
      ∧ r.2.mem ((c.tc : Thread Cert.HyfcRefIdeal.nD Cert.HyfcRefIdeal.τ).loc Cert.HyfcRefIdeal.main_arg1) = m ((c.tc : Thread Cert.HyfcRefIdeal.nD Cert.HyfcRefIdeal.τ).loc Cert.HyfcRefIdeal.main_arg1))
      ∧ r.2.sem = fun _ => 0)

def quiescent_Sconv [hSconv : Cert.Sconv.Facts] : Prop :=
  ∀ (m : (ℓ : Loc Cert.Sconv.nD Cert.Sconv.τ Cert.Sconv.sig) → Buf (Elt Bits) ℓ) (g : Dev Cert.Sconv.nD → PrngReg), Pre_Sconv m →
    θ_run (Cert.Sconv.defs (F := Bits)) (onTc (τ := Cert.Sconv.τ) (Cert.Sconv.main (F := Bits))) ⟨m, fun _ => 0, g⟩ (fun r => (∀ c : Dev Cert.Sconv.nD,
      r.2.mem ((c.tc : Thread Cert.Sconv.nD Cert.Sconv.τ).loc Cert.Sconv.main_arg0) = m ((c.tc : Thread Cert.Sconv.nD Cert.Sconv.τ).loc Cert.Sconv.main_arg0)
      ∧ r.2.mem ((c.tc : Thread Cert.Sconv.nD Cert.Sconv.τ).loc Cert.Sconv.main_arg1) = m ((c.tc : Thread Cert.Sconv.nD Cert.Sconv.τ).loc Cert.Sconv.main_arg1)
      ∧ r.2.mem ((c.tc : Thread Cert.Sconv.nD Cert.Sconv.τ).loc Cert.Sconv.main_arg2) = m ((c.tc : Thread Cert.Sconv.nD Cert.Sconv.τ).loc Cert.Sconv.main_arg2))
      ∧ r.2.sem = fun _ => 0)

def quiescent_SconvIdeal [hSconvIdeal : Cert.SconvIdeal.Facts] : Prop :=
  ∀ (m : (ℓ : Loc Cert.SconvIdeal.nD Cert.SconvIdeal.τ Cert.SconvIdeal.sig) → Buf (Elt Ideal) ℓ) (g : Dev Cert.SconvIdeal.nD → PrngReg), Pre_SconvIdeal m →
    θ_run (Cert.SconvIdeal.defs (F := Ideal)) (onTc (τ := Cert.SconvIdeal.τ) (Cert.SconvIdeal.main (F := Ideal))) ⟨m, fun _ => 0, g⟩ (fun r => (∀ c : Dev Cert.SconvIdeal.nD,
      r.2.mem ((c.tc : Thread Cert.SconvIdeal.nD Cert.SconvIdeal.τ).loc Cert.SconvIdeal.main_arg0) = m ((c.tc : Thread Cert.SconvIdeal.nD Cert.SconvIdeal.τ).loc Cert.SconvIdeal.main_arg0)
      ∧ r.2.mem ((c.tc : Thread Cert.SconvIdeal.nD Cert.SconvIdeal.τ).loc Cert.SconvIdeal.main_arg1) = m ((c.tc : Thread Cert.SconvIdeal.nD Cert.SconvIdeal.τ).loc Cert.SconvIdeal.main_arg1)
      ∧ r.2.mem ((c.tc : Thread Cert.SconvIdeal.nD Cert.SconvIdeal.τ).loc Cert.SconvIdeal.main_arg2) = m ((c.tc : Thread Cert.SconvIdeal.nD Cert.SconvIdeal.τ).loc Cert.SconvIdeal.main_arg2))
      ∧ r.2.sem = fun _ => 0)

def quiescent_SconvRefIdeal [hSconvRefIdeal : Cert.SconvRefIdeal.Facts] : Prop :=
  ∀ (m : (ℓ : Loc Cert.SconvRefIdeal.nD Cert.SconvRefIdeal.τ Cert.SconvRefIdeal.sig) → Buf (Elt Ideal) ℓ) (g : Dev Cert.SconvRefIdeal.nD → PrngReg), Pre_SconvRefIdeal m →
    θ_run (Cert.SconvRefIdeal.defs (F := Ideal)) (onTc (τ := Cert.SconvRefIdeal.τ) (Cert.SconvRefIdeal.main (F := Ideal))) ⟨m, fun _ => 0, g⟩ (fun r => (∀ c : Dev Cert.SconvRefIdeal.nD,
      r.2.mem ((c.tc : Thread Cert.SconvRefIdeal.nD Cert.SconvRefIdeal.τ).loc Cert.SconvRefIdeal.main_arg0) = m ((c.tc : Thread Cert.SconvRefIdeal.nD Cert.SconvRefIdeal.τ).loc Cert.SconvRefIdeal.main_arg0)
      ∧ r.2.mem ((c.tc : Thread Cert.SconvRefIdeal.nD Cert.SconvRefIdeal.τ).loc Cert.SconvRefIdeal.main_arg1) = m ((c.tc : Thread Cert.SconvRefIdeal.nD Cert.SconvRefIdeal.τ).loc Cert.SconvRefIdeal.main_arg1)
      ∧ r.2.mem ((c.tc : Thread Cert.SconvRefIdeal.nD Cert.SconvRefIdeal.τ).loc Cert.SconvRefIdeal.main_arg2) = m ((c.tc : Thread Cert.SconvRefIdeal.nD Cert.SconvRefIdeal.τ).loc Cert.SconvRefIdeal.main_arg2))
      ∧ r.2.sem = fun _ => 0)

def quiescent_Sctx [hSctx : Cert.Sctx.Facts] : Prop :=
  ∀ (m : (ℓ : Loc Cert.Sctx.nD Cert.Sctx.τ Cert.Sctx.sig) → Buf (Elt Bits) ℓ) (g : Dev Cert.Sctx.nD → PrngReg), Pre_Sctx m →
    θ_run (Cert.Sctx.defs (F := Bits)) (onTc (τ := Cert.Sctx.τ) (Cert.Sctx.main (F := Bits))) ⟨m, fun _ => 0, g⟩ (fun r => (∀ c : Dev Cert.Sctx.nD,
      r.2.mem ((c.tc : Thread Cert.Sctx.nD Cert.Sctx.τ).loc Cert.Sctx.main_arg0) = m ((c.tc : Thread Cert.Sctx.nD Cert.Sctx.τ).loc Cert.Sctx.main_arg0)
      ∧ r.2.mem ((c.tc : Thread Cert.Sctx.nD Cert.Sctx.τ).loc Cert.Sctx.main_arg1) = m ((c.tc : Thread Cert.Sctx.nD Cert.Sctx.τ).loc Cert.Sctx.main_arg1)
      ∧ r.2.mem ((c.tc : Thread Cert.Sctx.nD Cert.Sctx.τ).loc Cert.Sctx.main_arg2) = m ((c.tc : Thread Cert.Sctx.nD Cert.Sctx.τ).loc Cert.Sctx.main_arg2))
      ∧ r.2.sem = fun _ => 0)

def quiescent_SctxIdeal [hSctxIdeal : Cert.SctxIdeal.Facts] : Prop :=
  ∀ (m : (ℓ : Loc Cert.SctxIdeal.nD Cert.SctxIdeal.τ Cert.SctxIdeal.sig) → Buf (Elt Ideal) ℓ) (g : Dev Cert.SctxIdeal.nD → PrngReg), Pre_SctxIdeal m →
    θ_run (Cert.SctxIdeal.defs (F := Ideal)) (onTc (τ := Cert.SctxIdeal.τ) (Cert.SctxIdeal.main (F := Ideal))) ⟨m, fun _ => 0, g⟩ (fun r => (∀ c : Dev Cert.SctxIdeal.nD,
      r.2.mem ((c.tc : Thread Cert.SctxIdeal.nD Cert.SctxIdeal.τ).loc Cert.SctxIdeal.main_arg0) = m ((c.tc : Thread Cert.SctxIdeal.nD Cert.SctxIdeal.τ).loc Cert.SctxIdeal.main_arg0)
      ∧ r.2.mem ((c.tc : Thread Cert.SctxIdeal.nD Cert.SctxIdeal.τ).loc Cert.SctxIdeal.main_arg1) = m ((c.tc : Thread Cert.SctxIdeal.nD Cert.SctxIdeal.τ).loc Cert.SctxIdeal.main_arg1)
      ∧ r.2.mem ((c.tc : Thread Cert.SctxIdeal.nD Cert.SctxIdeal.τ).loc Cert.SctxIdeal.main_arg2) = m ((c.tc : Thread Cert.SctxIdeal.nD Cert.SctxIdeal.τ).loc Cert.SctxIdeal.main_arg2))
      ∧ r.2.sem = fun _ => 0)

def quiescent_SctxRefIdeal [hSctxRefIdeal : Cert.SctxRefIdeal.Facts] : Prop :=
  ∀ (m : (ℓ : Loc Cert.SctxRefIdeal.nD Cert.SctxRefIdeal.τ Cert.SctxRefIdeal.sig) → Buf (Elt Ideal) ℓ) (g : Dev Cert.SctxRefIdeal.nD → PrngReg), Pre_SctxRefIdeal m →
    θ_run (Cert.SctxRefIdeal.defs (F := Ideal)) (onTc (τ := Cert.SctxRefIdeal.τ) (Cert.SctxRefIdeal.main (F := Ideal))) ⟨m, fun _ => 0, g⟩ (fun r => (∀ c : Dev Cert.SctxRefIdeal.nD,
      r.2.mem ((c.tc : Thread Cert.SctxRefIdeal.nD Cert.SctxRefIdeal.τ).loc Cert.SctxRefIdeal.main_arg0) = m ((c.tc : Thread Cert.SctxRefIdeal.nD Cert.SctxRefIdeal.τ).loc Cert.SctxRefIdeal.main_arg0)
      ∧ r.2.mem ((c.tc : Thread Cert.SctxRefIdeal.nD Cert.SctxRefIdeal.τ).loc Cert.SctxRefIdeal.main_arg1) = m ((c.tc : Thread Cert.SctxRefIdeal.nD Cert.SctxRefIdeal.τ).loc Cert.SctxRefIdeal.main_arg1)
      ∧ r.2.mem ((c.tc : Thread Cert.SctxRefIdeal.nD Cert.SctxRefIdeal.τ).loc Cert.SctxRefIdeal.main_arg2) = m ((c.tc : Thread Cert.SctxRefIdeal.nD Cert.SctxRefIdeal.τ).loc Cert.SctxRefIdeal.main_arg2))
      ∧ r.2.sem = fun _ => 0)

def quiescent_Qkp [hQkp : Cert.Qkp.Facts] : Prop :=
  ∀ (m : (ℓ : Loc Cert.Qkp.nD Cert.Qkp.τ Cert.Qkp.sig) → Buf (Elt Bits) ℓ) (g : Dev Cert.Qkp.nD → PrngReg), Pre_Qkp m →
    θ_run (Cert.Qkp.defs (F := Bits)) (onTc (τ := Cert.Qkp.τ) (Cert.Qkp.main (F := Bits))) ⟨m, fun _ => 0, g⟩ (fun r => (∀ c : Dev Cert.Qkp.nD,
      r.2.mem ((c.tc : Thread Cert.Qkp.nD Cert.Qkp.τ).loc Cert.Qkp.main_arg0) = m ((c.tc : Thread Cert.Qkp.nD Cert.Qkp.τ).loc Cert.Qkp.main_arg0)
      ∧ r.2.mem ((c.tc : Thread Cert.Qkp.nD Cert.Qkp.τ).loc Cert.Qkp.main_arg1) = m ((c.tc : Thread Cert.Qkp.nD Cert.Qkp.τ).loc Cert.Qkp.main_arg1)
      ∧ r.2.mem ((c.tc : Thread Cert.Qkp.nD Cert.Qkp.τ).loc Cert.Qkp.main_arg2) = m ((c.tc : Thread Cert.Qkp.nD Cert.Qkp.τ).loc Cert.Qkp.main_arg2))
      ∧ r.2.sem = fun _ => 0)

def quiescent_QkpIdeal [hQkpIdeal : Cert.QkpIdeal.Facts] : Prop :=
  ∀ (m : (ℓ : Loc Cert.QkpIdeal.nD Cert.QkpIdeal.τ Cert.QkpIdeal.sig) → Buf (Elt Ideal) ℓ) (g : Dev Cert.QkpIdeal.nD → PrngReg), Pre_QkpIdeal m →
    θ_run (Cert.QkpIdeal.defs (F := Ideal)) (onTc (τ := Cert.QkpIdeal.τ) (Cert.QkpIdeal.main (F := Ideal))) ⟨m, fun _ => 0, g⟩ (fun r => (∀ c : Dev Cert.QkpIdeal.nD,
      r.2.mem ((c.tc : Thread Cert.QkpIdeal.nD Cert.QkpIdeal.τ).loc Cert.QkpIdeal.main_arg0) = m ((c.tc : Thread Cert.QkpIdeal.nD Cert.QkpIdeal.τ).loc Cert.QkpIdeal.main_arg0)
      ∧ r.2.mem ((c.tc : Thread Cert.QkpIdeal.nD Cert.QkpIdeal.τ).loc Cert.QkpIdeal.main_arg1) = m ((c.tc : Thread Cert.QkpIdeal.nD Cert.QkpIdeal.τ).loc Cert.QkpIdeal.main_arg1)
      ∧ r.2.mem ((c.tc : Thread Cert.QkpIdeal.nD Cert.QkpIdeal.τ).loc Cert.QkpIdeal.main_arg2) = m ((c.tc : Thread Cert.QkpIdeal.nD Cert.QkpIdeal.τ).loc Cert.QkpIdeal.main_arg2))
      ∧ r.2.sem = fun _ => 0)

def quiescent_QkpRefIdeal [hQkpRefIdeal : Cert.QkpRefIdeal.Facts] : Prop :=
  ∀ (m : (ℓ : Loc Cert.QkpRefIdeal.nD Cert.QkpRefIdeal.τ Cert.QkpRefIdeal.sig) → Buf (Elt Ideal) ℓ) (g : Dev Cert.QkpRefIdeal.nD → PrngReg), Pre_QkpRefIdeal m →
    θ_run (Cert.QkpRefIdeal.defs (F := Ideal)) (onTc (τ := Cert.QkpRefIdeal.τ) (Cert.QkpRefIdeal.main (F := Ideal))) ⟨m, fun _ => 0, g⟩ (fun r => (∀ c : Dev Cert.QkpRefIdeal.nD,
      r.2.mem ((c.tc : Thread Cert.QkpRefIdeal.nD Cert.QkpRefIdeal.τ).loc Cert.QkpRefIdeal.main_arg0) = m ((c.tc : Thread Cert.QkpRefIdeal.nD Cert.QkpRefIdeal.τ).loc Cert.QkpRefIdeal.main_arg0)
      ∧ r.2.mem ((c.tc : Thread Cert.QkpRefIdeal.nD Cert.QkpRefIdeal.τ).loc Cert.QkpRefIdeal.main_arg1) = m ((c.tc : Thread Cert.QkpRefIdeal.nD Cert.QkpRefIdeal.τ).loc Cert.QkpRefIdeal.main_arg1)
      ∧ r.2.mem ((c.tc : Thread Cert.QkpRefIdeal.nD Cert.QkpRefIdeal.τ).loc Cert.QkpRefIdeal.main_arg2) = m ((c.tc : Thread Cert.QkpRefIdeal.nD Cert.QkpRefIdeal.τ).loc Cert.QkpRefIdeal.main_arg2))
      ∧ r.2.sem = fun _ => 0)

def preserves_Da_DaIdeal : Prop :=
  True

def algebraic_DaIdeal_DaRefIdeal_pre_da_finite [hDaIdeal : Cert.DaIdeal.Facts] [hDaRefIdeal : Cert.DaRefIdeal.Facts] [hPre_da_finite : Cert.Pre_da_finite.Facts] : Prop :=
  ∀ (m : (ℓ : Loc Cert.DaIdeal.nD Cert.DaIdeal.τ Cert.DaIdeal.sig) → Buf (Elt Ideal) ℓ) (g : Dev Cert.DaIdeal.nD → PrngReg)
    (m' : (ℓ : Loc Cert.DaRefIdeal.nD Cert.DaRefIdeal.τ Cert.DaRefIdeal.sig) → Buf (Elt Ideal) ℓ) (g' : Dev Cert.DaRefIdeal.nD → PrngReg), Pre_DaIdeal_da_finite m →
    (∀ c : Dev Cert.DaIdeal.nD,
      m' ((c.tc : Thread Cert.DaRefIdeal.nD Cert.DaRefIdeal.τ).loc Cert.DaRefIdeal.main_arg0) = m ((c.tc : Thread Cert.DaIdeal.nD Cert.DaIdeal.τ).loc Cert.DaIdeal.main_arg0)
      ∧ m' ((c.tc : Thread Cert.DaRefIdeal.nD Cert.DaRefIdeal.τ).loc Cert.DaRefIdeal.main_arg1) = m ((c.tc : Thread Cert.DaIdeal.nD Cert.DaIdeal.τ).loc Cert.DaIdeal.main_arg1)
      ∧ m' ((c.tc : Thread Cert.DaRefIdeal.nD Cert.DaRefIdeal.τ).loc Cert.DaRefIdeal.main_arg2) = m ((c.tc : Thread Cert.DaIdeal.nD Cert.DaIdeal.τ).loc Cert.DaIdeal.main_arg2)
      ∧ m' ((c.tc : Thread Cert.DaRefIdeal.nD Cert.DaRefIdeal.τ).loc Cert.DaRefIdeal.main_arg3) = m ((c.tc : Thread Cert.DaIdeal.nD Cert.DaIdeal.τ).loc Cert.DaIdeal.main_arg3)) →
    ∃ (v0 : (c : Dev Cert.DaIdeal.nD) → Buf (Elt Ideal) ((c.tc : Thread Cert.DaIdeal.nD Cert.DaIdeal.τ).loc Cert.DaIdeal.main_v23)),
      θ_run (Cert.DaIdeal.defs (F := Ideal)) (onTc (τ := Cert.DaIdeal.τ) (Cert.DaIdeal.main (F := Ideal))) ⟨m, fun _ => 0, g⟩ (fun r => ∀ c : Dev Cert.DaIdeal.nD,
          r.2.mem ((c.tc : Thread Cert.DaIdeal.nD Cert.DaIdeal.τ).loc Cert.DaIdeal.main_v23) = v0 c
          ∧ r.2.mem ((c.tc : Thread Cert.DaIdeal.nD Cert.DaIdeal.τ).loc Cert.DaIdeal.main_arg0) = m ((c.tc : Thread Cert.DaIdeal.nD Cert.DaIdeal.τ).loc Cert.DaIdeal.main_arg0)
          ∧ r.2.mem ((c.tc : Thread Cert.DaIdeal.nD Cert.DaIdeal.τ).loc Cert.DaIdeal.main_arg1) = m ((c.tc : Thread Cert.DaIdeal.nD Cert.DaIdeal.τ).loc Cert.DaIdeal.main_arg1)
          ∧ r.2.mem ((c.tc : Thread Cert.DaIdeal.nD Cert.DaIdeal.τ).loc Cert.DaIdeal.main_arg2) = m ((c.tc : Thread Cert.DaIdeal.nD Cert.DaIdeal.τ).loc Cert.DaIdeal.main_arg2)
          ∧ r.2.mem ((c.tc : Thread Cert.DaIdeal.nD Cert.DaIdeal.τ).loc Cert.DaIdeal.main_arg3) = m ((c.tc : Thread Cert.DaIdeal.nD Cert.DaIdeal.τ).loc Cert.DaIdeal.main_arg3))
      ∧ θ_run (Cert.DaRefIdeal.defs (F := Ideal)) (onTc (τ := Cert.DaRefIdeal.τ) (Cert.DaRefIdeal.main (F := Ideal))) ⟨m', fun _ => 0, g'⟩ (fun r => ∀ c : Dev Cert.DaRefIdeal.nD,
          r.2.mem ((c.tc : Thread Cert.DaRefIdeal.nD Cert.DaRefIdeal.τ).loc Cert.DaRefIdeal.main_v95) = v0 c
          ∧ r.2.mem ((c.tc : Thread Cert.DaRefIdeal.nD Cert.DaRefIdeal.τ).loc Cert.DaRefIdeal.main_arg0) = m' ((c.tc : Thread Cert.DaRefIdeal.nD Cert.DaRefIdeal.τ).loc Cert.DaRefIdeal.main_arg0)
          ∧ r.2.mem ((c.tc : Thread Cert.DaRefIdeal.nD Cert.DaRefIdeal.τ).loc Cert.DaRefIdeal.main_arg1) = m' ((c.tc : Thread Cert.DaRefIdeal.nD Cert.DaRefIdeal.τ).loc Cert.DaRefIdeal.main_arg1)
          ∧ r.2.mem ((c.tc : Thread Cert.DaRefIdeal.nD Cert.DaRefIdeal.τ).loc Cert.DaRefIdeal.main_arg2) = m' ((c.tc : Thread Cert.DaRefIdeal.nD Cert.DaRefIdeal.τ).loc Cert.DaRefIdeal.main_arg2)
          ∧ r.2.mem ((c.tc : Thread Cert.DaRefIdeal.nD Cert.DaRefIdeal.τ).loc Cert.DaRefIdeal.main_arg3) = m' ((c.tc : Thread Cert.DaRefIdeal.nD Cert.DaRefIdeal.τ).loc Cert.DaRefIdeal.main_arg3))

def preserves_Gq_GqIdeal : Prop :=
  True

def algebraic_GqIdeal_GqRefIdeal_pre_gq_finite [hGqIdeal : Cert.GqIdeal.Facts] [hGqRefIdeal : Cert.GqRefIdeal.Facts] [hPre_gq_finite : Cert.Pre_gq_finite.Facts] : Prop :=
  ∀ (m : (ℓ : Loc Cert.GqIdeal.nD Cert.GqIdeal.τ Cert.GqIdeal.sig) → Buf (Elt Ideal) ℓ) (g : Dev Cert.GqIdeal.nD → PrngReg)
    (m' : (ℓ : Loc Cert.GqRefIdeal.nD Cert.GqRefIdeal.τ Cert.GqRefIdeal.sig) → Buf (Elt Ideal) ℓ) (g' : Dev Cert.GqRefIdeal.nD → PrngReg), Pre_GqIdeal_gq_finite m →
    (∀ c : Dev Cert.GqIdeal.nD,
      m' ((c.tc : Thread Cert.GqRefIdeal.nD Cert.GqRefIdeal.τ).loc Cert.GqRefIdeal.main_arg0) = m ((c.tc : Thread Cert.GqIdeal.nD Cert.GqIdeal.τ).loc Cert.GqIdeal.main_arg0)) →
    ∃ (v0 : (c : Dev Cert.GqIdeal.nD) → Buf (Elt Ideal) ((c.tc : Thread Cert.GqIdeal.nD Cert.GqIdeal.τ).loc Cert.GqIdeal.main_v0)),
      θ_run (Cert.GqIdeal.defs (F := Ideal)) (onTc (τ := Cert.GqIdeal.τ) (Cert.GqIdeal.main (F := Ideal))) ⟨m, fun _ => 0, g⟩ (fun r => ∀ c : Dev Cert.GqIdeal.nD,
          r.2.mem ((c.tc : Thread Cert.GqIdeal.nD Cert.GqIdeal.τ).loc Cert.GqIdeal.main_v0) = v0 c
          ∧ r.2.mem ((c.tc : Thread Cert.GqIdeal.nD Cert.GqIdeal.τ).loc Cert.GqIdeal.main_arg0) = m ((c.tc : Thread Cert.GqIdeal.nD Cert.GqIdeal.τ).loc Cert.GqIdeal.main_arg0))
      ∧ θ_run (Cert.GqRefIdeal.defs (F := Ideal)) (onTc (τ := Cert.GqRefIdeal.τ) (Cert.GqRefIdeal.main (F := Ideal))) ⟨m', fun _ => 0, g'⟩ (fun r => ∀ c : Dev Cert.GqRefIdeal.nD,
          r.2.mem ((c.tc : Thread Cert.GqRefIdeal.nD Cert.GqRefIdeal.τ).loc Cert.GqRefIdeal.main_v50) = v0 c
          ∧ r.2.mem ((c.tc : Thread Cert.GqRefIdeal.nD Cert.GqRefIdeal.τ).loc Cert.GqRefIdeal.main_arg0) = m' ((c.tc : Thread Cert.GqRefIdeal.nD Cert.GqRefIdeal.τ).loc Cert.GqRefIdeal.main_arg0))

def preserves_Inp_InpIdeal : Prop :=
  True

def algebraic_InpIdeal_InpRefIdeal [hInpIdeal : Cert.InpIdeal.Facts] [hInpRefIdeal : Cert.InpRefIdeal.Facts] : Prop :=
  ∀ (m : (ℓ : Loc Cert.InpIdeal.nD Cert.InpIdeal.τ Cert.InpIdeal.sig) → Buf (Elt Ideal) ℓ) (g : Dev Cert.InpIdeal.nD → PrngReg)
    (m' : (ℓ : Loc Cert.InpRefIdeal.nD Cert.InpRefIdeal.τ Cert.InpRefIdeal.sig) → Buf (Elt Ideal) ℓ) (g' : Dev Cert.InpRefIdeal.nD → PrngReg), Pre_InpIdeal m →
    (∀ c : Dev Cert.InpIdeal.nD,
      m' ((c.tc : Thread Cert.InpRefIdeal.nD Cert.InpRefIdeal.τ).loc Cert.InpRefIdeal.main_arg0) = m ((c.tc : Thread Cert.InpIdeal.nD Cert.InpIdeal.τ).loc Cert.InpIdeal.main_arg0)
      ∧ m' ((c.tc : Thread Cert.InpRefIdeal.nD Cert.InpRefIdeal.τ).loc Cert.InpRefIdeal.main_arg1) = m ((c.tc : Thread Cert.InpIdeal.nD Cert.InpIdeal.τ).loc Cert.InpIdeal.main_arg1)) →
    ∃ (v0 : (c : Dev Cert.InpIdeal.nD) → Buf (Elt Ideal) ((c.tc : Thread Cert.InpIdeal.nD Cert.InpIdeal.τ).loc Cert.InpIdeal.main_v3)),
      θ_run (Cert.InpIdeal.defs (F := Ideal)) (onTc (τ := Cert.InpIdeal.τ) (Cert.InpIdeal.main (F := Ideal))) ⟨m, fun _ => 0, g⟩ (fun r => ∀ c : Dev Cert.InpIdeal.nD,
          r.2.mem ((c.tc : Thread Cert.InpIdeal.nD Cert.InpIdeal.τ).loc Cert.InpIdeal.main_v3) = v0 c
          ∧ r.2.mem ((c.tc : Thread Cert.InpIdeal.nD Cert.InpIdeal.τ).loc Cert.InpIdeal.main_arg0) = m ((c.tc : Thread Cert.InpIdeal.nD Cert.InpIdeal.τ).loc Cert.InpIdeal.main_arg0)
          ∧ r.2.mem ((c.tc : Thread Cert.InpIdeal.nD Cert.InpIdeal.τ).loc Cert.InpIdeal.main_arg1) = m ((c.tc : Thread Cert.InpIdeal.nD Cert.InpIdeal.τ).loc Cert.InpIdeal.main_arg1))
      ∧ θ_run (Cert.InpRefIdeal.defs (F := Ideal)) (onTc (τ := Cert.InpRefIdeal.τ) (Cert.InpRefIdeal.main (F := Ideal))) ⟨m', fun _ => 0, g'⟩ (fun r => ∀ c : Dev Cert.InpRefIdeal.nD,
          r.2.mem ((c.tc : Thread Cert.InpRefIdeal.nD Cert.InpRefIdeal.τ).loc Cert.InpRefIdeal.main_v3) = v0 c
          ∧ r.2.mem ((c.tc : Thread Cert.InpRefIdeal.nD Cert.InpRefIdeal.τ).loc Cert.InpRefIdeal.main_arg0) = m' ((c.tc : Thread Cert.InpRefIdeal.nD Cert.InpRefIdeal.τ).loc Cert.InpRefIdeal.main_arg0)
          ∧ r.2.mem ((c.tc : Thread Cert.InpRefIdeal.nD Cert.InpRefIdeal.τ).loc Cert.InpRefIdeal.main_arg1) = m' ((c.tc : Thread Cert.InpRefIdeal.nD Cert.InpRefIdeal.τ).loc Cert.InpRefIdeal.main_arg1))

def preserves_Outp_OutpIdeal : Prop :=
  True

def algebraic_OutpIdeal_OutpRefIdeal [hOutpIdeal : Cert.OutpIdeal.Facts] [hOutpRefIdeal : Cert.OutpRefIdeal.Facts] : Prop :=
  ∀ (m : (ℓ : Loc Cert.OutpIdeal.nD Cert.OutpIdeal.τ Cert.OutpIdeal.sig) → Buf (Elt Ideal) ℓ) (g : Dev Cert.OutpIdeal.nD → PrngReg)
    (m' : (ℓ : Loc Cert.OutpRefIdeal.nD Cert.OutpRefIdeal.τ Cert.OutpRefIdeal.sig) → Buf (Elt Ideal) ℓ) (g' : Dev Cert.OutpRefIdeal.nD → PrngReg), Pre_OutpIdeal m →
    (∀ c : Dev Cert.OutpIdeal.nD,
      m' ((c.tc : Thread Cert.OutpRefIdeal.nD Cert.OutpRefIdeal.τ).loc Cert.OutpRefIdeal.main_arg0) = m ((c.tc : Thread Cert.OutpIdeal.nD Cert.OutpIdeal.τ).loc Cert.OutpIdeal.main_arg0)
      ∧ m' ((c.tc : Thread Cert.OutpRefIdeal.nD Cert.OutpRefIdeal.τ).loc Cert.OutpRefIdeal.main_arg1) = m ((c.tc : Thread Cert.OutpIdeal.nD Cert.OutpIdeal.τ).loc Cert.OutpIdeal.main_arg1)
      ∧ m' ((c.tc : Thread Cert.OutpRefIdeal.nD Cert.OutpRefIdeal.τ).loc Cert.OutpRefIdeal.main_arg2) = m ((c.tc : Thread Cert.OutpIdeal.nD Cert.OutpIdeal.τ).loc Cert.OutpIdeal.main_arg2)
      ∧ m' ((c.tc : Thread Cert.OutpRefIdeal.nD Cert.OutpRefIdeal.τ).loc Cert.OutpRefIdeal.main_arg3) = m ((c.tc : Thread Cert.OutpIdeal.nD Cert.OutpIdeal.τ).loc Cert.OutpIdeal.main_arg3)
      ∧ m' ((c.tc : Thread Cert.OutpRefIdeal.nD Cert.OutpRefIdeal.τ).loc Cert.OutpRefIdeal.main_arg4) = m ((c.tc : Thread Cert.OutpIdeal.nD Cert.OutpIdeal.τ).loc Cert.OutpIdeal.main_arg4)) →
    ∃ (v0 : (c : Dev Cert.OutpIdeal.nD) → Buf (Elt Ideal) ((c.tc : Thread Cert.OutpIdeal.nD Cert.OutpIdeal.τ).loc Cert.OutpIdeal.main_v5)),
      θ_run (Cert.OutpIdeal.defs (F := Ideal)) (onTc (τ := Cert.OutpIdeal.τ) (Cert.OutpIdeal.main (F := Ideal))) ⟨m, fun _ => 0, g⟩ (fun r => ∀ c : Dev Cert.OutpIdeal.nD,
          r.2.mem ((c.tc : Thread Cert.OutpIdeal.nD Cert.OutpIdeal.τ).loc Cert.OutpIdeal.main_v5) = v0 c
          ∧ r.2.mem ((c.tc : Thread Cert.OutpIdeal.nD Cert.OutpIdeal.τ).loc Cert.OutpIdeal.main_arg0) = m ((c.tc : Thread Cert.OutpIdeal.nD Cert.OutpIdeal.τ).loc Cert.OutpIdeal.main_arg0)
          ∧ r.2.mem ((c.tc : Thread Cert.OutpIdeal.nD Cert.OutpIdeal.τ).loc Cert.OutpIdeal.main_arg1) = m ((c.tc : Thread Cert.OutpIdeal.nD Cert.OutpIdeal.τ).loc Cert.OutpIdeal.main_arg1)
          ∧ r.2.mem ((c.tc : Thread Cert.OutpIdeal.nD Cert.OutpIdeal.τ).loc Cert.OutpIdeal.main_arg2) = m ((c.tc : Thread Cert.OutpIdeal.nD Cert.OutpIdeal.τ).loc Cert.OutpIdeal.main_arg2)
          ∧ r.2.mem ((c.tc : Thread Cert.OutpIdeal.nD Cert.OutpIdeal.τ).loc Cert.OutpIdeal.main_arg3) = m ((c.tc : Thread Cert.OutpIdeal.nD Cert.OutpIdeal.τ).loc Cert.OutpIdeal.main_arg3)
          ∧ r.2.mem ((c.tc : Thread Cert.OutpIdeal.nD Cert.OutpIdeal.τ).loc Cert.OutpIdeal.main_arg4) = m ((c.tc : Thread Cert.OutpIdeal.nD Cert.OutpIdeal.τ).loc Cert.OutpIdeal.main_arg4))
      ∧ θ_run (Cert.OutpRefIdeal.defs (F := Ideal)) (onTc (τ := Cert.OutpRefIdeal.τ) (Cert.OutpRefIdeal.main (F := Ideal))) ⟨m', fun _ => 0, g'⟩ (fun r => ∀ c : Dev Cert.OutpRefIdeal.nD,
          r.2.mem ((c.tc : Thread Cert.OutpRefIdeal.nD Cert.OutpRefIdeal.τ).loc Cert.OutpRefIdeal.main_v3) = v0 c
          ∧ r.2.mem ((c.tc : Thread Cert.OutpRefIdeal.nD Cert.OutpRefIdeal.τ).loc Cert.OutpRefIdeal.main_arg0) = m' ((c.tc : Thread Cert.OutpRefIdeal.nD Cert.OutpRefIdeal.τ).loc Cert.OutpRefIdeal.main_arg0)
          ∧ r.2.mem ((c.tc : Thread Cert.OutpRefIdeal.nD Cert.OutpRefIdeal.τ).loc Cert.OutpRefIdeal.main_arg1) = m' ((c.tc : Thread Cert.OutpRefIdeal.nD Cert.OutpRefIdeal.τ).loc Cert.OutpRefIdeal.main_arg1)
          ∧ r.2.mem ((c.tc : Thread Cert.OutpRefIdeal.nD Cert.OutpRefIdeal.τ).loc Cert.OutpRefIdeal.main_arg2) = m' ((c.tc : Thread Cert.OutpRefIdeal.nD Cert.OutpRefIdeal.τ).loc Cert.OutpRefIdeal.main_arg2)
          ∧ r.2.mem ((c.tc : Thread Cert.OutpRefIdeal.nD Cert.OutpRefIdeal.τ).loc Cert.OutpRefIdeal.main_arg3) = m' ((c.tc : Thread Cert.OutpRefIdeal.nD Cert.OutpRefIdeal.τ).loc Cert.OutpRefIdeal.main_arg3)
          ∧ r.2.mem ((c.tc : Thread Cert.OutpRefIdeal.nD Cert.OutpRefIdeal.τ).loc Cert.OutpRefIdeal.main_arg4) = m' ((c.tc : Thread Cert.OutpRefIdeal.nD Cert.OutpRefIdeal.τ).loc Cert.OutpRefIdeal.main_arg4))

def preserves_Filt_FiltIdeal : Prop :=
  True

def algebraic_FiltIdeal_FiltRefIdeal [hFiltIdeal : Cert.FiltIdeal.Facts] [hFiltRefIdeal : Cert.FiltRefIdeal.Facts] : Prop :=
  ∀ (m : (ℓ : Loc Cert.FiltIdeal.nD Cert.FiltIdeal.τ Cert.FiltIdeal.sig) → Buf (Elt Ideal) ℓ) (g : Dev Cert.FiltIdeal.nD → PrngReg)
    (m' : (ℓ : Loc Cert.FiltRefIdeal.nD Cert.FiltRefIdeal.τ Cert.FiltRefIdeal.sig) → Buf (Elt Ideal) ℓ) (g' : Dev Cert.FiltRefIdeal.nD → PrngReg), Pre_FiltIdeal m →
    (∀ c : Dev Cert.FiltIdeal.nD,
      m' ((c.tc : Thread Cert.FiltRefIdeal.nD Cert.FiltRefIdeal.τ).loc Cert.FiltRefIdeal.main_arg0) = m ((c.tc : Thread Cert.FiltIdeal.nD Cert.FiltIdeal.τ).loc Cert.FiltIdeal.main_arg0)
      ∧ m' ((c.tc : Thread Cert.FiltRefIdeal.nD Cert.FiltRefIdeal.τ).loc Cert.FiltRefIdeal.main_arg1) = m ((c.tc : Thread Cert.FiltIdeal.nD Cert.FiltIdeal.τ).loc Cert.FiltIdeal.main_arg1)) →
    ∃ (v0 : (c : Dev Cert.FiltIdeal.nD) → Buf (Elt Ideal) ((c.tc : Thread Cert.FiltIdeal.nD Cert.FiltIdeal.τ).loc Cert.FiltIdeal.main_v1)),
      θ_run (Cert.FiltIdeal.defs (F := Ideal)) (onTc (τ := Cert.FiltIdeal.τ) (Cert.FiltIdeal.main (F := Ideal))) ⟨m, fun _ => 0, g⟩ (fun r => ∀ c : Dev Cert.FiltIdeal.nD,
          r.2.mem ((c.tc : Thread Cert.FiltIdeal.nD Cert.FiltIdeal.τ).loc Cert.FiltIdeal.main_v1) = v0 c
          ∧ r.2.mem ((c.tc : Thread Cert.FiltIdeal.nD Cert.FiltIdeal.τ).loc Cert.FiltIdeal.main_arg0) = m ((c.tc : Thread Cert.FiltIdeal.nD Cert.FiltIdeal.τ).loc Cert.FiltIdeal.main_arg0)
          ∧ r.2.mem ((c.tc : Thread Cert.FiltIdeal.nD Cert.FiltIdeal.τ).loc Cert.FiltIdeal.main_arg1) = m ((c.tc : Thread Cert.FiltIdeal.nD Cert.FiltIdeal.τ).loc Cert.FiltIdeal.main_arg1))
      ∧ θ_run (Cert.FiltRefIdeal.defs (F := Ideal)) (onTc (τ := Cert.FiltRefIdeal.τ) (Cert.FiltRefIdeal.main (F := Ideal))) ⟨m', fun _ => 0, g'⟩ (fun r => ∀ c : Dev Cert.FiltRefIdeal.nD,
          r.2.mem ((c.tc : Thread Cert.FiltRefIdeal.nD Cert.FiltRefIdeal.τ).loc Cert.FiltRefIdeal.main_v2) = v0 c
          ∧ r.2.mem ((c.tc : Thread Cert.FiltRefIdeal.nD Cert.FiltRefIdeal.τ).loc Cert.FiltRefIdeal.main_arg0) = m' ((c.tc : Thread Cert.FiltRefIdeal.nD Cert.FiltRefIdeal.τ).loc Cert.FiltRefIdeal.main_arg0)
          ∧ r.2.mem ((c.tc : Thread Cert.FiltRefIdeal.nD Cert.FiltRefIdeal.τ).loc Cert.FiltRefIdeal.main_arg1) = m' ((c.tc : Thread Cert.FiltRefIdeal.nD Cert.FiltRefIdeal.τ).loc Cert.FiltRefIdeal.main_arg1))

def preserves_Fwd_FwdIdeal : Prop :=
  True

def algebraic_FwdIdeal_FwdRefIdeal [hFwdIdeal : Cert.FwdIdeal.Facts] [hFwdRefIdeal : Cert.FwdRefIdeal.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)
      ∧ m' ((c.tc : Thread Cert.FwdRefIdeal.nD Cert.FwdRefIdeal.τ).loc Cert.FwdRefIdeal.main_arg3) = m ((c.tc : Thread Cert.FwdIdeal.nD Cert.FwdIdeal.τ).loc Cert.FwdIdeal.main_arg3)) →
    ∃ (v0 : (c : Dev Cert.FwdIdeal.nD) → Buf (Elt Ideal) ((c.tc : Thread Cert.FwdIdeal.nD Cert.FwdIdeal.τ).loc Cert.FwdIdeal.main_v0_0)) (v1 : (c : Dev Cert.FwdIdeal.nD) → Buf (Elt Ideal) ((c.tc : Thread Cert.FwdIdeal.nD Cert.FwdIdeal.τ).loc Cert.FwdIdeal.main_v0_1)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v0_0) = v0 c
          ∧ r.2.mem ((c.tc : Thread Cert.FwdIdeal.nD Cert.FwdIdeal.τ).loc Cert.FwdIdeal.main_v0_1) = v1 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
          ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v32) = v0 c
          ∧ r.2.mem ((c.tc : Thread Cert.FwdRefIdeal.nD Cert.FwdRefIdeal.τ).loc Cert.FwdRefIdeal.main_v33) = v1 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2)
          ∧ r.2.mem ((c.tc : Thread Cert.FwdRefIdeal.nD Cert.FwdRefIdeal.τ).loc Cert.FwdRefIdeal.main_arg3) = m' ((c.tc : Thread Cert.FwdRefIdeal.nD Cert.FwdRefIdeal.τ).loc Cert.FwdRefIdeal.main_arg3))

def preserves_Inva_InvaIdeal : Prop :=
  True

def algebraic_InvaIdeal_InvaRefIdeal [hInvaIdeal : Cert.InvaIdeal.Facts] [hInvaRefIdeal : Cert.InvaRefIdeal.Facts] : Prop :=
  ∀ (m : (ℓ : Loc Cert.InvaIdeal.nD Cert.InvaIdeal.τ Cert.InvaIdeal.sig) → Buf (Elt Ideal) ℓ) (g : Dev Cert.InvaIdeal.nD → PrngReg)
    (m' : (ℓ : Loc Cert.InvaRefIdeal.nD Cert.InvaRefIdeal.τ Cert.InvaRefIdeal.sig) → Buf (Elt Ideal) ℓ) (g' : Dev Cert.InvaRefIdeal.nD → PrngReg), Pre_InvaIdeal m →
    (∀ c : Dev Cert.InvaIdeal.nD,
      m' ((c.tc : Thread Cert.InvaRefIdeal.nD Cert.InvaRefIdeal.τ).loc Cert.InvaRefIdeal.main_arg0) = m ((c.tc : Thread Cert.InvaIdeal.nD Cert.InvaIdeal.τ).loc Cert.InvaIdeal.main_arg0)
      ∧ m' ((c.tc : Thread Cert.InvaRefIdeal.nD Cert.InvaRefIdeal.τ).loc Cert.InvaRefIdeal.main_arg1) = m ((c.tc : Thread Cert.InvaIdeal.nD Cert.InvaIdeal.τ).loc Cert.InvaIdeal.main_arg1)
      ∧ m' ((c.tc : Thread Cert.InvaRefIdeal.nD Cert.InvaRefIdeal.τ).loc Cert.InvaRefIdeal.main_arg2) = m ((c.tc : Thread Cert.InvaIdeal.nD Cert.InvaIdeal.τ).loc Cert.InvaIdeal.main_arg2)
      ∧ m' ((c.tc : Thread Cert.InvaRefIdeal.nD Cert.InvaRefIdeal.τ).loc Cert.InvaRefIdeal.main_arg3) = m ((c.tc : Thread Cert.InvaIdeal.nD Cert.InvaIdeal.τ).loc Cert.InvaIdeal.main_arg3)
      ∧ m' ((c.tc : Thread Cert.InvaRefIdeal.nD Cert.InvaRefIdeal.τ).loc Cert.InvaRefIdeal.main_arg4) = m ((c.tc : Thread Cert.InvaIdeal.nD Cert.InvaIdeal.τ).loc Cert.InvaIdeal.main_arg4)) →
    ∃ (v0 : (c : Dev Cert.InvaIdeal.nD) → Buf (Elt Ideal) ((c.tc : Thread Cert.InvaIdeal.nD Cert.InvaIdeal.τ).loc Cert.InvaIdeal.main_v1_0)) (v1 : (c : Dev Cert.InvaIdeal.nD) → Buf (Elt Ideal) ((c.tc : Thread Cert.InvaIdeal.nD Cert.InvaIdeal.τ).loc Cert.InvaIdeal.main_v1_1)),
      θ_run (Cert.InvaIdeal.defs (F := Ideal)) (onTc (τ := Cert.InvaIdeal.τ) (Cert.InvaIdeal.main (F := Ideal))) ⟨m, fun _ => 0, g⟩ (fun r => ∀ c : Dev Cert.InvaIdeal.nD,
          r.2.mem ((c.tc : Thread Cert.InvaIdeal.nD Cert.InvaIdeal.τ).loc Cert.InvaIdeal.main_v1_0) = v0 c
          ∧ r.2.mem ((c.tc : Thread Cert.InvaIdeal.nD Cert.InvaIdeal.τ).loc Cert.InvaIdeal.main_v1_1) = v1 c
          ∧ r.2.mem ((c.tc : Thread Cert.InvaIdeal.nD Cert.InvaIdeal.τ).loc Cert.InvaIdeal.main_arg0) = m ((c.tc : Thread Cert.InvaIdeal.nD Cert.InvaIdeal.τ).loc Cert.InvaIdeal.main_arg0)
          ∧ r.2.mem ((c.tc : Thread Cert.InvaIdeal.nD Cert.InvaIdeal.τ).loc Cert.InvaIdeal.main_arg1) = m ((c.tc : Thread Cert.InvaIdeal.nD Cert.InvaIdeal.τ).loc Cert.InvaIdeal.main_arg1)
          ∧ r.2.mem ((c.tc : Thread Cert.InvaIdeal.nD Cert.InvaIdeal.τ).loc Cert.InvaIdeal.main_arg2) = m ((c.tc : Thread Cert.InvaIdeal.nD Cert.InvaIdeal.τ).loc Cert.InvaIdeal.main_arg2)
          ∧ r.2.mem ((c.tc : Thread Cert.InvaIdeal.nD Cert.InvaIdeal.τ).loc Cert.InvaIdeal.main_arg3) = m ((c.tc : Thread Cert.InvaIdeal.nD Cert.InvaIdeal.τ).loc Cert.InvaIdeal.main_arg3)
          ∧ r.2.mem ((c.tc : Thread Cert.InvaIdeal.nD Cert.InvaIdeal.τ).loc Cert.InvaIdeal.main_arg4) = m ((c.tc : Thread Cert.InvaIdeal.nD Cert.InvaIdeal.τ).loc Cert.InvaIdeal.main_arg4))
      ∧ θ_run (Cert.InvaRefIdeal.defs (F := Ideal)) (onTc (τ := Cert.InvaRefIdeal.τ) (Cert.InvaRefIdeal.main (F := Ideal))) ⟨m', fun _ => 0, g'⟩ (fun r => ∀ c : Dev Cert.InvaRefIdeal.nD,
          r.2.mem ((c.tc : Thread Cert.InvaRefIdeal.nD Cert.InvaRefIdeal.τ).loc Cert.InvaRefIdeal.main_v12) = v0 c
          ∧ r.2.mem ((c.tc : Thread Cert.InvaRefIdeal.nD Cert.InvaRefIdeal.τ).loc Cert.InvaRefIdeal.main_v13) = v1 c
          ∧ r.2.mem ((c.tc : Thread Cert.InvaRefIdeal.nD Cert.InvaRefIdeal.τ).loc Cert.InvaRefIdeal.main_arg0) = m' ((c.tc : Thread Cert.InvaRefIdeal.nD Cert.InvaRefIdeal.τ).loc Cert.InvaRefIdeal.main_arg0)
          ∧ r.2.mem ((c.tc : Thread Cert.InvaRefIdeal.nD Cert.InvaRefIdeal.τ).loc Cert.InvaRefIdeal.main_arg1) = m' ((c.tc : Thread Cert.InvaRefIdeal.nD Cert.InvaRefIdeal.τ).loc Cert.InvaRefIdeal.main_arg1)
          ∧ r.2.mem ((c.tc : Thread Cert.InvaRefIdeal.nD Cert.InvaRefIdeal.τ).loc Cert.InvaRefIdeal.main_arg2) = m' ((c.tc : Thread Cert.InvaRefIdeal.nD Cert.InvaRefIdeal.τ).loc Cert.InvaRefIdeal.main_arg2)
          ∧ r.2.mem ((c.tc : Thread Cert.InvaRefIdeal.nD Cert.InvaRefIdeal.τ).loc Cert.InvaRefIdeal.main_arg3) = m' ((c.tc : Thread Cert.InvaRefIdeal.nD Cert.InvaRefIdeal.τ).loc Cert.InvaRefIdeal.main_arg3)
          ∧ r.2.mem ((c.tc : Thread Cert.InvaRefIdeal.nD Cert.InvaRefIdeal.τ).loc Cert.InvaRefIdeal.main_arg4) = m' ((c.tc : Thread Cert.InvaRefIdeal.nD Cert.InvaRefIdeal.τ).loc Cert.InvaRefIdeal.main_arg4))

def preserves_Invb_InvbIdeal : Prop :=
  True

def algebraic_InvbIdeal_InvbRefIdeal [hInvbIdeal : Cert.InvbIdeal.Facts] [hInvbRefIdeal : Cert.InvbRefIdeal.Facts] : Prop :=
  ∀ (m : (ℓ : Loc Cert.InvbIdeal.nD Cert.InvbIdeal.τ Cert.InvbIdeal.sig) → Buf (Elt Ideal) ℓ) (g : Dev Cert.InvbIdeal.nD → PrngReg)
    (m' : (ℓ : Loc Cert.InvbRefIdeal.nD Cert.InvbRefIdeal.τ Cert.InvbRefIdeal.sig) → Buf (Elt Ideal) ℓ) (g' : Dev Cert.InvbRefIdeal.nD → PrngReg), Pre_InvbIdeal m →
    (∀ c : Dev Cert.InvbIdeal.nD,
      m' ((c.tc : Thread Cert.InvbRefIdeal.nD Cert.InvbRefIdeal.τ).loc Cert.InvbRefIdeal.main_arg0) = m ((c.tc : Thread Cert.InvbIdeal.nD Cert.InvbIdeal.τ).loc Cert.InvbIdeal.main_arg0)
      ∧ m' ((c.tc : Thread Cert.InvbRefIdeal.nD Cert.InvbRefIdeal.τ).loc Cert.InvbRefIdeal.main_arg1) = m ((c.tc : Thread Cert.InvbIdeal.nD Cert.InvbIdeal.τ).loc Cert.InvbIdeal.main_arg1)
      ∧ m' ((c.tc : Thread Cert.InvbRefIdeal.nD Cert.InvbRefIdeal.τ).loc Cert.InvbRefIdeal.main_arg2) = m ((c.tc : Thread Cert.InvbIdeal.nD Cert.InvbIdeal.τ).loc Cert.InvbIdeal.main_arg2)
      ∧ m' ((c.tc : Thread Cert.InvbRefIdeal.nD Cert.InvbRefIdeal.τ).loc Cert.InvbRefIdeal.main_arg3) = m ((c.tc : Thread Cert.InvbIdeal.nD Cert.InvbIdeal.τ).loc Cert.InvbIdeal.main_arg3)
      ∧ m' ((c.tc : Thread Cert.InvbRefIdeal.nD Cert.InvbRefIdeal.τ).loc Cert.InvbRefIdeal.main_arg4) = m ((c.tc : Thread Cert.InvbIdeal.nD Cert.InvbIdeal.τ).loc Cert.InvbIdeal.main_arg4)
      ∧ m' ((c.tc : Thread Cert.InvbRefIdeal.nD Cert.InvbRefIdeal.τ).loc Cert.InvbRefIdeal.main_arg5) = m ((c.tc : Thread Cert.InvbIdeal.nD Cert.InvbIdeal.τ).loc Cert.InvbIdeal.main_arg5)) →
    ∃ (v0 : (c : Dev Cert.InvbIdeal.nD) → Buf (Elt Ideal) ((c.tc : Thread Cert.InvbIdeal.nD Cert.InvbIdeal.τ).loc Cert.InvbIdeal.main_v1)),
      θ_run (Cert.InvbIdeal.defs (F := Ideal)) (onTc (τ := Cert.InvbIdeal.τ) (Cert.InvbIdeal.main (F := Ideal))) ⟨m, fun _ => 0, g⟩ (fun r => ∀ c : Dev Cert.InvbIdeal.nD,
          r.2.mem ((c.tc : Thread Cert.InvbIdeal.nD Cert.InvbIdeal.τ).loc Cert.InvbIdeal.main_v1) = v0 c
          ∧ r.2.mem ((c.tc : Thread Cert.InvbIdeal.nD Cert.InvbIdeal.τ).loc Cert.InvbIdeal.main_arg0) = m ((c.tc : Thread Cert.InvbIdeal.nD Cert.InvbIdeal.τ).loc Cert.InvbIdeal.main_arg0)
          ∧ r.2.mem ((c.tc : Thread Cert.InvbIdeal.nD Cert.InvbIdeal.τ).loc Cert.InvbIdeal.main_arg1) = m ((c.tc : Thread Cert.InvbIdeal.nD Cert.InvbIdeal.τ).loc Cert.InvbIdeal.main_arg1)
          ∧ r.2.mem ((c.tc : Thread Cert.InvbIdeal.nD Cert.InvbIdeal.τ).loc Cert.InvbIdeal.main_arg2) = m ((c.tc : Thread Cert.InvbIdeal.nD Cert.InvbIdeal.τ).loc Cert.InvbIdeal.main_arg2)
          ∧ r.2.mem ((c.tc : Thread Cert.InvbIdeal.nD Cert.InvbIdeal.τ).loc Cert.InvbIdeal.main_arg3) = m ((c.tc : Thread Cert.InvbIdeal.nD Cert.InvbIdeal.τ).loc Cert.InvbIdeal.main_arg3)
          ∧ r.2.mem ((c.tc : Thread Cert.InvbIdeal.nD Cert.InvbIdeal.τ).loc Cert.InvbIdeal.main_arg4) = m ((c.tc : Thread Cert.InvbIdeal.nD Cert.InvbIdeal.τ).loc Cert.InvbIdeal.main_arg4)
          ∧ r.2.mem ((c.tc : Thread Cert.InvbIdeal.nD Cert.InvbIdeal.τ).loc Cert.InvbIdeal.main_arg5) = m ((c.tc : Thread Cert.InvbIdeal.nD Cert.InvbIdeal.τ).loc Cert.InvbIdeal.main_arg5))
      ∧ θ_run (Cert.InvbRefIdeal.defs (F := Ideal)) (onTc (τ := Cert.InvbRefIdeal.τ) (Cert.InvbRefIdeal.main (F := Ideal))) ⟨m', fun _ => 0, g'⟩ (fun r => ∀ c : Dev Cert.InvbRefIdeal.nD,
          r.2.mem ((c.tc : Thread Cert.InvbRefIdeal.nD Cert.InvbRefIdeal.τ).loc Cert.InvbRefIdeal.main_v13) = v0 c
          ∧ r.2.mem ((c.tc : Thread Cert.InvbRefIdeal.nD Cert.InvbRefIdeal.τ).loc Cert.InvbRefIdeal.main_arg0) = m' ((c.tc : Thread Cert.InvbRefIdeal.nD Cert.InvbRefIdeal.τ).loc Cert.InvbRefIdeal.main_arg0)
          ∧ r.2.mem ((c.tc : Thread Cert.InvbRefIdeal.nD Cert.InvbRefIdeal.τ).loc Cert.InvbRefIdeal.main_arg1) = m' ((c.tc : Thread Cert.InvbRefIdeal.nD Cert.InvbRefIdeal.τ).loc Cert.InvbRefIdeal.main_arg1)
          ∧ r.2.mem ((c.tc : Thread Cert.InvbRefIdeal.nD Cert.InvbRefIdeal.τ).loc Cert.InvbRefIdeal.main_arg2) = m' ((c.tc : Thread Cert.InvbRefIdeal.nD Cert.InvbRefIdeal.τ).loc Cert.InvbRefIdeal.main_arg2)
          ∧ r.2.mem ((c.tc : Thread Cert.InvbRefIdeal.nD Cert.InvbRefIdeal.τ).loc Cert.InvbRefIdeal.main_arg3) = m' ((c.tc : Thread Cert.InvbRefIdeal.nD Cert.InvbRefIdeal.τ).loc Cert.InvbRefIdeal.main_arg3)
          ∧ r.2.mem ((c.tc : Thread Cert.InvbRefIdeal.nD Cert.InvbRefIdeal.τ).loc Cert.InvbRefIdeal.main_arg4) = m' ((c.tc : Thread Cert.InvbRefIdeal.nD Cert.InvbRefIdeal.τ).loc Cert.InvbRefIdeal.main_arg4)
          ∧ r.2.mem ((c.tc : Thread Cert.InvbRefIdeal.nD Cert.InvbRefIdeal.τ).loc Cert.InvbRefIdeal.main_arg5) = m' ((c.tc : Thread Cert.InvbRefIdeal.nD Cert.InvbRefIdeal.τ).loc Cert.InvbRefIdeal.main_arg5))

def preserves_Modu_ModuIdeal : Prop :=
  True

def algebraic_ModuIdeal_ModuRefIdeal [hModuIdeal : Cert.ModuIdeal.Facts] [hModuRefIdeal : Cert.ModuRefIdeal.Facts] : Prop :=
  ∀ (m : (ℓ : Loc Cert.ModuIdeal.nD Cert.ModuIdeal.τ Cert.ModuIdeal.sig) → Buf (Elt Ideal) ℓ) (g : Dev Cert.ModuIdeal.nD → PrngReg)
    (m' : (ℓ : Loc Cert.ModuRefIdeal.nD Cert.ModuRefIdeal.τ Cert.ModuRefIdeal.sig) → Buf (Elt Ideal) ℓ) (g' : Dev Cert.ModuRefIdeal.nD → PrngReg), Pre_ModuIdeal m →
    (∀ c : Dev Cert.ModuIdeal.nD,
      m' ((c.tc : Thread Cert.ModuRefIdeal.nD Cert.ModuRefIdeal.τ).loc Cert.ModuRefIdeal.main_arg0) = m ((c.tc : Thread Cert.ModuIdeal.nD Cert.ModuIdeal.τ).loc Cert.ModuIdeal.main_arg0)
      ∧ m' ((c.tc : Thread Cert.ModuRefIdeal.nD Cert.ModuRefIdeal.τ).loc Cert.ModuRefIdeal.main_arg1) = m ((c.tc : Thread Cert.ModuIdeal.nD Cert.ModuIdeal.τ).loc Cert.ModuIdeal.main_arg1)) →
    ∃ (v0 : (c : Dev Cert.ModuIdeal.nD) → Buf (Elt Ideal) ((c.tc : Thread Cert.ModuIdeal.nD Cert.ModuIdeal.τ).loc Cert.ModuIdeal.main_v0)),
      θ_run (Cert.ModuIdeal.defs (F := Ideal)) (onTc (τ := Cert.ModuIdeal.τ) (Cert.ModuIdeal.main (F := Ideal))) ⟨m, fun _ => 0, g⟩ (fun r => ∀ c : Dev Cert.ModuIdeal.nD,
          r.2.mem ((c.tc : Thread Cert.ModuIdeal.nD Cert.ModuIdeal.τ).loc Cert.ModuIdeal.main_v0) = v0 c
          ∧ r.2.mem ((c.tc : Thread Cert.ModuIdeal.nD Cert.ModuIdeal.τ).loc Cert.ModuIdeal.main_arg0) = m ((c.tc : Thread Cert.ModuIdeal.nD Cert.ModuIdeal.τ).loc Cert.ModuIdeal.main_arg0)
          ∧ r.2.mem ((c.tc : Thread Cert.ModuIdeal.nD Cert.ModuIdeal.τ).loc Cert.ModuIdeal.main_arg1) = m ((c.tc : Thread Cert.ModuIdeal.nD Cert.ModuIdeal.τ).loc Cert.ModuIdeal.main_arg1))
      ∧ θ_run (Cert.ModuRefIdeal.defs (F := Ideal)) (onTc (τ := Cert.ModuRefIdeal.τ) (Cert.ModuRefIdeal.main (F := Ideal))) ⟨m', fun _ => 0, g'⟩ (fun r => ∀ c : Dev Cert.ModuRefIdeal.nD,
          r.2.mem ((c.tc : Thread Cert.ModuRefIdeal.nD Cert.ModuRefIdeal.τ).loc Cert.ModuRefIdeal.main_v22) = v0 c
          ∧ r.2.mem ((c.tc : Thread Cert.ModuRefIdeal.nD Cert.ModuRefIdeal.τ).loc Cert.ModuRefIdeal.main_arg0) = m' ((c.tc : Thread Cert.ModuRefIdeal.nD Cert.ModuRefIdeal.τ).loc Cert.ModuRefIdeal.main_arg0)
          ∧ r.2.mem ((c.tc : Thread Cert.ModuRefIdeal.nD Cert.ModuRefIdeal.τ).loc Cert.ModuRefIdeal.main_arg1) = m' ((c.tc : Thread Cert.ModuRefIdeal.nD Cert.ModuRefIdeal.τ).loc Cert.ModuRefIdeal.main_arg1))

def preserves_Lna_LnaIdeal : Prop :=
  True

def algebraic_LnaIdeal_LnaRefIdeal [hLnaIdeal : Cert.LnaIdeal.Facts] [hLnaRefIdeal : Cert.LnaRefIdeal.Facts] : Prop :=
  ∀ (m : (ℓ : Loc Cert.LnaIdeal.nD Cert.LnaIdeal.τ Cert.LnaIdeal.sig) → Buf (Elt Ideal) ℓ) (g : Dev Cert.LnaIdeal.nD → PrngReg)
    (m' : (ℓ : Loc Cert.LnaRefIdeal.nD Cert.LnaRefIdeal.τ Cert.LnaRefIdeal.sig) → Buf (Elt Ideal) ℓ) (g' : Dev Cert.LnaRefIdeal.nD → PrngReg), Pre_LnaIdeal m →
    (∀ c : Dev Cert.LnaIdeal.nD,
      m' ((c.tc : Thread Cert.LnaRefIdeal.nD Cert.LnaRefIdeal.τ).loc Cert.LnaRefIdeal.main_arg0) = m ((c.tc : Thread Cert.LnaIdeal.nD Cert.LnaIdeal.τ).loc Cert.LnaIdeal.main_arg0)
      ∧ m' ((c.tc : Thread Cert.LnaRefIdeal.nD Cert.LnaRefIdeal.τ).loc Cert.LnaRefIdeal.main_arg1) = m ((c.tc : Thread Cert.LnaIdeal.nD Cert.LnaIdeal.τ).loc Cert.LnaIdeal.main_arg1)
      ∧ m' ((c.tc : Thread Cert.LnaRefIdeal.nD Cert.LnaRefIdeal.τ).loc Cert.LnaRefIdeal.main_arg2) = m ((c.tc : Thread Cert.LnaIdeal.nD Cert.LnaIdeal.τ).loc Cert.LnaIdeal.main_arg2)
      ∧ m' ((c.tc : Thread Cert.LnaRefIdeal.nD Cert.LnaRefIdeal.τ).loc Cert.LnaRefIdeal.main_arg3) = m ((c.tc : Thread Cert.LnaIdeal.nD Cert.LnaIdeal.τ).loc Cert.LnaIdeal.main_arg3)
      ∧ m' ((c.tc : Thread Cert.LnaRefIdeal.nD Cert.LnaRefIdeal.τ).loc Cert.LnaRefIdeal.main_arg4) = m ((c.tc : Thread Cert.LnaIdeal.nD Cert.LnaIdeal.τ).loc Cert.LnaIdeal.main_arg4)) →
    ∃ (v0 : (c : Dev Cert.LnaIdeal.nD) → Buf (Elt Ideal) ((c.tc : Thread Cert.LnaIdeal.nD Cert.LnaIdeal.τ).loc Cert.LnaIdeal.main_v2_0)) (v1 : (c : Dev Cert.LnaIdeal.nD) → Buf (Elt Ideal) ((c.tc : Thread Cert.LnaIdeal.nD Cert.LnaIdeal.τ).loc Cert.LnaIdeal.main_v2_1)),
      θ_run (Cert.LnaIdeal.defs (F := Ideal)) (onTc (τ := Cert.LnaIdeal.τ) (Cert.LnaIdeal.main (F := Ideal))) ⟨m, fun _ => 0, g⟩ (fun r => ∀ c : Dev Cert.LnaIdeal.nD,
          r.2.mem ((c.tc : Thread Cert.LnaIdeal.nD Cert.LnaIdeal.τ).loc Cert.LnaIdeal.main_v2_0) = v0 c
          ∧ r.2.mem ((c.tc : Thread Cert.LnaIdeal.nD Cert.LnaIdeal.τ).loc Cert.LnaIdeal.main_v2_1) = v1 c
          ∧ r.2.mem ((c.tc : Thread Cert.LnaIdeal.nD Cert.LnaIdeal.τ).loc Cert.LnaIdeal.main_arg0) = m ((c.tc : Thread Cert.LnaIdeal.nD Cert.LnaIdeal.τ).loc Cert.LnaIdeal.main_arg0)
          ∧ r.2.mem ((c.tc : Thread Cert.LnaIdeal.nD Cert.LnaIdeal.τ).loc Cert.LnaIdeal.main_arg1) = m ((c.tc : Thread Cert.LnaIdeal.nD Cert.LnaIdeal.τ).loc Cert.LnaIdeal.main_arg1)
          ∧ r.2.mem ((c.tc : Thread Cert.LnaIdeal.nD Cert.LnaIdeal.τ).loc Cert.LnaIdeal.main_arg2) = m ((c.tc : Thread Cert.LnaIdeal.nD Cert.LnaIdeal.τ).loc Cert.LnaIdeal.main_arg2)
          ∧ r.2.mem ((c.tc : Thread Cert.LnaIdeal.nD Cert.LnaIdeal.τ).loc Cert.LnaIdeal.main_arg3) = m ((c.tc : Thread Cert.LnaIdeal.nD Cert.LnaIdeal.τ).loc Cert.LnaIdeal.main_arg3)
          ∧ r.2.mem ((c.tc : Thread Cert.LnaIdeal.nD Cert.LnaIdeal.τ).loc Cert.LnaIdeal.main_arg4) = m ((c.tc : Thread Cert.LnaIdeal.nD Cert.LnaIdeal.τ).loc Cert.LnaIdeal.main_arg4))
      ∧ θ_run (Cert.LnaRefIdeal.defs (F := Ideal)) (onTc (τ := Cert.LnaRefIdeal.τ) (Cert.LnaRefIdeal.main (F := Ideal))) ⟨m', fun _ => 0, g'⟩ (fun r => ∀ c : Dev Cert.LnaRefIdeal.nD,
          r.2.mem ((c.tc : Thread Cert.LnaRefIdeal.nD Cert.LnaRefIdeal.τ).loc Cert.LnaRefIdeal.main_v36) = v0 c
          ∧ r.2.mem ((c.tc : Thread Cert.LnaRefIdeal.nD Cert.LnaRefIdeal.τ).loc Cert.LnaRefIdeal.main_v58) = v1 c
          ∧ r.2.mem ((c.tc : Thread Cert.LnaRefIdeal.nD Cert.LnaRefIdeal.τ).loc Cert.LnaRefIdeal.main_arg0) = m' ((c.tc : Thread Cert.LnaRefIdeal.nD Cert.LnaRefIdeal.τ).loc Cert.LnaRefIdeal.main_arg0)
          ∧ r.2.mem ((c.tc : Thread Cert.LnaRefIdeal.nD Cert.LnaRefIdeal.τ).loc Cert.LnaRefIdeal.main_arg1) = m' ((c.tc : Thread Cert.LnaRefIdeal.nD Cert.LnaRefIdeal.τ).loc Cert.LnaRefIdeal.main_arg1)
          ∧ r.2.mem ((c.tc : Thread Cert.LnaRefIdeal.nD Cert.LnaRefIdeal.τ).loc Cert.LnaRefIdeal.main_arg2) = m' ((c.tc : Thread Cert.LnaRefIdeal.nD Cert.LnaRefIdeal.τ).loc Cert.LnaRefIdeal.main_arg2)
          ∧ r.2.mem ((c.tc : Thread Cert.LnaRefIdeal.nD Cert.LnaRefIdeal.τ).loc Cert.LnaRefIdeal.main_arg3) = m' ((c.tc : Thread Cert.LnaRefIdeal.nD Cert.LnaRefIdeal.τ).loc Cert.LnaRefIdeal.main_arg3)
          ∧ r.2.mem ((c.tc : Thread Cert.LnaRefIdeal.nD Cert.LnaRefIdeal.τ).loc Cert.LnaRefIdeal.main_arg4) = m' ((c.tc : Thread Cert.LnaRefIdeal.nD Cert.LnaRefIdeal.τ).loc Cert.LnaRefIdeal.main_arg4))

def preserves_Lnb_LnbIdeal : Prop :=
  True

def algebraic_LnbIdeal_LnbRefIdeal [hLnbIdeal : Cert.LnbIdeal.Facts] [hLnbRefIdeal : Cert.LnbRefIdeal.Facts] : Prop :=
  ∀ (m : (ℓ : Loc Cert.LnbIdeal.nD Cert.LnbIdeal.τ Cert.LnbIdeal.sig) → Buf (Elt Ideal) ℓ) (g : Dev Cert.LnbIdeal.nD → PrngReg)
    (m' : (ℓ : Loc Cert.LnbRefIdeal.nD Cert.LnbRefIdeal.τ Cert.LnbRefIdeal.sig) → Buf (Elt Ideal) ℓ) (g' : Dev Cert.LnbRefIdeal.nD → PrngReg), Pre_LnbIdeal m →
    (∀ c : Dev Cert.LnbIdeal.nD,
      m' ((c.tc : Thread Cert.LnbRefIdeal.nD Cert.LnbRefIdeal.τ).loc Cert.LnbRefIdeal.main_arg0) = m ((c.tc : Thread Cert.LnbIdeal.nD Cert.LnbIdeal.τ).loc Cert.LnbIdeal.main_arg0)
      ∧ m' ((c.tc : Thread Cert.LnbRefIdeal.nD Cert.LnbRefIdeal.τ).loc Cert.LnbRefIdeal.main_arg1) = m ((c.tc : Thread Cert.LnbIdeal.nD Cert.LnbIdeal.τ).loc Cert.LnbIdeal.main_arg1)
      ∧ m' ((c.tc : Thread Cert.LnbRefIdeal.nD Cert.LnbRefIdeal.τ).loc Cert.LnbRefIdeal.main_arg2) = m ((c.tc : Thread Cert.LnbIdeal.nD Cert.LnbIdeal.τ).loc Cert.LnbIdeal.main_arg2)
      ∧ m' ((c.tc : Thread Cert.LnbRefIdeal.nD Cert.LnbRefIdeal.τ).loc Cert.LnbRefIdeal.main_arg3) = m ((c.tc : Thread Cert.LnbIdeal.nD Cert.LnbIdeal.τ).loc Cert.LnbIdeal.main_arg3)
      ∧ m' ((c.tc : Thread Cert.LnbRefIdeal.nD Cert.LnbRefIdeal.τ).loc Cert.LnbRefIdeal.main_arg4) = m ((c.tc : Thread Cert.LnbIdeal.nD Cert.LnbIdeal.τ).loc Cert.LnbIdeal.main_arg4)
      ∧ m' ((c.tc : Thread Cert.LnbRefIdeal.nD Cert.LnbRefIdeal.τ).loc Cert.LnbRefIdeal.main_arg5) = m ((c.tc : Thread Cert.LnbIdeal.nD Cert.LnbIdeal.τ).loc Cert.LnbIdeal.main_arg5)) →
    ∃ (v0 : (c : Dev Cert.LnbIdeal.nD) → Buf (Elt Ideal) ((c.tc : Thread Cert.LnbIdeal.nD Cert.LnbIdeal.τ).loc Cert.LnbIdeal.main_v2_0)) (v1 : (c : Dev Cert.LnbIdeal.nD) → Buf (Elt Ideal) ((c.tc : Thread Cert.LnbIdeal.nD Cert.LnbIdeal.τ).loc Cert.LnbIdeal.main_v2_1)),
      θ_run (Cert.LnbIdeal.defs (F := Ideal)) (onTc (τ := Cert.LnbIdeal.τ) (Cert.LnbIdeal.main (F := Ideal))) ⟨m, fun _ => 0, g⟩ (fun r => ∀ c : Dev Cert.LnbIdeal.nD,
          r.2.mem ((c.tc : Thread Cert.LnbIdeal.nD Cert.LnbIdeal.τ).loc Cert.LnbIdeal.main_v2_0) = v0 c
          ∧ r.2.mem ((c.tc : Thread Cert.LnbIdeal.nD Cert.LnbIdeal.τ).loc Cert.LnbIdeal.main_v2_1) = v1 c
          ∧ r.2.mem ((c.tc : Thread Cert.LnbIdeal.nD Cert.LnbIdeal.τ).loc Cert.LnbIdeal.main_arg0) = m ((c.tc : Thread Cert.LnbIdeal.nD Cert.LnbIdeal.τ).loc Cert.LnbIdeal.main_arg0)
          ∧ r.2.mem ((c.tc : Thread Cert.LnbIdeal.nD Cert.LnbIdeal.τ).loc Cert.LnbIdeal.main_arg1) = m ((c.tc : Thread Cert.LnbIdeal.nD Cert.LnbIdeal.τ).loc Cert.LnbIdeal.main_arg1)
          ∧ r.2.mem ((c.tc : Thread Cert.LnbIdeal.nD Cert.LnbIdeal.τ).loc Cert.LnbIdeal.main_arg2) = m ((c.tc : Thread Cert.LnbIdeal.nD Cert.LnbIdeal.τ).loc Cert.LnbIdeal.main_arg2)
          ∧ r.2.mem ((c.tc : Thread Cert.LnbIdeal.nD Cert.LnbIdeal.τ).loc Cert.LnbIdeal.main_arg3) = m ((c.tc : Thread Cert.LnbIdeal.nD Cert.LnbIdeal.τ).loc Cert.LnbIdeal.main_arg3)
          ∧ r.2.mem ((c.tc : Thread Cert.LnbIdeal.nD Cert.LnbIdeal.τ).loc Cert.LnbIdeal.main_arg4) = m ((c.tc : Thread Cert.LnbIdeal.nD Cert.LnbIdeal.τ).loc Cert.LnbIdeal.main_arg4)
          ∧ r.2.mem ((c.tc : Thread Cert.LnbIdeal.nD Cert.LnbIdeal.τ).loc Cert.LnbIdeal.main_arg5) = m ((c.tc : Thread Cert.LnbIdeal.nD Cert.LnbIdeal.τ).loc Cert.LnbIdeal.main_arg5))
      ∧ θ_run (Cert.LnbRefIdeal.defs (F := Ideal)) (onTc (τ := Cert.LnbRefIdeal.τ) (Cert.LnbRefIdeal.main (F := Ideal))) ⟨m', fun _ => 0, g'⟩ (fun r => ∀ c : Dev Cert.LnbRefIdeal.nD,
          r.2.mem ((c.tc : Thread Cert.LnbRefIdeal.nD Cert.LnbRefIdeal.τ).loc Cert.LnbRefIdeal.main_v36) = v0 c
          ∧ r.2.mem ((c.tc : Thread Cert.LnbRefIdeal.nD Cert.LnbRefIdeal.τ).loc Cert.LnbRefIdeal.main_v59) = v1 c
          ∧ r.2.mem ((c.tc : Thread Cert.LnbRefIdeal.nD Cert.LnbRefIdeal.τ).loc Cert.LnbRefIdeal.main_arg0) = m' ((c.tc : Thread Cert.LnbRefIdeal.nD Cert.LnbRefIdeal.τ).loc Cert.LnbRefIdeal.main_arg0)
          ∧ r.2.mem ((c.tc : Thread Cert.LnbRefIdeal.nD Cert.LnbRefIdeal.τ).loc Cert.LnbRefIdeal.main_arg1) = m' ((c.tc : Thread Cert.LnbRefIdeal.nD Cert.LnbRefIdeal.τ).loc Cert.LnbRefIdeal.main_arg1)
          ∧ r.2.mem ((c.tc : Thread Cert.LnbRefIdeal.nD Cert.LnbRefIdeal.τ).loc Cert.LnbRefIdeal.main_arg2) = m' ((c.tc : Thread Cert.LnbRefIdeal.nD Cert.LnbRefIdeal.τ).loc Cert.LnbRefIdeal.main_arg2)
          ∧ r.2.mem ((c.tc : Thread Cert.LnbRefIdeal.nD Cert.LnbRefIdeal.τ).loc Cert.LnbRefIdeal.main_arg3) = m' ((c.tc : Thread Cert.LnbRefIdeal.nD Cert.LnbRefIdeal.τ).loc Cert.LnbRefIdeal.main_arg3)
          ∧ r.2.mem ((c.tc : Thread Cert.LnbRefIdeal.nD Cert.LnbRefIdeal.τ).loc Cert.LnbRefIdeal.main_arg4) = m' ((c.tc : Thread Cert.LnbRefIdeal.nD Cert.LnbRefIdeal.τ).loc Cert.LnbRefIdeal.main_arg4)
          ∧ r.2.mem ((c.tc : Thread Cert.LnbRefIdeal.nD Cert.LnbRefIdeal.τ).loc Cert.LnbRefIdeal.main_arg5) = m' ((c.tc : Thread Cert.LnbRefIdeal.nD Cert.LnbRefIdeal.τ).loc Cert.LnbRefIdeal.main_arg5))

def preserves_Lnc_LncIdeal : Prop :=
  True

def algebraic_LncIdeal_LncRefIdeal [hLncIdeal : Cert.LncIdeal.Facts] [hLncRefIdeal : Cert.LncRefIdeal.Facts] : Prop :=
  ∀ (m : (ℓ : Loc Cert.LncIdeal.nD Cert.LncIdeal.τ Cert.LncIdeal.sig) → Buf (Elt Ideal) ℓ) (g : Dev Cert.LncIdeal.nD → PrngReg)
    (m' : (ℓ : Loc Cert.LncRefIdeal.nD Cert.LncRefIdeal.τ Cert.LncRefIdeal.sig) → Buf (Elt Ideal) ℓ) (g' : Dev Cert.LncRefIdeal.nD → PrngReg), Pre_LncIdeal m →
    (∀ c : Dev Cert.LncIdeal.nD,
      m' ((c.tc : Thread Cert.LncRefIdeal.nD Cert.LncRefIdeal.τ).loc Cert.LncRefIdeal.main_arg0) = m ((c.tc : Thread Cert.LncIdeal.nD Cert.LncIdeal.τ).loc Cert.LncIdeal.main_arg0)
      ∧ m' ((c.tc : Thread Cert.LncRefIdeal.nD Cert.LncRefIdeal.τ).loc Cert.LncRefIdeal.main_arg1) = m ((c.tc : Thread Cert.LncIdeal.nD Cert.LncIdeal.τ).loc Cert.LncIdeal.main_arg1)
      ∧ m' ((c.tc : Thread Cert.LncRefIdeal.nD Cert.LncRefIdeal.τ).loc Cert.LncRefIdeal.main_arg2) = m ((c.tc : Thread Cert.LncIdeal.nD Cert.LncIdeal.τ).loc Cert.LncIdeal.main_arg2)
      ∧ m' ((c.tc : Thread Cert.LncRefIdeal.nD Cert.LncRefIdeal.τ).loc Cert.LncRefIdeal.main_arg3) = m ((c.tc : Thread Cert.LncIdeal.nD Cert.LncIdeal.τ).loc Cert.LncIdeal.main_arg3)
      ∧ m' ((c.tc : Thread Cert.LncRefIdeal.nD Cert.LncRefIdeal.τ).loc Cert.LncRefIdeal.main_arg4) = m ((c.tc : Thread Cert.LncIdeal.nD Cert.LncIdeal.τ).loc Cert.LncIdeal.main_arg4)) →
    ∃ (v0 : (c : Dev Cert.LncIdeal.nD) → Buf (Elt Ideal) ((c.tc : Thread Cert.LncIdeal.nD Cert.LncIdeal.τ).loc Cert.LncIdeal.main_v2)),
      θ_run (Cert.LncIdeal.defs (F := Ideal)) (onTc (τ := Cert.LncIdeal.τ) (Cert.LncIdeal.main (F := Ideal))) ⟨m, fun _ => 0, g⟩ (fun r => ∀ c : Dev Cert.LncIdeal.nD,
          r.2.mem ((c.tc : Thread Cert.LncIdeal.nD Cert.LncIdeal.τ).loc Cert.LncIdeal.main_v2) = v0 c
          ∧ r.2.mem ((c.tc : Thread Cert.LncIdeal.nD Cert.LncIdeal.τ).loc Cert.LncIdeal.main_arg0) = m ((c.tc : Thread Cert.LncIdeal.nD Cert.LncIdeal.τ).loc Cert.LncIdeal.main_arg0)
          ∧ r.2.mem ((c.tc : Thread Cert.LncIdeal.nD Cert.LncIdeal.τ).loc Cert.LncIdeal.main_arg1) = m ((c.tc : Thread Cert.LncIdeal.nD Cert.LncIdeal.τ).loc Cert.LncIdeal.main_arg1)
          ∧ r.2.mem ((c.tc : Thread Cert.LncIdeal.nD Cert.LncIdeal.τ).loc Cert.LncIdeal.main_arg2) = m ((c.tc : Thread Cert.LncIdeal.nD Cert.LncIdeal.τ).loc Cert.LncIdeal.main_arg2)
          ∧ r.2.mem ((c.tc : Thread Cert.LncIdeal.nD Cert.LncIdeal.τ).loc Cert.LncIdeal.main_arg3) = m ((c.tc : Thread Cert.LncIdeal.nD Cert.LncIdeal.τ).loc Cert.LncIdeal.main_arg3)
          ∧ r.2.mem ((c.tc : Thread Cert.LncIdeal.nD Cert.LncIdeal.τ).loc Cert.LncIdeal.main_arg4) = m ((c.tc : Thread Cert.LncIdeal.nD Cert.LncIdeal.τ).loc Cert.LncIdeal.main_arg4))
      ∧ θ_run (Cert.LncRefIdeal.defs (F := Ideal)) (onTc (τ := Cert.LncRefIdeal.τ) (Cert.LncRefIdeal.main (F := Ideal))) ⟨m', fun _ => 0, g'⟩ (fun r => ∀ c : Dev Cert.LncRefIdeal.nD,
          r.2.mem ((c.tc : Thread Cert.LncRefIdeal.nD Cert.LncRefIdeal.τ).loc Cert.LncRefIdeal.main_v33) = v0 c
          ∧ r.2.mem ((c.tc : Thread Cert.LncRefIdeal.nD Cert.LncRefIdeal.τ).loc Cert.LncRefIdeal.main_arg0) = m' ((c.tc : Thread Cert.LncRefIdeal.nD Cert.LncRefIdeal.τ).loc Cert.LncRefIdeal.main_arg0)
          ∧ r.2.mem ((c.tc : Thread Cert.LncRefIdeal.nD Cert.LncRefIdeal.τ).loc Cert.LncRefIdeal.main_arg1) = m' ((c.tc : Thread Cert.LncRefIdeal.nD Cert.LncRefIdeal.τ).loc Cert.LncRefIdeal.main_arg1)
          ∧ r.2.mem ((c.tc : Thread Cert.LncRefIdeal.nD Cert.LncRefIdeal.τ).loc Cert.LncRefIdeal.main_arg2) = m' ((c.tc : Thread Cert.LncRefIdeal.nD Cert.LncRefIdeal.τ).loc Cert.LncRefIdeal.main_arg2)
          ∧ r.2.mem ((c.tc : Thread Cert.LncRefIdeal.nD Cert.LncRefIdeal.τ).loc Cert.LncRefIdeal.main_arg3) = m' ((c.tc : Thread Cert.LncRefIdeal.nD Cert.LncRefIdeal.τ).loc Cert.LncRefIdeal.main_arg3)
          ∧ r.2.mem ((c.tc : Thread Cert.LncRefIdeal.nD Cert.LncRefIdeal.τ).loc Cert.LncRefIdeal.main_arg4) = m' ((c.tc : Thread Cert.LncRefIdeal.nD Cert.LncRefIdeal.τ).loc Cert.LncRefIdeal.main_arg4))

def preserves_Mpost_MpostIdeal : Prop :=
  True

def algebraic_MpostIdeal_MpostRefIdeal [hMpostIdeal : Cert.MpostIdeal.Facts] [hMpostRefIdeal : Cert.MpostRefIdeal.Facts] : Prop :=
  ∀ (m : (ℓ : Loc Cert.MpostIdeal.nD Cert.MpostIdeal.τ Cert.MpostIdeal.sig) → Buf (Elt Ideal) ℓ) (g : Dev Cert.MpostIdeal.nD → PrngReg)
    (m' : (ℓ : Loc Cert.MpostRefIdeal.nD Cert.MpostRefIdeal.τ Cert.MpostRefIdeal.sig) → Buf (Elt Ideal) ℓ) (g' : Dev Cert.MpostRefIdeal.nD → PrngReg), Pre_MpostIdeal m →
    (∀ c : Dev Cert.MpostIdeal.nD,
      m' ((c.tc : Thread Cert.MpostRefIdeal.nD Cert.MpostRefIdeal.τ).loc Cert.MpostRefIdeal.main_arg0) = m ((c.tc : Thread Cert.MpostIdeal.nD Cert.MpostIdeal.τ).loc Cert.MpostIdeal.main_arg0)
      ∧ m' ((c.tc : Thread Cert.MpostRefIdeal.nD Cert.MpostRefIdeal.τ).loc Cert.MpostRefIdeal.main_arg1) = m ((c.tc : Thread Cert.MpostIdeal.nD Cert.MpostIdeal.τ).loc Cert.MpostIdeal.main_arg1)
      ∧ m' ((c.tc : Thread Cert.MpostRefIdeal.nD Cert.MpostRefIdeal.τ).loc Cert.MpostRefIdeal.main_arg2) = m ((c.tc : Thread Cert.MpostIdeal.nD Cert.MpostIdeal.τ).loc Cert.MpostIdeal.main_arg2)
      ∧ m' ((c.tc : Thread Cert.MpostRefIdeal.nD Cert.MpostRefIdeal.τ).loc Cert.MpostRefIdeal.main_arg3) = m ((c.tc : Thread Cert.MpostIdeal.nD Cert.MpostIdeal.τ).loc Cert.MpostIdeal.main_arg3)) →
    ∃ (v0 : (c : Dev Cert.MpostIdeal.nD) → Buf (Elt Ideal) ((c.tc : Thread Cert.MpostIdeal.nD Cert.MpostIdeal.τ).loc Cert.MpostIdeal.main_v1)),
      θ_run (Cert.MpostIdeal.defs (F := Ideal)) (onTc (τ := Cert.MpostIdeal.τ) (Cert.MpostIdeal.main (F := Ideal))) ⟨m, fun _ => 0, g⟩ (fun r => ∀ c : Dev Cert.MpostIdeal.nD,
          r.2.mem ((c.tc : Thread Cert.MpostIdeal.nD Cert.MpostIdeal.τ).loc Cert.MpostIdeal.main_v1) = v0 c
          ∧ r.2.mem ((c.tc : Thread Cert.MpostIdeal.nD Cert.MpostIdeal.τ).loc Cert.MpostIdeal.main_arg0) = m ((c.tc : Thread Cert.MpostIdeal.nD Cert.MpostIdeal.τ).loc Cert.MpostIdeal.main_arg0)
          ∧ r.2.mem ((c.tc : Thread Cert.MpostIdeal.nD Cert.MpostIdeal.τ).loc Cert.MpostIdeal.main_arg1) = m ((c.tc : Thread Cert.MpostIdeal.nD Cert.MpostIdeal.τ).loc Cert.MpostIdeal.main_arg1)
          ∧ r.2.mem ((c.tc : Thread Cert.MpostIdeal.nD Cert.MpostIdeal.τ).loc Cert.MpostIdeal.main_arg2) = m ((c.tc : Thread Cert.MpostIdeal.nD Cert.MpostIdeal.τ).loc Cert.MpostIdeal.main_arg2)
          ∧ r.2.mem ((c.tc : Thread Cert.MpostIdeal.nD Cert.MpostIdeal.τ).loc Cert.MpostIdeal.main_arg3) = m ((c.tc : Thread Cert.MpostIdeal.nD Cert.MpostIdeal.τ).loc Cert.MpostIdeal.main_arg3))
      ∧ θ_run (Cert.MpostRefIdeal.defs (F := Ideal)) (onTc (τ := Cert.MpostRefIdeal.τ) (Cert.MpostRefIdeal.main (F := Ideal))) ⟨m', fun _ => 0, g'⟩ (fun r => ∀ c : Dev Cert.MpostRefIdeal.nD,
          r.2.mem ((c.tc : Thread Cert.MpostRefIdeal.nD Cert.MpostRefIdeal.τ).loc Cert.MpostRefIdeal.main_v25) = v0 c
          ∧ r.2.mem ((c.tc : Thread Cert.MpostRefIdeal.nD Cert.MpostRefIdeal.τ).loc Cert.MpostRefIdeal.main_arg0) = m' ((c.tc : Thread Cert.MpostRefIdeal.nD Cert.MpostRefIdeal.τ).loc Cert.MpostRefIdeal.main_arg0)
          ∧ r.2.mem ((c.tc : Thread Cert.MpostRefIdeal.nD Cert.MpostRefIdeal.τ).loc Cert.MpostRefIdeal.main_arg1) = m' ((c.tc : Thread Cert.MpostRefIdeal.nD Cert.MpostRefIdeal.τ).loc Cert.MpostRefIdeal.main_arg1)
          ∧ r.2.mem ((c.tc : Thread Cert.MpostRefIdeal.nD Cert.MpostRefIdeal.τ).loc Cert.MpostRefIdeal.main_arg2) = m' ((c.tc : Thread Cert.MpostRefIdeal.nD Cert.MpostRefIdeal.τ).loc Cert.MpostRefIdeal.main_arg2)
          ∧ r.2.mem ((c.tc : Thread Cert.MpostRefIdeal.nD Cert.MpostRefIdeal.τ).loc Cert.MpostRefIdeal.main_arg3) = m' ((c.tc : Thread Cert.MpostRefIdeal.nD Cert.MpostRefIdeal.τ).loc Cert.MpostRefIdeal.main_arg3))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v4)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v4) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v4) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1))

def preserves_Rout_RoutIdeal : Prop :=
  True

def algebraic_RoutIdeal_RoutRefIdeal [hRoutIdeal : Cert.RoutIdeal.Facts] [hRoutRefIdeal : Cert.RoutRefIdeal.Facts] : Prop :=
  ∀ (m : (ℓ : Loc Cert.RoutIdeal.nD Cert.RoutIdeal.τ Cert.RoutIdeal.sig) → Buf (Elt Ideal) ℓ) (g : Dev Cert.RoutIdeal.nD → PrngReg)
    (m' : (ℓ : Loc Cert.RoutRefIdeal.nD Cert.RoutRefIdeal.τ Cert.RoutRefIdeal.sig) → Buf (Elt Ideal) ℓ) (g' : Dev Cert.RoutRefIdeal.nD → PrngReg), Pre_RoutIdeal m →
    (∀ c : Dev Cert.RoutIdeal.nD,
      m' ((c.tc : Thread Cert.RoutRefIdeal.nD Cert.RoutRefIdeal.τ).loc Cert.RoutRefIdeal.main_arg0) = m ((c.tc : Thread Cert.RoutIdeal.nD Cert.RoutIdeal.τ).loc Cert.RoutIdeal.main_arg0)
      ∧ m' ((c.tc : Thread Cert.RoutRefIdeal.nD Cert.RoutRefIdeal.τ).loc Cert.RoutRefIdeal.main_arg1) = m ((c.tc : Thread Cert.RoutIdeal.nD Cert.RoutIdeal.τ).loc Cert.RoutIdeal.main_arg1)) →
    ∃ (v0 : (c : Dev Cert.RoutIdeal.nD) → Buf (Elt Ideal) ((c.tc : Thread Cert.RoutIdeal.nD Cert.RoutIdeal.τ).loc Cert.RoutIdeal.main_v2)),
      θ_run (Cert.RoutIdeal.defs (F := Ideal)) (onTc (τ := Cert.RoutIdeal.τ) (Cert.RoutIdeal.main (F := Ideal))) ⟨m, fun _ => 0, g⟩ (fun r => ∀ c : Dev Cert.RoutIdeal.nD,
          r.2.mem ((c.tc : Thread Cert.RoutIdeal.nD Cert.RoutIdeal.τ).loc Cert.RoutIdeal.main_v2) = v0 c
          ∧ r.2.mem ((c.tc : Thread Cert.RoutIdeal.nD Cert.RoutIdeal.τ).loc Cert.RoutIdeal.main_arg0) = m ((c.tc : Thread Cert.RoutIdeal.nD Cert.RoutIdeal.τ).loc Cert.RoutIdeal.main_arg0)
          ∧ r.2.mem ((c.tc : Thread Cert.RoutIdeal.nD Cert.RoutIdeal.τ).loc Cert.RoutIdeal.main_arg1) = m ((c.tc : Thread Cert.RoutIdeal.nD Cert.RoutIdeal.τ).loc Cert.RoutIdeal.main_arg1))
      ∧ θ_run (Cert.RoutRefIdeal.defs (F := Ideal)) (onTc (τ := Cert.RoutRefIdeal.τ) (Cert.RoutRefIdeal.main (F := Ideal))) ⟨m', fun _ => 0, g'⟩ (fun r => ∀ c : Dev Cert.RoutRefIdeal.nD,
          r.2.mem ((c.tc : Thread Cert.RoutRefIdeal.nD Cert.RoutRefIdeal.τ).loc Cert.RoutRefIdeal.main_v2) = v0 c
          ∧ r.2.mem ((c.tc : Thread Cert.RoutRefIdeal.nD Cert.RoutRefIdeal.τ).loc Cert.RoutRefIdeal.main_arg0) = m' ((c.tc : Thread Cert.RoutRefIdeal.nD Cert.RoutRefIdeal.τ).loc Cert.RoutRefIdeal.main_arg0)
          ∧ r.2.mem ((c.tc : Thread Cert.RoutRefIdeal.nD Cert.RoutRefIdeal.τ).loc Cert.RoutRefIdeal.main_arg1) = m' ((c.tc : Thread Cert.RoutRefIdeal.nD Cert.RoutRefIdeal.τ).loc Cert.RoutRefIdeal.main_arg1))

def preserves_Adad_AdadIdeal : Prop :=
  True

def algebraic_AdadIdeal_AdadRefIdeal [hAdadIdeal : Cert.AdadIdeal.Facts] [hAdadRefIdeal : Cert.AdadRefIdeal.Facts] : Prop :=
  ∀ (m : (ℓ : Loc Cert.AdadIdeal.nD Cert.AdadIdeal.τ Cert.AdadIdeal.sig) → Buf (Elt Ideal) ℓ) (g : Dev Cert.AdadIdeal.nD → PrngReg)
    (m' : (ℓ : Loc Cert.AdadRefIdeal.nD Cert.AdadRefIdeal.τ Cert.AdadRefIdeal.sig) → Buf (Elt Ideal) ℓ) (g' : Dev Cert.AdadRefIdeal.nD → PrngReg), Pre_AdadIdeal m →
    (∀ c : Dev Cert.AdadIdeal.nD,
      m' ((c.tc : Thread Cert.AdadRefIdeal.nD Cert.AdadRefIdeal.τ).loc Cert.AdadRefIdeal.main_arg0) = m ((c.tc : Thread Cert.AdadIdeal.nD Cert.AdadIdeal.τ).loc Cert.AdadIdeal.main_arg0)
      ∧ m' ((c.tc : Thread Cert.AdadRefIdeal.nD Cert.AdadRefIdeal.τ).loc Cert.AdadRefIdeal.main_arg1) = m ((c.tc : Thread Cert.AdadIdeal.nD Cert.AdadIdeal.τ).loc Cert.AdadIdeal.main_arg1)) →
    ∃ (v0 : (c : Dev Cert.AdadIdeal.nD) → Buf (Elt Ideal) ((c.tc : Thread Cert.AdadIdeal.nD Cert.AdadIdeal.τ).loc Cert.AdadIdeal.main_v0)),
      θ_run (Cert.AdadIdeal.defs (F := Ideal)) (onTc (τ := Cert.AdadIdeal.τ) (Cert.AdadIdeal.main (F := Ideal))) ⟨m, fun _ => 0, g⟩ (fun r => ∀ c : Dev Cert.AdadIdeal.nD,
          r.2.mem ((c.tc : Thread Cert.AdadIdeal.nD Cert.AdadIdeal.τ).loc Cert.AdadIdeal.main_v0) = v0 c
          ∧ r.2.mem ((c.tc : Thread Cert.AdadIdeal.nD Cert.AdadIdeal.τ).loc Cert.AdadIdeal.main_arg0) = m ((c.tc : Thread Cert.AdadIdeal.nD Cert.AdadIdeal.τ).loc Cert.AdadIdeal.main_arg0)
          ∧ r.2.mem ((c.tc : Thread Cert.AdadIdeal.nD Cert.AdadIdeal.τ).loc Cert.AdadIdeal.main_arg1) = m ((c.tc : Thread Cert.AdadIdeal.nD Cert.AdadIdeal.τ).loc Cert.AdadIdeal.main_arg1))
      ∧ θ_run (Cert.AdadRefIdeal.defs (F := Ideal)) (onTc (τ := Cert.AdadRefIdeal.τ) (Cert.AdadRefIdeal.main (F := Ideal))) ⟨m', fun _ => 0, g'⟩ (fun r => ∀ c : Dev Cert.AdadRefIdeal.nD,
          r.2.mem ((c.tc : Thread Cert.AdadRefIdeal.nD Cert.AdadRefIdeal.τ).loc Cert.AdadRefIdeal.main_v0) = v0 c
          ∧ r.2.mem ((c.tc : Thread Cert.AdadRefIdeal.nD Cert.AdadRefIdeal.τ).loc Cert.AdadRefIdeal.main_arg0) = m' ((c.tc : Thread Cert.AdadRefIdeal.nD Cert.AdadRefIdeal.τ).loc Cert.AdadRefIdeal.main_arg0)
          ∧ r.2.mem ((c.tc : Thread Cert.AdadRefIdeal.nD Cert.AdadRefIdeal.τ).loc Cert.AdadRefIdeal.main_arg1) = m' ((c.tc : Thread Cert.AdadRefIdeal.nD Cert.AdadRefIdeal.τ).loc Cert.AdadRefIdeal.main_arg1))

def preserves_Adau_AdauIdeal : Prop :=
  True

def algebraic_AdauIdeal_AdauRefIdeal [hAdauIdeal : Cert.AdauIdeal.Facts] [hAdauRefIdeal : Cert.AdauRefIdeal.Facts] : Prop :=
  ∀ (m : (ℓ : Loc Cert.AdauIdeal.nD Cert.AdauIdeal.τ Cert.AdauIdeal.sig) → Buf (Elt Ideal) ℓ) (g : Dev Cert.AdauIdeal.nD → PrngReg)
    (m' : (ℓ : Loc Cert.AdauRefIdeal.nD Cert.AdauRefIdeal.τ Cert.AdauRefIdeal.sig) → Buf (Elt Ideal) ℓ) (g' : Dev Cert.AdauRefIdeal.nD → PrngReg), Pre_AdauIdeal m →
    (∀ c : Dev Cert.AdauIdeal.nD,
      m' ((c.tc : Thread Cert.AdauRefIdeal.nD Cert.AdauRefIdeal.τ).loc Cert.AdauRefIdeal.main_arg0) = m ((c.tc : Thread Cert.AdauIdeal.nD Cert.AdauIdeal.τ).loc Cert.AdauIdeal.main_arg0)
      ∧ m' ((c.tc : Thread Cert.AdauRefIdeal.nD Cert.AdauRefIdeal.τ).loc Cert.AdauRefIdeal.main_arg1) = m ((c.tc : Thread Cert.AdauIdeal.nD Cert.AdauIdeal.τ).loc Cert.AdauIdeal.main_arg1)) →
    ∃ (v0 : (c : Dev Cert.AdauIdeal.nD) → Buf (Elt Ideal) ((c.tc : Thread Cert.AdauIdeal.nD Cert.AdauIdeal.τ).loc Cert.AdauIdeal.main_v0)),
      θ_run (Cert.AdauIdeal.defs (F := Ideal)) (onTc (τ := Cert.AdauIdeal.τ) (Cert.AdauIdeal.main (F := Ideal))) ⟨m, fun _ => 0, g⟩ (fun r => ∀ c : Dev Cert.AdauIdeal.nD,
          r.2.mem ((c.tc : Thread Cert.AdauIdeal.nD Cert.AdauIdeal.τ).loc Cert.AdauIdeal.main_v0) = v0 c
          ∧ r.2.mem ((c.tc : Thread Cert.AdauIdeal.nD Cert.AdauIdeal.τ).loc Cert.AdauIdeal.main_arg0) = m ((c.tc : Thread Cert.AdauIdeal.nD Cert.AdauIdeal.τ).loc Cert.AdauIdeal.main_arg0)
          ∧ r.2.mem ((c.tc : Thread Cert.AdauIdeal.nD Cert.AdauIdeal.τ).loc Cert.AdauIdeal.main_arg1) = m ((c.tc : Thread Cert.AdauIdeal.nD Cert.AdauIdeal.τ).loc Cert.AdauIdeal.main_arg1))
      ∧ θ_run (Cert.AdauRefIdeal.defs (F := Ideal)) (onTc (τ := Cert.AdauRefIdeal.τ) (Cert.AdauRefIdeal.main (F := Ideal))) ⟨m', fun _ => 0, g'⟩ (fun r => ∀ c : Dev Cert.AdauRefIdeal.nD,
          r.2.mem ((c.tc : Thread Cert.AdauRefIdeal.nD Cert.AdauRefIdeal.τ).loc Cert.AdauRefIdeal.main_v0) = v0 c
          ∧ r.2.mem ((c.tc : Thread Cert.AdauRefIdeal.nD Cert.AdauRefIdeal.τ).loc Cert.AdauRefIdeal.main_arg0) = m' ((c.tc : Thread Cert.AdauRefIdeal.nD Cert.AdauRefIdeal.τ).loc Cert.AdauRefIdeal.main_arg0)
          ∧ r.2.mem ((c.tc : Thread Cert.AdauRefIdeal.nD Cert.AdauRefIdeal.τ).loc Cert.AdauRefIdeal.main_arg1) = m' ((c.tc : Thread Cert.AdauRefIdeal.nD Cert.AdauRefIdeal.τ).loc Cert.AdauRefIdeal.main_arg1))

def preserves_Hyfa_HyfaIdeal : Prop :=
  True

def algebraic_HyfaIdeal_HyfaRefIdeal [hHyfaIdeal : Cert.HyfaIdeal.Facts] [hHyfaRefIdeal : Cert.HyfaRefIdeal.Facts] : Prop :=
  ∀ (m : (ℓ : Loc Cert.HyfaIdeal.nD Cert.HyfaIdeal.τ Cert.HyfaIdeal.sig) → Buf (Elt Ideal) ℓ) (g : Dev Cert.HyfaIdeal.nD → PrngReg)
    (m' : (ℓ : Loc Cert.HyfaRefIdeal.nD Cert.HyfaRefIdeal.τ Cert.HyfaRefIdeal.sig) → Buf (Elt Ideal) ℓ) (g' : Dev Cert.HyfaRefIdeal.nD → PrngReg), Pre_HyfaIdeal m →
    (∀ c : Dev Cert.HyfaIdeal.nD,
      m' ((c.tc : Thread Cert.HyfaRefIdeal.nD Cert.HyfaRefIdeal.τ).loc Cert.HyfaRefIdeal.main_arg0) = m ((c.tc : Thread Cert.HyfaIdeal.nD Cert.HyfaIdeal.τ).loc Cert.HyfaIdeal.main_arg0)
      ∧ m' ((c.tc : Thread Cert.HyfaRefIdeal.nD Cert.HyfaRefIdeal.τ).loc Cert.HyfaRefIdeal.main_arg1) = m ((c.tc : Thread Cert.HyfaIdeal.nD Cert.HyfaIdeal.τ).loc Cert.HyfaIdeal.main_arg1)) →
    ∃ (v0 : (c : Dev Cert.HyfaIdeal.nD) → Buf (Elt Ideal) ((c.tc : Thread Cert.HyfaIdeal.nD Cert.HyfaIdeal.τ).loc Cert.HyfaIdeal.main_v3)),
      θ_run (Cert.HyfaIdeal.defs (F := Ideal)) (onTc (τ := Cert.HyfaIdeal.τ) (Cert.HyfaIdeal.main (F := Ideal))) ⟨m, fun _ => 0, g⟩ (fun r => ∀ c : Dev Cert.HyfaIdeal.nD,
          r.2.mem ((c.tc : Thread Cert.HyfaIdeal.nD Cert.HyfaIdeal.τ).loc Cert.HyfaIdeal.main_v3) = v0 c
          ∧ r.2.mem ((c.tc : Thread Cert.HyfaIdeal.nD Cert.HyfaIdeal.τ).loc Cert.HyfaIdeal.main_arg0) = m ((c.tc : Thread Cert.HyfaIdeal.nD Cert.HyfaIdeal.τ).loc Cert.HyfaIdeal.main_arg0)
          ∧ r.2.mem ((c.tc : Thread Cert.HyfaIdeal.nD Cert.HyfaIdeal.τ).loc Cert.HyfaIdeal.main_arg1) = m ((c.tc : Thread Cert.HyfaIdeal.nD Cert.HyfaIdeal.τ).loc Cert.HyfaIdeal.main_arg1))
      ∧ θ_run (Cert.HyfaRefIdeal.defs (F := Ideal)) (onTc (τ := Cert.HyfaRefIdeal.τ) (Cert.HyfaRefIdeal.main (F := Ideal))) ⟨m', fun _ => 0, g'⟩ (fun r => ∀ c : Dev Cert.HyfaRefIdeal.nD,
          r.2.mem ((c.tc : Thread Cert.HyfaRefIdeal.nD Cert.HyfaRefIdeal.τ).loc Cert.HyfaRefIdeal.main_v1) = v0 c
          ∧ r.2.mem ((c.tc : Thread Cert.HyfaRefIdeal.nD Cert.HyfaRefIdeal.τ).loc Cert.HyfaRefIdeal.main_arg0) = m' ((c.tc : Thread Cert.HyfaRefIdeal.nD Cert.HyfaRefIdeal.τ).loc Cert.HyfaRefIdeal.main_arg0)
          ∧ r.2.mem ((c.tc : Thread Cert.HyfaRefIdeal.nD Cert.HyfaRefIdeal.τ).loc Cert.HyfaRefIdeal.main_arg1) = m' ((c.tc : Thread Cert.HyfaRefIdeal.nD Cert.HyfaRefIdeal.τ).loc Cert.HyfaRefIdeal.main_arg1))

def preserves_Hyfb_HyfbIdeal : Prop :=
  True

def algebraic_HyfbIdeal_HyfbRefIdeal [hHyfbIdeal : Cert.HyfbIdeal.Facts] [hHyfbRefIdeal : Cert.HyfbRefIdeal.Facts] : Prop :=
  ∀ (m : (ℓ : Loc Cert.HyfbIdeal.nD Cert.HyfbIdeal.τ Cert.HyfbIdeal.sig) → Buf (Elt Ideal) ℓ) (g : Dev Cert.HyfbIdeal.nD → PrngReg)
    (m' : (ℓ : Loc Cert.HyfbRefIdeal.nD Cert.HyfbRefIdeal.τ Cert.HyfbRefIdeal.sig) → Buf (Elt Ideal) ℓ) (g' : Dev Cert.HyfbRefIdeal.nD → PrngReg), Pre_HyfbIdeal m →
    (∀ c : Dev Cert.HyfbIdeal.nD,
      m' ((c.tc : Thread Cert.HyfbRefIdeal.nD Cert.HyfbRefIdeal.τ).loc Cert.HyfbRefIdeal.main_arg0) = m ((c.tc : Thread Cert.HyfbIdeal.nD Cert.HyfbIdeal.τ).loc Cert.HyfbIdeal.main_arg0)
      ∧ m' ((c.tc : Thread Cert.HyfbRefIdeal.nD Cert.HyfbRefIdeal.τ).loc Cert.HyfbRefIdeal.main_arg1) = m ((c.tc : Thread Cert.HyfbIdeal.nD Cert.HyfbIdeal.τ).loc Cert.HyfbIdeal.main_arg1)) →
    ∃ (v0 : (c : Dev Cert.HyfbIdeal.nD) → Buf (Elt Ideal) ((c.tc : Thread Cert.HyfbIdeal.nD Cert.HyfbIdeal.τ).loc Cert.HyfbIdeal.main_v3)),
      θ_run (Cert.HyfbIdeal.defs (F := Ideal)) (onTc (τ := Cert.HyfbIdeal.τ) (Cert.HyfbIdeal.main (F := Ideal))) ⟨m, fun _ => 0, g⟩ (fun r => ∀ c : Dev Cert.HyfbIdeal.nD,
          r.2.mem ((c.tc : Thread Cert.HyfbIdeal.nD Cert.HyfbIdeal.τ).loc Cert.HyfbIdeal.main_v3) = v0 c
          ∧ r.2.mem ((c.tc : Thread Cert.HyfbIdeal.nD Cert.HyfbIdeal.τ).loc Cert.HyfbIdeal.main_arg0) = m ((c.tc : Thread Cert.HyfbIdeal.nD Cert.HyfbIdeal.τ).loc Cert.HyfbIdeal.main_arg0)
          ∧ r.2.mem ((c.tc : Thread Cert.HyfbIdeal.nD Cert.HyfbIdeal.τ).loc Cert.HyfbIdeal.main_arg1) = m ((c.tc : Thread Cert.HyfbIdeal.nD Cert.HyfbIdeal.τ).loc Cert.HyfbIdeal.main_arg1))
      ∧ θ_run (Cert.HyfbRefIdeal.defs (F := Ideal)) (onTc (τ := Cert.HyfbRefIdeal.τ) (Cert.HyfbRefIdeal.main (F := Ideal))) ⟨m', fun _ => 0, g'⟩ (fun r => ∀ c : Dev Cert.HyfbRefIdeal.nD,
          r.2.mem ((c.tc : Thread Cert.HyfbRefIdeal.nD Cert.HyfbRefIdeal.τ).loc Cert.HyfbRefIdeal.main_v1) = v0 c
          ∧ r.2.mem ((c.tc : Thread Cert.HyfbRefIdeal.nD Cert.HyfbRefIdeal.τ).loc Cert.HyfbRefIdeal.main_arg0) = m' ((c.tc : Thread Cert.HyfbRefIdeal.nD Cert.HyfbRefIdeal.τ).loc Cert.HyfbRefIdeal.main_arg0)
          ∧ r.2.mem ((c.tc : Thread Cert.HyfbRefIdeal.nD Cert.HyfbRefIdeal.τ).loc Cert.HyfbRefIdeal.main_arg1) = m' ((c.tc : Thread Cert.HyfbRefIdeal.nD Cert.HyfbRefIdeal.τ).loc Cert.HyfbRefIdeal.main_arg1))

def preserves_Hyfc_HyfcIdeal : Prop :=
  True

def algebraic_HyfcIdeal_HyfcRefIdeal [hHyfcIdeal : Cert.HyfcIdeal.Facts] [hHyfcRefIdeal : Cert.HyfcRefIdeal.Facts] : Prop :=
  ∀ (m : (ℓ : Loc Cert.HyfcIdeal.nD Cert.HyfcIdeal.τ Cert.HyfcIdeal.sig) → Buf (Elt Ideal) ℓ) (g : Dev Cert.HyfcIdeal.nD → PrngReg)
    (m' : (ℓ : Loc Cert.HyfcRefIdeal.nD Cert.HyfcRefIdeal.τ Cert.HyfcRefIdeal.sig) → Buf (Elt Ideal) ℓ) (g' : Dev Cert.HyfcRefIdeal.nD → PrngReg), Pre_HyfcIdeal m →
    (∀ c : Dev Cert.HyfcIdeal.nD,
      m' ((c.tc : Thread Cert.HyfcRefIdeal.nD Cert.HyfcRefIdeal.τ).loc Cert.HyfcRefIdeal.main_arg0) = m ((c.tc : Thread Cert.HyfcIdeal.nD Cert.HyfcIdeal.τ).loc Cert.HyfcIdeal.main_arg0)
      ∧ m' ((c.tc : Thread Cert.HyfcRefIdeal.nD Cert.HyfcRefIdeal.τ).loc Cert.HyfcRefIdeal.main_arg1) = m ((c.tc : Thread Cert.HyfcIdeal.nD Cert.HyfcIdeal.τ).loc Cert.HyfcIdeal.main_arg1)) →
    ∃ (v0 : (c : Dev Cert.HyfcIdeal.nD) → Buf (Elt Ideal) ((c.tc : Thread Cert.HyfcIdeal.nD Cert.HyfcIdeal.τ).loc Cert.HyfcIdeal.main_v2)),
      θ_run (Cert.HyfcIdeal.defs (F := Ideal)) (onTc (τ := Cert.HyfcIdeal.τ) (Cert.HyfcIdeal.main (F := Ideal))) ⟨m, fun _ => 0, g⟩ (fun r => ∀ c : Dev Cert.HyfcIdeal.nD,
          r.2.mem ((c.tc : Thread Cert.HyfcIdeal.nD Cert.HyfcIdeal.τ).loc Cert.HyfcIdeal.main_v2) = v0 c
          ∧ r.2.mem ((c.tc : Thread Cert.HyfcIdeal.nD Cert.HyfcIdeal.τ).loc Cert.HyfcIdeal.main_arg0) = m ((c.tc : Thread Cert.HyfcIdeal.nD Cert.HyfcIdeal.τ).loc Cert.HyfcIdeal.main_arg0)
          ∧ r.2.mem ((c.tc : Thread Cert.HyfcIdeal.nD Cert.HyfcIdeal.τ).loc Cert.HyfcIdeal.main_arg1) = m ((c.tc : Thread Cert.HyfcIdeal.nD Cert.HyfcIdeal.τ).loc Cert.HyfcIdeal.main_arg1))
      ∧ θ_run (Cert.HyfcRefIdeal.defs (F := Ideal)) (onTc (τ := Cert.HyfcRefIdeal.τ) (Cert.HyfcRefIdeal.main (F := Ideal))) ⟨m', fun _ => 0, g'⟩ (fun r => ∀ c : Dev Cert.HyfcRefIdeal.nD,
          r.2.mem ((c.tc : Thread Cert.HyfcRefIdeal.nD Cert.HyfcRefIdeal.τ).loc Cert.HyfcRefIdeal.main_v0) = v0 c
          ∧ r.2.mem ((c.tc : Thread Cert.HyfcRefIdeal.nD Cert.HyfcRefIdeal.τ).loc Cert.HyfcRefIdeal.main_arg0) = m' ((c.tc : Thread Cert.HyfcRefIdeal.nD Cert.HyfcRefIdeal.τ).loc Cert.HyfcRefIdeal.main_arg0)
          ∧ r.2.mem ((c.tc : Thread Cert.HyfcRefIdeal.nD Cert.HyfcRefIdeal.τ).loc Cert.HyfcRefIdeal.main_arg1) = m' ((c.tc : Thread Cert.HyfcRefIdeal.nD Cert.HyfcRefIdeal.τ).loc Cert.HyfcRefIdeal.main_arg1))

def preserves_Sconv_SconvIdeal : Prop :=
  True

def algebraic_SconvIdeal_SconvRefIdeal [hSconvIdeal : Cert.SconvIdeal.Facts] [hSconvRefIdeal : Cert.SconvRefIdeal.Facts] : Prop :=
  ∀ (m : (ℓ : Loc Cert.SconvIdeal.nD Cert.SconvIdeal.τ Cert.SconvIdeal.sig) → Buf (Elt Ideal) ℓ) (g : Dev Cert.SconvIdeal.nD → PrngReg)
    (m' : (ℓ : Loc Cert.SconvRefIdeal.nD Cert.SconvRefIdeal.τ Cert.SconvRefIdeal.sig) → Buf (Elt Ideal) ℓ) (g' : Dev Cert.SconvRefIdeal.nD → PrngReg), Pre_SconvIdeal m →
    (∀ c : Dev Cert.SconvIdeal.nD,
      m' ((c.tc : Thread Cert.SconvRefIdeal.nD Cert.SconvRefIdeal.τ).loc Cert.SconvRefIdeal.main_arg0) = m ((c.tc : Thread Cert.SconvIdeal.nD Cert.SconvIdeal.τ).loc Cert.SconvIdeal.main_arg0)
      ∧ m' ((c.tc : Thread Cert.SconvRefIdeal.nD Cert.SconvRefIdeal.τ).loc Cert.SconvRefIdeal.main_arg1) = m ((c.tc : Thread Cert.SconvIdeal.nD Cert.SconvIdeal.τ).loc Cert.SconvIdeal.main_arg1)
      ∧ m' ((c.tc : Thread Cert.SconvRefIdeal.nD Cert.SconvRefIdeal.τ).loc Cert.SconvRefIdeal.main_arg2) = m ((c.tc : Thread Cert.SconvIdeal.nD Cert.SconvIdeal.τ).loc Cert.SconvIdeal.main_arg2)) →
    ∃ (v0 : (c : Dev Cert.SconvIdeal.nD) → Buf (Elt Ideal) ((c.tc : Thread Cert.SconvIdeal.nD Cert.SconvIdeal.τ).loc Cert.SconvIdeal.main_v1)),
      θ_run (Cert.SconvIdeal.defs (F := Ideal)) (onTc (τ := Cert.SconvIdeal.τ) (Cert.SconvIdeal.main (F := Ideal))) ⟨m, fun _ => 0, g⟩ (fun r => ∀ c : Dev Cert.SconvIdeal.nD,
          r.2.mem ((c.tc : Thread Cert.SconvIdeal.nD Cert.SconvIdeal.τ).loc Cert.SconvIdeal.main_v1) = v0 c
          ∧ r.2.mem ((c.tc : Thread Cert.SconvIdeal.nD Cert.SconvIdeal.τ).loc Cert.SconvIdeal.main_arg0) = m ((c.tc : Thread Cert.SconvIdeal.nD Cert.SconvIdeal.τ).loc Cert.SconvIdeal.main_arg0)
          ∧ r.2.mem ((c.tc : Thread Cert.SconvIdeal.nD Cert.SconvIdeal.τ).loc Cert.SconvIdeal.main_arg1) = m ((c.tc : Thread Cert.SconvIdeal.nD Cert.SconvIdeal.τ).loc Cert.SconvIdeal.main_arg1)
          ∧ r.2.mem ((c.tc : Thread Cert.SconvIdeal.nD Cert.SconvIdeal.τ).loc Cert.SconvIdeal.main_arg2) = m ((c.tc : Thread Cert.SconvIdeal.nD Cert.SconvIdeal.τ).loc Cert.SconvIdeal.main_arg2))
      ∧ θ_run (Cert.SconvRefIdeal.defs (F := Ideal)) (onTc (τ := Cert.SconvRefIdeal.τ) (Cert.SconvRefIdeal.main (F := Ideal))) ⟨m', fun _ => 0, g'⟩ (fun r => ∀ c : Dev Cert.SconvRefIdeal.nD,
          r.2.mem ((c.tc : Thread Cert.SconvRefIdeal.nD Cert.SconvRefIdeal.τ).loc Cert.SconvRefIdeal.main_v25) = v0 c
          ∧ r.2.mem ((c.tc : Thread Cert.SconvRefIdeal.nD Cert.SconvRefIdeal.τ).loc Cert.SconvRefIdeal.main_arg0) = m' ((c.tc : Thread Cert.SconvRefIdeal.nD Cert.SconvRefIdeal.τ).loc Cert.SconvRefIdeal.main_arg0)
          ∧ r.2.mem ((c.tc : Thread Cert.SconvRefIdeal.nD Cert.SconvRefIdeal.τ).loc Cert.SconvRefIdeal.main_arg1) = m' ((c.tc : Thread Cert.SconvRefIdeal.nD Cert.SconvRefIdeal.τ).loc Cert.SconvRefIdeal.main_arg1)
          ∧ r.2.mem ((c.tc : Thread Cert.SconvRefIdeal.nD Cert.SconvRefIdeal.τ).loc Cert.SconvRefIdeal.main_arg2) = m' ((c.tc : Thread Cert.SconvRefIdeal.nD Cert.SconvRefIdeal.τ).loc Cert.SconvRefIdeal.main_arg2))

def preserves_Sctx_SctxIdeal : Prop :=
  True

def algebraic_SctxIdeal_SctxRefIdeal [hSctxIdeal : Cert.SctxIdeal.Facts] [hSctxRefIdeal : Cert.SctxRefIdeal.Facts] : Prop :=
  ∀ (m : (ℓ : Loc Cert.SctxIdeal.nD Cert.SctxIdeal.τ Cert.SctxIdeal.sig) → Buf (Elt Ideal) ℓ) (g : Dev Cert.SctxIdeal.nD → PrngReg)
    (m' : (ℓ : Loc Cert.SctxRefIdeal.nD Cert.SctxRefIdeal.τ Cert.SctxRefIdeal.sig) → Buf (Elt Ideal) ℓ) (g' : Dev Cert.SctxRefIdeal.nD → PrngReg), Pre_SctxIdeal m →
    (∀ c : Dev Cert.SctxIdeal.nD,
      m' ((c.tc : Thread Cert.SctxRefIdeal.nD Cert.SctxRefIdeal.τ).loc Cert.SctxRefIdeal.main_arg0) = m ((c.tc : Thread Cert.SctxIdeal.nD Cert.SctxIdeal.τ).loc Cert.SctxIdeal.main_arg0)
      ∧ m' ((c.tc : Thread Cert.SctxRefIdeal.nD Cert.SctxRefIdeal.τ).loc Cert.SctxRefIdeal.main_arg1) = m ((c.tc : Thread Cert.SctxIdeal.nD Cert.SctxIdeal.τ).loc Cert.SctxIdeal.main_arg1)
      ∧ m' ((c.tc : Thread Cert.SctxRefIdeal.nD Cert.SctxRefIdeal.τ).loc Cert.SctxRefIdeal.main_arg2) = m ((c.tc : Thread Cert.SctxIdeal.nD Cert.SctxIdeal.τ).loc Cert.SctxIdeal.main_arg2)) →
    ∃ (v0 : (c : Dev Cert.SctxIdeal.nD) → Buf (Elt Ideal) ((c.tc : Thread Cert.SctxIdeal.nD Cert.SctxIdeal.τ).loc Cert.SctxIdeal.main_v1)),
      θ_run (Cert.SctxIdeal.defs (F := Ideal)) (onTc (τ := Cert.SctxIdeal.τ) (Cert.SctxIdeal.main (F := Ideal))) ⟨m, fun _ => 0, g⟩ (fun r => ∀ c : Dev Cert.SctxIdeal.nD,
          r.2.mem ((c.tc : Thread Cert.SctxIdeal.nD Cert.SctxIdeal.τ).loc Cert.SctxIdeal.main_v1) = v0 c
          ∧ r.2.mem ((c.tc : Thread Cert.SctxIdeal.nD Cert.SctxIdeal.τ).loc Cert.SctxIdeal.main_arg0) = m ((c.tc : Thread Cert.SctxIdeal.nD Cert.SctxIdeal.τ).loc Cert.SctxIdeal.main_arg0)
          ∧ r.2.mem ((c.tc : Thread Cert.SctxIdeal.nD Cert.SctxIdeal.τ).loc Cert.SctxIdeal.main_arg1) = m ((c.tc : Thread Cert.SctxIdeal.nD Cert.SctxIdeal.τ).loc Cert.SctxIdeal.main_arg1)
          ∧ r.2.mem ((c.tc : Thread Cert.SctxIdeal.nD Cert.SctxIdeal.τ).loc Cert.SctxIdeal.main_arg2) = m ((c.tc : Thread Cert.SctxIdeal.nD Cert.SctxIdeal.τ).loc Cert.SctxIdeal.main_arg2))
      ∧ θ_run (Cert.SctxRefIdeal.defs (F := Ideal)) (onTc (τ := Cert.SctxRefIdeal.τ) (Cert.SctxRefIdeal.main (F := Ideal))) ⟨m', fun _ => 0, g'⟩ (fun r => ∀ c : Dev Cert.SctxRefIdeal.nD,
          r.2.mem ((c.tc : Thread Cert.SctxRefIdeal.nD Cert.SctxRefIdeal.τ).loc Cert.SctxRefIdeal.main_v25) = v0 c
          ∧ r.2.mem ((c.tc : Thread Cert.SctxRefIdeal.nD Cert.SctxRefIdeal.τ).loc Cert.SctxRefIdeal.main_arg0) = m' ((c.tc : Thread Cert.SctxRefIdeal.nD Cert.SctxRefIdeal.τ).loc Cert.SctxRefIdeal.main_arg0)
          ∧ r.2.mem ((c.tc : Thread Cert.SctxRefIdeal.nD Cert.SctxRefIdeal.τ).loc Cert.SctxRefIdeal.main_arg1) = m' ((c.tc : Thread Cert.SctxRefIdeal.nD Cert.SctxRefIdeal.τ).loc Cert.SctxRefIdeal.main_arg1)
          ∧ r.2.mem ((c.tc : Thread Cert.SctxRefIdeal.nD Cert.SctxRefIdeal.τ).loc Cert.SctxRefIdeal.main_arg2) = m' ((c.tc : Thread Cert.SctxRefIdeal.nD Cert.SctxRefIdeal.τ).loc Cert.SctxRefIdeal.main_arg2))

def preserves_Qkp_QkpIdeal : Prop :=
  True

def algebraic_QkpIdeal_QkpRefIdeal [hQkpIdeal : Cert.QkpIdeal.Facts] [hQkpRefIdeal : Cert.QkpRefIdeal.Facts] : Prop :=
  ∀ (m : (ℓ : Loc Cert.QkpIdeal.nD Cert.QkpIdeal.τ Cert.QkpIdeal.sig) → Buf (Elt Ideal) ℓ) (g : Dev Cert.QkpIdeal.nD → PrngReg)
    (m' : (ℓ : Loc Cert.QkpRefIdeal.nD Cert.QkpRefIdeal.τ Cert.QkpRefIdeal.sig) → Buf (Elt Ideal) ℓ) (g' : Dev Cert.QkpRefIdeal.nD → PrngReg), Pre_QkpIdeal m →
    (∀ c : Dev Cert.QkpIdeal.nD,
      m' ((c.tc : Thread Cert.QkpRefIdeal.nD Cert.QkpRefIdeal.τ).loc Cert.QkpRefIdeal.main_arg0) = m ((c.tc : Thread Cert.QkpIdeal.nD Cert.QkpIdeal.τ).loc Cert.QkpIdeal.main_arg0)
      ∧ m' ((c.tc : Thread Cert.QkpRefIdeal.nD Cert.QkpRefIdeal.τ).loc Cert.QkpRefIdeal.main_arg1) = m ((c.tc : Thread Cert.QkpIdeal.nD Cert.QkpIdeal.τ).loc Cert.QkpIdeal.main_arg1)
      ∧ m' ((c.tc : Thread Cert.QkpRefIdeal.nD Cert.QkpRefIdeal.τ).loc Cert.QkpRefIdeal.main_arg2) = m ((c.tc : Thread Cert.QkpIdeal.nD Cert.QkpIdeal.τ).loc Cert.QkpIdeal.main_arg2)) →
    ∃ (v0 : (c : Dev Cert.QkpIdeal.nD) → Buf (Elt Ideal) ((c.tc : Thread Cert.QkpIdeal.nD Cert.QkpIdeal.τ).loc Cert.QkpIdeal.main_v13)),
      θ_run (Cert.QkpIdeal.defs (F := Ideal)) (onTc (τ := Cert.QkpIdeal.τ) (Cert.QkpIdeal.main (F := Ideal))) ⟨m, fun _ => 0, g⟩ (fun r => ∀ c : Dev Cert.QkpIdeal.nD,
          r.2.mem ((c.tc : Thread Cert.QkpIdeal.nD Cert.QkpIdeal.τ).loc Cert.QkpIdeal.main_v13) = v0 c
          ∧ r.2.mem ((c.tc : Thread Cert.QkpIdeal.nD Cert.QkpIdeal.τ).loc Cert.QkpIdeal.main_arg0) = m ((c.tc : Thread Cert.QkpIdeal.nD Cert.QkpIdeal.τ).loc Cert.QkpIdeal.main_arg0)
          ∧ r.2.mem ((c.tc : Thread Cert.QkpIdeal.nD Cert.QkpIdeal.τ).loc Cert.QkpIdeal.main_arg1) = m ((c.tc : Thread Cert.QkpIdeal.nD Cert.QkpIdeal.τ).loc Cert.QkpIdeal.main_arg1)
          ∧ r.2.mem ((c.tc : Thread Cert.QkpIdeal.nD Cert.QkpIdeal.τ).loc Cert.QkpIdeal.main_arg2) = m ((c.tc : Thread Cert.QkpIdeal.nD Cert.QkpIdeal.τ).loc Cert.QkpIdeal.main_arg2))
      ∧ θ_run (Cert.QkpRefIdeal.defs (F := Ideal)) (onTc (τ := Cert.QkpRefIdeal.τ) (Cert.QkpRefIdeal.main (F := Ideal))) ⟨m', fun _ => 0, g'⟩ (fun r => ∀ c : Dev Cert.QkpRefIdeal.nD,
          r.2.mem ((c.tc : Thread Cert.QkpRefIdeal.nD Cert.QkpRefIdeal.τ).loc Cert.QkpRefIdeal.main_v148) = v0 c
          ∧ r.2.mem ((c.tc : Thread Cert.QkpRefIdeal.nD Cert.QkpRefIdeal.τ).loc Cert.QkpRefIdeal.main_arg0) = m' ((c.tc : Thread Cert.QkpRefIdeal.nD Cert.QkpRefIdeal.τ).loc Cert.QkpRefIdeal.main_arg0)
          ∧ r.2.mem ((c.tc : Thread Cert.QkpRefIdeal.nD Cert.QkpRefIdeal.τ).loc Cert.QkpRefIdeal.main_arg1) = m' ((c.tc : Thread Cert.QkpRefIdeal.nD Cert.QkpRefIdeal.τ).loc Cert.QkpRefIdeal.main_arg1)
          ∧ r.2.mem ((c.tc : Thread Cert.QkpRefIdeal.nD Cert.QkpRefIdeal.τ).loc Cert.QkpRefIdeal.main_arg2) = m' ((c.tc : Thread Cert.QkpRefIdeal.nD Cert.QkpRefIdeal.τ).loc Cert.QkpRefIdeal.main_arg2))

def Claim : Prop :=
  ∃ (hDa : Cert.Da.Facts) (hDaIdeal : Cert.DaIdeal.Facts) (hDaRefIdeal : Cert.DaRefIdeal.Facts) (hGq : Cert.Gq.Facts) (hGqIdeal : Cert.GqIdeal.Facts) (hGqRefIdeal : Cert.GqRefIdeal.Facts) (hInp : Cert.Inp.Facts) (hInpIdeal : Cert.InpIdeal.Facts) (hInpRefIdeal : Cert.InpRefIdeal.Facts) (hOutp : Cert.Outp.Facts) (hOutpIdeal : Cert.OutpIdeal.Facts) (hOutpRefIdeal : Cert.OutpRefIdeal.Facts) (hFilt : Cert.Filt.Facts) (hFiltIdeal : Cert.FiltIdeal.Facts) (hFiltRefIdeal : Cert.FiltRefIdeal.Facts) (hFwd : Cert.Fwd.Facts) (hFwdIdeal : Cert.FwdIdeal.Facts) (hFwdRefIdeal : Cert.FwdRefIdeal.Facts) (hInva : Cert.Inva.Facts) (hInvaIdeal : Cert.InvaIdeal.Facts) (hInvaRefIdeal : Cert.InvaRefIdeal.Facts) (hInvb : Cert.Invb.Facts) (hInvbIdeal : Cert.InvbIdeal.Facts) (hInvbRefIdeal : Cert.InvbRefIdeal.Facts) (hModu : Cert.Modu.Facts) (hModuIdeal : Cert.ModuIdeal.Facts) (hModuRefIdeal : Cert.ModuRefIdeal.Facts) (hLna : Cert.Lna.Facts) (hLnaIdeal : Cert.LnaIdeal.Facts) (hLnaRefIdeal : Cert.LnaRefIdeal.Facts) (hLnb : Cert.Lnb.Facts) (hLnbIdeal : Cert.LnbIdeal.Facts) (hLnbRefIdeal : Cert.LnbRefIdeal.Facts) (hLnc : Cert.Lnc.Facts) (hLncIdeal : Cert.LncIdeal.Facts) (hLncRefIdeal : Cert.LncRefIdeal.Facts) (hMpost : Cert.Mpost.Facts) (hMpostIdeal : Cert.MpostIdeal.Facts) (hMpostRefIdeal : Cert.MpostRefIdeal.Facts) (hGate : Cert.Gate.Facts) (hGateIdeal : Cert.GateIdeal.Facts) (hGateRefIdeal : Cert.GateRefIdeal.Facts) (hRout : Cert.Rout.Facts) (hRoutIdeal : Cert.RoutIdeal.Facts) (hRoutRefIdeal : Cert.RoutRefIdeal.Facts) (hAdad : Cert.Adad.Facts) (hAdadIdeal : Cert.AdadIdeal.Facts) (hAdadRefIdeal : Cert.AdadRefIdeal.Facts) (hAdau : Cert.Adau.Facts) (hAdauIdeal : Cert.AdauIdeal.Facts) (hAdauRefIdeal : Cert.AdauRefIdeal.Facts) (hHyfa : Cert.Hyfa.Facts) (hHyfaIdeal : Cert.HyfaIdeal.Facts) (hHyfaRefIdeal : Cert.HyfaRefIdeal.Facts) (hHyfb : Cert.Hyfb.Facts) (hHyfbIdeal : Cert.HyfbIdeal.Facts) (hHyfbRefIdeal : Cert.HyfbRefIdeal.Facts) (hHyfc : Cert.Hyfc.Facts) (hHyfcIdeal : Cert.HyfcIdeal.Facts) (hHyfcRefIdeal : Cert.HyfcRefIdeal.Facts) (hSconv : Cert.Sconv.Facts) (hSconvIdeal : Cert.SconvIdeal.Facts) (hSconvRefIdeal : Cert.SconvRefIdeal.Facts) (hSctx : Cert.Sctx.Facts) (hSctxIdeal : Cert.SctxIdeal.Facts) (hSctxRefIdeal : Cert.SctxRefIdeal.Facts) (hQkp : Cert.Qkp.Facts) (hQkpIdeal : Cert.QkpIdeal.Facts) (hQkpRefIdeal : Cert.QkpRefIdeal.Facts) (hPre_da_finite : Cert.Pre_da_finite.Facts) (hPre_gq_finite : Cert.Pre_gq_finite.Facts),
    quiescent_Da (hDa := hDa)
    ∧ quiescent_DaIdeal (hDaIdeal := hDaIdeal)
    ∧ quiescent_DaIdeal_pre_da_finite (hDaIdeal := hDaIdeal) (hPre_da_finite := hPre_da_finite)
    ∧ quiescent_DaRefIdeal (hDaRefIdeal := hDaRefIdeal)
    ∧ quiescent_DaRefIdeal_pre_da_finite (hDaRefIdeal := hDaRefIdeal) (hPre_da_finite := hPre_da_finite)
    ∧ quiescent_Gq (hGq := hGq)
    ∧ quiescent_GqIdeal (hGqIdeal := hGqIdeal)
    ∧ quiescent_GqIdeal_pre_gq_finite (hGqIdeal := hGqIdeal) (hPre_gq_finite := hPre_gq_finite)
    ∧ quiescent_GqRefIdeal (hGqRefIdeal := hGqRefIdeal)
    ∧ quiescent_GqRefIdeal_pre_gq_finite (hGqRefIdeal := hGqRefIdeal) (hPre_gq_finite := hPre_gq_finite)
    ∧ quiescent_Inp (hInp := hInp)
    ∧ quiescent_InpIdeal (hInpIdeal := hInpIdeal)
    ∧ quiescent_InpRefIdeal (hInpRefIdeal := hInpRefIdeal)
    ∧ quiescent_Outp (hOutp := hOutp)
    ∧ quiescent_OutpIdeal (hOutpIdeal := hOutpIdeal)
    ∧ quiescent_OutpRefIdeal (hOutpRefIdeal := hOutpRefIdeal)
    ∧ quiescent_Filt (hFilt := hFilt)
    ∧ quiescent_FiltIdeal (hFiltIdeal := hFiltIdeal)
    ∧ quiescent_FiltRefIdeal (hFiltRefIdeal := hFiltRefIdeal)
    ∧ quiescent_Fwd (hFwd := hFwd)
    ∧ quiescent_FwdIdeal (hFwdIdeal := hFwdIdeal)
    ∧ quiescent_FwdRefIdeal (hFwdRefIdeal := hFwdRefIdeal)
    ∧ quiescent_Inva (hInva := hInva)
    ∧ quiescent_InvaIdeal (hInvaIdeal := hInvaIdeal)
    ∧ quiescent_InvaRefIdeal (hInvaRefIdeal := hInvaRefIdeal)
    ∧ quiescent_Invb (hInvb := hInvb)
    ∧ quiescent_InvbIdeal (hInvbIdeal := hInvbIdeal)
    ∧ quiescent_InvbRefIdeal (hInvbRefIdeal := hInvbRefIdeal)
    ∧ quiescent_Modu (hModu := hModu)
    ∧ quiescent_ModuIdeal (hModuIdeal := hModuIdeal)
    ∧ quiescent_ModuRefIdeal (hModuRefIdeal := hModuRefIdeal)
    ∧ quiescent_Lna (hLna := hLna)
    ∧ quiescent_LnaIdeal (hLnaIdeal := hLnaIdeal)
    ∧ quiescent_LnaRefIdeal (hLnaRefIdeal := hLnaRefIdeal)
    ∧ quiescent_Lnb (hLnb := hLnb)
    ∧ quiescent_LnbIdeal (hLnbIdeal := hLnbIdeal)
    ∧ quiescent_LnbRefIdeal (hLnbRefIdeal := hLnbRefIdeal)
    ∧ quiescent_Lnc (hLnc := hLnc)
    ∧ quiescent_LncIdeal (hLncIdeal := hLncIdeal)
    ∧ quiescent_LncRefIdeal (hLncRefIdeal := hLncRefIdeal)
    ∧ quiescent_Mpost (hMpost := hMpost)
    ∧ quiescent_MpostIdeal (hMpostIdeal := hMpostIdeal)
    ∧ quiescent_MpostRefIdeal (hMpostRefIdeal := hMpostRefIdeal)
    ∧ quiescent_Gate (hGate := hGate)
    ∧ quiescent_GateIdeal (hGateIdeal := hGateIdeal)
    ∧ quiescent_GateRefIdeal (hGateRefIdeal := hGateRefIdeal)
    ∧ quiescent_Rout (hRout := hRout)
    ∧ quiescent_RoutIdeal (hRoutIdeal := hRoutIdeal)
    ∧ quiescent_RoutRefIdeal (hRoutRefIdeal := hRoutRefIdeal)
    ∧ quiescent_Adad (hAdad := hAdad)
    ∧ quiescent_AdadIdeal (hAdadIdeal := hAdadIdeal)
    ∧ quiescent_AdadRefIdeal (hAdadRefIdeal := hAdadRefIdeal)
    ∧ quiescent_Adau (hAdau := hAdau)
    ∧ quiescent_AdauIdeal (hAdauIdeal := hAdauIdeal)
    ∧ quiescent_AdauRefIdeal (hAdauRefIdeal := hAdauRefIdeal)
    ∧ quiescent_Hyfa (hHyfa := hHyfa)
    ∧ quiescent_HyfaIdeal (hHyfaIdeal := hHyfaIdeal)
    ∧ quiescent_HyfaRefIdeal (hHyfaRefIdeal := hHyfaRefIdeal)
    ∧ quiescent_Hyfb (hHyfb := hHyfb)
    ∧ quiescent_HyfbIdeal (hHyfbIdeal := hHyfbIdeal)
    ∧ quiescent_HyfbRefIdeal (hHyfbRefIdeal := hHyfbRefIdeal)
    ∧ quiescent_Hyfc (hHyfc := hHyfc)
    ∧ quiescent_HyfcIdeal (hHyfcIdeal := hHyfcIdeal)
    ∧ quiescent_HyfcRefIdeal (hHyfcRefIdeal := hHyfcRefIdeal)
    ∧ quiescent_Sconv (hSconv := hSconv)
    ∧ quiescent_SconvIdeal (hSconvIdeal := hSconvIdeal)
    ∧ quiescent_SconvRefIdeal (hSconvRefIdeal := hSconvRefIdeal)
    ∧ quiescent_Sctx (hSctx := hSctx)
    ∧ quiescent_SctxIdeal (hSctxIdeal := hSctxIdeal)
    ∧ quiescent_SctxRefIdeal (hSctxRefIdeal := hSctxRefIdeal)
    ∧ quiescent_Qkp (hQkp := hQkp)
    ∧ quiescent_QkpIdeal (hQkpIdeal := hQkpIdeal)
    ∧ quiescent_QkpRefIdeal (hQkpRefIdeal := hQkpRefIdeal)
    ∧ preserves_Da_DaIdeal
    ∧ algebraic_DaIdeal_DaRefIdeal_pre_da_finite (hDaIdeal := hDaIdeal) (hDaRefIdeal := hDaRefIdeal) (hPre_da_finite := hPre_da_finite)
    ∧ preserves_Gq_GqIdeal
    ∧ algebraic_GqIdeal_GqRefIdeal_pre_gq_finite (hGqIdeal := hGqIdeal) (hGqRefIdeal := hGqRefIdeal) (hPre_gq_finite := hPre_gq_finite)
    ∧ preserves_Inp_InpIdeal
    ∧ algebraic_InpIdeal_InpRefIdeal (hInpIdeal := hInpIdeal) (hInpRefIdeal := hInpRefIdeal)
    ∧ preserves_Outp_OutpIdeal
    ∧ algebraic_OutpIdeal_OutpRefIdeal (hOutpIdeal := hOutpIdeal) (hOutpRefIdeal := hOutpRefIdeal)
    ∧ preserves_Filt_FiltIdeal
    ∧ algebraic_FiltIdeal_FiltRefIdeal (hFiltIdeal := hFiltIdeal) (hFiltRefIdeal := hFiltRefIdeal)
    ∧ preserves_Fwd_FwdIdeal
    ∧ algebraic_FwdIdeal_FwdRefIdeal (hFwdIdeal := hFwdIdeal) (hFwdRefIdeal := hFwdRefIdeal)
    ∧ preserves_Inva_InvaIdeal
    ∧ algebraic_InvaIdeal_InvaRefIdeal (hInvaIdeal := hInvaIdeal) (hInvaRefIdeal := hInvaRefIdeal)
    ∧ preserves_Invb_InvbIdeal
    ∧ algebraic_InvbIdeal_InvbRefIdeal (hInvbIdeal := hInvbIdeal) (hInvbRefIdeal := hInvbRefIdeal)
    ∧ preserves_Modu_ModuIdeal
    ∧ algebraic_ModuIdeal_ModuRefIdeal (hModuIdeal := hModuIdeal) (hModuRefIdeal := hModuRefIdeal)
    ∧ preserves_Lna_LnaIdeal
    ∧ algebraic_LnaIdeal_LnaRefIdeal (hLnaIdeal := hLnaIdeal) (hLnaRefIdeal := hLnaRefIdeal)
    ∧ preserves_Lnb_LnbIdeal
    ∧ algebraic_LnbIdeal_LnbRefIdeal (hLnbIdeal := hLnbIdeal) (hLnbRefIdeal := hLnbRefIdeal)
    ∧ preserves_Lnc_LncIdeal
    ∧ algebraic_LncIdeal_LncRefIdeal (hLncIdeal := hLncIdeal) (hLncRefIdeal := hLncRefIdeal)
    ∧ preserves_Mpost_MpostIdeal
    ∧ algebraic_MpostIdeal_MpostRefIdeal (hMpostIdeal := hMpostIdeal) (hMpostRefIdeal := hMpostRefIdeal)
    ∧ preserves_Gate_GateIdeal
    ∧ algebraic_GateIdeal_GateRefIdeal (hGateIdeal := hGateIdeal) (hGateRefIdeal := hGateRefIdeal)
    ∧ preserves_Rout_RoutIdeal
    ∧ algebraic_RoutIdeal_RoutRefIdeal (hRoutIdeal := hRoutIdeal) (hRoutRefIdeal := hRoutRefIdeal)
    ∧ preserves_Adad_AdadIdeal
    ∧ algebraic_AdadIdeal_AdadRefIdeal (hAdadIdeal := hAdadIdeal) (hAdadRefIdeal := hAdadRefIdeal)
    ∧ preserves_Adau_AdauIdeal
    ∧ algebraic_AdauIdeal_AdauRefIdeal (hAdauIdeal := hAdauIdeal) (hAdauRefIdeal := hAdauRefIdeal)
    ∧ preserves_Hyfa_HyfaIdeal
    ∧ algebraic_HyfaIdeal_HyfaRefIdeal (hHyfaIdeal := hHyfaIdeal) (hHyfaRefIdeal := hHyfaRefIdeal)
    ∧ preserves_Hyfb_HyfbIdeal
    ∧ algebraic_HyfbIdeal_HyfbRefIdeal (hHyfbIdeal := hHyfbIdeal) (hHyfbRefIdeal := hHyfbRefIdeal)
    ∧ preserves_Hyfc_HyfcIdeal
    ∧ algebraic_HyfcIdeal_HyfcRefIdeal (hHyfcIdeal := hHyfcIdeal) (hHyfcRefIdeal := hHyfcRefIdeal)
    ∧ preserves_Sconv_SconvIdeal
    ∧ algebraic_SconvIdeal_SconvRefIdeal (hSconvIdeal := hSconvIdeal) (hSconvRefIdeal := hSconvRefIdeal)
    ∧ preserves_Sctx_SctxIdeal
    ∧ algebraic_SctxIdeal_SctxRefIdeal (hSctxIdeal := hSctxIdeal) (hSctxRefIdeal := hSctxRefIdeal)
    ∧ preserves_Qkp_QkpIdeal
    ∧ algebraic_QkpIdeal_QkpRefIdeal (hQkpIdeal := hQkpIdeal) (hQkpRefIdeal := hQkpRefIdeal)
-- ==== Pre_da_finite.lean ====
abbrev S4x4352x4608 : Shape := ⟨3, ![4, 4352, 4608]⟩
abbrev S4x128 : Shape := ⟨2, ![4, 128]⟩
abbrev S256 : Shape := ⟨1, ![256]⟩
abbrev S1x1 : Shape := ⟨2, ![1, 1]⟩
abbrev S4x4352x3072 : Shape := ⟨3, ![4, 4352, 3072]⟩
abbrev S_ : Shape := ⟨0, ![]⟩

class Facts : Prop where
  slices_S4x4352x4608_S4x4352x3072_0_0_0 : S4x4352x4608.Slices ![0, 0, 0] S4x4352x3072
  bitsLt_bf16_f32 : FTy.bits .bf16 < FTy.bits .f32
  bcast_S_S4x4352x3072 : S_.BroadcastsInDim S4x4352x3072 (![] : Fin 0 → Fin S4x4352x3072.rank)
  bcast_S_S4x128 : S_.BroadcastsInDim S4x128 (![] : Fin 0 → Fin S4x128.rank)
  bcast_S_S1x1 : S_.BroadcastsInDim S1x1 (![] : Fin 0 → Fin S1x1.rank)

variable [Facts]

def fn {F : FTy → Type} [FloatOps F] (main_arg0 : FVec F S4x4352x4608 .bf16) (main_arg1 : FVec F S4x128 .f32) (main_arg2 : FVec F S256 .f32) (main_arg3 : FVec F S1x1 .f32) : IVec S4x4352x3072 1 × IVec S4x128 1 × IVec S1x1 1 :=
  let main_v0 : FVec F S4x4352x3072 .bf16 := (extractStridedSlice S4x4352x3072 ![0, 0, 0] · slices_S4x4352x4608_S4x4352x3072_0_0_0) main_arg0
  let main_v1 : FVec F S4x4352x3072 .f32 := (extf .f32 · bitsLt_bf16_f32) main_v0
  let main_v2 : FVec F S4x4352x3072 .f32 := Host.absf main_v1
  let main_cst : FVec F S_ .f32 := constant S_ .f32 0x7F800000#32
  let main_v3 : FVec F S4x4352x3072 .f32 := broadcastInDim S4x4352x3072 ![] bcast_S_S4x4352x3072 main_cst
  let main_v4 : IVec S4x4352x3072 1 := cmpf .olt main_v2 main_v3
  let main_v5 : FVec F S4x128 .f32 := Host.absf main_arg1
  let main_cst_0 : FVec F S_ .f32 := constant S_ .f32 0x7F800000#32
  let main_v6 : FVec F S4x128 .f32 := broadcastInDim S4x128 ![] bcast_S_S4x128 main_cst_0
  let main_v7 : IVec S4x128 1 := cmpf .olt main_v5 main_v6
  let main_v8 : FVec F S1x1 .f32 := Host.absf main_arg3
  let main_cst_1 : FVec F S_ .f32 := constant S_ .f32 0x7F800000#32
  let main_v9 : FVec F S1x1 .f32 := broadcastInDim S1x1 ![] bcast_S_S1x1 main_cst_1
  let main_v10 : IVec S1x1 1 := cmpf .olt main_v8 main_v9
  (main_v4, main_v7, main_v10)
-- ==== Pre_gq_finite.lean ====
abbrev S4x4352x4608 : Shape := ⟨3, ![4, 4352, 4608]⟩
abbrev S4x4352x1536 : Shape := ⟨3, ![4, 4352, 1536]⟩
abbrev S_ : Shape := ⟨0, ![]⟩

class Facts : Prop where
  slices_S4x4352x4608_S4x4352x1536_0_0_3072 : S4x4352x4608.Slices ![0, 0, 3072] S4x4352x1536
  bitsLt_bf16_f32 : FTy.bits .bf16 < FTy.bits .f32
  bcast_S_S4x4352x1536 : S_.BroadcastsInDim S4x4352x1536 (![] : Fin 0 → Fin S4x4352x1536.rank)

variable [Facts]

def fn {F : FTy → Type} [FloatOps F] (main_arg0 : FVec F S4x4352x4608 .bf16) : IVec S4x4352x1536 1 :=
  let main_v0 : FVec F S4x4352x1536 .bf16 := (extractStridedSlice S4x4352x1536 ![0, 0, 3072] · slices_S4x4352x4608_S4x4352x1536_0_0_3072) main_arg0
  let main_v1 : FVec F S4x4352x1536 .f32 := (extf .f32 · bitsLt_bf16_f32) main_v0
  let main_v2 : FVec F S4x4352x1536 .f32 := Host.absf main_v1
  let main_cst : FVec F S_ .f32 := constant S_ .f32 0x7F800000#32
  let main_v3 : FVec F S4x4352x1536 .f32 := broadcastInDim S4x4352x1536 ![] bcast_S_S4x4352x1536 main_cst
  let main_v4 : IVec S4x4352x1536 1 := cmpf .olt main_v2 main_v3
  main_v4
-- ==== Da.lean ====
abbrev S4x4352x4608 : Shape := ⟨3, ![4, 4352, 4608]⟩
abbrev S4x128 : Shape := ⟨2, ![4, 128]⟩
abbrev S256 : Shape := ⟨1, ![256]⟩
abbrev S1x1 : Shape := ⟨2, ![1, 1]⟩
abbrev S1x128 : Shape := ⟨2, ![1, 128]⟩
abbrev S128 : Shape := ⟨1, ![128]⟩
abbrev S_ : Shape := ⟨0, ![]⟩
abbrev S1x256 : Shape := ⟨2, ![1, 256]⟩
abbrev S4x4352x1024 : Shape := ⟨3, ![4, 4352, 1024]⟩
abbrev S1x256x256 : Shape := ⟨3, ![1, 256, 256]⟩
abbrev S1x4352x256 : Shape := ⟨3, ![1, 4352, 256]⟩
abbrev S1x256x128 : Shape := ⟨3, ![1, 256, 128]⟩
abbrev S256x128 : Shape := ⟨2, ![256, 128]⟩
abbrev S1x2176x128 : Shape := ⟨3, ![1, 2176, 128]⟩
abbrev S2176x128 : Shape := ⟨2, ![2176, 128]⟩
abbrev S256x2176 : Shape := ⟨2, ![256, 2176]⟩
abbrev S256x1 : Shape := ⟨2, ![256, 1]⟩
abbrev S1x2176x256 : Shape := ⟨3, ![1, 2176, 256]⟩
abbrev S2176x256 : Shape := ⟨2, ![2176, 256]⟩
abbrev S256x256 : Shape := ⟨2, ![256, 256]⟩

abbrev nBuf : Space → Nat
  | .hbm => 31
  | .vmem => 9
  | .smem => 1
  | _ => 0

abbrev bufTy : (tb : Table) → Fin (tcTables nBuf tb) → BufTy
  | .hbm, ⟨0, _⟩ => ⟨S4x4352x4608, .bf16⟩
  | .hbm, ⟨1, _⟩ => ⟨S4x128, .f32⟩
  | .hbm, ⟨2, _⟩ => ⟨S256, .f32⟩
  | .hbm, ⟨3, _⟩ => ⟨S1x1, .f32⟩
  | .hbm, ⟨4, _⟩ => ⟨S1x128, .f32⟩
  | .hbm, ⟨5, _⟩ => ⟨S128, .f32⟩
  | .hbm, ⟨6, _⟩ => ⟨S1x128, .f32⟩
  | .hbm, ⟨7, _⟩ => ⟨S128, .f32⟩
  | .hbm, ⟨8, _⟩ => ⟨S128, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S1x128, .f32⟩
  | .hbm, ⟨13, _⟩ => ⟨S128, .f32⟩
  | .hbm, ⟨14, _⟩ => ⟨S1x128, .f32⟩
  | .hbm, ⟨15, _⟩ => ⟨S128, .f32⟩
  | .hbm, ⟨16, _⟩ => ⟨S128, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1x1, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S256, .f32⟩
  | .hbm, ⟨28, _⟩ => ⟨S256, .f32⟩
  | .hbm, ⟨29, _⟩ => ⟨S1x256, .f32⟩
  | .hbm, ⟨30, _⟩ => ⟨S4x4352x1024, .bf16⟩
  | .local _ .vmem, ⟨0, _⟩ => ⟨S1x256x256, .bf16⟩
  | .local _ .vmem, ⟨1, _⟩ => ⟨S1x256x256, .bf16⟩
  | .local _ .vmem, ⟨2, _⟩ => ⟨S1x4352x256, .bf16⟩
  | .local _ .vmem, ⟨3, _⟩ => ⟨S1x4352x256, .bf16⟩
  | .local _ .vmem, ⟨4, _⟩ => ⟨S1x4352x256, .bf16⟩
  | .local _ .vmem, ⟨5, _⟩ => ⟨S1x4352x256, .bf16⟩
  | .local _ .vmem, ⟨6, _⟩ => ⟨S1x256, .f32⟩
  | .local _ .vmem, ⟨7, _⟩ => ⟨S1x256x256, .bf16⟩
  | .local _ .vmem, ⟨8, _⟩ => ⟨S1x256x256, .bf16⟩
  | .local _ .smem, ⟨0, _⟩ => ⟨S1x1, .f32⟩
  | _, _ => ⟨S4x4352x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 4, 17], ![false, false, false]⟩

def k0_cond1 (i : grid0.Coords) : BitVec 1 :=
  let arg2 : BitVec 32 := BitVec.ofNat 32 (i 2).val
  let c16_i32 : BitVec 32 := 16#32
  let v0 : BitVec 1 := Scalar.cmpi .slt arg2 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg2 : BitVec 32 := BitVec.ofNat 32 (i 2).val
  let c16_i32_0 : BitVec 32 := 16#32
  let v3 : BitVec 1 := Scalar.cmpi .sge arg2 c16_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c4_i32 : BitVec 32 := 4#32
  let v17 : BitVec 32 := Scalar.addi c4_i32 v16
  let c0_i32_5 : BitVec 32 := 0#32
  let c0_i32_6 : BitVec 32 := 0#32
  ![arg0.toNat, c0_i32_5.toNat, v17.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c8_i32 : BitVec 32 := 8#32
  let v17 : BitVec 32 := Scalar.addi c8_i32 v16
  let c0_i32_5 : BitVec 32 := 0#32
  let c0_i32_6 : BitVec 32 := 0#32
  ![arg0.toNat, c0_i32_5.toNat, v17.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4352x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4352x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== DaRefIdeal.lean ====
abbrev S4x4352x4608 : Shape := ⟨3, ![4, 4352, 4608]⟩
abbrev S4x128 : Shape := ⟨2, ![4, 128]⟩
abbrev S256 : Shape := ⟨1, ![256]⟩
abbrev S1x1 : Shape := ⟨2, ![1, 1]⟩
abbrev S1x128 : Shape := ⟨2, ![1, 128]⟩
abbrev S128 : Shape := ⟨1, ![128]⟩
abbrev S_ : Shape := ⟨0, ![]⟩
abbrev S4x4352x1024 : Shape := ⟨3, ![4, 4352, 1024]⟩
abbrev S4x4352x4x2x128 : Shape := ⟨5, ![4, 4352, 4, 2, 128]⟩
abbrev S4x4352x4x256 : Shape := ⟨4, ![4, 4352, 4, 256]⟩
abbrev S4x4096x4x2x128 : Shape := ⟨5, ![4, 4096, 4, 2, 128]⟩
abbrev S4x4x2x4096x4352 : Shape := ⟨5, ![4, 4, 2, 4096, 4352]⟩
abbrev S4x4x2x4096 : Shape := ⟨4, ![4, 4, 2, 4096]⟩
abbrev S4x4x2x4096x1 : Shape := ⟨5, ![4, 4, 2, 4096, 1]⟩
abbrev S4x4x1x4096x4352 : Shape := ⟨5, ![4, 4, 1, 4096, 4352]⟩
abbrev S4x4x4096x4352 : Shape := ⟨4, ![4, 4, 4096, 4352]⟩
abbrev S4x4x256x4096 : Shape := ⟨4, ![4, 4, 256, 4096]⟩
abbrev S4x4096x4x256 : Shape := ⟨4, ![4, 4096, 4, 256]⟩
abbrev S4x256x4x2x128 : Shape := ⟨5, ![4, 256, 4, 2, 128]⟩
abbrev S4x256x4x256 : Shape := ⟨4, ![4, 256, 4, 256]⟩
abbrev S4x4x2x256x256 : Shape := ⟨5, ![4, 4, 2, 256, 256]⟩
abbrev S4x4x2x256 : Shape := ⟨4, ![4, 4, 2, 256]⟩
abbrev S4x4x2x256x1 : Shape := ⟨5, ![4, 4, 2, 256, 1]⟩
abbrev S4x4x1x256x256 : Shape := ⟨5, ![4, 4, 1, 256, 256]⟩
abbrev S4x4x256x256 : Shape := ⟨4, ![4, 4, 256, 256]⟩
abbrev S4x4352x4 : Shape := ⟨3, ![4, 4352, 4]⟩
abbrev S4x4352x4x1 : Shape := ⟨4, ![4, 4352, 4, 1]⟩
abbrev S1x1x1x256 : Shape := ⟨4, ![1, 1, 1, 256]⟩

abbrev nBuf : Space → Nat
  | .hbm => 114
  | .vmem => 0
  | .smem => 0
  | _ => 0

abbrev bufTy : (tb : Table) → Fin (tcTables nBuf tb) → BufTy
  | .hbm, ⟨0, _⟩ => ⟨S4x4352x4608, .bf16⟩
  | .hbm, ⟨1, _⟩ => ⟨S4x128, .f32⟩
  | .hbm, ⟨2, _⟩ => ⟨S256, .f32⟩
  | .hbm, ⟨3, _⟩ => ⟨S1x1, .f32⟩
  | .hbm, ⟨4, _⟩ => ⟨S1x128, .f32⟩
  | .hbm, ⟨5, _⟩ => ⟨S128, .f32⟩
  | .hbm, ⟨6, _⟩ => ⟨S1x128, .f32⟩
  | .hbm, ⟨7, _⟩ => ⟨S128, .f32⟩
  | .hbm, ⟨8, _⟩ => ⟨S128, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S1x128, .f32⟩
  | .hbm, ⟨13, _⟩ => ⟨S128, .f32⟩
  | .hbm, ⟨14, _⟩ => ⟨S1x128, .f32⟩
  | .hbm, ⟨15, _⟩ => ⟨S128, .f32⟩
  | .hbm, ⟨16, _⟩ => ⟨S128, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4x4352x4608, .f32⟩
  | .hbm, ⟨24, _⟩ => ⟨S4x4352x1024, .f32⟩
  | .hbm, ⟨25, _⟩ => ⟨S4x4352x4x2x128, .f32⟩
  | .hbm, ⟨26, _⟩ => ⟨S4x4352x1024, .f32⟩
  | .hbm, ⟨27, _⟩ => ⟨S4x4352x4x2x128, .f32⟩
  | .hbm, ⟨28, _⟩ => ⟨S4x4352x1024, .f32⟩
  | .hbm, ⟨29, _⟩ => ⟨S4x4352x4x256, .f32⟩
  | .hbm, ⟨30, _⟩ => ⟨S4x4096x4x2x128, .f32⟩
  | .hbm, ⟨31, _⟩ => ⟨S4x4x2x4096x4352, .f32⟩
  | .hbm, ⟨32, _⟩ => ⟨S_, .f32⟩
  | .hbm, ⟨33, _⟩ => ⟨S_, .f32⟩
  | .hbm, ⟨34, _⟩ => ⟨S4x4x2x4096x4352, .f32⟩
  | .hbm, ⟨35, _⟩ => ⟨S4x4x2x4096x4352, .f32⟩
  | .hbm, ⟨36, _⟩ => ⟨S_, .f32⟩
  | .hbm, ⟨37, _⟩ => ⟨S4x4x2x4096, .f32⟩
  | .hbm, ⟨38, _⟩ => ⟨S_, .f32⟩
  | .hbm, ⟨39, _⟩ => ⟨S4x4x2x4096, .f32⟩
  | .hbm, ⟨40, _⟩ => ⟨S4x4x2x4096, .f32⟩
  | .hbm, ⟨41, _⟩ => ⟨S4x4x2x4096x1, .f32⟩
  | .hbm, ⟨42, _⟩ => ⟨S4x4x2x4096x4352, .f32⟩
  | .hbm, ⟨43, _⟩ => ⟨S4x4x2x4096x4352, .f32⟩
  | .hbm, ⟨44, _⟩ => ⟨S4x4x2x4096x4352, .f32⟩
  | .hbm, ⟨45, _⟩ => ⟨S_, .f32⟩
  | .hbm, ⟨46, _⟩ => ⟨S4x4x2x4096, .f32⟩
  | .hbm, ⟨47, _⟩ => ⟨S4x4x2x4096x1, .f32⟩
  | .hbm, ⟨48, _⟩ => ⟨S4x4x2x4096x4352, .f32⟩
  | .hbm, ⟨49, _⟩ => ⟨S4x4x2x4096x4352, .f32⟩
  | .hbm, ⟨50, _⟩ => ⟨S4x4x1x4096x4352, .f32⟩
  | .hbm, ⟨51, _⟩ => ⟨S4x4x4096x4352, .f32⟩
  | .hbm, ⟨52, _⟩ => ⟨S4x4x1x4096x4352, .f32⟩
  | .hbm, ⟨53, _⟩ => ⟨S4x4x4096x4352, .f32⟩
  | .hbm, ⟨54, _⟩ => ⟨S4x4x4096x4352, .f32⟩
  | .hbm, ⟨55, _⟩ => ⟨S4x4x4096x4352, .f32⟩
  | .hbm, ⟨56, _⟩ => ⟨S4x4x4096x4352, .f32⟩
  | .hbm, ⟨57, _⟩ => ⟨S4x4x256x4096, .f32⟩
  | .hbm, ⟨58, _⟩ => ⟨S4x4096x4x256, .f32⟩
  | .hbm, ⟨59, _⟩ => ⟨S4x256x4x2x128, .f32⟩
  | .hbm, ⟨60, _⟩ => ⟨S4x256x4x2x128, .f32⟩
  | .hbm, ⟨61, _⟩ => ⟨S4x256x4x256, .f32⟩
  | .hbm, ⟨62, _⟩ => ⟨S4x4x2x256x256, .f32⟩
  | .hbm, ⟨63, _⟩ => ⟨S_, .f32⟩
  | .hbm, ⟨64, _⟩ => ⟨S_, .f32⟩
  | .hbm, ⟨65, _⟩ => ⟨S4x4x2x256x256, .f32⟩
  | .hbm, ⟨66, _⟩ => ⟨S4x4x2x256x256, .f32⟩
  | .hbm, ⟨67, _⟩ => ⟨S_, .f32⟩
  | .hbm, ⟨68, _⟩ => ⟨S4x4x2x256, .f32⟩
  | .hbm, ⟨69, _⟩ => ⟨S_, .f32⟩
  | .hbm, ⟨70, _⟩ => ⟨S4x4x2x256, .f32⟩
  | .hbm, ⟨71, _⟩ => ⟨S4x4x2x256, .f32⟩
  | .hbm, ⟨72, _⟩ => ⟨S4x4x2x256x1, .f32⟩
  | .hbm, ⟨73, _⟩ => ⟨S4x4x2x256x256, .f32⟩
  | .hbm, ⟨74, _⟩ => ⟨S4x4x2x256x256, .f32⟩
  | .hbm, ⟨75, _⟩ => ⟨S4x4x2x256x256, .f32⟩
  | .hbm, ⟨76, _⟩ => ⟨S_, .f32⟩
  | .hbm, ⟨77, _⟩ => ⟨S4x4x2x256, .f32⟩
  | .hbm, ⟨78, _⟩ => ⟨S4x4x2x256x1, .f32⟩
  | .hbm, ⟨79, _⟩ => ⟨S4x4x2x256x256, .f32⟩
  | .hbm, ⟨80, _⟩ => ⟨S4x4x2x256x256, .f32⟩
  | .hbm, ⟨81, _⟩ => ⟨S4x4x1x256x256, .f32⟩
  | .hbm, ⟨82, _⟩ => ⟨S4x4x256x256, .f32⟩
  | .hbm, ⟨83, _⟩ => ⟨S4x4x1x256x256, .f32⟩
  | .hbm, ⟨84, _⟩ => ⟨S4x4x256x256, .f32⟩
  | .hbm, ⟨85, _⟩ => ⟨S4x4x256x256, .f32⟩
  | .hbm, ⟨86, _⟩ => ⟨S4x4x256x256, .f32⟩
  | .hbm, ⟨87, _⟩ => ⟨S4x4x256x256, .f32⟩
  | .hbm, ⟨88, _⟩ => ⟨S4x4x256x256, .f32⟩
  | .hbm, ⟨89, _⟩ => ⟨S4x256x4x256, .f32⟩
  | .hbm, ⟨90, _⟩ => ⟨S4x4352x4x256, .f32⟩
  | .hbm, ⟨91, _⟩ => ⟨S4x4352x4x256, .f32⟩
  | .hbm, ⟨92, _⟩ => ⟨S_, .f32⟩
  | .hbm, ⟨93, _⟩ => ⟨S4x4352x4, .f32⟩
  | .hbm, ⟨94, _⟩ => ⟨S4x4352x4x1, .f32⟩
  | .hbm, ⟨95, _⟩ => ⟨S_, .f32⟩
  | .hbm, ⟨96, _⟩ => ⟨S4x4352x4x1, .f32⟩
  | .hbm, ⟨97, _⟩ => ⟨S4x4352x4x1, .f32⟩
  | .hbm, ⟨98, _⟩ => ⟨S_, .f32⟩
  | .hbm, ⟨99, _⟩ => ⟨S4x4352x4x1, .f32⟩
  | .hbm, ⟨100, _⟩ => ⟨S4x4352x4x1, .f32⟩
  | .hbm, ⟨101, _⟩ => ⟨S4x4352x4x1, .f32⟩
  | .hbm, ⟨102, _⟩ => ⟨S4x4352x4x256, .f32⟩
  | .hbm, ⟨103, _⟩ => ⟨S4x4352x4x256, .f32⟩
  | .hbm, ⟨104, _⟩ => ⟨S1x1x1x256, .f32⟩
  | .hbm, ⟨105, _⟩ => ⟨S4x4352x4x256, .f32⟩
  | .hbm, ⟨106, _⟩ => ⟨S4x4352x4x256, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S4x4352x4x256, .f32⟩
  | .hbm, ⟨111, _⟩ => ⟨S4x4352x4x256, .f32⟩
  | .hbm, ⟨112, _⟩ => ⟨S4x4352x1024, .f32⟩
  | .hbm, ⟨113, _⟩ => ⟨S4x4352x1024, .bf16⟩
  | _, _ => ⟨S4x4352x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_1 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_cst_5 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_cst_6 : Ref sig .tc := ⟨.hbm, 67, rfl⟩
abbrev main_v56 : Ref sig .tc := ⟨.hbm, 68, rfl⟩
abbrev main_cst_7 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_cst_8 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_cst_9 : Ref sig .tc := ⟨.hbm, 92, rfl⟩
abbrev main_v78 : Ref sig .tc := ⟨.hbm, 93, rfl⟩
abbrev main_v79 : Ref sig .tc := ⟨.hbm, 94, rfl⟩
abbrev main_cst_10 : Ref sig .tc := ⟨.hbm, 95, rfl⟩
abbrev main_v80 : Ref sig .tc := ⟨.hbm, 96, rfl⟩
abbrev main_v81 : Ref sig .tc := ⟨.hbm, 97, rfl⟩
abbrev main_cst_11 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_cst_12 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩

abbrev nD : Nat := 1
abbrev τ : Topo := Topo.v7x

variable {F : FTy → Type} [FloatOps F]
-- ==== Gq.lean ====
abbrev S4x4352x4608 : Shape := ⟨3, ![4, 4352, 4608]⟩
abbrev S4x4352x1024 : Shape := ⟨3, ![4, 4352, 1024]⟩
abbrev S1x256x256 : Shape := ⟨3, ![1, 256, 256]⟩
abbrev S1x4352x128 : Shape := ⟨3, ![1, 4352, 128]⟩
abbrev S1x256x128 : Shape := ⟨3, ![1, 256, 128]⟩
abbrev S256x128 : Shape := ⟨2, ![256, 128]⟩
abbrev S4352x128 : Shape := ⟨2, ![4352, 128]⟩
abbrev S256x4352 : Shape := ⟨2, ![256, 4352]⟩
abbrev S256 : Shape := ⟨1, ![256]⟩
abbrev S256x1 : Shape := ⟨2, ![256, 1]⟩
abbrev S256x256 : Shape := ⟨2, ![256, 256]⟩

abbrev nBuf : Space → Nat
  | .hbm => 2
  | .vmem => 8
  | .smem => 0
  | _ => 0

abbrev bufTy : (tb : Table) → Fin (tcTables nBuf tb) → BufTy
  | .hbm, ⟨0, _⟩ => ⟨S4x4352x4608, .bf16⟩
  | .hbm, ⟨1, _⟩ => ⟨S4x4352x1024, .bf16⟩
  | .local _ .vmem, ⟨0, _⟩ => ⟨S1x256x256, .bf16⟩
  | .local _ .vmem, ⟨1, _⟩ => ⟨S1x256x256, .bf16⟩
  | .local _ .vmem, ⟨2, _⟩ => ⟨S1x4352x128, .bf16⟩
  | .local _ .vmem, ⟨3, _⟩ => ⟨S1x4352x128, .bf16⟩
  | .local _ .vmem, ⟨4, _⟩ => ⟨S1x4352x128, .bf16⟩
  | .local _ .vmem, ⟨5, _⟩ => ⟨S1x4352x128, .bf16⟩
  | .local _ .vmem, ⟨6, _⟩ => ⟨S1x256x256, .bf16⟩
  | .local _ .vmem, ⟨7, _⟩ => ⟨S1x256x256, .bf16⟩
  | _, _ => ⟨S4x4352x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 17], ![false, false, false]⟩

def k0_cond1 (i : grid0.Coords) : BitVec 1 :=
  let arg2 : BitVec 32 := BitVec.ofNat 32 (i 2).val
  let c16_i32 : BitVec 32 := 16#32
  let v0 : BitVec 1 := Scalar.cmpi .slt arg2 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg2 : BitVec 32 := BitVec.ofNat 32 (i 2).val
  let c16_i32_0 : BitVec 32 := 16#32
  let v3 : BitVec 1 := Scalar.cmpi .sge arg2 c16_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32 : BitVec 32 := 32#32
  let v17 : BitVec 32 := Scalar.addi c32_i32 v16
  let c0_i32_4 : BitVec 32 := 0#32
  let c0_i32_5 : BitVec 32 := 0#32
  ![arg0.toNat, c0_i32_4.toNat, v17.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c34_i32 : BitVec 32 := 34#32
  let v17 : BitVec 32 := Scalar.addi c34_i32 v16
  let c0_i32_4 : BitVec 32 := 0#32
  let c0_i32_5 : BitVec 32 := 0#32
  ![arg0.toNat, c0_i32_4.toNat, v17.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4352x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== GqRefIdeal.lean ====
abbrev S4x4352x4608 : Shape := ⟨3, ![4, 4352, 4608]⟩
abbrev S4x4352x1024 : Shape := ⟨3, ![4, 4352, 1024]⟩
abbrev S4x4352x2x4x128 : Shape := ⟨5, ![4, 4352, 2, 4, 128]⟩
abbrev S4x4352x256 : Shape := ⟨3, ![4, 4352, 256]⟩
abbrev S4x4352x2x128 : Shape := ⟨4, ![4, 4352, 2, 128]⟩
abbrev S4x4096x2x4x128 : Shape := ⟨5, ![4, 4096, 2, 4, 128]⟩
abbrev S4x2x4352x4096x4 : Shape := ⟨5, ![4, 2, 4352, 4096, 4]⟩
abbrev S4x2x4x4096x4352 : Shape := ⟨5, ![4, 2, 4, 4096, 4352]⟩
abbrev S_ : Shape := ⟨0, ![]⟩
abbrev S4x2x4x4096 : Shape := ⟨4, ![4, 2, 4, 4096]⟩
abbrev S4x2x4x4096x1 : Shape := ⟨5, ![4, 2, 4, 4096, 1]⟩
abbrev S4x2x128x4x4096 : Shape := ⟨5, ![4, 2, 128, 4, 4096]⟩
abbrev S4x4096x1024 : Shape := ⟨3, ![4, 4096, 1024]⟩
abbrev S4x256x2x4x128 : Shape := ⟨5, ![4, 256, 2, 4, 128]⟩
abbrev S4x256x2x128 : Shape := ⟨4, ![4, 256, 2, 128]⟩
abbrev S4x2x256x256x4 : Shape := ⟨5, ![4, 2, 256, 256, 4]⟩
abbrev S4x2x4x256x256 : Shape := ⟨5, ![4, 2, 4, 256, 256]⟩
abbrev S4x2x4x256 : Shape := ⟨4, ![4, 2, 4, 256]⟩
abbrev S4x2x4x256x1 : Shape := ⟨5, ![4, 2, 4, 256, 1]⟩
abbrev S4x2x128x4x256 : Shape := ⟨5, ![4, 2, 128, 4, 256]⟩
abbrev S4x256x1024 : Shape := ⟨3, ![4, 256, 1024]⟩

abbrev nBuf : Space → Nat
  | .hbm => 60
  | .vmem => 0
  | .smem => 0
  | _ => 0

abbrev bufTy : (tb : Table) → Fin (tcTables nBuf tb) → BufTy
  | .hbm, ⟨0, _⟩ => ⟨S4x4352x4608, .bf16⟩
  | .hbm, ⟨1, _⟩ => ⟨S4x4352x4608, .f32⟩
  | .hbm, ⟨2, _⟩ => ⟨S4x4352x1024, .f32⟩
  | .hbm, ⟨3, _⟩ => ⟨S4x4352x2x4x128, .f32⟩
  | .hbm, ⟨4, _⟩ => ⟨S4x4352x256, .f32⟩
  | .hbm, ⟨5, _⟩ => ⟨S4x4352x2x128, .f32⟩
  | .hbm, ⟨6, _⟩ => ⟨S4x4352x256, .f32⟩
  | .hbm, ⟨7, _⟩ => ⟨S4x4352x2x128, .f32⟩
  | .hbm, ⟨8, _⟩ => ⟨S4x4096x2x4x128, .f32⟩
  | .hbm, ⟨9, _⟩ => ⟨S4x2x4352x4096x4, .f32⟩
  | .hbm, ⟨10, _⟩ => ⟨S4x2x4x4096x4352, .f32⟩
  | .hbm, ⟨11, _⟩ => ⟨S_, .f32⟩
  | .hbm, ⟨12, _⟩ => ⟨S_, .f32⟩
  | .hbm, ⟨13, _⟩ => ⟨S4x2x4x4096x4352, .f32⟩
  | .hbm, ⟨14, _⟩ => ⟨S4x2x4x4096x4352, .f32⟩
  | .hbm, ⟨15, _⟩ => ⟨S_, .f32⟩
  | .hbm, ⟨16, _⟩ => ⟨S4x2x4x4096, .f32⟩
  | .hbm, ⟨17, _⟩ => ⟨S_, .f32⟩
  | .hbm, ⟨18, _⟩ => ⟨S4x2x4x4096, .f32⟩
  | .hbm, ⟨19, _⟩ => ⟨S4x2x4x4096, .f32⟩
  | .hbm, ⟨20, _⟩ => ⟨S4x2x4x4096x1, .f32⟩
  | .hbm, ⟨21, _⟩ => ⟨S4x2x4x4096x4352, .f32⟩
  | .hbm, ⟨22, _⟩ => ⟨S4x2x4x4096x4352, .f32⟩
  | .hbm, ⟨23, _⟩ => ⟨S4x2x4x4096x4352, .f32⟩
  | .hbm, ⟨24, _⟩ => ⟨S_, .f32⟩
  | .hbm, ⟨25, _⟩ => ⟨S4x2x4x4096, .f32⟩
  | .hbm, ⟨26, _⟩ => ⟨S4x2x4x4096x1, .f32⟩
  | .hbm, ⟨27, _⟩ => ⟨S4x2x4x4096x4352, .f32⟩
  | .hbm, ⟨28, _⟩ => ⟨S4x2x4x4096x4352, .f32⟩
  | .hbm, ⟨29, _⟩ => ⟨S4x2x128x4x4096, .f32⟩
  | .hbm, ⟨30, _⟩ => ⟨S4x4096x2x4x128, .f32⟩
  | .hbm, ⟨31, _⟩ => ⟨S4x4096x1024, .f32⟩
  | .hbm, ⟨32, _⟩ => ⟨S4x256x2x4x128, .f32⟩
  | .hbm, ⟨33, _⟩ => ⟨S4x256x2x128, .f32⟩
  | .hbm, ⟨34, _⟩ => ⟨S4x256x2x128, .f32⟩
  | .hbm, ⟨35, _⟩ => ⟨S4x2x256x256x4, .f32⟩
  | .hbm, ⟨36, _⟩ => ⟨S4x2x4x256x256, .f32⟩
  | .hbm, ⟨37, _⟩ => ⟨S_, .f32⟩
  | .hbm, ⟨38, _⟩ => ⟨S_, .f32⟩
  | .hbm, ⟨39, _⟩ => ⟨S4x2x4x256x256, .f32⟩
  | .hbm, ⟨40, _⟩ => ⟨S4x2x4x256x256, .f32⟩
  | .hbm, ⟨41, _⟩ => ⟨S_, .f32⟩
  | .hbm, ⟨42, _⟩ => ⟨S4x2x4x256, .f32⟩
  | .hbm, ⟨43, _⟩ => ⟨S_, .f32⟩
  | .hbm, ⟨44, _⟩ => ⟨S4x2x4x256, .f32⟩
  | .hbm, ⟨45, _⟩ => ⟨S4x2x4x256, .f32⟩
  | .hbm, ⟨46, _⟩ => ⟨S4x2x4x256x1, .f32⟩
  | .hbm, ⟨47, _⟩ => ⟨S4x2x4x256x256, .f32⟩
  | .hbm, ⟨48, _⟩ => ⟨S4x2x4x256x256, .f32⟩
  | .hbm, ⟨49, _⟩ => ⟨S4x2x4x256x256, .f32⟩
  | .hbm, ⟨50, _⟩ => ⟨S_, .f32⟩
  | .hbm, ⟨51, _⟩ => ⟨S4x2x4x256, .f32⟩
  | .hbm, ⟨52, _⟩ => ⟨S4x2x4x256x1, .f32⟩
  | .hbm, ⟨53, _⟩ => ⟨S4x2x4x256x256, .f32⟩
  | .hbm, ⟨54, _⟩ => ⟨S4x2x4x256x256, .f32⟩
  | .hbm, ⟨55, _⟩ => ⟨S4x2x128x4x256, .f32⟩
  | .hbm, ⟨56, _⟩ => ⟨S4x256x2x4x128, .f32⟩
  | .hbm, ⟨57, _⟩ => ⟨S4x256x1024, .f32⟩
  | .hbm, ⟨58, _⟩ => ⟨S4x4352x1024, .f32⟩
  | .hbm, ⟨59, _⟩ => ⟨S4x4352x1024, .bf16⟩
  | _, _ => ⟨S4x4352x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst_0 : Ref sig .tc := ⟨.hbm, 15, rfl⟩
abbrev main_v13 : Ref sig .tc := ⟨.hbm, 16, rfl⟩
abbrev main_cst_1 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_2 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst_3 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_4 : Ref sig .tc := ⟨.hbm, 41, rfl⟩
abbrev main_v35 : Ref sig .tc := ⟨.hbm, 42, rfl⟩
abbrev main_cst_5 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst_6 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩

abbrev nD : Nat := 1
abbrev τ : Topo := Topo.v7x

variable {F : FTy → Type} [FloatOps F]
-- ==== Inp.lean ====
abbrev S4x4352x4096 : Shape := ⟨3, ![4, 4352, 4096]⟩
abbrev S4096x11792 : Shape := ⟨2, ![4096, 11792]⟩
abbrev S17408x4096 : Shape := ⟨2, ![17408, 4096]⟩
abbrev S4096x11776 : Shape := ⟨2, ![4096, 11776]⟩
abbrev S17408x11776 : Shape := ⟨2, ![17408, 11776]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S4x4352x4096, .bf16⟩
  | .hbm, ⟨1, _⟩ => ⟨S4096x11792, .f32⟩
  | .hbm, ⟨2, _⟩ => ⟨S17408x4096, .bf16⟩
  | .hbm, ⟨3, _⟩ => ⟨S4096x11776, .f32⟩
  | .hbm, ⟨4, _⟩ => ⟨S4096x11776, .bf16⟩
  | .hbm, ⟨5, _⟩ => ⟨S17408x11776, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S4x4352x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![17, 23, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InpRefIdeal.lean ====
abbrev S4x4352x4096 : Shape := ⟨3, ![4, 4352, 4096]⟩
abbrev S4096x11792 : Shape := ⟨2, ![4096, 11792]⟩
abbrev S4x4352x11792 : Shape := ⟨3, ![4, 4352, 11792]⟩
abbrev S4x4352x11776 : Shape := ⟨3, ![4, 4352, 11776]⟩
abbrev S17408x11776 : Shape := ⟨2, ![17408, 11776]⟩

abbrev nBuf : Space → Nat
  | .hbm => 6
  | .vmem => 0
  | .smem => 0
  | _ => 0

abbrev bufTy : (tb : Table) → Fin (tcTables nBuf tb) → BufTy
  | .hbm, ⟨0, _⟩ => ⟨S4x4352x4096, .bf16⟩
  | .hbm, ⟨1, _⟩ => ⟨S4096x11792, .f32⟩
  | .hbm, ⟨2, _⟩ => ⟨S4x4352x4096, .f32⟩
  | .hbm, ⟨3, _⟩ => ⟨S4x4352x11792, .f32⟩
  | .hbm, ⟨4, _⟩ => ⟨S4x4352x11776, .f32⟩
  | .hbm, ⟨5, _⟩ => ⟨S17408x11776, .f32⟩
  | _, _ => ⟨S4x4352x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Outp.lean ====
abbrev S4x4352x1024 : Shape := ⟨3, ![4, 4352, 1024]⟩
abbrev S4096x4096 : Shape := ⟨2, ![4096, 4096]⟩
abbrev S17408x1024 : Shape := ⟨2, ![17408, 1024]⟩
abbrev S17408x4096 : Shape := ⟨2, ![17408, 4096]⟩
abbrev S1024x1024 : Shape := ⟨2, ![1024, 1024]⟩
abbrev S4096x512 : Shape := ⟨2, ![4096, 512]⟩
abbrev S1024x512 : Shape := ⟨2, ![1024, 512]⟩

abbrev nBuf : Space → Nat
  | .hbm => 11
  | .vmem => 12
  | .smem => 0
  | _ => 0

abbrev bufTy : (tb : Table) → Fin (tcTables nBuf tb) → BufTy
  | .hbm, ⟨0, _⟩ => ⟨S4x4352x1024, .bf16⟩
  | .hbm, ⟨1, _⟩ => ⟨S4x4352x1024, .bf16⟩
  | .hbm, ⟨2, _⟩ => ⟨S4x4352x1024, .bf16⟩
  | .hbm, ⟨3, _⟩ => ⟨S4x4352x1024, .bf16⟩
  | .hbm, ⟨4, _⟩ => ⟨S4096x4096, .f32⟩
  | .hbm, ⟨5, _⟩ => ⟨S17408x1024, .bf16⟩
  | .hbm, ⟨6, _⟩ => ⟨S17408x1024, .bf16⟩
  | .hbm, ⟨7, _⟩ => ⟨S17408x1024, .bf16⟩
  | .hbm, ⟨8, _⟩ => ⟨S17408x1024, .bf16⟩
  | .hbm, ⟨9, _⟩ => ⟨S4096x4096, .bf16⟩
  | .hbm, ⟨10, _⟩ => ⟨S17408x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S4096x512, .bf16⟩
  | .local _ .vmem, ⟨9, _⟩ => ⟨S4096x512, .bf16⟩
  | .local _ .vmem, ⟨10, _⟩ => ⟨S1024x512, .f32⟩
  | .local _ .vmem, ⟨11, _⟩ => ⟨S1024x512, .f32⟩
  | _, _ => ⟨S4x4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![17, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutpRefIdeal.lean ====
abbrev S4x4352x1024 : Shape := ⟨3, ![4, 4352, 1024]⟩
abbrev S4096x4096 : Shape := ⟨2, ![4096, 4096]⟩
abbrev S4x4352x4096 : Shape := ⟨3, ![4, 4352, 4096]⟩
abbrev S17408x4096 : Shape := ⟨2, ![17408, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4x4352x1024, .bf16⟩
  | .hbm, ⟨1, _⟩ => ⟨S4x4352x1024, .bf16⟩
  | .hbm, ⟨2, _⟩ => ⟨S4x4352x1024, .bf16⟩
  | .hbm, ⟨3, _⟩ => ⟨S4x4352x1024, .bf16⟩
  | .hbm, ⟨4, _⟩ => ⟨S4096x4096, .f32⟩
  | .hbm, ⟨5, _⟩ => ⟨S4x4352x4096, .bf16⟩
  | .hbm, ⟨6, _⟩ => ⟨S4x4352x4096, .f32⟩
  | .hbm, ⟨7, _⟩ => ⟨S4x4352x4096, .f32⟩
  | .hbm, ⟨8, _⟩ => ⟨S17408x4096, .f32⟩
  | _, _ => ⟨S4x4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== Filt.lean ====
abbrev S4096x4096 : Shape := ⟨2, ![4096, 4096]⟩
abbrev S2x4096x1024 : Shape := ⟨3, ![2, 4096, 1024]⟩
abbrev S1024x4096 : Shape := ⟨2, ![1024, 4096]⟩
abbrev S1x4096x512 : Shape := ⟨3, ![1, 4096, 512]⟩
abbrev S1x1024x512 : Shape := ⟨3, ![1, 1024, 512]⟩
abbrev S4096x512 : Shape := ⟨2, ![4096, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S2x4096x1024, .f32⟩
  | .hbm, ⟨2, _⟩ => ⟨S2x4096x1024, .bf16⟩
  | .hbm, ⟨3, _⟩ => ⟨S2x4096x1024, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x1024x512, .f32⟩
  | .local _ .vmem, ⟨5, _⟩ => ⟨S1x1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 2, 2, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg0.toNat, arg2.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== FiltRefIdeal.lean ====
abbrev S4096x4096 : Shape := ⟨2, ![4096, 4096]⟩
abbrev S2x4096x1024 : Shape := ⟨3, ![2, 4096, 1024]⟩
abbrev S2x1024x4096 : Shape := ⟨3, ![2, 1024, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S2x4096x1024, .f32⟩
  | .hbm, ⟨2, _⟩ => ⟨S4096x4096, .f32⟩
  | .hbm, ⟨3, _⟩ => ⟨S2x1024x4096, .f32⟩
  | .hbm, ⟨4, _⟩ => ⟨S2x4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Fwd.lean ====
abbrev S8192x4096 : Shape := ⟨2, ![8192, 4096]⟩
abbrev S4x4096x1024 : Shape := ⟨3, ![4, 4096, 1024]⟩
abbrev S4096x1024 : Shape := ⟨2, ![4096, 1024]⟩
abbrev S512x4096 : Shape := ⟨2, ![512, 4096]⟩
abbrev S1x4096x512 : Shape := ⟨3, ![1, 4096, 512]⟩
abbrev S512x512 : Shape := ⟨2, ![512, 512]⟩
abbrev S1x512x512 : Shape := ⟨3, ![1, 512, 512]⟩
abbrev S4096x512 : Shape := ⟨2, ![4096, 512]⟩
abbrev S512x1 : Shape := ⟨2, ![512, 1]⟩

abbrev nBuf : Space → Nat
  | .hbm => 6
  | .vmem => 14
  | .smem => 0
  | _ => 0

abbrev bufTy : (tb : Table) → Fin (tcTables nBuf tb) → BufTy
  | .hbm, ⟨0, _⟩ => ⟨S8192x4096, .bf16⟩
  | .hbm, ⟨1, _⟩ => ⟨S4x4096x1024, .bf16⟩
  | .hbm, ⟨2, _⟩ => ⟨S4096x1024, .f32⟩
  | .hbm, ⟨3, _⟩ => ⟨S4096x1024, .f32⟩
  | .hbm, ⟨4, _⟩ => ⟨S4x4096x1024, .bf16⟩
  | .hbm, ⟨5, _⟩ => ⟨S4x4096x1024, .bf16⟩
  | .local _ .vmem, ⟨0, _⟩ => ⟨S512x4096, .bf16⟩
  | .local _ .vmem, ⟨1, _⟩ => ⟨S512x4096, .bf16⟩
  | .local _ .vmem, ⟨2, _⟩ => ⟨S512x4096, .bf16⟩
  | .local _ .vmem, ⟨3, _⟩ => ⟨S512x4096, .bf16⟩
  | .local _ .vmem, ⟨4, _⟩ => ⟨S1x4096x512, .bf16⟩
  | .local _ .vmem, ⟨5, _⟩ => ⟨S1x4096x512, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S1x512x512, .bf16⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 4, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== FwdRefIdeal.lean ====
abbrev S8192x4096 : Shape := ⟨2, ![8192, 4096]⟩
abbrev S4x4096x1024 : Shape := ⟨3, ![4, 4096, 1024]⟩
abbrev S4096x1024 : Shape := ⟨2, ![4096, 1024]⟩
abbrev S4x1024x8192 : Shape := ⟨3, ![4, 1024, 8192]⟩
abbrev S4x8192x1024 : Shape := ⟨3, ![4, 8192, 1024]⟩
abbrev S4096 : Shape := ⟨1, ![4096]⟩
abbrev S4096x1 : Shape := ⟨2, ![4096, 1]⟩
abbrev S_ : Shape := ⟨0, ![]⟩
abbrev S1x4096x1024 : Shape := ⟨3, ![1, 4096, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4x4096x1024, .bf16⟩
  | .hbm, ⟨2, _⟩ => ⟨S4096x1024, .f32⟩
  | .hbm, ⟨3, _⟩ => ⟨S4096x1024, .f32⟩
  | .hbm, ⟨4, _⟩ => ⟨S8192x4096, .f32⟩
  | .hbm, ⟨5, _⟩ => ⟨S4x4096x1024, .f32⟩
  | .hbm, ⟨6, _⟩ => ⟨S4x1024x8192, .f32⟩
  | .hbm, ⟨7, _⟩ => ⟨S4x8192x1024, .f32⟩
  | .hbm, ⟨8, _⟩ => ⟨S4x4096x1024, .f32⟩
  | .hbm, ⟨9, _⟩ => ⟨S4x4096x1024, .f32⟩
  | .hbm, ⟨10, _⟩ => ⟨S4096, .i32⟩
  | .hbm, ⟨11, _⟩ => ⟨S4096x1, .i32⟩
  | .hbm, ⟨12, _⟩ => ⟨S_, .i32⟩
  | .hbm, ⟨13, _⟩ => ⟨S4096x1, .i32⟩
  | .hbm, ⟨14, _⟩ => ⟨S4096x1, .i1⟩
  | .hbm, ⟨15, _⟩ => ⟨S1x4096x1024, .f32⟩
  | .hbm, ⟨16, _⟩ => ⟨S4x4096x1024, .f32⟩
  | .hbm, ⟨17, _⟩ => ⟨S4x4096x1024, .f32⟩
  | .hbm, ⟨18, _⟩ => ⟨S1x4096x1024, .f32⟩
  | .hbm, ⟨19, _⟩ => ⟨S4x4096x1024, .f32⟩
  | .hbm, ⟨20, _⟩ => ⟨S4x4096x1024, .f32⟩
  | .hbm, ⟨21, _⟩ => ⟨S1x4096x1024, .f32⟩
  | .hbm, ⟨22, _⟩ => ⟨S4x4096x1024, .f32⟩
  | .hbm, ⟨23, _⟩ => ⟨S4x4096x1024, .f32⟩
  | .hbm, ⟨24, _⟩ => ⟨S4x4096x1024, .f32⟩
  | .hbm, ⟨25, _⟩ => ⟨S4x4096x1024, .i1⟩
  | .hbm, ⟨26, _⟩ => ⟨S4x4096x1024, .f32⟩
  | .hbm, ⟨27, _⟩ => ⟨S1x4096x1024, .f32⟩
  | .hbm, ⟨28, _⟩ => ⟨S4x4096x1024, .f32⟩
  | .hbm, ⟨29, _⟩ => ⟨S4x4096x1024, .f32⟩
  | .hbm, ⟨30, _⟩ => ⟨S1x4096x1024, .f32⟩
  | .hbm, ⟨31, _⟩ => ⟨S4x4096x1024, .f32⟩
  | .hbm, ⟨32, _⟩ => ⟨S4x4096x1024, .f32⟩
  | .hbm, ⟨33, _⟩ => ⟨S1x4096x1024, .f32⟩
  | .hbm, ⟨34, _⟩ => ⟨S4x4096x1024, .f32⟩
  | .hbm, ⟨35, _⟩ => ⟨S4x4096x1024, .f32⟩
  | .hbm, ⟨36, _⟩ => ⟨S4x4096x1024, .f32⟩
  | .hbm, ⟨37, _⟩ => ⟨S4x4096x1024, .i1⟩
  | .hbm, ⟨38, _⟩ => ⟨S4x4096x1024, .f32⟩
  | .hbm, ⟨39, _⟩ => ⟨S4x4096x1024, .bf16⟩
  | .hbm, ⟨40, _⟩ => ⟨S4x4096x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_call0_v0 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_call1_v0 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩

abbrev nD : Nat := 1
abbrev τ : Topo := Topo.v7x

variable {F : FTy → Type} [FloatOps F]
-- ==== Inva.lean ====
abbrev S4096x8192 : Shape := ⟨2, ![4096, 8192]⟩
abbrev S4x4096x1024 : Shape := ⟨3, ![4, 4096, 1024]⟩
abbrev S4x4096x3072 : Shape := ⟨3, ![4, 4096, 3072]⟩
abbrev S1024 : Shape := ⟨1, ![1024]⟩
abbrev S1x1024 : Shape := ⟨2, ![1, 1024]⟩
abbrev S512x4096 : Shape := ⟨2, ![512, 4096]⟩
abbrev S1x4096x512 : Shape := ⟨3, ![1, 4096, 512]⟩
abbrev S1x512x512 : Shape := ⟨3, ![1, 512, 512]⟩
abbrev S1x512 : Shape := ⟨2, ![1, 512]⟩
abbrev S4096x512 : Shape := ⟨2, ![4096, 512]⟩
abbrev S512x512 : Shape := ⟨2, ![512, 512]⟩

abbrev nBuf : Space → Nat
  | .hbm => 8
  | .vmem => 18
  | .smem => 0
  | _ => 0

abbrev bufTy : (tb : Table) → Fin (tcTables nBuf tb) → BufTy
  | .hbm, ⟨0, _⟩ => ⟨S4096x8192, .bf16⟩
  | .hbm, ⟨1, _⟩ => ⟨S4x4096x1024, .bf16⟩
  | .hbm, ⟨2, _⟩ => ⟨S4x4096x1024, .bf16⟩
  | .hbm, ⟨3, _⟩ => ⟨S4x4096x3072, .f32⟩
  | .hbm, ⟨4, _⟩ => ⟨S1024, .f32⟩
  | .hbm, ⟨5, _⟩ => ⟨S1x1024, .f32⟩
  | .hbm, ⟨6, _⟩ => ⟨S4x4096x1024, .f32⟩
  | .hbm, ⟨7, _⟩ => ⟨S4x4096x1024, .bf16⟩
  | .local _ .vmem, ⟨0, _⟩ => ⟨S512x4096, .bf16⟩
  | .local _ .vmem, ⟨1, _⟩ => ⟨S512x4096, .bf16⟩
  | .local _ .vmem, ⟨2, _⟩ => ⟨S512x4096, .bf16⟩
  | .local _ .vmem, ⟨3, _⟩ => ⟨S512x4096, .bf16⟩
  | .local _ .vmem, ⟨4, _⟩ => ⟨S1x4096x512, .bf16⟩
  | .local _ .vmem, ⟨5, _⟩ => ⟨S1x4096x512, .bf16⟩
  | .local _ .vmem, ⟨6, _⟩ => ⟨S1x4096x512, .bf16⟩
  | .local _ .vmem, ⟨7, _⟩ => ⟨S1x4096x512, .bf16⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512, .f32⟩
  | .local _ .vmem, ⟨13, _⟩ => ⟨S1x512, .f32⟩
  | .local _ .vmem, ⟨14, _⟩ => ⟨S1x512x512, .f32⟩
  | .local _ .vmem, ⟨15, _⟩ => ⟨S1x512x512, .f32⟩
  | .local _ .vmem, ⟨16, _⟩ => ⟨S1x512x512, .bf16⟩
  | .local _ .vmem, ⟨17, _⟩ => ⟨S1x512x512, .bf16⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![8, 4, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, c1_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg2
  let c0_i32 : BitVec 32 := 0#32
  ![arg1.toNat, arg0.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== InvaRefIdeal.lean ====
abbrev S4096x8192 : Shape := ⟨2, ![4096, 8192]⟩
abbrev S4x4096x1024 : Shape := ⟨3, ![4, 4096, 1024]⟩
abbrev S4x4096x3072 : Shape := ⟨3, ![4, 4096, 3072]⟩
abbrev S1024 : Shape := ⟨1, ![1024]⟩
abbrev S4x8192x1024 : Shape := ⟨3, ![4, 8192, 1024]⟩
abbrev S4x1024x4096 : Shape := ⟨3, ![4, 1024, 4096]⟩
abbrev S1x1x1024 : Shape := ⟨3, ![1, 1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4x4096x1024, .bf16⟩
  | .hbm, ⟨2, _⟩ => ⟨S4x4096x1024, .bf16⟩
  | .hbm, ⟨3, _⟩ => ⟨S4x4096x3072, .f32⟩
  | .hbm, ⟨4, _⟩ => ⟨S1024, .f32⟩
  | .hbm, ⟨5, _⟩ => ⟨S4x8192x1024, .bf16⟩
  | .hbm, ⟨6, _⟩ => ⟨S4x8192x1024, .f32⟩
  | .hbm, ⟨7, _⟩ => ⟨S4x4096x1024, .f32⟩
  | .hbm, ⟨8, _⟩ => ⟨S4x4096x1024, .f32⟩
  | .hbm, ⟨9, _⟩ => ⟨S4x4096x1024, .f32⟩
  | .hbm, ⟨10, _⟩ => ⟨S4096x8192, .f32⟩
  | .hbm, ⟨11, _⟩ => ⟨S4x1024x4096, .f32⟩
  | .hbm, ⟨12, _⟩ => ⟨S4x4096x1024, .f32⟩
  | .hbm, ⟨13, _⟩ => ⟨S1x1x1024, .f32⟩
  | .hbm, ⟨14, _⟩ => ⟨S4x4096x1024, .f32⟩
  | .hbm, ⟨15, _⟩ => ⟨S4x4096x1024, .f32⟩
  | .hbm, ⟨16, _⟩ => ⟨S4x4096x1024, .f32⟩
  | .hbm, ⟨17, _⟩ => ⟨S4x4096x1024, .f32⟩
  | .hbm, ⟨18, _⟩ => ⟨S4x4096x1024, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Invb.lean ====
abbrev S4096x8192 : Shape := ⟨2, ![4096, 8192]⟩
abbrev S4x4096x1024 : Shape := ⟨3, ![4, 4096, 1024]⟩
abbrev S4x4096x3072 : Shape := ⟨3, ![4, 4096, 3072]⟩
abbrev S1024 : Shape := ⟨1, ![1024]⟩
abbrev S1x1024 : Shape := ⟨2, ![1, 1024]⟩
abbrev S512x4096 : Shape := ⟨2, ![512, 4096]⟩
abbrev S1x4096x512 : Shape := ⟨3, ![1, 4096, 512]⟩
abbrev S1x512x512 : Shape := ⟨3, ![1, 512, 512]⟩
abbrev S1x512 : Shape := ⟨2, ![1, 512]⟩
abbrev S4096x512 : Shape := ⟨2, ![4096, 512]⟩
abbrev S512x512 : Shape := ⟨2, ![512, 512]⟩

abbrev nBuf : Space → Nat
  | .hbm => 8
  | .vmem => 16
  | .smem => 0
  | _ => 0

abbrev bufTy : (tb : Table) → Fin (tcTables nBuf tb) → BufTy
  | .hbm, ⟨0, _⟩ => ⟨S4096x8192, .bf16⟩
  | .hbm, ⟨1, _⟩ => ⟨S4x4096x1024, .bf16⟩
  | .hbm, ⟨2, _⟩ => ⟨S4x4096x1024, .bf16⟩
  | .hbm, ⟨3, _⟩ => ⟨S4x4096x3072, .f32⟩
  | .hbm, ⟨4, _⟩ => ⟨S4x4096x1024, .f32⟩
  | .hbm, ⟨5, _⟩ => ⟨S1024, .f32⟩
  | .hbm, ⟨6, _⟩ => ⟨S1x1024, .f32⟩
  | .hbm, ⟨7, _⟩ => ⟨S4x4096x1024, .bf16⟩
  | .local _ .vmem, ⟨0, _⟩ => ⟨S512x4096, .bf16⟩
  | .local _ .vmem, ⟨1, _⟩ => ⟨S512x4096, .bf16⟩
  | .local _ .vmem, ⟨2, _⟩ => ⟨S512x4096, .bf16⟩
  | .local _ .vmem, ⟨3, _⟩ => ⟨S512x4096, .bf16⟩
  | .local _ .vmem, ⟨4, _⟩ => ⟨S1x4096x512, .bf16⟩
  | .local _ .vmem, ⟨5, _⟩ => ⟨S1x4096x512, .bf16⟩
  | .local _ .vmem, ⟨6, _⟩ => ⟨S1x4096x512, .bf16⟩
  | .local _ .vmem, ⟨7, _⟩ => ⟨S1x4096x512, .bf16⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512, .f32⟩
  | .local _ .vmem, ⟨13, _⟩ => ⟨S1x512, .f32⟩
  | .local _ .vmem, ⟨14, _⟩ => ⟨S1x512x512, .bf16⟩
  | .local _ .vmem, ⟨15, _⟩ => ⟨S1x512x512, .bf16⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![8, 4, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, c1_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg2
  let c0_i32 : BitVec 32 := 0#32
  ![arg1.toNat, arg0.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== InvbRefIdeal.lean ====
abbrev S4096x8192 : Shape := ⟨2, ![4096, 8192]⟩
abbrev S4x4096x1024 : Shape := ⟨3, ![4, 4096, 1024]⟩
abbrev S4x4096x3072 : Shape := ⟨3, ![4, 4096, 3072]⟩
abbrev S1024 : Shape := ⟨1, ![1024]⟩
abbrev S4x8192x1024 : Shape := ⟨3, ![4, 8192, 1024]⟩
abbrev S4x1024x4096 : Shape := ⟨3, ![4, 1024, 4096]⟩
abbrev S1x1x1024 : Shape := ⟨3, ![1, 1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4x4096x1024, .bf16⟩
  | .hbm, ⟨2, _⟩ => ⟨S4x4096x1024, .bf16⟩
  | .hbm, ⟨3, _⟩ => ⟨S4x4096x3072, .f32⟩
  | .hbm, ⟨4, _⟩ => ⟨S4x4096x1024, .f32⟩
  | .hbm, ⟨5, _⟩ => ⟨S1024, .f32⟩
  | .hbm, ⟨6, _⟩ => ⟨S4x8192x1024, .bf16⟩
  | .hbm, ⟨7, _⟩ => ⟨S4x8192x1024, .f32⟩
  | .hbm, ⟨8, _⟩ => ⟨S4x4096x1024, .f32⟩
  | .hbm, ⟨9, _⟩ => ⟨S4x4096x1024, .f32⟩
  | .hbm, ⟨10, _⟩ => ⟨S4x4096x1024, .f32⟩
  | .hbm, ⟨11, _⟩ => ⟨S4096x8192, .f32⟩
  | .hbm, ⟨12, _⟩ => ⟨S4x1024x4096, .f32⟩
  | .hbm, ⟨13, _⟩ => ⟨S4x4096x1024, .f32⟩
  | .hbm, ⟨14, _⟩ => ⟨S1x1x1024, .f32⟩
  | .hbm, ⟨15, _⟩ => ⟨S4x4096x1024, .f32⟩
  | .hbm, ⟨16, _⟩ => ⟨S4x4096x1024, .f32⟩
  | .hbm, ⟨17, _⟩ => ⟨S4x4096x1024, .f32⟩
  | .hbm, ⟨18, _⟩ => ⟨S4x4096x1024, .f32⟩
  | .hbm, ⟨19, _⟩ => ⟨S4x4096x1024, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Modu.lean ====
abbrev S4x4352x4096 : Shape := ⟨3, ![4, 4352, 4096]⟩
abbrev S5x6x4096 : Shape := ⟨3, ![5, 6, 4096]⟩
abbrev S1x256x4096 : Shape := ⟨3, ![1, 256, 4096]⟩
abbrev S1x6x4096 : Shape := ⟨3, ![1, 6, 4096]⟩
abbrev S6x4096 : Shape := ⟨2, ![6, 4096]⟩
abbrev S256x4096 : Shape := ⟨2, ![256, 4096]⟩
abbrev S1x4096 : Shape := ⟨2, ![1, 4096]⟩

abbrev nBuf : Space → Nat
  | .hbm => 3
  | .vmem => 6
  | .smem => 0
  | _ => 0

abbrev bufTy : (tb : Table) → Fin (tcTables nBuf tb) → BufTy
  | .hbm, ⟨0, _⟩ => ⟨S4x4352x4096, .f32⟩
  | .hbm, ⟨1, _⟩ => ⟨S5x6x4096, .f32⟩
  | .hbm, ⟨2, _⟩ => ⟨S4x4352x4096, .bf16⟩
  | .local _ .vmem, ⟨0, _⟩ => ⟨S1x256x4096, .f32⟩
  | .local _ .vmem, ⟨1, _⟩ => ⟨S1x256x4096, .f32⟩
  | .local _ .vmem, ⟨2, _⟩ => ⟨S1x6x4096, .f32⟩
  | .local _ .vmem, ⟨3, _⟩ => ⟨S1x6x4096, .f32⟩
  | .local _ .vmem, ⟨4, _⟩ => ⟨S1x256x4096, .bf16⟩
  | .local _ .vmem, ⟨5, _⟩ => ⟨S1x256x4096, .bf16⟩
  | _, _ => ⟨S4x4352x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg1 c16_i32
  let c4_i32 : BitVec 32 := 4#32
  let v1 : BitVec 32 := Scalar.select v0 arg0 c4_i32
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ModuRefIdeal.lean ====
abbrev S4x4352x4096 : Shape := ⟨3, ![4, 4352, 4096]⟩
abbrev S5x6x4096 : Shape := ⟨3, ![5, 6, 4096]⟩
abbrev S5x1x4096 : Shape := ⟨3, ![5, 1, 4096]⟩
abbrev S5x4096 : Shape := ⟨2, ![5, 4096]⟩
abbrev S4x4096 : Shape := ⟨2, ![4, 4096]⟩
abbrev S4x1x4096 : Shape := ⟨3, ![4, 1, 4096]⟩
abbrev S4x4096x4096 : Shape := ⟨3, ![4, 4096, 4096]⟩
abbrev S1x4096 : Shape := ⟨2, ![1, 4096]⟩
abbrev S4096 : Shape := ⟨1, ![4096]⟩
abbrev S4x256x4096 : Shape := ⟨3, ![4, 256, 4096]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S4x4352x4096, .f32⟩
  | .hbm, ⟨1, _⟩ => ⟨S5x6x4096, .f32⟩
  | .hbm, ⟨2, _⟩ => ⟨S5x1x4096, .f32⟩
  | .hbm, ⟨3, _⟩ => ⟨S5x4096, .f32⟩
  | .hbm, ⟨4, _⟩ => ⟨S4x4096, .f32⟩
  | .hbm, ⟨5, _⟩ => ⟨S4x1x4096, .f32⟩
  | .hbm, ⟨6, _⟩ => ⟨S4x4096x4096, .f32⟩
  | .hbm, ⟨7, _⟩ => ⟨S1x4096, .f32⟩
  | .hbm, ⟨8, _⟩ => ⟨S4096, .f32⟩
  | .hbm, ⟨9, _⟩ => ⟨S4x256x4096, .f32⟩
  | .hbm, ⟨10, _⟩ => ⟨S4x4352x4096, .f32⟩
  | .hbm, ⟨11, _⟩ => ⟨S5x1x4096, .f32⟩
  | .hbm, ⟨12, _⟩ => ⟨S5x4096, .f32⟩
  | .hbm, ⟨13, _⟩ => ⟨S4x4096, .f32⟩
  | .hbm, ⟨14, _⟩ => ⟨S4x1x4096, .f32⟩
  | .hbm, ⟨15, _⟩ => ⟨S4x4096x4096, .f32⟩
  | .hbm, ⟨16, _⟩ => ⟨S1x4096, .f32⟩
  | .hbm, ⟨17, _⟩ => ⟨S4096, .f32⟩
  | .hbm, ⟨18, _⟩ => ⟨S4x256x4096, .f32⟩
  | .hbm, ⟨19, _⟩ => ⟨S4x4352x4096, .f32⟩
  | .hbm, ⟨20, _⟩ => ⟨S_, .f32⟩
  | .hbm, ⟨21, _⟩ => ⟨S4x4352x4096, .f32⟩
  | .hbm, ⟨22, _⟩ => ⟨S4x4352x4096, .f32⟩
  | .hbm, ⟨23, _⟩ => ⟨S4x4352x4096, .f32⟩
  | .hbm, ⟨24, _⟩ => ⟨S4x4352x4096, .f32⟩
  | .hbm, ⟨25, _⟩ => ⟨S4x4352x4096, .bf16⟩
  | _, _ => ⟨S4x4352x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_cst : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩

abbrev nD : Nat := 1
abbrev τ : Topo := Topo.v7x

variable {F : FTy → Type} [FloatOps F]
-- ==== Lna.lean ====
abbrev S4x4352x4096 : Shape := ⟨3, ![4, 4352, 4096]⟩
abbrev S5x6x4096 : Shape := ⟨3, ![5, 6, 4096]⟩
abbrev S4096 : Shape := ⟨1, ![4096]⟩
abbrev S1x4096 : Shape := ⟨2, ![1, 4096]⟩
abbrev S1x256x4096 : Shape := ⟨3, ![1, 256, 4096]⟩
abbrev S1x6x4096 : Shape := ⟨3, ![1, 6, 4096]⟩
abbrev S6x4096 : Shape := ⟨2, ![6, 4096]⟩
abbrev S256x4096 : Shape := ⟨2, ![256, 4096]⟩
abbrev S256 : Shape := ⟨1, ![256]⟩
abbrev S256x1 : Shape := ⟨2, ![256, 1]⟩

abbrev nBuf : Space → Nat
  | .hbm => 9
  | .vmem => 14
  | .smem => 0
  | _ => 0

abbrev bufTy : (tb : Table) → Fin (tcTables nBuf tb) → BufTy
  | .hbm, ⟨0, _⟩ => ⟨S4x4352x4096, .f32⟩
  | .hbm, ⟨1, _⟩ => ⟨S4x4352x4096, .f32⟩
  | .hbm, ⟨2, _⟩ => ⟨S5x6x4096, .f32⟩
  | .hbm, ⟨3, _⟩ => ⟨S4096, .f32⟩
  | .hbm, ⟨4, _⟩ => ⟨S4096, .f32⟩
  | .hbm, ⟨5, _⟩ => ⟨S1x4096, .f32⟩
  | .hbm, ⟨6, _⟩ => ⟨S1x4096, .f32⟩
  | .hbm, ⟨7, _⟩ => ⟨S4x4352x4096, .f32⟩
  | .hbm, ⟨8, _⟩ => ⟨S4x4352x4096, .f32⟩
  | .local _ .vmem, ⟨0, _⟩ => ⟨S1x256x4096, .f32⟩
  | .local _ .vmem, ⟨1, _⟩ => ⟨S1x256x4096, .f32⟩
  | .local _ .vmem, ⟨2, _⟩ => ⟨S1x256x4096, .f32⟩
  | .local _ .vmem, ⟨3, _⟩ => ⟨S1x256x4096, .f32⟩
  | .local _ .vmem, ⟨4, _⟩ => ⟨S1x6x4096, .f32⟩
  | .local _ .vmem, ⟨5, _⟩ => ⟨S1x6x4096, .f32⟩
  | .local _ .vmem, ⟨6, _⟩ => ⟨S1x6x4096, .f32⟩
  | .local _ .vmem, ⟨7, _⟩ => ⟨S1x6x4096, .f32⟩
  | .local _ .vmem, ⟨8, _⟩ => ⟨S1x4096, .f32⟩
  | .local _ .vmem, ⟨9, _⟩ => ⟨S1x4096, .f32⟩
  | .local _ .vmem, ⟨10, _⟩ => ⟨S1x256x4096, .f32⟩
  | .local _ .vmem, ⟨11, _⟩ => ⟨S1x256x4096, .f32⟩
  | .local _ .vmem, ⟨12, _⟩ => ⟨S1x256x4096, .f32⟩
  | .local _ .vmem, ⟨13, _⟩ => ⟨S1x256x4096, .f32⟩
  | _, _ => ⟨S4x4352x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg1 c16_i32
  let c4_i32 : BitVec 32 := 4#32
  let v1 : BitVec 32 := Scalar.select v0 arg0 c4_i32
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg1 c16_i32
  let c4_i32 : BitVec 32 := 4#32
  let v1 : BitVec 32 := Scalar.select v0 arg0 c4_i32
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x6x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== LnaRefIdeal.lean ====
abbrev S4x4352x4096 : Shape := ⟨3, ![4, 4352, 4096]⟩
abbrev S5x6x4096 : Shape := ⟨3, ![5, 6, 4096]⟩
abbrev S4096 : Shape := ⟨1, ![4096]⟩
abbrev S_ : Shape := ⟨0, ![]⟩
abbrev S5x1x4096 : Shape := ⟨3, ![5, 1, 4096]⟩
abbrev S5x4096 : Shape := ⟨2, ![5, 4096]⟩
abbrev S4x4096 : Shape := ⟨2, ![4, 4096]⟩
abbrev S4x1x4096 : Shape := ⟨3, ![4, 1, 4096]⟩
abbrev S4x4096x4096 : Shape := ⟨3, ![4, 4096, 4096]⟩
abbrev S1x4096 : Shape := ⟨2, ![1, 4096]⟩
abbrev S4x256x4096 : Shape := ⟨3, ![4, 256, 4096]⟩
abbrev S4x4352 : Shape := ⟨2, ![4, 4352]⟩
abbrev S4x4352x1 : Shape := ⟨3, ![4, 4352, 1]⟩
abbrev S1x1x4096 : Shape := ⟨3, ![1, 1, 4096]⟩

abbrev nBuf : Space → Nat
  | .hbm => 71
  | .vmem => 0
  | .smem => 0
  | _ => 0

abbrev bufTy : (tb : Table) → Fin (tcTables nBuf tb) → BufTy
  | .hbm, ⟨0, _⟩ => ⟨S4x4352x4096, .f32⟩
  | .hbm, ⟨1, _⟩ => ⟨S4x4352x4096, .f32⟩
  | .hbm, ⟨2, _⟩ => ⟨S5x6x4096, .f32⟩
  | .hbm, ⟨3, _⟩ => ⟨S4096, .f32⟩
  | .hbm, ⟨4, _⟩ => ⟨S4096, .f32⟩
  | .hbm, ⟨5, _⟩ => ⟨S_, .f32⟩
  | .hbm, ⟨6, _⟩ => ⟨S4x4352x4096, .f32⟩
  | .hbm, ⟨7, _⟩ => ⟨S4x4352x4096, .f32⟩
  | .hbm, ⟨8, _⟩ => ⟨S5x1x4096, .f32⟩
  | .hbm, ⟨9, _⟩ => ⟨S5x4096, .f32⟩
  | .hbm, ⟨10, _⟩ => ⟨S4x4096, .f32⟩
  | .hbm, ⟨11, _⟩ => ⟨S4x1x4096, .f32⟩
  | .hbm, ⟨12, _⟩ => ⟨S4x4096x4096, .f32⟩
  | .hbm, ⟨13, _⟩ => ⟨S1x4096, .f32⟩
  | .hbm, ⟨14, _⟩ => ⟨S4096, .f32⟩
  | .hbm, ⟨15, _⟩ => ⟨S4x256x4096, .f32⟩
  | .hbm, ⟨16, _⟩ => ⟨S4x4352x4096, .f32⟩
  | .hbm, ⟨17, _⟩ => ⟨S4x4352x4096, .f32⟩
  | .hbm, ⟨18, _⟩ => ⟨S4x4352x4096, .f32⟩
  | .hbm, ⟨19, _⟩ => ⟨S_, .f32⟩
  | .hbm, ⟨20, _⟩ => ⟨S4x4352, .f32⟩
  | .hbm, ⟨21, _⟩ => ⟨S4x4352x1, .f32⟩
  | .hbm, ⟨22, _⟩ => ⟨S_, .f32⟩
  | .hbm, ⟨23, _⟩ => ⟨S4x4352x1, .f32⟩
  | .hbm, ⟨24, _⟩ => ⟨S4x4352x1, .f32⟩
  | .hbm, ⟨25, _⟩ => ⟨S4x4352x4096, .f32⟩
  | .hbm, ⟨26, _⟩ => ⟨S4x4352x4096, .f32⟩
  | .hbm, ⟨27, _⟩ => ⟨S4x4352x4096, .f32⟩
  | .hbm, ⟨28, _⟩ => ⟨S_, .f32⟩
  | .hbm, ⟨29, _⟩ => ⟨S4x4352, .f32⟩
  | .hbm, ⟨30, _⟩ => ⟨S4x4352x1, .f32⟩
  | .hbm, ⟨31, _⟩ => ⟨S_, .f32⟩
  | .hbm, ⟨32, _⟩ => ⟨S4x4352x1, .f32⟩
  | .hbm, ⟨33, _⟩ => ⟨S4x4352x1, .f32⟩
  | .hbm, ⟨34, _⟩ => ⟨S4x4352x4096, .f32⟩
  | .hbm, ⟨35, _⟩ => ⟨S4x4352x4096, .f32⟩
  | .hbm, ⟨36, _⟩ => ⟨S_, .f32⟩
  | .hbm, ⟨37, _⟩ => ⟨S4x4352x1, .f32⟩
  | .hbm, ⟨38, _⟩ => ⟨S4x4352x1, .f32⟩
  | .hbm, ⟨39, _⟩ => ⟨S4x4352x1, .f32⟩
  | .hbm, ⟨40, _⟩ => ⟨S4x4352x4096, .f32⟩
  | .hbm, ⟨41, _⟩ => ⟨S4x4352x4096, .f32⟩
  | .hbm, ⟨42, _⟩ => ⟨S1x1x4096, .f32⟩
  | .hbm, ⟨43, _⟩ => ⟨S4x4352x4096, .f32⟩
  | .hbm, ⟨44, _⟩ => ⟨S4x4352x4096, .f32⟩
  | .hbm, ⟨45, _⟩ => ⟨S1x1x4096, .f32⟩
  | .hbm, ⟨46, _⟩ => ⟨S4x4352x4096, .f32⟩
  | .hbm, ⟨47, _⟩ => ⟨S4x4352x4096, .f32⟩
  | .hbm, ⟨48, _⟩ => ⟨S5x1x4096, .f32⟩
  | .hbm, ⟨49, _⟩ => ⟨S5x4096, .f32⟩
  | .hbm, ⟨50, _⟩ => ⟨S4x4096, .f32⟩
  | .hbm, ⟨51, _⟩ => ⟨S4x1x4096, .f32⟩
  | .hbm, ⟨52, _⟩ => ⟨S4x4096x4096, .f32⟩
  | .hbm, ⟨53, _⟩ => ⟨S1x4096, .f32⟩
  | .hbm, ⟨54, _⟩ => ⟨S4096, .f32⟩
  | .hbm, ⟨55, _⟩ => ⟨S4x256x4096, .f32⟩
  | .hbm, ⟨56, _⟩ => ⟨S4x4352x4096, .f32⟩
  | .hbm, ⟨57, _⟩ => ⟨S5x1x4096, .f32⟩
  | .hbm, ⟨58, _⟩ => ⟨S5x4096, .f32⟩
  | .hbm, ⟨59, _⟩ => ⟨S4x4096, .f32⟩
  | .hbm, ⟨60, _⟩ => ⟨S4x1x4096, .f32⟩
  | .hbm, ⟨61, _⟩ => ⟨S4x4096x4096, .f32⟩
  | .hbm, ⟨62, _⟩ => ⟨S1x4096, .f32⟩
  | .hbm, ⟨63, _⟩ => ⟨S4096, .f32⟩
  | .hbm, ⟨64, _⟩ => ⟨S4x256x4096, .f32⟩
  | .hbm, ⟨65, _⟩ => ⟨S4x4352x4096, .f32⟩
  | .hbm, ⟨66, _⟩ => ⟨S_, .f32⟩
  | .hbm, ⟨67, _⟩ => ⟨S4x4352x4096, .f32⟩
  | .hbm, ⟨68, _⟩ => ⟨S4x4352x4096, .f32⟩
  | .hbm, ⟨69, _⟩ => ⟨S4x4352x4096, .f32⟩
  | .hbm, ⟨70, _⟩ => ⟨S4x4352x4096, .f32⟩
  | _, _ => ⟨S4x4352x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_cst_5 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩

abbrev nD : Nat := 1
abbrev τ : Topo := Topo.v7x

variable {F : FTy → Type} [FloatOps F]
-- ==== Lnb.lean ====
abbrev S4x4352x4096 : Shape := ⟨3, ![4, 4352, 4096]⟩
abbrev S5x6x4096 : Shape := ⟨3, ![5, 6, 4096]⟩
abbrev S4096 : Shape := ⟨1, ![4096]⟩
abbrev S1x4096 : Shape := ⟨2, ![1, 4096]⟩
abbrev S1x256x4096 : Shape := ⟨3, ![1, 256, 4096]⟩
abbrev S1x6x4096 : Shape := ⟨3, ![1, 6, 4096]⟩
abbrev S6x4096 : Shape := ⟨2, ![6, 4096]⟩
abbrev S256x4096 : Shape := ⟨2, ![256, 4096]⟩
abbrev S256 : Shape := ⟨1, ![256]⟩
abbrev S256x1 : Shape := ⟨2, ![256, 1]⟩

abbrev nBuf : Space → Nat
  | .hbm => 10
  | .vmem => 14
  | .smem => 0
  | _ => 0

abbrev bufTy : (tb : Table) → Fin (tcTables nBuf tb) → BufTy
  | .hbm, ⟨0, _⟩ => ⟨S4x4352x4096, .f32⟩
  | .hbm, ⟨1, _⟩ => ⟨S4x4352x4096, .f32⟩
  | .hbm, ⟨2, _⟩ => ⟨S5x6x4096, .f32⟩
  | .hbm, ⟨3, _⟩ => ⟨S5x6x4096, .f32⟩
  | .hbm, ⟨4, _⟩ => ⟨S4096, .f32⟩
  | .hbm, ⟨5, _⟩ => ⟨S4096, .f32⟩
  | .hbm, ⟨6, _⟩ => ⟨S1x4096, .f32⟩
  | .hbm, ⟨7, _⟩ => ⟨S1x4096, .f32⟩
  | .hbm, ⟨8, _⟩ => ⟨S4x4352x4096, .f32⟩
  | .hbm, ⟨9, _⟩ => ⟨S4x4352x4096, .bf16⟩
  | .local _ .vmem, ⟨0, _⟩ => ⟨S1x256x4096, .f32⟩
  | .local _ .vmem, ⟨1, _⟩ => ⟨S1x256x4096, .f32⟩
  | .local _ .vmem, ⟨2, _⟩ => ⟨S1x256x4096, .f32⟩
  | .local _ .vmem, ⟨3, _⟩ => ⟨S1x256x4096, .f32⟩
  | .local _ .vmem, ⟨4, _⟩ => ⟨S1x6x4096, .f32⟩
  | .local _ .vmem, ⟨5, _⟩ => ⟨S1x6x4096, .f32⟩
  | .local _ .vmem, ⟨6, _⟩ => ⟨S1x6x4096, .f32⟩
  | .local _ .vmem, ⟨7, _⟩ => ⟨S1x6x4096, .f32⟩
  | .local _ .vmem, ⟨8, _⟩ => ⟨S1x4096, .f32⟩
  | .local _ .vmem, ⟨9, _⟩ => ⟨S1x4096, .f32⟩
  | .local _ .vmem, ⟨10, _⟩ => ⟨S1x256x4096, .f32⟩
  | .local _ .vmem, ⟨11, _⟩ => ⟨S1x256x4096, .f32⟩
  | .local _ .vmem, ⟨12, _⟩ => ⟨S1x256x4096, .bf16⟩
  | .local _ .vmem, ⟨13, _⟩ => ⟨S1x256x4096, .bf16⟩
  | _, _ => ⟨S4x4352x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg1 c16_i32
  let c4_i32 : BitVec 32 := 4#32
  let v1 : BitVec 32 := Scalar.select v0 arg0 c4_i32
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg1 c16_i32
  let c4_i32 : BitVec 32 := 4#32
  let v1 : BitVec 32 := Scalar.select v0 arg0 c4_i32
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x6x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== LnbRefIdeal.lean ====
abbrev S4x4352x4096 : Shape := ⟨3, ![4, 4352, 4096]⟩
abbrev S5x6x4096 : Shape := ⟨3, ![5, 6, 4096]⟩
abbrev S4096 : Shape := ⟨1, ![4096]⟩
abbrev S_ : Shape := ⟨0, ![]⟩
abbrev S5x1x4096 : Shape := ⟨3, ![5, 1, 4096]⟩
abbrev S5x4096 : Shape := ⟨2, ![5, 4096]⟩
abbrev S4x4096 : Shape := ⟨2, ![4, 4096]⟩
abbrev S4x1x4096 : Shape := ⟨3, ![4, 1, 4096]⟩
abbrev S4x4096x4096 : Shape := ⟨3, ![4, 4096, 4096]⟩
abbrev S1x4096 : Shape := ⟨2, ![1, 4096]⟩
abbrev S4x256x4096 : Shape := ⟨3, ![4, 256, 4096]⟩
abbrev S4x4352 : Shape := ⟨2, ![4, 4352]⟩
abbrev S4x4352x1 : Shape := ⟨3, ![4, 4352, 1]⟩
abbrev S1x1x4096 : Shape := ⟨3, ![1, 1, 4096]⟩

abbrev nBuf : Space → Nat
  | .hbm => 73
  | .vmem => 0
  | .smem => 0
  | _ => 0

abbrev bufTy : (tb : Table) → Fin (tcTables nBuf tb) → BufTy
  | .hbm, ⟨0, _⟩ => ⟨S4x4352x4096, .f32⟩
  | .hbm, ⟨1, _⟩ => ⟨S4x4352x4096, .f32⟩
  | .hbm, ⟨2, _⟩ => ⟨S5x6x4096, .f32⟩
  | .hbm, ⟨3, _⟩ => ⟨S5x6x4096, .f32⟩
  | .hbm, ⟨4, _⟩ => ⟨S4096, .f32⟩
  | .hbm, ⟨5, _⟩ => ⟨S4096, .f32⟩
  | .hbm, ⟨6, _⟩ => ⟨S_, .f32⟩
  | .hbm, ⟨7, _⟩ => ⟨S4x4352x4096, .f32⟩
  | .hbm, ⟨8, _⟩ => ⟨S4x4352x4096, .f32⟩
  | .hbm, ⟨9, _⟩ => ⟨S5x1x4096, .f32⟩
  | .hbm, ⟨10, _⟩ => ⟨S5x4096, .f32⟩
  | .hbm, ⟨11, _⟩ => ⟨S4x4096, .f32⟩
  | .hbm, ⟨12, _⟩ => ⟨S4x1x4096, .f32⟩
  | .hbm, ⟨13, _⟩ => ⟨S4x4096x4096, .f32⟩
  | .hbm, ⟨14, _⟩ => ⟨S1x4096, .f32⟩
  | .hbm, ⟨15, _⟩ => ⟨S4096, .f32⟩
  | .hbm, ⟨16, _⟩ => ⟨S4x256x4096, .f32⟩
  | .hbm, ⟨17, _⟩ => ⟨S4x4352x4096, .f32⟩
  | .hbm, ⟨18, _⟩ => ⟨S4x4352x4096, .f32⟩
  | .hbm, ⟨19, _⟩ => ⟨S4x4352x4096, .f32⟩
  | .hbm, ⟨20, _⟩ => ⟨S_, .f32⟩
  | .hbm, ⟨21, _⟩ => ⟨S4x4352, .f32⟩
  | .hbm, ⟨22, _⟩ => ⟨S4x4352x1, .f32⟩
  | .hbm, ⟨23, _⟩ => ⟨S_, .f32⟩
  | .hbm, ⟨24, _⟩ => ⟨S4x4352x1, .f32⟩
  | .hbm, ⟨25, _⟩ => ⟨S4x4352x1, .f32⟩
  | .hbm, ⟨26, _⟩ => ⟨S4x4352x4096, .f32⟩
  | .hbm, ⟨27, _⟩ => ⟨S4x4352x4096, .f32⟩
  | .hbm, ⟨28, _⟩ => ⟨S4x4352x4096, .f32⟩
  | .hbm, ⟨29, _⟩ => ⟨S_, .f32⟩
  | .hbm, ⟨30, _⟩ => ⟨S4x4352, .f32⟩
  | .hbm, ⟨31, _⟩ => ⟨S4x4352x1, .f32⟩
  | .hbm, ⟨32, _⟩ => ⟨S_, .f32⟩
  | .hbm, ⟨33, _⟩ => ⟨S4x4352x1, .f32⟩
  | .hbm, ⟨34, _⟩ => ⟨S4x4352x1, .f32⟩
  | .hbm, ⟨35, _⟩ => ⟨S4x4352x4096, .f32⟩
  | .hbm, ⟨36, _⟩ => ⟨S4x4352x4096, .f32⟩
  | .hbm, ⟨37, _⟩ => ⟨S_, .f32⟩
  | .hbm, ⟨38, _⟩ => ⟨S4x4352x1, .f32⟩
  | .hbm, ⟨39, _⟩ => ⟨S4x4352x1, .f32⟩
  | .hbm, ⟨40, _⟩ => ⟨S4x4352x1, .f32⟩
  | .hbm, ⟨41, _⟩ => ⟨S4x4352x4096, .f32⟩
  | .hbm, ⟨42, _⟩ => ⟨S4x4352x4096, .f32⟩
  | .hbm, ⟨43, _⟩ => ⟨S1x1x4096, .f32⟩
  | .hbm, ⟨44, _⟩ => ⟨S4x4352x4096, .f32⟩
  | .hbm, ⟨45, _⟩ => ⟨S4x4352x4096, .f32⟩
  | .hbm, ⟨46, _⟩ => ⟨S1x1x4096, .f32⟩
  | .hbm, ⟨47, _⟩ => ⟨S4x4352x4096, .f32⟩
  | .hbm, ⟨48, _⟩ => ⟨S4x4352x4096, .f32⟩
  | .hbm, ⟨49, _⟩ => ⟨S5x1x4096, .f32⟩
  | .hbm, ⟨50, _⟩ => ⟨S5x4096, .f32⟩
  | .hbm, ⟨51, _⟩ => ⟨S4x4096, .f32⟩
  | .hbm, ⟨52, _⟩ => ⟨S4x1x4096, .f32⟩
  | .hbm, ⟨53, _⟩ => ⟨S4x4096x4096, .f32⟩
  | .hbm, ⟨54, _⟩ => ⟨S1x4096, .f32⟩
  | .hbm, ⟨55, _⟩ => ⟨S4096, .f32⟩
  | .hbm, ⟨56, _⟩ => ⟨S4x256x4096, .f32⟩
  | .hbm, ⟨57, _⟩ => ⟨S4x4352x4096, .f32⟩
  | .hbm, ⟨58, _⟩ => ⟨S5x1x4096, .f32⟩
  | .hbm, ⟨59, _⟩ => ⟨S5x4096, .f32⟩
  | .hbm, ⟨60, _⟩ => ⟨S4x4096, .f32⟩
  | .hbm, ⟨61, _⟩ => ⟨S4x1x4096, .f32⟩
  | .hbm, ⟨62, _⟩ => ⟨S4x4096x4096, .f32⟩
  | .hbm, ⟨63, _⟩ => ⟨S1x4096, .f32⟩
  | .hbm, ⟨64, _⟩ => ⟨S4096, .f32⟩
  | .hbm, ⟨65, _⟩ => ⟨S4x256x4096, .f32⟩
  | .hbm, ⟨66, _⟩ => ⟨S4x4352x4096, .f32⟩
  | .hbm, ⟨67, _⟩ => ⟨S_, .f32⟩
  | .hbm, ⟨68, _⟩ => ⟨S4x4352x4096, .f32⟩
  | .hbm, ⟨69, _⟩ => ⟨S4x4352x4096, .f32⟩
  | .hbm, ⟨70, _⟩ => ⟨S4x4352x4096, .f32⟩
  | .hbm, ⟨71, _⟩ => ⟨S4x4352x4096, .f32⟩
  | .hbm, ⟨72, _⟩ => ⟨S4x4352x4096, .bf16⟩
  | _, _ => ⟨S4x4352x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_cst_5 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩

abbrev nD : Nat := 1
abbrev τ : Topo := Topo.v7x

variable {F : FTy → Type} [FloatOps F]
-- ==== Lnc.lean ====
abbrev S4x4352x4096 : Shape := ⟨3, ![4, 4352, 4096]⟩
abbrev S5x6x4096 : Shape := ⟨3, ![5, 6, 4096]⟩
abbrev S4096 : Shape := ⟨1, ![4096]⟩
abbrev S1x4096 : Shape := ⟨2, ![1, 4096]⟩
abbrev S4x4096x4096 : Shape := ⟨3, ![4, 4096, 4096]⟩
abbrev S1x256x4096 : Shape := ⟨3, ![1, 256, 4096]⟩
abbrev S1x6x4096 : Shape := ⟨3, ![1, 6, 4096]⟩
abbrev S6x4096 : Shape := ⟨2, ![6, 4096]⟩
abbrev S256x4096 : Shape := ⟨2, ![256, 4096]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S4x4352x4096, .f32⟩
  | .hbm, ⟨1, _⟩ => ⟨S4x4352x4096, .f32⟩
  | .hbm, ⟨2, _⟩ => ⟨S5x6x4096, .f32⟩
  | .hbm, ⟨3, _⟩ => ⟨S4096, .f32⟩
  | .hbm, ⟨4, _⟩ => ⟨S4096, .f32⟩
  | .hbm, ⟨5, _⟩ => ⟨S1x4096, .f32⟩
  | .hbm, ⟨6, _⟩ => ⟨S1x4096, .f32⟩
  | .hbm, ⟨7, _⟩ => ⟨S4x4096x4096, .f32⟩
  | .local _ .vmem, ⟨0, _⟩ => ⟨S1x256x4096, .f32⟩
  | .local _ .vmem, ⟨1, _⟩ => ⟨S1x256x4096, .f32⟩
  | .local _ .vmem, ⟨2, _⟩ => ⟨S1x256x4096, .f32⟩
  | .local _ .vmem, ⟨3, _⟩ => ⟨S1x256x4096, .f32⟩
  | .local _ .vmem, ⟨4, _⟩ => ⟨S1x6x4096, .f32⟩
  | .local _ .vmem, ⟨5, _⟩ => ⟨S1x6x4096, .f32⟩
  | .local _ .vmem, ⟨6, _⟩ => ⟨S1x6x4096, .f32⟩
  | .local _ .vmem, ⟨7, _⟩ => ⟨S1x6x4096, .f32⟩
  | .local _ .vmem, ⟨8, _⟩ => ⟨S1x4096, .f32⟩
  | .local _ .vmem, ⟨9, _⟩ => ⟨S1x4096, .f32⟩
  | .local _ .vmem, ⟨10, _⟩ => ⟨S1x256x4096, .f32⟩
  | .local _ .vmem, ⟨11, _⟩ => ⟨S1x256x4096, .f32⟩
  | _, _ => ⟨S4x4352x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg1 c16_i32
  let c4_i32 : BitVec 32 := 4#32
  let v1 : BitVec 32 := Scalar.select v0 arg0 c4_i32
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg1 c16_i32
  let c4_i32 : BitVec 32 := 4#32
  let v1 : BitVec 32 := Scalar.select v0 arg0 c4_i32
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x6x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== LncRefIdeal.lean ====
abbrev S4x4352x4096 : Shape := ⟨3, ![4, 4352, 4096]⟩
abbrev S5x6x4096 : Shape := ⟨3, ![5, 6, 4096]⟩
abbrev S4096 : Shape := ⟨1, ![4096]⟩
abbrev S4x4096x4096 : Shape := ⟨3, ![4, 4096, 4096]⟩
abbrev S_ : Shape := ⟨0, ![]⟩
abbrev S4x1x4096 : Shape := ⟨3, ![4, 1, 4096]⟩
abbrev S4x4096 : Shape := ⟨2, ![4, 4096]⟩
abbrev S4x4096x1 : Shape := ⟨3, ![4, 4096, 1]⟩
abbrev S1x1x4096 : Shape := ⟨3, ![1, 1, 4096]⟩

abbrev nBuf : Space → Nat
  | .hbm => 45
  | .vmem => 0
  | .smem => 0
  | _ => 0

abbrev bufTy : (tb : Table) → Fin (tcTables nBuf tb) → BufTy
  | .hbm, ⟨0, _⟩ => ⟨S4x4352x4096, .f32⟩
  | .hbm, ⟨1, _⟩ => ⟨S4x4352x4096, .f32⟩
  | .hbm, ⟨2, _⟩ => ⟨S5x6x4096, .f32⟩
  | .hbm, ⟨3, _⟩ => ⟨S4096, .f32⟩
  | .hbm, ⟨4, _⟩ => ⟨S4096, .f32⟩
  | .hbm, ⟨5, _⟩ => ⟨S4x4096x4096, .f32⟩
  | .hbm, ⟨6, _⟩ => ⟨S_, .f32⟩
  | .hbm, ⟨7, _⟩ => ⟨S4x4096x4096, .f32⟩
  | .hbm, ⟨8, _⟩ => ⟨S4x4096x4096, .f32⟩
  | .hbm, ⟨9, _⟩ => ⟨S4x1x4096, .f32⟩
  | .hbm, ⟨10, _⟩ => ⟨S4x4096, .f32⟩
  | .hbm, ⟨11, _⟩ => ⟨S4x1x4096, .f32⟩
  | .hbm, ⟨12, _⟩ => ⟨S4x4096x4096, .f32⟩
  | .hbm, ⟨13, _⟩ => ⟨S4x4096x4096, .f32⟩
  | .hbm, ⟨14, _⟩ => ⟨S4x4096x4096, .f32⟩
  | .hbm, ⟨15, _⟩ => ⟨S4x4096x4096, .f32⟩
  | .hbm, ⟨16, _⟩ => ⟨S_, .f32⟩
  | .hbm, ⟨17, _⟩ => ⟨S4x4096, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S4x4096x4096, .f32⟩
  | .hbm, ⟨23, _⟩ => ⟨S4x4096x4096, .f32⟩
  | .hbm, ⟨24, _⟩ => ⟨S4x4096x4096, .f32⟩
  | .hbm, ⟨25, _⟩ => ⟨S_, .f32⟩
  | .hbm, ⟨26, _⟩ => ⟨S4x4096, .f32⟩
  | .hbm, ⟨27, _⟩ => ⟨S4x4096x1, .f32⟩
  | .hbm, ⟨28, _⟩ => ⟨S_, .f32⟩
  | .hbm, ⟨29, _⟩ => ⟨S4x4096x1, .f32⟩
  | .hbm, ⟨30, _⟩ => ⟨S4x4096x1, .f32⟩
  | .hbm, ⟨31, _⟩ => ⟨S4x4096x4096, .f32⟩
  | .hbm, ⟨32, _⟩ => ⟨S4x4096x4096, .f32⟩
  | .hbm, ⟨33, _⟩ => ⟨S_, .f32⟩
  | .hbm, ⟨34, _⟩ => ⟨S4x4096x1, .f32⟩
  | .hbm, ⟨35, _⟩ => ⟨S4x4096x1, .f32⟩
  | .hbm, ⟨36, _⟩ => ⟨S4x4096x1, .f32⟩
  | .hbm, ⟨37, _⟩ => ⟨S4x4096x4096, .f32⟩
  | .hbm, ⟨38, _⟩ => ⟨S4x4096x4096, .f32⟩
  | .hbm, ⟨39, _⟩ => ⟨S1x1x4096, .f32⟩
  | .hbm, ⟨40, _⟩ => ⟨S4x4096x4096, .f32⟩
  | .hbm, ⟨41, _⟩ => ⟨S4x4096x4096, .f32⟩
  | .hbm, ⟨42, _⟩ => ⟨S1x1x4096, .f32⟩
  | .hbm, ⟨43, _⟩ => ⟨S4x4096x4096, .f32⟩
  | .hbm, ⟨44, _⟩ => ⟨S4x4096x4096, .f32⟩
  | _, _ => ⟨S4x4352x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Mpost.lean ====
abbrev S4x4352x1024 : Shape := ⟨3, ![4, 4352, 1024]⟩
abbrev S4x4352x11776 : Shape := ⟨3, ![4, 4352, 11776]⟩
abbrev S1024 : Shape := ⟨1, ![1024]⟩
abbrev S4x1x256 : Shape := ⟨3, ![4, 1, 256]⟩
abbrev S1x256x1024 : Shape := ⟨3, ![1, 256, 1024]⟩
abbrev S1x256x256 : Shape := ⟨3, ![1, 256, 256]⟩
abbrev S256x256 : Shape := ⟨2, ![256, 256]⟩
abbrev S256 : Shape := ⟨1, ![256]⟩
abbrev S256x1 : Shape := ⟨2, ![256, 1]⟩
abbrev S1x1x256 : Shape := ⟨3, ![1, 1, 256]⟩
abbrev S1x256 : Shape := ⟨2, ![1, 256]⟩

abbrev nBuf : Space → Nat
  | .hbm => 6
  | .vmem => 15
  | .smem => 0
  | _ => 0

abbrev bufTy : (tb : Table) → Fin (tcTables nBuf tb) → BufTy
  | .hbm, ⟨0, _⟩ => ⟨S4x4352x1024, .f32⟩
  | .hbm, ⟨1, _⟩ => ⟨S4x4352x1024, .f32⟩
  | .hbm, ⟨2, _⟩ => ⟨S4x4352x11776, .f32⟩
  | .hbm, ⟨3, _⟩ => ⟨S1024, .f32⟩
  | .hbm, ⟨4, _⟩ => ⟨S4x1x256, .f32⟩
  | .hbm, ⟨5, _⟩ => ⟨S4x4352x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S4x1x256, .f32⟩
  | .local _ .vmem, ⟨13, _⟩ => ⟨S1x256x1024, .bf16⟩
  | .local _ .vmem, ⟨14, _⟩ => ⟨S1x256x1024, .bf16⟩
  | _, _ => ⟨S4x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c42_i32 : BitVec 32 := 42#32
  let c0_i32 : BitVec 32 := 0#32
  ![arg0.toNat, arg1.toNat, c42_i32.toNat]

def cc0_transform_3 (i : grid0.Coords) : Fin 3 → Nat :=
  let arg0 : BitVec 32 := BitVec.ofNat 32 (i 0).val
  let arg1 : BitVec 32 := BitVec.ofNat 32 (i 1).val
  let c43_i32 : BitVec 32 := 43#32
  let c0_i32 : BitVec 32 := 0#32
  ![arg0.toNat, arg1.toNat, c43_i32.toNat]

def cc0_transform_4 (i : grid0.Coords) : Fin 3 → Nat :=
  let arg0 : BitVec 32 := BitVec.ofNat 32 (i 0).val
  let arg1 : BitVec 32 := BitVec.ofNat 32 (i 1).val
  let c44_i32 : BitVec 32 := 44#32
  let c0_i32 : BitVec 32 := 0#32
  ![arg0.toNat, arg1.toNat, c44_i32.toNat]

def cc0_transform_5 (i : grid0.Coords) : Fin 3 → Nat :=
  let arg0 : BitVec 32 := BitVec.ofNat 32 (i 0).val
  let arg1 : BitVec 32 := BitVec.ofNat 32 (i 1).val
  let c45_i32 : BitVec 32 := 45#32
  let c0_i32 : BitVec 32 := 0#32
  ![arg0.toNat, arg1.toNat, c45_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S4x1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MpostRefIdeal.lean ====
abbrev S4x4352x1024 : Shape := ⟨3, ![4, 4352, 1024]⟩
abbrev S4x4352x11776 : Shape := ⟨3, ![4, 4352, 11776]⟩
abbrev S1024 : Shape := ⟨1, ![1024]⟩
abbrev S4x4352x4x256 : Shape := ⟨4, ![4, 4352, 4, 256]⟩
abbrev S4x256 : Shape := ⟨2, ![4, 256]⟩
abbrev S_ : Shape := ⟨0, ![]⟩
abbrev S4x4352x4 : Shape := ⟨3, ![4, 4352, 4]⟩
abbrev S4x4352x4x1 : Shape := ⟨4, ![4, 4352, 4, 1]⟩
abbrev S1x1x4x256 : Shape := ⟨4, ![1, 1, 4, 256]⟩

abbrev nBuf : Space → Nat
  | .hbm => 35
  | .vmem => 0
  | .smem => 0
  | _ => 0

abbrev bufTy : (tb : Table) → Fin (tcTables nBuf tb) → BufTy
  | .hbm, ⟨0, _⟩ => ⟨S4x4352x1024, .f32⟩
  | .hbm, ⟨1, _⟩ => ⟨S4x4352x1024, .f32⟩
  | .hbm, ⟨2, _⟩ => ⟨S4x4352x11776, .f32⟩
  | .hbm, ⟨3, _⟩ => ⟨S1024, .f32⟩
  | .hbm, ⟨4, _⟩ => ⟨S4x4352x1024, .f32⟩
  | .hbm, ⟨5, _⟩ => ⟨S4x4352x4x256, .f32⟩
  | .hbm, ⟨6, _⟩ => ⟨S4x256, .f32⟩
  | .hbm, ⟨7, _⟩ => ⟨S4x4352x4x256, .f32⟩
  | .hbm, ⟨8, _⟩ => ⟨S_, .f32⟩
  | .hbm, ⟨9, _⟩ => ⟨S4x4352x4, .f32⟩
  | .hbm, ⟨10, _⟩ => ⟨S4x4352x4x1, .f32⟩
  | .hbm, ⟨11, _⟩ => ⟨S_, .f32⟩
  | .hbm, ⟨12, _⟩ => ⟨S4x4352x4x1, .f32⟩
  | .hbm, ⟨13, _⟩ => ⟨S4x4352x4x1, .f32⟩
  | .hbm, ⟨14, _⟩ => ⟨S_, .f32⟩
  | .hbm, ⟨15, _⟩ => ⟨S4x4352x4x1, .f32⟩
  | .hbm, ⟨16, _⟩ => ⟨S4x4352x4x1, .f32⟩
  | .hbm, ⟨17, _⟩ => ⟨S4x4352x4x1, .f32⟩
  | .hbm, ⟨18, _⟩ => ⟨S4x4352x4x256, .f32⟩
  | .hbm, ⟨19, _⟩ => ⟨S4x4352x4x256, .f32⟩
  | .hbm, ⟨20, _⟩ => ⟨S1x1x4x256, .f32⟩
  | .hbm, ⟨21, _⟩ => ⟨S4x4352x4x256, .f32⟩
  | .hbm, ⟨22, _⟩ => ⟨S4x4352x4x256, .f32⟩
  | .hbm, ⟨23, _⟩ => ⟨S4x4352x1024, .f32⟩
  | .hbm, ⟨24, _⟩ => ⟨S4x4352x1024, .f32⟩
  | .hbm, ⟨25, _⟩ => ⟨S4x4352x1024, .f32⟩
  | .hbm, ⟨26, _⟩ => ⟨S4x4352x1024, .f32⟩
  | .hbm, ⟨27, _⟩ => ⟨S_, .f32⟩
  | .hbm, ⟨28, _⟩ => ⟨S4x4352x1024, .f32⟩
  | .hbm, ⟨29, _⟩ => ⟨S4x4352x1024, .f32⟩
  | .hbm, ⟨30, _⟩ => ⟨S_, .f32⟩
  | .hbm, ⟨31, _⟩ => ⟨S4x4352x1024, .f32⟩
  | .hbm, ⟨32, _⟩ => ⟨S4x4352x1024, .f32⟩
  | .hbm, ⟨33, _⟩ => ⟨S4x4352x1024, .f32⟩
  | .hbm, ⟨34, _⟩ => ⟨S4x4352x1024, .bf16⟩
  | _, _ => ⟨S4x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Gate.lean ====
abbrev S4x4352x4096 : Shape := ⟨3, ![4, 4352, 4096]⟩
abbrev S4096x11792 : Shape := ⟨2, ![4096, 11792]⟩
abbrev S4096x16 : Shape := ⟨2, ![4096, 16]⟩
abbrev S_ : Shape := ⟨0, ![]⟩
abbrev S4096x128 : Shape := ⟨2, ![4096, 128]⟩
abbrev S17408x4096 : Shape := ⟨2, ![17408, 4096]⟩
abbrev S17408x128 : Shape := ⟨2, ![17408, 128]⟩
abbrev S1024x4096 : Shape := ⟨2, ![1024, 4096]⟩
abbrev S1024x128 : Shape := ⟨2, ![1024, 128]⟩

abbrev nBuf : Space → Nat
  | .hbm => 9
  | .vmem => 5
  | .smem => 0
  | _ => 0

abbrev bufTy : (tb : Table) → Fin (tcTables nBuf tb) → BufTy
  | .hbm, ⟨0, _⟩ => ⟨S4x4352x4096, .bf16⟩
  | .hbm, ⟨1, _⟩ => ⟨S4096x11792, .f32⟩
  | .hbm, ⟨2, _⟩ => ⟨S4096x16, .f32⟩
  | .hbm, ⟨3, _⟩ => ⟨S_, .i32⟩
  | .hbm, ⟨4, _⟩ => ⟨S_, .f32⟩
  | .hbm, ⟨5, _⟩ => ⟨S4096x128, .f32⟩
  | .hbm, ⟨6, _⟩ => ⟨S4096x128, .bf16⟩
  | .hbm, ⟨7, _⟩ => ⟨S17408x4096, .bf16⟩
  | .hbm, ⟨8, _⟩ => ⟨S17408x128, .f32⟩
  | .local _ .vmem, ⟨0, _⟩ => ⟨S1024x4096, .bf16⟩
  | .local _ .vmem, ⟨1, _⟩ => ⟨S1024x4096, .bf16⟩
  | .local _ .vmem, ⟨2, _⟩ => ⟨S4096x128, .bf16⟩
  | .local _ .vmem, ⟨3, _⟩ => ⟨S1024x128, .f32⟩
  | .local _ .vmem, ⟨4, _⟩ => ⟨S1024x128, .f32⟩
  | _, _ => ⟨S4x4352x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![17, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateRefIdeal.lean ====
abbrev S4x4352x4096 : Shape := ⟨3, ![4, 4352, 4096]⟩
abbrev S4096x11792 : Shape := ⟨2, ![4096, 11792]⟩
abbrev S4x4352x11792 : Shape := ⟨3, ![4, 4352, 11792]⟩
abbrev S4x4352x16 : Shape := ⟨3, ![4, 4352, 16]⟩
abbrev S17408x16 : Shape := ⟨2, ![17408, 16]⟩
abbrev S_ : Shape := ⟨0, ![]⟩
abbrev S17408x128 : Shape := ⟨2, ![17408, 128]⟩

abbrev nBuf : Space → Nat
  | .hbm => 9
  | .vmem => 0
  | .smem => 0
  | _ => 0

abbrev bufTy : (tb : Table) → Fin (tcTables nBuf tb) → BufTy
  | .hbm, ⟨0, _⟩ => ⟨S4x4352x4096, .bf16⟩
  | .hbm, ⟨1, _⟩ => ⟨S4096x11792, .f32⟩
  | .hbm, ⟨2, _⟩ => ⟨S4x4352x4096, .f32⟩
  | .hbm, ⟨3, _⟩ => ⟨S4x4352x11792, .f32⟩
  | .hbm, ⟨4, _⟩ => ⟨S4x4352x16, .f32⟩
  | .hbm, ⟨5, _⟩ => ⟨S17408x16, .f32⟩
  | .hbm, ⟨6, _⟩ => ⟨S_, .i32⟩
  | .hbm, ⟨7, _⟩ => ⟨S_, .f32⟩
  | .hbm, ⟨8, _⟩ => ⟨S17408x128, .f32⟩
  | _, _ => ⟨S4x4352x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Rout.lean ====
abbrev S4x4352x4096 : Shape := ⟨3, ![4, 4352, 4096]⟩
abbrev S4096x16 : Shape := ⟨2, ![4096, 16]⟩
abbrev S17408x4096 : Shape := ⟨2, ![17408, 4096]⟩
abbrev S_ : Shape := ⟨0, ![]⟩
abbrev S4096x128 : Shape := ⟨2, ![4096, 128]⟩
abbrev S17408x128 : Shape := ⟨2, ![17408, 128]⟩
abbrev S1024x4096 : Shape := ⟨2, ![1024, 4096]⟩
abbrev S1024x128 : Shape := ⟨2, ![1024, 128]⟩

abbrev nBuf : Space → Nat
  | .hbm => 7
  | .vmem => 5
  | .smem => 0
  | _ => 0

abbrev bufTy : (tb : Table) → Fin (tcTables nBuf tb) → BufTy
  | .hbm, ⟨0, _⟩ => ⟨S4x4352x4096, .f32⟩
  | .hbm, ⟨1, _⟩ => ⟨S4096x16, .f32⟩
  | .hbm, ⟨2, _⟩ => ⟨S17408x4096, .f32⟩
  | .hbm, ⟨3, _⟩ => ⟨S_, .i32⟩
  | .hbm, ⟨4, _⟩ => ⟨S_, .f32⟩
  | .hbm, ⟨5, _⟩ => ⟨S4096x128, .f32⟩
  | .hbm, ⟨6, _⟩ => ⟨S17408x128, .f32⟩
  | .local _ .vmem, ⟨0, _⟩ => ⟨S1024x4096, .f32⟩
  | .local _ .vmem, ⟨1, _⟩ => ⟨S1024x4096, .f32⟩
  | .local _ .vmem, ⟨2, _⟩ => ⟨S4096x128, .f32⟩
  | .local _ .vmem, ⟨3, _⟩ => ⟨S1024x128, .f32⟩
  | .local _ .vmem, ⟨4, _⟩ => ⟨S1024x128, .f32⟩
  | _, _ => ⟨S4x4352x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![17, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RoutRefIdeal.lean ====
abbrev S4x4352x4096 : Shape := ⟨3, ![4, 4352, 4096]⟩
abbrev S4096x16 : Shape := ⟨2, ![4096, 16]⟩
abbrev S4x4352x16 : Shape := ⟨3, ![4, 4352, 16]⟩
abbrev S17408x16 : Shape := ⟨2, ![17408, 16]⟩
abbrev S_ : Shape := ⟨0, ![]⟩
abbrev S17408x128 : Shape := ⟨2, ![17408, 128]⟩

abbrev nBuf : Space → Nat
  | .hbm => 7
  | .vmem => 0
  | .smem => 0
  | _ => 0

abbrev bufTy : (tb : Table) → Fin (tcTables nBuf tb) → BufTy
  | .hbm, ⟨0, _⟩ => ⟨S4x4352x4096, .f32⟩
  | .hbm, ⟨1, _⟩ => ⟨S4096x16, .f32⟩
  | .hbm, ⟨2, _⟩ => ⟨S4x4352x16, .f32⟩
  | .hbm, ⟨3, _⟩ => ⟨S17408x16, .f32⟩
  | .hbm, ⟨4, _⟩ => ⟨S_, .i32⟩
  | .hbm, ⟨5, _⟩ => ⟨S_, .f32⟩
  | .hbm, ⟨6, _⟩ => ⟨S17408x128, .f32⟩
  | _, _ => ⟨S4x4352x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Adad.lean ====
abbrev S8x4096 : Shape := ⟨2, ![8, 4096]⟩
abbrev S4096x512 : Shape := ⟨2, ![4096, 512]⟩
abbrev S8x512 : Shape := ⟨2, ![8, 512]⟩

abbrev nBuf : Space → Nat
  | .hbm => 3
  | .vmem => 3
  | .smem => 0
  | _ => 0

abbrev bufTy : (tb : Table) → Fin (tcTables nBuf tb) → BufTy
  | .hbm, ⟨0, _⟩ => ⟨S8x4096, .f32⟩
  | .hbm, ⟨1, _⟩ => ⟨S4096x512, .f32⟩
  | .hbm, ⟨2, _⟩ => ⟨S8x512, .f32⟩
  | .local _ .vmem, ⟨0, _⟩ => ⟨S8x4096, .f32⟩
  | .local _ .vmem, ⟨1, _⟩ => ⟨S4096x512, .f32⟩
  | .local _ .vmem, ⟨2, _⟩ => ⟨S8x512, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== AdadRefIdeal.lean ====
abbrev S8x4096 : Shape := ⟨2, ![8, 4096]⟩
abbrev S4096x512 : Shape := ⟨2, ![4096, 512]⟩
abbrev S8x512 : Shape := ⟨2, ![8, 512]⟩

abbrev nBuf : Space → Nat
  | .hbm => 3
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S4096x512, .f32⟩
  | .hbm, ⟨2, _⟩ => ⟨S8x512, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Adau.lean ====
abbrev S8x512 : Shape := ⟨2, ![8, 512]⟩
abbrev S512x24576 : Shape := ⟨2, ![512, 24576]⟩
abbrev S8x24576 : Shape := ⟨2, ![8, 24576]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S8x512, .f32⟩
  | .hbm, ⟨1, _⟩ => ⟨S512x24576, .f32⟩
  | .hbm, ⟨2, _⟩ => ⟨S8x24576, .f32⟩
  | .local _ .vmem, ⟨0, _⟩ => ⟨S8x512, .f32⟩
  | .local _ .vmem, ⟨1, _⟩ => ⟨S512x512, .f32⟩
  | .local _ .vmem, ⟨2, _⟩ => ⟨S512x512, .f32⟩
  | .local _ .vmem, ⟨3, _⟩ => ⟨S8x512, .f32⟩
  | .local _ .vmem, ⟨4, _⟩ => ⟨S8x512, .f32⟩
  | _, _ => ⟨S8x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 48, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S8x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AdauRefIdeal.lean ====
abbrev S8x512 : Shape := ⟨2, ![8, 512]⟩
abbrev S512x24576 : Shape := ⟨2, ![512, 24576]⟩
abbrev S8x24576 : Shape := ⟨2, ![8, 24576]⟩

abbrev nBuf : Space → Nat
  | .hbm => 3
  | .vmem => 0
  | .smem => 0
  | _ => 0

abbrev bufTy : (tb : Table) → Fin (tcTables nBuf tb) → BufTy
  | .hbm, ⟨0, _⟩ => ⟨S8x512, .f32⟩
  | .hbm, ⟨1, _⟩ => ⟨S512x24576, .f32⟩
  | .hbm, ⟨2, _⟩ => ⟨S8x24576, .f32⟩
  | _, _ => ⟨S8x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Hyfa.lean ====
abbrev S4096x33 : Shape := ⟨2, ![4096, 33]⟩
abbrev S33x64 : Shape := ⟨2, ![33, 64]⟩
abbrev S_ : Shape := ⟨0, ![]⟩
abbrev S4096x128 : Shape := ⟨2, ![4096, 128]⟩
abbrev S128x64 : Shape := ⟨2, ![128, 64]⟩
abbrev S128x128 : Shape := ⟨2, ![128, 128]⟩
abbrev S1024x128 : Shape := ⟨2, ![1024, 128]⟩

abbrev nBuf : Space → Nat
  | .hbm => 12
  | .vmem => 5
  | .smem => 0
  | _ => 0

abbrev bufTy : (tb : Table) → Fin (tcTables nBuf tb) → BufTy
  | .hbm, ⟨0, _⟩ => ⟨S4096x33, .f32⟩
  | .hbm, ⟨1, _⟩ => ⟨S33x64, .f32⟩
  | .hbm, ⟨2, _⟩ => ⟨S_, .i32⟩
  | .hbm, ⟨3, _⟩ => ⟨S_, .f32⟩
  | .hbm, ⟨4, _⟩ => ⟨S4096x128, .f32⟩
  | .hbm, ⟨5, _⟩ => ⟨S_, .i32⟩
  | .hbm, ⟨6, _⟩ => ⟨S_, .f32⟩
  | .hbm, ⟨7, _⟩ => ⟨S128x64, .f32⟩
  | .hbm, ⟨8, _⟩ => ⟨S_, .i32⟩
  | .hbm, ⟨9, _⟩ => ⟨S_, .f32⟩
  | .hbm, ⟨10, _⟩ => ⟨S128x128, .f32⟩
  | .hbm, ⟨11, _⟩ => ⟨S4096x128, .f32⟩
  | .local _ .vmem, ⟨0, _⟩ => ⟨S1024x128, .f32⟩
  | .local _ .vmem, ⟨1, _⟩ => ⟨S1024x128, .f32⟩
  | .local _ .vmem, ⟨2, _⟩ => ⟨S128x128, .f32⟩
  | .local _ .vmem, ⟨3, _⟩ => ⟨S1024x128, .f32⟩
  | .local _ .vmem, ⟨4, _⟩ => ⟨S1024x128, .f32⟩
  | _, _ => ⟨S4096x33, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_c_0 : Ref sig .tc := ⟨.hbm, 5, rfl⟩
abbrev main_call1_v0 : Ref sig .tc := ⟨.hbm, 6, rfl⟩
abbrev main_v1 : Ref sig .tc := ⟨.hbm, 7, rfl⟩
abbrev main_c_1 : Ref sig .tc := ⟨.hbm, 8, rfl⟩
abbrev main_call2_v0 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HyfaRefIdeal.lean ====
abbrev S4096x33 : Shape := ⟨2, ![4096, 33]⟩
abbrev S33x64 : Shape := ⟨2, ![33, 64]⟩
abbrev S4096x64 : Shape := ⟨2, ![4096, 64]⟩
abbrev S_ : Shape := ⟨0, ![]⟩
abbrev S4096x128 : Shape := ⟨2, ![4096, 128]⟩

abbrev nBuf : Space → Nat
  | .hbm => 6
  | .vmem => 0
  | .smem => 0
  | _ => 0

abbrev bufTy : (tb : Table) → Fin (tcTables nBuf tb) → BufTy
  | .hbm, ⟨0, _⟩ => ⟨S4096x33, .f32⟩
  | .hbm, ⟨1, _⟩ => ⟨S33x64, .f32⟩
  | .hbm, ⟨2, _⟩ => ⟨S4096x64, .f32⟩
  | .hbm, ⟨3, _⟩ => ⟨S_, .i32⟩
  | .hbm, ⟨4, _⟩ => ⟨S_, .f32⟩
  | .hbm, ⟨5, _⟩ => ⟨S4096x128, .f32⟩
  | _, _ => ⟨S4096x33, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩

abbrev nD : Nat := 1
abbrev τ : Topo := Topo.v7x

variable {F : FTy → Type} [FloatOps F]
-- ==== Hyfb.lean ====
abbrev S4096x64 : Shape := ⟨2, ![4096, 64]⟩
abbrev S64x64 : Shape := ⟨2, ![64, 64]⟩
abbrev S_ : Shape := ⟨0, ![]⟩
abbrev S4096x128 : Shape := ⟨2, ![4096, 128]⟩
abbrev S128x64 : Shape := ⟨2, ![128, 64]⟩
abbrev S128x128 : Shape := ⟨2, ![128, 128]⟩
abbrev S1024x128 : Shape := ⟨2, ![1024, 128]⟩

abbrev nBuf : Space → Nat
  | .hbm => 12
  | .vmem => 5
  | .smem => 0
  | _ => 0

abbrev bufTy : (tb : Table) → Fin (tcTables nBuf tb) → BufTy
  | .hbm, ⟨0, _⟩ => ⟨S4096x64, .f32⟩
  | .hbm, ⟨1, _⟩ => ⟨S64x64, .f32⟩
  | .hbm, ⟨2, _⟩ => ⟨S_, .i32⟩
  | .hbm, ⟨3, _⟩ => ⟨S_, .f32⟩
  | .hbm, ⟨4, _⟩ => ⟨S4096x128, .f32⟩
  | .hbm, ⟨5, _⟩ => ⟨S_, .i32⟩
  | .hbm, ⟨6, _⟩ => ⟨S_, .f32⟩
  | .hbm, ⟨7, _⟩ => ⟨S128x64, .f32⟩
  | .hbm, ⟨8, _⟩ => ⟨S_, .i32⟩
  | .hbm, ⟨9, _⟩ => ⟨S_, .f32⟩
  | .hbm, ⟨10, _⟩ => ⟨S128x128, .f32⟩
  | .hbm, ⟨11, _⟩ => ⟨S4096x128, .f32⟩
  | .local _ .vmem, ⟨0, _⟩ => ⟨S1024x128, .f32⟩
  | .local _ .vmem, ⟨1, _⟩ => ⟨S1024x128, .f32⟩
  | .local _ .vmem, ⟨2, _⟩ => ⟨S128x128, .f32⟩
  | .local _ .vmem, ⟨3, _⟩ => ⟨S1024x128, .f32⟩
  | .local _ .vmem, ⟨4, _⟩ => ⟨S1024x128, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_c_0 : Ref sig .tc := ⟨.hbm, 5, rfl⟩
abbrev main_call1_v0 : Ref sig .tc := ⟨.hbm, 6, rfl⟩
abbrev main_v1 : Ref sig .tc := ⟨.hbm, 7, rfl⟩
abbrev main_c_1 : Ref sig .tc := ⟨.hbm, 8, rfl⟩
abbrev main_call2_v0 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HyfbRefIdeal.lean ====
abbrev S4096x64 : Shape := ⟨2, ![4096, 64]⟩
abbrev S64x64 : Shape := ⟨2, ![64, 64]⟩
abbrev S_ : Shape := ⟨0, ![]⟩
abbrev S4096x128 : Shape := ⟨2, ![4096, 128]⟩

abbrev nBuf : Space → Nat
  | .hbm => 6
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S64x64, .f32⟩
  | .hbm, ⟨2, _⟩ => ⟨S4096x64, .f32⟩
  | .hbm, ⟨3, _⟩ => ⟨S_, .i32⟩
  | .hbm, ⟨4, _⟩ => ⟨S_, .f32⟩
  | .hbm, ⟨5, _⟩ => ⟨S4096x128, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩

abbrev nD : Nat := 1
abbrev τ : Topo := Topo.v7x

variable {F : FTy → Type} [FloatOps F]
-- ==== Hyfc.lean ====
abbrev S4096x64 : Shape := ⟨2, ![4096, 64]⟩
abbrev S64x4096 : Shape := ⟨2, ![64, 4096]⟩
abbrev S_ : Shape := ⟨0, ![]⟩
abbrev S4096x128 : Shape := ⟨2, ![4096, 128]⟩
abbrev S128x4096 : Shape := ⟨2, ![128, 4096]⟩
abbrev S4096x4096 : Shape := ⟨2, ![4096, 4096]⟩
abbrev S1024x128 : Shape := ⟨2, ![1024, 128]⟩
abbrev S128x512 : Shape := ⟨2, ![128, 512]⟩
abbrev S1024x512 : Shape := ⟨2, ![1024, 512]⟩

abbrev nBuf : Space → Nat
  | .hbm => 9
  | .vmem => 6
  | .smem => 0
  | _ => 0

abbrev bufTy : (tb : Table) → Fin (tcTables nBuf tb) → BufTy
  | .hbm, ⟨0, _⟩ => ⟨S4096x64, .f32⟩
  | .hbm, ⟨1, _⟩ => ⟨S64x4096, .f32⟩
  | .hbm, ⟨2, _⟩ => ⟨S_, .i32⟩
  | .hbm, ⟨3, _⟩ => ⟨S_, .f32⟩
  | .hbm, ⟨4, _⟩ => ⟨S4096x128, .f32⟩
  | .hbm, ⟨5, _⟩ => ⟨S_, .i32⟩
  | .hbm, ⟨6, _⟩ => ⟨S_, .f32⟩
  | .hbm, ⟨7, _⟩ => ⟨S128x4096, .f32⟩
  | .hbm, ⟨8, _⟩ => ⟨S4096x4096, .f32⟩
  | .local _ .vmem, ⟨0, _⟩ => ⟨S1024x128, .f32⟩
  | .local _ .vmem, ⟨1, _⟩ => ⟨S1024x128, .f32⟩
  | .local _ .vmem, ⟨2, _⟩ => ⟨S128x512, .f32⟩
  | .local _ .vmem, ⟨3, _⟩ => ⟨S128x512, .f32⟩
  | .local _ .vmem, ⟨4, _⟩ => ⟨S1024x512, .f32⟩
  | .local _ .vmem, ⟨5, _⟩ => ⟨S1024x512, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_c_0 : Ref sig .tc := ⟨.hbm, 5, rfl⟩
abbrev main_call1_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HyfcRefIdeal.lean ====
abbrev S4096x64 : Shape := ⟨2, ![4096, 64]⟩
abbrev S64x4096 : Shape := ⟨2, ![64, 4096]⟩
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S64x4096, .f32⟩
  | .hbm, ⟨2, _⟩ => ⟨S4096x4096, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Sconv.lean ====
abbrev S4x4352x11776 : Shape := ⟨3, ![4, 4352, 11776]⟩
abbrev S3x3072 : Shape := ⟨2, ![3, 3072]⟩
abbrev S3072 : Shape := ⟨1, ![3072]⟩
abbrev S1x3072 : Shape := ⟨2, ![1, 3072]⟩
abbrev S4x4096x3072 : Shape := ⟨3, ![4, 4096, 3072]⟩
abbrev S1x4096x128 : Shape := ⟨3, ![1, 4096, 128]⟩
abbrev S3x128 : Shape := ⟨2, ![3, 128]⟩
abbrev S1x128 : Shape := ⟨2, ![1, 128]⟩
abbrev S4096x128 : Shape := ⟨2, ![4096, 128]⟩

abbrev nBuf : Space → Nat
  | .hbm => 5
  | .vmem => 8
  | .smem => 0
  | _ => 0

abbrev bufTy : (tb : Table) → Fin (tcTables nBuf tb) → BufTy
  | .hbm, ⟨0, _⟩ => ⟨S4x4352x11776, .f32⟩
  | .hbm, ⟨1, _⟩ => ⟨S3x3072, .f32⟩
  | .hbm, ⟨2, _⟩ => ⟨S3072, .f32⟩
  | .hbm, ⟨3, _⟩ => ⟨S1x3072, .f32⟩
  | .hbm, ⟨4, _⟩ => ⟨S4x4096x3072, .f32⟩
  | .local _ .vmem, ⟨0, _⟩ => ⟨S1x4096x128, .f32⟩
  | .local _ .vmem, ⟨1, _⟩ => ⟨S1x4096x128, .f32⟩
  | .local _ .vmem, ⟨2, _⟩ => ⟨S3x128, .f32⟩
  | .local _ .vmem, ⟨3, _⟩ => ⟨S3x128, .f32⟩
  | .local _ .vmem, ⟨4, _⟩ => ⟨S1x128, .f32⟩
  | .local _ .vmem, ⟨5, _⟩ => ⟨S1x128, .f32⟩
  | .local _ .vmem, ⟨6, _⟩ => ⟨S1x4096x128, .f32⟩
  | .local _ .vmem, ⟨7, _⟩ => ⟨S1x4096x128, .f32⟩
  | _, _ => ⟨S4x4352x11776, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 24], ![false, false]⟩

def cc0_transform_0 (i : grid0.Coords) : Fin 3 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg1
  let c0_i32 : BitVec 32 := 0#32
  let c0_i32_0 : BitVec 32 := 0#32
  ![arg0.toNat, c0_i32.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SconvRefIdeal.lean ====
abbrev S4x4352x11776 : Shape := ⟨3, ![4, 4352, 11776]⟩
abbrev S3x3072 : Shape := ⟨2, ![3, 3072]⟩
abbrev S3072 : Shape := ⟨1, ![3072]⟩
abbrev S4x4096x3072 : Shape := ⟨3, ![4, 4096, 3072]⟩
abbrev S_ : Shape := ⟨0, ![]⟩
abbrev S4x1x3072 : Shape := ⟨3, ![4, 1, 3072]⟩
abbrev S4x4095x3072 : Shape := ⟨3, ![4, 4095, 3072]⟩
abbrev S1x3072 : Shape := ⟨2, ![1, 3072]⟩
abbrev S1x1x3072 : Shape := ⟨3, ![1, 1, 3072]⟩

abbrev nBuf : Space → Nat
  | .hbm => 30
  | .vmem => 0
  | .smem => 0
  | _ => 0

abbrev bufTy : (tb : Table) → Fin (tcTables nBuf tb) → BufTy
  | .hbm, ⟨0, _⟩ => ⟨S4x4352x11776, .f32⟩
  | .hbm, ⟨1, _⟩ => ⟨S3x3072, .f32⟩
  | .hbm, ⟨2, _⟩ => ⟨S3072, .f32⟩
  | .hbm, ⟨3, _⟩ => ⟨S4x4096x3072, .f32⟩
  | .hbm, ⟨4, _⟩ => ⟨S_, .f32⟩
  | .hbm, ⟨5, _⟩ => ⟨S4x1x3072, .f32⟩
  | .hbm, ⟨6, _⟩ => ⟨S4x4095x3072, .f32⟩
  | .hbm, ⟨7, _⟩ => ⟨S4x4096x3072, .f32⟩
  | .hbm, ⟨8, _⟩ => ⟨S4x4095x3072, .f32⟩
  | .hbm, ⟨9, _⟩ => ⟨S4x4096x3072, .f32⟩
  | .hbm, ⟨10, _⟩ => ⟨S1x3072, .f32⟩
  | .hbm, ⟨11, _⟩ => ⟨S3072, .f32⟩
  | .hbm, ⟨12, _⟩ => ⟨S1x1x3072, .f32⟩
  | .hbm, ⟨13, _⟩ => ⟨S4x4096x3072, .f32⟩
  | .hbm, ⟨14, _⟩ => ⟨S4x4096x3072, .f32⟩
  | .hbm, ⟨15, _⟩ => ⟨S1x3072, .f32⟩
  | .hbm, ⟨16, _⟩ => ⟨S3072, .f32⟩
  | .hbm, ⟨17, _⟩ => ⟨S1x1x3072, .f32⟩
  | .hbm, ⟨18, _⟩ => ⟨S4x4096x3072, .f32⟩
  | .hbm, ⟨19, _⟩ => ⟨S4x4096x3072, .f32⟩
  | .hbm, ⟨20, _⟩ => ⟨S4x4096x3072, .f32⟩
  | .hbm, ⟨21, _⟩ => ⟨S1x3072, .f32⟩
  | .hbm, ⟨22, _⟩ => ⟨S3072, .f32⟩
  | .hbm, ⟨23, _⟩ => ⟨S1x1x3072, .f32⟩
  | .hbm, ⟨24, _⟩ => ⟨S4x4096x3072, .f32⟩
  | .hbm, ⟨25, _⟩ => ⟨S4x4096x3072, .f32⟩
  | .hbm, ⟨26, _⟩ => ⟨S4x4096x3072, .f32⟩
  | .hbm, ⟨27, _⟩ => ⟨S1x1x3072, .f32⟩
  | .hbm, ⟨28, _⟩ => ⟨S4x4096x3072, .f32⟩
  | .hbm, ⟨29, _⟩ => ⟨S4x4096x3072, .f32⟩
  | _, _ => ⟨S4x4352x11776, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩

abbrev nD : Nat := 1
abbrev τ : Topo := Topo.v7x

variable {F : FTy → Type} [FloatOps F]
-- ==== Sctx.lean ====
abbrev S4x4352x11776 : Shape := ⟨3, ![4, 4352, 11776]⟩
abbrev S3x3072 : Shape := ⟨2, ![3, 3072]⟩
abbrev S3072 : Shape := ⟨1, ![3072]⟩
abbrev S1x3072 : Shape := ⟨2, ![1, 3072]⟩
abbrev S4x256x3072 : Shape := ⟨3, ![4, 256, 3072]⟩
abbrev S1x256x128 : Shape := ⟨3, ![1, 256, 128]⟩
abbrev S3x128 : Shape := ⟨2, ![3, 128]⟩
abbrev S1x128 : Shape := ⟨2, ![1, 128]⟩
abbrev S256x128 : Shape := ⟨2, ![256, 128]⟩

abbrev nBuf : Space → Nat
  | .hbm => 5
  | .vmem => 8
  | .smem => 0
  | _ => 0

abbrev bufTy : (tb : Table) → Fin (tcTables nBuf tb) → BufTy
  | .hbm, ⟨0, _⟩ => ⟨S4x4352x11776, .f32⟩
  | .hbm, ⟨1, _⟩ => ⟨S3x3072, .f32⟩
  | .hbm, ⟨2, _⟩ => ⟨S3072, .f32⟩
  | .hbm, ⟨3, _⟩ => ⟨S1x3072, .f32⟩
  | .hbm, ⟨4, _⟩ => ⟨S4x256x3072, .f32⟩
  | .local _ .vmem, ⟨0, _⟩ => ⟨S1x256x128, .f32⟩
  | .local _ .vmem, ⟨1, _⟩ => ⟨S1x256x128, .f32⟩
  | .local _ .vmem, ⟨2, _⟩ => ⟨S3x128, .f32⟩
  | .local _ .vmem, ⟨3, _⟩ => ⟨S3x128, .f32⟩
  | .local _ .vmem, ⟨4, _⟩ => ⟨S1x128, .f32⟩
  | .local _ .vmem, ⟨5, _⟩ => ⟨S1x128, .f32⟩
  | .local _ .vmem, ⟨6, _⟩ => ⟨S1x256x128, .f32⟩
  | .local _ .vmem, ⟨7, _⟩ => ⟨S1x256x128, .f32⟩
  | _, _ => ⟨S4x4352x11776, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 24], ![false, false]⟩

def cc0_transform_0 (i : grid0.Coords) : Fin 3 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg1
  let c16_i32 : BitVec 32 := 16#32
  let c0_i32 : BitVec 32 := 0#32
  ![arg0.toNat, c16_i32.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SctxRefIdeal.lean ====
abbrev S4x4352x11776 : Shape := ⟨3, ![4, 4352, 11776]⟩
abbrev S3x3072 : Shape := ⟨2, ![3, 3072]⟩
abbrev S3072 : Shape := ⟨1, ![3072]⟩
abbrev S4x256x3072 : Shape := ⟨3, ![4, 256, 3072]⟩
abbrev S_ : Shape := ⟨0, ![]⟩
abbrev S4x1x3072 : Shape := ⟨3, ![4, 1, 3072]⟩
abbrev S4x255x3072 : Shape := ⟨3, ![4, 255, 3072]⟩
abbrev S1x3072 : Shape := ⟨2, ![1, 3072]⟩
abbrev S1x1x3072 : Shape := ⟨3, ![1, 1, 3072]⟩

abbrev nBuf : Space → Nat
  | .hbm => 30
  | .vmem => 0
  | .smem => 0
  | _ => 0

abbrev bufTy : (tb : Table) → Fin (tcTables nBuf tb) → BufTy
  | .hbm, ⟨0, _⟩ => ⟨S4x4352x11776, .f32⟩
  | .hbm, ⟨1, _⟩ => ⟨S3x3072, .f32⟩
  | .hbm, ⟨2, _⟩ => ⟨S3072, .f32⟩
  | .hbm, ⟨3, _⟩ => ⟨S4x256x3072, .f32⟩
  | .hbm, ⟨4, _⟩ => ⟨S_, .f32⟩
  | .hbm, ⟨5, _⟩ => ⟨S4x1x3072, .f32⟩
  | .hbm, ⟨6, _⟩ => ⟨S4x255x3072, .f32⟩
  | .hbm, ⟨7, _⟩ => ⟨S4x256x3072, .f32⟩
  | .hbm, ⟨8, _⟩ => ⟨S4x255x3072, .f32⟩
  | .hbm, ⟨9, _⟩ => ⟨S4x256x3072, .f32⟩
  | .hbm, ⟨10, _⟩ => ⟨S1x3072, .f32⟩
  | .hbm, ⟨11, _⟩ => ⟨S3072, .f32⟩
  | .hbm, ⟨12, _⟩ => ⟨S1x1x3072, .f32⟩
  | .hbm, ⟨13, _⟩ => ⟨S4x256x3072, .f32⟩
  | .hbm, ⟨14, _⟩ => ⟨S4x256x3072, .f32⟩
  | .hbm, ⟨15, _⟩ => ⟨S1x3072, .f32⟩
  | .hbm, ⟨16, _⟩ => ⟨S3072, .f32⟩
  | .hbm, ⟨17, _⟩ => ⟨S1x1x3072, .f32⟩
  | .hbm, ⟨18, _⟩ => ⟨S4x256x3072, .f32⟩
  | .hbm, ⟨19, _⟩ => ⟨S4x256x3072, .f32⟩
  | .hbm, ⟨20, _⟩ => ⟨S4x256x3072, .f32⟩
  | .hbm, ⟨21, _⟩ => ⟨S1x3072, .f32⟩
  | .hbm, ⟨22, _⟩ => ⟨S3072, .f32⟩
  | .hbm, ⟨23, _⟩ => ⟨S1x1x3072, .f32⟩
  | .hbm, ⟨24, _⟩ => ⟨S4x256x3072, .f32⟩
  | .hbm, ⟨25, _⟩ => ⟨S4x256x3072, .f32⟩
  | .hbm, ⟨26, _⟩ => ⟨S4x256x3072, .f32⟩
  | .hbm, ⟨27, _⟩ => ⟨S1x1x3072, .f32⟩
  | .hbm, ⟨28, _⟩ => ⟨S4x256x3072, .f32⟩
  | .hbm, ⟨29, _⟩ => ⟨S4x256x3072, .f32⟩
  | _, _ => ⟨S4x4352x11776, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩

abbrev nD : Nat := 1
abbrev τ : Topo := Topo.v7x

variable {F : FTy → Type} [FloatOps F]
-- ==== Qkp.lean ====
abbrev S4x4352x11776 : Shape := ⟨3, ![4, 4352, 11776]⟩
abbrev S4096x64 : Shape := ⟨2, ![4096, 64]⟩
abbrev S2x128 : Shape := ⟨2, ![2, 128]⟩
abbrev S4096x64x2 : Shape := ⟨3, ![4096, 64, 2]⟩
abbrev S4096x128 : Shape := ⟨2, ![4096, 128]⟩
abbrev S4096x64x1 : Shape := ⟨3, ![4096, 64, 1]⟩
abbrev S_ : Shape := ⟨0, ![]⟩
abbrev S256x128 : Shape := ⟨2, ![256, 128]⟩
abbrev S4352x128 : Shape := ⟨2, ![4352, 128]⟩
abbrev S4x4352x4608 : Shape := ⟨3, ![4, 4352, 4608]⟩
abbrev S1x256x4608 : Shape := ⟨3, ![1, 256, 4608]⟩
abbrev S1x256x128 : Shape := ⟨3, ![1, 256, 128]⟩
abbrev S256 : Shape := ⟨1, ![256]⟩
abbrev S256x1 : Shape := ⟨2, ![256, 1]⟩
abbrev S1x128 : Shape := ⟨2, ![1, 128]⟩

abbrev nBuf : Space → Nat
  | .hbm => 19
  | .vmem => 9
  | .smem => 0
  | _ => 0

abbrev bufTy : (tb : Table) → Fin (tcTables nBuf tb) → BufTy
  | .hbm, ⟨0, _⟩ => ⟨S4x4352x11776, .f32⟩
  | .hbm, ⟨1, _⟩ => ⟨S4096x64, .f32⟩
  | .hbm, ⟨2, _⟩ => ⟨S2x128, .f32⟩
  | .hbm, ⟨3, _⟩ => ⟨S4096x64, .f32⟩
  | .hbm, ⟨4, _⟩ => ⟨S4096x64, .f32⟩
  | .hbm, ⟨5, _⟩ => ⟨S4096x64x2, .f32⟩
  | .hbm, ⟨6, _⟩ => ⟨S4096x128, .f32⟩
  | .hbm, ⟨7, _⟩ => ⟨S4096x64, .f32⟩
  | .hbm, ⟨8, _⟩ => ⟨S4096x64x1, .f32⟩
  | .hbm, ⟨9, _⟩ => ⟨S4096x64x1, .f32⟩
  | .hbm, ⟨10, _⟩ => ⟨S4096x64x2, .f32⟩
  | .hbm, ⟨11, _⟩ => ⟨S4096x128, .f32⟩
  | .hbm, ⟨12, _⟩ => ⟨S_, .f32⟩
  | .hbm, ⟨13, _⟩ => ⟨S256x128, .f32⟩
  | .hbm, ⟨14, _⟩ => ⟨S4352x128, .f32⟩
  | .hbm, ⟨15, _⟩ => ⟨S_, .f32⟩
  | .hbm, ⟨16, _⟩ => ⟨S256x128, .f32⟩
  | .hbm, ⟨17, _⟩ => ⟨S4352x128, .f32⟩
  | .hbm, ⟨18, _⟩ => ⟨S4x4352x4608, .bf16⟩
  | .local _ .vmem, ⟨0, _⟩ => ⟨S1x256x4608, .f32⟩
  | .local _ .vmem, ⟨1, _⟩ => ⟨S1x256x4608, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S2x128, .f32⟩
  | .local _ .vmem, ⟨7, _⟩ => ⟨S1x256x4608, .bf16⟩
  | .local _ .vmem, ⟨8, _⟩ => ⟨S1x256x4608, .bf16⟩
  | _, _ => ⟨S4x4352x11776, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4608 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x4608 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== QkpRefIdeal.lean ====
abbrev S4x4352x11776 : Shape := ⟨3, ![4, 4352, 11776]⟩
abbrev S4096x64 : Shape := ⟨2, ![4096, 64]⟩
abbrev S2x128 : Shape := ⟨2, ![2, 128]⟩
abbrev S4x4352x4608 : Shape := ⟨3, ![4, 4352, 4608]⟩
abbrev S4x4352x36x128 : Shape := ⟨4, ![4, 4352, 36, 128]⟩
abbrev S4x4352x8x128 : Shape := ⟨4, ![4, 4352, 8, 128]⟩
abbrev S1x4096x1x64 : Shape := ⟨4, ![1, 4096, 1, 64]⟩
abbrev S4x4096x8x128 : Shape := ⟨4, ![4, 4096, 8, 128]⟩
abbrev S4x4096x8x64x2 : Shape := ⟨5, ![4, 4096, 8, 64, 2]⟩
abbrev S4x4096x8x64x1 : Shape := ⟨5, ![4, 4096, 8, 64, 1]⟩
abbrev S4x4096x8x64 : Shape := ⟨4, ![4, 4096, 8, 64]⟩
abbrev S4x256x8x128 : Shape := ⟨4, ![4, 256, 8, 128]⟩
abbrev S_ : Shape := ⟨0, ![]⟩
abbrev S1x128 : Shape := ⟨2, ![1, 128]⟩
abbrev S128 : Shape := ⟨1, ![128]⟩
abbrev S4x4352x8 : Shape := ⟨3, ![4, 4352, 8]⟩
abbrev S4x4352x8x1 : Shape := ⟨4, ![4, 4352, 8, 1]⟩
abbrev S1x1x1x128 : Shape := ⟨4, ![1, 1, 1, 128]⟩
abbrev S4x4352x2x128 : Shape := ⟨4, ![4, 4352, 2, 128]⟩
abbrev S4x4352x2 : Shape := ⟨3, ![4, 4352, 2]⟩
abbrev S4x4352x2x1 : Shape := ⟨4, ![4, 4352, 2, 1]⟩
abbrev S4x4096x2x128 : Shape := ⟨4, ![4, 4096, 2, 128]⟩
abbrev S4x4096x2x64x2 : Shape := ⟨5, ![4, 4096, 2, 64, 2]⟩
abbrev S4x4096x2x64x1 : Shape := ⟨5, ![4, 4096, 2, 64, 1]⟩
abbrev S4x4096x2x64 : Shape := ⟨4, ![4, 4096, 2, 64]⟩
abbrev S4x256x2x128 : Shape := ⟨4, ![4, 256, 2, 128]⟩

abbrev nBuf : Space → Nat
  | .hbm => 160
  | .vmem => 0
  | .smem => 0
  | _ => 0

abbrev hbmTy0_0 (i : Nat) : BufTy := match i % 128 with
  | 0 => ⟨S4x4352x11776, .f32⟩
  | 1 => ⟨S4096x64, .f32⟩
  | 2 => ⟨S2x128, .f32⟩
  | 3 => ⟨S4x4352x4608, .f32⟩
  | 4 => ⟨S4x4352x36x128, .f32⟩
  | 5 => ⟨S4x4352x8x128, .f32⟩
  | 6 => ⟨S4096x64, .f32⟩
  | 7 => ⟨S1x4096x1x64, .f32⟩
  | 8 => ⟨S4096x64, .f32⟩
  | 9 => ⟨S1x4096x1x64, .f32⟩
  | 10 => ⟨S4x4096x8x128, .f32⟩
  | 11 => ⟨S4x4096x8x64x2, .f32⟩
  | 12 => ⟨S4x4096x8x64x1, .f32⟩
  | 13 => ⟨S4x4096x8x64, .f32⟩
  | 14 => ⟨S4x4096x8x64x1, .f32⟩
  | 15 => ⟨S4x4096x8x64, .f32⟩
  | 16 => ⟨S4x4096x8x64, .f32⟩
  | 17 => ⟨S4x4096x8x64, .f32⟩
  | 18 => ⟨S4x4096x8x64, .f32⟩
  | 19 => ⟨S4x4096x8x64, .f32⟩
  | 20 => ⟨S4x4096x8x64, .f32⟩
  | 21 => ⟨S4x4096x8x64, .f32⟩
  | 22 => ⟨S4x4096x8x64, .f32⟩
  | 23 => ⟨S4x4096x8x64, .f32⟩
  | 24 => ⟨S4x4096x8x64, .f32⟩
  | 25 => ⟨S4x4096x8x64, .f32⟩
  | 26 => ⟨S4x4096x8x64x1, .f32⟩
  | 27 => ⟨S4x4096x8x64x1, .f32⟩
  | 28 => ⟨S4x4096x8x64x2, .f32⟩
  | 29 => ⟨S4x4096x8x128, .f32⟩
  | 30 => ⟨S4x256x8x128, .f32⟩
  | 31 => ⟨S4x4352x8x128, .f32⟩
  | 32 => ⟨S_, .f32⟩
  | 33 => ⟨S4x4352x8x128, .f32⟩
  | 34 => ⟨S4x4352x8x128, .f32⟩
  | 35 => ⟨S4x4352x8x128, .f32⟩
  | 36 => ⟨S4096x64, .f32⟩
  | 37 => ⟨S1x4096x1x64, .f32⟩
  | 38 => ⟨S4096x64, .f32⟩
  | 39 => ⟨S1x4096x1x64, .f32⟩
  | 40 => ⟨S4x4096x8x128, .f32⟩
  | 41 => ⟨S4x4096x8x64x2, .f32⟩
  | 42 => ⟨S4x4096x8x64x1, .f32⟩
  | 43 => ⟨S4x4096x8x64, .f32⟩
  | 44 => ⟨S4x4096x8x64x1, .f32⟩
  | 45 => ⟨S4x4096x8x64, .f32⟩
  | 46 => ⟨S4x4096x8x64, .f32⟩
  | 47 => ⟨S4x4096x8x64, .f32⟩
  | 48 => ⟨S4x4096x8x64, .f32⟩
  | 49 => ⟨S4x4096x8x64, .f32⟩
  | 50 => ⟨S4x4096x8x64, .f32⟩
  | 51 => ⟨S4x4096x8x64, .f32⟩
  | 52 => ⟨S4x4096x8x64, .f32⟩
  | 53 => ⟨S4x4096x8x64, .f32⟩
  | 54 => ⟨S4x4096x8x64, .f32⟩
  | 55 => ⟨S4x4096x8x64, .f32⟩
  | 56 => ⟨S4x4096x8x64x1, .f32⟩
  | 57 => ⟨S4x4096x8x64x1, .f32⟩
  | 58 => ⟨S4x4096x8x64x2, .f32⟩
  | 59 => ⟨S4x4096x8x128, .f32⟩
  | 60 => ⟨S4x256x8x128, .f32⟩
  | 61 => ⟨S4x4352x8x128, .f32⟩
  | 62 => ⟨S4x4352x8x128, .f32⟩
  | 63 => ⟨S4x4352x8x128, .f32⟩
  | 64 => ⟨S1x128, .f32⟩
  | 65 => ⟨S128, .f32⟩
  | 66 => ⟨S4x4352x8x128, .f32⟩
  | 67 => ⟨S_, .f32⟩
  | 68 => ⟨S4x4352x8, .f32⟩
  | 69 => ⟨S4x4352x8x1, .f32⟩
  | 70 => ⟨S_, .f32⟩
  | 71 => ⟨S4x4352x8x1, .f32⟩
  | 72 => ⟨S4x4352x8x1, .f32⟩
  | 73 => ⟨S_, .f32⟩
  | 74 => ⟨S4x4352x8x1, .f32⟩
  | 75 => ⟨S4x4352x8x1, .f32⟩
  | 76 => ⟨S4x4352x8x1, .f32⟩
  | 77 => ⟨S4x4352x8x128, .f32⟩
  | 78 => ⟨S4x4352x8x128, .f32⟩
  | 79 => ⟨S1x1x1x128, .f32⟩
  | 80 => ⟨S4x4352x8x128, .f32⟩
  | 81 => ⟨S4x4352x8x128, .f32⟩
  | 82 => ⟨S4096x64, .f32⟩
  | 83 => ⟨S1x4096x1x64, .f32⟩
  | 84 => ⟨S4096x64, .f32⟩
  | 85 => ⟨S1x4096x1x64, .f32⟩
  | 86 => ⟨S4x4096x8x128, .f32⟩
  | 87 => ⟨S4x4096x8x64x2, .f32⟩
  | 88 => ⟨S4x4096x8x64x1, .f32⟩
  | 89 => ⟨S4x4096x8x64, .f32⟩
  | 90 => ⟨S4x4096x8x64x1, .f32⟩
  | 91 => ⟨S4x4096x8x64, .f32⟩
  | 92 => ⟨S4x4096x8x64, .f32⟩
  | 93 => ⟨S4x4096x8x64, .f32⟩
  | 94 => ⟨S4x4096x8x64, .f32⟩
  | 95 => ⟨S4x4096x8x64, .f32⟩
  | 96 => ⟨S4x4096x8x64, .f32⟩
  | 97 => ⟨S4x4096x8x64, .f32⟩
  | 98 => ⟨S4x4096x8x64, .f32⟩
  | 99 => ⟨S4x4096x8x64, .f32⟩
  | 100 => ⟨S4x4096x8x64, .f32⟩
  | 101 => ⟨S4x4096x8x64, .f32⟩
  | 102 => ⟨S4x4096x8x64x1, .f32⟩
  | 103 => ⟨S4x4096x8x64x1, .f32⟩
  | 104 => ⟨S4x4096x8x64x2, .f32⟩
  | 105 => ⟨S4x4096x8x128, .f32⟩
  | 106 => ⟨S4x256x8x128, .f32⟩
  | 107 => ⟨S4x4352x8x128, .f32⟩
  | 108 => ⟨S_, .f32⟩
  | 109 => ⟨S4x4352x8x128, .f32⟩
  | 110 => ⟨S4x4352x8x128, .f32⟩
  | 111 => ⟨S4x4352x2x128, .f32⟩
  | 112 => ⟨S1x128, .f32⟩
  | 113 => ⟨S128, .f32⟩
  | 114 => ⟨S4x4352x2x128, .f32⟩
  | 115 => ⟨S_, .f32⟩
  | 116 => ⟨S4x4352x2, .f32⟩
  | 117 => ⟨S4x4352x2x1, .f32⟩
  | 118 => ⟨S_, .f32⟩
  | 119 => ⟨S4x4352x2x1, .f32⟩
  | 120 => ⟨S4x4352x2x1, .f32⟩
  | 121 => ⟨S_, .f32⟩
  | 122 => ⟨S4x4352x2x1, .f32⟩
  | 123 => ⟨S4x4352x2x1, .f32⟩
  | 124 => ⟨S4x4352x2x1, .f32⟩
  | 125 => ⟨S4x4352x2x128, .f32⟩
  | 126 => ⟨S4x4352x2x128, .f32⟩
  | 127 => ⟨S1x1x1x128, .f32⟩
  | _ => ⟨S4x4352x11776, .f32⟩

abbrev hbmTy0_1 (i : Nat) : BufTy := match i % 128 with
  | 0 => ⟨S4x4352x2x128, .f32⟩
  | 1 => ⟨S4x4352x2x128, .f32⟩
  | 2 => ⟨S4096x64, .f32⟩
  | 3 => ⟨S1x4096x1x64, .f32⟩
  | 4 => ⟨S4096x64, .f32⟩
  | 5 => ⟨S1x4096x1x64, .f32⟩
  | 6 => ⟨S4x4096x2x128, .f32⟩
  | 7 => ⟨S4x4096x2x64x2, .f32⟩
  | 8 => ⟨S4x4096x2x64x1, .f32⟩
  | 9 => ⟨S4x4096x2x64, .f32⟩
  | 10 => ⟨S4x4096x2x64x1, .f32⟩
  | 11 => ⟨S4x4096x2x64, .f32⟩
  | 12 => ⟨S4x4096x2x64, .f32⟩
  | 13 => ⟨S4x4096x2x64, .f32⟩
  | 14 => ⟨S4x4096x2x64, .f32⟩
  | 15 => ⟨S4x4096x2x64, .f32⟩
  | 16 => ⟨S4x4096x2x64, .f32⟩
  | 17 => ⟨S4x4096x2x64, .f32⟩
  | 18 => ⟨S4x4096x2x64, .f32⟩
  | 19 => ⟨S4x4096x2x64, .f32⟩
  | 20 => ⟨S4x4096x2x64, .f32⟩
  | 21 => ⟨S4x4096x2x64, .f32⟩
  | 22 => ⟨S4x4096x2x64x1, .f32⟩
  | 23 => ⟨S4x4096x2x64x1, .f32⟩
  | 24 => ⟨S4x4096x2x64x2, .f32⟩
  | 25 => ⟨S4x4096x2x128, .f32⟩
  | 26 => ⟨S4x256x2x128, .f32⟩
  | 27 => ⟨S4x4352x2x128, .f32⟩
  | 28 => ⟨S4x4352x2x128, .f32⟩
  | 29 => ⟨S4x4352x36x128, .f32⟩
  | 30 => ⟨S4x4352x4608, .f32⟩
  | 31 => ⟨S4x4352x4608, .bf16⟩
  | _ => ⟨S4x4352x11776, .f32⟩

abbrev hbmTy (i : Nat) : BufTy := match i / 128 with
  | 0 => hbmTy0_0 i
  | 1 => hbmTy0_1 i
  | _ => ⟨S4x4352x11776, .f32⟩

abbrev bufTy : (tb : Table) → Fin (tcTables nBuf tb) → BufTy
  | .hbm, ⟨i, _⟩ => hbmTy i
  | _, _ => ⟨S4x4352x11776, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_cst : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_cst_0 : Ref sig .tc := ⟨.hbm, 67, rfl⟩
abbrev main_v63 : Ref sig .tc := ⟨.hbm, 68, rfl⟩
abbrev main_v64 : Ref sig .tc := ⟨.hbm, 69, rfl⟩
abbrev main_cst_1 : Ref sig .tc := ⟨.hbm, 70, rfl⟩
abbrev main_v65 : Ref sig .tc := ⟨.hbm, 71, rfl⟩
abbrev main_v66 : Ref sig .tc := ⟨.hbm, 72, rfl⟩
abbrev main_cst_2 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_cst_3 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_cst_4 : Ref sig .tc := ⟨.hbm, 115, rfl⟩
abbrev main_v107 : Ref sig .tc := ⟨.hbm, 116, rfl⟩
abbrev main_v108 : Ref sig .tc := ⟨.hbm, 117, rfl⟩
abbrev main_cst_5 : Ref sig .tc := ⟨.hbm, 118, rfl⟩
abbrev main_v109 : Ref sig .tc := ⟨.hbm, 119, rfl⟩
abbrev main_v110 : Ref sig .tc := ⟨.hbm, 120, rfl⟩
abbrev main_cst_6 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩

abbrev nD : Nat := 1
abbrev τ : Topo := Topo.v7x

variable {F : FTy → Type} [FloatOps F]
-- ==== Proof.Softmax.lean ====
/- THE SOFTMAX AVERAGE over the extended reals, on real scores and real values: the average of the values weighted by
   two to the power of each score. The kernel subtracts a maximum before it raises two to the scores, takes the keys
   whole or in two chunks (each with a maximum of its own, merged by rescaling), and divides once at the end; the
   reference scales the scores by the logarithm of two, subtracts a maximum, raises e to them and divides each weight.
   Every one of these is the same average, whatever real number is subtracted. -/
module

public import Idealize.ShloMosaic.PureOps.Ideal
public import Idealize.ShloMosaic.PureOps.Ideal.Laws
public import Idealize.ShloMosaic.Lib.IdealHost

@[expose] public section

noncomputable section

namespace Cert.Softmax

open Idealize.ShloMosaic

/-- The extended real is a real number. -/
def IsReal (x : EReal) : Prop := ∃ r : ℝ, x = (r : EReal)

theorem isReal_coe (r : ℝ) : IsReal (r : EReal) := ⟨r, rfl⟩

theorem isReal_zero : IsReal (0 : EReal) := ⟨0, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sup {x y : EReal} (hx : IsReal x) (hy : IsReal y) : IsReal (max x y) := by
  rcases max_choice x y with h | h <;> rw [h] <;> assumption

theorem IsReal.max_bot {x y : EReal} (hx : x = ⊥) (hy : IsReal y) : IsReal (max x y) := by
  rw [hx, max_eq_right bot_le]; exact hy

theorem IsReal.exp {x : EReal} (hx : IsReal x) : IsReal (Ideal.exp x) := by
  obtain ⟨a, rfl⟩ := hx
  exact ⟨_, Ideal.exp_coe a⟩

/-- The sum of real numbers, taken in the extended reals, is their sum. -/
theorem coe_sum {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

theorem IsReal.sum {ι : Type} (s : Finset ι) (f : ι → EReal) (h : ∀ k, IsReal (f k)) : IsReal (∑ k ∈ s, f k) := by
  choose g hg using h
  rw [Finset.sum_congr rfl fun k _ => hg k, coe_sum]
  exact isReal_coe _

/-- A family of real numbers, named. -/
theorem exists_real {ι : Type} (f : ι → EReal) (h : ∀ k, IsReal (f k)) : ∃ g : ι → ℝ, f = fun k => (g k : EReal) := by
  choose g hg using h
  exact ⟨g, funext hg⟩

/-- The largest of finitely many real numbers, at least one of them, is a real number. -/
theorem isReal_fold_max {n : ℕ} (hn : 0 < n) (f : Fin n → EReal) (h : ∀ k, IsReal (f k)) (b : EReal) (hb : b = ⊥) :
    IsReal (Finset.univ.fold Max.max b f) := by
  subst hb
  have key : ∀ s : Finset (Fin n), s.Nonempty → IsReal (s.fold Max.max ⊥ f) := by
    intro s
    induction s using Finset.induction_on with
    | empty => intro h0; exact absurd h0 (by simp)
    | insert a s ha ih =>
      intro _
      rw [Finset.fold_insert ha]
      rcases s.eq_empty_or_nonempty with rfl | hs
      · rw [Finset.fold_empty, max_eq_left bot_le]; exact h a
      · exact (h a).sup (ih hs)
  exact key Finset.univ ⟨⟨0, hn⟩, Finset.mem_univ _⟩

/-- The average of the values `V` weighted by two to the power of the scores `S`. -/
def avg {n : ℕ} (S V : Fin n → EReal) : EReal :=
  Ideal.div (∑ k, Ideal.exp2 (S k) * V k) (∑ k, Ideal.exp2 (S k))

/-- The same average of real numbers. -/
def avgR {n : ℕ} (s v : Fin n → ℝ) : ℝ := (∑ k, (2 : ℝ) ^ s k * v k) / ∑ k, (2 : ℝ) ^ s k

theorem exp2_real (r : ℝ) : Ideal.exp2 (r : EReal) = (((2 : ℝ) ^ r : ℝ) : EReal) := Ideal.exp2_coe r

/-- A quotient of real numbers whose divisor is not zero. -/
theorem div_real (a b : ℝ) (hb : b ≠ 0) : Ideal.div (a : EReal) (b : EReal) = ((a / b : ℝ) : EReal) := by
  rw [Ideal.div_coe hb, ← EReal.coe_mul, mul_one_div]

theorem weights_pos {n : ℕ} (hn : 0 < n) (s : Fin n → ℝ) : 0 < ∑ k, (2 : ℝ) ^ s k :=
  Finset.sum_pos (fun k _ => Real.rpow_pos_of_pos two_pos _) ⟨⟨0, hn⟩, Finset.mem_univ _⟩

/-- The average of real numbers is real. -/
theorem avg_coe {n : ℕ} (hn : 0 < n) (s v : Fin n → ℝ) :
    avg (fun k => (s k : EReal)) (fun k => (v k : EReal)) = (avgR s v : EReal) := by
  unfold avg avgR
  simp only [exp2_real, ← EReal.coe_mul, coe_sum]
  exact div_real _ _ (weights_pos hn s).ne'

theorem isReal_avg {n : ℕ} (hn : 0 < n) (S V : Fin n → EReal) (hS : ∀ k, IsReal (S k)) (hV : ∀ k, IsReal (V k)) : IsReal (avg S V) := by
  obtain ⟨s, rfl⟩ := exists_real S hS
  obtain ⟨v, rfl⟩ := exists_real V hV
  exact ⟨_, avg_coe hn s v⟩

/-- THE KEYS WHOLE: a real number subtracted from every score first changes nothing. -/
theorem avg_shift {n : ℕ} (hn : 0 < n) (S V : Fin n → EReal) (hS : ∀ k, IsReal (S k)) (hV : ∀ k, IsReal (V k)) (M : EReal) (hM : IsReal M) :
    Ideal.div (∑ k, Ideal.exp2 (S k - M) * V k) (∑ k, Ideal.exp2 (S k - M)) = avg S V := by
  obtain ⟨s, rfl⟩ := exists_real S hS
  obtain ⟨v, rfl⟩ := exists_real V hV
  obtain ⟨m, rfl⟩ := hM
  rw [avg_coe hn]
  simp only [← EReal.coe_sub, exp2_real, ← EReal.coe_mul, coe_sum]
  rw [div_real _ _ (weights_pos hn fun k => s k - m).ne', EReal.coe_eq_coe_iff]
  have hm : (2 : ℝ) ^ m ≠ 0 := (Real.rpow_pos_of_pos two_pos _).ne'
  unfold avgR
  have h1 : ∑ k, (2 : ℝ) ^ (s k - m) * v k = (∑ k, (2 : ℝ) ^ s k * v k) / (2 : ℝ) ^ m := by
    rw [Finset.sum_div]
    refine Finset.sum_congr rfl fun k _ => ?_
    rw [Real.rpow_sub two_pos]; ring
  have h2 : ∑ k, (2 : ℝ) ^ (s k - m) = (∑ k, (2 : ℝ) ^ s k) / (2 : ℝ) ^ m := by
    rw [Finset.sum_div]
    exact Finset.sum_congr rfl fun k _ => Real.rpow_sub two_pos _ _
  rw [h1, h2, div_div_div_cancel_right₀ hm]

/-- THE KEYS IN TWO CHUNKS, each with its own maximum, merged by rescaling both to a third. -/
theorem avg_chunks {p q n : ℕ} (hp : 0 < p) (hn : n = p + q) (S V : Fin n → EReal) (hS : ∀ k, IsReal (S k)) (hV : ∀ k, IsReal (V k))
    (M₁ M₂ M : EReal) (h₁ : IsReal M₁) (h₂ : IsReal M₂) (hM : IsReal M) :
    Ideal.div
      ((∑ k : Fin p, Ideal.exp2 (S ⟨k.val, by omega⟩ - M₁) * V ⟨k.val, by omega⟩) * Ideal.exp2 (M₁ - M)
        + (∑ k : Fin q, Ideal.exp2 (S ⟨p + k.val, by omega⟩ - M₂) * V ⟨p + k.val, by omega⟩) * Ideal.exp2 (M₂ - M))
      ((∑ k : Fin p, Ideal.exp2 (S ⟨k.val, by omega⟩ - M₁)) * Ideal.exp2 (M₁ - M)
        + (∑ k : Fin q, Ideal.exp2 (S ⟨p + k.val, by omega⟩ - M₂)) * Ideal.exp2 (M₂ - M)) = avg S V := by
  subst hn
  obtain ⟨s, rfl⟩ := exists_real S hS
  obtain ⟨v, rfl⟩ := exists_real V hV
  obtain ⟨m₁, rfl⟩ := h₁
  obtain ⟨m₂, rfl⟩ := h₂
  rw [← avg_shift (by omega : 0 < p + q) _ _ (fun k => isReal_coe _) (fun k => isReal_coe _) M hM]
  obtain ⟨m, rfl⟩ := hM
  simp only [← EReal.coe_sub, exp2_real, ← EReal.coe_mul, coe_sum, ← EReal.coe_add]
  have step : ∀ a b : ℝ, (2 : ℝ) ^ (a - b) * (2 : ℝ) ^ (b - m) = (2 : ℝ) ^ (a - m) := fun a b => by
    rw [← Real.rpow_add two_pos]; congr 1; ring
  congr 2
  · rw [Fin.sum_univ_add, Finset.sum_mul, Finset.sum_mul]
    refine congrArg₂ (· + ·) (Finset.sum_congr rfl fun k _ => ?_) (Finset.sum_congr rfl fun k _ => ?_)
    · rw [mul_right_comm, step]; rfl
    · rw [mul_right_comm, step]; rfl
  · rw [Fin.sum_univ_add, Finset.sum_mul, Finset.sum_mul]
    refine congrArg₂ (· + ·) (Finset.sum_congr rfl fun k _ => ?_) (Finset.sum_congr rfl fun k _ => ?_)
    · rw [step]; rfl
    · rw [step]; rfl

/-- One weight of the reference's softmax: e to a scaled and shifted score is two to the score, up to the shift. -/
theorem weight_e (r m : ℝ) : Real.exp (r * Real.log 2 - m) = (2 : ℝ) ^ r / Real.exp m := by
  rw [Real.exp_sub, Real.rpow_def_of_pos two_pos, mul_comm]

/-- THE REFERENCE'S WEIGHTS: real numbers that do not depend on what is subtracted. -/
theorem weight_ref {n : ℕ} (hn : 0 < n) (s : Fin n → ℝ) (M : EReal) (hM : IsReal M) (k : Fin n) :
    Ideal.div (Ideal.exp ((s k : EReal) * (Real.log 2 : ℝ) - M)) (∑ j, Ideal.exp ((s j : EReal) * (Real.log 2 : ℝ) - M))
      = (((2 : ℝ) ^ s k / ∑ j, (2 : ℝ) ^ s j : ℝ) : EReal) := by
  obtain ⟨m, rfl⟩ := hM
  simp only [← EReal.coe_mul, ← EReal.coe_sub, Ideal.exp_coe, coe_sum, weight_e]
  rw [← Finset.sum_div, div_real _ _ (div_pos (weights_pos hn s) (Real.exp_pos m)).ne', div_div_div_cancel_right₀ (Real.exp_pos m).ne']

/-- THE REFERENCE'S AVERAGE: the values times the weights, added up. -/
theorem avg_ref {n : ℕ} (hn : 0 < n) (S V : Fin n → EReal) (hS : ∀ k, IsReal (S k)) (hV : ∀ k, IsReal (V k)) (M : EReal) (hM : IsReal M) :
    ∑ k, V k * Ideal.div (Ideal.exp (S k * (Real.log 2 : ℝ) - M)) (∑ j, Ideal.exp (S j * (Real.log 2 : ℝ) - M)) = avg S V := by
  obtain ⟨s, rfl⟩ := exists_real S hS
  obtain ⟨v, rfl⟩ := exists_real V hV
  simp only [weight_ref hn s M hM]
  rw [avg_coe hn]
  simp only [← EReal.coe_mul, coe_sum]
  rw [EReal.coe_eq_coe_iff, avgR, Finset.sum_div]
  exact Finset.sum_congr rfl fun k _ => by ring

/-- THE DIFFERENCE OF TWO AVERAGES of the same values: the reference subtracts the weights, `lam` times the second's. -/
theorem avg_diff_ref {n : ℕ} (hn : 0 < n) (S T V : Fin n → EReal) (hS : ∀ k, IsReal (S k)) (hT : ∀ k, IsReal (T k)) (hV : ∀ k, IsReal (V k))
    (L M N : EReal) (hL : IsReal L) (hM : IsReal M) (hN : IsReal N) :
    ∑ k, V k * (Ideal.div (Ideal.exp (S k * (Real.log 2 : ℝ) - M)) (∑ j, Ideal.exp (S j * (Real.log 2 : ℝ) - M))
        - L * Ideal.div (Ideal.exp (T k * (Real.log 2 : ℝ) - N)) (∑ j, Ideal.exp (T j * (Real.log 2 : ℝ) - N)))
      = avg S V - L * avg T V := by
  obtain ⟨s, rfl⟩ := exists_real S hS
  obtain ⟨u, rfl⟩ := exists_real T hT
  obtain ⟨v, rfl⟩ := exists_real V hV
  obtain ⟨l, rfl⟩ := hL
  simp only [weight_ref hn s M hM, weight_ref hn u N hN]
  rw [avg_coe hn, avg_coe hn]
  simp only [← EReal.coe_mul, ← EReal.coe_sub, coe_sum]
  rw [EReal.coe_eq_coe_iff, avgR, avgR, Finset.sum_div, Finset.sum_div, Finset.mul_sum, ← Finset.sum_sub_distrib]
  exact Finset.sum_congr rfl fun k _ => by ring

/-- The bit pattern of minus infinity. -/
theorem ofBits_neg_inf : Ideal.ofBits .f32 0xFF800000#32 = ⊥ := by simp [Ideal.ofBits, Ideal.ieee]

/-- The bit pattern of plus infinity. -/
theorem ofBits_inf : Ideal.ofBits .f32 0x7F800000#32 = ⊤ := by simp [Ideal.ofBits, Ideal.ieee]

/-- What the preconditions test: a number whose absolute value is below infinity is real. -/
theorem isReal_of_abs {x : EReal} (h : BitVec.ofBool (decide (max x (-x) < Ideal.ofBits .f32 0x7F800000#32)) = 1#1) : IsReal x := by
  have h1 : max x (-x) < ⊤ := by
    rw [ofBits_inf] at h
    by_contra hn
    rw [decide_eq_false hn] at h
    exact absurd h (by decide)
  rw [max_lt_iff] at h1
  induction x using EReal.rec with
  | bot => exact absurd h1.2 (by simp)
  | coe r => exact isReal_coe r
  | top => exact absurd h1.1 (by simp)

/-- The logarithm the reference scales the scores by. -/
theorem log_two : Ideal.log (Ideal.ofBits .f32 0x40000000#32) = ((Real.log 2 : ℝ) : EReal) := by
  have h : Ideal.ofBits .f32 0x40000000#32 = ((2 : ℝ) : EReal) := by
    simp [Ideal.ofBits, Ideal.ieee, -EReal.coe_mul]; norm_num
  rw [h, Ideal.log_coe, if_neg (by norm_num)]

end Cert.Softmax

end
-- ==== Proof.MaxReal.lean ====
/- THE LARGEST SCORE of the reference is a real number: the maximum over the last of five axes, of real entries, starting
   from minus infinity. Only this is needed of it, since a softmax does not depend on what is subtracted. -/
module

public import proofs.«01_k».proof.Proof.Softmax
public import Idealize.ShloMosaic.Lib.Pointwise

@[expose] public section

noncomputable section

namespace Cert.Softmax

open Idealize.ShloMosaic

/-- The maximum over the last axis, at any sizes. -/
theorem isReal_reduce_max {n0 n1 n2 n3 n4 : ℕ} {t u : Shape} (hn : 0 < n4) (x : FVec Ideal ⟨5, ![n0, n1, n2, n3, n4]⟩ .f32)
    (init : FVec Ideal u .f32) (h : (⟨5, ![n0, n1, n2, n3, n4]⟩ : Shape).ReducesTo [4] t) (hu : 0 < u.numel)
    (hx : ∀ i, IsReal (x i)) (hi : ∀ i, init i = (⊥ : EReal)) (j : t.Idx) :
    IsReal (Host.reduce (FloatOps.maximumf (F := Ideal) (φ := .f32)) x init h hu j) := by
  rw [Host.reduce_eq_fold, Shape.ReducesTo.fold_fiber_r5_a4]
  exact isReal_fold_max hn _ (fun k => hx _) _ (hi _)

end Cert.Softmax

end
-- ==== Proof.DaRef.lean ====
/- THE DIFFERENTIAL ATTENTION's reference, read entry by entry: each head averages the same values twice, by the scores of
   its two query and key halves, and subtracts lambda times the second average from the first; the differences of one
   token and head are normalised by their root mean square and scaled. -/
module

public import proofs.«01_k».proof.Proof.Gen.DaRefIdeal.Read
public import proofs.«01_k».proof.Proof.MaxReal
public import Idealize.ShloMosaic.Lib.Pipeline.ValueKit
public import Idealize.ShloMosaic.Lib.Pointwise

@[expose] public section

set_option maxRecDepth 16384

noncomputable section

namespace Cert.DaRefIdeal.Read

open Cert.DaRefIdeal Idealize.ShloMosaic Idealize.ShloMosaic.TcCoe
open Cert.Softmax

/-- The score of token `t`'s query with token `j`'s key, of half `u` of head `h`. -/
def score (X : FVec Ideal S4x4352x4608 .bf16) (b h : Fin 4) (u : Fin 2) (t j : Fin 4352) : EReal :=
  ∑ d : Fin 128, X (ix3 b t (⟨(h.val * 2 + u.val) * 128 + d.val, by omega⟩ : Fin 4608))
    * X (ix3 b j (⟨1024 + (h.val * 2 + u.val) * 128 + d.val, by omega⟩ : Fin 4608))

/-- Token `j`'s value of head `h`. -/
def value (X : FVec Ideal S4x4352x4608 .bf16) (b h : Fin 4) (e : Fin 256) (j : Fin 4352) : EReal :=
  X (ix3 b j (⟨2048 + h.val * 256 + e.val, by omega⟩ : Fin 4608))

/-- The columns the attention reads are real numbers. -/
abbrev Fine (X : FVec Ideal S4x4352x4608 .bf16) : Prop := ∀ (b : Fin 4) (t : Fin 4352) (e : Fin 4608), e.val < 3072 → IsReal (X (ix3 b t e))

theorem isReal_score (X : FVec Ideal S4x4352x4608 .bf16) (hX : Fine X) (b h : Fin 4) (u : Fin 2) (t j : Fin 4352) : IsReal (score X b h u t j) :=
  IsReal.sum _ _ fun d => (hX _ _ _ (by show _ * 128 + _ < 3072; omega)).mul (hX _ _ _ (by show 1024 + _ + _ < 3072; omega))

theorem isReal_value (X : FVec Ideal S4x4352x4608 .bf16) (hX : Fine X) (b h : Fin 4) (e : Fin 256) (j : Fin 4352) : IsReal (value X b h e j) :=
  hX _ _ _ (by show 2048 + _ + _ < 3072; omega)

/-- Lambda, as the reference computes it. -/
abbrev lam (P : FVec Ideal S4x128 .f32) (I : FVec Ideal S1x1 .f32) : EReal := val_main_v16 (F := Ideal) P I ix0

/-- Lambda is a real number if what it is computed from is. -/
theorem isReal_lam (P : FVec Ideal S4x128 .f32) (I : FVec Ideal S1x1 .f32) (hP : ∀ i, IsReal (P i)) (hI : ∀ i, IsReal (I i)) : IsReal (lam P I) := by
  unfold lam
  pointwise [val_main_v16, val_main_v15, val_main_v14, val_main_v13, val_main_v12, val_main_cst_0, val_main_v11, val_main_v10, val_main_v9, val_main_v8, val_main_v7, val_main_v6, val_main_v5, val_main_cst, val_main_v4, val_main_v3, val_main_v2, val_main_v1, val_main_v0]
  exact (((IsReal.sum _ _ fun k => (hP _).mul (hP _)).exp).sub ((IsReal.sum _ _ fun k => (hP _).mul (hP _)).exp)).add (hI _)

/-- The differences normalised by their root mean square, times a gain. -/
def normed (D g : Fin 256 → EReal) (e : Fin 256) : EReal :=
  D e * Ideal.rsqrt (Ideal.div (∑ x : Fin 256, D x * D x) (Ideal.ofBits .f32 0x43800000#32) + Ideal.ofBits .f32 0x358637BD#32) * g e

/-- The scores of the latent tokens, as the reference scales them. -/
theorem scores_lat (X : FVec Ideal S4x4352x4608 .bf16) (b h : Fin 4) (u : Fin 2) (t : Fin 4096) (j : Fin 4352) :
    val_main_v28 (F := Ideal) X (ix5 b h u t j) = score X b h u (⟨t.val, by omega⟩ : Fin 4352) j * ((Real.log 2 : ℝ) : EReal) := by
  rw [← log_two]
  pointwise [val_main_v28, val_main_v27, val_main_v26, val_main_cst_1, val_main_v25, val_main_v24, val_main_v21, val_main_v20, val_main_v19, val_main_v18, val_main_v17, score]
  refine congrArg (· * _) (Finset.sum_congr rfl fun d _ => ?_)
  refine congrArg₂ (· * ·) ?_ ?_
  · blk_ext []
  · blk_ext []

/-- What the reference subtracts from the latent tokens' scores is a real number. -/
theorem isReal_max_lat (X : FVec Ideal S4x4352x4608 .bf16) (hX : Fine X) (b h : Fin 4) (u : Fin 2) (t : Fin 4096) :
    IsReal (val_main_v31 (F := Ideal) X (ix4 b h u t)) := by
  rw [val_main_v31_apply]
  refine IsReal.max_bot ?_ ?_
  · rw [val_main_v30_apply]; exact ofBits_neg_inf
  · unfold val_main_v29
    refine isReal_reduce_max (by omega) _ _ _ _ (fun i => ?_) (fun i => ofBits_neg_inf) _
    idx_vars i
    rw [scores_lat]
    exact (isReal_score X hX _ _ _ _ _).mul (isReal_coe _)

/-- The weights of the latent tokens. -/
theorem weights_lat (X : FVec Ideal S4x4352x4608 .bf16) (b h : Fin 4) (u : Fin 2) (t : Fin 4096) (j : Fin 4352) :
    val_main_v39 (F := Ideal) X (ix5 b h u t j)
      = Ideal.div (Ideal.exp (val_main_v28 (F := Ideal) X (ix5 b h u t j) - val_main_v31 (F := Ideal) X (ix4 b h u t)))
        (∑ x : Fin 4352, Ideal.exp (val_main_v28 (F := Ideal) X (ix5 b h u t x) - val_main_v31 (F := Ideal) X (ix4 b h u t))) := by
  pointwise [val_main_v39, val_main_v38, val_main_v37, val_main_v36, val_main_cst_4, val_main_v35, val_main_v34, val_main_v33, val_main_v32]

theorem half0_lat (X : FVec Ideal S4x4352x4608 .bf16) (b h : Fin 4) (t : Fin 4096) (j : Fin 4352) :
    val_main_v41 (F := Ideal) X (ix4 b h t j) = val_main_v39 (F := Ideal) X (ix5 b h (0 : Fin 2) t j) := by
  rw [val_main_v41_apply, val_main_v40_apply]
  refine congrArg _ ?_
  blk_ext []

theorem half1_lat (X : FVec Ideal S4x4352x4608 .bf16) (b h : Fin 4) (t : Fin 4096) (j : Fin 4352) :
    val_main_v43 (F := Ideal) X (ix4 b h t j) = val_main_v39 (F := Ideal) X (ix5 b h (1 : Fin 2) t j) := by
  rw [val_main_v43_apply, val_main_v42_apply]
  refine congrArg _ ?_
  blk_ext []

theorem lam_lat (P : FVec Ideal S4x128 .f32) (I : FVec Ideal S1x1 .f32) (b h : Fin 4) (t : Fin 4096) (j : Fin 4352) :
    val_main_v44 (F := Ideal) P I (ix4 b h t j) = lam P I := by
  rw [val_main_v44_apply]
  exact congrArg _ (Subsingleton.elim _ _)

/-- The difference of the two halves' weights. -/
theorem mixed_lat (X : FVec Ideal S4x4352x4608 .bf16) (P : FVec Ideal S4x128 .f32) (I : FVec Ideal S1x1 .f32) (b h : Fin 4) (t : Fin 4096) (j : Fin 4352) :
    val_main_v46 (F := Ideal) X P I (ix4 b h t j)
      = val_main_v39 (F := Ideal) X (ix5 b h (0 : Fin 2) t j) - lam P I * val_main_v39 (F := Ideal) X (ix5 b h (1 : Fin 2) t j) := by
  rw [val_main_v46_apply, val_main_v45_apply, half0_lat, half1_lat, lam_lat]
  rfl

/-- The differences of the latent tokens, as the reference adds them up. -/
theorem sums_lat (X : FVec Ideal S4x4352x4608 .bf16) (P : FVec Ideal S4x128 .f32) (I : FVec Ideal S1x1 .f32) (b h : Fin 4) (t : Fin 4096) (e : Fin 256) :
    val_main_v48 (F := Ideal) X P I (ix4 b t h e)
      = ∑ j : Fin 4352, value X b h e j * val_main_v46 (F := Ideal) X P I (ix4 b h t j) := by
  pointwise [val_main_v48, val_main_v47, val_main_v23, val_main_v22, val_main_v17, value]
  refine Finset.sum_congr rfl fun j _ => ?_
  refine congrArg₂ (· * ·) ?_ ?_
  · blk_ext []
  · blk_ext []

/-- The differences of the latent tokens' averages. -/
theorem diff_lat (X : FVec Ideal S4x4352x4608 .bf16) (hX : Fine X) (P : FVec Ideal S4x128 .f32) (I : FVec Ideal S1x1 .f32) (hL : IsReal (lam P I))
    (b h : Fin 4) (t : Fin 4096) (e : Fin 256) :
    val_main_v48 (F := Ideal) X P I (ix4 b t h e)
      = avg (fun j : Fin 4352 => score X b h 0 (⟨t.val, by omega⟩ : Fin 4352) j) (fun j : Fin 4352 => value X b h e j)
        - lam P I * avg (fun j : Fin 4352 => score X b h 1 (⟨t.val, by omega⟩ : Fin 4352) j) (fun j : Fin 4352 => value X b h e j) := by
  rw [sums_lat]
  simp only [mixed_lat, weights_lat, scores_lat]
  exact avg_diff_ref (by omega) _ _ _ (fun j => isReal_score X hX _ _ _ _ _) (fun j => isReal_score X hX _ _ _ _ _)
    (fun j => isReal_value X hX _ _ _ _) _ _ _ hL (isReal_max_lat X hX _ _ _ _) (isReal_max_lat X hX _ _ _ _)

/-- The scores of the context tokens, as the reference scales them. -/
theorem scores_ctx (X : FVec Ideal S4x4352x4608 .bf16) (b h : Fin 4) (u : Fin 2) (t : Fin 256) (j : Fin 256) :
    val_main_v55 (F := Ideal) X (ix5 b h u t j) = score X b h u (⟨4096 + t.val, by omega⟩ : Fin 4352) (⟨4096 + j.val, by omega⟩ : Fin 4352) * ((Real.log 2 : ℝ) : EReal) := by
  rw [← log_two]
  pointwise [val_main_v55, val_main_v54, val_main_v53, val_main_cst_5, val_main_v52, val_main_v49, val_main_v50, val_main_v21, val_main_v20, val_main_v19, val_main_v18, val_main_v17, score]
  refine congrArg (· * _) (Finset.sum_congr rfl fun d _ => ?_)
  refine congrArg₂ (· * ·) ?_ ?_
  · blk_ext []
  · blk_ext []

/-- What the reference subtracts from the context tokens' scores is a real number. -/
theorem isReal_max_ctx (X : FVec Ideal S4x4352x4608 .bf16) (hX : Fine X) (b h : Fin 4) (u : Fin 2) (t : Fin 256) :
    IsReal (val_main_v58 (F := Ideal) X (ix4 b h u t)) := by
  rw [val_main_v58_apply]
  refine IsReal.max_bot ?_ ?_
  · rw [val_main_v57_apply]; exact ofBits_neg_inf
  · unfold val_main_v56
    refine isReal_reduce_max (by omega) _ _ _ _ (fun i => ?_) (fun i => ofBits_neg_inf) _
    idx_vars i
    rw [scores_ctx]
    exact (isReal_score X hX _ _ _ _ _).mul (isReal_coe _)

/-- The weights of the context tokens. -/
theorem weights_ctx (X : FVec Ideal S4x4352x4608 .bf16) (b h : Fin 4) (u : Fin 2) (t : Fin 256) (j : Fin 256) :
    val_main_v66 (F := Ideal) X (ix5 b h u t j)
      = Ideal.div (Ideal.exp (val_main_v55 (F := Ideal) X (ix5 b h u t j) - val_main_v58 (F := Ideal) X (ix4 b h u t)))
        (∑ x : Fin 256, Ideal.exp (val_main_v55 (F := Ideal) X (ix5 b h u t x) - val_main_v58 (F := Ideal) X (ix4 b h u t))) := by
  pointwise [val_main_v66, val_main_v65, val_main_v64, val_main_v63, val_main_cst_8, val_main_v62, val_main_v61, val_main_v60, val_main_v59]

theorem half0_ctx (X : FVec Ideal S4x4352x4608 .bf16) (b h : Fin 4) (t : Fin 256) (j : Fin 256) :
    val_main_v68 (F := Ideal) X (ix4 b h t j) = val_main_v66 (F := Ideal) X (ix5 b h (0 : Fin 2) t j) := by
  rw [val_main_v68_apply, val_main_v67_apply]
  refine congrArg _ ?_
  blk_ext []

theorem half1_ctx (X : FVec Ideal S4x4352x4608 .bf16) (b h : Fin 4) (t : Fin 256) (j : Fin 256) :
    val_main_v70 (F := Ideal) X (ix4 b h t j) = val_main_v66 (F := Ideal) X (ix5 b h (1 : Fin 2) t j) := by
  rw [val_main_v70_apply, val_main_v69_apply]
  refine congrArg _ ?_
  blk_ext []

theorem lam_ctx (P : FVec Ideal S4x128 .f32) (I : FVec Ideal S1x1 .f32) (b h : Fin 4) (t : Fin 256) (j : Fin 256) :
    val_main_v71 (F := Ideal) P I (ix4 b h t j) = lam P I := by
  rw [val_main_v71_apply]
  exact congrArg _ (Subsingleton.elim _ _)

/-- The difference of the two halves' weights. -/
theorem mixed_ctx (X : FVec Ideal S4x4352x4608 .bf16) (P : FVec Ideal S4x128 .f32) (I : FVec Ideal S1x1 .f32) (b h : Fin 4) (t : Fin 256) (j : Fin 256) :
    val_main_v73 (F := Ideal) X P I (ix4 b h t j)
      = val_main_v66 (F := Ideal) X (ix5 b h (0 : Fin 2) t j) - lam P I * val_main_v66 (F := Ideal) X (ix5 b h (1 : Fin 2) t j) := by
  rw [val_main_v73_apply, val_main_v72_apply, half0_ctx, half1_ctx, lam_ctx]
  rfl

/-- The differences of the context tokens, as the reference adds them up. -/
theorem sums_ctx (X : FVec Ideal S4x4352x4608 .bf16) (P : FVec Ideal S4x128 .f32) (I : FVec Ideal S1x1 .f32) (b h : Fin 4) (t : Fin 256) (e : Fin 256) :
    val_main_v75 (F := Ideal) X P I (ix4 b t h e)
      = ∑ j : Fin 256, value X b h e (⟨4096 + j.val, by omega⟩ : Fin 4352) * val_main_v73 (F := Ideal) X P I (ix4 b h t j) := by
  pointwise [val_main_v75, val_main_v74, val_main_v51, val_main_v23, val_main_v22, val_main_v17, value]
  refine Finset.sum_congr rfl fun j _ => ?_
  refine congrArg₂ (· * ·) ?_ ?_
  · blk_ext []
  · blk_ext []

/-- The differences of the context tokens' averages. -/
theorem diff_ctx (X : FVec Ideal S4x4352x4608 .bf16) (hX : Fine X) (P : FVec Ideal S4x128 .f32) (I : FVec Ideal S1x1 .f32) (hL : IsReal (lam P I))
    (b h : Fin 4) (t : Fin 256) (e : Fin 256) :
    val_main_v75 (F := Ideal) X P I (ix4 b t h e)
      = avg (fun j : Fin 256 => score X b h 0 (⟨4096 + t.val, by omega⟩ : Fin 4352) (⟨4096 + j.val, by omega⟩ : Fin 4352)) (fun j : Fin 256 => value X b h e (⟨4096 + j.val, by omega⟩ : Fin 4352))
        - lam P I * avg (fun j : Fin 256 => score X b h 1 (⟨4096 + t.val, by omega⟩ : Fin 4352) (⟨4096 + j.val, by omega⟩ : Fin 4352)) (fun j : Fin 256 => value X b h e (⟨4096 + j.val, by omega⟩ : Fin 4352)) := by
  rw [sums_ctx]
  simp only [mixed_ctx, weights_ctx, scores_ctx]
  exact avg_diff_ref (by omega) _ _ _ (fun j => isReal_score X hX _ _ _ _ _) (fun j => isReal_score X hX _ _ _ _ _)
    (fun j => isReal_value X hX _ _ _ _) _ _ _ hL (isReal_max_ctx X hX _ _ _ _) (isReal_max_ctx X hX _ _ _ _)

/-- The result, from the differences of its token and head. -/
theorem result (X : FVec Ideal S4x4352x4608 .bf16) (P : FVec Ideal S4x128 .f32) (G : FVec Ideal S256 .f32) (I : FVec Ideal S1x1 .f32)
    (b h : Fin 4) (t : Fin 4352) (e : Fin 256) :
    val_main_v95 (F := Ideal) X P G I (ix3 b t (⟨h.val * 256 + e.val, by omega⟩ : Fin 1024))
      = normed (fun x => val_main_v76 (F := Ideal) X P I (ix4 b t h x))
        (fun x => G (ix1 x) * (1 - I (ix2 (0 : Fin 1) (0 : Fin 1)))) e := by
  pointwise [val_main_v95, val_main_v94, val_main_v93, val_main_v92, val_main_v91, val_main_cst_12, val_main_v90, val_main_v89, val_main_v88, val_main_v87, val_main_v86, val_main_v85, val_main_v84, val_main_v83, val_main_v82, val_main_cst_11, val_main_v81, val_main_v80, val_main_cst_10, val_main_v79, val_main_v78, val_main_cst_9, val_main_v77, normed]
  exact mul_assoc _ _ _

/-- The differences of a latent token. -/
theorem cat_lat (X : FVec Ideal S4x4352x4608 .bf16) (hX : Fine X) (P : FVec Ideal S4x128 .f32) (I : FVec Ideal S1x1 .f32) (hL : IsReal (lam P I))
    (b h : Fin 4) (t : Fin 4352) (ht : t.val < 4096) (e : Fin 256) :
    val_main_v76 (F := Ideal) X P I (ix4 b t h e)
      = avg (fun j : Fin 4352 => score X b h 0 t j) (fun j : Fin 4352 => value X b h e j)
        - lam P I * avg (fun j : Fin 4352 => score X b h 1 t j) (fun j : Fin 4352 => value X b h e j) := by
  pointwise [val_main_v76]
  rw [dif_pos ht, diff_lat X hX P I hL]

/-- The differences of a context token. -/
theorem cat_ctx (X : FVec Ideal S4x4352x4608 .bf16) (hX : Fine X) (P : FVec Ideal S4x128 .f32) (I : FVec Ideal S1x1 .f32) (hL : IsReal (lam P I))
    (b h : Fin 4) (t : Fin 4352) (ht : ¬ t.val < 4096) (e : Fin 256) :
    val_main_v76 (F := Ideal) X P I (ix4 b t h e)
      = avg (fun j : Fin 256 => score X b h 0 t (⟨4096 + j.val, by omega⟩ : Fin 4352)) (fun j : Fin 256 => value X b h e (⟨4096 + j.val, by omega⟩ : Fin 4352))
        - lam P I * avg (fun j : Fin 256 => score X b h 1 t (⟨4096 + j.val, by omega⟩ : Fin 4352)) (fun j : Fin 256 => value X b h e (⟨4096 + j.val, by omega⟩ : Fin 4352)) := by
  pointwise [val_main_v76]
  rw [dif_neg ht, diff_ctx X hX P I hL]
  have e1 : (⟨4096 + (t.val - 4096), by omega⟩ : Fin 4352) = t := Fin.ext (by show 4096 + (t.val - 4096) = t.val; omega)
  rw [e1]

end Cert.DaRefIdeal.Read

end
-- ==== Proof.DaPay.lean ====
/- THE DIFFERENTIAL ATTENTION's arithmetic: at every grid point the kernel works out, for 256 tokens of one head, the two averages
   of the head's values (over the latent tokens in two runs of 2176 keys, merged by their maxima), their difference and its
   normalisation; all are the reference's (DaRef.lean), because a softmax does not depend on what is subtracted before it is
   taken (Softmax.lean). -/
module

public import proofs.«01_k».proof.Proof.Gen.DaIdeal.Value
public import proofs.«01_k».proof.Proof.DaRef

@[expose] public section

set_option maxRecDepth 16384

noncomputable section

namespace Cert.DaIdeal.Value

open Cert.DaIdeal Cert.DaIdeal.Gen Idealize.ShloMosaic Idealize.ShloMosaic.TcCoe Idealize.SL.Sem
open Idealize.ShloMosaic.Pipeline (Dat)
open Cert.Softmax
open Cert.DaRefIdeal.Read (score value lam normed Fine isReal_score isReal_value isReal_lam result cat_lat cat_ctx)

variable (m : (ℓ : Loc nD τ sig) → Buf (Elt Ideal) ℓ)

/-- The first half's average over all the keys, in two runs. -/
theorem first_all (q : FVec Ideal S1x256x128 .bf16) (k₁ k₂ : FVec Ideal S1x2176x128 .bf16) (v₁ v₂ : FVec Ideal S1x2176x256 .bf16)
    (a : Fin 256) (d : Fin 256) (S V : Fin 4352 → EReal)
    (h₁ : ∀ j : Fin 2176, ∑ x : Fin 128, q (ix3 (0 : Fin 1) a x) * k₁ (ix3 (0 : Fin 1) j x) = S ⟨j.val, by omega⟩)
    (h₂ : ∀ j : Fin 2176, ∑ x : Fin 128, q (ix3 (0 : Fin 1) a x) * k₂ (ix3 (0 : Fin 1) j x) = S ⟨2176 + j.val, by omega⟩)
    (g₁ : ∀ j : Fin 2176, v₁ (ix3 (0 : Fin 1) j d) = V ⟨j.val, by omega⟩)
    (g₂ : ∀ j : Fin 2176, v₂ (ix3 (0 : Fin 1) j d) = V ⟨2176 + j.val, by omega⟩)
    (rS : ∀ j, IsReal (S j)) (rV : ∀ j, IsReal (V j)) :
    k0_pay17 (F := Ideal) (k0_pay7 q k₁ v₁) (k0_pay11 q k₂ v₂) (k0_pay13 q k₁ k₂) (k0_pay14 q k₁ k₂) (k0_pay15 q k₁ k₂) (k0_pay16 q k₁ k₂) (ix2 a d)
      = avg S V := by
  pointwise [k0_pay17, k0_pay16, k0_pay15, k0_pay14, k0_pay13, k0_pay12, k0_pay11, k0_pay10, k0_pay9, k0_pay8, k0_pay7, k0_pay6, k0_pay5, k0_pay4, k0_pay3]
  simp only [h₁, h₂, g₁, g₂]
  have f₁ := isReal_fold_max (by omega) (fun j : Fin 2176 => S ⟨j.val, by omega⟩) (fun j => rS _) _ ofBits_neg_inf
  have f₂ := isReal_fold_max (by omega) (fun j : Fin 2176 => S ⟨2176 + j.val, by omega⟩) (fun j => rS _) _ ofBits_neg_inf
  exact avg_chunks (by omega) (by omega) S V rS rV _ _ _ f₁ f₂ (f₁.sup f₂)

/-- The second half's average over all the keys, in two runs. -/
theorem second_all (q : FVec Ideal S1x256x128 .bf16) (k₁ k₂ : FVec Ideal S1x2176x128 .bf16) (v₁ v₂ : FVec Ideal S1x2176x256 .bf16)
    (a : Fin 256) (d : Fin 256) (S V : Fin 4352 → EReal)
    (h₁ : ∀ j : Fin 2176, ∑ x : Fin 128, q (ix3 (0 : Fin 1) a x) * k₁ (ix3 (0 : Fin 1) j x) = S ⟨j.val, by omega⟩)
    (h₂ : ∀ j : Fin 2176, ∑ x : Fin 128, q (ix3 (0 : Fin 1) a x) * k₂ (ix3 (0 : Fin 1) j x) = S ⟨2176 + j.val, by omega⟩)
    (g₁ : ∀ j : Fin 2176, v₁ (ix3 (0 : Fin 1) j d) = V ⟨j.val, by omega⟩)
    (g₂ : ∀ j : Fin 2176, v₂ (ix3 (0 : Fin 1) j d) = V ⟨2176 + j.val, by omega⟩)
    (rS : ∀ j, IsReal (S j)) (rV : ∀ j, IsReal (V j)) :
    Ideal.div (k0_pay23 (F := Ideal) q k₁ v₁ (ix2 a d) * Ideal.exp2 (k0_pay20 (F := Ideal) q k₁ (ix2 a (0 : Fin 1)) - max (k0_pay20 (F := Ideal) q k₁ (ix2 a (0 : Fin 1))) (k0_pay25 (F := Ideal) q k₂ (ix2 a (0 : Fin 1))))
        + (∑ x : Fin 2176, k0_pay28 (F := Ideal) q k₂ (ix2 a x) * k0_pay29 (F := Ideal) v₂ (ix2 x d))
          * Ideal.exp2 (k0_pay25 (F := Ideal) q k₂ (ix2 a (0 : Fin 1)) - max (k0_pay20 (F := Ideal) q k₁ (ix2 a (0 : Fin 1))) (k0_pay25 (F := Ideal) q k₂ (ix2 a (0 : Fin 1)))))
      (k0_pay22 (F := Ideal) q k₁ (ix2 a (0 : Fin 1)) * Ideal.exp2 (k0_pay20 (F := Ideal) q k₁ (ix2 a (0 : Fin 1)) - max (k0_pay20 (F := Ideal) q k₁ (ix2 a (0 : Fin 1))) (k0_pay25 (F := Ideal) q k₂ (ix2 a (0 : Fin 1))))
        + k0_pay27 (F := Ideal) q k₂ (ix2 a (0 : Fin 1))
          * Ideal.exp2 (k0_pay25 (F := Ideal) q k₂ (ix2 a (0 : Fin 1)) - max (k0_pay20 (F := Ideal) q k₁ (ix2 a (0 : Fin 1))) (k0_pay25 (F := Ideal) q k₂ (ix2 a (0 : Fin 1)))))
      = avg S V := by
  pointwise [k0_pay29, k0_pay28, k0_pay27, k0_pay26, k0_pay25, k0_pay24, k0_pay23, k0_pay22, k0_pay21, k0_pay20, k0_pay19, k0_pay18]
  simp only [h₁, h₂, g₁, g₂]
  have f₁ := isReal_fold_max (by omega) (fun j : Fin 2176 => S ⟨j.val, by omega⟩) (fun j => rS _) _ ofBits_neg_inf
  have f₂ := isReal_fold_max (by omega) (fun j : Fin 2176 => S ⟨2176 + j.val, by omega⟩) (fun j => rS _) _ ofBits_neg_inf
  exact avg_chunks (by omega) (by omega) S V rS rV _ _ _ f₁ f₂ (f₁.sup f₂)

/-- The first half's average over the context keys. -/
theorem first_ctx (q k : FVec Ideal S1x256x128 .bf16) (v : FVec Ideal S1x256x256 .bf16) (a : Fin 256) (d : Fin 256)
    (S V : Fin 256 → EReal) (hS : ∀ j, ∑ x : Fin 128, q (ix3 (0 : Fin 1) a x) * k (ix3 (0 : Fin 1) j x) = S j)
    (hV : ∀ j, v (ix3 (0 : Fin 1) j d) = V j) (rS : ∀ j, IsReal (S j)) (rV : ∀ j, IsReal (V j)) :
    k0_pay30 (F := Ideal) q k v (ix2 a d) = avg S V := by
  pointwise [k0_pay30]
  simp only [hS, hV]
  exact avg_shift (by omega) S V rS rV _ (isReal_fold_max (by omega) S rS _ ofBits_neg_inf)

/-- The second half's average over the context keys. -/
theorem second_ctx (q k : FVec Ideal S1x256x128 .bf16) (v : FVec Ideal S1x256x256 .bf16) (a : Fin 256) (d : Fin 256)
    (S V : Fin 256 → EReal) (hS : ∀ j, ∑ x : Fin 128, q (ix3 (0 : Fin 1) a x) * k (ix3 (0 : Fin 1) j x) = S j)
    (hV : ∀ j, v (ix3 (0 : Fin 1) j d) = V j) (rS : ∀ j, IsReal (S j)) (rV : ∀ j, IsReal (V j)) :
    Ideal.div (k0_pay33 (F := Ideal) q k v (ix2 a d)) (k0_pay32 (F := Ideal) q k (ix2 a (0 : Fin 1))) = avg S V := by
  pointwise [k0_pay33, k0_pay32, k0_pay31]
  simp only [hS, hV]
  exact avg_shift (by omega) S V rS rV _ (isReal_fold_max (by omega) S rS _ ofBits_neg_inf)

/-- What a point of the latent tokens stores, from its two averages. -/
theorem store_all (A : FVec Ideal S256x256 .f32) (x₁ l₁ : FVec Ideal S256x1 .f32) (o₁ : FVec Ideal S256x256 .f32) (x₂ l₂ : FVec Ideal S256x1 .f32)
    (p : FVec Ideal S256x2176 .bf16) (v : FVec Ideal S2176x256 .bf16) (L : EReal) (g : FVec Ideal S1x256 .f32) (a : Fin 256) (e : Fin 256)
    (B : Fin 256 → EReal)
    (hB : ∀ d : Fin 256, Ideal.div (o₁ (ix2 a d) * Ideal.exp2 (x₁ (ix2 a (0 : Fin 1)) - max (x₁ (ix2 a (0 : Fin 1))) (x₂ (ix2 a (0 : Fin 1))))
        + (∑ x : Fin 2176, p (ix2 a x) * v (ix2 x d)) * Ideal.exp2 (x₂ (ix2 a (0 : Fin 1)) - max (x₁ (ix2 a (0 : Fin 1))) (x₂ (ix2 a (0 : Fin 1)))))
      (l₁ (ix2 a (0 : Fin 1)) * Ideal.exp2 (x₁ (ix2 a (0 : Fin 1)) - max (x₁ (ix2 a (0 : Fin 1))) (x₂ (ix2 a (0 : Fin 1))))
        + l₂ (ix2 a (0 : Fin 1)) * Ideal.exp2 (x₂ (ix2 a (0 : Fin 1)) - max (x₁ (ix2 a (0 : Fin 1))) (x₂ (ix2 a (0 : Fin 1))))) = B d) :
    k0_pay1 (F := Ideal) A x₁ l₁ o₁ x₂ l₂ p v (constant S256x256 .f32 0x00000000#32) L g (ix3 (0 : Fin 1) a e)
      = normed (fun d => A (ix2 a d) - L * B d) (fun d => g (ix2 (0 : Fin 1) d)) e := by
  unfold normed
  simp only [← hB]
  pointwise [k0_pay1]
  try rfl

/-- What a point of the context tokens stores, from its two averages. -/
theorem store_ctx (A : FVec Ideal S256x256 .f32) (l : FVec Ideal S256x1 .f32) (o : FVec Ideal S256x256 .f32) (L : EReal) (g : FVec Ideal S1x256 .f32)
    (a : Fin 256) (e : Fin 256) :
    k0_pay2 (F := Ideal) A l o L g (ix3 (0 : Fin 1) a e)
      = normed (fun d => A (ix2 a d) - L * Ideal.div (o (ix2 a d)) (l (ix2 a (0 : Fin 1)))) (fun d => g (ix2 (0 : Fin 1) d)) e := by
  unfold normed
  pointwise [k0_pay2]
  try rfl

end Cert.DaIdeal.Value

end
-- ==== Proof.DaValue.lean ====
/- THE DIFFERENTIAL ATTENTION's value: at every grid point the kernel works out, for 256 tokens of one head, the two averages
   of the head's values (over the latent tokens in two runs of 2176 keys, merged by their maxima), their difference and its
   normalisation; all are the reference's (DaRef.lean), because a softmax does not depend on what is subtracted before it is
   taken (Softmax.lean). -/
module

public import proofs.«01_k».proof.Proof.Gen.DaIdeal.Value
public import proofs.«01_k».proof.Proof.DaPay

@[expose] public section

set_option maxRecDepth 16384

noncomputable section

namespace Cert.DaIdeal.Value

open Cert.DaIdeal Cert.DaIdeal.Gen Idealize.ShloMosaic Idealize.ShloMosaic.TcCoe Idealize.SL.Sem
open Idealize.ShloMosaic.Pipeline (Dat)
open Cert.Softmax
open Cert.DaRefIdeal.Read (score value lam normed Fine isReal_score isReal_value isReal_lam result cat_lat cat_ctx)

variable (m : (ℓ : Loc nD τ sig) → Buf (Elt Ideal) ℓ)

/-- The blocks of point `t`: sequence `t / 68`, head `t / 17 % 4`, token tile `t % 17`; the keys and values are the whole
    sequence's, of the head. -/
theorem idx : ∀ t : Fin cfg0.N, win0_1.index t = ![t.val / 68, t.val % 17, t.val / 17 % 4]
    ∧ win0_2.index t = ![t.val / 68, 0, 4 + t.val / 17 % 4] ∧ win0_3.index t = ![t.val / 68, 0, 8 + t.val / 17 % 4]
    ∧ win0_5.index t = ![t.val / 68, t.val % 17, t.val / 17 % 4] ∧ win0_4.index t = ![0, 0] :=
  (by decide +kernel : ∀ t : Fin grid0.N, _)

/-- The attention as the reference has it, of the kernel's argument arrays. -/
abbrev REF (X : FVec Ideal S4x4352x4608 .bf16) (P : FVec Ideal S4x128 .f32) (G : FVec Ideal S256 .f32) (I : FVec Ideal S1x1 .f32) :
    FVec Ideal S4x4352x1024 .bf16 := Cert.DaRefIdeal.Read.val_main_v95 (F := Ideal) X P G I

/-- Lambda as the kernel's program works it out. -/
theorem lam_entry (c : Dev nD) : (V m c main_v17 : FVec Ideal S1x1 .f32) (ix2 (0 : Fin 1) (0 : Fin 1))
    = lam (m ((c : Thread nD τ).loc main_arg1)) (m ((c : Thread nD τ).loc main_arg3)) := by
  entry_read
  unfold lam
  pointwise [Cert.DaRefIdeal.Read.val_main_v16, Cert.DaRefIdeal.Read.val_main_v15, Cert.DaRefIdeal.Read.val_main_v14, Cert.DaRefIdeal.Read.val_main_v13, Cert.DaRefIdeal.Read.val_main_v12, Cert.DaRefIdeal.Read.val_main_cst_0, Cert.DaRefIdeal.Read.val_main_v11, Cert.DaRefIdeal.Read.val_main_v10, Cert.DaRefIdeal.Read.val_main_v9, Cert.DaRefIdeal.Read.val_main_v8, Cert.DaRefIdeal.Read.val_main_v7, Cert.DaRefIdeal.Read.val_main_v6, Cert.DaRefIdeal.Read.val_main_v5, Cert.DaRefIdeal.Read.val_main_cst, Cert.DaRefIdeal.Read.val_main_v4, Cert.DaRefIdeal.Read.val_main_v3, Cert.DaRefIdeal.Read.val_main_v2, Cert.DaRefIdeal.Read.val_main_v1, Cert.DaRefIdeal.Read.val_main_v0]

theorem one (i : S1x1.Idx) : i = ix2 (0 : Fin 1) (0 : Fin 1) := by
  idx_vars i
  obtain rfl : i0 = 0 := Subsingleton.elim _ _
  obtain rfl : i1 = 0 := Subsingleton.elim _ _
  rfl

/-- Lambda as a point reads it. -/
theorem lam_read (c : Dev nD) (t : Fin cfg0.N) (inb : ∀ a, (![0, 0] : Fin 2 → Nat) a + S1x1.size a ≤ S1x1.size a) (h) :
    View.ld (Val := Elt Ideal) (e' := .f32) (iblk m c 0 t : FVec Ideal S1x1 .f32) (Rect.unit (s := S1x1) ![0, 0] S1x1.size inb) (Shape.Idx.first h)
      = lam (m ((c : Thread nD τ).loc main_arg1)) (m ((c : Thread nD τ).loc main_arg3)) := by
  refine Eq.trans (congrArg (iblk m c 0 t : FVec Ideal S1x1 .f32) (one _)) ?_
  refine Eq.trans ?_ (lam_entry m c)
  blk_simp [iblk]
  exact congrArg _ (one _)

/-- The gain of one column. -/
abbrev gain (G : FVec Ideal S256 .f32) (I : FVec Ideal S1x1 .f32) (d : Fin 256) : EReal :=
  G (ix1 d) * (1 - I (ix2 (0 : Fin 1) (0 : Fin 1)))

/-- The gain as the kernel's program works it out. -/
theorem gain_entry (c : Dev nD) (d : Fin 256) : (V m c main_v22 : FVec Ideal S1x256 .f32) (ix2 (0 : Fin 1) d)
    = gain (m ((c : Thread nD τ).loc main_arg2)) (m ((c : Thread nD τ).loc main_arg3)) d := by
  unfold gain
  entry_read
  pointwise

/-- The whole result array after the run. -/
theorem final (hX : ∀ c : Dev nD, Fine (m ((c : Thread nD τ).loc main_arg0)))
    (hL : ∀ c : Dev nD, IsReal (lam (m ((c : Thread nD τ).loc main_arg1)) (m ((c : Thread nD τ).loc main_arg3)))) (c : Dev nD) :
    (dats m 0 c).arrAt 5 (cfgs 0).N = REF (m ((c : Thread nD τ).loc main_arg0)) (m ((c : Thread nD τ).loc main_arg1))
      (m ((c : Thread nD τ).loc main_arg2)) (m ((c : Thread nD τ).loc main_arg3)) := by
  refine (dats m 0 c).arrAt_eq_of_covers 5 _ (by decide +kernel) fun t _ y => ?_
  blk_simp
  rw [after0_5]
  obtain ⟨i1, i2, i3, i5, i4⟩ := idx t
  have ht : t.val < 272 := t.isLt
  have hV : ∀ c : Dev nD, Fine (V m c main_arg0) := fun c => by rw [V_main_arg0 m c]; exact hX c
  by_cases h : t.val % 17 = 16
  · rw [outsAt0_B m c t (by omega) h]
    frame_out
    idx_vars y
    obtain rfl : y0 = 0 := Subsingleton.elim _ _
    have e : ((View.whole main_v23).slice (win0_5.rect t)).emb (ix3 (0 : Fin 1) y1 y2) = ix3 (⟨t.val / 68, by omega⟩ : Fin 4)
        (⟨t.val % 17 * 256 + y1.val, by omega⟩ : Fin 4352) (⟨(⟨t.val / 17 % 4, by omega⟩ : Fin 4).val * 256 + y2.val, by show t.val / 17 % 4 * 256 + y2.val < 1024; omega⟩ : Fin 1024) := by
      blk_ext [i5]
    rw [e]
    refine Eq.trans ?_ (result _ _ _ _ _ _ _ _).symm
    refine (store_ctx _ _ _ _ _ _ _).trans ?_
    refine congrFun (congrArg₂ normed (funext fun d => ?_) (funext fun d => ?_)) _
    · refine Eq.trans ?_ (cat_ctx _ (hX c) _ _ (hL c) _ _ _ (by show ¬ t.val % 17 * 256 + y1.val < 4096; omega) d).symm
      rw [← V_main_arg0 m c]
      refine congrArg₂ (· - ·) ?_ (congrArg₂ (· * ·) ?_ ?_)
      · refine first_ctx _ _ _ _ _ _ _ (fun j => Finset.sum_congr rfl fun x _ => ?_)
          (fun j => ?_) (fun j => isReal_score _ (hV c) _ _ _ _ _) (fun j => isReal_value _ (hV c) _ _ _ _)
        · blk_point [iblk, i1, i2]
        · unfold value
          blk_point [iblk, i3]
      · exact lam_read m c t _ _
      · refine second_ctx _ _ _ _ _ _ _ (fun j => Finset.sum_congr rfl fun x _ => ?_)
          (fun j => ?_) (fun j => isReal_score _ (hV c) _ _ _ _ _) (fun j => isReal_value _ (hV c) _ _ _ _)
        · blk_point [iblk, i1, i2]
        · unfold value
          blk_point [iblk, i3]
    · refine Eq.trans ?_ (gain_entry m c d)
      blk_point [iblk, i4]
  · rw [outsAt0_A m c t (by omega) h]
    frame_out
    idx_vars y
    obtain rfl : y0 = 0 := Subsingleton.elim _ _
    have e : ((View.whole main_v23).slice (win0_5.rect t)).emb (ix3 (0 : Fin 1) y1 y2) = ix3 (⟨t.val / 68, by omega⟩ : Fin 4)
        (⟨t.val % 17 * 256 + y1.val, by omega⟩ : Fin 4352) (⟨(⟨t.val / 17 % 4, by omega⟩ : Fin 4).val * 256 + y2.val, by show t.val / 17 % 4 * 256 + y2.val < 1024; omega⟩ : Fin 1024) := by
      blk_ext [i5]
    rw [e]
    refine Eq.trans ?_ (result _ _ _ _ _ _ _ _).symm
    refine (store_all _ _ _ _ _ _ _ _ _ _ _ _
      (fun d => avg (fun j : Fin 4352 => score (V m c main_arg0) ⟨t.val / 68, by omega⟩ ⟨t.val / 17 % 4, by omega⟩ 1 ⟨t.val % 17 * 256 + y1.val, by omega⟩ j)
        (fun j : Fin 4352 => value (V m c main_arg0) ⟨t.val / 68, by omega⟩ ⟨t.val / 17 % 4, by omega⟩ d j)) fun d => ?_).trans ?_
    · refine second_all _ _ _ _ _ _ _ _ _ (fun j => Finset.sum_congr rfl fun x _ => ?_) (fun j => Finset.sum_congr rfl fun x _ => ?_)
        (fun j => ?_) (fun j => ?_) (fun j => isReal_score _ (hV c) _ _ _ _ _) (fun j => isReal_value _ (hV c) _ _ _ _)
      · blk_point [iblk, i1, i2]
      · blk_point [iblk, i1, i2]
      · unfold value
        blk_point [iblk, i3]
      · unfold value
        blk_point [iblk, i3]
    refine congrFun (congrArg₂ normed (funext fun d => ?_) (funext fun d => ?_)) _
    · refine Eq.trans ?_ (cat_lat _ (hX c) _ _ (hL c) _ _ _ (by show t.val % 17 * 256 + y1.val < 4096; omega) d).symm
      rw [← V_main_arg0 m c]
      refine congrArg₂ (· - ·) ?_ (congrArg₂ (· * ·) ?_ ?_)
      · refine first_all _ _ _ _ _ _ _ _ _ (fun j => Finset.sum_congr rfl fun x _ => ?_) (fun j => Finset.sum_congr rfl fun x _ => ?_)
          (fun j => ?_) (fun j => ?_) (fun j => isReal_score _ (hV c) _ _ _ _ _) (fun j => isReal_value _ (hV c) _ _ _ _)
        · blk_point [iblk, i1, i2]
        · blk_point [iblk, i1, i2]
        · unfold value
          blk_point [iblk, i3]
        · unfold value
          blk_point [iblk, i3]
      · exact lam_read m c t _ _
      · rfl
    · refine Eq.trans ?_ (gain_entry m c d)
      blk_point [iblk, i4]

end Cert.DaIdeal.Value

end
-- ==== Proof.DaClaim.lean ====
/- THE DIFFERENTIAL ATTENTION's claims: each program runs and gives its counters back, and from finite queries, keys,
   values and lambda parameters the kernel and the reference end with equal results. -/
module

public import proofs.«01_k».proof.Defs
public import proofs.«01_k».proof.Proof.Gen.Da.Frame
public import proofs.«01_k».proof.Proof.Gen.DaRefIdeal.Run
public import proofs.«01_k».proof.Proof.Gen.Pre_da_finite
public import proofs.«01_k».proof.Proof.DaValue

@[expose] public section

set_option maxRecDepth 16384

noncomputable section

namespace Cert.Proof.Da

open Idealize.ShloMosaic Idealize.SL.Sem
open Cert.Softmax

/-- The kernel runs, its arguments unchanged and its counters back at zero. -/
theorem frame : Cert.quiescent_Da := fun m g _ => Cert.Da.Gen.frame m g

/-- The kernel read at the extended reals, likewise. -/
theorem frame_ideal : Cert.quiescent_DaIdeal := fun m g _ => Cert.DaIdeal.Gen.frame m g

/-- … and under the precondition. -/
theorem frame_ideal_pre : Cert.quiescent_DaIdeal_pre_da_finite := fun m g _ => Cert.DaIdeal.Gen.frame m g

/-- The reference, likewise. -/
theorem frame_ref : Cert.quiescent_DaRefIdeal := fun m g _ =>
  (θ_run Cert.DaRefIdeal.defs _ _).mono (fun r h => ⟨fun c => (h c).2, Idealize.ShloMosaic.sem_eq_zero_of_no_sems (by decide) r.2⟩)
    (Cert.DaRefIdeal.Value.run (F := Ideal) m g)

/-- … and under the precondition. -/
theorem frame_ref_pre : Cert.quiescent_DaRefIdeal_pre_da_finite := fun m g _ =>
  (θ_run Cert.DaRefIdeal.defs _ _).mono (fun r h => ⟨fun c => (h c).2, Idealize.ShloMosaic.sem_eq_zero_of_no_sems (by decide) r.2⟩)
    (Cert.DaRefIdeal.Value.run (F := Ideal) m g)

/-- The precondition says that the columns the attention reads and what lambda is computed from are real numbers. -/
theorem fine (X : FVec Ideal Cert.DaIdeal.S4x4352x4608 .bf16) (P : FVec Ideal Cert.DaIdeal.S4x128 .f32) (G : FVec Ideal Cert.DaIdeal.S256 .f32)
    (I : FVec Ideal Cert.DaIdeal.S1x1 .f32) (hx : (Cert.Pre_da_finite.fn (F := Ideal) X P G I).1 = fun _ => 1#1)
    (hp : (Cert.Pre_da_finite.fn (F := Ideal) X P G I).2.1 = fun _ => 1#1) (hi : (Cert.Pre_da_finite.fn (F := Ideal) X P G I).2.2 = fun _ => 1#1) :
    Cert.DaRefIdeal.Read.Fine X ∧ IsReal (Cert.DaRefIdeal.Read.lam P I) := by
  refine ⟨fun b t e he => ?_, Cert.DaRefIdeal.Read.isReal_lam P I (fun i => ?_) (fun i => ?_)⟩
  · have h1 := congrFun hx (ix3 b t (⟨e.val, he⟩ : Fin 3072))
    revert h1
    pointwise [Cert.Pre_da_finite.fn]
    intro h1
    exact isReal_of_abs h1
  · idx_vars i
    have h1 := congrFun hp (ix2 i0 i1)
    revert h1
    pointwise [Cert.Pre_da_finite.fn]
    intro h1
    exact isReal_of_abs h1
  · idx_vars i
    have h1 := congrFun hi (ix2 i0 i1)
    revert h1
    pointwise [Cert.Pre_da_finite.fn]
    intro h1
    exact isReal_of_abs h1

/-- The kernel's result is the reference's. -/
theorem value : Cert.algebraic_DaIdeal_DaRefIdeal_pre_da_finite := by
  intro m g m' g' hpre hagree
  have hX := fun c : Dev Cert.DaIdeal.nD => fine _ _ _ _ (hpre c).1 (hpre c).2.1 (hpre c).2.2
  refine ⟨fun c => Cert.DaIdeal.Value.REF (m ((c.tc : Thread Cert.DaIdeal.nD Cert.DaIdeal.τ).loc Cert.DaIdeal.main_arg0))
    (m ((c.tc : Thread Cert.DaIdeal.nD Cert.DaIdeal.τ).loc Cert.DaIdeal.main_arg1)) (m ((c.tc : Thread Cert.DaIdeal.nD Cert.DaIdeal.τ).loc Cert.DaIdeal.main_arg2))
    (m ((c.tc : Thread Cert.DaIdeal.nD Cert.DaIdeal.τ).loc Cert.DaIdeal.main_arg3)), ?_, ?_⟩
  · refine (θ_run Cert.DaIdeal.defs _ _).mono (fun r h c => ⟨(h c).1.trans (Cert.DaIdeal.Value.final m (fun c => (hX c).1) (fun c => (hX c).2) c), (h c).2⟩)
      (Cert.DaIdeal.Value.run_blocks (F := Ideal) m g)
  · refine (θ_run Cert.DaRefIdeal.defs _ _).mono (fun r h c => ⟨(h c).1.trans ?_, (h c).2⟩)
      (Cert.DaRefIdeal.Value.run (F := Ideal) m' g')
    rw [Cert.DaRefIdeal.Read.val_main_v95_eq m' c, (hagree c).1, (hagree c).2.1, (hagree c).2.2.1, (hagree c).2.2.2]

end Cert.Proof.Da

end
-- ==== Proof.GqRef.lean ====
/- THE GROUPED-QUERY REFERENCE, read entry by entry: a token of the latent part averages the values of all 4352 tokens,
   a context token those of the 256 context tokens, each head with the keys and values of its group of four heads. -/
module

public import proofs.«01_k».proof.Proof.Gen.GqRefIdeal.Read
public import proofs.«01_k».proof.Proof.MaxReal
public import Idealize.ShloMosaic.Lib.Pipeline.ValueKit
public import Idealize.ShloMosaic.Lib.Pointwise

@[expose] public section

set_option maxRecDepth 16384

noncomputable section

namespace Cert.GqRefIdeal.Read

open Cert.GqRefIdeal Idealize.ShloMosaic Idealize.ShloMosaic.TcCoe
open Cert.Softmax

/-- The score of token `t`'s query of head `g * 4 + r` with token `j`'s key of group `g`. -/
def score (X : FVec Ideal S4x4352x4608 .bf16) (b : Fin 4) (g : Fin 2) (r : Fin 4) (t j : Fin 4352) : EReal :=
  ∑ d : Fin 128, X (ix3 b t (⟨3072 + (g.val * 4 + r.val) * 128 + d.val, by omega⟩ : Fin 4608))
    * X (ix3 b j (⟨4096 + g.val * 128 + d.val, by omega⟩ : Fin 4608))

/-- Token `j`'s value of group `g`. -/
def value (X : FVec Ideal S4x4352x4608 .bf16) (b : Fin 4) (g : Fin 2) (d : Fin 128) (j : Fin 4352) : EReal :=
  X (ix3 b j (⟨4352 + g.val * 128 + d.val, by omega⟩ : Fin 4608))

/-- The columns the attention reads are real numbers. -/
abbrev Fine (X : FVec Ideal S4x4352x4608 .bf16) : Prop := ∀ (b : Fin 4) (t : Fin 4352) (e : Fin 4608), 3072 ≤ e.val → IsReal (X (ix3 b t e))

theorem isReal_score (X : FVec Ideal S4x4352x4608 .bf16) (hX : Fine X) (b : Fin 4) (g : Fin 2) (r : Fin 4) (t j : Fin 4352) : IsReal (score X b g r t j) :=
  IsReal.sum _ _ fun d => (hX _ _ _ (by show 3072 ≤ 3072 + _ + _; omega)).mul (hX _ _ _ (by show 3072 ≤ 4096 + _ + _; omega))

theorem isReal_value (X : FVec Ideal S4x4352x4608 .bf16) (hX : Fine X) (b : Fin 4) (g : Fin 2) (d : Fin 128) (j : Fin 4352) : IsReal (value X b g d j) :=
  hX _ _ _ (by show 3072 ≤ 4352 + _ + _; omega)

/-- The scores of the latent tokens, as the reference scales them. -/
theorem scores_lat (X : FVec Ideal S4x4352x4608 .bf16) (b : Fin 4) (g : Fin 2) (r : Fin 4) (t : Fin 4096) (j : Fin 4352) :
    val_main_v12 (F := Ideal) X (ix5 b g r t j) = score X b g r (⟨t.val, by omega⟩ : Fin 4352) j * ((Real.log 2 : ℝ) : EReal) := by
  rw [← log_two]
  pointwise [val_main_v12, val_main_v11, val_main_v10, val_main_cst, val_main_v9, val_main_v8, val_main_v7, val_main_v4, val_main_v3, val_main_v2, val_main_v1, val_main_v0, score]
  refine congrArg (· * _) (Finset.sum_congr rfl fun d _ => ?_)
  rw [mul_comm]
  refine congrArg₂ (· * ·) ?_ ?_
  · blk_ext []
  · blk_ext []

/-- What the reference subtracts from the latent tokens' scores is a real number. -/
theorem isReal_max_lat (X : FVec Ideal S4x4352x4608 .bf16) (hX : Fine X) (b : Fin 4) (g : Fin 2) (r : Fin 4) (t : Fin 4096) :
    IsReal (val_main_v15 (F := Ideal) X (ix4 b g r t)) := by
  rw [val_main_v15_apply]
  refine IsReal.max_bot ?_ ?_
  · rw [val_main_v14_apply]; exact ofBits_neg_inf
  · unfold val_main_v13
    refine isReal_reduce_max (by omega) _ _ _ _ (fun i => ?_) (fun i => ofBits_neg_inf) _
    idx_vars i
    rw [scores_lat]
    exact (isReal_score X hX _ _ _ _ _).mul (isReal_coe _)

/-- The weights of the latent tokens. -/
theorem weights_lat (X : FVec Ideal S4x4352x4608 .bf16) (b : Fin 4) (g : Fin 2) (r : Fin 4) (t : Fin 4096) (j : Fin 4352) :
    val_main_v23 (F := Ideal) X (ix5 b g r t j)
      = Ideal.div (Ideal.exp (val_main_v12 (F := Ideal) X (ix5 b g r t j) - val_main_v15 (F := Ideal) X (ix4 b g r t)))
        (∑ x : Fin 4352, Ideal.exp (val_main_v12 (F := Ideal) X (ix5 b g r t x) - val_main_v15 (F := Ideal) X (ix4 b g r t))) := by
  pointwise [val_main_v23, val_main_v22, val_main_v21, val_main_v20, val_main_cst_2, val_main_v19, val_main_v18, val_main_v17, val_main_v16]

/-- The averages of the latent tokens, as the reference adds them up. -/
theorem sums_lat (X : FVec Ideal S4x4352x4608 .bf16) (b : Fin 4) (t : Fin 4096) (e : Fin 1024) :
    val_main_v26 (F := Ideal) X (ix3 b t e)
      = ∑ j : Fin 4352, value X b (⟨e.val / 512, by omega⟩ : Fin 2) (⟨e.val % 128, by omega⟩ : Fin 128) j
        * val_main_v23 (F := Ideal) X (ix5 b (⟨e.val / 512, by omega⟩ : Fin 2) (⟨e.val / 128 % 4, by omega⟩ : Fin 4) t j) := by
  pointwise [val_main_v26, val_main_v25, val_main_v24, val_main_v6, val_main_v5, val_main_v0, value]
  refine Finset.sum_congr rfl fun j _ => ?_
  refine congrArg₂ (· * ·) ?_ ?_
  · blk_ext []
  · blk_ext []

/-- The averages of the latent tokens. -/
theorem avg_lat (X : FVec Ideal S4x4352x4608 .bf16) (hX : Fine X) (b : Fin 4) (t : Fin 4096) (e : Fin 1024) :
    val_main_v26 (F := Ideal) X (ix3 b t e)
      = avg (fun j : Fin 4352 => score X b (⟨e.val / 512, by omega⟩ : Fin 2) (⟨e.val / 128 % 4, by omega⟩ : Fin 4) (⟨t.val, by omega⟩ : Fin 4352) j)
        (fun j : Fin 4352 => value X b (⟨e.val / 512, by omega⟩ : Fin 2) (⟨e.val % 128, by omega⟩ : Fin 128) j) := by
  rw [sums_lat]
  simp only [weights_lat, scores_lat]
  exact avg_ref (by omega) _ _ (fun j => isReal_score X hX _ _ _ _ _) (fun j => isReal_value X hX _ _ _ _) _ (isReal_max_lat X hX _ _ _ _)

/-- The scores of the context tokens, as the reference scales them. -/
theorem scores_ctx (X : FVec Ideal S4x4352x4608 .bf16) (b : Fin 4) (g : Fin 2) (r : Fin 4) (t : Fin 256) (j : Fin 256) :
    val_main_v34 (F := Ideal) X (ix5 b g r t j) = score X b g r (⟨4096 + t.val, by omega⟩ : Fin 4352) (⟨4096 + j.val, by omega⟩ : Fin 4352) * ((Real.log 2 : ℝ) : EReal) := by
  rw [← log_two]
  pointwise [val_main_v34, val_main_v33, val_main_v32, val_main_cst_3, val_main_v31, val_main_v30, val_main_v27, val_main_v28, val_main_v4, val_main_v3, val_main_v2, val_main_v1, val_main_v0, score]
  refine congrArg (· * _) (Finset.sum_congr rfl fun d _ => ?_)
  rw [mul_comm]
  refine congrArg₂ (· * ·) ?_ ?_
  · blk_ext []
  · blk_ext []

/-- What the reference subtracts from the context tokens' scores is a real number. -/
theorem isReal_max_ctx (X : FVec Ideal S4x4352x4608 .bf16) (hX : Fine X) (b : Fin 4) (g : Fin 2) (r : Fin 4) (t : Fin 256) :
    IsReal (val_main_v37 (F := Ideal) X (ix4 b g r t)) := by
  rw [val_main_v37_apply]
  refine IsReal.max_bot ?_ ?_
  · rw [val_main_v36_apply]; exact ofBits_neg_inf
  · unfold val_main_v35
    refine isReal_reduce_max (by omega) _ _ _ _ (fun i => ?_) (fun i => ofBits_neg_inf) _
    idx_vars i
    rw [scores_ctx]
    exact (isReal_score X hX _ _ _ _ _).mul (isReal_coe _)

/-- The weights of the context tokens. -/
theorem weights_ctx (X : FVec Ideal S4x4352x4608 .bf16) (b : Fin 4) (g : Fin 2) (r : Fin 4) (t : Fin 256) (j : Fin 256) :
    val_main_v45 (F := Ideal) X (ix5 b g r t j)
      = Ideal.div (Ideal.exp (val_main_v34 (F := Ideal) X (ix5 b g r t j) - val_main_v37 (F := Ideal) X (ix4 b g r t)))
        (∑ x : Fin 256, Ideal.exp (val_main_v34 (F := Ideal) X (ix5 b g r t x) - val_main_v37 (F := Ideal) X (ix4 b g r t))) := by
  pointwise [val_main_v45, val_main_v44, val_main_v43, val_main_v42, val_main_cst_6, val_main_v41, val_main_v40, val_main_v39, val_main_v38]

/-- The averages of the context tokens, as the reference adds them up. -/
theorem sums_ctx (X : FVec Ideal S4x4352x4608 .bf16) (b : Fin 4) (t : Fin 256) (e : Fin 1024) :
    val_main_v48 (F := Ideal) X (ix3 b t e)
      = ∑ j : Fin 256, value X b (⟨e.val / 512, by omega⟩ : Fin 2) (⟨e.val % 128, by omega⟩ : Fin 128) (⟨4096 + j.val, by omega⟩ : Fin 4352)
        * val_main_v45 (F := Ideal) X (ix5 b (⟨e.val / 512, by omega⟩ : Fin 2) (⟨e.val / 128 % 4, by omega⟩ : Fin 4) t j) := by
  pointwise [val_main_v48, val_main_v47, val_main_v46, val_main_v29, val_main_v6, val_main_v5, val_main_v0, value]
  refine Finset.sum_congr rfl fun j _ => ?_
  refine congrArg₂ (· * ·) ?_ ?_
  · blk_ext []
  · blk_ext []

/-- The averages of the context tokens. -/
theorem avg_ctx (X : FVec Ideal S4x4352x4608 .bf16) (hX : Fine X) (b : Fin 4) (t : Fin 256) (e : Fin 1024) :
    val_main_v48 (F := Ideal) X (ix3 b t e)
      = avg (fun j : Fin 256 => score X b (⟨e.val / 512, by omega⟩ : Fin 2) (⟨e.val / 128 % 4, by omega⟩ : Fin 4) (⟨4096 + t.val, by omega⟩ : Fin 4352) (⟨4096 + j.val, by omega⟩ : Fin 4352))
        (fun j : Fin 256 => value X b (⟨e.val / 512, by omega⟩ : Fin 2) (⟨e.val % 128, by omega⟩ : Fin 128) (⟨4096 + j.val, by omega⟩ : Fin 4352)) := by
  rw [sums_ctx]
  simp only [weights_ctx, scores_ctx]
  exact avg_ref (by omega) _ _ (fun j => isReal_score X hX _ _ _ _ _) (fun j => isReal_value X hX _ _ _ _) _ (isReal_max_ctx X hX _ _ _ _)

/-- The result at a latent token. -/
theorem result_lat (X : FVec Ideal S4x4352x4608 .bf16) (hX : Fine X) (b : Fin 4) (t : Fin 4352) (e : Fin 1024) (ht : t.val < 4096) :
    val_main_v50 (F := Ideal) X (ix3 b t e)
      = avg (fun j : Fin 4352 => score X b (⟨e.val / 512, by omega⟩ : Fin 2) (⟨e.val / 128 % 4, by omega⟩ : Fin 4) t j)
        (fun j : Fin 4352 => value X b (⟨e.val / 512, by omega⟩ : Fin 2) (⟨e.val % 128, by omega⟩ : Fin 128) j) := by
  pointwise [val_main_v50, val_main_v49]
  rw [dif_pos ht, avg_lat X hX]

/-- The result at a context token. -/
theorem result_ctx (X : FVec Ideal S4x4352x4608 .bf16) (hX : Fine X) (b : Fin 4) (t : Fin 4352) (e : Fin 1024) (ht : ¬ t.val < 4096) :
    val_main_v50 (F := Ideal) X (ix3 b t e)
      = avg (fun j : Fin 256 => score X b (⟨e.val / 512, by omega⟩ : Fin 2) (⟨e.val / 128 % 4, by omega⟩ : Fin 4) t (⟨4096 + j.val, by omega⟩ : Fin 4352))
        (fun j : Fin 256 => value X b (⟨e.val / 512, by omega⟩ : Fin 2) (⟨e.val % 128, by omega⟩ : Fin 128) (⟨4096 + j.val, by omega⟩ : Fin 4352)) := by
  pointwise [val_main_v50, val_main_v49]
  rw [dif_neg ht, avg_ctx X hX]
  have e1 : (⟨4096 + (t.val - 4096), by omega⟩ : Fin 4352) = t := Fin.ext (by show 4096 + (t.val - 4096) = t.val; omega)
  rw [e1]

end Cert.GqRefIdeal.Read

end
-- ==== Proof.GqValue.lean ====
/- THE GROUPED-QUERY ATTENTION's value: at every grid point the kernel averages, for 256 tokens and two heads, the values
   of one group; the averages are the reference's (GqRef.lean), because a softmax does not depend on what is subtracted
   before it is taken (Softmax.lean). -/
module

public import proofs.«01_k».proof.Proof.Gen.GqIdeal.Value
public import proofs.«01_k».proof.Proof.GqRef

@[expose] public section

set_option maxRecDepth 16384

noncomputable section

namespace Cert.GqIdeal.Value

open Cert.GqIdeal Cert.GqIdeal.Gen Idealize.ShloMosaic Idealize.ShloMosaic.TcCoe Idealize.SL.Sem
open Idealize.ShloMosaic.Pipeline (Dat)
open Cert.Softmax
open Cert.GqRefIdeal.Read (score value Fine isReal_score isReal_value result_lat result_ctx)

variable (m : (ℓ : Loc nD τ sig) → Buf (Elt Ideal) ℓ)

/-- The blocks of point `t`: sequence `t / 68`, head pair `t / 17 % 4`, token tile `t % 17`; the keys and values are the
    whole sequence's, of the pair's group. -/
theorem idx : ∀ t : Fin cfg0.N, win0_0.index t = ![t.val / 68, t.val % 17, 12 + t.val / 17 % 4]
    ∧ win0_1.index t = ![t.val / 68, 0, 32 + t.val / 17 % 4 / 2] ∧ win0_2.index t = ![t.val / 68, 0, 34 + t.val / 17 % 4 / 2]
    ∧ win0_3.index t = ![t.val / 68, t.val % 17, t.val / 17 % 4] :=
  (by decide +kernel : ∀ t : Fin grid0.N, _)

/-- The attention as the reference has it, of the kernel's argument array. -/
abbrev REF (X : FVec Ideal S4x4352x4608 .bf16) : FVec Ideal S4x4352x1024 .bf16 := Cert.GqRefIdeal.Read.val_main_v50 (F := Ideal) X

/-- The first head over all the keys. -/
theorem pay3_apply (q : FVec Ideal S1x256x128 .bf16) (k v : FVec Ideal S1x4352x128 .bf16) (a : Fin 256) (d : Fin 128)
    (S V : Fin 4352 → EReal) (hS : ∀ j, ∑ x : Fin 128, q (ix3 (0 : Fin 1) a x) * k (ix3 (0 : Fin 1) j x) = S j)
    (hV : ∀ j, v (ix3 (0 : Fin 1) j d) = V j) (rS : ∀ j, IsReal (S j)) (rV : ∀ j, IsReal (V j)) :
    k0_pay3 (F := Ideal) q k v (ix3 (0 : Fin 1) a d) = avg S V := by
  pointwise [k0_pay3]
  simp only [hS, hV]
  exact avg_shift (by omega) S V rS rV _ (isReal_fold_max (by omega) S rS _ ofBits_neg_inf)

/-- The second head over all the keys. -/
theorem pay1_apply (q : FVec Ideal S1x256x128 .bf16) (k v : FVec Ideal S1x4352x128 .bf16) (a : Fin 256) (d : Fin 128)
    (S V : Fin 4352 → EReal) (hS : ∀ j, ∑ x : Fin 128, q (ix3 (0 : Fin 1) a x) * k (ix3 (0 : Fin 1) j x) = S j)
    (hV : ∀ j, v (ix3 (0 : Fin 1) j d) = V j) (rS : ∀ j, IsReal (S j)) (rV : ∀ j, IsReal (V j)) :
    k0_pay1 (F := Ideal) (k0_pay4 q k) (k0_pay5 q k) v (ix3 (0 : Fin 1) a d) = avg S V := by
  pointwise [k0_pay1, k0_pay4, k0_pay5]
  simp only [hS, hV]
  exact avg_shift (by omega) S V rS rV _ (isReal_fold_max (by omega) S rS _ ofBits_neg_inf)

/-- The first head over the context keys. -/
theorem pay6_apply (q : FVec Ideal S1x256x128 .bf16) (k v : FVec Ideal S1x256x128 .bf16) (a : Fin 256) (d : Fin 128)
    (S V : Fin 256 → EReal) (hS : ∀ j, ∑ x : Fin 128, q (ix3 (0 : Fin 1) a x) * k (ix3 (0 : Fin 1) j x) = S j)
    (hV : ∀ j, v (ix3 (0 : Fin 1) j d) = V j) (rS : ∀ j, IsReal (S j)) (rV : ∀ j, IsReal (V j)) :
    k0_pay6 (F := Ideal) q k v (ix3 (0 : Fin 1) a d) = avg S V := by
  pointwise [k0_pay6]
  simp only [hS, hV]
  exact avg_shift (by omega) S V rS rV _ (isReal_fold_max (by omega) S rS _ ofBits_neg_inf)

/-- The second head over the context keys. -/
theorem pay2_apply (q : FVec Ideal S1x256x128 .bf16) (k v : FVec Ideal S1x256x128 .bf16) (a : Fin 256) (d : Fin 128)
    (S V : Fin 256 → EReal) (hS : ∀ j, ∑ x : Fin 128, q (ix3 (0 : Fin 1) a x) * k (ix3 (0 : Fin 1) j x) = S j)
    (hV : ∀ j, v (ix3 (0 : Fin 1) j d) = V j) (rS : ∀ j, IsReal (S j)) (rV : ∀ j, IsReal (V j)) :
    k0_pay2 (F := Ideal) (k0_pay7 q k) (k0_pay8 q k) v (ix3 (0 : Fin 1) a d) = avg S V := by
  pointwise [k0_pay2, k0_pay7, k0_pay8]
  simp only [hS, hV]
  exact avg_shift (by omega) S V rS rV _ (isReal_fold_max (by omega) S rS _ ofBits_neg_inf)

/-- The whole result array after the run. -/
theorem final (hX : ∀ c : Dev nD, Fine (m ((c : Thread nD τ).loc main_arg0))) (c : Dev nD) :
    (dats m 0 c).arrAt 3 (cfgs 0).N = REF (m ((c : Thread nD τ).loc main_arg0)) := by
  refine (dats m 0 c).arrAt_eq_of_covers 3 _ (by decide +kernel) fun t _ y => ?_
  blk_simp
  rw [after0_3]
  obtain ⟨i0, i1, i2, i3⟩ := idx t
  have ht : t.val < 272 := t.isLt
  have hV : ∀ c : Dev nD, Fine (V m c main_arg0) := fun c => by rw [V_main_arg0 m c]; exact hX c
  obtain ⟨i0, i1, i2, i3⟩ := idx t
  have ht : t.val < 272 := t.isLt
  have hV : ∀ c : Dev nD, Fine (V m c main_arg0) := fun c => by rw [V_main_arg0 m c]; exact hX c
  by_cases h : t.val % 17 = 16
  · rw [outsAt0_B m c t (by omega) h]
    frame_out
    canon_tiles x h
    · idx_vars x
      obtain rfl : x0 = 0 := Subsingleton.elim _ _
      have e : ((View.whole main_v0).slice (win0_3.rect t)).emb y = ix3 (⟨t.val / 68, by omega⟩ : Fin 4)
          (⟨t.val % 17 * 256 + x1.val, by omega⟩ : Fin 4352) (⟨t.val / 17 % 4 * 256 + 128 + x2.val, by omega⟩ : Fin 1024) := by
        blk_ext [i3, h0, h1, h2]
      rw [e]
      refine Eq.trans ?_ (result_ctx _ (hX c) _ _ _ (by show ¬ t.val % 17 * 256 + x1.val < 4096; omega)).symm
      rw [← V_main_arg0 m c]
      refine pay2_apply _ _ _ _ _ _ _ (fun j => Finset.sum_congr rfl fun x _ => ?_) (fun j => ?_)
        (fun j => isReal_score _ (hV c) _ _ _ _ _) (fun j => isReal_value _ (hV c) _ _ _ _)
      · blk_point [iblk, i0, i1]
      · unfold value
        blk_point [iblk, i2]
    · idx_vars x
      obtain rfl : x0 = 0 := Subsingleton.elim _ _
      have e : ((View.whole main_v0).slice (win0_3.rect t)).emb y = ix3 (⟨t.val / 68, by omega⟩ : Fin 4)
          (⟨t.val % 17 * 256 + x1.val, by omega⟩ : Fin 4352) (⟨t.val / 17 % 4 * 256 + 0 + x2.val, by omega⟩ : Fin 1024) := by
        blk_ext [i3, h0, h1, h2]
      rw [e]
      refine Eq.trans ?_ (result_ctx _ (hX c) _ _ _ (by show ¬ t.val % 17 * 256 + x1.val < 4096; omega)).symm
      rw [← V_main_arg0 m c]
      refine pay6_apply _ _ _ _ _ _ _ (fun j => Finset.sum_congr rfl fun x _ => ?_) (fun j => ?_)
        (fun j => isReal_score _ (hV c) _ _ _ _ _) (fun j => isReal_value _ (hV c) _ _ _ _)
      · blk_point [iblk, i0, i1]
      · unfold value
        blk_point [iblk, i2]
  · rw [outsAt0_A m c t (by omega) h]
    frame_out
    canon_tiles x h
    · idx_vars x
      obtain rfl : x0 = 0 := Subsingleton.elim _ _
      have e : ((View.whole main_v0).slice (win0_3.rect t)).emb y = ix3 (⟨t.val / 68, by omega⟩ : Fin 4)
          (⟨t.val % 17 * 256 + x1.val, by omega⟩ : Fin 4352) (⟨t.val / 17 % 4 * 256 + 128 + x2.val, by omega⟩ : Fin 1024) := by
        blk_ext [i3, h0, h1, h2]
      rw [e]
      refine Eq.trans ?_ (result_lat _ (hX c) _ _ _ (by show t.val % 17 * 256 + x1.val < 4096; omega)).symm
      rw [← V_main_arg0 m c]
      refine pay1_apply _ _ _ _ _ _ _ (fun j => Finset.sum_congr rfl fun x _ => ?_) (fun j => ?_)
        (fun j => isReal_score _ (hV c) _ _ _ _ _) (fun j => isReal_value _ (hV c) _ _ _ _)
      · blk_point [iblk, i0, i1]
      · unfold value
        blk_point [iblk, i2]
    · idx_vars x
      obtain rfl : x0 = 0 := Subsingleton.elim _ _
      have e : ((View.whole main_v0).slice (win0_3.rect t)).emb y = ix3 (⟨t.val / 68, by omega⟩ : Fin 4)
          (⟨t.val % 17 * 256 + x1.val, by omega⟩ : Fin 4352) (⟨t.val / 17 % 4 * 256 + 0 + x2.val, by omega⟩ : Fin 1024) := by
        blk_ext [i3, h0, h1, h2]
      rw [e]
      refine Eq.trans ?_ (result_lat _ (hX c) _ _ _ (by show t.val % 17 * 256 + x1.val < 4096; omega)).symm
      rw [← V_main_arg0 m c]
      refine pay3_apply _ _ _ _ _ _ _ (fun j => Finset.sum_congr rfl fun x _ => ?_) (fun j => ?_)
        (fun j => isReal_score _ (hV c) _ _ _ _ _) (fun j => isReal_value _ (hV c) _ _ _ _)
      · blk_point [iblk, i0, i1]
      · unfold value
        blk_point [iblk, i2]

end Cert.GqIdeal.Value

end
-- ==== Proof.GqClaim.lean ====
/- THE GROUPED-QUERY ATTENTION's claims: each program runs and gives its counters back, and from finite queries, keys and
   values the kernel and the reference end with equal results. -/
module

public import proofs.«01_k».proof.Defs
public import proofs.«01_k».proof.Proof.Gen.Gq.Frame
public import proofs.«01_k».proof.Proof.Gen.GqRefIdeal.Run
public import proofs.«01_k».proof.Proof.Gen.Pre_gq_finite
public import proofs.«01_k».proof.Proof.GqValue

@[expose] public section

set_option maxRecDepth 16384

noncomputable section

namespace Cert.Proof.Gq

open Idealize.ShloMosaic Idealize.SL.Sem
open Cert.Softmax

/-- The kernel runs, its arguments unchanged and its counters back at zero. -/
theorem frame : Cert.quiescent_Gq := fun m g _ => Cert.Gq.Gen.frame m g

/-- The kernel read at the extended reals, likewise. -/
theorem frame_ideal : Cert.quiescent_GqIdeal := fun m g _ => Cert.GqIdeal.Gen.frame m g

/-- … and under the precondition. -/
theorem frame_ideal_pre : Cert.quiescent_GqIdeal_pre_gq_finite := fun m g _ => Cert.GqIdeal.Gen.frame m g

/-- The reference, likewise. -/
theorem frame_ref : Cert.quiescent_GqRefIdeal := fun m g _ =>
  (θ_run Cert.GqRefIdeal.defs _ _).mono (fun r h => ⟨fun c => (h c).2, Idealize.ShloMosaic.sem_eq_zero_of_no_sems (by decide) r.2⟩)
    (Cert.GqRefIdeal.Value.run (F := Ideal) m g)

/-- … and under the precondition. -/
theorem frame_ref_pre : Cert.quiescent_GqRefIdeal_pre_gq_finite := fun m g _ =>
  (θ_run Cert.GqRefIdeal.defs _ _).mono (fun r h => ⟨fun c => (h c).2, Idealize.ShloMosaic.sem_eq_zero_of_no_sems (by decide) r.2⟩)
    (Cert.GqRefIdeal.Value.run (F := Ideal) m g)

/-- The precondition says that the columns the attention reads are real numbers. -/
theorem fine (X : FVec Ideal Cert.GqIdeal.S4x4352x4608 .bf16) (h : Cert.Pre_gq_finite.fn (F := Ideal) X = fun _ => 1#1) :
    Cert.GqRefIdeal.Read.Fine X := by
  intro b t e he
  have h1 := congrFun h (ix3 b t (⟨e.val - 3072, by omega⟩ : Fin 1536))
  revert h1
  pointwise [Cert.Pre_gq_finite.fn]
  intro h1
  have e1 : (⟨3072 + (e.val - 3072), by omega⟩ : Fin 4608) = e := Fin.ext (by show 3072 + (e.val - 3072) = e.val; omega)
  rw [e1] at h1
  exact isReal_of_abs h1

/-- The kernel's result is the reference's. -/
theorem value : Cert.algebraic_GqIdeal_GqRefIdeal_pre_gq_finite := by
  intro m g m' g' hpre hagree
  have hX : ∀ c : Dev Cert.GqIdeal.nD, Cert.GqRefIdeal.Read.Fine (m ((c.tc : Thread Cert.GqIdeal.nD Cert.GqIdeal.τ).loc Cert.GqIdeal.main_arg0)) :=
    fun c => fine _ (hpre c)
  refine ⟨fun c => Cert.GqIdeal.Value.REF (m ((c.tc : Thread Cert.GqIdeal.nD Cert.GqIdeal.τ).loc Cert.GqIdeal.main_arg0)), ?_, ?_⟩
  · refine (θ_run Cert.GqIdeal.defs _ _).mono (fun r h c => ⟨(h c).1.trans (Cert.GqIdeal.Value.final m hX c), (h c).2⟩)
      (Cert.GqIdeal.Value.run_blocks (F := Ideal) m g)
  · refine (θ_run Cert.GqRefIdeal.defs _ _).mono (fun r h c => ⟨(h c).1.trans ?_, (h c).2⟩)
      (Cert.GqRefIdeal.Value.run (F := Ideal) m' g')
    rw [Cert.GqRefIdeal.Read.val_main_v50_eq m' c, hagree c]

end Cert.Proof.Gq

end
-- ==== Proof.InpValue.lean ====
/- THE INPUT PROJECTION's value: every entry of the kernel's result array is the sum of 4096 products which the
   reference's matrix product takes there. A grid point writes one block of 1024 × 512 entries from a block of 1024
   whole rows and a block of 512 whole columns, so that no sum is cut and no algebra is needed. -/
module

public import proofs.«01_k».proof.Proof.Gen.InpIdeal.Value
public import proofs.«01_k».proof.Proof.Gen.InpRefIdeal.Read
public import Idealize.ShloMosaic.Lib.Pipeline.ValueKit
public import Idealize.ShloMosaic.Lib.Pointwise

@[expose] public section

set_option maxRecDepth 16384

noncomputable section

namespace Cert.InpIdeal.Value

open Cert.InpIdeal Cert.InpIdeal.Gen Idealize.ShloMosaic Idealize.ShloMosaic.TcCoe Idealize.SL.Sem
open Idealize.ShloMosaic.Pipeline (Dat)

variable (m : (ℓ : Loc nD τ sig) → Buf (Elt Ideal) ℓ)

/-- The blocks of point `t`: the rows of block `t / 23`, the columns of block `t % 23`. -/
theorem idx : ∀ t : Fin cfg0.N, win0_0.index t = ![t.val / 23, 0] ∧ win0_1.index t = ![0, t.val % 23]
    ∧ win0_2.index t = ![t.val / 23, t.val % 23] :=
  (by decide +kernel : ∀ t : Fin grid0.N, _)

/-- The product as the reference has it, of the kernel's argument arrays. -/
abbrev REF (X : FVec Ideal S4x4352x4096 .bf16) (W : FVec Ideal S4096x11792 .f32) : FVec Ideal S17408x11776 .f32 :=
  Cert.InpRefIdeal.Read.val_main_v3 (F := Ideal) X W

/-- What a point computes: row `a` of its rows times column `b` of its columns. -/
theorem pay_apply (x : FVec Ideal S1024x4096 .bf16) (w : FVec Ideal S4096x512 .bf16) (a : Fin 1024) (b : Fin 512) :
    k0_pay1 (F := Ideal) x w (ix2 a b) = ∑ k : Fin 4096, x (ix2 a k) * w (ix2 k b) := by
  pointwise [k0_pay1]

/-- What the reference computes: the rows are the tokens of the four sequences one after another. -/
theorem REF_apply (X : FVec Ideal S4x4352x4096 .bf16) (W : FVec Ideal S4096x11792 .f32) (r : Fin 17408) (b : Fin 11776) :
    REF X W (ix2 r b) = ∑ k : Fin 4096,
      X (ix3 (⟨r.val / 4352, by omega⟩ : Fin 4) (⟨r.val % 4352, by omega⟩ : Fin 4352) k) * W (ix2 k (⟨b.val, by omega⟩ : Fin 11792)) := by
  unfold REF
  rw [Cert.InpRefIdeal.Read.val_main_v3_apply, Cert.InpRefIdeal.Read.val_main_v2_apply, Cert.InpRefIdeal.Read.val_main_v1_apply]
  refine Finset.sum_congr rfl fun k _ => ?_
  rw [Cert.InpRefIdeal.Read.val_main_v0_apply]
  congr 2
  · blk_ext []
  · blk_ext []

/-- The rows as the region finds them. -/
theorem rows (c : Dev nD) (r : Fin 17408) (k : Fin 4096) :
    V m c main_v0 (ix2 r k) = m ((c : Thread nD τ).loc main_arg0)
      (ix3 (⟨r.val / 4352, by omega⟩ : Fin 4) (⟨r.val % 4352, by omega⟩ : Fin 4352) k) := by
  entry_read
  pointwise

/-- The columns as the region finds them. -/
theorem cols (c : Dev nD) (k : Fin 4096) (b : Fin 11776) :
    V m c main_v2 (ix2 k b) = m ((c : Thread nD τ).loc main_arg1) (ix2 k (⟨b.val, by omega⟩ : Fin 11792)) := by
  entry_read
  pointwise

/-- Every entry a point writes is the reference's entry there. -/
theorem point (c : Dev nD) (t : Fin cfg0.N) (y : S1024x512.Idx) :
    k0_pay1 (F := Ideal) (iblk m c 0 t) (iblk m c 1 t) y
      = REF (m ((c : Thread nD τ).loc main_arg0)) (m ((c : Thread nD τ).loc main_arg1)) (((cfg0.win 2).blk t).view.emb y) := by
  obtain ⟨h0, h1, h2⟩ := idx t
  have ht : t.val < 391 := t.isLt
  idx_vars y
  have e : ((cfg0.win 2).blk t).view.emb (ix2 y0 y1) = ix2 (⟨t.val / 23 * 1024 + y0.val, by omega⟩ : Fin 17408) (⟨t.val % 23 * 512 + y1.val, by omega⟩ : Fin 11776) := by
    blk_ext [h2]
  rw [e, REF_apply, pay_apply]
  refine Finset.sum_congr rfl fun k _ => ?_
  rw [← rows m c, ← cols m c]
  blk_point [iblk, h0, h1]

/-- The whole result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.InpIdeal.Value

end
-- ==== Proof.InpClaim.lean ====
/- THE INPUT PROJECTION's claims: each program runs and gives its counters back, and the kernel and the reference end
   with equal results. -/
module

public import proofs.«01_k».proof.Defs
public import proofs.«01_k».proof.Proof.Gen.Inp.Frame
public import proofs.«01_k».proof.Proof.Gen.InpRefIdeal.Run
public import proofs.«01_k».proof.Proof.InpValue

@[expose] public section

set_option maxRecDepth 16384

noncomputable section

namespace Cert.Proof.Inp

open Idealize.ShloMosaic Idealize.SL.Sem

/-- The kernel runs, its arguments unchanged and its counters back at zero. -/
theorem frame : Cert.quiescent_Inp := fun m g _ => Cert.Inp.Gen.frame m g

/-- The kernel read at the extended reals, likewise. -/
theorem frame_ideal : Cert.quiescent_InpIdeal := fun m g _ => Cert.InpIdeal.Gen.frame m g

/-- The reference, likewise. -/
theorem frame_ref : Cert.quiescent_InpRefIdeal := fun m g _ =>
  (θ_run Cert.InpRefIdeal.defs _ _).mono (fun r h => ⟨fun c => (h c).2, Idealize.ShloMosaic.sem_eq_zero_of_no_sems (by decide) r.2⟩)
    (Cert.InpRefIdeal.Value.run (F := Ideal) m g)

/-- The kernel's result is the reference's. -/
theorem value : Cert.algebraic_InpIdeal_InpRefIdeal := by
  intro m g m' g' _ hagree
  refine ⟨fun c => Cert.InpIdeal.Value.REF (m ((c.tc : Thread Cert.InpIdeal.nD Cert.InpIdeal.τ).loc Cert.InpIdeal.main_arg0))
      (m ((c.tc : Thread Cert.InpIdeal.nD Cert.InpIdeal.τ).loc Cert.InpIdeal.main_arg1)), ?_, ?_⟩
  · refine (θ_run Cert.InpIdeal.defs _ _).mono (fun r h c => ⟨(h c).1.trans (Cert.InpIdeal.Value.final m c), (h c).2⟩)
      (Cert.InpIdeal.Value.run_blocks (F := Ideal) m g)
  · refine (θ_run Cert.InpRefIdeal.defs _ _).mono (fun r h c => ⟨(h c).1.trans ?_, (h c).2⟩)
      (Cert.InpRefIdeal.Value.run (F := Ideal) m' g')
    rw [(hagree c).1, (hagree c).2]
    exact Cert.InpRefIdeal.Read.val_main_v3_eq _ _

end Cert.Proof.Inp

end
-- ==== Proof.OutpValue.lean ====
/- THE OUTPUT PROJECTION's value: the reference lays the four mixers' results side by side and multiplies once; the
   kernel multiplies each of the four by its own 1024 rows of the weights and adds the products. The sum over the 4096
   joined columns is the sum of the four sums. -/
module

public import proofs.«01_k».proof.Proof.Gen.OutpIdeal.Value
public import proofs.«01_k».proof.Proof.Gen.OutpRefIdeal.Read
public import Idealize.ShloMosaic.Lib.Pipeline.ValueKit
public import Idealize.ShloMosaic.Lib.Pointwise

@[expose] public section

set_option maxRecDepth 16384

noncomputable section

namespace Cert.OutpIdeal.Value

open Cert.OutpIdeal Cert.OutpIdeal.Gen Idealize.ShloMosaic Idealize.ShloMosaic.TcCoe Idealize.SL.Sem
open Idealize.ShloMosaic.Pipeline (Dat)

variable (m : (ℓ : Loc nD τ sig) → Buf (Elt Ideal) ℓ)

/-- The blocks of point `t`: the rows of block `t / 8` of each of the four, the columns of block `t % 8`. -/
theorem idx : ∀ t : Fin cfg0.N, win0_0.index t = ![t.val / 8, 0] ∧ win0_1.index t = ![t.val / 8, 0]
    ∧ win0_2.index t = ![t.val / 8, 0] ∧ win0_3.index t = ![t.val / 8, 0] ∧ win0_4.index t = ![0, t.val % 8]
    ∧ win0_5.index t = ![t.val / 8, t.val % 8] :=
  (by decide +kernel : ∀ t : Fin grid0.N, _)

/-- The product as the reference has it, of the kernel's argument arrays. -/
abbrev REF (X Y Z U : FVec Ideal S4x4352x1024 .bf16) (W : FVec Ideal S4096x4096 .f32) : FVec Ideal S17408x4096 .f32 :=
  Cert.OutpRefIdeal.Read.val_main_v3 (F := Ideal) X Y Z U W

/-- A sum over 4096 is the sum of its four sums over 1024. -/
theorem sum_quarters (f : Fin 4096 → EReal) : ∑ k : Fin 4096, f k
    = ∑ k : Fin 1024, f ⟨k.val, by omega⟩ + ∑ k : Fin 1024, f ⟨1024 + k.val, by omega⟩
      + ∑ k : Fin 1024, f ⟨2048 + k.val, by omega⟩ + ∑ k : Fin 1024, f ⟨3072 + k.val, by omega⟩ := by
  have h1 := Fin.sum_univ_add (a := 3072) (b := 1024) f
  have h2 := Fin.sum_univ_add (a := 2048) (b := 1024) fun k : Fin 3072 => f ⟨k.val, by omega⟩
  have h3 := Fin.sum_univ_add (a := 1024) (b := 1024) fun k : Fin 2048 => f ⟨k.val, by omega⟩
  refine h1.trans (congrArg (· + _) (h2.trans (congrArg (· + _) h3)))

/-- What a point computes: the four products of its rows and its columns, added up. -/
theorem pay_apply (x y z u : FVec Ideal S1024x1024 .bf16) (wx wy wz wu : FVec Ideal S1024x512 .bf16) (a : Fin 1024) (b : Fin 512) :
    k0_pay1 (F := Ideal) x wx y wy z wz u wu (ix2 a b)
      = ∑ k : Fin 1024, x (ix2 a k) * wx (ix2 k b) + ∑ k : Fin 1024, y (ix2 a k) * wy (ix2 k b)
        + ∑ k : Fin 1024, z (ix2 a k) * wz (ix2 k b) + ∑ k : Fin 1024, u (ix2 a k) * wu (ix2 k b) := by
  pointwise [k0_pay1]

/-- The four laid side by side, read in each one's columns. -/
theorem cat_apply (X Y Z U : FVec Ideal S4x4352x1024 .bf16) (b : Fin 4) (t : Fin 4352) (k : Fin 1024) :
    Cert.OutpRefIdeal.Read.val_main_v0 (F := Ideal) X Y Z U (ix3 b t (⟨k.val, by omega⟩ : Fin 4096)) = X (ix3 b t k)
    ∧ Cert.OutpRefIdeal.Read.val_main_v0 (F := Ideal) X Y Z U (ix3 b t (⟨1024 + k.val, by omega⟩ : Fin 4096)) = Y (ix3 b t k)
    ∧ Cert.OutpRefIdeal.Read.val_main_v0 (F := Ideal) X Y Z U (ix3 b t (⟨2048 + k.val, by omega⟩ : Fin 4096)) = Z (ix3 b t k)
    ∧ Cert.OutpRefIdeal.Read.val_main_v0 (F := Ideal) X Y Z U (ix3 b t (⟨3072 + k.val, by omega⟩ : Fin 4096)) = U (ix3 b t k) := by
  refine ⟨?_, ?_, ?_, ?_⟩ <;> pointwise [Cert.OutpRefIdeal.Read.val_main_v0]
  · rw [dif_neg (by omega), dif_neg (by omega), dif_pos (by omega)]
    blk_ext []
  · rw [dif_neg (by omega), dif_neg (by omega), dif_neg (by omega)]
    blk_ext []

/-- What the reference computes: the rows are the tokens of the four sequences one after another. -/
theorem REF_apply (X Y Z U : FVec Ideal S4x4352x1024 .bf16) (W : FVec Ideal S4096x4096 .f32) (r : Fin 17408) (b : Fin 4096) :
    REF X Y Z U W (ix2 r b)
      = ∑ k : Fin 1024, X (ix3 (⟨r.val / 4352, by omega⟩ : Fin 4) (⟨r.val % 4352, by omega⟩ : Fin 4352) k) * W (ix2 (⟨k.val, by omega⟩ : Fin 4096) b)
        + ∑ k : Fin 1024, Y (ix3 (⟨r.val / 4352, by omega⟩ : Fin 4) (⟨r.val % 4352, by omega⟩ : Fin 4352) k) * W (ix2 (⟨1024 + k.val, by omega⟩ : Fin 4096) b)
        + ∑ k : Fin 1024, Z (ix3 (⟨r.val / 4352, by omega⟩ : Fin 4) (⟨r.val % 4352, by omega⟩ : Fin 4352) k) * W (ix2 (⟨2048 + k.val, by omega⟩ : Fin 4096) b)
        + ∑ k : Fin 1024, U (ix3 (⟨r.val / 4352, by omega⟩ : Fin 4) (⟨r.val % 4352, by omega⟩ : Fin 4352) k) * W (ix2 (⟨3072 + k.val, by omega⟩ : Fin 4096) b) := by
  have e : REF X Y Z U W (ix2 r b) = ∑ k : Fin 4096, Cert.OutpRefIdeal.Read.val_main_v0 (F := Ideal) X Y Z U
      (ix3 (⟨r.val / 4352, by omega⟩ : Fin 4) (⟨r.val % 4352, by omega⟩ : Fin 4352) k) * W (ix2 k b) := by
    unfold REF
    rw [Cert.OutpRefIdeal.Read.val_main_v3_apply, Cert.OutpRefIdeal.Read.val_main_v2_apply]
    refine Finset.sum_congr rfl fun k _ => ?_
    rw [Cert.OutpRefIdeal.Read.val_main_v1_apply]
    congr 2
    · blk_ext []
    · blk_ext []
  rw [e, sum_quarters]
  have h := fun k => cat_apply X Y Z U (⟨r.val / 4352, by omega⟩ : Fin 4) (⟨r.val % 4352, by omega⟩ : Fin 4352) k
  refine congrArg₂ (· + ·) (congrArg₂ (· + ·) (congrArg₂ (· + ·) ?_ ?_) ?_) ?_ <;> refine Finset.sum_congr rfl fun k _ => ?_
  · exact congrArg (· * _) (h k).1
  · exact congrArg (· * _) (h k).2.1
  · exact congrArg (· * _) (h k).2.2.1
  · exact congrArg (· * _) (h k).2.2.2

/-- The rows of each of the four as the region finds them. -/
theorem rows (c : Dev nD) (r : Fin 17408) (k : Fin 1024) :
    V m c main_v0 (ix2 r k) = m ((c : Thread nD τ).loc main_arg0) (ix3 (⟨r.val / 4352, by omega⟩ : Fin 4) (⟨r.val % 4352, by omega⟩ : Fin 4352) k)
    ∧ V m c main_v1 (ix2 r k) = m ((c : Thread nD τ).loc main_arg1) (ix3 (⟨r.val / 4352, by omega⟩ : Fin 4) (⟨r.val % 4352, by omega⟩ : Fin 4352) k)
    ∧ V m c main_v2 (ix2 r k) = m ((c : Thread nD τ).loc main_arg2) (ix3 (⟨r.val / 4352, by omega⟩ : Fin 4) (⟨r.val % 4352, by omega⟩ : Fin 4352) k)
    ∧ V m c main_v3 (ix2 r k) = m ((c : Thread nD τ).loc main_arg3) (ix3 (⟨r.val / 4352, by omega⟩ : Fin 4) (⟨r.val % 4352, by omega⟩ : Fin 4352) k) := by
  refine ⟨?_, ?_, ?_, ?_⟩ <;> entry_read <;> pointwise

/-- The weights as the region finds them. -/
theorem cols (c : Dev nD) (k : Fin 4096) (b : Fin 4096) :
    V m c main_v4 (ix2 k b) = m ((c : Thread nD τ).loc main_arg4) (ix2 k b) := by
  entry_read
  pointwise

/-- Every entry a point writes is the reference's entry there. -/
theorem point (c : Dev nD) (t : Fin cfg0.N) (y : S1024x512.Idx) :
    k0_pay1 (F := Ideal) (iblk m c 0 t) (View.ld (iblk m c 4 t) r0_1) (iblk m c 1 t) (View.ld (iblk m c 4 t) r0_2)
        (iblk m c 2 t) (View.ld (iblk m c 4 t) r0_3) (iblk m c 3 t) (View.ld (iblk m c 4 t) r0_4) y
      = REF (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 5).blk t).view.emb y) := by
  obtain ⟨h0, h1, h2, h3, h4, h5⟩ := idx t
  have ht : t.val < 136 := t.isLt
  idx_vars y
  have e : ((cfg0.win 5).blk t).view.emb (ix2 y0 y1) = ix2 (⟨t.val / 8 * 1024 + y0.val, by omega⟩ : Fin 17408) (⟨t.val % 8 * 512 + y1.val, by omega⟩ : Fin 4096) := by
    blk_ext [h5]
  rw [e, REF_apply, pay_apply]
  refine congrArg₂ (· + ·) (congrArg₂ (· + ·) (congrArg₂ (· + ·) ?_ ?_) ?_) ?_ <;> refine Finset.sum_congr rfl fun k _ => ?_
  · rw [← (rows m c _ _).1, ← cols m c]
    blk_point [iblk, h0, h4]
  · rw [← (rows m c _ _).2.1, ← cols m c]
    blk_point [iblk, h1, h4]
  · rw [← (rows m c _ _).2.2.1, ← cols m c]
    blk_point [iblk, h2, h4]
  · rw [← (rows m c _ _).2.2.2, ← cols m c]
    blk_point [iblk, h3, h4]

/-- The whole result array after the run. -/
theorem final (c : Dev nD) : (dats m 0 c).arrAt 5 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5]
  frame_out
  exact point m c t y

end Cert.OutpIdeal.Value

end
-- ==== Proof.OutpClaim.lean ====
/- THE OUTPUT PROJECTION's claims: each program runs and gives its counters back, and the kernel and the reference end
   with equal results. -/
module

public import proofs.«01_k».proof.Defs
public import proofs.«01_k».proof.Proof.Gen.Outp.Frame
public import proofs.«01_k».proof.Proof.Gen.OutpRefIdeal.Run
public import proofs.«01_k».proof.Proof.OutpValue

@[expose] public section

set_option maxRecDepth 16384

noncomputable section

namespace Cert.Proof.Outp

open Idealize.ShloMosaic Idealize.SL.Sem

/-- The kernel runs, its arguments unchanged and its counters back at zero. -/
theorem frame : Cert.quiescent_Outp := fun m g _ => Cert.Outp.Gen.frame m g

/-- The kernel read at the extended reals, likewise. -/
theorem frame_ideal : Cert.quiescent_OutpIdeal := fun m g _ => Cert.OutpIdeal.Gen.frame m g

/-- The reference, likewise. -/
theorem frame_ref : Cert.quiescent_OutpRefIdeal := fun m g _ =>
  (θ_run Cert.OutpRefIdeal.defs _ _).mono (fun r h => ⟨fun c => (h c).2, Idealize.ShloMosaic.sem_eq_zero_of_no_sems (by decide) r.2⟩)
    (Cert.OutpRefIdeal.Value.run (F := Ideal) m g)

/-- The kernel's result is the reference's. -/
theorem value : Cert.algebraic_OutpIdeal_OutpRefIdeal := by
  intro m g m' g' _ hagree
  refine ⟨fun c => Cert.OutpIdeal.Value.REF (m ((c.tc : Thread Cert.OutpIdeal.nD Cert.OutpIdeal.τ).loc Cert.OutpIdeal.main_arg0))
      (m ((c.tc : Thread Cert.OutpIdeal.nD Cert.OutpIdeal.τ).loc Cert.OutpIdeal.main_arg1))
      (m ((c.tc : Thread Cert.OutpIdeal.nD Cert.OutpIdeal.τ).loc Cert.OutpIdeal.main_arg2))
      (m ((c.tc : Thread Cert.OutpIdeal.nD Cert.OutpIdeal.τ).loc Cert.OutpIdeal.main_arg3))
      (m ((c.tc : Thread Cert.OutpIdeal.nD Cert.OutpIdeal.τ).loc Cert.OutpIdeal.main_arg4)), ?_, ?_⟩
  · refine (θ_run Cert.OutpIdeal.defs _ _).mono (fun r h c => ⟨(h c).1.trans (Cert.OutpIdeal.Value.final m c), (h c).2⟩)
      (Cert.OutpIdeal.Value.run_blocks (F := Ideal) m g)
  · refine (θ_run Cert.OutpRefIdeal.defs _ _).mono (fun r h c => ⟨(h c).1.trans ?_, (h c).2⟩)
      (Cert.OutpRefIdeal.Value.run (F := Ideal) m' g')
    obtain ⟨a0, a1, a2, a3, a4⟩ := hagree c
    rw [a0, a1, a2, a3, a4]
    exact Cert.OutpRefIdeal.Read.val_main_v3_eq _ _ _ _ _

end Cert.Proof.Outp

end
-- ==== Proof.FiltValue.lean ====
/- THE FILTERS' SPECTRA's value: every entry of the kernel's result is the sum of 4096 products which the reference's
   product takes there, its factors the other way round. A grid point writes a block of 1024 × 512 entries of one of the
   two filters from 1024 whole rows and 512 whole columns. -/
module

public import proofs.«01_k».proof.Proof.Gen.FiltIdeal.Value
public import proofs.«01_k».proof.Proof.Gen.FiltRefIdeal.Read
public import Idealize.ShloMosaic.Lib.Pipeline.ValueKit
public import Idealize.ShloMosaic.Lib.Pointwise

@[expose] public section

set_option maxRecDepth 16384

noncomputable section

namespace Cert.FiltIdeal.Value

open Cert.FiltIdeal Cert.FiltIdeal.Gen Idealize.ShloMosaic Idealize.ShloMosaic.TcCoe Idealize.SL.Sem
open Idealize.ShloMosaic.Pipeline (Dat)

variable (m : (ℓ : Loc nD τ sig) → Buf (Elt Ideal) ℓ)

/-- The blocks of point `t`: the rows of block `t / 4`, the columns of block `t % 2` of filter `t / 2 % 2`. -/
theorem idx : ∀ t : Fin cfg0.N, win0_0.index t = ![t.val / 4, 0] ∧ win0_1.index t = ![t.val / 2 % 2, 0, t.val % 2]
    ∧ win0_2.index t = ![t.val / 2 % 2, t.val / 4, t.val % 2] :=
  (by decide +kernel : ∀ t : Fin grid0.N, _)

/-- The product as the reference has it, of the kernel's argument arrays. -/
abbrev REF (X : FVec Ideal S4096x4096 .bf16) (W : FVec Ideal S2x4096x1024 .f32) : FVec Ideal S2x4096x1024 .f32 :=
  Cert.FiltRefIdeal.Read.val_main_v2 (F := Ideal) X W

/-- What a point computes: row `a` of its rows times column `b` of its columns. -/
theorem pay_apply (x : FVec Ideal S1024x4096 .bf16) (w : FVec Ideal S1x4096x512 .bf16) (a : Fin 1024) (b : Fin 512) :
    k0_pay1 (F := Ideal) x w (ix3 (0 : Fin 1) a b) = ∑ k : Fin 4096, x (ix2 a k) * w (ix3 (0 : Fin 1) k b) := by
  pointwise [k0_pay1]

/-- What the reference computes, the factors in the kernel's order. -/
theorem REF_apply (X : FVec Ideal S4096x4096 .bf16) (W : FVec Ideal S2x4096x1024 .f32) (o : Fin 2) (r : Fin 4096) (b : Fin 1024) :
    REF X W (ix3 o r b) = ∑ k : Fin 4096, X (ix2 r k) * W (ix3 o k b) := by
  unfold REF
  rw [Cert.FiltRefIdeal.Read.val_main_v2_apply, Cert.FiltRefIdeal.Read.val_main_v1_apply]
  refine Finset.sum_congr rfl fun k _ => (mul_comm _ _).trans ?_
  rw [Cert.FiltRefIdeal.Read.val_main_v0_apply]
  congr 2
  · blk_ext []
  · blk_ext []

/-- The filters as the region finds them. -/
theorem cols (c : Dev nD) (o : Fin 2) (k : Fin 4096) (b : Fin 1024) :
    V m c main_v0 (ix3 o k b) = m ((c : Thread nD τ).loc main_arg1) (ix3 o k b) := by
  entry_read
  pointwise

/-- The rows as the region finds them. -/
theorem rows (c : Dev nD) (r : Fin 4096) (k : Fin 4096) :
    V m c main_arg0 (ix2 r k) = m ((c : Thread nD τ).loc main_arg0) (ix2 r k) := by
  rw [V_main_arg0]

/-- Every entry a point writes is the reference's entry there. -/
theorem point (c : Dev nD) (t : Fin cfg0.N) (y : S1x1024x512.Idx) :
    k0_pay1 (F := Ideal) (iblk m c 0 t) (iblk m c 1 t) y
      = REF (m ((c : Thread nD τ).loc main_arg0)) (m ((c : Thread nD τ).loc main_arg1)) (((cfg0.win 2).blk t).view.emb y) := by
  obtain ⟨h0, h1, h2⟩ := idx t
  have ht : t.val < 16 := t.isLt
  idx_vars y
  obtain rfl : y0 = 0 := Subsingleton.elim _ _
  have e : ((cfg0.win 2).blk t).view.emb (ix3 (0 : Fin 1) y1 y2) = ix3 (⟨t.val / 2 % 2, by omega⟩ : Fin 2)
      (⟨t.val / 4 * 1024 + y1.val, by omega⟩ : Fin 4096) (⟨t.val % 2 * 512 + y2.val, by omega⟩ : Fin 1024) := by
    blk_ext [h2]
  rw [e, REF_apply, pay_apply]
  refine Finset.sum_congr rfl fun k _ => ?_
  rw [← rows m c, ← cols m c]
  blk_point [iblk, h0, h1]

/-- The whole result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.FiltIdeal.Value

end
-- ==== Proof.FiltClaim.lean ====
/- THE FILTERS' SPECTRA's claims: each program runs and gives its counters back, and the kernel and the reference end
   with equal results. -/
module

public import proofs.«01_k».proof.Defs
public import proofs.«01_k».proof.Proof.Gen.Filt.Frame
public import proofs.«01_k».proof.Proof.Gen.FiltRefIdeal.Run
public import proofs.«01_k».proof.Proof.FiltValue

@[expose] public section

set_option maxRecDepth 16384

noncomputable section

namespace Cert.Proof.Filt

open Idealize.ShloMosaic Idealize.SL.Sem

/-- The kernel runs, its arguments unchanged and its counters back at zero. -/
theorem frame : Cert.quiescent_Filt := fun m g _ => Cert.Filt.Gen.frame m g

/-- The kernel read at the extended reals, likewise. -/
theorem frame_ideal : Cert.quiescent_FiltIdeal := fun m g _ => Cert.FiltIdeal.Gen.frame m g

/-- The reference, likewise. -/
theorem frame_ref : Cert.quiescent_FiltRefIdeal := fun m g _ =>
  (θ_run Cert.FiltRefIdeal.defs _ _).mono (fun r h => ⟨fun c => (h c).2, Idealize.ShloMosaic.sem_eq_zero_of_no_sems (by decide) r.2⟩)
    (Cert.FiltRefIdeal.Value.run (F := Ideal) m g)

/-- The kernel's result is the reference's. -/
theorem value : Cert.algebraic_FiltIdeal_FiltRefIdeal := by
  intro m g m' g' _ hagree
  refine ⟨fun c => Cert.FiltIdeal.Value.REF (m ((c.tc : Thread Cert.FiltIdeal.nD Cert.FiltIdeal.τ).loc Cert.FiltIdeal.main_arg0))
      (m ((c.tc : Thread Cert.FiltIdeal.nD Cert.FiltIdeal.τ).loc Cert.FiltIdeal.main_arg1)), ?_, ?_⟩
  · refine (θ_run Cert.FiltIdeal.defs _ _).mono (fun r h c => ⟨(h c).1.trans (Cert.FiltIdeal.Value.final m c), (h c).2⟩)
      (Cert.FiltIdeal.Value.run_blocks (F := Ideal) m g)
  · refine (θ_run Cert.FiltRefIdeal.defs _ _).mono (fun r h c => ⟨(h c).1.trans ?_, (h c).2⟩)
      (Cert.FiltRefIdeal.Value.run (F := Ideal) m' g')
    rw [(hagree c).1, (hagree c).2]
    exact Cert.FiltRefIdeal.Read.val_main_v2_eq _ _

end Cert.Proof.Filt

end
-- ==== Proof.FwdValue.lean ====
/- THE PRODUCT OF SPECTRA's value: the two products of the transform's rows with a block of 512 columns are the
   reference's sums, their factors the other way round; the first row, which two real bins share, is told apart by
   the row number of the block in the kernel and by that of the whole in the reference. -/
module

public import proofs.«01_k».proof.Proof.Gen.FwdIdeal.Value
public import proofs.«01_k».proof.Proof.Gen.FwdRefIdeal.Read
public import Idealize.ShloMosaic.Lib.Pipeline.ValueKit
public import Idealize.ShloMosaic.Lib.Pointwise

@[expose] public section

set_option maxRecDepth 16384

noncomputable section

namespace Cert.FwdIdeal.Value

open Cert.FwdIdeal Cert.FwdIdeal.Gen Idealize.ShloMosaic Idealize.ShloMosaic.TcCoe Idealize.SL.Sem
open Idealize.ShloMosaic.Pipeline (Dat)

variable (m : (ℓ : Loc nD τ sig) → Buf (Elt Ideal) ℓ)

/-- The blocks of point `t`: the rows of blocks `t / 8` and `8 + t / 8`, the columns of block `t % 2` of sequence `t / 2 % 4`. -/
theorem idx : ∀ t : Fin cfg0.N, win0_0.index t = ![t.val / 8, 0] ∧ win0_1.index t = ![8 + t.val / 8, 0]
    ∧ win0_2.index t = ![t.val / 2 % 4, 0, t.val % 2] ∧ win0_3.index t = ![t.val / 8, t.val % 2]
    ∧ win0_4.index t = ![t.val / 8, t.val % 2] ∧ win0_5.index t = ![t.val / 2 % 4, t.val / 8, t.val % 2]
    ∧ win0_6.index t = ![t.val / 2 % 4, t.val / 8, t.val % 2] ∧ (grid0.coords t 0).val = t.val / 8 :=
  (by decide +kernel : ∀ t : Fin grid0.N, _)

/-- The real parts as the reference has them, of the kernel's argument arrays. -/
abbrev RE (X : FVec Ideal S8192x4096 .bf16) (Z : FVec Ideal S4x4096x1024 .bf16) (K J : FVec Ideal S4096x1024 .f32) :
    FVec Ideal S4x4096x1024 .bf16 :=
  Cert.FwdRefIdeal.Read.val_main_v32 (F := Ideal) X Z K J

/-- The imaginary parts as the reference has them. -/
abbrev IM (X : FVec Ideal S8192x4096 .bf16) (Z : FVec Ideal S4x4096x1024 .bf16) (K J : FVec Ideal S4096x1024 .f32) :
    FVec Ideal S4x4096x1024 .bf16 :=
  Cert.FwdRefIdeal.Read.val_main_v33 (F := Ideal) X Z K J

/-- A row of the transform times a column. -/
def row (X : FVec Ideal S8192x4096 .bf16) (Z : FVec Ideal S4x4096x1024 .bf16) (r : Fin 8192) (b : Fin 4) (j : Fin 1024) : EReal :=
  ∑ k : Fin 4096, X (ix2 r k) * Z (ix3 b k j)

/-- The reference's transform, its real rows and its imaginary rows. -/
theorem ref_row (X : FVec Ideal S8192x4096 .bf16) (Z : FVec Ideal S4x4096x1024 .bf16) (b : Fin 4) (r : Fin 8192) (j : Fin 1024) :
    Cert.FwdRefIdeal.Read.val_main_v3 (F := Ideal) X Z (ix3 b r j) = row X Z r b j := by
  rw [Cert.FwdRefIdeal.Read.val_main_v3_apply, Cert.FwdRefIdeal.Read.val_main_v2_apply]
  refine Finset.sum_congr rfl fun k _ => (mul_comm _ _).trans ?_
  rw [Cert.FwdRefIdeal.Read.val_main_v0_apply, Cert.FwdRefIdeal.Read.val_main_v1_apply]
  congr 2
  · blk_ext []
  · blk_ext []

/-- A choice by whether a row number is nought. -/
theorem select_first {α : Type} (r : ℕ) (h : r < 4096) (x y : α) :
    Scalar.select (IntOp.cmpi .eq (BitVec.ofNat 32 r) 0#32) x y = if r = 0 then x else y := by
  by_cases h0 : r = 0
  · subst h0
    rfl
  · have hne : BitVec.ofNat 32 r ≠ 0#32 := fun e => h0 (by
      have e' := congrArg BitVec.toNat e
      simp only [BitVec.toNat_ofNat, Nat.zero_mod] at e'
      omega)
    rw [if_neg h0]
    show (if BitVec.ofBool (BitVec.ofNat 32 r == 0#32) = 1#1 then x else y) = y
    rw [beq_false_of_ne hne]
    rfl

/-- The real part of row `r`: the first row has no imaginary bin of its own. -/
theorem RE_apply (X : FVec Ideal S8192x4096 .bf16) (Z : FVec Ideal S4x4096x1024 .bf16) (K J : FVec Ideal S4096x1024 .f32)
    (b : Fin 4) (r : Fin 4096) (j : Fin 1024) :
    RE X Z K J (ix3 b r j) = if r.val = 0 then row X Z ⟨r.val, by omega⟩ b j * K (ix2 r j)
      else row X Z ⟨r.val, by omega⟩ b j * K (ix2 r j) - row X Z ⟨4096 + r.val, by omega⟩ b j * J (ix2 r j) := by
  unfold RE
  rw [Cert.FwdRefIdeal.Read.val_main_v32_apply, Cert.FwdRefIdeal.Read.val_main_v20_apply,
    Cert.FwdRefIdeal.Read.val_main_call0_v0_apply, Cert.FwdRefIdeal.Read.val_main_v9_apply,
    Cert.FwdRefIdeal.Read.val_main_v7_apply, Cert.FwdRefIdeal.Read.val_main_v6_apply,
    Cert.FwdRefIdeal.Read.val_main_v8_apply, Cert.FwdRefIdeal.Read.val_main_c_apply]
  refine (select_first r.val r.isLt _ _).trans ?_
  rw [Cert.FwdRefIdeal.Read.val_main_v12_apply, Cert.FwdRefIdeal.Read.val_main_v19_apply,
    Cert.FwdRefIdeal.Read.val_main_v15_apply, Cert.FwdRefIdeal.Read.val_main_v18_apply,
    Cert.FwdRefIdeal.Read.val_main_v4_apply, Cert.FwdRefIdeal.Read.val_main_v5_apply,
    Cert.FwdRefIdeal.Read.val_main_v11_apply, Cert.FwdRefIdeal.Read.val_main_v10_apply,
    Cert.FwdRefIdeal.Read.val_main_v14_apply, Cert.FwdRefIdeal.Read.val_main_v13_apply,
    Cert.FwdRefIdeal.Read.val_main_v17_apply, Cert.FwdRefIdeal.Read.val_main_v16_apply, ← ref_row, ← ref_row]
  refine congrArg₂ (fun x y : EReal => if r.val = 0 then x else y) (congrArg₂ (· * ·) (congrArg _ ?_) (congrArg K ?_))
    (congrArg₂ (· - ·) (congrArg₂ (· * ·) (congrArg _ ?_) (congrArg K ?_)) (congrArg₂ (· * ·) (congrArg _ ?_) (congrArg J ?_))) <;> blk_ext []

/-- The imaginary part of row `r`: in the first row the last bin's real part. -/
theorem IM_apply (X : FVec Ideal S8192x4096 .bf16) (Z : FVec Ideal S4x4096x1024 .bf16) (K J : FVec Ideal S4096x1024 .f32)
    (b : Fin 4) (r : Fin 4096) (j : Fin 1024) :
    IM X Z K J (ix3 b r j) = if r.val = 0 then row X Z ⟨4096 + r.val, by omega⟩ b j * J (ix2 r j)
      else row X Z ⟨r.val, by omega⟩ b j * J (ix2 r j) + row X Z ⟨4096 + r.val, by omega⟩ b j * K (ix2 r j) := by
  unfold IM
  rw [Cert.FwdRefIdeal.Read.val_main_v33_apply, Cert.FwdRefIdeal.Read.val_main_v31_apply,
    Cert.FwdRefIdeal.Read.val_main_call1_v0_apply, Cert.FwdRefIdeal.Read.val_main_v9_apply,
    Cert.FwdRefIdeal.Read.val_main_v7_apply, Cert.FwdRefIdeal.Read.val_main_v6_apply,
    Cert.FwdRefIdeal.Read.val_main_v8_apply, Cert.FwdRefIdeal.Read.val_main_c_apply]
  refine (select_first r.val r.isLt _ _).trans ?_
  rw [Cert.FwdRefIdeal.Read.val_main_v23_apply, Cert.FwdRefIdeal.Read.val_main_v30_apply,
    Cert.FwdRefIdeal.Read.val_main_v26_apply, Cert.FwdRefIdeal.Read.val_main_v29_apply,
    Cert.FwdRefIdeal.Read.val_main_v4_apply, Cert.FwdRefIdeal.Read.val_main_v5_apply,
    Cert.FwdRefIdeal.Read.val_main_v22_apply, Cert.FwdRefIdeal.Read.val_main_v21_apply,
    Cert.FwdRefIdeal.Read.val_main_v25_apply, Cert.FwdRefIdeal.Read.val_main_v24_apply,
    Cert.FwdRefIdeal.Read.val_main_v28_apply, Cert.FwdRefIdeal.Read.val_main_v27_apply, ← ref_row, ← ref_row]
  refine congrArg₂ (fun x y : EReal => if r.val = 0 then x else y) (congrArg₂ (· * ·) (congrArg _ ?_) (congrArg J ?_))
    (congrArg₂ (· + ·) (congrArg₂ (· * ·) (congrArg _ ?_) (congrArg J ?_)) (congrArg₂ (· * ·) (congrArg _ ?_) (congrArg K ?_))) <;> blk_ext []

/-- A product of a point: row `a` of its rows times column `b` of its columns. -/
theorem prod_apply (z : FVec Ideal S1x4096x512 .bf16) (f : FVec Ideal S512x4096 .bf16) (a b : Fin 512) :
    k0_pay3 (F := Ideal) z f (ix2 a b) = ∑ k : Fin 4096, f (ix2 a k) * z (ix3 (0 : Fin 1) k b)
    ∧ k0_pay4 (F := Ideal) z f (ix2 a b) = ∑ k : Fin 4096, f (ix2 a k) * z (ix3 (0 : Fin 1) k b) := by
  constructor
  · pointwise [k0_pay3, k0_pay2]
  · pointwise [k0_pay4, k0_pay2]

/-- The mark of the first row of the whole. -/
theorem mark_apply (i : grid0.Coords) (a : Fin 512) :
    k0_pay5 i (ix2 a (0 : Fin 1)) = IntOp.cmpi .eq (BitVec.ofNat 32 (a.val + (i 0).val * 512)) 0#32 := by
  have e : BitVec.ofNat 32 a.val + BitVec.ofNat 32 (i 0).val * 512#32 = BitVec.ofNat 32 (a.val + (i 0).val * 512) := by
    rw [BitVec.ofNat_add, BitVec.ofNat_mul]
  rw [← e]
  pointwise [k0_pay5]
  rfl

/-- The real part a point computes. -/
theorem re_apply (i : grid0.Coords) (z : FVec Ideal S1x4096x512 .bf16) (f g : FVec Ideal S512x4096 .bf16)
    (k j : FVec Ideal S512x512 .f32) (a b : Fin 512) (h : a.val + (i 0).val * 512 < 4096) :
    k0_pay7 (F := Ideal) i z f g k j (ix3 (0 : Fin 1) a b)
      = (∑ q : Fin 4096, f (ix2 a q) * z (ix3 (0 : Fin 1) q b)) * k (ix2 a b)
        - (if a.val + (i 0).val * 512 = 0 then 0 else (∑ q : Fin 4096, g (ix2 a q) * z (ix3 (0 : Fin 1) q b)) * j (ix2 a b)) := by
  rw [← select_first _ h, ← mark_apply, ← (prod_apply z f a b).1, ← (prod_apply z g a b).2]
  pointwise [k0_pay7, k0_pay6]

/-- The imaginary part a point computes. -/
theorem im_apply (i : grid0.Coords) (z : FVec Ideal S1x4096x512 .bf16) (f g : FVec Ideal S512x4096 .bf16)
    (k j : FVec Ideal S512x512 .f32) (a b : Fin 512) (h : a.val + (i 0).val * 512 < 4096) :
    k0_pay1 (F := Ideal) (k0_pay8 (F := Ideal) i z f g k j) (ix3 (0 : Fin 1) a b)
      = if a.val + (i 0).val * 512 = 0 then (∑ q : Fin 4096, g (ix2 a q) * z (ix3 (0 : Fin 1) q b)) * j (ix2 a b)
        else (∑ q : Fin 4096, f (ix2 a q) * z (ix3 (0 : Fin 1) q b)) * j (ix2 a b)
          + (∑ q : Fin 4096, g (ix2 a q) * z (ix3 (0 : Fin 1) q b)) * k (ix2 a b) := by
  rw [← select_first _ h, ← mark_apply, ← (prod_apply z f a b).1, ← (prod_apply z g a b).2]
  pointwise [k0_pay1, k0_pay8, k0_pay6]

/-- The blocks of the transform's rows and of the columns that point `t` reads. -/
abbrev B0 (c : Dev nD) (t : Fin cfg0.N) : FVec Ideal S512x4096 .bf16 := iblk m c 0 t
/-- The second block of rows. -/
abbrev B1 (c : Dev nD) (t : Fin cfg0.N) : FVec Ideal S512x4096 .bf16 := iblk m c 1 t
/-- The block of columns. -/
abbrev B2 (c : Dev nD) (t : Fin cfg0.N) : FVec Ideal S1x4096x512 .bf16 := iblk m c 2 t

/-- What a point reads: its rows of the transform times its columns, and its entries of the two spectra. -/
theorem parts (c : Dev nD) (t : Fin cfg0.N) (a b : Fin 512) (ht : t.val < 64 := t.isLt) :
    row (m ((c : Thread nD τ).loc main_arg0)) (m ((c : Thread nD τ).loc main_arg1)) (⟨t.val / 8 * 512 + a.val, by omega⟩ : Fin 8192)
        (⟨t.val / 2 % 4, by omega⟩ : Fin 4) (⟨t.val % 2 * 512 + b.val, by omega⟩ : Fin 1024)
      = ∑ q : Fin 4096, B0 m c t (ix2 a q) * B2 m c t (ix3 (0 : Fin 1) q b)
    ∧ row (m ((c : Thread nD τ).loc main_arg0)) (m ((c : Thread nD τ).loc main_arg1)) (⟨4096 + (t.val / 8 * 512 + a.val), by omega⟩ : Fin 8192)
        (⟨t.val / 2 % 4, by omega⟩ : Fin 4) (⟨t.val % 2 * 512 + b.val, by omega⟩ : Fin 1024)
      = ∑ q : Fin 4096, B1 m c t (ix2 a q) * B2 m c t (ix3 (0 : Fin 1) q b)
    ∧ (iblk m c 3 t : FVec Ideal S512x512 .f32) (ix2 a b) = m ((c : Thread nD τ).loc main_arg2)
        (ix2 (⟨t.val / 8 * 512 + a.val, by omega⟩ : Fin 4096) (⟨t.val % 2 * 512 + b.val, by omega⟩ : Fin 1024))
    ∧ (iblk m c 4 t : FVec Ideal S512x512 .f32) (ix2 a b) = m ((c : Thread nD τ).loc main_arg3)
        (ix2 (⟨t.val / 8 * 512 + a.val, by omega⟩ : Fin 4096) (⟨t.val % 2 * 512 + b.val, by omega⟩ : Fin 1024)) := by
  obtain ⟨h0, h1, h2, h3, h4, h5, h6, hi⟩ := idx t
  rw [← V_main_arg0 m c, ← V_main_arg1 m c, ← V_main_arg2 m c, ← V_main_arg3 m c]
  unfold row
  refine ⟨Finset.sum_congr rfl fun k _ => Eq.symm ?_, Finset.sum_congr rfl fun k _ => Eq.symm ?_, ?_, ?_⟩
  · blk_point [B0, B2, iblk, h0, h2]
  · blk_point [B1, B2, iblk, h1, h2]
  · blk_point [iblk, h3]
  · blk_point [iblk, h4]

/-- Every real part a point writes is the reference's. -/
theorem point_re (c : Dev nD) (t : Fin cfg0.N) (y : S1x512x512.Idx) :
    k0_pay7 (F := Ideal) (grid0.coords t) (iblk m c 2 t) (iblk m c 0 t) (iblk m c 1 t) (iblk m c 3 t) (iblk m c 4 t) y
      = RE (m ((c : Thread nD τ).loc main_arg0)) (m ((c : Thread nD τ).loc main_arg1)) (m ((c : Thread nD τ).loc main_arg2)) (m ((c : Thread nD τ).loc main_arg3)) (((cfg0.win 5).blk t).view.emb y) := by
  obtain ⟨h0, h1, h2, h3, h4, h5, h6, hi⟩ := idx t
  have ht : t.val < 64 := t.isLt
  idx_vars y
  obtain rfl : y0 = 0 := Subsingleton.elim _ _
  have e : ((cfg0.win 5).blk t).view.emb (ix3 (0 : Fin 1) y1 y2) = ix3 (⟨t.val / 2 % 4, by omega⟩ : Fin 4)
      (⟨t.val / 8 * 512 + y1.val, by omega⟩ : Fin 4096) (⟨t.val % 2 * 512 + y2.val, by omega⟩ : Fin 1024) := by
    blk_ext [h5]
  obtain ⟨er, ei, ek, ej⟩ := parts m c t y1 y2
  rw [e, RE_apply, re_apply _ _ _ _ _ _ _ _ (by rw [hi]; omega), hi]
  by_cases h : t.val / 8 * 512 + y1.val = 0
  · have h' : y1.val + t.val / 8 * 512 = 0 := by omega
    refine Eq.trans ?_ (if_pos h).symm
    rw [if_pos h', sub_zero]
    exact congrArg₂ (· * ·) er.symm ek
  · have h' : ¬ y1.val + t.val / 8 * 512 = 0 := by omega
    refine Eq.trans ?_ (if_neg h).symm
    rw [if_neg h']
    exact congrArg₂ (· - ·) (congrArg₂ (· * ·) er.symm ek) (congrArg₂ (· * ·) ei.symm ej)

/-- Every imaginary part a point writes is the reference's. -/
theorem point_im (c : Dev nD) (t : Fin cfg0.N) (y : S1x512x512.Idx) :
    k0_pay1 (F := Ideal) (k0_pay8 (F := Ideal) (grid0.coords t) (iblk m c 2 t) (iblk m c 0 t) (iblk m c 1 t) (iblk m c 3 t) (iblk m c 4 t)) y
      = IM (m ((c : Thread nD τ).loc main_arg0)) (m ((c : Thread nD τ).loc main_arg1)) (m ((c : Thread nD τ).loc main_arg2)) (m ((c : Thread nD τ).loc main_arg3)) (((cfg0.win 6).blk t).view.emb y) := by
  obtain ⟨h0, h1, h2, h3, h4, h5, h6, hi⟩ := idx t
  have ht : t.val < 64 := t.isLt
  idx_vars y
  obtain rfl : y0 = 0 := Subsingleton.elim _ _
  have e : ((cfg0.win 6).blk t).view.emb (ix3 (0 : Fin 1) y1 y2) = ix3 (⟨t.val / 2 % 4, by omega⟩ : Fin 4)
      (⟨t.val / 8 * 512 + y1.val, by omega⟩ : Fin 4096) (⟨t.val % 2 * 512 + y2.val, by omega⟩ : Fin 1024) := by
    blk_ext [h6]
  obtain ⟨er, ei, ek, ej⟩ := parts m c t y1 y2
  rw [e, IM_apply, im_apply _ _ _ _ _ _ _ _ (by rw [hi]; omega), hi]
  by_cases h : t.val / 8 * 512 + y1.val = 0
  · have h' : y1.val + t.val / 8 * 512 = 0 := by omega
    refine Eq.trans ?_ (if_pos h).symm
    rw [if_pos h']
    exact congrArg₂ (· * ·) ei.symm ej
  · have h' : ¬ y1.val + t.val / 8 * 512 = 0 := by omega
    refine Eq.trans ?_ (if_neg h).symm
    rw [if_neg h']
    exact congrArg₂ (· + ·) (congrArg₂ (· * ·) er.symm ej) (congrArg₂ (· * ·) ei.symm ek)

/-- The whole array of real parts after the run. -/
theorem final_re (c : Dev nD) : (dats m 0 c).arrAt 5 (cfgs 0).N
    = RE (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  exact point_re m c t y

/-- The whole array of imaginary parts after the run. -/
theorem final_im (c : Dev nD) : (dats m 0 c).arrAt 6 (cfgs 0).N
    = IM (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]
  frame_out
  exact point_im m c t y

end Cert.FwdIdeal.Value

end
-- ==== Proof.FwdClaim.lean ====
/- THE PRODUCT OF SPECTRA's claims: each program runs and gives its counters back, and the kernel and the reference end
   with equal results. -/
module

public import proofs.«01_k».proof.Defs
public import proofs.«01_k».proof.Proof.Gen.Fwd.Frame
public import proofs.«01_k».proof.Proof.Gen.FwdRefIdeal.Run
public import proofs.«01_k».proof.Proof.FwdValue

@[expose] public section

set_option maxRecDepth 16384

noncomputable section

namespace Cert.Proof.Fwd

open Idealize.ShloMosaic Idealize.SL.Sem

/-- The kernel runs, its arguments unchanged and its counters back at zero. -/
theorem frame : Cert.quiescent_Fwd := fun m g _ => Cert.Fwd.Gen.frame m g

/-- The kernel read at the extended reals, likewise. -/
theorem frame_ideal : Cert.quiescent_FwdIdeal := fun m g _ => Cert.FwdIdeal.Gen.frame m g

/-- The reference, likewise. -/
theorem frame_ref : Cert.quiescent_FwdRefIdeal := fun m g _ =>
  (θ_run Cert.FwdRefIdeal.defs _ _).mono (fun r h => ⟨fun c => (h c).2.2, Idealize.ShloMosaic.sem_eq_zero_of_no_sems (by decide) r.2⟩)
    (Cert.FwdRefIdeal.Value.run (F := Ideal) m g)

/-- The kernel's two results are the reference's. -/
theorem value : Cert.algebraic_FwdIdeal_FwdRefIdeal := by
  intro m g m' g' _ hagree
  refine ⟨fun c => Cert.FwdIdeal.Value.RE (m ((c.tc : Thread Cert.FwdIdeal.nD Cert.FwdIdeal.τ).loc Cert.FwdIdeal.main_arg0))
      (m ((c.tc : Thread Cert.FwdIdeal.nD Cert.FwdIdeal.τ).loc Cert.FwdIdeal.main_arg1))
      (m ((c.tc : Thread Cert.FwdIdeal.nD Cert.FwdIdeal.τ).loc Cert.FwdIdeal.main_arg2))
      (m ((c.tc : Thread Cert.FwdIdeal.nD Cert.FwdIdeal.τ).loc Cert.FwdIdeal.main_arg3)),
    fun c => Cert.FwdIdeal.Value.IM (m ((c.tc : Thread Cert.FwdIdeal.nD Cert.FwdIdeal.τ).loc Cert.FwdIdeal.main_arg0))
      (m ((c.tc : Thread Cert.FwdIdeal.nD Cert.FwdIdeal.τ).loc Cert.FwdIdeal.main_arg1))
      (m ((c.tc : Thread Cert.FwdIdeal.nD Cert.FwdIdeal.τ).loc Cert.FwdIdeal.main_arg2))
      (m ((c.tc : Thread Cert.FwdIdeal.nD Cert.FwdIdeal.τ).loc Cert.FwdIdeal.main_arg3)), ?_, ?_⟩
  · refine (θ_run Cert.FwdIdeal.defs _ _).mono (fun r h c => ⟨(h c).1.trans (Cert.FwdIdeal.Value.final_re m c),
        (h c).2.1.trans (Cert.FwdIdeal.Value.final_im m c), (h c).2.2⟩)
      (Cert.FwdIdeal.Value.run_blocks (F := Ideal) m g)
  · refine (θ_run Cert.FwdRefIdeal.defs _ _).mono (fun r h c => ⟨(h c).1.trans ?_, (h c).2.1.trans ?_, (h c).2.2⟩)
      (Cert.FwdRefIdeal.Value.run (F := Ideal) m' g')
    · rw [(hagree c).1, (hagree c).2.1, (hagree c).2.2.1, (hagree c).2.2.2]
      exact Cert.FwdRefIdeal.Read.val_main_v32_eq _ _ _ _
    · rw [(hagree c).1, (hagree c).2.1, (hagree c).2.2.1, (hagree c).2.2.2]
      exact Cert.FwdRefIdeal.Read.val_main_v33_eq _ _ _ _

end Cert.Proof.Fwd

end
-- ==== Proof.InvaValue.lean ====
/- THE INVERSE TRANSFORM's value, first order: the kernel adds the product with the real rows and the product with the
   imaginary rows, the reference takes one product with both laid one over the other; then both add the skip term and
   gate. -/
module

public import proofs.«01_k».proof.Proof.Gen.InvaIdeal.Value
public import proofs.«01_k».proof.Proof.Gen.InvaRefIdeal.Read
public import Idealize.ShloMosaic.Lib.Pipeline.ValueKit
public import Idealize.ShloMosaic.Lib.Pointwise

@[expose] public section

set_option maxRecDepth 16384

noncomputable section

namespace Cert.InvaIdeal.Value

open Cert.InvaIdeal Cert.InvaIdeal.Gen Idealize.ShloMosaic Idealize.ShloMosaic.TcCoe Idealize.SL.Sem
open Idealize.ShloMosaic.Pipeline (Dat)

variable (m : (ℓ : Loc nD τ sig) → Buf (Elt Ideal) ℓ)

/-- The blocks of point `t`: rows `t / 8`, sequence `t / 2 % 4`, columns `t % 2`. -/
theorem idx : ∀ t : Fin cfg0.N, win0_0.index t = ![t.val / 8, 0] ∧ win0_1.index t = ![t.val / 8, 1]
    ∧ win0_2.index t = ![t.val / 2 % 4, 0, t.val % 2] ∧ win0_3.index t = ![t.val / 2 % 4, 0, t.val % 2]
    ∧ win0_4.index t = ![t.val / 2 % 4, t.val / 8, 2 + t.val % 2] ∧ win0_5.index t = ![t.val / 2 % 4, t.val / 8, t.val % 2]
    ∧ win0_6.index t = ![0, t.val % 2] ∧ win0_7.index t = ![t.val / 2 % 4, t.val / 8, t.val % 2]
    ∧ win0_8.index t = ![t.val / 2 % 4, t.val / 8, t.val % 2] :=
  (by decide +kernel : ∀ t : Fin grid0.N, _)

/-- The gated sequence as the reference has it, of the kernel's argument arrays. -/
abbrev REF (X : FVec Ideal S4096x8192 .bf16) (A B : FVec Ideal S4x4096x1024 .bf16) (U : FVec Ideal S4x4096x3072 .f32) (S : FVec Ideal S1024 .f32) :
    FVec Ideal S4x4096x1024 .f32 :=
  Cert.InvaRefIdeal.Read.val_main_v12 (F := Ideal) X A B U S

/-- The same, rounded. -/
abbrev REFB (X : FVec Ideal S4096x8192 .bf16) (A B : FVec Ideal S4x4096x1024 .bf16) (U : FVec Ideal S4x4096x3072 .f32) (S : FVec Ideal S1024 .f32) :
    FVec Ideal S4x4096x1024 .bf16 :=
  Cert.InvaRefIdeal.Read.val_main_v13 (F := Ideal) X A B U S

/-- A sum over 8192 places, half by half. -/
theorem sum_halves (f : Fin 8192 → EReal) :
    ∑ k, f k = ∑ k : Fin 4096, f ⟨k.val, by omega⟩ + ∑ k : Fin 4096, f ⟨4096 + k.val, by omega⟩ :=
  Fin.sum_univ_add (a := 4096) (b := 4096) f

/-- The two parts laid one over the other, read in each one's rows. -/
theorem cat_apply (A B : FVec Ideal S4x4096x1024 .bf16) (b : Fin 4) (k : Fin 4096) (j : Fin 1024) :
    Cert.InvaRefIdeal.Read.val_main_v0 (F := Ideal) A B (ix3 b (⟨k.val, by omega⟩ : Fin 8192) j) = A (ix3 b k j)
    ∧ Cert.InvaRefIdeal.Read.val_main_v0 (F := Ideal) A B (ix3 b (⟨4096 + k.val, by omega⟩ : Fin 8192) j) = B (ix3 b k j) := by
  refine ⟨?_, ?_⟩ <;> pointwise [Cert.InvaRefIdeal.Read.val_main_v0]

/-- The reference's product, half by half, the factors in the kernel's order. -/
theorem conv_apply (X : FVec Ideal S4096x8192 .bf16) (A B : FVec Ideal S4x4096x1024 .bf16) (b : Fin 4) (r : Fin 4096) (j : Fin 1024) :
    Cert.InvaRefIdeal.Read.val_main_v7 (F := Ideal) X A B (ix3 b r j)
      = ∑ k : Fin 4096, X (ix2 r (⟨k.val, by omega⟩ : Fin 8192)) * A (ix3 b k j)
        + ∑ k : Fin 4096, X (ix2 r (⟨4096 + k.val, by omega⟩ : Fin 8192)) * B (ix3 b k j) := by
  have e : Cert.InvaRefIdeal.Read.val_main_v7 (F := Ideal) X A B (ix3 b r j)
      = ∑ k : Fin 8192, X (ix2 r k) * Cert.InvaRefIdeal.Read.val_main_v0 (F := Ideal) A B (ix3 b k j) := by
    rw [Cert.InvaRefIdeal.Read.val_main_v7_apply, Cert.InvaRefIdeal.Read.val_main_v6_apply]
    refine Finset.sum_congr rfl fun k _ => (mul_comm _ _).trans ?_
    rw [Cert.InvaRefIdeal.Read.val_main_v1_apply, Cert.InvaRefIdeal.Read.val_main_v5_apply]
    congr 2
    · blk_ext []
    · blk_ext []
  rw [e, sum_halves]
  refine congrArg₂ (· + ·) ?_ ?_ <;> refine Finset.sum_congr rfl fun k _ => ?_
  · exact congrArg (_ * ·) (cat_apply A B b k j).1
  · exact congrArg (_ * ·) (cat_apply A B b k j).2

/-- What the reference computes. -/
theorem REF_apply (X : FVec Ideal S4096x8192 .bf16) (A B : FVec Ideal S4x4096x1024 .bf16) (U : FVec Ideal S4x4096x3072 .f32) (S : FVec Ideal S1024 .f32)
    (b : Fin 4) (r : Fin 4096) (j : Fin 1024) :
    REF X A B U S (ix3 b r j) = U (ix3 b r (⟨1024 + j.val, by omega⟩ : Fin 3072))
      * (∑ k : Fin 4096, X (ix2 r (⟨k.val, by omega⟩ : Fin 8192)) * A (ix3 b k j)
        + ∑ k : Fin 4096, X (ix2 r (⟨4096 + k.val, by omega⟩ : Fin 8192)) * B (ix3 b k j)
        + S (ix1 j) * U (ix3 b r (⟨j.val, by omega⟩ : Fin 3072))) := by
  unfold REF
  rw [Cert.InvaRefIdeal.Read.val_main_v12_apply, Cert.InvaRefIdeal.Read.val_main_v3_apply,
    Cert.InvaRefIdeal.Read.val_main_v11_apply, Cert.InvaRefIdeal.Read.val_main_v10_apply, Cert.InvaRefIdeal.Read.val_main_v9_apply, Cert.InvaRefIdeal.Read.val_main_v8_apply,
    Cert.InvaRefIdeal.Read.val_main_v2_apply, conv_apply]
  refine congrArg₂ (· * ·) (congrArg U ?_) (congrArg (_ + ·) (congrArg₂ (· * ·) (congrArg S ?_) (congrArg U ?_)))
  · blk_ext []
  · blk_ext []
  · blk_ext []

/-- What a point computes. -/
theorem pay_apply (x : FVec Ideal S512x4096 .bf16) (p : FVec Ideal S1x4096x512 .bf16) (y : FVec Ideal S512x4096 .bf16)
    (q : FVec Ideal S1x4096x512 .bf16) (g : FVec Ideal S1x512x512 .f32) (s : FVec Ideal S1x512 .f32) (z : FVec Ideal S1x512x512 .f32)
    (a b : Fin 512) :
    k0_pay2 (F := Ideal) x p y q g s z (ix3 (0 : Fin 1) a b) = g (ix3 (0 : Fin 1) a b)
      * (∑ k : Fin 4096, x (ix2 a k) * p (ix3 (0 : Fin 1) k b) + ∑ k : Fin 4096, y (ix2 a k) * q (ix3 (0 : Fin 1) k b)
        + s (ix2 (0 : Fin 1) b) * z (ix3 (0 : Fin 1) a b)) := by
  pointwise [k0_pay2, k0_pay1]

/-- The rounded result of a point is its result. -/
theorem pay_round (x : FVec Ideal S512x4096 .bf16) (p : FVec Ideal S1x4096x512 .bf16) (y : FVec Ideal S512x4096 .bf16)
    (q : FVec Ideal S1x4096x512 .bf16) (g : FVec Ideal S1x512x512 .f32) (s : FVec Ideal S1x512 .f32) (z : FVec Ideal S1x512x512 .f32)
    (a b : Fin 512) :
    k0_pay3 (F := Ideal) x p y q g s z (ix3 (0 : Fin 1) a b) = k0_pay2 (F := Ideal) x p y q g s z (ix3 (0 : Fin 1) a b) := by
  pointwise [k0_pay3, k0_pay2]

/-- The skip's weights as the region finds them. -/
theorem skip (c : Dev nD) (b : Fin 1024) :
    V m c main_v0 (ix2 (0 : Fin 1) b) = m ((c : Thread nD τ).loc main_arg4) (ix1 b) := by
  entry_read
  pointwise

/-- Every entry a point writes is the reference's entry there. -/
theorem point (c : Dev nD) (t : Fin cfg0.N) (y : S1x512x512.Idx) :
    k0_pay2 (F := Ideal) (iblk m c 0 t) (iblk m c 2 t) (iblk m c 1 t) (iblk m c 3 t) (iblk m c 4 t) (iblk m c 6 t) (iblk m c 5 t) y
      = REF (m ((c : Thread nD τ).loc main_arg0)) (m ((c : Thread nD τ).loc main_arg1)) (m ((c : Thread nD τ).loc main_arg2)) (m ((c : Thread nD τ).loc main_arg3)) (m ((c : Thread nD τ).loc main_arg4)) (((cfg0.win 7).blk t).view.emb y) := by
  obtain ⟨h0, h1, h2, h3, h4, h5, h6, h7, h8⟩ := idx t
  have ht : t.val < 64 := t.isLt
  idx_vars y
  obtain rfl : y0 = 0 := Subsingleton.elim _ _
  have e : ((cfg0.win 7).blk t).view.emb (ix3 (0 : Fin 1) y1 y2) = ix3 (⟨t.val / 2 % 4, by omega⟩ : Fin 4)
      (⟨t.val / 8 * 512 + y1.val, by omega⟩ : Fin 4096) (⟨t.val % 2 * 512 + y2.val, by omega⟩ : Fin 1024) := by
    blk_ext [h7]
  rw [e, REF_apply, pay_apply, ← skip m c, ← V_main_arg0 m c, ← V_main_arg1 m c, ← V_main_arg2 m c, ← V_main_arg3 m c]
  refine congrArg₂ (· * ·) ?_ (congrArg₂ (· + ·) (congrArg₂ (· + ·) (Finset.sum_congr rfl fun k _ => ?_) (Finset.sum_congr rfl fun k _ => ?_)) ?_)
  · blk_point [iblk, h4]
  · blk_point [iblk, h0, h2]
  · blk_point [iblk, h1, h3]
  · blk_point [iblk, h6, h5]

/-- The whole result array after the run. -/
theorem final (c : Dev nD) : (dats m 0 c).arrAt 7 (cfgs 0).N
    = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]
  frame_out
  exact point m c t y

/-- The rounded result array after the run. -/
theorem final_round (c : Dev nD) : (dats m 0 c).arrAt 8 (cfgs 0).N
    = REFB (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t _ y => ?_
  blk_simp
  rw [after0_8]
  frame_out
  obtain ⟨h0, h1, h2, h3, h4, h5, h6, h7, h8⟩ := idx t
  have ht : t.val < 64 := t.isLt
  idx_vars y
  obtain rfl : y0 = 0 := Subsingleton.elim _ _
  have e : ((cfg0.win 8).blk t).view.emb (ix3 (0 : Fin 1) y1 y2) = ((cfg0.win 7).blk t).view.emb (ix3 (0 : Fin 1) y1 y2) := by
    blk_ext [h7, h8]
  refine (pay_round _ _ _ _ _ _ _ y1 y2).trans ((point m c t _).trans ?_)
  rw [e]
  exact (Cert.InvaRefIdeal.Read.val_main_v13_apply (F := Ideal) _ _ _ _ _ _).symm

end Cert.InvaIdeal.Value

end
-- ==== Proof.InvaClaim.lean ====
/- THE INVERSE TRANSFORM's claims, first order: each program runs and gives its counters back, and the kernel and the reference end
   with equal results. -/
module

public import proofs.«01_k».proof.Defs
public import proofs.«01_k».proof.Proof.Gen.Inva.Frame
public import proofs.«01_k».proof.Proof.Gen.InvaRefIdeal.Run
public import proofs.«01_k».proof.Proof.InvaValue

@[expose] public section

set_option maxRecDepth 16384

noncomputable section

namespace Cert.Proof.Inva

open Idealize.ShloMosaic Idealize.SL.Sem

/-- The kernel runs, its arguments unchanged and its counters back at zero. -/
theorem frame : Cert.quiescent_Inva := fun m g _ => Cert.Inva.Gen.frame m g

/-- The kernel read at the extended reals, likewise. -/
theorem frame_ideal : Cert.quiescent_InvaIdeal := fun m g _ => Cert.InvaIdeal.Gen.frame m g

/-- The reference, likewise. -/
theorem frame_ref : Cert.quiescent_InvaRefIdeal := fun m g _ =>
  (θ_run Cert.InvaRefIdeal.defs _ _).mono (fun r h => ⟨fun c => (h c).2.2, Idealize.ShloMosaic.sem_eq_zero_of_no_sems (by decide) r.2⟩)
    (Cert.InvaRefIdeal.Value.run (F := Ideal) m g)

/-- The kernel's two results are the reference's. -/
theorem value : Cert.algebraic_InvaIdeal_InvaRefIdeal := by
  intro m g m' g' _ hagree
  refine ⟨fun c => Cert.InvaIdeal.Value.REF (m ((c.tc : Thread Cert.InvaIdeal.nD Cert.InvaIdeal.τ).loc Cert.InvaIdeal.main_arg0))
      (m ((c.tc : Thread Cert.InvaIdeal.nD Cert.InvaIdeal.τ).loc Cert.InvaIdeal.main_arg1))
      (m ((c.tc : Thread Cert.InvaIdeal.nD Cert.InvaIdeal.τ).loc Cert.InvaIdeal.main_arg2))
      (m ((c.tc : Thread Cert.InvaIdeal.nD Cert.InvaIdeal.τ).loc Cert.InvaIdeal.main_arg3))
      (m ((c.tc : Thread Cert.InvaIdeal.nD Cert.InvaIdeal.τ).loc Cert.InvaIdeal.main_arg4)),
    fun c => Cert.InvaIdeal.Value.REFB (m ((c.tc : Thread Cert.InvaIdeal.nD Cert.InvaIdeal.τ).loc Cert.InvaIdeal.main_arg0))
      (m ((c.tc : Thread Cert.InvaIdeal.nD Cert.InvaIdeal.τ).loc Cert.InvaIdeal.main_arg1))
      (m ((c.tc : Thread Cert.InvaIdeal.nD Cert.InvaIdeal.τ).loc Cert.InvaIdeal.main_arg2))
      (m ((c.tc : Thread Cert.InvaIdeal.nD Cert.InvaIdeal.τ).loc Cert.InvaIdeal.main_arg3))
      (m ((c.tc : Thread Cert.InvaIdeal.nD Cert.InvaIdeal.τ).loc Cert.InvaIdeal.main_arg4)), ?_, ?_⟩
  · refine (θ_run Cert.InvaIdeal.defs _ _).mono (fun r h c => ⟨(h c).1.trans (Cert.InvaIdeal.Value.final m c),
        (h c).2.1.trans (Cert.InvaIdeal.Value.final_round m c), (h c).2.2⟩)
      (Cert.InvaIdeal.Value.run_blocks (F := Ideal) m g)
  · refine (θ_run Cert.InvaRefIdeal.defs _ _).mono (fun r h c => ⟨(h c).1.trans ?_, (h c).2.1.trans ?_, (h c).2.2⟩)
      (Cert.InvaRefIdeal.Value.run (F := Ideal) m' g')
    · rw [(hagree c).1, (hagree c).2.1, (hagree c).2.2.1, (hagree c).2.2.2.1, (hagree c).2.2.2.2]
      exact Cert.InvaRefIdeal.Read.val_main_v12_eq _ _ _ _ _
    · rw [(hagree c).1, (hagree c).2.1, (hagree c).2.2.1, (hagree c).2.2.2.1, (hagree c).2.2.2.2]
      exact Cert.InvaRefIdeal.Read.val_main_v13_eq _ _ _ _ _

end Cert.Proof.Inva

end
-- ==== Proof.InvbValue.lean ====
/- THE INVERSE TRANSFORM's value, second order: the kernel adds the product with the real rows and the product with the
   imaginary rows, the reference takes one product with both laid one over the other; then both add the skip term and
   gate. -/
module

public import proofs.«01_k».proof.Proof.Gen.InvbIdeal.Value
public import proofs.«01_k».proof.Proof.Gen.InvbRefIdeal.Read
public import Idealize.ShloMosaic.Lib.Pipeline.ValueKit
public import Idealize.ShloMosaic.Lib.Pointwise

@[expose] public section

set_option maxRecDepth 16384

noncomputable section

namespace Cert.InvbIdeal.Value

open Cert.InvbIdeal Cert.InvbIdeal.Gen Idealize.ShloMosaic Idealize.ShloMosaic.TcCoe Idealize.SL.Sem
open Idealize.ShloMosaic.Pipeline (Dat)

variable (m : (ℓ : Loc nD τ sig) → Buf (Elt Ideal) ℓ)

/-- The blocks of point `t`: rows `t / 8`, sequence `t / 2 % 4`, columns `t % 2`. -/
theorem idx : ∀ t : Fin cfg0.N, win0_0.index t = ![t.val / 8, 0] ∧ win0_1.index t = ![t.val / 8, 1]
    ∧ win0_2.index t = ![t.val / 2 % 4, 0, t.val % 2] ∧ win0_3.index t = ![t.val / 2 % 4, 0, t.val % 2]
    ∧ win0_4.index t = ![t.val / 2 % 4, t.val / 8, 4 + t.val % 2] ∧ win0_5.index t = ![t.val / 2 % 4, t.val / 8, t.val % 2]
    ∧ win0_6.index t = ![0, t.val % 2] ∧ win0_7.index t = ![t.val / 2 % 4, t.val / 8, t.val % 2] :=
  (by decide +kernel : ∀ t : Fin grid0.N, _)

/-- The gated sequence as the reference has it, of the kernel's argument arrays. -/
abbrev REF (X : FVec Ideal S4096x8192 .bf16) (A B : FVec Ideal S4x4096x1024 .bf16) (U : FVec Ideal S4x4096x3072 .f32) (Z : FVec Ideal S4x4096x1024 .f32) (S : FVec Ideal S1024 .f32) :
    FVec Ideal S4x4096x1024 .bf16 :=
  Cert.InvbRefIdeal.Read.val_main_v13 (F := Ideal) X A B U Z S

/-- A sum over 8192 places, half by half. -/
theorem sum_halves (f : Fin 8192 → EReal) :
    ∑ k, f k = ∑ k : Fin 4096, f ⟨k.val, by omega⟩ + ∑ k : Fin 4096, f ⟨4096 + k.val, by omega⟩ :=
  Fin.sum_univ_add (a := 4096) (b := 4096) f

/-- The two parts laid one over the other, read in each one's rows. -/
theorem cat_apply (A B : FVec Ideal S4x4096x1024 .bf16) (b : Fin 4) (k : Fin 4096) (j : Fin 1024) :
    Cert.InvbRefIdeal.Read.val_main_v0 (F := Ideal) A B (ix3 b (⟨k.val, by omega⟩ : Fin 8192) j) = A (ix3 b k j)
    ∧ Cert.InvbRefIdeal.Read.val_main_v0 (F := Ideal) A B (ix3 b (⟨4096 + k.val, by omega⟩ : Fin 8192) j) = B (ix3 b k j) := by
  refine ⟨?_, ?_⟩ <;> pointwise [Cert.InvbRefIdeal.Read.val_main_v0]

/-- The reference's product, half by half, the factors in the kernel's order. -/
theorem conv_apply (X : FVec Ideal S4096x8192 .bf16) (A B : FVec Ideal S4x4096x1024 .bf16) (b : Fin 4) (r : Fin 4096) (j : Fin 1024) :
    Cert.InvbRefIdeal.Read.val_main_v7 (F := Ideal) X A B (ix3 b r j)
      = ∑ k : Fin 4096, X (ix2 r (⟨k.val, by omega⟩ : Fin 8192)) * A (ix3 b k j)
        + ∑ k : Fin 4096, X (ix2 r (⟨4096 + k.val, by omega⟩ : Fin 8192)) * B (ix3 b k j) := by
  have e : Cert.InvbRefIdeal.Read.val_main_v7 (F := Ideal) X A B (ix3 b r j)
      = ∑ k : Fin 8192, X (ix2 r k) * Cert.InvbRefIdeal.Read.val_main_v0 (F := Ideal) A B (ix3 b k j) := by
    rw [Cert.InvbRefIdeal.Read.val_main_v7_apply, Cert.InvbRefIdeal.Read.val_main_v6_apply]
    refine Finset.sum_congr rfl fun k _ => (mul_comm _ _).trans ?_
    rw [Cert.InvbRefIdeal.Read.val_main_v1_apply, Cert.InvbRefIdeal.Read.val_main_v5_apply]
    congr 2
    · blk_ext []
    · blk_ext []
  rw [e, sum_halves]
  refine congrArg₂ (· + ·) ?_ ?_ <;> refine Finset.sum_congr rfl fun k _ => ?_
  · exact congrArg (_ * ·) (cat_apply A B b k j).1
  · exact congrArg (_ * ·) (cat_apply A B b k j).2

/-- What the reference computes. -/
theorem REF_apply (X : FVec Ideal S4096x8192 .bf16) (A B : FVec Ideal S4x4096x1024 .bf16) (U : FVec Ideal S4x4096x3072 .f32) (Z : FVec Ideal S4x4096x1024 .f32) (S : FVec Ideal S1024 .f32)
    (b : Fin 4) (r : Fin 4096) (j : Fin 1024) :
    REF X A B U Z S (ix3 b r j) = U (ix3 b r (⟨2048 + j.val, by omega⟩ : Fin 3072))
      * (∑ k : Fin 4096, X (ix2 r (⟨k.val, by omega⟩ : Fin 8192)) * A (ix3 b k j)
        + ∑ k : Fin 4096, X (ix2 r (⟨4096 + k.val, by omega⟩ : Fin 8192)) * B (ix3 b k j)
        + S (ix1 j) * Z (ix3 b r j)) := by
  unfold REF
  rw [Cert.InvbRefIdeal.Read.val_main_v13_apply, Cert.InvbRefIdeal.Read.val_main_v12_apply, Cert.InvbRefIdeal.Read.val_main_v4_apply,
    Cert.InvbRefIdeal.Read.val_main_v11_apply, Cert.InvbRefIdeal.Read.val_main_v10_apply, Cert.InvbRefIdeal.Read.val_main_v9_apply, Cert.InvbRefIdeal.Read.val_main_v8_apply,
    conv_apply]
  refine congrArg₂ (· * ·) (congrArg U ?_) (congrArg (_ + ·) (congrArg₂ (· * ·) (congrArg S ?_) rfl))
  · blk_ext []
  · blk_ext []

/-- What a point computes. -/
theorem pay_apply (x : FVec Ideal S512x4096 .bf16) (p : FVec Ideal S1x4096x512 .bf16) (y : FVec Ideal S512x4096 .bf16)
    (q : FVec Ideal S1x4096x512 .bf16) (g : FVec Ideal S1x512x512 .f32) (s : FVec Ideal S1x512 .f32) (z : FVec Ideal S1x512x512 .f32)
    (a b : Fin 512) :
    k0_pay1 (F := Ideal) x p y q g s z (ix3 (0 : Fin 1) a b) = g (ix3 (0 : Fin 1) a b)
      * (∑ k : Fin 4096, x (ix2 a k) * p (ix3 (0 : Fin 1) k b) + ∑ k : Fin 4096, y (ix2 a k) * q (ix3 (0 : Fin 1) k b)
        + s (ix2 (0 : Fin 1) b) * z (ix3 (0 : Fin 1) a b)) := by
  pointwise [k0_pay1]

/-- The skip's weights as the region finds them. -/
theorem skip (c : Dev nD) (b : Fin 1024) :
    V m c main_v0 (ix2 (0 : Fin 1) b) = m ((c : Thread nD τ).loc main_arg5) (ix1 b) := by
  entry_read
  pointwise

/-- Every entry a point writes is the reference's entry there. -/
theorem point (c : Dev nD) (t : Fin cfg0.N) (y : S1x512x512.Idx) :
    k0_pay1 (F := Ideal) (iblk m c 0 t) (iblk m c 2 t) (iblk m c 1 t) (iblk m c 3 t) (iblk m c 4 t) (iblk m c 6 t) (iblk m c 5 t) y
      = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 7).blk t).view.emb y) := by
  obtain ⟨h0, h1, h2, h3, h4, h5, h6, h7⟩ := idx t
  have ht : t.val < 64 := t.isLt
  idx_vars y
  obtain rfl : y0 = 0 := Subsingleton.elim _ _
  have e : ((cfg0.win 7).blk t).view.emb (ix3 (0 : Fin 1) y1 y2) = ix3 (⟨t.val / 2 % 4, by omega⟩ : Fin 4)
      (⟨t.val / 8 * 512 + y1.val, by omega⟩ : Fin 4096) (⟨t.val % 2 * 512 + y2.val, by omega⟩ : Fin 1024) := by
    blk_ext [h7]
  rw [e, REF_apply, pay_apply, ← skip m c, ← V_main_arg0 m c, ← V_main_arg1 m c, ← V_main_arg2 m c, ← V_main_arg3 m c, ← V_main_arg4 m c]
  refine congrArg₂ (· * ·) ?_ (congrArg₂ (· + ·) (congrArg₂ (· + ·) (Finset.sum_congr rfl fun k _ => ?_) (Finset.sum_congr rfl fun k _ => ?_)) ?_)
  · blk_point [iblk, h4]
  · blk_point [iblk, h0, h2]
  · blk_point [iblk, h1, h3]
  · blk_point [iblk, h6, h5]

/-- The whole result array after the run. -/
theorem final (c : Dev nD) : (dats m 0 c).arrAt 7 (cfgs 0).N
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]
  frame_out
  exact point m c t y

end Cert.InvbIdeal.Value

end
-- ==== Proof.InvbClaim.lean ====
/- THE INVERSE TRANSFORM's claims, second order: each program runs and gives its counters back, and the kernel and the reference end
   with equal results. -/
module

public import proofs.«01_k».proof.Defs
public import proofs.«01_k».proof.Proof.Gen.Invb.Frame
public import proofs.«01_k».proof.Proof.Gen.InvbRefIdeal.Run
public import proofs.«01_k».proof.Proof.InvbValue

@[expose] public section

set_option maxRecDepth 16384

noncomputable section

namespace Cert.Proof.Invb

open Idealize.ShloMosaic Idealize.SL.Sem

/-- The kernel runs, its arguments unchanged and its counters back at zero. -/
theorem frame : Cert.quiescent_Invb := fun m g _ => Cert.Invb.Gen.frame m g

/-- The kernel read at the extended reals, likewise. -/
theorem frame_ideal : Cert.quiescent_InvbIdeal := fun m g _ => Cert.InvbIdeal.Gen.frame m g

/-- The reference, likewise. -/
theorem frame_ref : Cert.quiescent_InvbRefIdeal := fun m g _ =>
  (θ_run Cert.InvbRefIdeal.defs _ _).mono (fun r h => ⟨fun c => (h c).2, Idealize.ShloMosaic.sem_eq_zero_of_no_sems (by decide) r.2⟩)
    (Cert.InvbRefIdeal.Value.run (F := Ideal) m g)

/-- The kernel's result is the reference's. -/
theorem value : Cert.algebraic_InvbIdeal_InvbRefIdeal := by
  intro m g m' g' _ hagree
  refine ⟨fun c => Cert.InvbIdeal.Value.REF (m ((c.tc : Thread Cert.InvbIdeal.nD Cert.InvbIdeal.τ).loc Cert.InvbIdeal.main_arg0))
      (m ((c.tc : Thread Cert.InvbIdeal.nD Cert.InvbIdeal.τ).loc Cert.InvbIdeal.main_arg1))
      (m ((c.tc : Thread Cert.InvbIdeal.nD Cert.InvbIdeal.τ).loc Cert.InvbIdeal.main_arg2))
      (m ((c.tc : Thread Cert.InvbIdeal.nD Cert.InvbIdeal.τ).loc Cert.InvbIdeal.main_arg3))
      (m ((c.tc : Thread Cert.InvbIdeal.nD Cert.InvbIdeal.τ).loc Cert.InvbIdeal.main_arg4))
      (m ((c.tc : Thread Cert.InvbIdeal.nD Cert.InvbIdeal.τ).loc Cert.InvbIdeal.main_arg5)), ?_, ?_⟩
  · refine (θ_run Cert.InvbIdeal.defs _ _).mono (fun r h c => ⟨(h c).1.trans (Cert.InvbIdeal.Value.final m c), (h c).2⟩)
      (Cert.InvbIdeal.Value.run_blocks (F := Ideal) m g)
  · refine (θ_run Cert.InvbRefIdeal.defs _ _).mono (fun r h c => ⟨(h c).1.trans ?_, (h c).2⟩)
      (Cert.InvbRefIdeal.Value.run (F := Ideal) m' g')
    rw [(hagree c).1, (hagree c).2.1, (hagree c).2.2.1, (hagree c).2.2.2.1, (hagree c).2.2.2.2.1, (hagree c).2.2.2.2.2]
    exact Cert.InvbRefIdeal.Read.val_main_v13_eq _ _ _ _ _ _

end Cert.Proof.Invb

end
-- ==== Proof.ModuValue.lean ====
/- THE MODULATION's value: the kernel takes one row of the conditions' maps for a block of 256 tokens, the reference lays
   the rows out token by token; each entry is then one product and one sum. -/
module

public import proofs.«01_k».proof.Proof.Gen.ModuIdeal.Value
public import proofs.«01_k».proof.Proof.Gen.ModuRefIdeal.Read
public import Idealize.ShloMosaic.Lib.Pipeline.ValueKit
public import Idealize.ShloMosaic.Lib.Pointwise

@[expose] public section

set_option maxRecDepth 16384

noncomputable section

namespace Cert.ModuIdeal.Value

open Cert.ModuIdeal Cert.ModuIdeal.Gen Idealize.ShloMosaic Idealize.ShloMosaic.TcCoe Idealize.SL.Sem
open Idealize.ShloMosaic.Pipeline (Dat)

variable (m : (ℓ : Loc nD τ sig) → Buf (Elt Ideal) ℓ)

/-- The row of the conditions' maps which a token takes: its sequence's for a latent token, else the context's. -/
def mrow (b : Fin 4) (r : Fin 4352) : Fin 5 := ⟨if r.val < 4096 then b.val else 4, by split <;> omega⟩

/-- The blocks of point `t`: sequence `t / 17`, tokens of block `t % 17`; the last block of a sequence is its context. -/
theorem idx : ∀ t : Fin cfg0.N, win0_0.index t = ![t.val / 17, t.val % 17, 0]
    ∧ win0_1.index t = ![if t.val % 17 < 16 then t.val / 17 else 4, 0, 0]
    ∧ win0_2.index t = ![t.val / 17, t.val % 17, 0] :=
  (by decide +kernel : ∀ t : Fin grid0.N, _)

/-- The tokens modulated as the reference has them, of the kernel's argument arrays. -/
abbrev REF (X : FVec Ideal S4x4352x4096 .f32) (M : FVec Ideal S5x6x4096 .f32) : FVec Ideal S4x4352x4096 .bf16 :=
  Cert.ModuRefIdeal.Read.val_main_v22 (F := Ideal) X M

/-- The shift of a token. -/
theorem shift_apply (M : FVec Ideal S5x6x4096 .f32) (b : Fin 4) (r : Fin 4352) (j : Fin 4096) :
    Cert.ModuRefIdeal.Read.val_main_v8 (F := Ideal) M (ix3 b r j) = M (ix3 (mrow b r) (0 : Fin 6) j) := by
  by_cases h : r.val < 4096
  · have e : mrow b r = (⟨b.val, by omega⟩ : Fin 5) := Fin.ext (if_pos h)
    rw [e]
    pointwise [Cert.ModuRefIdeal.Read.val_main_v8]
    rw [dif_pos h, Cert.ModuRefIdeal.Read.val_main_v4_apply, Cert.ModuRefIdeal.Read.val_main_v3_apply, Cert.ModuRefIdeal.Read.val_main_v2_apply, Cert.ModuRefIdeal.Read.val_main_v1_apply, Cert.ModuRefIdeal.Read.val_main_v0_apply]
    refine congrArg M ?_
    blk_ext []
  · have e : mrow b r = (4 : Fin 5) := Fin.ext (if_neg h)
    rw [e]
    pointwise [Cert.ModuRefIdeal.Read.val_main_v8]
    rw [dif_neg h, Cert.ModuRefIdeal.Read.val_main_v7_apply, Cert.ModuRefIdeal.Read.val_main_v6_apply, Cert.ModuRefIdeal.Read.val_main_v5_apply, Cert.ModuRefIdeal.Read.val_main_v1_apply, Cert.ModuRefIdeal.Read.val_main_v0_apply]
    refine congrArg M ?_
    blk_ext []

/-- The scale of a token. -/
theorem scale_apply (M : FVec Ideal S5x6x4096 .f32) (b : Fin 4) (r : Fin 4352) (j : Fin 4096) :
    Cert.ModuRefIdeal.Read.val_main_v17 (F := Ideal) M (ix3 b r j) = M (ix3 (mrow b r) (1 : Fin 6) j) := by
  by_cases h : r.val < 4096
  · have e : mrow b r = (⟨b.val, by omega⟩ : Fin 5) := Fin.ext (if_pos h)
    rw [e]
    pointwise [Cert.ModuRefIdeal.Read.val_main_v17]
    rw [dif_pos h, Cert.ModuRefIdeal.Read.val_main_v13_apply, Cert.ModuRefIdeal.Read.val_main_v12_apply, Cert.ModuRefIdeal.Read.val_main_v11_apply, Cert.ModuRefIdeal.Read.val_main_v10_apply, Cert.ModuRefIdeal.Read.val_main_v9_apply]
    refine congrArg M ?_
    blk_ext []
  · have e : mrow b r = (4 : Fin 5) := Fin.ext (if_neg h)
    rw [e]
    pointwise [Cert.ModuRefIdeal.Read.val_main_v17]
    rw [dif_neg h, Cert.ModuRefIdeal.Read.val_main_v16_apply, Cert.ModuRefIdeal.Read.val_main_v15_apply, Cert.ModuRefIdeal.Read.val_main_v14_apply, Cert.ModuRefIdeal.Read.val_main_v10_apply, Cert.ModuRefIdeal.Read.val_main_v9_apply]
    refine congrArg M ?_
    blk_ext []

/-- What the reference computes. -/
theorem REF_apply (X : FVec Ideal S4x4352x4096 .f32) (M : FVec Ideal S5x6x4096 .f32) (b : Fin 4) (r : Fin 4352) (j : Fin 4096) :
    REF X M (ix3 b r j) = X (ix3 b r j) * (Ideal.ofBits .f32 0x3F800000#32 + M (ix3 (mrow b r) (1 : Fin 6) j)) + M (ix3 (mrow b r) (0 : Fin 6) j) := by
  unfold REF
  rw [Cert.ModuRefIdeal.Read.val_main_v22_apply, Cert.ModuRefIdeal.Read.val_main_v21_apply, Cert.ModuRefIdeal.Read.val_main_v20_apply,
    Cert.ModuRefIdeal.Read.val_main_v19_apply, shift_apply, scale_apply]
  rfl

/-- What a point computes. -/
theorem pay_apply (w : FVec Ideal S1x6x4096 .f32) (x : FVec Ideal S1x256x4096 .f32) (a : Fin 256) (j : Fin 4096) :
    k0_pay1 (F := Ideal) w x (ix3 (0 : Fin 1) a j) = x (ix3 (0 : Fin 1) a j) * (Ideal.ofBits .f32 0x3F800000#32 + w (ix3 (0 : Fin 1) (1 : Fin 6) j))
      + w (ix3 (0 : Fin 1) (0 : Fin 6) j) := by
  pointwise [k0_pay1]

/-- Every entry a point writes is the reference's entry there. -/
theorem point (c : Dev nD) (t : Fin cfg0.N) (y : S1x256x4096.Idx) :
    k0_pay1 (F := Ideal) (iblk m c 1 t) (iblk m c 0 t) y = REF (m ((c : Thread nD τ).loc main_arg0)) (m ((c : Thread nD τ).loc main_arg1)) (((cfg0.win 2).blk t).view.emb y) := by
  obtain ⟨h0, h1, h2⟩ := idx t
  have ht : t.val < 68 := t.isLt
  idx_vars y
  obtain rfl : y0 = 0 := Subsingleton.elim _ _
  have hr : mrow (⟨t.val / 17, by omega⟩ : Fin 4) (⟨t.val % 17 * 256 + y1.val, by omega⟩ : Fin 4352)
      = (⟨if t.val % 17 < 16 then t.val / 17 else 4, by split <;> omega⟩ : Fin 5) := by
    refine Fin.ext ?_
    show (if t.val % 17 * 256 + y1.val < 4096 then t.val / 17 else 4) = _
    exact if_congr (by omega) rfl rfl
  have e : ((cfg0.win 2).blk t).view.emb (ix3 (0 : Fin 1) y1 y2) = ix3 (⟨t.val / 17, by omega⟩ : Fin 4)
      (⟨t.val % 17 * 256 + y1.val, by omega⟩ : Fin 4352) y2 := by
    blk_ext [h2]
  rw [e, REF_apply, pay_apply, hr, ← V_main_arg0 m c, ← V_main_arg1 m c]
  refine congrArg₂ (· + ·) (congrArg₂ (· * ·) ?_ (congrArg (_ + ·) ?_)) ?_
  · blk_point [iblk, h0]
  · blk_point [iblk, h1]
  · blk_point [iblk, h1]

/-- The whole result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.ModuIdeal.Value

end
-- ==== Proof.ModuClaim.lean ====
/- MODULATION's claims: each program runs and gives its counters back, and the kernel and the reference end
   with equal results. -/
module

public import proofs.«01_k».proof.Defs
public import proofs.«01_k».proof.Proof.Gen.Modu.Frame
public import proofs.«01_k».proof.Proof.Gen.ModuRefIdeal.Run
public import proofs.«01_k».proof.Proof.ModuValue

@[expose] public section

set_option maxRecDepth 16384

noncomputable section

namespace Cert.Proof.Modu

open Idealize.ShloMosaic Idealize.SL.Sem

/-- The kernel runs, its arguments unchanged and its counters back at zero. -/
theorem frame : Cert.quiescent_Modu := fun m g _ => Cert.Modu.Gen.frame m g

/-- The kernel read at the extended reals, likewise. -/
theorem frame_ideal : Cert.quiescent_ModuIdeal := fun m g _ => Cert.ModuIdeal.Gen.frame m g

/-- The reference, likewise. -/
theorem frame_ref : Cert.quiescent_ModuRefIdeal := fun m g _ =>
  (θ_run Cert.ModuRefIdeal.defs _ _).mono (fun r h => ⟨fun c => (h c).2, Idealize.ShloMosaic.sem_eq_zero_of_no_sems (by decide) r.2⟩)
    (Cert.ModuRefIdeal.Value.run (F := Ideal) m g)

/-- The kernel's result is the reference's. -/
theorem value : Cert.algebraic_ModuIdeal_ModuRefIdeal := by
  intro m g m' g' _ hagree
  refine ⟨fun c => Cert.ModuIdeal.Value.REF (m ((c.tc : Thread Cert.ModuIdeal.nD Cert.ModuIdeal.τ).loc Cert.ModuIdeal.main_arg0))
      (m ((c.tc : Thread Cert.ModuIdeal.nD Cert.ModuIdeal.τ).loc Cert.ModuIdeal.main_arg1)), ?_, ?_⟩
  · refine (θ_run Cert.ModuIdeal.defs _ _).mono (fun r h c => ⟨(h c).1.trans (Cert.ModuIdeal.Value.final m c), (h c).2⟩)
      (Cert.ModuIdeal.Value.run_blocks (F := Ideal) m g)
  · refine (θ_run Cert.ModuRefIdeal.defs _ _).mono (fun r h c => ⟨(h c).1.trans ?_, (h c).2⟩)
      (Cert.ModuRefIdeal.Value.run (F := Ideal) m' g')
    rw [(hagree c).1, (hagree c).2]
    exact Cert.ModuRefIdeal.Read.val_main_v22_eq _ _

end Cert.Proof.Modu

end
-- ==== Proof.Norms.lean ====
/- THE NORM OVER A TOKEN'S 4096 ENTRIES, as the calls "resid_ln" and their references both compute it. -/
module

public import Idealize.ShloMosaic.Lib.Pipeline.ValueKit

@[expose] public section

noncomputable section

namespace Cert.Proof

open Idealize.ShloMosaic

/-- The mean of a token's entries. -/
def lmean (v : Fin 4096 → EReal) : EReal := Ideal.div (∑ i, v i) (Ideal.ofBits .f32 0x45800000#32)

/-- Entry `j` of a token less its mean, divided by the root of its variance, with its gain and its bias. -/
def lnorm (v : Fin 4096 → EReal) (j : Fin 4096) (g b : EReal) : EReal :=
  (v j - lmean v) * Ideal.rsqrt (Ideal.div (∑ i, (v i - lmean v) * (v i - lmean v)) (Ideal.ofBits .f32 0x45800000#32)
    + Ideal.ofBits .f32 0x3727C5AC#32) * g + b

/-- The row of the conditions' maps which a token takes: its sequence's for a latent token, else the context's. -/
def mrow (b : Fin 4) (r : Fin 4352) : Fin 5 := ⟨if r.val < 4096 then b.val else 4, by split <;> omega⟩

/-- The row which the tokens of block `t % 17` of sequence `t / 17` take. -/
def brow (t : ℕ) (h : t < 68) : Fin 5 := ⟨if t % 17 < 16 then t / 17 else 4, by split <;> omega⟩

/-- All tokens of a block take the block's row. -/
theorem mrow_eq (t : ℕ) (h : t < 68) (a : Fin 256) :
    mrow (⟨t / 17, by omega⟩ : Fin 4) (⟨t % 17 * 256 + a.val, by omega⟩ : Fin 4352) = brow t h := by
  refine Fin.ext ?_
  show (if t % 17 * 256 + a.val < 4096 then t / 17 else 4) = if t % 17 < 16 then t / 17 else 4
  exact if_congr (by omega) rfl rfl

end Cert.Proof

end
-- ==== Proof.LnaValue.lean ====
/- THE RESIDUAL, NORM AND MODULATION AFTER THE MIXERS, their value: kernel and reference take the same mean, variance and
   root of each token's 4096 entries; the kernel takes one row of the conditions' maps for a block of 256 tokens. -/
module

public import proofs.«01_k».proof.Proof.Gen.LnaIdeal.Value
public import proofs.«01_k».proof.Proof.Gen.LnaRefIdeal.Read
public import proofs.«01_k».proof.Proof.Norms
public import Idealize.ShloMosaic.Lib.Pipeline.ValueKit
public import Idealize.ShloMosaic.Lib.Pointwise

@[expose] public section

set_option maxRecDepth 16384

noncomputable section

namespace Cert.LnaIdeal.Value

open Cert.LnaIdeal Cert.LnaIdeal.Gen Idealize.ShloMosaic Idealize.ShloMosaic.TcCoe Idealize.SL.Sem
open Idealize.ShloMosaic.Pipeline (Dat)
open Cert.Proof

variable (m : (ℓ : Loc nD τ sig) → Buf (Elt Ideal) ℓ)

/-- The blocks of point `t`: sequence `t / 17`, tokens of block `t % 17`. -/
theorem idx : ∀ t : Fin cfg0.N, win0_0.index t = ![t.val / 17, t.val % 17, 0] ∧ win0_1.index t = ![t.val / 17, t.val % 17, 0]
    ∧ win0_2.index t = ![if t.val % 17 < 16 then t.val / 17 else 4, 0, 0]
    ∧ win0_3.index t = ![if t.val % 17 < 16 then t.val / 17 else 4, 0, 0]
    ∧ win0_4.index t = ![0, 0] ∧ win0_5.index t = ![0, 0] ∧ win0_6.index t = ![t.val / 17, t.val % 17, 0] ∧ win0_7.index t = ![t.val / 17, t.val % 17, 0] :=
  (by decide +kernel : ∀ t : Fin grid0.N, _)

/-- Entry `j` of a token and of its mixers' or experts' result, weighted and added. -/
def res (X Y : FVec Ideal S4x4352x4096 .f32) (M : FVec Ideal S5x6x4096 .f32) (b : Fin 4) (r : Fin 4352) (j : Fin 4096) : EReal :=
  Ideal.ofBits .f32 0x3FD744FD#32 * X (ix3 b r j) + M (ix3 (mrow b r) (2 : Fin 6) j) * Y (ix3 b r j)

/-- The gate of a token. -/
theorem gate_apply (M : FVec Ideal S5x6x4096 .f32) (b : Fin 4) (r : Fin 4352) (j : Fin 4096) :
    Cert.LnaRefIdeal.Read.val_main_v10 (F := Ideal) M (ix3 b r j) = M (ix3 (mrow b r) (2 : Fin 6) j) := by
  by_cases h : r.val < 4096
  · have e : mrow b r = (⟨b.val, by omega⟩ : Fin 5) := Fin.ext (if_pos h)
    rw [e]
    pointwise [Cert.LnaRefIdeal.Read.val_main_v10]
    rw [dif_pos h, Cert.LnaRefIdeal.Read.val_main_v6_apply, Cert.LnaRefIdeal.Read.val_main_v5_apply, Cert.LnaRefIdeal.Read.val_main_v4_apply, Cert.LnaRefIdeal.Read.val_main_v3_apply, Cert.LnaRefIdeal.Read.val_main_v2_apply]
    refine congrArg M ?_
    blk_ext []
  · have e : mrow b r = (4 : Fin 5) := Fin.ext (if_neg h)
    rw [e]
    pointwise [Cert.LnaRefIdeal.Read.val_main_v10]
    rw [dif_neg h, Cert.LnaRefIdeal.Read.val_main_v9_apply, Cert.LnaRefIdeal.Read.val_main_v8_apply, Cert.LnaRefIdeal.Read.val_main_v7_apply, Cert.LnaRefIdeal.Read.val_main_v3_apply, Cert.LnaRefIdeal.Read.val_main_v2_apply]
    refine congrArg M ?_
    blk_ext []

/-- The reference's sum before the norm. -/
theorem res_apply (X Y : FVec Ideal S4x4352x4096 .f32) (M : FVec Ideal S5x6x4096 .f32) (b : Fin 4) (r : Fin 4352) (j : Fin 4096) :
    Cert.LnaRefIdeal.Read.val_main_v12 (F := Ideal) X Y M (ix3 b r j) = res X Y M b r j := by
  rw [Cert.LnaRefIdeal.Read.val_main_v12_apply, Cert.LnaRefIdeal.Read.val_main_v1_apply, Cert.LnaRefIdeal.Read.val_main_v11_apply, gate_apply]
  rfl

/-- The reference's mean. -/
theorem mean_apply (X Y : FVec Ideal S4x4352x4096 .f32) (M : FVec Ideal S5x6x4096 .f32) (b : Fin 4) (r : Fin 4352) :
    Cert.LnaRefIdeal.Read.val_main_v16 (F := Ideal) X Y M (ix3 b r (0 : Fin 1)) = lmean (res X Y M b r) := by
  refine Eq.trans ?_ (congrArg lmean (funext fun j => res_apply X Y M b r j))
  unfold lmean
  pointwise [Cert.LnaRefIdeal.Read.val_main_v16, Cert.LnaRefIdeal.Read.val_main_v15, Cert.LnaRefIdeal.Read.val_main_v14, Cert.LnaRefIdeal.Read.val_main_v13, Cert.LnaRefIdeal.Read.val_main_cst_0, Cert.LnaRefIdeal.Read.val_main_cst_1]

/-- The reference's token less its mean. -/
theorem cent_apply (X Y : FVec Ideal S4x4352x4096 .f32) (M : FVec Ideal S5x6x4096 .f32) (b : Fin 4) (r : Fin 4352) (j : Fin 4096) :
    Cert.LnaRefIdeal.Read.val_main_v18 (F := Ideal) X Y M (ix3 b r j) = res X Y M b r j - lmean (res X Y M b r) := by
  rw [Cert.LnaRefIdeal.Read.val_main_v18_apply, res_apply, Cert.LnaRefIdeal.Read.val_main_v17_apply]
  exact congrArg (_ - ·) ((congrArg (Cert.LnaRefIdeal.Read.val_main_v16 (F := Ideal) X Y M) (by blk_ext [])).trans (mean_apply X Y M b r))

/-- The reference's variance. -/
theorem var_apply (X Y : FVec Ideal S4x4352x4096 .f32) (M : FVec Ideal S5x6x4096 .f32) (b : Fin 4) (r : Fin 4352) :
    Cert.LnaRefIdeal.Read.val_main_v23 (F := Ideal) X Y M (ix3 b r (0 : Fin 1))
      = Ideal.div (∑ i, (res X Y M b r i - lmean (res X Y M b r)) * (res X Y M b r i - lmean (res X Y M b r)))
        (Ideal.ofBits .f32 0x45800000#32) := by
  refine Eq.trans ?_ (congrArg (Ideal.div · _) (Finset.sum_congr rfl fun j _ => congrArg₂ (· * ·) (cent_apply X Y M b r j) (cent_apply X Y M b r j)))
  pointwise [Cert.LnaRefIdeal.Read.val_main_v23, Cert.LnaRefIdeal.Read.val_main_v22, Cert.LnaRefIdeal.Read.val_main_v21, Cert.LnaRefIdeal.Read.val_main_v20, Cert.LnaRefIdeal.Read.val_main_v19, Cert.LnaRefIdeal.Read.val_main_cst_2, Cert.LnaRefIdeal.Read.val_main_cst_3]

/-- The token normed as the reference has it, of the kernel's argument arrays. -/
abbrev REF (X Y : FVec Ideal S4x4352x4096 .f32) (M : FVec Ideal S5x6x4096 .f32) (G C : FVec Ideal S4096 .f32) : FVec Ideal S4x4352x4096 .f32 :=
  Cert.LnaRefIdeal.Read.val_main_v36 (F := Ideal) X Y M G C

/-- What the reference computes. -/
theorem REF_apply (X Y : FVec Ideal S4x4352x4096 .f32) (M : FVec Ideal S5x6x4096 .f32) (G C : FVec Ideal S4096 .f32) (b : Fin 4) (r : Fin 4352) (j : Fin 4096) :
    REF X Y M G C (ix3 b r j) = lnorm (res X Y M b r) j (G (ix1 j)) (C (ix1 j)) := by
  unfold REF
  rw [Cert.LnaRefIdeal.Read.val_main_v36_apply, Cert.LnaRefIdeal.Read.val_main_v33_apply, Cert.LnaRefIdeal.Read.val_main_v30_apply, Cert.LnaRefIdeal.Read.val_main_v25_apply, Cert.LnaRefIdeal.Read.val_main_v24_apply, Cert.LnaRefIdeal.Read.val_main_v29_apply, Cert.LnaRefIdeal.Read.val_main_v28_apply, Cert.LnaRefIdeal.Read.val_main_v27_apply,
    Cert.LnaRefIdeal.Read.val_main_v32_apply, Cert.LnaRefIdeal.Read.val_main_v31_apply, Cert.LnaRefIdeal.Read.val_main_v35_apply, Cert.LnaRefIdeal.Read.val_main_v34_apply, res_apply]
  unfold lnorm
  refine congrArg₂ (· + ·) (congrArg₂ (· * ·) (congrArg₂ (· * ·) (congrArg (fun z => res X Y M b r j - z) ?_) (congrArg Ideal.rsqrt (congrArg₂ (· + ·) ?_ rfl))) (congrArg G ?_)) (congrArg C ?_)
  · exact (congrArg (Cert.LnaRefIdeal.Read.val_main_v16 (F := Ideal) X Y M) (by blk_ext [])).trans (mean_apply X Y M b r)
  · exact (congrArg (Cert.LnaRefIdeal.Read.val_main_v23 (F := Ideal) X Y M) (by blk_ext [])).trans (var_apply X Y M b r)
  · blk_ext []
  · blk_ext []

/-- What a point computes before the norm. -/
def bres (w : FVec Ideal S1x6x4096 .f32) (x y : FVec Ideal S1x256x4096 .f32) (a : Fin 256) (j : Fin 4096) : EReal :=
  Ideal.ofBits .f32 0x3FD744FD#32 * x (ix3 (0 : Fin 1) a j) + w (ix3 (0 : Fin 1) (2 : Fin 6) j) * y (ix3 (0 : Fin 1) a j)

/-- What a point computes. -/
theorem norm_apply (w : FVec Ideal S1x6x4096 .f32) (x y : FVec Ideal S1x256x4096 .f32) (g b : FVec Ideal S1x4096 .f32) (a : Fin 256) (j : Fin 4096) :
    k0_pay3 (F := Ideal) w x y g b (ix2 a j) = lnorm (bres w x y a) j (g (ix2 (0 : Fin 1) j)) (b (ix2 (0 : Fin 1) j)) := by
  pointwise [k0_pay3]
  rfl

/-- The normed tokens as the two stores read them. -/
theorem loads_eq (x0 x1 : FVec Ideal S1x256x4096 .f32) (x2 x3 : FVec Ideal S1x6x4096 .f32) (x4 x5 : FVec Ideal S1x4096 .f32) :
    k0_pay4 (F := Ideal) x0 x1 x2 x3 x4 x5 = k0_pay3 (F := Ideal) x2 x0 x1 x4 x5 := by
  unfold k0_pay4
  rw [show View.ld (Val := Elt Ideal) (e' := .f32) x2 r0_0 = x2 from View.ld_unit_lit _ _ (by decide), show View.ld (Val := Elt Ideal) (e' := .f32) x0 r0_1 = x0 from View.ld_unit_lit _ _ (by decide),
    show View.ld (Val := Elt Ideal) (e' := .f32) x1 r0_1 = x1 from View.ld_unit_lit _ _ (by decide), show View.ld (Val := Elt Ideal) (e' := .f32) x4 r0_2 = x4 from View.ld_unit_lit _ _ (by decide),
    show View.ld (Val := Elt Ideal) (e' := .f32) x5 r0_2 = x5 from View.ld_unit_lit _ _ (by decide)]

/-- What a point writes first: the normed tokens. -/
theorem pay_apply (v : FVec Ideal S256x4096 .f32) (a : Fin 256) (j : Fin 4096) :
    k0_pay1 (F := Ideal) v (ix3 (0 : Fin 1) a j) = v (ix2 a j) := by
  pointwise [k0_pay1]

/-- What a point writes next: them modulated. -/
theorem pay2_apply (v : FVec Ideal S256x4096 .f32) (w : FVec Ideal S1x6x4096 .f32) (a : Fin 256) (j : Fin 4096) :
    k0_pay2 (F := Ideal) v w (ix3 (0 : Fin 1) a j) = v (ix2 a j) * (Ideal.ofBits .f32 0x3F800000#32 + w (ix3 (0 : Fin 1) (4 : Fin 6) j))
      + w (ix3 (0 : Fin 1) (3 : Fin 6) j) := by
  pointwise [k0_pay2]

/-- The gains as the region finds them. -/
theorem gains (c : Dev nD) (j : Fin 4096) :
    V m c main_v0 (ix2 (0 : Fin 1) j) = m ((c : Thread nD τ).loc main_arg3) (ix1 j) := by
  entry_read
  pointwise

/-- The biases as the region finds them. -/
theorem biases (c : Dev nD) (j : Fin 4096) :
    V m c main_v1 (ix2 (0 : Fin 1) j) = m ((c : Thread nD τ).loc main_arg4) (ix1 j) := by
  entry_read
  pointwise

/-- A point's blocks before the norm are the arguments' entries. -/
theorem bres_eq (c : Dev nD) (t : Fin cfg0.N) (ht : t.val < 68) (a : Fin 256) :
    bres (iblk m c 2 t) (iblk m c 0 t) (iblk m c 1 t) a
      = res (m ((c : Thread nD τ).loc main_arg0)) (m ((c : Thread nD τ).loc main_arg1)) (m ((c : Thread nD τ).loc main_arg2)) (⟨t.val / 17, by omega⟩ : Fin 4) (⟨t.val % 17 * 256 + a.val, by omega⟩ : Fin 4352) := by
  obtain ⟨h0, h1, h2, -⟩ := idx t
  funext j
  unfold bres res
  rw [← V_main_arg0 m c, ← V_main_arg1 m c, ← V_main_arg2 m c]
  refine congrArg₂ (· + ·) (congrArg (_ * ·) ?_) (congrArg₂ (· * ·) ?_ ?_)
  · blk_point [iblk, h0]
  · rw [mrow_eq t.val ht a]; unfold brow; blk_point [iblk, h2]
  · blk_point [iblk, h1]

/-- The gains' block. -/
abbrev B4 (c : Dev nD) (t : Fin cfg0.N) : FVec Ideal S1x4096 .f32 := iblk m c 4 t

/-- The biases' block. -/
abbrev B5 (c : Dev nD) (t : Fin cfg0.N) : FVec Ideal S1x4096 .f32 := iblk m c 5 t

/-- A point's normed entries are the reference's. -/
theorem norm_eq (c : Dev nD) (t : Fin cfg0.N) (ht : t.val < 68) (a : Fin 256) (j : Fin 4096) :
    lnorm (bres (iblk m c 2 t) (iblk m c 0 t) (iblk m c 1 t) a) j (B4 m c t (ix2 (0 : Fin 1) j)) (B5 m c t (ix2 (0 : Fin 1) j))
      = REF (m ((c : Thread nD τ).loc main_arg0)) (m ((c : Thread nD τ).loc main_arg1)) (m ((c : Thread nD τ).loc main_arg2)) (m ((c : Thread nD τ).loc main_arg3)) (m ((c : Thread nD τ).loc main_arg4)) (ix3 (⟨t.val / 17, by omega⟩ : Fin 4) (⟨t.val % 17 * 256 + a.val, by omega⟩ : Fin 4352) j) := by
  obtain ⟨-, -, -, -, h4, h5, -⟩ := idx t
  rw [REF_apply, bres_eq m c t ht a, ← gains m c, ← biases m c]
  refine congrArg₂ (lnorm _ j) ?_ ?_
  · blk_point [iblk, h4]
  · blk_point [iblk, h5]

/-- Every entry a point writes first is the reference's entry there. -/
theorem point (c : Dev nD) (t : Fin cfg0.N) (y : S1x256x4096.Idx) :
    k0_pay1 (F := Ideal) (k0_pay3 (F := Ideal) (iblk m c 2 t) (iblk m c 0 t) (iblk m c 1 t) (iblk m c 4 t) (iblk m c 5 t)) y
      = REF (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y) := by
  obtain ⟨h0, h1, h2, h3, h4, h5, h6, h7⟩ := idx t
  have ht : t.val < 68 := t.isLt
  idx_vars y
  obtain rfl : y0 = 0 := Subsingleton.elim _ _
  have e : ((cfg0.win 6).blk t).view.emb (ix3 (0 : Fin 1) y1 y2) = ix3 (⟨t.val / 17, by omega⟩ : Fin 4) (⟨t.val % 17 * 256 + y1.val, by omega⟩ : Fin 4352) y2 := by
    blk_ext [h6]
  rw [e, pay_apply, norm_apply]
  exact norm_eq m c t ht y1 y2

/-- The whole result array after the run. -/
theorem final (c : Dev nD) : (dats m 0 c).arrAt 6 (cfgs 0).N
    = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  frame_out
  rw [loads_eq]
  exact point m c t y

/-- The shift of a token. -/
theorem shift_apply (M : FVec Ideal S5x6x4096 .f32) (b : Fin 4) (r : Fin 4352) (j : Fin 4096) :
    Cert.LnaRefIdeal.Read.val_main_v45 (F := Ideal) M (ix3 b r j) = M (ix3 (mrow b r) (3 : Fin 6) j) := by
  by_cases h : r.val < 4096
  · have e : mrow b r = (⟨b.val, by omega⟩ : Fin 5) := Fin.ext (if_pos h)
    rw [e]
    pointwise [Cert.LnaRefIdeal.Read.val_main_v45]
    rw [dif_pos h, Cert.LnaRefIdeal.Read.val_main_v41_apply, Cert.LnaRefIdeal.Read.val_main_v40_apply, Cert.LnaRefIdeal.Read.val_main_v39_apply, Cert.LnaRefIdeal.Read.val_main_v38_apply, Cert.LnaRefIdeal.Read.val_main_v37_apply]
    refine congrArg M ?_
    blk_ext []
  · have e : mrow b r = (4 : Fin 5) := Fin.ext (if_neg h)
    rw [e]
    pointwise [Cert.LnaRefIdeal.Read.val_main_v45]
    rw [dif_neg h, Cert.LnaRefIdeal.Read.val_main_v44_apply, Cert.LnaRefIdeal.Read.val_main_v43_apply, Cert.LnaRefIdeal.Read.val_main_v42_apply, Cert.LnaRefIdeal.Read.val_main_v38_apply, Cert.LnaRefIdeal.Read.val_main_v37_apply]
    refine congrArg M ?_
    blk_ext []

/-- The scale of a token. -/
theorem scale_apply (M : FVec Ideal S5x6x4096 .f32) (b : Fin 4) (r : Fin 4352) (j : Fin 4096) :
    Cert.LnaRefIdeal.Read.val_main_v54 (F := Ideal) M (ix3 b r j) = M (ix3 (mrow b r) (4 : Fin 6) j) := by
  by_cases h : r.val < 4096
  · have e : mrow b r = (⟨b.val, by omega⟩ : Fin 5) := Fin.ext (if_pos h)
    rw [e]
    pointwise [Cert.LnaRefIdeal.Read.val_main_v54]
    rw [dif_pos h, Cert.LnaRefIdeal.Read.val_main_v50_apply, Cert.LnaRefIdeal.Read.val_main_v49_apply, Cert.LnaRefIdeal.Read.val_main_v48_apply, Cert.LnaRefIdeal.Read.val_main_v47_apply, Cert.LnaRefIdeal.Read.val_main_v46_apply]
    refine congrArg M ?_
    blk_ext []
  · have e : mrow b r = (4 : Fin 5) := Fin.ext (if_neg h)
    rw [e]
    pointwise [Cert.LnaRefIdeal.Read.val_main_v54]
    rw [dif_neg h, Cert.LnaRefIdeal.Read.val_main_v53_apply, Cert.LnaRefIdeal.Read.val_main_v52_apply, Cert.LnaRefIdeal.Read.val_main_v51_apply, Cert.LnaRefIdeal.Read.val_main_v47_apply, Cert.LnaRefIdeal.Read.val_main_v46_apply]
    refine congrArg M ?_
    blk_ext []

/-- The token modulated as the reference has it, of the kernel's argument arrays. -/
abbrev REF2 (X Y : FVec Ideal S4x4352x4096 .f32) (M : FVec Ideal S5x6x4096 .f32) (G C : FVec Ideal S4096 .f32) : FVec Ideal S4x4352x4096 .f32 :=
  Cert.LnaRefIdeal.Read.val_main_v58 (F := Ideal) X Y M G C

/-- What the reference computes next. -/
theorem REF2_apply (X Y : FVec Ideal S4x4352x4096 .f32) (M : FVec Ideal S5x6x4096 .f32) (G C : FVec Ideal S4096 .f32) (b : Fin 4) (r : Fin 4352) (j : Fin 4096) :
    REF2 X Y M G C (ix3 b r j) = REF X Y M G C (ix3 b r j)
      * (Ideal.ofBits .f32 0x3F800000#32 + M (ix3 (mrow b r) (4 : Fin 6) j)) + M (ix3 (mrow b r) (3 : Fin 6) j) := by
  unfold REF2
  rw [Cert.LnaRefIdeal.Read.val_main_v58_apply, Cert.LnaRefIdeal.Read.val_main_v57_apply, Cert.LnaRefIdeal.Read.val_main_v56_apply, shift_apply, scale_apply]
  rfl

/-- Every entry a point writes next is the reference's entry there. -/
theorem point2 (c : Dev nD) (t : Fin cfg0.N) (y : S1x256x4096.Idx) :
    k0_pay2 (F := Ideal) (k0_pay3 (F := Ideal) (iblk m c 2 t) (iblk m c 0 t) (iblk m c 1 t) (iblk m c 4 t) (iblk m c 5 t)) (iblk m c 3 t) y
      = REF2 (m ((c : Thread nD τ).loc main_arg0)) (m ((c : Thread nD τ).loc main_arg1)) (m ((c : Thread nD τ).loc main_arg2)) (m ((c : Thread nD τ).loc main_arg3)) (m ((c : Thread nD τ).loc main_arg4)) (((cfg0.win 7).blk t).view.emb y) := by
  obtain ⟨h0, h1, h2, h3, h4, h5, h6, h7⟩ := idx t
  have ht : t.val < 68 := t.isLt
  idx_vars y
  obtain rfl : y0 = 0 := Subsingleton.elim _ _
  have e : ((cfg0.win 7).blk t).view.emb (ix3 (0 : Fin 1) y1 y2) = ix3 (⟨t.val / 17, by omega⟩ : Fin 4) (⟨t.val % 17 * 256 + y1.val, by omega⟩ : Fin 4352) y2 := by
    blk_ext [h7]
  rw [e, REF2_apply, pay2_apply, norm_apply, ← norm_eq m c t ht y1 y2, mrow_eq t.val ht y1, ← V_main_arg2 m c]
  unfold brow
  refine congrArg₂ (· + ·) (congrArg (_ * ·) (congrArg (_ + ·) ?_)) ?_
  · blk_point [iblk, h3]
  · blk_point [iblk, h3]

/-- The whole result array after the run. -/
theorem final2 (c : Dev nD) : (dats m 0 c).arrAt 7 (cfgs 0).N
    = REF2 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]
  frame_out
  rw [loads_eq]
  exact point2 m c t y

end Cert.LnaIdeal.Value

end
-- ==== Proof.LnaClaim.lean ====
/- RESIDUAL, NORM AND MODULATION, first call: its claims: each program runs and gives its counters back, and the kernel and the reference end
   with equal results. -/
module

public import proofs.«01_k».proof.Defs
public import proofs.«01_k».proof.Proof.Gen.Lna.Frame
public import proofs.«01_k».proof.Proof.Gen.LnaRefIdeal.Run
public import proofs.«01_k».proof.Proof.LnaValue

@[expose] public section

set_option maxRecDepth 16384

noncomputable section

namespace Cert.Proof.Lna

open Idealize.ShloMosaic Idealize.SL.Sem

/-- The kernel runs, its arguments unchanged and its counters back at zero. -/
theorem frame : Cert.quiescent_Lna := fun m g _ => Cert.Lna.Gen.frame m g

/-- The kernel read at the extended reals, likewise. -/
theorem frame_ideal : Cert.quiescent_LnaIdeal := fun m g _ => Cert.LnaIdeal.Gen.frame m g

/-- The reference, likewise. -/
theorem frame_ref : Cert.quiescent_LnaRefIdeal := fun m g _ =>
  (θ_run Cert.LnaRefIdeal.defs _ _).mono (fun r h => ⟨fun c => (h c).2.2, Idealize.ShloMosaic.sem_eq_zero_of_no_sems (by decide) r.2⟩)
    (Cert.LnaRefIdeal.Value.run (F := Ideal) m g)

/-- The kernel's two results are the reference's. -/
theorem value : Cert.algebraic_LnaIdeal_LnaRefIdeal := by
  intro m g m' g' _ hagree
  refine ⟨fun c => Cert.LnaIdeal.Value.REF (m ((c.tc : Thread Cert.LnaIdeal.nD Cert.LnaIdeal.τ).loc Cert.LnaIdeal.main_arg0))
      (m ((c.tc : Thread Cert.LnaIdeal.nD Cert.LnaIdeal.τ).loc Cert.LnaIdeal.main_arg1))
      (m ((c.tc : Thread Cert.LnaIdeal.nD Cert.LnaIdeal.τ).loc Cert.LnaIdeal.main_arg2))
      (m ((c.tc : Thread Cert.LnaIdeal.nD Cert.LnaIdeal.τ).loc Cert.LnaIdeal.main_arg3))
      (m ((c.tc : Thread Cert.LnaIdeal.nD Cert.LnaIdeal.τ).loc Cert.LnaIdeal.main_arg4)),
    fun c => Cert.LnaIdeal.Value.REF2 (m ((c.tc : Thread Cert.LnaIdeal.nD Cert.LnaIdeal.τ).loc Cert.LnaIdeal.main_arg0))
      (m ((c.tc : Thread Cert.LnaIdeal.nD Cert.LnaIdeal.τ).loc Cert.LnaIdeal.main_arg1))
      (m ((c.tc : Thread Cert.LnaIdeal.nD Cert.LnaIdeal.τ).loc Cert.LnaIdeal.main_arg2))
      (m ((c.tc : Thread Cert.LnaIdeal.nD Cert.LnaIdeal.τ).loc Cert.LnaIdeal.main_arg3))
      (m ((c.tc : Thread Cert.LnaIdeal.nD Cert.LnaIdeal.τ).loc Cert.LnaIdeal.main_arg4)), ?_, ?_⟩
  · refine (θ_run Cert.LnaIdeal.defs _ _).mono (fun r h c => ⟨(h c).1.trans (Cert.LnaIdeal.Value.final m c),
        (h c).2.1.trans (Cert.LnaIdeal.Value.final2 m c), (h c).2.2⟩)
      (Cert.LnaIdeal.Value.run_blocks (F := Ideal) m g)
  · refine (θ_run Cert.LnaRefIdeal.defs _ _).mono (fun r h c => ⟨(h c).1.trans ?_, (h c).2.1.trans ?_, (h c).2.2⟩)
      (Cert.LnaRefIdeal.Value.run (F := Ideal) m' g')
    · rw [Cert.LnaRefIdeal.Read.val_main_v36_eq, (hagree c).1, (hagree c).2.1, (hagree c).2.2.1, (hagree c).2.2.2.1, (hagree c).2.2.2.2]
    · rw [Cert.LnaRefIdeal.Read.val_main_v58_eq, (hagree c).1, (hagree c).2.1, (hagree c).2.2.1, (hagree c).2.2.2.1, (hagree c).2.2.2.2]

end Cert.Proof.Lna

end
-- ==== Proof.LnbValue.lean ====
/- THE RESIDUAL, NORM AND MODULATION AFTER THE EXPERTS, their value: as after the mixers, the shift and scale being the
   next layer's. -/
module

public import proofs.«01_k».proof.Proof.Gen.LnbIdeal.Value
public import proofs.«01_k».proof.Proof.Gen.LnbRefIdeal.Read
public import proofs.«01_k».proof.Proof.Norms
public import Idealize.ShloMosaic.Lib.Pipeline.ValueKit
public import Idealize.ShloMosaic.Lib.Pointwise

@[expose] public section

set_option maxRecDepth 16384

noncomputable section

namespace Cert.LnbIdeal.Value

open Cert.LnbIdeal Cert.LnbIdeal.Gen Idealize.ShloMosaic Idealize.ShloMosaic.TcCoe Idealize.SL.Sem
open Idealize.ShloMosaic.Pipeline (Dat)
open Cert.Proof

variable (m : (ℓ : Loc nD τ sig) → Buf (Elt Ideal) ℓ)

/-- The blocks of point `t`: sequence `t / 17`, tokens of block `t % 17`. -/
theorem idx : ∀ t : Fin cfg0.N, win0_0.index t = ![t.val / 17, t.val % 17, 0] ∧ win0_1.index t = ![t.val / 17, t.val % 17, 0]
    ∧ win0_2.index t = ![if t.val % 17 < 16 then t.val / 17 else 4, 0, 0]
    ∧ win0_3.index t = ![if t.val % 17 < 16 then t.val / 17 else 4, 0, 0]
    ∧ win0_4.index t = ![0, 0] ∧ win0_5.index t = ![0, 0] ∧ win0_6.index t = ![t.val / 17, t.val % 17, 0] ∧ win0_7.index t = ![t.val / 17, t.val % 17, 0] :=
  (by decide +kernel : ∀ t : Fin grid0.N, _)

/-- Entry `j` of a token and of its mixers' or experts' result, weighted and added. -/
def res (X Y : FVec Ideal S4x4352x4096 .f32) (M : FVec Ideal S5x6x4096 .f32) (b : Fin 4) (r : Fin 4352) (j : Fin 4096) : EReal :=
  Ideal.ofBits .f32 0x3FD744FD#32 * X (ix3 b r j) + M (ix3 (mrow b r) (5 : Fin 6) j) * Y (ix3 b r j)

/-- The gate of a token. -/
theorem gate_apply (M : FVec Ideal S5x6x4096 .f32) (b : Fin 4) (r : Fin 4352) (j : Fin 4096) :
    Cert.LnbRefIdeal.Read.val_main_v10 (F := Ideal) M (ix3 b r j) = M (ix3 (mrow b r) (5 : Fin 6) j) := by
  by_cases h : r.val < 4096
  · have e : mrow b r = (⟨b.val, by omega⟩ : Fin 5) := Fin.ext (if_pos h)
    rw [e]
    pointwise [Cert.LnbRefIdeal.Read.val_main_v10]
    rw [dif_pos h, Cert.LnbRefIdeal.Read.val_main_v6_apply, Cert.LnbRefIdeal.Read.val_main_v5_apply, Cert.LnbRefIdeal.Read.val_main_v4_apply, Cert.LnbRefIdeal.Read.val_main_v3_apply, Cert.LnbRefIdeal.Read.val_main_v2_apply]
    refine congrArg M ?_
    blk_ext []
  · have e : mrow b r = (4 : Fin 5) := Fin.ext (if_neg h)
    rw [e]
    pointwise [Cert.LnbRefIdeal.Read.val_main_v10]
    rw [dif_neg h, Cert.LnbRefIdeal.Read.val_main_v9_apply, Cert.LnbRefIdeal.Read.val_main_v8_apply, Cert.LnbRefIdeal.Read.val_main_v7_apply, Cert.LnbRefIdeal.Read.val_main_v3_apply, Cert.LnbRefIdeal.Read.val_main_v2_apply]
    refine congrArg M ?_
    blk_ext []

/-- The reference's sum before the norm. -/
theorem res_apply (X Y : FVec Ideal S4x4352x4096 .f32) (M : FVec Ideal S5x6x4096 .f32) (b : Fin 4) (r : Fin 4352) (j : Fin 4096) :
    Cert.LnbRefIdeal.Read.val_main_v12 (F := Ideal) X Y M (ix3 b r j) = res X Y M b r j := by
  rw [Cert.LnbRefIdeal.Read.val_main_v12_apply, Cert.LnbRefIdeal.Read.val_main_v1_apply, Cert.LnbRefIdeal.Read.val_main_v11_apply, gate_apply]
  rfl

/-- The reference's mean. -/
theorem mean_apply (X Y : FVec Ideal S4x4352x4096 .f32) (M : FVec Ideal S5x6x4096 .f32) (b : Fin 4) (r : Fin 4352) :
    Cert.LnbRefIdeal.Read.val_main_v16 (F := Ideal) X Y M (ix3 b r (0 : Fin 1)) = lmean (res X Y M b r) := by
  refine Eq.trans ?_ (congrArg lmean (funext fun j => res_apply X Y M b r j))
  unfold lmean
  pointwise [Cert.LnbRefIdeal.Read.val_main_v16, Cert.LnbRefIdeal.Read.val_main_v15, Cert.LnbRefIdeal.Read.val_main_v14, Cert.LnbRefIdeal.Read.val_main_v13, Cert.LnbRefIdeal.Read.val_main_cst_0, Cert.LnbRefIdeal.Read.val_main_cst_1]

/-- The reference's token less its mean. -/
theorem cent_apply (X Y : FVec Ideal S4x4352x4096 .f32) (M : FVec Ideal S5x6x4096 .f32) (b : Fin 4) (r : Fin 4352) (j : Fin 4096) :
    Cert.LnbRefIdeal.Read.val_main_v18 (F := Ideal) X Y M (ix3 b r j) = res X Y M b r j - lmean (res X Y M b r) := by
  rw [Cert.LnbRefIdeal.Read.val_main_v18_apply, res_apply, Cert.LnbRefIdeal.Read.val_main_v17_apply]
  exact congrArg (_ - ·) ((congrArg (Cert.LnbRefIdeal.Read.val_main_v16 (F := Ideal) X Y M) (by blk_ext [])).trans (mean_apply X Y M b r))

/-- The reference's variance. -/
theorem var_apply (X Y : FVec Ideal S4x4352x4096 .f32) (M : FVec Ideal S5x6x4096 .f32) (b : Fin 4) (r : Fin 4352) :
    Cert.LnbRefIdeal.Read.val_main_v23 (F := Ideal) X Y M (ix3 b r (0 : Fin 1))
      = Ideal.div (∑ i, (res X Y M b r i - lmean (res X Y M b r)) * (res X Y M b r i - lmean (res X Y M b r)))
        (Ideal.ofBits .f32 0x45800000#32) := by
  refine Eq.trans ?_ (congrArg (Ideal.div · _) (Finset.sum_congr rfl fun j _ => congrArg₂ (· * ·) (cent_apply X Y M b r j) (cent_apply X Y M b r j)))
  pointwise [Cert.LnbRefIdeal.Read.val_main_v23, Cert.LnbRefIdeal.Read.val_main_v22, Cert.LnbRefIdeal.Read.val_main_v21, Cert.LnbRefIdeal.Read.val_main_v20, Cert.LnbRefIdeal.Read.val_main_v19, Cert.LnbRefIdeal.Read.val_main_cst_2, Cert.LnbRefIdeal.Read.val_main_cst_3]

/-- The token normed as the reference has it, of the kernel's argument arrays. -/
abbrev REF (X Y : FVec Ideal S4x4352x4096 .f32) (M N : FVec Ideal S5x6x4096 .f32) (G C : FVec Ideal S4096 .f32) : FVec Ideal S4x4352x4096 .f32 :=
  Cert.LnbRefIdeal.Read.val_main_v36 (F := Ideal) X Y M G C

/-- What the reference computes. -/
theorem REF_apply (X Y : FVec Ideal S4x4352x4096 .f32) (M N : FVec Ideal S5x6x4096 .f32) (G C : FVec Ideal S4096 .f32) (b : Fin 4) (r : Fin 4352) (j : Fin 4096) :
    REF X Y M N G C (ix3 b r j) = lnorm (res X Y M b r) j (G (ix1 j)) (C (ix1 j)) := by
  unfold REF
  rw [Cert.LnbRefIdeal.Read.val_main_v36_apply, Cert.LnbRefIdeal.Read.val_main_v33_apply, Cert.LnbRefIdeal.Read.val_main_v30_apply, Cert.LnbRefIdeal.Read.val_main_v25_apply, Cert.LnbRefIdeal.Read.val_main_v24_apply, Cert.LnbRefIdeal.Read.val_main_v29_apply, Cert.LnbRefIdeal.Read.val_main_v28_apply, Cert.LnbRefIdeal.Read.val_main_v27_apply,
    Cert.LnbRefIdeal.Read.val_main_v32_apply, Cert.LnbRefIdeal.Read.val_main_v31_apply, Cert.LnbRefIdeal.Read.val_main_v35_apply, Cert.LnbRefIdeal.Read.val_main_v34_apply, res_apply]
  unfold lnorm
  refine congrArg₂ (· + ·) (congrArg₂ (· * ·) (congrArg₂ (· * ·) (congrArg (fun z => res X Y M b r j - z) ?_) (congrArg Ideal.rsqrt (congrArg₂ (· + ·) ?_ rfl))) (congrArg G ?_)) (congrArg C ?_)
  · exact (congrArg (Cert.LnbRefIdeal.Read.val_main_v16 (F := Ideal) X Y M) (by blk_ext [])).trans (mean_apply X Y M b r)
  · exact (congrArg (Cert.LnbRefIdeal.Read.val_main_v23 (F := Ideal) X Y M) (by blk_ext [])).trans (var_apply X Y M b r)
  · blk_ext []
  · blk_ext []

/-- What a point computes before the norm. -/
def bres (w : FVec Ideal S1x6x4096 .f32) (x y : FVec Ideal S1x256x4096 .f32) (a : Fin 256) (j : Fin 4096) : EReal :=
  Ideal.ofBits .f32 0x3FD744FD#32 * x (ix3 (0 : Fin 1) a j) + w (ix3 (0 : Fin 1) (5 : Fin 6) j) * y (ix3 (0 : Fin 1) a j)

/-- What a point computes. -/
theorem norm_apply (w : FVec Ideal S1x6x4096 .f32) (x y : FVec Ideal S1x256x4096 .f32) (g b : FVec Ideal S1x4096 .f32) (a : Fin 256) (j : Fin 4096) :
    k0_pay3 (F := Ideal) w x y g b (ix2 a j) = lnorm (bres w x y a) j (g (ix2 (0 : Fin 1) j)) (b (ix2 (0 : Fin 1) j)) := by
  pointwise [k0_pay3]
  rfl

/-- The normed tokens as the two stores read them. -/
theorem loads_eq (x0 x1 : FVec Ideal S1x256x4096 .f32) (x2 x3 : FVec Ideal S1x6x4096 .f32) (x4 x5 : FVec Ideal S1x4096 .f32) :
    k0_pay4 (F := Ideal) x0 x1 x2 x3 x4 x5 = k0_pay3 (F := Ideal) x2 x0 x1 x4 x5 := by
  unfold k0_pay4
  rw [show View.ld (Val := Elt Ideal) (e' := .f32) x2 r0_0 = x2 from View.ld_unit_lit _ _ (by decide), show View.ld (Val := Elt Ideal) (e' := .f32) x0 r0_1 = x0 from View.ld_unit_lit _ _ (by decide),
    show View.ld (Val := Elt Ideal) (e' := .f32) x1 r0_1 = x1 from View.ld_unit_lit _ _ (by decide), show View.ld (Val := Elt Ideal) (e' := .f32) x4 r0_2 = x4 from View.ld_unit_lit _ _ (by decide),
    show View.ld (Val := Elt Ideal) (e' := .f32) x5 r0_2 = x5 from View.ld_unit_lit _ _ (by decide)]

/-- What a point writes first: the normed tokens. -/
theorem pay_apply (v : FVec Ideal S256x4096 .f32) (a : Fin 256) (j : Fin 4096) :
    k0_pay1 (F := Ideal) v (ix3 (0 : Fin 1) a j) = v (ix2 a j) := by
  pointwise [k0_pay1]

/-- What a point writes next: them modulated. -/
theorem pay2_apply (v : FVec Ideal S256x4096 .f32) (w : FVec Ideal S1x6x4096 .f32) (a : Fin 256) (j : Fin 4096) :
    k0_pay2 (F := Ideal) v w (ix3 (0 : Fin 1) a j) = v (ix2 a j) * (Ideal.ofBits .f32 0x3F800000#32 + w (ix3 (0 : Fin 1) (1 : Fin 6) j))
      + w (ix3 (0 : Fin 1) (0 : Fin 6) j) := by
  pointwise [k0_pay2]

/-- The gains as the region finds them. -/
theorem gains (c : Dev nD) (j : Fin 4096) :
    V m c main_v0 (ix2 (0 : Fin 1) j) = m ((c : Thread nD τ).loc main_arg4) (ix1 j) := by
  entry_read
  pointwise

/-- The biases as the region finds them. -/
theorem biases (c : Dev nD) (j : Fin 4096) :
    V m c main_v1 (ix2 (0 : Fin 1) j) = m ((c : Thread nD τ).loc main_arg5) (ix1 j) := by
  entry_read
  pointwise

/-- A point's blocks before the norm are the arguments' entries. -/
theorem bres_eq (c : Dev nD) (t : Fin cfg0.N) (ht : t.val < 68) (a : Fin 256) :
    bres (iblk m c 2 t) (iblk m c 0 t) (iblk m c 1 t) a
      = res (m ((c : Thread nD τ).loc main_arg0)) (m ((c : Thread nD τ).loc main_arg1)) (m ((c : Thread nD τ).loc main_arg2)) (⟨t.val / 17, by omega⟩ : Fin 4) (⟨t.val % 17 * 256 + a.val, by omega⟩ : Fin 4352) := by
  obtain ⟨h0, h1, h2, -⟩ := idx t
  funext j
  unfold bres res
  rw [← V_main_arg0 m c, ← V_main_arg1 m c, ← V_main_arg2 m c]
  refine congrArg₂ (· + ·) (congrArg (_ * ·) ?_) (congrArg₂ (· * ·) ?_ ?_)
  · blk_point [iblk, h0]
  · rw [mrow_eq t.val ht a]; unfold brow; blk_point [iblk, h2]
  · blk_point [iblk, h1]

/-- The gains' block. -/
abbrev B4 (c : Dev nD) (t : Fin cfg0.N) : FVec Ideal S1x4096 .f32 := iblk m c 4 t

/-- The biases' block. -/
abbrev B5 (c : Dev nD) (t : Fin cfg0.N) : FVec Ideal S1x4096 .f32 := iblk m c 5 t

/-- A point's normed entries are the reference's. -/
theorem norm_eq (c : Dev nD) (t : Fin cfg0.N) (ht : t.val < 68) (a : Fin 256) (j : Fin 4096) :
    lnorm (bres (iblk m c 2 t) (iblk m c 0 t) (iblk m c 1 t) a) j (B4 m c t (ix2 (0 : Fin 1) j)) (B5 m c t (ix2 (0 : Fin 1) j))
      = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 (⟨t.val / 17, by omega⟩ : Fin 4) (⟨t.val % 17 * 256 + a.val, by omega⟩ : Fin 4352) j) := by
  obtain ⟨-, -, -, -, h4, h5, -⟩ := idx t
  rw [REF_apply, bres_eq m c t ht a, ← gains m c, ← biases m c]
  refine congrArg₂ (lnorm _ j) ?_ ?_
  · blk_point [iblk, h4]
  · blk_point [iblk, h5]

/-- Every entry a point writes first is the reference's entry there. -/
theorem point (c : Dev nD) (t : Fin cfg0.N) (y : S1x256x4096.Idx) :
    k0_pay1 (F := Ideal) (k0_pay3 (F := Ideal) (iblk m c 2 t) (iblk m c 0 t) (iblk m c 1 t) (iblk m c 4 t) (iblk m c 5 t)) y
      = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 6).blk t).view.emb y) := by
  obtain ⟨h0, h1, h2, h3, h4, h5, h6, h7⟩ := idx t
  have ht : t.val < 68 := t.isLt
  idx_vars y
  obtain rfl : y0 = 0 := Subsingleton.elim _ _
  have e : ((cfg0.win 6).blk t).view.emb (ix3 (0 : Fin 1) y1 y2) = ix3 (⟨t.val / 17, by omega⟩ : Fin 4) (⟨t.val % 17 * 256 + y1.val, by omega⟩ : Fin 4352) y2 := by
    blk_ext [h6]
  rw [e, pay_apply, norm_apply]
  exact norm_eq m c t ht y1 y2

/-- The whole result array after the run. -/
theorem final (c : Dev nD) : (dats m 0 c).arrAt 6 (cfgs 0).N
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  frame_out
  rw [loads_eq]
  exact point m c t y

/-- The shift of a token. -/
theorem shift_apply (M : FVec Ideal S5x6x4096 .f32) (b : Fin 4) (r : Fin 4352) (j : Fin 4096) :
    Cert.LnbRefIdeal.Read.val_main_v45 (F := Ideal) M (ix3 b r j) = M (ix3 (mrow b r) (0 : Fin 6) j) := by
  by_cases h : r.val < 4096
  · have e : mrow b r = (⟨b.val, by omega⟩ : Fin 5) := Fin.ext (if_pos h)
    rw [e]
    pointwise [Cert.LnbRefIdeal.Read.val_main_v45]
    rw [dif_pos h, Cert.LnbRefIdeal.Read.val_main_v41_apply, Cert.LnbRefIdeal.Read.val_main_v40_apply, Cert.LnbRefIdeal.Read.val_main_v39_apply, Cert.LnbRefIdeal.Read.val_main_v38_apply, Cert.LnbRefIdeal.Read.val_main_v37_apply]
    refine congrArg M ?_
    blk_ext []
  · have e : mrow b r = (4 : Fin 5) := Fin.ext (if_neg h)
    rw [e]
    pointwise [Cert.LnbRefIdeal.Read.val_main_v45]
    rw [dif_neg h, Cert.LnbRefIdeal.Read.val_main_v44_apply, Cert.LnbRefIdeal.Read.val_main_v43_apply, Cert.LnbRefIdeal.Read.val_main_v42_apply, Cert.LnbRefIdeal.Read.val_main_v38_apply, Cert.LnbRefIdeal.Read.val_main_v37_apply]
    refine congrArg M ?_
    blk_ext []

/-- The scale of a token. -/
theorem scale_apply (M : FVec Ideal S5x6x4096 .f32) (b : Fin 4) (r : Fin 4352) (j : Fin 4096) :
    Cert.LnbRefIdeal.Read.val_main_v54 (F := Ideal) M (ix3 b r j) = M (ix3 (mrow b r) (1 : Fin 6) j) := by
  by_cases h : r.val < 4096
  · have e : mrow b r = (⟨b.val, by omega⟩ : Fin 5) := Fin.ext (if_pos h)
    rw [e]
    pointwise [Cert.LnbRefIdeal.Read.val_main_v54]
    rw [dif_pos h, Cert.LnbRefIdeal.Read.val_main_v50_apply, Cert.LnbRefIdeal.Read.val_main_v49_apply, Cert.LnbRefIdeal.Read.val_main_v48_apply, Cert.LnbRefIdeal.Read.val_main_v47_apply, Cert.LnbRefIdeal.Read.val_main_v46_apply]
    refine congrArg M ?_
    blk_ext []
  · have e : mrow b r = (4 : Fin 5) := Fin.ext (if_neg h)
    rw [e]
    pointwise [Cert.LnbRefIdeal.Read.val_main_v54]
    rw [dif_neg h, Cert.LnbRefIdeal.Read.val_main_v53_apply, Cert.LnbRefIdeal.Read.val_main_v52_apply, Cert.LnbRefIdeal.Read.val_main_v51_apply, Cert.LnbRefIdeal.Read.val_main_v47_apply, Cert.LnbRefIdeal.Read.val_main_v46_apply]
    refine congrArg M ?_
    blk_ext []

/-- The token modulated as the reference has it, of the kernel's argument arrays. -/
abbrev REF2 (X Y : FVec Ideal S4x4352x4096 .f32) (M N : FVec Ideal S5x6x4096 .f32) (G C : FVec Ideal S4096 .f32) : FVec Ideal S4x4352x4096 .bf16 :=
  Cert.LnbRefIdeal.Read.val_main_v59 (F := Ideal) X Y M N G C

/-- What the reference computes next. -/
theorem REF2_apply (X Y : FVec Ideal S4x4352x4096 .f32) (M N : FVec Ideal S5x6x4096 .f32) (G C : FVec Ideal S4096 .f32) (b : Fin 4) (r : Fin 4352) (j : Fin 4096) :
    REF2 X Y M N G C (ix3 b r j) = REF X Y M N G C (ix3 b r j)
      * (Ideal.ofBits .f32 0x3F800000#32 + N (ix3 (mrow b r) (1 : Fin 6) j)) + N (ix3 (mrow b r) (0 : Fin 6) j) := by
  unfold REF2
  rw [Cert.LnbRefIdeal.Read.val_main_v59_apply, Cert.LnbRefIdeal.Read.val_main_v58_apply, Cert.LnbRefIdeal.Read.val_main_v57_apply, Cert.LnbRefIdeal.Read.val_main_v56_apply, shift_apply, scale_apply]
  rfl

/-- Every entry a point writes next is the reference's entry there. -/
theorem point2 (c : Dev nD) (t : Fin cfg0.N) (y : S1x256x4096.Idx) :
    k0_pay2 (F := Ideal) (k0_pay3 (F := Ideal) (iblk m c 2 t) (iblk m c 0 t) (iblk m c 1 t) (iblk m c 4 t) (iblk m c 5 t)) (iblk m c 3 t) y
      = REF2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 7).blk t).view.emb y) := by
  obtain ⟨h0, h1, h2, h3, h4, h5, h6, h7⟩ := idx t
  have ht : t.val < 68 := t.isLt
  idx_vars y
  obtain rfl : y0 = 0 := Subsingleton.elim _ _
  have e : ((cfg0.win 7).blk t).view.emb (ix3 (0 : Fin 1) y1 y2) = ix3 (⟨t.val / 17, by omega⟩ : Fin 4) (⟨t.val % 17 * 256 + y1.val, by omega⟩ : Fin 4352) y2 := by
    blk_ext [h7]
  rw [e, REF2_apply, pay2_apply, norm_apply, ← norm_eq m c t ht y1 y2, mrow_eq t.val ht y1, ← V_main_arg3 m c]
  unfold brow
  refine congrArg₂ (· + ·) (congrArg (_ * ·) (congrArg (_ + ·) ?_)) ?_
  · blk_point [iblk, h3]
  · blk_point [iblk, h3]

/-- The whole result array after the run. -/
theorem final2 (c : Dev nD) : (dats m 0 c).arrAt 7 (cfgs 0).N
    = REF2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]
  frame_out
  rw [loads_eq]
  exact point2 m c t y

end Cert.LnbIdeal.Value

end
-- ==== Proof.LnbClaim.lean ====
/- RESIDUAL, NORM AND MODULATION, second call: its claims: each program runs and gives its counters back, and the kernel and the reference end
   with equal results. -/
module

public import proofs.«01_k».proof.Defs
public import proofs.«01_k».proof.Proof.Gen.Lnb.Frame
public import proofs.«01_k».proof.Proof.Gen.LnbRefIdeal.Run
public import proofs.«01_k».proof.Proof.LnbValue

@[expose] public section

set_option maxRecDepth 16384

noncomputable section

namespace Cert.Proof.Lnb

open Idealize.ShloMosaic Idealize.SL.Sem

/-- The kernel runs, its arguments unchanged and its counters back at zero. -/
theorem frame : Cert.quiescent_Lnb := fun m g _ => Cert.Lnb.Gen.frame m g

/-- The kernel read at the extended reals, likewise. -/
theorem frame_ideal : Cert.quiescent_LnbIdeal := fun m g _ => Cert.LnbIdeal.Gen.frame m g

/-- The reference, likewise. -/
theorem frame_ref : Cert.quiescent_LnbRefIdeal := fun m g _ =>
  (θ_run Cert.LnbRefIdeal.defs _ _).mono (fun r h => ⟨fun c => (h c).2.2, Idealize.ShloMosaic.sem_eq_zero_of_no_sems (by decide) r.2⟩)
    (Cert.LnbRefIdeal.Value.run (F := Ideal) m g)

/-- The kernel's two results are the reference's. -/
theorem value : Cert.algebraic_LnbIdeal_LnbRefIdeal := by
  intro m g m' g' _ hagree
  refine ⟨fun c => Cert.LnbIdeal.Value.REF (m ((c.tc : Thread Cert.LnbIdeal.nD Cert.LnbIdeal.τ).loc Cert.LnbIdeal.main_arg0))
      (m ((c.tc : Thread Cert.LnbIdeal.nD Cert.LnbIdeal.τ).loc Cert.LnbIdeal.main_arg1))
      (m ((c.tc : Thread Cert.LnbIdeal.nD Cert.LnbIdeal.τ).loc Cert.LnbIdeal.main_arg2))
      (m ((c.tc : Thread Cert.LnbIdeal.nD Cert.LnbIdeal.τ).loc Cert.LnbIdeal.main_arg3))
      (m ((c.tc : Thread Cert.LnbIdeal.nD Cert.LnbIdeal.τ).loc Cert.LnbIdeal.main_arg4))
      (m ((c.tc : Thread Cert.LnbIdeal.nD Cert.LnbIdeal.τ).loc Cert.LnbIdeal.main_arg5)),
    fun c => Cert.LnbIdeal.Value.REF2 (m ((c.tc : Thread Cert.LnbIdeal.nD Cert.LnbIdeal.τ).loc Cert.LnbIdeal.main_arg0))
      (m ((c.tc : Thread Cert.LnbIdeal.nD Cert.LnbIdeal.τ).loc Cert.LnbIdeal.main_arg1))
      (m ((c.tc : Thread Cert.LnbIdeal.nD Cert.LnbIdeal.τ).loc Cert.LnbIdeal.main_arg2))
      (m ((c.tc : Thread Cert.LnbIdeal.nD Cert.LnbIdeal.τ).loc Cert.LnbIdeal.main_arg3))
      (m ((c.tc : Thread Cert.LnbIdeal.nD Cert.LnbIdeal.τ).loc Cert.LnbIdeal.main_arg4))
      (m ((c.tc : Thread Cert.LnbIdeal.nD Cert.LnbIdeal.τ).loc Cert.LnbIdeal.main_arg5)), ?_, ?_⟩
  · refine (θ_run Cert.LnbIdeal.defs _ _).mono (fun r h c => ⟨(h c).1.trans (Cert.LnbIdeal.Value.final m c),
        (h c).2.1.trans (Cert.LnbIdeal.Value.final2 m c), (h c).2.2⟩)
      (Cert.LnbIdeal.Value.run_blocks (F := Ideal) m g)
  · refine (θ_run Cert.LnbRefIdeal.defs _ _).mono (fun r h c => ⟨(h c).1.trans ?_, (h c).2.1.trans ?_, (h c).2.2⟩)
      (Cert.LnbRefIdeal.Value.run (F := Ideal) m' g')
    · rw [Cert.LnbRefIdeal.Read.val_main_v36_eq, (hagree c).1, (hagree c).2.1, (hagree c).2.2.1, (hagree c).2.2.2.2.1, (hagree c).2.2.2.2.2]
    · rw [Cert.LnbRefIdeal.Read.val_main_v59_eq, (hagree c).1, (hagree c).2.1, (hagree c).2.2.1, (hagree c).2.2.2.1, (hagree c).2.2.2.2.1, (hagree c).2.2.2.2.2]

end Cert.Proof.Lnb

end
-- ==== Proof.LncValue.lean ====
/- THE LAST LAYER'S RESIDUAL AND NORM, their value: the latent tokens only, without a modulation. -/
module

public import proofs.«01_k».proof.Proof.Gen.LncIdeal.Value
public import proofs.«01_k».proof.Proof.Gen.LncRefIdeal.Read
public import proofs.«01_k».proof.Proof.Norms
public import Idealize.ShloMosaic.Lib.Pipeline.ValueKit
public import Idealize.ShloMosaic.Lib.Pointwise

@[expose] public section

set_option maxRecDepth 16384

noncomputable section

namespace Cert.LncIdeal.Value

open Cert.LncIdeal Cert.LncIdeal.Gen Idealize.ShloMosaic Idealize.ShloMosaic.TcCoe Idealize.SL.Sem
open Idealize.ShloMosaic.Pipeline (Dat)
open Cert.Proof

variable (m : (ℓ : Loc nD τ sig) → Buf (Elt Ideal) ℓ)

/-- The blocks of point `t`: sequence `t / 16`, tokens of block `t % 16`. -/
theorem idx : ∀ t : Fin cfg0.N, win0_0.index t = ![t.val / 16, t.val % 16, 0] ∧ win0_1.index t = ![t.val / 16, t.val % 16, 0]
    ∧ win0_2.index t = ![t.val / 16, 0, 0]
    ∧ win0_3.index t = ![t.val / 16, 0, 0]
    ∧ win0_4.index t = ![0, 0] ∧ win0_5.index t = ![0, 0] ∧ win0_6.index t = ![t.val / 16, t.val % 16, 0] :=
  (by decide +kernel : ∀ t : Fin grid0.N, _)

/-- Entry `j` of a token and of its mixers' or experts' result, weighted and added. -/
def res (X Y : FVec Ideal S4x4352x4096 .f32) (M : FVec Ideal S5x6x4096 .f32) (b : Fin 4) (r : Fin 4096) (j : Fin 4096) : EReal :=
  Ideal.ofBits .f32 0x3FD744FD#32 * X (ix3 b (⟨r.val, by omega⟩ : Fin 4352) j) + M (ix3 ((⟨b.val, by omega⟩ : Fin 5)) (5 : Fin 6) j) * Y (ix3 b (⟨r.val, by omega⟩ : Fin 4352) j)

/-- The reference's sum before the norm. -/
theorem res_apply (X Y : FVec Ideal S4x4352x4096 .f32) (M : FVec Ideal S5x6x4096 .f32) (b : Fin 4) (r : Fin 4096) (j : Fin 4096) :
    Cert.LncRefIdeal.Read.val_main_v9 (F := Ideal) X Y M (ix3 b r j) = res X Y M b r j := by
  rw [Cert.LncRefIdeal.Read.val_main_v9_apply, Cert.LncRefIdeal.Read.val_main_v2_apply, Cert.LncRefIdeal.Read.val_main_v8_apply, Cert.LncRefIdeal.Read.val_main_v7_apply, Cert.LncRefIdeal.Read.val_main_v5_apply, Cert.LncRefIdeal.Read.val_main_v4_apply, Cert.LncRefIdeal.Read.val_main_v3_apply, Cert.LncRefIdeal.Read.val_main_v6_apply, Cert.LncRefIdeal.Read.val_main_v0_apply]
  refine congrArg₂ (· + ·) (congrArg₂ (· * ·) rfl (congrArg X ?_)) (congrArg₂ (· * ·) (congrArg M ?_) (congrArg Y ?_))
  · blk_ext []
  · blk_ext []
  · blk_ext []

/-- The reference's mean. -/
theorem mean_apply (X Y : FVec Ideal S4x4352x4096 .f32) (M : FVec Ideal S5x6x4096 .f32) (b : Fin 4) (r : Fin 4096) :
    Cert.LncRefIdeal.Read.val_main_v13 (F := Ideal) X Y M (ix3 b r (0 : Fin 1)) = lmean (res X Y M b r) := by
  refine Eq.trans ?_ (congrArg lmean (funext fun j => res_apply X Y M b r j))
  unfold lmean
  pointwise [Cert.LncRefIdeal.Read.val_main_v13, Cert.LncRefIdeal.Read.val_main_v12, Cert.LncRefIdeal.Read.val_main_v11, Cert.LncRefIdeal.Read.val_main_v10, Cert.LncRefIdeal.Read.val_main_cst_0, Cert.LncRefIdeal.Read.val_main_cst_1]

/-- The reference's token less its mean. -/
theorem cent_apply (X Y : FVec Ideal S4x4352x4096 .f32) (M : FVec Ideal S5x6x4096 .f32) (b : Fin 4) (r : Fin 4096) (j : Fin 4096) :
    Cert.LncRefIdeal.Read.val_main_v15 (F := Ideal) X Y M (ix3 b r j) = res X Y M b r j - lmean (res X Y M b r) := by
  rw [Cert.LncRefIdeal.Read.val_main_v15_apply, res_apply, Cert.LncRefIdeal.Read.val_main_v14_apply]
  exact congrArg (_ - ·) ((congrArg (Cert.LncRefIdeal.Read.val_main_v13 (F := Ideal) X Y M) (by blk_ext [])).trans (mean_apply X Y M b r))

/-- The reference's variance. -/
theorem var_apply (X Y : FVec Ideal S4x4352x4096 .f32) (M : FVec Ideal S5x6x4096 .f32) (b : Fin 4) (r : Fin 4096) :
    Cert.LncRefIdeal.Read.val_main_v20 (F := Ideal) X Y M (ix3 b r (0 : Fin 1))
      = Ideal.div (∑ i, (res X Y M b r i - lmean (res X Y M b r)) * (res X Y M b r i - lmean (res X Y M b r)))
        (Ideal.ofBits .f32 0x45800000#32) := by
  refine Eq.trans ?_ (congrArg (Ideal.div · _) (Finset.sum_congr rfl fun j _ => congrArg₂ (· * ·) (cent_apply X Y M b r j) (cent_apply X Y M b r j)))
  pointwise [Cert.LncRefIdeal.Read.val_main_v20, Cert.LncRefIdeal.Read.val_main_v19, Cert.LncRefIdeal.Read.val_main_v18, Cert.LncRefIdeal.Read.val_main_v17, Cert.LncRefIdeal.Read.val_main_v16, Cert.LncRefIdeal.Read.val_main_cst_2, Cert.LncRefIdeal.Read.val_main_cst_3]

/-- The token normed as the reference has it, of the kernel's argument arrays. -/
abbrev REF (X Y : FVec Ideal S4x4352x4096 .f32) (M : FVec Ideal S5x6x4096 .f32) (G C : FVec Ideal S4096 .f32) : FVec Ideal S4x4096x4096 .f32 :=
  Cert.LncRefIdeal.Read.val_main_v33 (F := Ideal) X Y M G C

/-- What the reference computes. -/
theorem REF_apply (X Y : FVec Ideal S4x4352x4096 .f32) (M : FVec Ideal S5x6x4096 .f32) (G C : FVec Ideal S4096 .f32) (b : Fin 4) (r : Fin 4096) (j : Fin 4096) :
    REF X Y M G C (ix3 b r j) = lnorm (res X Y M b r) j (G (ix1 j)) (C (ix1 j)) := by
  unfold REF
  rw [Cert.LncRefIdeal.Read.val_main_v33_apply, Cert.LncRefIdeal.Read.val_main_v30_apply, Cert.LncRefIdeal.Read.val_main_v27_apply, Cert.LncRefIdeal.Read.val_main_v22_apply, Cert.LncRefIdeal.Read.val_main_v21_apply, Cert.LncRefIdeal.Read.val_main_v26_apply, Cert.LncRefIdeal.Read.val_main_v25_apply, Cert.LncRefIdeal.Read.val_main_v24_apply,
    Cert.LncRefIdeal.Read.val_main_v29_apply, Cert.LncRefIdeal.Read.val_main_v28_apply, Cert.LncRefIdeal.Read.val_main_v32_apply, Cert.LncRefIdeal.Read.val_main_v31_apply, res_apply]
  unfold lnorm
  refine congrArg₂ (· + ·) (congrArg₂ (· * ·) (congrArg₂ (· * ·) (congrArg (fun z => res X Y M b r j - z) ?_) (congrArg Ideal.rsqrt (congrArg₂ (· + ·) ?_ rfl))) (congrArg G ?_)) (congrArg C ?_)
  · exact (congrArg (Cert.LncRefIdeal.Read.val_main_v13 (F := Ideal) X Y M) (by blk_ext [])).trans (mean_apply X Y M b r)
  · exact (congrArg (Cert.LncRefIdeal.Read.val_main_v20 (F := Ideal) X Y M) (by blk_ext [])).trans (var_apply X Y M b r)
  · blk_ext []
  · blk_ext []

/-- What a point computes before the norm. -/
def bres (w : FVec Ideal S1x6x4096 .f32) (x y : FVec Ideal S1x256x4096 .f32) (a : Fin 256) (j : Fin 4096) : EReal :=
  Ideal.ofBits .f32 0x3FD744FD#32 * x (ix3 (0 : Fin 1) a j) + w (ix3 (0 : Fin 1) (5 : Fin 6) j) * y (ix3 (0 : Fin 1) a j)

/-- What a point computes. -/
theorem pay_apply (w : FVec Ideal S1x6x4096 .f32) (x y : FVec Ideal S1x256x4096 .f32) (g b : FVec Ideal S1x4096 .f32) (a : Fin 256) (j : Fin 4096) :
    k0_pay1 (F := Ideal) (k0_pay2 (F := Ideal) w x y g b) (ix3 (0 : Fin 1) a j) = lnorm (bres w x y a) j (g (ix2 (0 : Fin 1) j)) (b (ix2 (0 : Fin 1) j)) := by
  pointwise [k0_pay1, k0_pay2]
  rfl

/-- The gains as the region finds them. -/
theorem gains (c : Dev nD) (j : Fin 4096) :
    V m c main_v0 (ix2 (0 : Fin 1) j) = m ((c : Thread nD τ).loc main_arg3) (ix1 j) := by
  entry_read
  pointwise

/-- The biases as the region finds them. -/
theorem biases (c : Dev nD) (j : Fin 4096) :
    V m c main_v1 (ix2 (0 : Fin 1) j) = m ((c : Thread nD τ).loc main_arg4) (ix1 j) := by
  entry_read
  pointwise

/-- A point's blocks before the norm are the arguments' entries. -/
theorem bres_eq (c : Dev nD) (t : Fin cfg0.N) (ht : t.val < 64) (a : Fin 256) :
    bres (iblk m c 2 t) (iblk m c 0 t) (iblk m c 1 t) a
      = res (m ((c : Thread nD τ).loc main_arg0)) (m ((c : Thread nD τ).loc main_arg1)) (m ((c : Thread nD τ).loc main_arg2)) (⟨t.val / 16, by omega⟩ : Fin 4) (⟨t.val % 16 * 256 + a.val, by omega⟩ : Fin 4096) := by
  obtain ⟨h0, h1, h2, -⟩ := idx t
  funext j
  unfold bres res
  rw [← V_main_arg0 m c, ← V_main_arg1 m c, ← V_main_arg2 m c]
  refine congrArg₂ (· + ·) (congrArg (_ * ·) ?_) (congrArg₂ (· * ·) ?_ ?_)
  · blk_point [iblk, h0]
  · blk_point [iblk, h2]
  · blk_point [iblk, h1]

/-- The gains' block. -/
abbrev B4 (c : Dev nD) (t : Fin cfg0.N) : FVec Ideal S1x4096 .f32 := iblk m c 4 t

/-- The biases' block. -/
abbrev B5 (c : Dev nD) (t : Fin cfg0.N) : FVec Ideal S1x4096 .f32 := iblk m c 5 t

/-- A point's normed entries are the reference's. -/
theorem norm_eq (c : Dev nD) (t : Fin cfg0.N) (ht : t.val < 64) (a : Fin 256) (j : Fin 4096) :
    lnorm (bres (iblk m c 2 t) (iblk m c 0 t) (iblk m c 1 t) a) j (B4 m c t (ix2 (0 : Fin 1) j)) (B5 m c t (ix2 (0 : Fin 1) j))
      = REF (m ((c : Thread nD τ).loc main_arg0)) (m ((c : Thread nD τ).loc main_arg1)) (m ((c : Thread nD τ).loc main_arg2)) (m ((c : Thread nD τ).loc main_arg3)) (m ((c : Thread nD τ).loc main_arg4)) (ix3 (⟨t.val / 16, by omega⟩ : Fin 4) (⟨t.val % 16 * 256 + a.val, by omega⟩ : Fin 4096) j) := by
  obtain ⟨-, -, -, -, h4, h5, -⟩ := idx t
  rw [REF_apply, bres_eq m c t ht a, ← gains m c, ← biases m c]
  refine congrArg₂ (lnorm _ j) ?_ ?_
  · blk_point [iblk, h4]
  · blk_point [iblk, h5]

/-- Every entry a point writes is the reference's entry there. -/
theorem point (c : Dev nD) (t : Fin cfg0.N) (y : S1x256x4096.Idx) :
    k0_pay1 (F := Ideal) (k0_pay2 (F := Ideal) (iblk m c 2 t) (iblk m c 0 t) (iblk m c 1 t) (iblk m c 4 t) (iblk m c 5 t)) y
      = REF (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y) := by
  obtain ⟨h0, h1, h2, h3, h4, h5, h6⟩ := idx t
  have ht : t.val < 64 := t.isLt
  idx_vars y
  obtain rfl : y0 = 0 := Subsingleton.elim _ _
  have e : ((cfg0.win 6).blk t).view.emb (ix3 (0 : Fin 1) y1 y2) = ix3 (⟨t.val / 16, by omega⟩ : Fin 4) (⟨t.val % 16 * 256 + y1.val, by omega⟩ : Fin 4096) y2 := by
    blk_ext [h6]
  rw [e, pay_apply]
  exact norm_eq m c t ht y1 y2

/-- The whole result array after the run. -/
theorem final (c : Dev nD) : (dats m 0 c).arrAt 6 (cfgs 0).N
    = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  frame_out
  exact point m c t y

end Cert.LncIdeal.Value

end
-- ==== Proof.LncClaim.lean ====
/- RESIDUAL AND NORM, last call: its claims: each program runs and gives its counters back, and the kernel and the reference end
   with equal results. -/
module

public import proofs.«01_k».proof.Defs
public import proofs.«01_k».proof.Proof.Gen.Lnc.Frame
public import proofs.«01_k».proof.Proof.Gen.LncRefIdeal.Run
public import proofs.«01_k».proof.Proof.LncValue

@[expose] public section

set_option maxRecDepth 16384

noncomputable section

namespace Cert.Proof.Lnc

open Idealize.ShloMosaic Idealize.SL.Sem

/-- The kernel runs, its arguments unchanged and its counters back at zero. -/
theorem frame : Cert.quiescent_Lnc := fun m g _ => Cert.Lnc.Gen.frame m g

/-- The kernel read at the extended reals, likewise. -/
theorem frame_ideal : Cert.quiescent_LncIdeal := fun m g _ => Cert.LncIdeal.Gen.frame m g

/-- The reference, likewise. -/
theorem frame_ref : Cert.quiescent_LncRefIdeal := fun m g _ =>
  (θ_run Cert.LncRefIdeal.defs _ _).mono (fun r h => ⟨fun c => (h c).2, Idealize.ShloMosaic.sem_eq_zero_of_no_sems (by decide) r.2⟩)
    (Cert.LncRefIdeal.Value.run (F := Ideal) m g)

/-- The kernel's result is the reference's. -/
theorem value : Cert.algebraic_LncIdeal_LncRefIdeal := by
  intro m g m' g' _ hagree
  refine ⟨fun c => Cert.LncIdeal.Value.REF (m ((c.tc : Thread Cert.LncIdeal.nD Cert.LncIdeal.τ).loc Cert.LncIdeal.main_arg0))
      (m ((c.tc : Thread Cert.LncIdeal.nD Cert.LncIdeal.τ).loc Cert.LncIdeal.main_arg1))
      (m ((c.tc : Thread Cert.LncIdeal.nD Cert.LncIdeal.τ).loc Cert.LncIdeal.main_arg2))
      (m ((c.tc : Thread Cert.LncIdeal.nD Cert.LncIdeal.τ).loc Cert.LncIdeal.main_arg3))
      (m ((c.tc : Thread Cert.LncIdeal.nD Cert.LncIdeal.τ).loc Cert.LncIdeal.main_arg4)), ?_, ?_⟩
  · refine (θ_run Cert.LncIdeal.defs _ _).mono (fun r h c => ⟨(h c).1.trans (Cert.LncIdeal.Value.final m c), (h c).2⟩)
      (Cert.LncIdeal.Value.run_blocks (F := Ideal) m g)
  · refine (θ_run Cert.LncRefIdeal.defs _ _).mono (fun r h c => ⟨(h c).1.trans ?_, (h c).2⟩)
      (Cert.LncRefIdeal.Value.run (F := Ideal) m' g')
    rw [Cert.LncRefIdeal.Read.val_main_v33_eq, (hagree c).1, (hagree c).2.1, (hagree c).2.2.1, (hagree c).2.2.2.1, (hagree c).2.2.2.2]

end Cert.Proof.Lnc

end
-- ==== Proof.MpostValue.lean ====
/- THE mLSTM'S NORM AND OUTPUT GATE, their value: a grid point works on 256 tokens, one of the four heads after another;
   each head's 256 entries are normed by the root of their mean square and gated, as the reference has it. -/
module

public import proofs.«01_k».proof.Proof.Gen.MpostIdeal.Value
public import proofs.«01_k».proof.Proof.Gen.MpostRefIdeal.Read
public import Idealize.ShloMosaic.Lib.Pipeline.ValueKit
public import Idealize.ShloMosaic.Lib.Pointwise

@[expose] public section

set_option maxRecDepth 16384

noncomputable section

namespace Cert.MpostIdeal.Value

open Cert.MpostIdeal Cert.MpostIdeal.Gen Idealize.ShloMosaic Idealize.ShloMosaic.TcCoe Idealize.SL.Sem
open Idealize.ShloMosaic.Pipeline (Dat)

variable (m : (ℓ : Loc nD τ sig) → Buf (Elt Ideal) ℓ)

/-- The blocks of point `t`: sequence `t / 17`, tokens of block `t % 17`, of the projection one block for each head. -/
theorem idx : ∀ t : Fin cfg0.N, win0_0.index t = ![t.val / 17, t.val % 17, 0] ∧ win0_1.index t = ![t.val / 17, t.val % 17, 0]
    ∧ win0_2.index t = ![t.val / 17, t.val % 17, 42] ∧ win0_3.index t = ![t.val / 17, t.val % 17, 43]
    ∧ win0_4.index t = ![t.val / 17, t.val % 17, 44] ∧ win0_5.index t = ![t.val / 17, t.val % 17, 45]
    ∧ win0_6.index t = ![0, 0, 0] ∧ win0_7.index t = ![t.val / 17, t.val % 17, 0] :=
  (by decide +kernel : ∀ t : Fin grid0.N, _)

/-- Entry `e` of a head divided by the root of the head's mean square, with its gain, and gated by `o`. -/
def gated (v : Fin 256 → EReal) (e : Fin 256) (g o : EReal) : EReal :=
  Ideal.logistic o * (v e * Ideal.rsqrt (Ideal.div (∑ i, v i * v i) (Ideal.ofBits .f32 0x43800000#32) + Ideal.ofBits .f32 0x358637BD#32) * g)

/-- The gated heads as the reference has them, of the kernel's argument arrays. -/
abbrev REF (X Y : FVec Ideal S4x4352x1024 .f32) (Q : FVec Ideal S4x4352x11776 .f32) (G : FVec Ideal S1024 .f32) : FVec Ideal S4x4352x1024 .bf16 :=
  Cert.MpostRefIdeal.Read.val_main_v25 (F := Ideal) X Y Q G

/-- The two directions' sum, entry `e` of head `h`. -/
def both (X Y : FVec Ideal S4x4352x1024 .f32) (b : Fin 4) (r : Fin 4352) (h : Fin 4) (e : Fin 256) : EReal :=
  X (ix3 b r (⟨h.val * 256 + e.val, by omega⟩ : Fin 1024)) + Y (ix3 b r (⟨h.val * 256 + e.val, by omega⟩ : Fin 1024))

/-- The reference's sum, head by head. -/
theorem both_apply (X Y : FVec Ideal S4x4352x1024 .f32) (b : Fin 4) (r : Fin 4352) (h : Fin 4) (e : Fin 256) :
    Cert.MpostRefIdeal.Read.val_main_v1 (F := Ideal) X Y (ix4 b r h e) = both X Y b r h e := by
  rw [Cert.MpostRefIdeal.Read.val_main_v1_apply, Cert.MpostRefIdeal.Read.val_main_v0_apply]
  refine congrArg₂ (· + ·) (congrArg X ?_) (congrArg Y ?_)
  · blk_ext []
  · blk_ext []

/-- The reference's mean square. -/
theorem square_apply (X Y : FVec Ideal S4x4352x1024 .f32) (b : Fin 4) (r : Fin 4352) (h : Fin 4) :
    Cert.MpostRefIdeal.Read.val_main_v7 (F := Ideal) X Y (ix4 b r h (0 : Fin 1))
      = Ideal.div (∑ i, both X Y b r h i * both X Y b r h i) (Ideal.ofBits .f32 0x43800000#32) := by
  refine Eq.trans ?_ (congrArg (Ideal.div · _) (Finset.sum_congr rfl fun j _ => congrArg₂ (· * ·) (both_apply X Y b r h j) (both_apply X Y b r h j)))
  pointwise [Cert.MpostRefIdeal.Read.val_main_v7, Cert.MpostRefIdeal.Read.val_main_v6, Cert.MpostRefIdeal.Read.val_main_v5, Cert.MpostRefIdeal.Read.val_main_v4, Cert.MpostRefIdeal.Read.val_main_v3, Cert.MpostRefIdeal.Read.val_main_cst, Cert.MpostRefIdeal.Read.val_main_cst_0]

/-- The reference's normed heads. -/
theorem normed_apply (X Y : FVec Ideal S4x4352x1024 .f32) (G : FVec Ideal S1024 .f32) (b : Fin 4) (r : Fin 4352) (h : Fin 4) (e : Fin 256) :
    Cert.MpostRefIdeal.Read.val_main_v15 (F := Ideal) X Y G (ix4 b r h e) = both X Y b r h e
      * Ideal.rsqrt (Ideal.div (∑ i, both X Y b r h i * both X Y b r h i) (Ideal.ofBits .f32 0x43800000#32) + Ideal.ofBits .f32 0x358637BD#32)
      * G (ix1 (⟨h.val * 256 + e.val, by omega⟩ : Fin 1024)) := by
  rw [Cert.MpostRefIdeal.Read.val_main_v15_apply, Cert.MpostRefIdeal.Read.val_main_v12_apply, Cert.MpostRefIdeal.Read.val_main_v11_apply, Cert.MpostRefIdeal.Read.val_main_v10_apply, Cert.MpostRefIdeal.Read.val_main_v9_apply, Cert.MpostRefIdeal.Read.val_main_v14_apply, Cert.MpostRefIdeal.Read.val_main_v13_apply, Cert.MpostRefIdeal.Read.val_main_v2_apply, both_apply]
  refine congrArg₂ (· * ·) (congrArg (both X Y b r h e * ·) (congrArg Ideal.rsqrt (congrArg₂ (· + ·) ?_ rfl))) (congrArg G ?_)
  · exact (congrArg (Cert.MpostRefIdeal.Read.val_main_v7 (F := Ideal) X Y) (by blk_ext [])).trans (square_apply X Y b r h)
  · blk_ext []

/-- The reference's gate. -/
theorem gate_apply (Q : FVec Ideal S4x4352x11776 .f32) (b : Fin 4) (r : Fin 4352) (j : Fin 1024) :
    Cert.MpostRefIdeal.Read.val_main_v23 (F := Ideal) Q (ix3 b r j) = Ideal.logistic (Q (ix3 b r (⟨10752 + j.val, by omega⟩ : Fin 11776))) := by
  pointwise [Cert.MpostRefIdeal.Read.val_main_v23, Cert.MpostRefIdeal.Read.val_main_v22, Cert.MpostRefIdeal.Read.val_main_v21, Cert.MpostRefIdeal.Read.val_main_v20, Cert.MpostRefIdeal.Read.val_main_v19, Cert.MpostRefIdeal.Read.val_main_v18, Cert.MpostRefIdeal.Read.val_main_v17, Cert.MpostRefIdeal.Read.val_main_cst_2, Cert.MpostRefIdeal.Read.val_main_cst_3, Ideal.logistic]

/-- What the reference computes. -/
theorem REF_apply (X Y : FVec Ideal S4x4352x1024 .f32) (Q : FVec Ideal S4x4352x11776 .f32) (G : FVec Ideal S1024 .f32) (b : Fin 4) (r : Fin 4352) (h : Fin 4) (e : Fin 256) :
    REF X Y Q G (ix3 b r (⟨h.val * 256 + e.val, by omega⟩ : Fin 1024))
      = gated (both X Y b r h) e (G (ix1 (⟨h.val * 256 + e.val, by omega⟩ : Fin 1024)))
        (Q (ix3 b r (⟨10752 + h.val * 256 + e.val, by omega⟩ : Fin 11776))) := by
  unfold REF
  rw [Cert.MpostRefIdeal.Read.val_main_v25_apply, Cert.MpostRefIdeal.Read.val_main_v24_apply, Cert.MpostRefIdeal.Read.val_main_v16_apply, gate_apply]
  refine congrArg₂ (· * ·) (congrArg Ideal.logistic (congrArg Q ?_)) ?_
  · blk_ext []
  · exact (congrArg (Cert.MpostRefIdeal.Read.val_main_v15 (F := Ideal) X Y G) (by blk_ext [])).trans (normed_apply X Y G b r h e)

/-- What a point computes of head 0. -/
theorem pay0_apply (x y : FVec Ideal S1x256x256 .f32) (g : FVec Ideal S1x1x256 .f32) (o : FVec Ideal S1x256x256 .f32) (a e : Fin 256) :
    k0_pay2 (F := Ideal) x y g o (ix3 (0 : Fin 1) a e)
      = gated (fun i => x (ix3 (0 : Fin 1) a i) + y (ix3 (0 : Fin 1) a i)) e (g (ix3 (0 : Fin 1) (0 : Fin 1) e)) (o (ix3 (0 : Fin 1) a e)) := by
  pointwise [k0_pay2, gated]

/-- What a point computes of head 1. -/
theorem pay1_apply (x y : FVec Ideal S1x256x256 .f32) (g : FVec Ideal S1x1x256 .f32) (o : FVec Ideal S1x256x256 .f32) (a e : Fin 256) :
    k0_pay5 (F := Ideal) (k0_pay3 (F := Ideal) x y) (k0_pay4 (F := Ideal) x y) g o (ix3 (0 : Fin 1) a e)
      = gated (fun i => x (ix3 (0 : Fin 1) a i) + y (ix3 (0 : Fin 1) a i)) e (g (ix3 (0 : Fin 1) (0 : Fin 1) e)) (o (ix3 (0 : Fin 1) a e)) := by
  pointwise [k0_pay5, k0_pay4, k0_pay3, gated]

/-- What a point computes of head 2. -/
theorem pay2_apply (x y : FVec Ideal S1x256x256 .f32) (g : FVec Ideal S1x1x256 .f32) (o : FVec Ideal S1x256x256 .f32) (a e : Fin 256) :
    k0_pay7 (F := Ideal) (k0_pay6 (F := Ideal) x y) g o (ix3 (0 : Fin 1) a e)
      = gated (fun i => x (ix3 (0 : Fin 1) a i) + y (ix3 (0 : Fin 1) a i)) e (g (ix3 (0 : Fin 1) (0 : Fin 1) e)) (o (ix3 (0 : Fin 1) a e)) := by
  pointwise [k0_pay7, k0_pay6, gated]

/-- What a point computes of head 3. -/
theorem pay3_apply (x y : FVec Ideal S1x256x256 .f32) (g : FVec Ideal S1x1x256 .f32) (o : FVec Ideal S1x256x256 .f32) (a e : Fin 256) :
    k0_pay1 (F := Ideal) (k0_pay8 (F := Ideal) x y g o) (ix3 (0 : Fin 1) a e)
      = gated (fun i => x (ix3 (0 : Fin 1) a i) + y (ix3 (0 : Fin 1) a i)) e (g (ix3 (0 : Fin 1) (0 : Fin 1) e)) (o (ix3 (0 : Fin 1) a e)) := by
  pointwise [k0_pay1, k0_pay8, gated]

/-- The gains as the region finds them. -/
theorem gains (c : Dev nD) (h : Fin 4) (e : Fin 256) :
    V m c main_v0 (ix3 h (0 : Fin 1) e) = m ((c : Thread nD τ).loc main_arg3) (ix1 (⟨h.val * 256 + e.val, by omega⟩ : Fin 1024)) := by
  entry_read
  pointwise

/-- The block of a direction's states: the first direction's. -/
abbrev B0 (c : Dev nD) (t : Fin cfg0.N) : FVec Ideal S1x256x1024 .f32 := iblk m c 0 t

/-- The other direction's block. -/
abbrev B1 (c : Dev nD) (t : Fin cfg0.N) : FVec Ideal S1x256x1024 .f32 := iblk m c 1 t

/-- The block of the projection for head 0. -/
abbrev O0 (c : Dev nD) (t : Fin cfg0.N) : FVec Ideal S1x256x256 .f32 := iblk m c 2 t

/-- The block of the projection for head 1. -/
abbrev O1 (c : Dev nD) (t : Fin cfg0.N) : FVec Ideal S1x256x256 .f32 := iblk m c 3 t

/-- The block of the projection for head 2. -/
abbrev O2 (c : Dev nD) (t : Fin cfg0.N) : FVec Ideal S1x256x256 .f32 := iblk m c 4 t

/-- The block of the projection for head 3. -/
abbrev O3 (c : Dev nD) (t : Fin cfg0.N) : FVec Ideal S1x256x256 .f32 := iblk m c 5 t

/-- The gains' block. -/
abbrev B6 (c : Dev nD) (t : Fin cfg0.N) : FVec Ideal S4x1x256 .f32 := iblk m c 6 t

/-- A point's block entries are the arguments' entries. -/
theorem both_eq (c : Dev nD) (t : Fin cfg0.N) (ht : t.val < 68) (a : Fin 256) (h : Fin 4) :
    (fun e : Fin 256 => B0 m c t (ix3 (0 : Fin 1) a (⟨h.val * 256 + e.val, by omega⟩ : Fin 1024)) + B1 m c t (ix3 (0 : Fin 1) a (⟨h.val * 256 + e.val, by omega⟩ : Fin 1024)))
      = both (m ((c : Thread nD τ).loc main_arg0)) (m ((c : Thread nD τ).loc main_arg1)) (⟨t.val / 17, by omega⟩ : Fin 4) (⟨t.val % 17 * 256 + a.val, by omega⟩ : Fin 4352) h := by
  obtain ⟨h0, h1, -⟩ := idx t
  funext e
  unfold both
  rw [← V_main_arg0 m c, ← V_main_arg1 m c]
  refine congrArg₂ (· + ·) ?_ ?_
  · blk_point [iblk, h0]
  · blk_point [iblk, h1]

/-- The gains' block holds the gains. -/
theorem gain_eq (c : Dev nD) (t : Fin cfg0.N) (h : Fin 4) (e : Fin 256) :
    B6 m c t (ix3 h (0 : Fin 1) e) = m ((c : Thread nD τ).loc main_arg3) (ix1 (⟨h.val * 256 + e.val, by omega⟩ : Fin 1024)) := by
  obtain ⟨-, -, -, -, -, -, h6, -⟩ := idx t
  rw [← gains m c]
  blk_point [iblk, h6]

/-- The reference's array, at the entries of a point's block. -/
def G7 (c : Dev nD) (t : Fin cfg0.N) (y : S1x256x1024.Idx) : EReal :=
  REF (m ((c : Thread nD τ).loc main_arg0)) (m ((c : Thread nD τ).loc main_arg1)) (m ((c : Thread nD τ).loc main_arg2)) (m ((c : Thread nD τ).loc main_arg3)) (((cfg0.win 7).blk t).view.emb y)

/-- An entry of a point's block is the reference's entry there, when it is the gated entry of the point's blocks. -/
theorem place (c : Dev nD) (t : Fin cfg0.N) (ht : t.val < 68) (a : Fin 256) (h : Fin 4) (e : Fin 256) (y : S1x256x1024.Idx)
    (hy : y = ix3 (0 : Fin 1) a (⟨h.val * 256 + e.val, by omega⟩ : Fin 1024)) :
    G7 m c t y = gated (fun e : Fin 256 => B0 m c t (ix3 (0 : Fin 1) a (⟨h.val * 256 + e.val, by omega⟩ : Fin 1024)) + B1 m c t (ix3 (0 : Fin 1) a (⟨h.val * 256 + e.val, by omega⟩ : Fin 1024)))
      e (B6 m c t (ix3 h (0 : Fin 1) e)) (m ((c : Thread nD τ).loc main_arg2) (ix3 (⟨t.val / 17, by omega⟩ : Fin 4)
        (⟨t.val % 17 * 256 + a.val, by omega⟩ : Fin 4352) (⟨10752 + h.val * 256 + e.val, by omega⟩ : Fin 11776))) := by
  obtain ⟨-, -, -, -, -, -, -, h7⟩ := idx t
  subst hy
  have q : ((cfg0.win 7).blk t).view.emb (ix3 (0 : Fin 1) a (⟨h.val * 256 + e.val, by omega⟩ : Fin 1024)) = ix3 (⟨t.val / 17, by omega⟩ : Fin 4)
      (⟨t.val % 17 * 256 + a.val, by omega⟩ : Fin 4352) (⟨h.val * 256 + e.val, by omega⟩ : Fin 1024) := by
    blk_ext [h7]
  unfold G7
  rw [q, REF_apply, both_eq m c t ht a h, gain_eq m c t h e]

/-- What a point writes of head 0 is the reference's. -/
theorem head0 (c : Dev nD) (t : Fin cfg0.N) (x : S1x256x256.Idx) :
    k0_pay2 (F := Ideal) (View.ld (Val := Elt Ideal) (e' := .f32) (B0 m c t) r0_0) (View.ld (Val := Elt Ideal) (e' := .f32) (B1 m c t) r0_0) (View.ld (Val := Elt Ideal) (e' := .f32) (B6 m c t) r0_1) (View.ld (Val := Elt Ideal) (e' := .f32) (O0 m c t) r0_2) x = G7 m c t (r0_0.emb x) := by
  obtain ⟨-, -, h2, h3, h4, h5, -⟩ := idx t
  have ht : t.val < 68 := t.isLt
  idx_vars x
  obtain rfl : x0 = 0 := Subsingleton.elim _ _
  rw [place m c t ht x1 (0 : Fin 4) x2 _ (by blk_ext [r0_0, Rect.unit] <;> simp), pay0_apply]
  refine congr (congr (congr (congrArg gated (funext fun i => congrArg₂ (· + ·) ?_ ?_)) rfl) ?_) ?_
  · exact congrArg (B0 m c t) (by blk_ext [LoadRect.idx_apply, r0_0, Rect.unit] <;> simp)
  · exact congrArg (B1 m c t) (by blk_ext [LoadRect.idx_apply, r0_0, Rect.unit] <;> simp)
  · exact congrArg (B6 m c t) (by blk_ext [LoadRect.idx_apply, r0_1, Rect.unit] <;> simp)
  · rw [← V_main_arg2 m c]
    refine (congrArg (O0 m c t) (show _ = ix3 (0 : Fin 1) x1 x2 by blk_ext [LoadRect.idx_apply, r0_2, Rect.unit] <;> simp)).trans ?_
    blk_point [iblk, h2]

/-- What a point writes of head 1 is the reference's. -/
theorem head1 (c : Dev nD) (t : Fin cfg0.N) (x : S1x256x256.Idx) :
    k0_pay5 (F := Ideal) (k0_pay3 (F := Ideal) (View.ld (Val := Elt Ideal) (e' := .f32) (B0 m c t) r0_3) (View.ld (Val := Elt Ideal) (e' := .f32) (B1 m c t) r0_3)) (k0_pay4 (F := Ideal) (View.ld (Val := Elt Ideal) (e' := .f32) (B0 m c t) r0_3) (View.ld (Val := Elt Ideal) (e' := .f32) (B1 m c t) r0_3)) (View.ld (Val := Elt Ideal) (e' := .f32) (B6 m c t) r0_4) (View.ld (Val := Elt Ideal) (e' := .f32) (O1 m c t) r0_2) x = G7 m c t (r0_3.emb x) := by
  obtain ⟨-, -, h2, h3, h4, h5, -⟩ := idx t
  have ht : t.val < 68 := t.isLt
  idx_vars x
  obtain rfl : x0 = 0 := Subsingleton.elim _ _
  rw [place m c t ht x1 (1 : Fin 4) x2 _ (by blk_ext [r0_3, Rect.unit] <;> simp), pay1_apply]
  refine congr (congr (congr (congrArg gated (funext fun i => congrArg₂ (· + ·) ?_ ?_)) rfl) ?_) ?_
  · exact congrArg (B0 m c t) (by blk_ext [LoadRect.idx_apply, r0_3, Rect.unit] <;> simp)
  · exact congrArg (B1 m c t) (by blk_ext [LoadRect.idx_apply, r0_3, Rect.unit] <;> simp)
  · exact congrArg (B6 m c t) (by blk_ext [LoadRect.idx_apply, r0_4, Rect.unit] <;> simp)
  · rw [← V_main_arg2 m c]
    refine (congrArg (O1 m c t) (show _ = ix3 (0 : Fin 1) x1 x2 by blk_ext [LoadRect.idx_apply, r0_2, Rect.unit] <;> simp)).trans ?_
    blk_point [iblk, h3]

/-- What a point writes of head 2 is the reference's. -/
theorem head2 (c : Dev nD) (t : Fin cfg0.N) (x : S1x256x256.Idx) :
    k0_pay7 (F := Ideal) (k0_pay6 (F := Ideal) (View.ld (Val := Elt Ideal) (e' := .f32) (B0 m c t) r0_5) (View.ld (Val := Elt Ideal) (e' := .f32) (B1 m c t) r0_5)) (View.ld (Val := Elt Ideal) (e' := .f32) (B6 m c t) r0_6) (View.ld (Val := Elt Ideal) (e' := .f32) (O2 m c t) r0_2) x = G7 m c t (r0_5.emb x) := by
  obtain ⟨-, -, h2, h3, h4, h5, -⟩ := idx t
  have ht : t.val < 68 := t.isLt
  idx_vars x
  obtain rfl : x0 = 0 := Subsingleton.elim _ _
  rw [place m c t ht x1 (2 : Fin 4) x2 _ (by blk_ext [r0_5, Rect.unit] <;> simp), pay2_apply]
  refine congr (congr (congr (congrArg gated (funext fun i => congrArg₂ (· + ·) ?_ ?_)) rfl) ?_) ?_
  · exact congrArg (B0 m c t) (by blk_ext [LoadRect.idx_apply, r0_5, Rect.unit] <;> simp)
  · exact congrArg (B1 m c t) (by blk_ext [LoadRect.idx_apply, r0_5, Rect.unit] <;> simp)
  · exact congrArg (B6 m c t) (by blk_ext [LoadRect.idx_apply, r0_6, Rect.unit] <;> simp)
  · rw [← V_main_arg2 m c]
    refine (congrArg (O2 m c t) (show _ = ix3 (0 : Fin 1) x1 x2 by blk_ext [LoadRect.idx_apply, r0_2, Rect.unit] <;> simp)).trans ?_
    blk_point [iblk, h4]

/-- What a point writes of head 3 is the reference's. -/
theorem head3 (c : Dev nD) (t : Fin cfg0.N) (x : S1x256x256.Idx) :
    k0_pay1 (F := Ideal) (k0_pay8 (F := Ideal) (View.ld (Val := Elt Ideal) (e' := .f32) (B0 m c t) r0_7) (View.ld (Val := Elt Ideal) (e' := .f32) (B1 m c t) r0_7) (View.ld (Val := Elt Ideal) (e' := .f32) (B6 m c t) r0_8) (View.ld (Val := Elt Ideal) (e' := .f32) (O3 m c t) r0_2)) x = G7 m c t (r0_7.emb x) := by
  obtain ⟨-, -, h2, h3, h4, h5, -⟩ := idx t
  have ht : t.val < 68 := t.isLt
  idx_vars x
  obtain rfl : x0 = 0 := Subsingleton.elim _ _
  rw [place m c t ht x1 (3 : Fin 4) x2 _ (by blk_ext [r0_7, Rect.unit] <;> simp), pay3_apply]
  refine congr (congr (congr (congrArg gated (funext fun i => congrArg₂ (· + ·) ?_ ?_)) rfl) ?_) ?_
  · exact congrArg (B0 m c t) (by blk_ext [LoadRect.idx_apply, r0_7, Rect.unit] <;> simp)
  · exact congrArg (B1 m c t) (by blk_ext [LoadRect.idx_apply, r0_7, Rect.unit] <;> simp)
  · exact congrArg (B6 m c t) (by blk_ext [LoadRect.idx_apply, r0_8, Rect.unit] <;> simp)
  · rw [← V_main_arg2 m c]
    refine (congrArg (O3 m c t) (show _ = ix3 (0 : Fin 1) x1 x2 by blk_ext [LoadRect.idx_apply, r0_2, Rect.unit] <;> simp)).trans ?_
    blk_point [iblk, h5]

/-- The whole result array after the run. -/
theorem final (c : Dev nD) : (dats m 0 c).arrAt 7 (cfgs 0).N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7]
  unfold out0_7
  refine View.canon_apply_of_pieces (Val := Elt Ideal) (fun z => REF (m ((c : Thread nD τ).loc main_arg0)) (m ((c : Thread nD τ).loc main_arg1)) (m ((c : Thread nD τ).loc main_arg2)) (m ((c : Thread nD τ).loc main_arg3)) (((cfg0.win 7).blk t).view.emb z)) _ ?_ y (cover0_7 _ _ _ _ y)
  intro pc hpc
  rcases List.mem_cons.mp hpc with rfl | hpc
  · exact head3 m c t
  rcases List.mem_cons.mp hpc with rfl | hpc
  · exact head2 m c t
  rcases List.mem_cons.mp hpc with rfl | hpc
  · exact head1 m c t
  rcases List.mem_cons.mp hpc with rfl | hpc
  · exact head0 m c t
  nomatch hpc

end Cert.MpostIdeal.Value

end
-- ==== Proof.MpostClaim.lean ====
/- THE mLSTM'S NORM AND OUTPUT GATE: their claims: each program runs and gives its counters back, and the kernel and the reference end
   with equal results. -/
module

public import proofs.«01_k».proof.Defs
public import proofs.«01_k».proof.Proof.Gen.Mpost.Frame
public import proofs.«01_k».proof.Proof.Gen.MpostRefIdeal.Run
public import proofs.«01_k».proof.Proof.MpostValue

@[expose] public section

set_option maxRecDepth 16384

noncomputable section

namespace Cert.Proof.Mpost

open Idealize.ShloMosaic Idealize.SL.Sem

/-- The kernel runs, its arguments unchanged and its counters back at zero. -/
theorem frame : Cert.quiescent_Mpost := fun m g _ => Cert.Mpost.Gen.frame m g

/-- The kernel read at the extended reals, likewise. -/
theorem frame_ideal : Cert.quiescent_MpostIdeal := fun m g _ => Cert.MpostIdeal.Gen.frame m g

/-- The reference, likewise. -/
theorem frame_ref : Cert.quiescent_MpostRefIdeal := fun m g _ =>
  (θ_run Cert.MpostRefIdeal.defs _ _).mono (fun r h => ⟨fun c => (h c).2, Idealize.ShloMosaic.sem_eq_zero_of_no_sems (by decide) r.2⟩)
    (Cert.MpostRefIdeal.Value.run (F := Ideal) m g)

/-- The kernel's result is the reference's. -/
theorem value : Cert.algebraic_MpostIdeal_MpostRefIdeal := by
  intro m g m' g' _ hagree
  refine ⟨fun c => Cert.MpostIdeal.Value.REF (m ((c.tc : Thread Cert.MpostIdeal.nD Cert.MpostIdeal.τ).loc Cert.MpostIdeal.main_arg0))
      (m ((c.tc : Thread Cert.MpostIdeal.nD Cert.MpostIdeal.τ).loc Cert.MpostIdeal.main_arg1))
      (m ((c.tc : Thread Cert.MpostIdeal.nD Cert.MpostIdeal.τ).loc Cert.MpostIdeal.main_arg2))
      (m ((c.tc : Thread Cert.MpostIdeal.nD Cert.MpostIdeal.τ).loc Cert.MpostIdeal.main_arg3)), ?_, ?_⟩
  · refine (θ_run Cert.MpostIdeal.defs _ _).mono (fun r h c => ⟨(h c).1.trans (Cert.MpostIdeal.Value.final m c), (h c).2⟩)
      (Cert.MpostIdeal.Value.run_blocks (F := Ideal) m g)
  · refine (θ_run Cert.MpostRefIdeal.defs _ _).mono (fun r h c => ⟨(h c).1.trans ?_, (h c).2⟩)
      (Cert.MpostRefIdeal.Value.run (F := Ideal) m' g')
    rw [(hagree c).1, (hagree c).2.1, (hagree c).2.2.1, (hagree c).2.2.2]
    exact Cert.MpostRefIdeal.Read.val_main_v25_eq _ _ _ _

end Cert.Proof.Mpost

end
-- ==== Proof.GateValue.lean ====
/- THE GATES' projection, its value: the kernel multiplies by sixteen columns and 112 columns of noughts, the reference puts
   112 columns of noughts beside the sixteen columns of its product. -/
module

public import proofs.«01_k».proof.Proof.Gen.GateIdeal.Value
public import proofs.«01_k».proof.Proof.Gen.GateRefIdeal.Read
public import Idealize.ShloMosaic.Lib.Pipeline.ValueKit
public import Idealize.ShloMosaic.Lib.Pointwise

@[expose] public section

set_option maxRecDepth 16384

noncomputable section

namespace Cert.GateIdeal.Value

open Cert.GateIdeal Cert.GateIdeal.Gen Idealize.ShloMosaic Idealize.ShloMosaic.TcCoe Idealize.SL.Sem
open Idealize.ShloMosaic.Pipeline (Dat)

variable (m : (ℓ : Loc nD τ sig) → Buf (Elt Ideal) ℓ)

/-- The blocks of point `t`: the rows of block `t`, all columns. -/
theorem idx : ∀ t : Fin cfg0.N, win0_0.index t = ![t.val, 0] ∧ win0_1.index t = ![0, 0] ∧ win0_2.index t = ![t.val, 0] :=
  (by decide +kernel : ∀ t : Fin grid0.N, _)

/-- The product as the reference has it, of the kernel's argument arrays. -/
abbrev REF (X : FVec Ideal S4x4352x4096 .bf16) (W : FVec Ideal S4096x11792 .f32) : FVec Ideal S17408x128 .f32 :=
  Cert.GateRefIdeal.Read.val_main_v4 (F := Ideal) X W

/-- The weight in column `b` of the padded ones. -/
def wcol (W : FVec Ideal S4096x11792 .f32) (k : Fin 4096) (b : Fin 128) : EReal :=
  if h : b.val < 16 then W (ix2 k (⟨11776 + b.val, by omega⟩ : Fin 11792)) else 0

/-- The whole number nought as a float. -/
theorem nought : FloatOps.sitofp (F := Ideal) .f32 (0#32) = (0 : EReal) := by
  show (((0#32).toInt : ℝ) : EReal) = 0
  simp

/-- What a point computes. -/
theorem pay_apply (x : FVec Ideal S1024x4096 .bf16) (w : FVec Ideal S4096x128 .bf16) (a : Fin 1024) (b : Fin 128) :
    k0_pay1 (F := Ideal) x w (ix2 a b) = ∑ k : Fin 4096, x (ix2 a k) * w (ix2 k b) := by
  pointwise [k0_pay1]

/-- What the reference computes. -/
theorem REF_apply (X : FVec Ideal S4x4352x4096 .bf16) (W : FVec Ideal S4096x11792 .f32) (r : Fin 17408) (b : Fin 128) :
    REF X W (ix2 r b) = ∑ k : Fin 4096,
      X (ix3 (⟨r.val / 4352, by omega⟩ : Fin 4) (⟨r.val % 4352, by omega⟩ : Fin 4352) k) * wcol W k b := by
  unfold REF
  by_cases h : b.val < 16
  · have e : ∀ k, wcol W k b = W (ix2 k (⟨11776 + b.val, by omega⟩ : Fin 11792)) := fun k => dif_pos h
    pointwise [Cert.GateRefIdeal.Read.val_main_v4]
    rw [dif_pos h, Cert.GateRefIdeal.Read.val_main_v3_apply, Cert.GateRefIdeal.Read.val_main_v2_apply, Cert.GateRefIdeal.Read.val_main_v1_apply]
    refine Finset.sum_congr rfl fun k _ => ?_
    rw [e]
    rw [Cert.GateRefIdeal.Read.val_main_v0_apply]
    refine congrArg₂ (· * ·) (congrArg X ?_) (congrArg W ?_)
    · blk_ext []
    · blk_ext []
  · have e : ∀ k, wcol W k b = 0 := fun k => dif_neg h
    refine Eq.trans ?_ (Finset.sum_eq_zero fun k _ => (congrArg (_ * ·) (e k)).trans (mul_zero _)).symm
    pointwise [Cert.GateRefIdeal.Read.val_main_v4]
    rw [dif_neg h]
    exact nought

/-- The rows as the region finds them. -/
theorem rows (c : Dev nD) (r : Fin 17408) (k : Fin 4096) :
    V m c main_v3 (ix2 r k) = m ((c : Thread nD τ).loc main_arg0)
      (ix3 (⟨r.val / 4352, by omega⟩ : Fin 4) (⟨r.val % 4352, by omega⟩ : Fin 4352) k) := by
  simp only [V, hostOps0, hostOps0_1, hostOps0_2, List.flatten_cons, List.flatten_nil, List.append_nil, List.cons_append, List.nil_append]
  entry_read
  pointwise

/-- The weights as the region's host code pads them. -/
theorem padded_apply (W : FVec Ideal S4096x11792 .f32) (k : Fin 4096) (b : Fin 128) :
    pad S4096x128 ![0, 0] ![0, 112] ![0, 0] (extractStridedSlice S4096x16 ![0, 11776] W slices_S4096x11792_S4096x16_0_11776)
      (sitofp (F := Ideal) FTy.f32 (constantI S_ 32 0#32)) pads_S4096x16_S4096x128_000_01120 h_S_ (ix2 k b) = wcol W k b := by
  by_cases h : b.val < 16
  · pointwise [wcol]
    rw [dif_pos h, dif_pos h]
  · pointwise [wcol]
    rw [dif_neg h, dif_neg h]
    exact nought

/-- The columns as the region finds them. -/
theorem cols (c : Dev nD) (k : Fin 4096) (b : Fin 128) :
    V m c main_v2 (ix2 k b) = wcol (m ((c : Thread nD τ).loc main_arg1)) k b := by
  simp only [V, hostOps0, hostOps0_1, hostOps0_2, List.flatten_cons, List.flatten_nil, List.append_nil, List.cons_append, List.nil_append]
  entry_read
  exact padded_apply _ k b

/-- Every entry a point writes is the reference's entry there. -/
theorem point (c : Dev nD) (t : Fin cfg0.N) (y : S1024x128.Idx) :
    k0_pay1 (F := Ideal) (iblk m c 0 t) (iblk m c 1 t) y = REF (m ((c : Thread nD τ).loc main_arg0)) (m ((c : Thread nD τ).loc main_arg1)) (((cfg0.win 2).blk t).view.emb y) := by
  obtain ⟨h0, h1, h2⟩ := idx t
  have ht : t.val < 17 := t.isLt
  idx_vars y
  have e : ((cfg0.win 2).blk t).view.emb (ix2 y0 y1) = ix2 (⟨t.val * 1024 + y0.val, by omega⟩ : Fin 17408) y1 := by
    blk_ext [h2]
  rw [e, REF_apply, pay_apply]
  refine Finset.sum_congr rfl fun k _ => ?_
  rw [← rows m c, ← cols m c]
  blk_point [iblk, h0, h1]

/-- The whole result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.GateIdeal.Value

end
-- ==== Proof.GateClaim.lean ====
/- THE GATES' PROJECTION's claims: each program runs and gives its counters back, and the kernel and the reference end
   with equal results. -/
module

public import proofs.«01_k».proof.Defs
public import proofs.«01_k».proof.Proof.Gen.Gate.Frame
public import proofs.«01_k».proof.Proof.Gen.GateRefIdeal.Run
public import proofs.«01_k».proof.Proof.GateValue

@[expose] public section

set_option maxRecDepth 16384

noncomputable section

namespace Cert.Proof.Gate

open Idealize.ShloMosaic Idealize.SL.Sem

/-- The kernel runs, its arguments unchanged and its counters back at zero. -/
theorem frame : Cert.quiescent_Gate := fun m g _ => Cert.Gate.Gen.frame m g

/-- The kernel read at the extended reals, likewise. -/
theorem frame_ideal : Cert.quiescent_GateIdeal := fun m g _ => Cert.GateIdeal.Gen.frame m g

/-- The reference, likewise. -/
theorem frame_ref : Cert.quiescent_GateRefIdeal := fun m g _ =>
  (θ_run Cert.GateRefIdeal.defs _ _).mono (fun r h => ⟨fun c => (h c).2, Idealize.ShloMosaic.sem_eq_zero_of_no_sems (by decide) r.2⟩)
    (Cert.GateRefIdeal.Value.run (F := Ideal) m g)

/-- The kernel's result is the reference's. -/
theorem value : Cert.algebraic_GateIdeal_GateRefIdeal := by
  intro m g m' g' _ hagree
  refine ⟨fun c => Cert.GateIdeal.Value.REF (m ((c.tc : Thread Cert.GateIdeal.nD Cert.GateIdeal.τ).loc Cert.GateIdeal.main_arg0))
      (m ((c.tc : Thread Cert.GateIdeal.nD Cert.GateIdeal.τ).loc Cert.GateIdeal.main_arg1)), ?_, ?_⟩
  · refine (θ_run Cert.GateIdeal.defs _ _).mono (fun r h c => ⟨(h c).1.trans (Cert.GateIdeal.Value.final m c), (h c).2⟩)
      (Cert.GateIdeal.Value.run_blocks (F := Ideal) m g)
  · refine (θ_run Cert.GateRefIdeal.defs _ _).mono (fun r h c => ⟨(h c).1.trans ?_, (h c).2⟩)
      (Cert.GateRefIdeal.Value.run (F := Ideal) m' g')
    rw [(hagree c).1, (hagree c).2]
    exact Cert.GateRefIdeal.Read.val_main_v4_eq _ _

end Cert.Proof.Gate

end
-- ==== Proof.RoutValue.lean ====
/- THE ROUTER, its value: the kernel multiplies by sixteen columns and 112 columns of noughts, the reference puts
   112 columns of noughts beside the sixteen columns of its product. -/
module

public import proofs.«01_k».proof.Proof.Gen.RoutIdeal.Value
public import proofs.«01_k».proof.Proof.Gen.RoutRefIdeal.Read
public import Idealize.ShloMosaic.Lib.Pipeline.ValueKit
public import Idealize.ShloMosaic.Lib.Pointwise

@[expose] public section

set_option maxRecDepth 16384

noncomputable section

namespace Cert.RoutIdeal.Value

open Cert.RoutIdeal Cert.RoutIdeal.Gen Idealize.ShloMosaic Idealize.ShloMosaic.TcCoe Idealize.SL.Sem
open Idealize.ShloMosaic.Pipeline (Dat)

variable (m : (ℓ : Loc nD τ sig) → Buf (Elt Ideal) ℓ)

/-- The blocks of point `t`: the rows of block `t`, all columns. -/
theorem idx : ∀ t : Fin cfg0.N, win0_0.index t = ![t.val, 0] ∧ win0_1.index t = ![0, 0] ∧ win0_2.index t = ![t.val, 0] :=
  (by decide +kernel : ∀ t : Fin grid0.N, _)

/-- The product as the reference has it, of the kernel's argument arrays. -/
abbrev REF (X : FVec Ideal S4x4352x4096 .f32) (W : FVec Ideal S4096x16 .f32) : FVec Ideal S17408x128 .f32 :=
  Cert.RoutRefIdeal.Read.val_main_v2 (F := Ideal) X W

/-- The weight in column `b` of the padded ones. -/
def wcol (W : FVec Ideal S4096x16 .f32) (k : Fin 4096) (b : Fin 128) : EReal :=
  if h : b.val < 16 then W (ix2 k (⟨b.val, by omega⟩ : Fin 16)) else 0

/-- The whole number nought as a float. -/
theorem nought : FloatOps.sitofp (F := Ideal) .f32 (0#32) = (0 : EReal) := by
  show (((0#32).toInt : ℝ) : EReal) = 0
  simp

/-- What a point computes. -/
theorem pay_apply (x : FVec Ideal S1024x4096 .f32) (w : FVec Ideal S4096x128 .f32) (a : Fin 1024) (b : Fin 128) :
    k0_pay1 (F := Ideal) x w (ix2 a b) = ∑ k : Fin 4096, x (ix2 a k) * w (ix2 k b) := by
  pointwise [k0_pay1]

/-- What the reference computes. -/
theorem REF_apply (X : FVec Ideal S4x4352x4096 .f32) (W : FVec Ideal S4096x16 .f32) (r : Fin 17408) (b : Fin 128) :
    REF X W (ix2 r b) = ∑ k : Fin 4096,
      X (ix3 (⟨r.val / 4352, by omega⟩ : Fin 4) (⟨r.val % 4352, by omega⟩ : Fin 4352) k) * wcol W k b := by
  unfold REF
  by_cases h : b.val < 16
  · have e : ∀ k, wcol W k b = W (ix2 k (⟨b.val, by omega⟩ : Fin 16)) := fun k => dif_pos h
    pointwise [Cert.RoutRefIdeal.Read.val_main_v2]
    rw [dif_pos h, Cert.RoutRefIdeal.Read.val_main_v1_apply, Cert.RoutRefIdeal.Read.val_main_v0_apply]
    refine Finset.sum_congr rfl fun k _ => ?_
    rw [e]
    refine congrArg₂ (· * ·) (congrArg X ?_) (congrArg W ?_)
    · blk_ext []
    · blk_ext []
  · have e : ∀ k, wcol W k b = 0 := fun k => dif_neg h
    refine Eq.trans ?_ (Finset.sum_eq_zero fun k _ => (congrArg (_ * ·) (e k)).trans (mul_zero _)).symm
    pointwise [Cert.RoutRefIdeal.Read.val_main_v2]
    rw [dif_neg h]
    exact nought

/-- The rows as the region finds them. -/
theorem rows (c : Dev nD) (r : Fin 17408) (k : Fin 4096) :
    V m c main_v0 (ix2 r k) = m ((c : Thread nD τ).loc main_arg0)
      (ix3 (⟨r.val / 4352, by omega⟩ : Fin 4) (⟨r.val % 4352, by omega⟩ : Fin 4352) k) := by
  simp only [V, hostOps0, hostOps0_1, List.flatten_cons, List.flatten_nil, List.append_nil, List.cons_append, List.nil_append]
  entry_read
  pointwise

/-- The weights as the region's host code pads them. -/
theorem padded_apply (W : FVec Ideal S4096x16 .f32) (k : Fin 4096) (b : Fin 128) :
    pad S4096x128 ![0, 0] ![0, 112] ![0, 0] W
      (sitofp (F := Ideal) FTy.f32 (constantI S_ 32 0#32)) pads_S4096x16_S4096x128_000_01120 h_S_ (ix2 k b) = wcol W k b := by
  by_cases h : b.val < 16
  · pointwise [wcol]
    rw [dif_pos h, dif_pos h]
  · pointwise [wcol]
    rw [dif_neg h, dif_neg h]
    exact nought

/-- The columns as the region finds them. -/
theorem cols (c : Dev nD) (k : Fin 4096) (b : Fin 128) :
    V m c main_v1 (ix2 k b) = wcol (m ((c : Thread nD τ).loc main_arg1)) k b := by
  simp only [V, hostOps0, hostOps0_1, List.flatten_cons, List.flatten_nil, List.append_nil, List.cons_append, List.nil_append]
  entry_read
  exact padded_apply _ k b

/-- Every entry a point writes is the reference's entry there. -/
theorem point (c : Dev nD) (t : Fin cfg0.N) (y : S1024x128.Idx) :
    k0_pay1 (F := Ideal) (iblk m c 0 t) (iblk m c 1 t) y = REF (m ((c : Thread nD τ).loc main_arg0)) (m ((c : Thread nD τ).loc main_arg1)) (((cfg0.win 2).blk t).view.emb y) := by
  obtain ⟨h0, h1, h2⟩ := idx t
  have ht : t.val < 17 := t.isLt
  idx_vars y
  have e : ((cfg0.win 2).blk t).view.emb (ix2 y0 y1) = ix2 (⟨t.val * 1024 + y0.val, by omega⟩ : Fin 17408) y1 := by
    blk_ext [h2]
  rw [e, REF_apply, pay_apply]
  refine Finset.sum_congr rfl fun k _ => ?_
  rw [← rows m c, ← cols m c]
  blk_point [iblk, h0, h1]

/-- The whole result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.RoutIdeal.Value

end
-- ==== Proof.RoutClaim.lean ====
/- THE ROUTER's claims: each program runs and gives its counters back, and the kernel and the reference end
   with equal results. -/
module

public import proofs.«01_k».proof.Defs
public import proofs.«01_k».proof.Proof.Gen.Rout.Frame
public import proofs.«01_k».proof.Proof.Gen.RoutRefIdeal.Run
public import proofs.«01_k».proof.Proof.RoutValue

@[expose] public section

set_option maxRecDepth 16384

noncomputable section

namespace Cert.Proof.Rout

open Idealize.ShloMosaic Idealize.SL.Sem

/-- The kernel runs, its arguments unchanged and its counters back at zero. -/
theorem frame : Cert.quiescent_Rout := fun m g _ => Cert.Rout.Gen.frame m g

/-- The kernel read at the extended reals, likewise. -/
theorem frame_ideal : Cert.quiescent_RoutIdeal := fun m g _ => Cert.RoutIdeal.Gen.frame m g

/-- The reference, likewise. -/
theorem frame_ref : Cert.quiescent_RoutRefIdeal := fun m g _ =>
  (θ_run Cert.RoutRefIdeal.defs _ _).mono (fun r h => ⟨fun c => (h c).2, Idealize.ShloMosaic.sem_eq_zero_of_no_sems (by decide) r.2⟩)
    (Cert.RoutRefIdeal.Value.run (F := Ideal) m g)

/-- The kernel's result is the reference's. -/
theorem value : Cert.algebraic_RoutIdeal_RoutRefIdeal := by
  intro m g m' g' _ hagree
  refine ⟨fun c => Cert.RoutIdeal.Value.REF (m ((c.tc : Thread Cert.RoutIdeal.nD Cert.RoutIdeal.τ).loc Cert.RoutIdeal.main_arg0))
      (m ((c.tc : Thread Cert.RoutIdeal.nD Cert.RoutIdeal.τ).loc Cert.RoutIdeal.main_arg1)), ?_, ?_⟩
  · refine (θ_run Cert.RoutIdeal.defs _ _).mono (fun r h c => ⟨(h c).1.trans (Cert.RoutIdeal.Value.final m c), (h c).2⟩)
      (Cert.RoutIdeal.Value.run_blocks (F := Ideal) m g)
  · refine (θ_run Cert.RoutRefIdeal.defs _ _).mono (fun r h c => ⟨(h c).1.trans ?_, (h c).2⟩)
      (Cert.RoutRefIdeal.Value.run (F := Ideal) m' g')
    rw [(hagree c).1, (hagree c).2]
    exact Cert.RoutRefIdeal.Read.val_main_v2_eq _ _

end Cert.Proof.Rout

end
-- ==== Proof.AdadValue.lean ====
/- THE CONDITIONS' map down, its value: every entry of the kernel's result is the sum of 4096 products which the reference's
   product takes there; a grid point writes 512 columns of all eight rows. -/
module

public import proofs.«01_k».proof.Proof.Gen.AdadIdeal.Value
public import proofs.«01_k».proof.Proof.Gen.AdadRefIdeal.Read
public import Idealize.ShloMosaic.Lib.Pipeline.ValueKit
public import Idealize.ShloMosaic.Lib.Pointwise

@[expose] public section

set_option maxRecDepth 16384

noncomputable section

namespace Cert.AdadIdeal.Value

open Cert.AdadIdeal Cert.AdadIdeal.Gen Idealize.ShloMosaic Idealize.ShloMosaic.TcCoe Idealize.SL.Sem
open Idealize.ShloMosaic.Pipeline (Dat)

variable (m : (ℓ : Loc nD τ sig) → Buf (Elt Ideal) ℓ)

/-- The blocks of point `t`: all rows, the columns of block `t`. -/
theorem idx : ∀ t : Fin cfg0.N, win0_0.index t = ![0, 0] ∧ win0_1.index t = ![0, t.val] ∧ win0_2.index t = ![0, t.val] :=
  (by decide +kernel : ∀ t : Fin grid0.N, _)

/-- The product as the reference has it, of the kernel's argument arrays. -/
abbrev REF (X : FVec Ideal S8x4096 .f32) (W : FVec Ideal S4096x512 .f32) : FVec Ideal S8x512 .f32 :=
  Cert.AdadRefIdeal.Read.val_main_v0 (F := Ideal) X W

/-- What a point computes. -/
theorem pay_apply (x : FVec Ideal S8x4096 .f32) (w : FVec Ideal S4096x512 .f32) (a : Fin 8) (b : Fin 512) :
    k0_pay1 (F := Ideal) x w (ix2 a b) = ∑ k : Fin 4096, x (ix2 a k) * w (ix2 k b) := by
  pointwise [k0_pay1]

/-- What the reference computes. -/
theorem REF_apply (X : FVec Ideal S8x4096 .f32) (W : FVec Ideal S4096x512 .f32) (r : Fin 8) (b : Fin 512) :
    REF X W (ix2 r b) = ∑ k : Fin 4096, X (ix2 r k) * W (ix2 k b) := by
  unfold REF
  rw [Cert.AdadRefIdeal.Read.val_main_v0_apply]
  refine Finset.sum_congr rfl fun k _ => congrArg₂ (· * ·) (congrArg X ?_) (congrArg W ?_)
  · blk_ext []
  · blk_ext []

/-- Every entry a point writes is the reference's entry there. -/
theorem point (c : Dev nD) (t : Fin cfg0.N) (y : S8x512.Idx) :
    k0_pay1 (F := Ideal) (iblk m c 0 t) (iblk m c 1 t) y = REF (m ((c : Thread nD τ).loc main_arg0)) (m ((c : Thread nD τ).loc main_arg1)) (((cfg0.win 2).blk t).view.emb y) := by
  obtain ⟨h0, h1, h2⟩ := idx t
  have ht : t.val < 1 := t.isLt
  idx_vars y
  have e : ((cfg0.win 2).blk t).view.emb (ix2 y0 y1) = ix2 y0 (⟨t.val * 512 + y1.val, by omega⟩ : Fin 512) := by
    blk_ext [h2]
  rw [e, REF_apply, pay_apply, ← V_main_arg0 m c, ← V_main_arg1 m c]
  refine Finset.sum_congr rfl fun k _ => ?_
  blk_point [iblk, h0, h1]

/-- The whole result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.AdadIdeal.Value

end
-- ==== Proof.AdadClaim.lean ====
/- THE CONDITIONS' MAP DOWN: its claims: each program runs and gives its counters back, and the kernel and the reference end
   with equal results. -/
module

public import proofs.«01_k».proof.Defs
public import proofs.«01_k».proof.Proof.Gen.Adad.Frame
public import proofs.«01_k».proof.Proof.Gen.AdadRefIdeal.Run
public import proofs.«01_k».proof.Proof.AdadValue

@[expose] public section

set_option maxRecDepth 16384

noncomputable section

namespace Cert.Proof.Adad

open Idealize.ShloMosaic Idealize.SL.Sem

/-- The kernel runs, its arguments unchanged and its counters back at zero. -/
theorem frame : Cert.quiescent_Adad := fun m g _ => Cert.Adad.Gen.frame m g

/-- The kernel read at the extended reals, likewise. -/
theorem frame_ideal : Cert.quiescent_AdadIdeal := fun m g _ => Cert.AdadIdeal.Gen.frame m g

/-- The reference, likewise. -/
theorem frame_ref : Cert.quiescent_AdadRefIdeal := fun m g _ =>
  (θ_run Cert.AdadRefIdeal.defs _ _).mono (fun r h => ⟨fun c => (h c).2, Idealize.ShloMosaic.sem_eq_zero_of_no_sems (by decide) r.2⟩)
    (Cert.AdadRefIdeal.Value.run (F := Ideal) m g)

/-- The kernel's result is the reference's. -/
theorem value : Cert.algebraic_AdadIdeal_AdadRefIdeal := by
  intro m g m' g' _ hagree
  refine ⟨fun c => Cert.AdadIdeal.Value.REF (m ((c.tc : Thread Cert.AdadIdeal.nD Cert.AdadIdeal.τ).loc Cert.AdadIdeal.main_arg0))
      (m ((c.tc : Thread Cert.AdadIdeal.nD Cert.AdadIdeal.τ).loc Cert.AdadIdeal.main_arg1)), ?_, ?_⟩
  · refine (θ_run Cert.AdadIdeal.defs _ _).mono (fun r h c => ⟨(h c).1.trans (Cert.AdadIdeal.Value.final m c), (h c).2⟩)
      (Cert.AdadIdeal.Value.run_blocks (F := Ideal) m g)
  · refine (θ_run Cert.AdadRefIdeal.defs _ _).mono (fun r h c => ⟨(h c).1.trans ?_, (h c).2⟩)
      (Cert.AdadRefIdeal.Value.run (F := Ideal) m' g')
    rw [(hagree c).1, (hagree c).2]
    exact Cert.AdadRefIdeal.Read.val_main_v0_eq _ _

end Cert.Proof.Adad

end
-- ==== Proof.AdauValue.lean ====
/- THE CONDITIONS' map up, its value: every entry of the kernel's result is the sum of 512 products which the reference's
   product takes there; a grid point writes 512 columns of all eight rows. -/
module

public import proofs.«01_k».proof.Proof.Gen.AdauIdeal.Value
public import proofs.«01_k».proof.Proof.Gen.AdauRefIdeal.Read
public import Idealize.ShloMosaic.Lib.Pipeline.ValueKit
public import Idealize.ShloMosaic.Lib.Pointwise

@[expose] public section

set_option maxRecDepth 16384

noncomputable section

namespace Cert.AdauIdeal.Value

open Cert.AdauIdeal Cert.AdauIdeal.Gen Idealize.ShloMosaic Idealize.ShloMosaic.TcCoe Idealize.SL.Sem
open Idealize.ShloMosaic.Pipeline (Dat)

variable (m : (ℓ : Loc nD τ sig) → Buf (Elt Ideal) ℓ)

/-- The blocks of point `t`: all rows, the columns of block `t`. -/
theorem idx : ∀ t : Fin cfg0.N, win0_0.index t = ![0, 0] ∧ win0_1.index t = ![0, t.val] ∧ win0_2.index t = ![0, t.val] :=
  (by decide +kernel : ∀ t : Fin grid0.N, _)

/-- The product as the reference has it, of the kernel's argument arrays. -/
abbrev REF (X : FVec Ideal S8x512 .f32) (W : FVec Ideal S512x24576 .f32) : FVec Ideal S8x24576 .f32 :=
  Cert.AdauRefIdeal.Read.val_main_v0 (F := Ideal) X W

/-- What a point computes. -/
theorem pay_apply (x : FVec Ideal S8x512 .f32) (w : FVec Ideal S512x512 .f32) (a : Fin 8) (b : Fin 512) :
    k0_pay1 (F := Ideal) x w (ix2 a b) = ∑ k : Fin 512, x (ix2 a k) * w (ix2 k b) := by
  pointwise [k0_pay1]

/-- What the reference computes. -/
theorem REF_apply (X : FVec Ideal S8x512 .f32) (W : FVec Ideal S512x24576 .f32) (r : Fin 8) (b : Fin 24576) :
    REF X W (ix2 r b) = ∑ k : Fin 512, X (ix2 r k) * W (ix2 k b) := by
  unfold REF
  rw [Cert.AdauRefIdeal.Read.val_main_v0_apply]
  refine Finset.sum_congr rfl fun k _ => congrArg₂ (· * ·) (congrArg X ?_) (congrArg W ?_)
  · blk_ext []
  · blk_ext []

/-- Every entry a point writes is the reference's entry there. -/
theorem point (c : Dev nD) (t : Fin cfg0.N) (y : S8x512.Idx) :
    k0_pay1 (F := Ideal) (iblk m c 0 t) (iblk m c 1 t) y = REF (m ((c : Thread nD τ).loc main_arg0)) (m ((c : Thread nD τ).loc main_arg1)) (((cfg0.win 2).blk t).view.emb y) := by
  obtain ⟨h0, h1, h2⟩ := idx t
  have ht : t.val < 48 := t.isLt
  idx_vars y
  have e : ((cfg0.win 2).blk t).view.emb (ix2 y0 y1) = ix2 y0 (⟨t.val * 512 + y1.val, by omega⟩ : Fin 24576) := by
    blk_ext [h2]
  rw [e, REF_apply, pay_apply, ← V_main_arg0 m c, ← V_main_arg1 m c]
  refine Finset.sum_congr rfl fun k _ => ?_
  blk_point [iblk, h0, h1]

/-- The whole result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.AdauIdeal.Value

end
-- ==== Proof.AdauClaim.lean ====
/- THE CONDITIONS' MAP UP: its claims: each program runs and gives its counters back, and the kernel and the reference end
   with equal results. -/
module

public import proofs.«01_k».proof.Defs
public import proofs.«01_k».proof.Proof.Gen.Adau.Frame
public import proofs.«01_k».proof.Proof.Gen.AdauRefIdeal.Run
public import proofs.«01_k».proof.Proof.AdauValue

@[expose] public section

set_option maxRecDepth 16384

noncomputable section

namespace Cert.Proof.Adau

open Idealize.ShloMosaic Idealize.SL.Sem

/-- The kernel runs, its arguments unchanged and its counters back at zero. -/
theorem frame : Cert.quiescent_Adau := fun m g _ => Cert.Adau.Gen.frame m g

/-- The kernel read at the extended reals, likewise. -/
theorem frame_ideal : Cert.quiescent_AdauIdeal := fun m g _ => Cert.AdauIdeal.Gen.frame m g

/-- The reference, likewise. -/
theorem frame_ref : Cert.quiescent_AdauRefIdeal := fun m g _ =>
  (θ_run Cert.AdauRefIdeal.defs _ _).mono (fun r h => ⟨fun c => (h c).2, Idealize.ShloMosaic.sem_eq_zero_of_no_sems (by decide) r.2⟩)
    (Cert.AdauRefIdeal.Value.run (F := Ideal) m g)

/-- The kernel's result is the reference's. -/
theorem value : Cert.algebraic_AdauIdeal_AdauRefIdeal := by
  intro m g m' g' _ hagree
  refine ⟨fun c => Cert.AdauIdeal.Value.REF (m ((c.tc : Thread Cert.AdauIdeal.nD Cert.AdauIdeal.τ).loc Cert.AdauIdeal.main_arg0))
      (m ((c.tc : Thread Cert.AdauIdeal.nD Cert.AdauIdeal.τ).loc Cert.AdauIdeal.main_arg1)), ?_, ?_⟩
  · refine (θ_run Cert.AdauIdeal.defs _ _).mono (fun r h c => ⟨(h c).1.trans (Cert.AdauIdeal.Value.final m c), (h c).2⟩)
      (Cert.AdauIdeal.Value.run_blocks (F := Ideal) m g)
  · refine (θ_run Cert.AdauRefIdeal.defs _ _).mono (fun r h c => ⟨(h c).1.trans ?_, (h c).2⟩)
      (Cert.AdauRefIdeal.Value.run (F := Ideal) m' g')
    rw [(hagree c).1, (hagree c).2]
    exact Cert.AdauRefIdeal.Read.val_main_v0_eq _ _

end Cert.Proof.Adau

end
-- ==== Proof.Pads.lean ====
/- Noughts beside the terms of a sum. -/
module

public import Idealize.ShloMosaic.Lib.Pointwise

@[expose] public section

noncomputable section

namespace Cert.Pads

open Idealize.ShloMosaic

/-- The whole number nought as a float. -/
theorem nought : FloatOps.sitofp (F := Ideal) .f32 (0#32) = (0 : EReal) := by
  show (((0#32).toInt : ℝ) : EReal) = 0
  simp

/-- A sum is not changed by noughts behind its terms. -/
theorem sum_padded {K n : Nat} (hn : K ≤ n) (f : Fin K → EReal) :
    ∑ k : Fin n, (if h : k.val < K then f ⟨k.val, h⟩ else 0) = ∑ k : Fin K, f k := by
  obtain ⟨d, rfl⟩ := Nat.exists_eq_add_of_le hn
  rw [Fin.sum_univ_add]
  simp

end Cert.Pads

end
-- ==== Proof.HyfaValue.lean ====
/- THE FIRST PRODUCT OF HYENA'S FILTER NETWORK, its value: the kernel's rows and columns are filled up with noughts to 128
   terms, of which 33 count. -/
module

public import proofs.«01_k».proof.Proof.Gen.HyfaIdeal.Value
public import proofs.«01_k».proof.Proof.Gen.HyfaRefIdeal.Read
public import proofs.«01_k».proof.Proof.Pads
public import Idealize.ShloMosaic.Lib.Pipeline.ValueKit
public import Idealize.ShloMosaic.Lib.Pointwise

@[expose] public section

set_option maxRecDepth 16384

noncomputable section

namespace Cert.HyfaIdeal.Value

open Cert.HyfaIdeal Cert.HyfaIdeal.Gen Idealize.ShloMosaic Idealize.ShloMosaic.TcCoe Idealize.SL.Sem
open Idealize.ShloMosaic.Pipeline (Dat)

variable (m : (ℓ : Loc nD τ sig) → Buf (Elt Ideal) ℓ)

/-- The blocks of point `t`. -/
theorem idx : ∀ t : Fin cfg0.N, win0_0.index t = ![t.val, 0] ∧ win0_1.index t = ![0, 0] ∧ win0_2.index t = ![t.val, 0] :=
  (by decide +kernel : ∀ t : Fin grid0.N, _)

/-- The product as the reference has it, of the kernel's argument arrays. -/
abbrev REF (X : FVec Ideal S4096x33 .f32) (W : FVec Ideal S33x64 .f32) : FVec Ideal S4096x128 .f32 :=
  Cert.HyfaRefIdeal.Read.val_main_v1 (F := Ideal) X W

/-- A term of a padded row. -/
def xcell (X : FVec Ideal S4096x33 .f32) (r : Fin 4096) (k : Fin 128) : EReal :=
  if h : k.val < 33 then X (ix2 r (⟨k.val, h⟩ : Fin 33)) else 0

/-- A term of a padded column. -/
def wcell (W : FVec Ideal S33x64 .f32) (k : Fin 128) (b : Fin 128) : EReal :=
  if g : b.val < 64 then if h : k.val < 33 then W (ix2 (⟨k.val, h⟩ : Fin 33) (⟨b.val, g⟩ : Fin 64)) else 0 else 0

/-- What a point computes. -/
theorem pay_apply (x : FVec Ideal S1024x128 .f32) (w : FVec Ideal S128x128 .f32) (a : Fin 1024) (b : Fin 128) :
    k0_pay1 (F := Ideal) x w (ix2 a b) = ∑ k : Fin 128, x (ix2 a k) * w (ix2 k b) := by
  pointwise [k0_pay1]

/-- The reference's product. -/
theorem prod_apply (X : FVec Ideal S4096x33 .f32) (W : FVec Ideal S33x64 .f32) (r : Fin 4096) (b : Fin 64) :
    Cert.HyfaRefIdeal.Read.val_main_v0 (F := Ideal) X W (ix2 r b) = ∑ k : Fin 33, X (ix2 r k) * W (ix2 k b) := by
  rw [Cert.HyfaRefIdeal.Read.val_main_v0_apply]
  refine Finset.sum_congr rfl fun k _ => congrArg₂ (· * ·) (congrArg X ?_) (congrArg W ?_)
  · blk_ext []
  · blk_ext []

/-- What the reference computes: the noughts change nothing. -/
theorem REF_apply (X : FVec Ideal S4096x33 .f32) (W : FVec Ideal S33x64 .f32) (r : Fin 4096) (b : Fin 128) :
    REF X W (ix2 r b) = ∑ k : Fin 128, xcell X r k * wcell W k b := by
  unfold REF
  by_cases h : b.val < 64
  · have e : ∀ k, xcell X r k * wcell W k b = if g : k.val < 33 then (fun q : Fin 33 => X (ix2 r q) * W (ix2 q (⟨b.val, h⟩ : Fin 64))) ⟨k.val, g⟩ else 0 := by
      intro k
      unfold xcell wcell
      rw [dif_pos h]
      by_cases g : k.val < 33
      · rw [dif_pos g, dif_pos g, dif_pos g]
      · rw [dif_neg g, dif_neg g, dif_neg g, mul_zero]
    refine Eq.trans ?_ ((Finset.sum_congr rfl fun k _ => e k).trans (Cert.Pads.sum_padded (by decide : 33 ≤ 128) (fun q : Fin 33 => X (ix2 r q) * W (ix2 q (⟨b.val, h⟩ : Fin 64))))).symm
    pointwise [Cert.HyfaRefIdeal.Read.val_main_v1]
    rw [dif_pos h]
    exact prod_apply X W r (⟨b.val, h⟩ : Fin 64)
  · have e : ∀ k, wcell W k b = 0 := fun k => dif_neg h
    refine Eq.trans ?_ (Finset.sum_eq_zero fun k _ => (congrArg (_ * ·) (e k)).trans (mul_zero _)).symm
    pointwise [Cert.HyfaRefIdeal.Read.val_main_v1]
    rw [dif_neg h]
    exact Cert.Pads.nought

/-- The rows as the region's host code pads them. -/
theorem xpad_apply (X : FVec Ideal S4096x33 .f32) (r : Fin 4096) (k : Fin 128) :
    pad S4096x128 ![0, 0] ![0, 95] ![0, 0] X (sitofp (F := Ideal) FTy.f32 (constantI S_ 32 0#32)) pads_S4096x33_S4096x128_000_0950 h_S_ (ix2 r k) = xcell X r k := by
  by_cases h : k.val < 33
  · pointwise [xcell]
    rw [dif_pos h, dif_pos h]
  · pointwise [xcell]
    rw [dif_neg h, dif_neg h]
    exact Cert.Pads.nought

/-- The columns as the region's host code pads them. -/
theorem wpad_apply (W : FVec Ideal S33x64 .f32) (k : Fin 128) (b : Fin 128) :
    pad S128x128 ![0, 0] ![0, 64] ![0, 0] (pad S128x64 ![0, 0] ![95, 0] ![0, 0] W (sitofp (F := Ideal) FTy.f32 (constantI S_ 32 0#32)) pads_S33x64_S128x64_0950_000 h_S_) (sitofp (F := Ideal) FTy.f32 (constantI S_ 32 0#32)) pads_S128x64_S128x128_000_0640 h_S_ (ix2 k b) = wcell W k b := by
  by_cases g : b.val < 64
  · by_cases h : k.val < 33
    · pointwise [wcell]
      simp [g, h]
    · pointwise [wcell]
      simp [g, h, Cert.Pads.nought]
  · pointwise [wcell]
    simp [g, Cert.Pads.nought]

/-- The rows as the region finds them. -/
theorem rows (c : Dev nD) (r : Fin 4096) (k : Fin 128) :
    V m c main_v0 (ix2 r k) = xcell (m ((c : Thread nD τ).loc main_arg0)) r k := by
  simp only [V, hostOps0, hostOps0_1, hostOps0_2, hostOps0_3, hostOps0_4, hostOps0_5, List.flatten_cons, List.flatten_nil, List.append_nil, List.cons_append, List.nil_append]
  entry_read
  exact xpad_apply _ r k

/-- The columns as the region finds them. -/
theorem cols (c : Dev nD) (k : Fin 128) (b : Fin 128) :
    V m c main_v2 (ix2 k b) = wcell (m ((c : Thread nD τ).loc main_arg1)) k b := by
  simp only [V, hostOps0, hostOps0_1, hostOps0_2, hostOps0_3, hostOps0_4, hostOps0_5, List.flatten_cons, List.flatten_nil, List.append_nil, List.cons_append, List.nil_append]
  entry_read
  exact wpad_apply _ k b

/-- Every entry a point writes is the reference's entry there. -/
theorem point (c : Dev nD) (t : Fin cfg0.N) (y : S1024x128.Idx) :
    k0_pay1 (F := Ideal) (iblk m c 0 t) (iblk m c 1 t) y = REF (m ((c : Thread nD τ).loc main_arg0)) (m ((c : Thread nD τ).loc main_arg1)) (((cfg0.win 2).blk t).view.emb y) := by
  obtain ⟨h0, h1, h2⟩ := idx t
  have ht : t.val < 4 := t.isLt
  idx_vars y
  have e : ((cfg0.win 2).blk t).view.emb (ix2 y0 y1) = ix2 (⟨t.val * 1024 + y0.val, by omega⟩ : Fin 4096) y1 := by
    blk_ext [h2]
  rw [e, REF_apply, pay_apply]
  refine Finset.sum_congr rfl fun k _ => ?_
  rw [← rows m c, ← cols m c]
  blk_point [iblk, h0, h1]

/-- The whole result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.HyfaIdeal.Value

end
-- ==== Proof.HyfaClaim.lean ====
/- THE FILTERS' FIRST PRODUCT: its claims: each program runs and gives its counters back, and the kernel and the reference end
   with equal results. -/
module

public import proofs.«01_k».proof.Defs
public import proofs.«01_k».proof.Proof.Gen.Hyfa.Frame
public import proofs.«01_k».proof.Proof.Gen.HyfaRefIdeal.Run
public import proofs.«01_k».proof.Proof.HyfaValue

@[expose] public section

set_option maxRecDepth 16384

noncomputable section

namespace Cert.Proof.Hyfa

open Idealize.ShloMosaic Idealize.SL.Sem

/-- The kernel runs, its arguments unchanged and its counters back at zero. -/
theorem frame : Cert.quiescent_Hyfa := fun m g _ => Cert.Hyfa.Gen.frame m g

/-- The kernel read at the extended reals, likewise. -/
theorem frame_ideal : Cert.quiescent_HyfaIdeal := fun m g _ => Cert.HyfaIdeal.Gen.frame m g

/-- The reference, likewise. -/
theorem frame_ref : Cert.quiescent_HyfaRefIdeal := fun m g _ =>
  (θ_run Cert.HyfaRefIdeal.defs _ _).mono (fun r h => ⟨fun c => (h c).2, Idealize.ShloMosaic.sem_eq_zero_of_no_sems (by decide) r.2⟩)
    (Cert.HyfaRefIdeal.Value.run (F := Ideal) m g)

/-- The kernel's result is the reference's. -/
theorem value : Cert.algebraic_HyfaIdeal_HyfaRefIdeal := by
  intro m g m' g' _ hagree
  refine ⟨fun c => Cert.HyfaIdeal.Value.REF (m ((c.tc : Thread Cert.HyfaIdeal.nD Cert.HyfaIdeal.τ).loc Cert.HyfaIdeal.main_arg0))
      (m ((c.tc : Thread Cert.HyfaIdeal.nD Cert.HyfaIdeal.τ).loc Cert.HyfaIdeal.main_arg1)), ?_, ?_⟩
  · refine (θ_run Cert.HyfaIdeal.defs _ _).mono (fun r h c => ⟨(h c).1.trans (Cert.HyfaIdeal.Value.final m c), (h c).2⟩)
      (Cert.HyfaIdeal.Value.run_blocks (F := Ideal) m g)
  · refine (θ_run Cert.HyfaRefIdeal.defs _ _).mono (fun r h c => ⟨(h c).1.trans ?_, (h c).2⟩)
      (Cert.HyfaRefIdeal.Value.run (F := Ideal) m' g')
    rw [(hagree c).1, (hagree c).2]
    exact Cert.HyfaRefIdeal.Read.val_main_v1_eq _ _

end Cert.Proof.Hyfa

end
-- ==== Proof.HyfbValue.lean ====
/- THE SECOND PRODUCT OF HYENA'S FILTER NETWORK, its value: the kernel's rows and columns are filled up with noughts to 128
   terms, of which 64 count. -/
module

public import proofs.«01_k».proof.Proof.Gen.HyfbIdeal.Value
public import proofs.«01_k».proof.Proof.Gen.HyfbRefIdeal.Read
public import proofs.«01_k».proof.Proof.Pads
public import Idealize.ShloMosaic.Lib.Pipeline.ValueKit
public import Idealize.ShloMosaic.Lib.Pointwise

@[expose] public section

set_option maxRecDepth 16384

noncomputable section

namespace Cert.HyfbIdeal.Value

open Cert.HyfbIdeal Cert.HyfbIdeal.Gen Idealize.ShloMosaic Idealize.ShloMosaic.TcCoe Idealize.SL.Sem
open Idealize.ShloMosaic.Pipeline (Dat)

variable (m : (ℓ : Loc nD τ sig) → Buf (Elt Ideal) ℓ)

/-- The blocks of point `t`. -/
theorem idx : ∀ t : Fin cfg0.N, win0_0.index t = ![t.val, 0] ∧ win0_1.index t = ![0, 0] ∧ win0_2.index t = ![t.val, 0] :=
  (by decide +kernel : ∀ t : Fin grid0.N, _)

/-- The product as the reference has it, of the kernel's argument arrays. -/
abbrev REF (X : FVec Ideal S4096x64 .f32) (W : FVec Ideal S64x64 .f32) : FVec Ideal S4096x128 .f32 :=
  Cert.HyfbRefIdeal.Read.val_main_v1 (F := Ideal) X W

/-- A term of a padded row. -/
def xcell (X : FVec Ideal S4096x64 .f32) (r : Fin 4096) (k : Fin 128) : EReal :=
  if h : k.val < 64 then X (ix2 r (⟨k.val, h⟩ : Fin 64)) else 0

/-- A term of a padded column. -/
def wcell (W : FVec Ideal S64x64 .f32) (k : Fin 128) (b : Fin 128) : EReal :=
  if g : b.val < 64 then if h : k.val < 64 then W (ix2 (⟨k.val, h⟩ : Fin 64) (⟨b.val, g⟩ : Fin 64)) else 0 else 0

/-- What a point computes. -/
theorem pay_apply (x : FVec Ideal S1024x128 .f32) (w : FVec Ideal S128x128 .f32) (a : Fin 1024) (b : Fin 128) :
    k0_pay1 (F := Ideal) x w (ix2 a b) = ∑ k : Fin 128, x (ix2 a k) * w (ix2 k b) := by
  pointwise [k0_pay1]

/-- The reference's product. -/
theorem prod_apply (X : FVec Ideal S4096x64 .f32) (W : FVec Ideal S64x64 .f32) (r : Fin 4096) (b : Fin 64) :
    Cert.HyfbRefIdeal.Read.val_main_v0 (F := Ideal) X W (ix2 r b) = ∑ k : Fin 64, X (ix2 r k) * W (ix2 k b) := by
  rw [Cert.HyfbRefIdeal.Read.val_main_v0_apply]
  refine Finset.sum_congr rfl fun k _ => congrArg₂ (· * ·) (congrArg X ?_) (congrArg W ?_)
  · blk_ext []
  · blk_ext []

/-- What the reference computes: the noughts change nothing. -/
theorem REF_apply (X : FVec Ideal S4096x64 .f32) (W : FVec Ideal S64x64 .f32) (r : Fin 4096) (b : Fin 128) :
    REF X W (ix2 r b) = ∑ k : Fin 128, xcell X r k * wcell W k b := by
  unfold REF
  by_cases h : b.val < 64
  · have e : ∀ k, xcell X r k * wcell W k b = if g : k.val < 64 then (fun q : Fin 64 => X (ix2 r q) * W (ix2 q (⟨b.val, h⟩ : Fin 64))) ⟨k.val, g⟩ else 0 := by
      intro k
      unfold xcell wcell
      rw [dif_pos h]
      by_cases g : k.val < 64
      · rw [dif_pos g, dif_pos g, dif_pos g]
      · rw [dif_neg g, dif_neg g, dif_neg g, mul_zero]
    refine Eq.trans ?_ ((Finset.sum_congr rfl fun k _ => e k).trans (Cert.Pads.sum_padded (by decide : 64 ≤ 128) (fun q : Fin 64 => X (ix2 r q) * W (ix2 q (⟨b.val, h⟩ : Fin 64))))).symm
    pointwise [Cert.HyfbRefIdeal.Read.val_main_v1]
    rw [dif_pos h]
    exact prod_apply X W r (⟨b.val, h⟩ : Fin 64)
  · have e : ∀ k, wcell W k b = 0 := fun k => dif_neg h
    refine Eq.trans ?_ (Finset.sum_eq_zero fun k _ => (congrArg (_ * ·) (e k)).trans (mul_zero _)).symm
    pointwise [Cert.HyfbRefIdeal.Read.val_main_v1]
    rw [dif_neg h]
    exact Cert.Pads.nought

/-- The rows as the region's host code pads them. -/
theorem xpad_apply (X : FVec Ideal S4096x64 .f32) (r : Fin 4096) (k : Fin 128) :
    pad S4096x128 ![0, 0] ![0, 64] ![0, 0] X (sitofp (F := Ideal) FTy.f32 (constantI S_ 32 0#32)) pads_S4096x64_S4096x128_000_0640 h_S_ (ix2 r k) = xcell X r k := by
  by_cases h : k.val < 64
  · pointwise [xcell]
    rw [dif_pos h, dif_pos h]
  · pointwise [xcell]
    rw [dif_neg h, dif_neg h]
    exact Cert.Pads.nought

/-- The columns as the region's host code pads them. -/
theorem wpad_apply (W : FVec Ideal S64x64 .f32) (k : Fin 128) (b : Fin 128) :
    pad S128x128 ![0, 0] ![0, 64] ![0, 0] (pad S128x64 ![0, 0] ![64, 0] ![0, 0] W (sitofp (F := Ideal) FTy.f32 (constantI S_ 32 0#32)) pads_S64x64_S128x64_0640_000 h_S_) (sitofp (F := Ideal) FTy.f32 (constantI S_ 32 0#32)) pads_S128x64_S128x128_000_0640 h_S_ (ix2 k b) = wcell W k b := by
  by_cases g : b.val < 64
  · by_cases h : k.val < 64
    · pointwise [wcell]
      simp [g, h]
    · pointwise [wcell]
      simp [g, h, Cert.Pads.nought]
  · pointwise [wcell]
    simp [g, Cert.Pads.nought]

/-- The rows as the region finds them. -/
theorem rows (c : Dev nD) (r : Fin 4096) (k : Fin 128) :
    V m c main_v0 (ix2 r k) = xcell (m ((c : Thread nD τ).loc main_arg0)) r k := by
  simp only [V, hostOps0, hostOps0_1, hostOps0_2, hostOps0_3, hostOps0_4, hostOps0_5, List.flatten_cons, List.flatten_nil, List.append_nil, List.cons_append, List.nil_append]
  entry_read
  exact xpad_apply _ r k

/-- The columns as the region finds them. -/
theorem cols (c : Dev nD) (k : Fin 128) (b : Fin 128) :
    V m c main_v2 (ix2 k b) = wcell (m ((c : Thread nD τ).loc main_arg1)) k b := by
  simp only [V, hostOps0, hostOps0_1, hostOps0_2, hostOps0_3, hostOps0_4, hostOps0_5, List.flatten_cons, List.flatten_nil, List.append_nil, List.cons_append, List.nil_append]
  entry_read
  exact wpad_apply _ k b

/-- Every entry a point writes is the reference's entry there. -/
theorem point (c : Dev nD) (t : Fin cfg0.N) (y : S1024x128.Idx) :
    k0_pay1 (F := Ideal) (iblk m c 0 t) (iblk m c 1 t) y = REF (m ((c : Thread nD τ).loc main_arg0)) (m ((c : Thread nD τ).loc main_arg1)) (((cfg0.win 2).blk t).view.emb y) := by
  obtain ⟨h0, h1, h2⟩ := idx t
  have ht : t.val < 4 := t.isLt
  idx_vars y
  have e : ((cfg0.win 2).blk t).view.emb (ix2 y0 y1) = ix2 (⟨t.val * 1024 + y0.val, by omega⟩ : Fin 4096) y1 := by
    blk_ext [h2]
  rw [e, REF_apply, pay_apply]
  refine Finset.sum_congr rfl fun k _ => ?_
  rw [← rows m c, ← cols m c]
  blk_point [iblk, h0, h1]

/-- The whole result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.HyfbIdeal.Value

end
-- ==== Proof.HyfbClaim.lean ====
/- THE FILTERS' SECOND PRODUCT: its claims: each program runs and gives its counters back, and the kernel and the reference end
   with equal results. -/
module

public import proofs.«01_k».proof.Defs
public import proofs.«01_k».proof.Proof.Gen.Hyfb.Frame
public import proofs.«01_k».proof.Proof.Gen.HyfbRefIdeal.Run
public import proofs.«01_k».proof.Proof.HyfbValue

@[expose] public section

set_option maxRecDepth 16384

noncomputable section

namespace Cert.Proof.Hyfb

open Idealize.ShloMosaic Idealize.SL.Sem

/-- The kernel runs, its arguments unchanged and its counters back at zero. -/
theorem frame : Cert.quiescent_Hyfb := fun m g _ => Cert.Hyfb.Gen.frame m g

/-- The kernel read at the extended reals, likewise. -/
theorem frame_ideal : Cert.quiescent_HyfbIdeal := fun m g _ => Cert.HyfbIdeal.Gen.frame m g

/-- The reference, likewise. -/
theorem frame_ref : Cert.quiescent_HyfbRefIdeal := fun m g _ =>
  (θ_run Cert.HyfbRefIdeal.defs _ _).mono (fun r h => ⟨fun c => (h c).2, Idealize.ShloMosaic.sem_eq_zero_of_no_sems (by decide) r.2⟩)
    (Cert.HyfbRefIdeal.Value.run (F := Ideal) m g)

/-- The kernel's result is the reference's. -/
theorem value : Cert.algebraic_HyfbIdeal_HyfbRefIdeal := by
  intro m g m' g' _ hagree
  refine ⟨fun c => Cert.HyfbIdeal.Value.REF (m ((c.tc : Thread Cert.HyfbIdeal.nD Cert.HyfbIdeal.τ).loc Cert.HyfbIdeal.main_arg0))
      (m ((c.tc : Thread Cert.HyfbIdeal.nD Cert.HyfbIdeal.τ).loc Cert.HyfbIdeal.main_arg1)), ?_, ?_⟩
  · refine (θ_run Cert.HyfbIdeal.defs _ _).mono (fun r h c => ⟨(h c).1.trans (Cert.HyfbIdeal.Value.final m c), (h c).2⟩)
      (Cert.HyfbIdeal.Value.run_blocks (F := Ideal) m g)
  · refine (θ_run Cert.HyfbRefIdeal.defs _ _).mono (fun r h c => ⟨(h c).1.trans ?_, (h c).2⟩)
      (Cert.HyfbRefIdeal.Value.run (F := Ideal) m' g')
    rw [(hagree c).1, (hagree c).2]
    exact Cert.HyfbRefIdeal.Read.val_main_v1_eq _ _

end Cert.Proof.Hyfb

end
-- ==== Proof.HyfcValue.lean ====
/- THE THIRD PRODUCT OF HYENA'S FILTER NETWORK, its value: the kernel's rows and columns are filled up with noughts to 128
   terms, of which 64 count. -/
module

public import proofs.«01_k».proof.Proof.Gen.HyfcIdeal.Value
public import proofs.«01_k».proof.Proof.Gen.HyfcRefIdeal.Read
public import proofs.«01_k».proof.Proof.Pads
public import Idealize.ShloMosaic.Lib.Pipeline.ValueKit
public import Idealize.ShloMosaic.Lib.Pointwise

@[expose] public section

set_option maxRecDepth 16384

noncomputable section

namespace Cert.HyfcIdeal.Value

open Cert.HyfcIdeal Cert.HyfcIdeal.Gen Idealize.ShloMosaic Idealize.ShloMosaic.TcCoe Idealize.SL.Sem
open Idealize.ShloMosaic.Pipeline (Dat)

variable (m : (ℓ : Loc nD τ sig) → Buf (Elt Ideal) ℓ)

/-- The blocks of point `t`. -/
theorem idx : ∀ t : Fin cfg0.N, win0_0.index t = ![t.val / 8, 0] ∧ win0_1.index t = ![0, t.val % 8] ∧ win0_2.index t = ![t.val / 8, t.val % 8] :=
  (by decide +kernel : ∀ t : Fin grid0.N, _)

/-- The product as the reference has it, of the kernel's argument arrays. -/
abbrev REF (X : FVec Ideal S4096x64 .f32) (W : FVec Ideal S64x4096 .f32) : FVec Ideal S4096x4096 .f32 :=
  Cert.HyfcRefIdeal.Read.val_main_v0 (F := Ideal) X W

/-- A term of a padded row. -/
def xcell (X : FVec Ideal S4096x64 .f32) (r : Fin 4096) (k : Fin 128) : EReal :=
  if h : k.val < 64 then X (ix2 r (⟨k.val, h⟩ : Fin 64)) else 0

/-- A term of a padded column. -/
def wcell (W : FVec Ideal S64x4096 .f32) (k : Fin 128) (b : Fin 4096) : EReal :=
  if h : k.val < 64 then W (ix2 (⟨k.val, h⟩ : Fin 64) b) else 0

/-- What a point computes. -/
theorem pay_apply (x : FVec Ideal S1024x128 .f32) (w : FVec Ideal S128x512 .f32) (a : Fin 1024) (b : Fin 512) :
    k0_pay1 (F := Ideal) x w (ix2 a b) = ∑ k : Fin 128, x (ix2 a k) * w (ix2 k b) := by
  pointwise [k0_pay1]

/-- What the reference computes: the noughts change nothing. -/
theorem REF_apply (X : FVec Ideal S4096x64 .f32) (W : FVec Ideal S64x4096 .f32) (r : Fin 4096) (b : Fin 4096) :
    REF X W (ix2 r b) = ∑ k : Fin 128, xcell X r k * wcell W k b := by
  unfold REF
  have e : ∀ k, xcell X r k * wcell W k b = if g : k.val < 64 then (fun q : Fin 64 => X (ix2 r q) * W (ix2 q b)) ⟨k.val, g⟩ else 0 := by
    intro k
    unfold xcell wcell
    by_cases g : k.val < 64
    · rw [dif_pos g, dif_pos g, dif_pos g]
    · rw [dif_neg g, dif_neg g, dif_neg g, mul_zero]
  refine Eq.trans ?_ ((Finset.sum_congr rfl fun k _ => e k).trans (Cert.Pads.sum_padded (by decide : 64 ≤ 128) (fun q : Fin 64 => X (ix2 r q) * W (ix2 q b)))).symm
  rw [Cert.HyfcRefIdeal.Read.val_main_v0_apply]
  refine Finset.sum_congr rfl fun k _ => congrArg₂ (· * ·) (congrArg X ?_) (congrArg W ?_)
  · blk_ext []
  · blk_ext []

/-- The rows as the region's host code pads them. -/
theorem xpad_apply (X : FVec Ideal S4096x64 .f32) (r : Fin 4096) (k : Fin 128) :
    pad S4096x128 ![0, 0] ![0, 64] ![0, 0] X (sitofp (F := Ideal) FTy.f32 (constantI S_ 32 0#32)) pads_S4096x64_S4096x128_000_0640 h_S_ (ix2 r k) = xcell X r k := by
  by_cases h : k.val < 64
  · pointwise [xcell]
    rw [dif_pos h, dif_pos h]
  · pointwise [xcell]
    rw [dif_neg h, dif_neg h]
    exact Cert.Pads.nought

/-- The columns as the region's host code pads them. -/
theorem wpad_apply (W : FVec Ideal S64x4096 .f32) (k : Fin 128) (b : Fin 4096) :
    (pad S128x4096 ![0, 0] ![64, 0] ![0, 0] W (sitofp (F := Ideal) FTy.f32 (constantI S_ 32 0#32)) pads_S64x4096_S128x4096_0640_000 h_S_) (ix2 k b) = wcell W k b := by
  by_cases h : k.val < 64
  · pointwise [wcell]
    simp [h]
  · pointwise [wcell]
    simp [h, Cert.Pads.nought]

/-- The rows as the region finds them. -/
theorem rows (c : Dev nD) (r : Fin 4096) (k : Fin 128) :
    V m c main_v0 (ix2 r k) = xcell (m ((c : Thread nD τ).loc main_arg0)) r k := by
  simp only [V, hostOps0, hostOps0_1, hostOps0_2, hostOps0_3, List.flatten_cons, List.flatten_nil, List.append_nil, List.cons_append, List.nil_append]
  entry_read
  exact xpad_apply _ r k

/-- The columns as the region finds them. -/
theorem cols (c : Dev nD) (k : Fin 128) (b : Fin 4096) :
    V m c main_v1 (ix2 k b) = wcell (m ((c : Thread nD τ).loc main_arg1)) k b := by
  simp only [V, hostOps0, hostOps0_1, hostOps0_2, hostOps0_3, List.flatten_cons, List.flatten_nil, List.append_nil, List.cons_append, List.nil_append]
  entry_read
  exact wpad_apply _ k b

/-- Every entry a point writes is the reference's entry there. -/
theorem point (c : Dev nD) (t : Fin cfg0.N) (y : S1024x512.Idx) :
    k0_pay1 (F := Ideal) (iblk m c 0 t) (iblk m c 1 t) y = REF (m ((c : Thread nD τ).loc main_arg0)) (m ((c : Thread nD τ).loc main_arg1)) (((cfg0.win 2).blk t).view.emb y) := by
  obtain ⟨h0, h1, h2⟩ := idx t
  have ht : t.val < 32 := t.isLt
  idx_vars y
  have e : ((cfg0.win 2).blk t).view.emb (ix2 y0 y1) = ix2 (⟨t.val / 8 * 1024 + y0.val, by omega⟩ : Fin 4096) (⟨t.val % 8 * 512 + y1.val, by omega⟩ : Fin 4096) := by
    blk_ext [h2]
  rw [e, REF_apply, pay_apply]
  refine Finset.sum_congr rfl fun k _ => ?_
  rw [← rows m c, ← cols m c]
  blk_point [iblk, h0, h1]

/-- The whole result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.HyfcIdeal.Value

end
-- ==== Proof.HyfcClaim.lean ====
/- THE FILTERS' THIRD PRODUCT: its claims: each program runs and gives its counters back, and the kernel and the reference end
   with equal results. -/
module

public import proofs.«01_k».proof.Defs
public import proofs.«01_k».proof.Proof.Gen.Hyfc.Frame
public import proofs.«01_k».proof.Proof.Gen.HyfcRefIdeal.Run
public import proofs.«01_k».proof.Proof.HyfcValue

@[expose] public section

set_option maxRecDepth 16384

noncomputable section

namespace Cert.Proof.Hyfc

open Idealize.ShloMosaic Idealize.SL.Sem

/-- The kernel runs, its arguments unchanged and its counters back at zero. -/
theorem frame : Cert.quiescent_Hyfc := fun m g _ => Cert.Hyfc.Gen.frame m g

/-- The kernel read at the extended reals, likewise. -/
theorem frame_ideal : Cert.quiescent_HyfcIdeal := fun m g _ => Cert.HyfcIdeal.Gen.frame m g

/-- The reference, likewise. -/
theorem frame_ref : Cert.quiescent_HyfcRefIdeal := fun m g _ =>
  (θ_run Cert.HyfcRefIdeal.defs _ _).mono (fun r h => ⟨fun c => (h c).2, Idealize.ShloMosaic.sem_eq_zero_of_no_sems (by decide) r.2⟩)
    (Cert.HyfcRefIdeal.Value.run (F := Ideal) m g)

/-- The kernel's result is the reference's. -/
theorem value : Cert.algebraic_HyfcIdeal_HyfcRefIdeal := by
  intro m g m' g' _ hagree
  refine ⟨fun c => Cert.HyfcIdeal.Value.REF (m ((c.tc : Thread Cert.HyfcIdeal.nD Cert.HyfcIdeal.τ).loc Cert.HyfcIdeal.main_arg0))
      (m ((c.tc : Thread Cert.HyfcIdeal.nD Cert.HyfcIdeal.τ).loc Cert.HyfcIdeal.main_arg1)), ?_, ?_⟩
  · refine (θ_run Cert.HyfcIdeal.defs _ _).mono (fun r h c => ⟨(h c).1.trans (Cert.HyfcIdeal.Value.final m c), (h c).2⟩)
      (Cert.HyfcIdeal.Value.run_blocks (F := Ideal) m g)
  · refine (θ_run Cert.HyfcRefIdeal.defs _ _).mono (fun r h c => ⟨(h c).1.trans ?_, (h c).2⟩)
      (Cert.HyfcRefIdeal.Value.run (F := Ideal) m' g')
    rw [(hagree c).1, (hagree c).2]
    exact Cert.HyfcRefIdeal.Read.val_main_v0_eq _ _

end Cert.Proof.Hyfc

end
-- ==== Proof.Shifts.lean ====
/- SHIFTED ROWS AND COLUMNS: a matrix's rows, or its columns, rotated, read at an entry. -/
module

public import Idealize.ShloMosaic.Lib.KernelVsHost
public import Idealize.ShloMosaic.Lib.Pointwise

@[expose] public section

namespace Cert.Shifts

open Idealize.ShloMosaic

/-- Rows moved down by `s`: row `a` holds the row `s` before it, around the end. -/
theorem rows {n w : ℕ} {α : Type} (s : ℕ) (d : BitVec 32) (hd : d.toNat = s) (hs : s < n)
    (x : (⟨2, ![n, w]⟩ : Shape).Idx → α) (h : (⟨2, ![n, w]⟩ : Shape).Rotates 0 none) (a : Fin n) (j : Fin w) :
    dynamicRotate 0 d none x h (ix2 a j) = x (ix2 (⟨(a.val + n - s) % n, Nat.mod_lt _ (by omega)⟩ : Fin n) j) :=
  dynamicRotate_apply 0 d x h _ _ fun b => by
    match b with
    | ⟨0, _⟩ => show (a.val + n - s) % n = (a.val + n - d.toNat % n) % n; rw [hd, Nat.mod_eq_of_lt hs]
    | ⟨1, _⟩ => rfl

/-- Columns moved right by `s`, likewise. -/
theorem lanes {n w : ℕ} {α : Type} (s : ℕ) (d : BitVec 32) (hd : d.toNat = s) (hs : s < w)
    (x : (⟨2, ![n, w]⟩ : Shape).Idx → α) (h : (⟨2, ![n, w]⟩ : Shape).Rotates 1 none) (a : Fin n) (j : Fin w) :
    dynamicRotate 1 d none x h (ix2 a j) = x (ix2 a (⟨(j.val + w - s) % w, Nat.mod_lt _ (by omega)⟩ : Fin w)) :=
  dynamicRotate_apply 1 d x h _ _ fun b => by
    match b with
    | ⟨0, _⟩ => rfl
    | ⟨1, _⟩ => show (j.val + w - s) % w = (j.val + w - d.toNat % w) % w; rw [hd, Nat.mod_eq_of_lt hs]

end Cert.Shifts
-- ==== Proof.SconvValue.lean ====
/- HYENA'S SHORT CONVOLUTION, its value: the kernel takes the rows before and after by rotations and puts noughts at the
   two ends, the reference puts a row of noughts before and after. -/
module

public import proofs.«01_k».proof.Proof.Gen.SconvIdeal.Value
public import proofs.«01_k».proof.Proof.Gen.SconvRefIdeal.Read
public import proofs.«01_k».proof.Proof.Shifts
public import Idealize.ShloMosaic.Lib.WordCmp
public import Idealize.ShloMosaic.Lib.Pipeline.ValueKit
public import Idealize.ShloMosaic.Lib.Pointwise

@[expose] public section

set_option maxRecDepth 16384

noncomputable section

namespace Cert.SconvIdeal.Value

open Cert.SconvIdeal Cert.SconvIdeal.Gen Idealize.ShloMosaic Idealize.ShloMosaic.TcCoe Idealize.SL.Sem
open Idealize.ShloMosaic.Pipeline (Dat)

variable (m : (ℓ : Loc nD τ sig) → Buf (Elt Ideal) ℓ)

/-- The blocks of point `t`: sequence `t / 24`, columns of block `t mod 24`. -/
theorem idx : ∀ t : Fin cfg0.N, win0_0.index t = ![t.val / 24, 0, 36 + t.val % 24] ∧ win0_1.index t = ![0, t.val % 24]
    ∧ win0_2.index t = ![0, t.val % 24] ∧ win0_3.index t = ![t.val / 24, 0, t.val % 24] :=
  (by decide +kernel : ∀ t : Fin grid0.N, _)

/-- The convolution as the reference has it, of the kernel's argument arrays. -/
abbrev REF (p : FVec Ideal S4x4352x11776 .f32) (w : FVec Ideal S3x3072 .f32) (b : FVec Ideal S3072 .f32) : FVec Ideal S4x4096x3072 .f32 :=
  Cert.SconvRefIdeal.Read.val_main_v25 (F := Ideal) p w b

/-- Of a column's entries, the one before entry `a`; nought before the first. -/
def before (f : Fin 4096 → EReal) (a : Fin 4096) : EReal := if h : a.val = 0 then 0 else f ⟨a.val - 1, by omega⟩

/-- The one after entry `a`; nought after the last. -/
def after (f : Fin 4096 → EReal) (a : Fin 4096) : EReal := if h : a.val = 4095 then 0 else f ⟨a.val + 1, by omega⟩

/-- The rows' numbers, rotated with the rows: row `a` holds the number of the row before it, around the end. -/
theorem mask : ∀ a : Fin 4096, IntOp.cmpi .eq (BitVec.ofNat 32 ((a.val + 4096 - 1) % 4096))
    (Scalar.select (IntOp.cmpi .eq (BitVec.ofNat 32 a.val) 0#32) 4095#32 (IntOp.subi (BitVec.ofNat 32 a.val) 1#32)) = 1#1 := by
  decide +kernel

/-- Which row is the first, -/
theorem first : ∀ a : Fin 4096, IntOp.cmpi .eq (BitVec.ofNat 32 a.val) 0#32 = BitVec.ofBool (decide (a.val = 0)) := by
  decide +kernel

/-- and which the last. -/
theorem last : ∀ a : Fin 4096, IntOp.cmpi .eq (BitVec.ofNat 32 a.val) 4095#32 = BitVec.ofBool (decide (a.val = 4095)) := by
  decide +kernel

/-- The kernel's test of the rotation's direction. -/
def dir : IVec S4096x128 1 :=
  cmpi .eq (dynamicRotate 0 1#32 none (iota .tc S4096x128 32 [0] iota_S4096x128_d0_w32) rotates_S4096x128_d0)
    (select (cmpi .eq (iota .tc S4096x128 32 [0] iota_S4096x128_d0_w32) (broadcast S4096x128 0#32)) (broadcast S4096x128 4095#32)
      (subi (iota .tc S4096x128 32 [0] iota_S4096x128_d0_w32) (broadcast S4096x128 1#32)))

/-- The kernel's rows before, -/
def prevs (v : FVec Ideal S4096x128 .f32) : FVec Ideal S4096x128 .f32 :=
  select (cmpi .eq (iota .tc S4096x128 32 [0] iota_S4096x128_d0_w32) (broadcast S4096x128 0#32))
    (broadcast S4096x128 (Scalar.ofBits (F := Ideal) .f32 0x00000000#32))
    (select dir (dynamicRotate 0 1#32 none v rotates_S4096x128_d0) (dynamicRotate 0 4095#32 none v rotates_S4096x128_d0))

/-- and its rows after. -/
def nexts (v : FVec Ideal S4096x128 .f32) : FVec Ideal S4096x128 .f32 :=
  select (cmpi .eq (iota .tc S4096x128 32 [0] iota_S4096x128_d0_w32) (broadcast S4096x128 4095#32))
    (broadcast S4096x128 (Scalar.ofBits (F := Ideal) .f32 0x00000000#32))
    (select dir (dynamicRotate 0 4095#32 none v rotates_S4096x128_d0) (dynamicRotate 0 1#32 none v rotates_S4096x128_d0))

/-- The three terms and the bias, of the rows before, the rows and the rows after. -/
def mix (p v n : FVec Ideal S4096x128 .f32) (w : FVec Ideal S3x128 .f32) (b : FVec Ideal S1x128 .f32) : FVec Ideal S4096x128 .f32 :=
  addf (addf (addf
      (mulf (broadcastTo S4096x128 (extractStridedSlice S1x128 ![0, 0] w slices_S3x128_o0_0_S1x128) broadcasts_S1x128_S4096x128) p)
      (mulf (broadcastTo S4096x128 (extractStridedSlice S1x128 ![1, 0] w slices_S3x128_o1_0_S1x128) broadcasts_S1x128_S4096x128) v))
      (mulf (broadcastTo S4096x128 (extractStridedSlice S1x128 ![2, 0] w slices_S3x128_o2_0_S1x128) broadcasts_S1x128_S4096x128) n))
    (broadcastTo S4096x128 (shapeCast S1x128 b shapeCasts_S1x128_S1x128) broadcasts_S1x128_S4096x128)

/-- The test always holds. -/
theorem dir_apply (a : Fin 4096) (j : Fin 128) : dir (ix2 a j) = 1#1 := by
  refine Eq.trans ?_ (mask a)
  unfold dir
  rw [WordCmp.cmpi_at, WordCmp.select_at, WordCmp.cmpi_at, Cert.Shifts.rows 1 1#32 rfl (by decide)]
  have e : ∀ r : Fin 4096, iota .tc S4096x128 32 [0] iota_S4096x128_d0_w32 (ix2 r j) = BitVec.ofNat 32 r.val := fun r =>
    congrArg (BitVec.ofNat 32) ((congrArg (· + r.val) (Nat.zero_mul 4096)).trans (Nat.zero_add r.val))
  rw [e]
  show IntOp.cmpi _ _ (Scalar.select (IntOp.cmpi _ (iota .tc S4096x128 32 [0] iota_S4096x128_d0_w32 (ix2 a j)) _) _
    (IntOp.subi (iota .tc S4096x128 32 [0] iota_S4096x128_d0_w32 (ix2 a j)) _)) = _
  rw [e]
  rfl

/-- The rows before, entry by entry. -/
theorem prevs_apply (v : FVec Ideal S4096x128 .f32) (a : Fin 4096) (j : Fin 128) :
    prevs v (ix2 a j) = before (fun r => v (ix2 r j)) a := by
  unfold prevs before
  rw [WordCmp.select_at, WordCmp.select_at, dir_apply, Cert.Shifts.rows 1 1#32 rfl (by decide)]
  have e : cmpi .eq (iota .tc S4096x128 32 [0] iota_S4096x128_d0_w32) (broadcast S4096x128 0#32) (ix2 a j)
      = BitVec.ofBool (decide (a.val = 0)) := (congrArg (fun n => IntOp.cmpi .eq (BitVec.ofNat 32 n) 0#32)
    ((congrArg (· + a.val) (Nat.zero_mul 4096)).trans (Nat.zero_add a.val))).trans (first a)
  rw [e]
  by_cases h : a.val = 0
  · rw [dif_pos h, decide_eq_true h]
    exact Ideal.ofBits_zero_f32
  · rw [dif_neg h, decide_eq_false h]
    show v _ = v _
    refine congrArg (fun r => v (ix2 r j)) (Fin.ext ?_)
    show (a.val + 4096 - 1) % 4096 = a.val - 1
    omega

/-- The rows after. -/
theorem nexts_apply (v : FVec Ideal S4096x128 .f32) (a : Fin 4096) (j : Fin 128) :
    nexts v (ix2 a j) = after (fun r => v (ix2 r j)) a := by
  unfold nexts after
  rw [WordCmp.select_at, WordCmp.select_at, dir_apply, Cert.Shifts.rows 4095 4095#32 rfl (by decide)]
  have e : cmpi .eq (iota .tc S4096x128 32 [0] iota_S4096x128_d0_w32) (broadcast S4096x128 4095#32) (ix2 a j)
      = BitVec.ofBool (decide (a.val = 4095)) := (congrArg (fun n => IntOp.cmpi .eq (BitVec.ofNat 32 n) 4095#32)
    ((congrArg (· + a.val) (Nat.zero_mul 4096)).trans (Nat.zero_add a.val))).trans (last a)
  rw [e]
  by_cases h : a.val = 4095
  · rw [dif_pos h, decide_eq_true h]
    exact Ideal.ofBits_zero_f32
  · rw [dif_neg h, decide_eq_false h]
    show v _ = v _
    refine congrArg (fun r => v (ix2 r j)) (Fin.ext ?_)
    show (a.val + 4096 - 4095) % 4096 = a.val + 1
    omega

/-- The three terms, entry by entry. -/
theorem mix_apply (p v n : FVec Ideal S4096x128 .f32) (w : FVec Ideal S3x128 .f32) (b : FVec Ideal S1x128 .f32) (a : Fin 4096) (j : Fin 128) :
    mix p v n w b (ix2 a j) = w (ix2 (0 : Fin 3) j) * p (ix2 a j) + w (ix2 (1 : Fin 3) j) * v (ix2 a j)
      + w (ix2 (2 : Fin 3) j) * n (ix2 a j) + b (ix2 (0 : Fin 1) j) := by
  pointwise [mix]

/-- What a point computes. -/
theorem pay_apply (x : FVec Ideal S1x4096x128 .f32) (w : FVec Ideal S3x128 .f32) (b : FVec Ideal S1x128 .f32) (a : Fin 4096) (j : Fin 128) :
    k0_pay1 (F := Ideal) (k0_pay2 (F := Ideal) x w b) (ix3 (0 : Fin 1) a j)
      = w (ix2 (0 : Fin 3) j) * before (fun r => x (ix3 (0 : Fin 1) r j)) a + w (ix2 (1 : Fin 3) j) * x (ix3 (0 : Fin 1) a j)
      + w (ix2 (2 : Fin 3) j) * after (fun r => x (ix3 (0 : Fin 1) r j)) a + b (ix2 (0 : Fin 1) j) := by
  have e : ∀ r, shapeCast S4096x128 x shapeCasts_S1x4096x128_S4096x128 (ix2 r j) = x (ix3 (0 : Fin 1) r j) := fun r => by pointwise
  have e2 : k0_pay2 (F := Ideal) x w b = mix (prevs (shapeCast S4096x128 x shapeCasts_S1x4096x128_S4096x128))
      (shapeCast S4096x128 x shapeCasts_S1x4096x128_S4096x128) (nexts (shapeCast S4096x128 x shapeCasts_S1x4096x128_S4096x128)) w b := rfl
  have e1 : ∀ v : FVec Ideal S4096x128 .f32, k0_pay1 (F := Ideal) v (ix3 (0 : Fin 1) a j) = v (ix2 a j) := fun v => by pointwise [k0_pay1]
  rw [e1, e2, mix_apply, prevs_apply, nexts_apply, e]
  simp only [e]

/-- What the reference computes. -/
theorem REF_apply (p : FVec Ideal S4x4352x11776 .f32) (w : FVec Ideal S3x3072 .f32) (b : FVec Ideal S3072 .f32)
    (q : Fin 4) (a : Fin 4096) (j : Fin 3072) :
    REF p w b (ix3 q a j)
      = w (ix2 (0 : Fin 3) j) * before (fun r => p (ix3 q (⟨r.val, by omega⟩ : Fin 4352) (⟨4608 + j.val, by omega⟩ : Fin 11776))) a
      + w (ix2 (1 : Fin 3) j) * p (ix3 q (⟨a.val, by omega⟩ : Fin 4352) (⟨4608 + j.val, by omega⟩ : Fin 11776))
      + w (ix2 (2 : Fin 3) j) * after (fun r => p (ix3 q (⟨r.val, by omega⟩ : Fin 4352) (⟨4608 + j.val, by omega⟩ : Fin 11776))) a
      + b (ix1 j) := by
  have s : ∀ k, Cert.SconvRefIdeal.Read.val_main_v0 (F := Ideal) p k = p (Cert.SconvRefIdeal.Read.idx_main_v0 k) := fun k => Cert.SconvRefIdeal.Read.val_main_v0_apply (F := Ideal) p k
  have z : ∀ k, Cert.SconvRefIdeal.Read.val_main_v1 (F := Ideal) k = 0 := fun k => by
    rw [Cert.SconvRefIdeal.Read.val_main_v1_apply]; exact Ideal.ofBits_zero_f32
  have eb : Cert.SconvRefIdeal.Read.val_main_v3 (F := Ideal) p (ix3 q a j)
      = before (fun r => p (ix3 q (⟨r.val, by omega⟩ : Fin 4352) (⟨4608 + j.val, by omega⟩ : Fin 11776))) a := by
    unfold before
    by_cases h : a.val = 0
    · pointwise [Cert.SconvRefIdeal.Read.val_main_v3]
      rw [dif_pos (by omega), dif_pos h]
      exact z _
    · pointwise [Cert.SconvRefIdeal.Read.val_main_v3]
      rw [dif_neg (by omega), dif_neg h, Cert.SconvRefIdeal.Read.val_main_v2_apply, s]
      refine congrArg p ?_
      blk_ext []
  have ea : Cert.SconvRefIdeal.Read.val_main_v5 (F := Ideal) p (ix3 q a j)
      = after (fun r => p (ix3 q (⟨r.val, by omega⟩ : Fin 4352) (⟨4608 + j.val, by omega⟩ : Fin 11776))) a := by
    unfold after
    by_cases h : a.val = 4095
    · pointwise [Cert.SconvRefIdeal.Read.val_main_v5]
      rw [dif_neg (by omega), dif_pos h]
      exact z _
    · pointwise [Cert.SconvRefIdeal.Read.val_main_v5]
      rw [dif_pos (by omega), dif_neg h, Cert.SconvRefIdeal.Read.val_main_v4_apply, s]
      refine congrArg p ?_
      blk_ext []
  unfold REF
  rw [Cert.SconvRefIdeal.Read.val_main_v25_apply, Cert.SconvRefIdeal.Read.val_main_v22_apply, Cert.SconvRefIdeal.Read.val_main_v16_apply, Cert.SconvRefIdeal.Read.val_main_v10_apply, Cert.SconvRefIdeal.Read.val_main_v15_apply, Cert.SconvRefIdeal.Read.val_main_v21_apply, eb, ea, s]
  rw [Cert.SconvRefIdeal.Read.val_main_v24_apply, Cert.SconvRefIdeal.Read.val_main_v23_apply, Cert.SconvRefIdeal.Read.val_main_v9_apply, Cert.SconvRefIdeal.Read.val_main_v8_apply, Cert.SconvRefIdeal.Read.val_main_v7_apply, Cert.SconvRefIdeal.Read.val_main_v6_apply, Cert.SconvRefIdeal.Read.val_main_v14_apply, Cert.SconvRefIdeal.Read.val_main_v13_apply, Cert.SconvRefIdeal.Read.val_main_v12_apply, Cert.SconvRefIdeal.Read.val_main_v11_apply,
    Cert.SconvRefIdeal.Read.val_main_v20_apply, Cert.SconvRefIdeal.Read.val_main_v19_apply, Cert.SconvRefIdeal.Read.val_main_v18_apply, Cert.SconvRefIdeal.Read.val_main_v17_apply]
  refine congrArg₂ (· + ·) (congrArg₂ (· + ·) (congrArg₂ (· + ·) (congrArg₂ (· * ·) (congrArg w ?_) rfl)
    (congrArg₂ (· * ·) (congrArg w ?_) (congrArg p ?_))) (congrArg₂ (· * ·) (congrArg w ?_) rfl)) (congrArg b ?_) <;> blk_ext []

/-- The block of the projections at point `t`. -/
theorem block_p (c : Dev nD) (t : Fin cfg0.N) (a : Fin 4096) (j : Fin 128) (ht : t.val < 96) :
    X0_0 m c t (ix3 (0 : Fin 1) a j) = m ((c : Thread nD τ).loc main_arg0)
      (ix3 (⟨t.val / 24, by omega⟩ : Fin 4) (⟨a.val, by omega⟩ : Fin 4352) (⟨4608 + (t.val % 24 * 128 + j.val), by omega⟩ : Fin 11776)) := by
  obtain ⟨h0, h1, h2, h3⟩ := idx t
  rw [← V_main_arg0 m c]
  unfold X0_0 Pipeline.Window.fill
  rw [dif_pos (moved0_0 t _)]
  blk_point [iblk, h0]

/-- The bias as the region finds it. -/
theorem bias (c : Dev nD) (j : Fin 3072) :
    V m c main_v0 (ix2 (0 : Fin 1) j) = m ((c : Thread nD τ).loc main_arg2) (ix1 j) := by
  simp only [V, hostOps0, List.flatten_cons, List.flatten_nil, List.append_nil, List.cons_append, List.nil_append]
  entry_read
  pointwise

/-- Every entry a point writes is the reference's entry there. -/
theorem point (c : Dev nD) (t : Fin cfg0.N) (y : S1x4096x128.Idx) :
    k0_pay1 (F := Ideal) (k0_pay2 (F := Ideal) (X0_0 m c t) (iblk m c 1 t) (iblk m c 2 t)) y
      = REF (m ((c : Thread nD τ).loc main_arg0)) (m ((c : Thread nD τ).loc main_arg1)) (m ((c : Thread nD τ).loc main_arg2)) (((cfg0.win 3).blk t).view.emb y) := by
  obtain ⟨h0, h1, h2, h3⟩ := idx t
  have ht : t.val < 96 := t.isLt
  idx_vars y
  obtain rfl : y0 = 0 := Subsingleton.elim _ _
  have e : ((cfg0.win 3).blk t).view.emb (ix3 (0 : Fin 1) y1 y2)
      = ix3 (⟨t.val / 24, by omega⟩ : Fin 4) y1 (⟨t.val % 24 * 128 + y2.val, by omega⟩ : Fin 3072) := by
    blk_ext [h3]
  have b0 : ∀ r : Fin 4096, X0_0 m c t (ix3 (0 : Fin 1) r y2) = _ := fun r => block_p m c t r y2 ht
  rw [e, REF_apply, pay_apply]
  simp only [b0]
  rw [← bias m c, ← V_main_arg1 m c]
  refine congrArg₂ (· + ·) (congrArg₂ (· + ·) (congrArg₂ (· + ·) (congrArg₂ (· * ·) ?_ rfl)
    (congrArg₂ (· * ·) ?_ rfl)) (congrArg₂ (· * ·) ?_ rfl)) ?_
  · blk_point [iblk, h1]
  · blk_point [iblk, h1]
  · blk_point [iblk, h1]
  · blk_point [iblk, h2]

/-- The whole result array after the run. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  unfold outsAt0
  frame_out
  exact point m c t y

end Cert.SconvIdeal.Value

end
-- ==== Proof.SconvClaim.lean ====
/- THE SHORT CONVOLUTION's claims: each program runs and gives its counters back, and the kernel and the reference end
   with equal results. -/
module

public import proofs.«01_k».proof.Defs
public import proofs.«01_k».proof.Proof.Gen.Sconv.Frame
public import proofs.«01_k».proof.Proof.Gen.SconvRefIdeal.Run
public import proofs.«01_k».proof.Proof.SconvValue

@[expose] public section

set_option maxRecDepth 16384

noncomputable section

namespace Cert.Proof.Sconv

open Idealize.ShloMosaic Idealize.SL.Sem

/-- The kernel runs, its arguments unchanged and its counters back at zero. -/
theorem frame : Cert.quiescent_Sconv := fun m g _ => Cert.Sconv.Gen.frame m g

/-- The kernel read at the extended reals, likewise. -/
theorem frame_ideal : Cert.quiescent_SconvIdeal := fun m g _ => Cert.SconvIdeal.Gen.frame m g

/-- The reference, likewise. -/
theorem frame_ref : Cert.quiescent_SconvRefIdeal := fun m g _ =>
  (θ_run Cert.SconvRefIdeal.defs _ _).mono (fun r h => ⟨fun c => (h c).2, Idealize.ShloMosaic.sem_eq_zero_of_no_sems (by decide) r.2⟩)
    (Cert.SconvRefIdeal.Value.run (F := Ideal) m g)

/-- The kernel's result is the reference's. -/
theorem value : Cert.algebraic_SconvIdeal_SconvRefIdeal := by
  intro m g m' g' _ hagree
  refine ⟨fun c => Cert.SconvIdeal.Value.REF (m ((c.tc : Thread Cert.SconvIdeal.nD Cert.SconvIdeal.τ).loc Cert.SconvIdeal.main_arg0))
      (m ((c.tc : Thread Cert.SconvIdeal.nD Cert.SconvIdeal.τ).loc Cert.SconvIdeal.main_arg1))
      (m ((c.tc : Thread Cert.SconvIdeal.nD Cert.SconvIdeal.τ).loc Cert.SconvIdeal.main_arg2)), ?_, ?_⟩
  · refine (θ_run Cert.SconvIdeal.defs _ _).mono (fun r h c => ⟨(h c).1.trans (Cert.SconvIdeal.Value.final m c), (h c).2⟩)
      (Cert.SconvIdeal.Value.run_blocks (F := Ideal) m g)
  · refine (θ_run Cert.SconvRefIdeal.defs _ _).mono (fun r h c => ⟨(h c).1.trans ?_, (h c).2⟩)
      (Cert.SconvRefIdeal.Value.run (F := Ideal) m' g')
    rw [(hagree c).1, (hagree c).2.1, (hagree c).2.2]
    exact Cert.SconvRefIdeal.Read.val_main_v25_eq _ _ _

end Cert.Proof.Sconv

end
-- ==== Proof.SctxValue.lean ====
/- HYENA'S SHORT CONVOLUTION, its value: the kernel takes the rows before and after by rotations and puts noughts at the
   two ends, the reference puts a row of noughts before and after. -/
module

public import proofs.«01_k».proof.Proof.Gen.SctxIdeal.Value
public import proofs.«01_k».proof.Proof.Gen.SctxRefIdeal.Read
public import proofs.«01_k».proof.Proof.Shifts
public import Idealize.ShloMosaic.Lib.WordCmp
public import Idealize.ShloMosaic.Lib.Pipeline.ValueKit
public import Idealize.ShloMosaic.Lib.Pointwise

@[expose] public section

set_option maxRecDepth 16384

noncomputable section

namespace Cert.SctxIdeal.Value

open Cert.SctxIdeal Cert.SctxIdeal.Gen Idealize.ShloMosaic Idealize.ShloMosaic.TcCoe Idealize.SL.Sem
open Idealize.ShloMosaic.Pipeline (Dat)

variable (m : (ℓ : Loc nD τ sig) → Buf (Elt Ideal) ℓ)

/-- The blocks of point `t`: sequence `t / 24`, columns of block `t mod 24`. -/
theorem idx : ∀ t : Fin cfg0.N, win0_0.index t = ![t.val / 24, 16, 36 + t.val % 24] ∧ win0_1.index t = ![0, t.val % 24]
    ∧ win0_2.index t = ![0, t.val % 24] ∧ win0_3.index t = ![t.val / 24, 0, t.val % 24] :=
  (by decide +kernel : ∀ t : Fin grid0.N, _)

/-- The convolution as the reference has it, of the kernel's argument arrays. -/
abbrev REF (p : FVec Ideal S4x4352x11776 .f32) (w : FVec Ideal S3x3072 .f32) (b : FVec Ideal S3072 .f32) : FVec Ideal S4x256x3072 .f32 :=
  Cert.SctxRefIdeal.Read.val_main_v25 (F := Ideal) p w b

/-- Of a column's entries, the one before entry `a`; nought before the first. -/
def before (f : Fin 256 → EReal) (a : Fin 256) : EReal := if h : a.val = 0 then 0 else f ⟨a.val - 1, by omega⟩

/-- The one after entry `a`; nought after the last. -/
def after (f : Fin 256 → EReal) (a : Fin 256) : EReal := if h : a.val = 255 then 0 else f ⟨a.val + 1, by omega⟩

/-- The rows' numbers, rotated with the rows: row `a` holds the number of the row before it, around the end. -/
theorem mask : ∀ a : Fin 256, IntOp.cmpi .eq (BitVec.ofNat 32 ((a.val + 256 - 1) % 256))
    (Scalar.select (IntOp.cmpi .eq (BitVec.ofNat 32 a.val) 0#32) 255#32 (IntOp.subi (BitVec.ofNat 32 a.val) 1#32)) = 1#1 := by
  decide +kernel

/-- Which row is the first, -/
theorem first : ∀ a : Fin 256, IntOp.cmpi .eq (BitVec.ofNat 32 a.val) 0#32 = BitVec.ofBool (decide (a.val = 0)) := by
  decide +kernel

/-- and which the last. -/
theorem last : ∀ a : Fin 256, IntOp.cmpi .eq (BitVec.ofNat 32 a.val) 255#32 = BitVec.ofBool (decide (a.val = 255)) := by
  decide +kernel

/-- The kernel's test of the rotation's direction. -/
def dir : IVec S256x128 1 :=
  cmpi .eq (dynamicRotate 0 1#32 none (iota .tc S256x128 32 [0] iota_S256x128_d0_w32) rotates_S256x128_d0)
    (select (cmpi .eq (iota .tc S256x128 32 [0] iota_S256x128_d0_w32) (broadcast S256x128 0#32)) (broadcast S256x128 255#32)
      (subi (iota .tc S256x128 32 [0] iota_S256x128_d0_w32) (broadcast S256x128 1#32)))

/-- The kernel's rows before, -/
def prevs (v : FVec Ideal S256x128 .f32) : FVec Ideal S256x128 .f32 :=
  select (cmpi .eq (iota .tc S256x128 32 [0] iota_S256x128_d0_w32) (broadcast S256x128 0#32))
    (broadcast S256x128 (Scalar.ofBits (F := Ideal) .f32 0x00000000#32))
    (select dir (dynamicRotate 0 1#32 none v rotates_S256x128_d0) (dynamicRotate 0 255#32 none v rotates_S256x128_d0))

/-- and its rows after. -/
def nexts (v : FVec Ideal S256x128 .f32) : FVec Ideal S256x128 .f32 :=
  select (cmpi .eq (iota .tc S256x128 32 [0] iota_S256x128_d0_w32) (broadcast S256x128 255#32))
    (broadcast S256x128 (Scalar.ofBits (F := Ideal) .f32 0x00000000#32))
    (select dir (dynamicRotate 0 255#32 none v rotates_S256x128_d0) (dynamicRotate 0 1#32 none v rotates_S256x128_d0))

/-- The three terms and the bias, of the rows before, the rows and the rows after. -/
def mix (p v n : FVec Ideal S256x128 .f32) (w : FVec Ideal S3x128 .f32) (b : FVec Ideal S1x128 .f32) : FVec Ideal S256x128 .f32 :=
  addf (addf (addf
      (mulf (broadcastTo S256x128 (extractStridedSlice S1x128 ![0, 0] w slices_S3x128_o0_0_S1x128) broadcasts_S1x128_S256x128) p)
      (mulf (broadcastTo S256x128 (extractStridedSlice S1x128 ![1, 0] w slices_S3x128_o1_0_S1x128) broadcasts_S1x128_S256x128) v))
      (mulf (broadcastTo S256x128 (extractStridedSlice S1x128 ![2, 0] w slices_S3x128_o2_0_S1x128) broadcasts_S1x128_S256x128) n))
    (broadcastTo S256x128 (shapeCast S1x128 b shapeCasts_S1x128_S1x128) broadcasts_S1x128_S256x128)

/-- The test always holds. -/
theorem dir_apply (a : Fin 256) (j : Fin 128) : dir (ix2 a j) = 1#1 := by
  refine Eq.trans ?_ (mask a)
  unfold dir
  rw [WordCmp.cmpi_at, WordCmp.select_at, WordCmp.cmpi_at, Cert.Shifts.rows 1 1#32 rfl (by decide)]
  have e : ∀ r : Fin 256, iota .tc S256x128 32 [0] iota_S256x128_d0_w32 (ix2 r j) = BitVec.ofNat 32 r.val := fun r =>
    congrArg (BitVec.ofNat 32) ((congrArg (· + r.val) (Nat.zero_mul 256)).trans (Nat.zero_add r.val))
  rw [e]
  show IntOp.cmpi _ _ (Scalar.select (IntOp.cmpi _ (iota .tc S256x128 32 [0] iota_S256x128_d0_w32 (ix2 a j)) _) _
    (IntOp.subi (iota .tc S256x128 32 [0] iota_S256x128_d0_w32 (ix2 a j)) _)) = _
  rw [e]
  rfl

/-- The rows before, entry by entry. -/
theorem prevs_apply (v : FVec Ideal S256x128 .f32) (a : Fin 256) (j : Fin 128) :
    prevs v (ix2 a j) = before (fun r => v (ix2 r j)) a := by
  unfold prevs before
  rw [WordCmp.select_at, WordCmp.select_at, dir_apply, Cert.Shifts.rows 1 1#32 rfl (by decide)]
  have e : cmpi .eq (iota .tc S256x128 32 [0] iota_S256x128_d0_w32) (broadcast S256x128 0#32) (ix2 a j)
      = BitVec.ofBool (decide (a.val = 0)) := (congrArg (fun n => IntOp.cmpi .eq (BitVec.ofNat 32 n) 0#32)
    ((congrArg (· + a.val) (Nat.zero_mul 256)).trans (Nat.zero_add a.val))).trans (first a)
  rw [e]
  by_cases h : a.val = 0
  · rw [dif_pos h, decide_eq_true h]
    exact Ideal.ofBits_zero_f32
  · rw [dif_neg h, decide_eq_false h]
    show v _ = v _
    refine congrArg (fun r => v (ix2 r j)) (Fin.ext ?_)
    show (a.val + 256 - 1) % 256 = a.val - 1
    omega

/-- The rows after. -/
theorem nexts_apply (v : FVec Ideal S256x128 .f32) (a : Fin 256) (j : Fin 128) :
    nexts v (ix2 a j) = after (fun r => v (ix2 r j)) a := by
  unfold nexts after
  rw [WordCmp.select_at, WordCmp.select_at, dir_apply, Cert.Shifts.rows 255 255#32 rfl (by decide)]
  have e : cmpi .eq (iota .tc S256x128 32 [0] iota_S256x128_d0_w32) (broadcast S256x128 255#32) (ix2 a j)
      = BitVec.ofBool (decide (a.val = 255)) := (congrArg (fun n => IntOp.cmpi .eq (BitVec.ofNat 32 n) 255#32)
    ((congrArg (· + a.val) (Nat.zero_mul 256)).trans (Nat.zero_add a.val))).trans (last a)
  rw [e]
  by_cases h : a.val = 255
  · rw [dif_pos h, decide_eq_true h]
    exact Ideal.ofBits_zero_f32
  · rw [dif_neg h, decide_eq_false h]
    show v _ = v _
    refine congrArg (fun r => v (ix2 r j)) (Fin.ext ?_)
    show (a.val + 256 - 255) % 256 = a.val + 1
    omega

/-- The three terms, entry by entry. -/
theorem mix_apply (p v n : FVec Ideal S256x128 .f32) (w : FVec Ideal S3x128 .f32) (b : FVec Ideal S1x128 .f32) (a : Fin 256) (j : Fin 128) :
    mix p v n w b (ix2 a j) = w (ix2 (0 : Fin 3) j) * p (ix2 a j) + w (ix2 (1 : Fin 3) j) * v (ix2 a j)
      + w (ix2 (2 : Fin 3) j) * n (ix2 a j) + b (ix2 (0 : Fin 1) j) := by
  pointwise [mix]

/-- What a point computes. -/
theorem pay_apply (x : FVec Ideal S1x256x128 .f32) (w : FVec Ideal S3x128 .f32) (b : FVec Ideal S1x128 .f32) (a : Fin 256) (j : Fin 128) :
    k0_pay1 (F := Ideal) (k0_pay2 (F := Ideal) x w b) (ix3 (0 : Fin 1) a j)
      = w (ix2 (0 : Fin 3) j) * before (fun r => x (ix3 (0 : Fin 1) r j)) a + w (ix2 (1 : Fin 3) j) * x (ix3 (0 : Fin 1) a j)
      + w (ix2 (2 : Fin 3) j) * after (fun r => x (ix3 (0 : Fin 1) r j)) a + b (ix2 (0 : Fin 1) j) := by
  have e : ∀ r, shapeCast S256x128 x shapeCasts_S1x256x128_S256x128 (ix2 r j) = x (ix3 (0 : Fin 1) r j) := fun r => by pointwise
  have e2 : k0_pay2 (F := Ideal) x w b = mix (prevs (shapeCast S256x128 x shapeCasts_S1x256x128_S256x128))
      (shapeCast S256x128 x shapeCasts_S1x256x128_S256x128) (nexts (shapeCast S256x128 x shapeCasts_S1x256x128_S256x128)) w b := rfl
  have e1 : ∀ v : FVec Ideal S256x128 .f32, k0_pay1 (F := Ideal) v (ix3 (0 : Fin 1) a j) = v (ix2 a j) := fun v => by pointwise [k0_pay1]
  rw [e1, e2, mix_apply, prevs_apply, nexts_apply, e]
  simp only [e]

/-- What the reference computes. -/
theorem REF_apply (p : FVec Ideal S4x4352x11776 .f32) (w : FVec Ideal S3x3072 .f32) (b : FVec Ideal S3072 .f32)
    (q : Fin 4) (a : Fin 256) (j : Fin 3072) :
    REF p w b (ix3 q a j)
      = w (ix2 (0 : Fin 3) j) * before (fun r => p (ix3 q (⟨4096 + r.val, by omega⟩ : Fin 4352) (⟨4608 + j.val, by omega⟩ : Fin 11776))) a
      + w (ix2 (1 : Fin 3) j) * p (ix3 q (⟨4096 + a.val, by omega⟩ : Fin 4352) (⟨4608 + j.val, by omega⟩ : Fin 11776))
      + w (ix2 (2 : Fin 3) j) * after (fun r => p (ix3 q (⟨4096 + r.val, by omega⟩ : Fin 4352) (⟨4608 + j.val, by omega⟩ : Fin 11776))) a
      + b (ix1 j) := by
  have s : ∀ k, Cert.SctxRefIdeal.Read.val_main_v0 (F := Ideal) p k = p (Cert.SctxRefIdeal.Read.idx_main_v0 k) := fun k => Cert.SctxRefIdeal.Read.val_main_v0_apply (F := Ideal) p k
  have z : ∀ k, Cert.SctxRefIdeal.Read.val_main_v1 (F := Ideal) k = 0 := fun k => by
    rw [Cert.SctxRefIdeal.Read.val_main_v1_apply]; exact Ideal.ofBits_zero_f32
  have eb : Cert.SctxRefIdeal.Read.val_main_v3 (F := Ideal) p (ix3 q a j)
      = before (fun r => p (ix3 q (⟨4096 + r.val, by omega⟩ : Fin 4352) (⟨4608 + j.val, by omega⟩ : Fin 11776))) a := by
    unfold before
    by_cases h : a.val = 0
    · pointwise [Cert.SctxRefIdeal.Read.val_main_v3]
      rw [dif_pos (by omega), dif_pos h]
      exact z _
    · pointwise [Cert.SctxRefIdeal.Read.val_main_v3]
      rw [dif_neg (by omega), dif_neg h, Cert.SctxRefIdeal.Read.val_main_v2_apply, s]
      refine congrArg p ?_
      blk_ext []
  have ea : Cert.SctxRefIdeal.Read.val_main_v5 (F := Ideal) p (ix3 q a j)
      = after (fun r => p (ix3 q (⟨4096 + r.val, by omega⟩ : Fin 4352) (⟨4608 + j.val, by omega⟩ : Fin 11776))) a := by
    unfold after
    by_cases h : a.val = 255
    · pointwise [Cert.SctxRefIdeal.Read.val_main_v5]
      rw [dif_neg (by omega), dif_pos h]
      exact z _
    · pointwise [Cert.SctxRefIdeal.Read.val_main_v5]
      rw [dif_pos (by omega), dif_neg h, Cert.SctxRefIdeal.Read.val_main_v4_apply, s]
      refine congrArg p ?_
      blk_ext []
  unfold REF
  rw [Cert.SctxRefIdeal.Read.val_main_v25_apply, Cert.SctxRefIdeal.Read.val_main_v22_apply, Cert.SctxRefIdeal.Read.val_main_v16_apply, Cert.SctxRefIdeal.Read.val_main_v10_apply, Cert.SctxRefIdeal.Read.val_main_v15_apply, Cert.SctxRefIdeal.Read.val_main_v21_apply, eb, ea, s]
  rw [Cert.SctxRefIdeal.Read.val_main_v24_apply, Cert.SctxRefIdeal.Read.val_main_v23_apply, Cert.SctxRefIdeal.Read.val_main_v9_apply, Cert.SctxRefIdeal.Read.val_main_v8_apply, Cert.SctxRefIdeal.Read.val_main_v7_apply, Cert.SctxRefIdeal.Read.val_main_v6_apply, Cert.SctxRefIdeal.Read.val_main_v14_apply, Cert.SctxRefIdeal.Read.val_main_v13_apply, Cert.SctxRefIdeal.Read.val_main_v12_apply, Cert.SctxRefIdeal.Read.val_main_v11_apply,
    Cert.SctxRefIdeal.Read.val_main_v20_apply, Cert.SctxRefIdeal.Read.val_main_v19_apply, Cert.SctxRefIdeal.Read.val_main_v18_apply, Cert.SctxRefIdeal.Read.val_main_v17_apply]
  refine congrArg₂ (· + ·) (congrArg₂ (· + ·) (congrArg₂ (· + ·) (congrArg₂ (· * ·) (congrArg w ?_) rfl)
    (congrArg₂ (· * ·) (congrArg w ?_) (congrArg p ?_))) (congrArg₂ (· * ·) (congrArg w ?_) rfl)) (congrArg b ?_) <;> blk_ext []

/-- The block of the projections at point `t`. -/
theorem block_p (c : Dev nD) (t : Fin cfg0.N) (a : Fin 256) (j : Fin 128) (ht : t.val < 96) :
    iblk m c 0 t (ix3 (0 : Fin 1) a j) = m ((c : Thread nD τ).loc main_arg0)
      (ix3 (⟨t.val / 24, by omega⟩ : Fin 4) (⟨4096 + a.val, by omega⟩ : Fin 4352) (⟨4608 + (t.val % 24 * 128 + j.val), by omega⟩ : Fin 11776)) := by
  obtain ⟨h0, h1, h2, h3⟩ := idx t
  rw [← V_main_arg0 m c]
  blk_point [iblk, h0]

/-- The bias as the region finds it. -/
theorem bias (c : Dev nD) (j : Fin 3072) :
    V m c main_v0 (ix2 (0 : Fin 1) j) = m ((c : Thread nD τ).loc main_arg2) (ix1 j) := by
  simp only [V, hostOps0, List.flatten_cons, List.flatten_nil, List.append_nil, List.cons_append, List.nil_append]
  entry_read
  pointwise

/-- Every entry a point writes is the reference's entry there. -/
theorem point (c : Dev nD) (t : Fin cfg0.N) (y : S1x256x128.Idx) :
    k0_pay1 (F := Ideal) (k0_pay2 (F := Ideal) (iblk m c 0 t) (iblk m c 1 t) (iblk m c 2 t)) y
      = REF (m ((c : Thread nD τ).loc main_arg0)) (m ((c : Thread nD τ).loc main_arg1)) (m ((c : Thread nD τ).loc main_arg2)) (((cfg0.win 3).blk t).view.emb y) := by
  obtain ⟨h0, h1, h2, h3⟩ := idx t
  have ht : t.val < 96 := t.isLt
  idx_vars y
  obtain rfl : y0 = 0 := Subsingleton.elim _ _
  have e : ((cfg0.win 3).blk t).view.emb (ix3 (0 : Fin 1) y1 y2)
      = ix3 (⟨t.val / 24, by omega⟩ : Fin 4) y1 (⟨t.val % 24 * 128 + y2.val, by omega⟩ : Fin 3072) := by
    blk_ext [h3]
  have b0 : ∀ r : Fin 256, iblk m c 0 t (ix3 (0 : Fin 1) r y2) = _ := fun r => block_p m c t r y2 ht
  rw [e, REF_apply, pay_apply]
  simp only [b0]
  rw [← bias m c, ← V_main_arg1 m c]
  refine congrArg₂ (· + ·) (congrArg₂ (· + ·) (congrArg₂ (· + ·) (congrArg₂ (· * ·) ?_ rfl)
    (congrArg₂ (· * ·) ?_ rfl)) (congrArg₂ (· * ·) ?_ rfl)) ?_
  · blk_point [iblk, h1]
  · blk_point [iblk, h1]
  · blk_point [iblk, h1]
  · blk_point [iblk, h2]

/-- The whole result array after the run. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  exact point m c t y

end Cert.SctxIdeal.Value

end
-- ==== Proof.SctxClaim.lean ====
/- THE SHORT CONVOLUTION's claims, of the context tokens: each program runs and gives its counters back, and the kernel and the reference end
   with equal results. -/
module

public import proofs.«01_k».proof.Defs
public import proofs.«01_k».proof.Proof.Gen.Sctx.Frame
public import proofs.«01_k».proof.Proof.Gen.SctxRefIdeal.Run
public import proofs.«01_k».proof.Proof.SctxValue

@[expose] public section

set_option maxRecDepth 16384

noncomputable section

namespace Cert.Proof.Sctx

open Idealize.ShloMosaic Idealize.SL.Sem

/-- The kernel runs, its arguments unchanged and its counters back at zero. -/
theorem frame : Cert.quiescent_Sctx := fun m g _ => Cert.Sctx.Gen.frame m g

/-- The kernel read at the extended reals, likewise. -/
theorem frame_ideal : Cert.quiescent_SctxIdeal := fun m g _ => Cert.SctxIdeal.Gen.frame m g

/-- The reference, likewise. -/
theorem frame_ref : Cert.quiescent_SctxRefIdeal := fun m g _ =>
  (θ_run Cert.SctxRefIdeal.defs _ _).mono (fun r h => ⟨fun c => (h c).2, Idealize.ShloMosaic.sem_eq_zero_of_no_sems (by decide) r.2⟩)
    (Cert.SctxRefIdeal.Value.run (F := Ideal) m g)

/-- The kernel's result is the reference's. -/
theorem value : Cert.algebraic_SctxIdeal_SctxRefIdeal := by
  intro m g m' g' _ hagree
  refine ⟨fun c => Cert.SctxIdeal.Value.REF (m ((c.tc : Thread Cert.SctxIdeal.nD Cert.SctxIdeal.τ).loc Cert.SctxIdeal.main_arg0))
      (m ((c.tc : Thread Cert.SctxIdeal.nD Cert.SctxIdeal.τ).loc Cert.SctxIdeal.main_arg1))
      (m ((c.tc : Thread Cert.SctxIdeal.nD Cert.SctxIdeal.τ).loc Cert.SctxIdeal.main_arg2)), ?_, ?_⟩
  · refine (θ_run Cert.SctxIdeal.defs _ _).mono (fun r h c => ⟨(h c).1.trans (Cert.SctxIdeal.Value.final m c), (h c).2⟩)
      (Cert.SctxIdeal.Value.run_blocks (F := Ideal) m g)
  · refine (θ_run Cert.SctxRefIdeal.defs _ _).mono (fun r h c => ⟨(h c).1.trans ?_, (h c).2⟩)
      (Cert.SctxRefIdeal.Value.run (F := Ideal) m' g')
    rw [(hagree c).1, (hagree c).2.1, (hagree c).2.2]
    exact Cert.SctxRefIdeal.Read.val_main_v25_eq _ _ _

end Cert.Proof.Sctx

end
-- ==== Proof.Spin.lean ====
/- A TURNED HEAD: the 64 pairs of a head's entries, each turned by its angle; the context's tokens are not turned. -/
module

public import Idealize.ShloMosaic.Lib.Pipeline.ValueKit
public import Idealize.ShloMosaic.Lib.Pointwise

@[expose] public section

set_option maxRecDepth 16384

noncomputable section

namespace Cert.Spin

open Idealize.ShloMosaic

/-- The cosine by which entry `e` of token `r` is multiplied. -/
def co (ang : FVec Ideal ⟨2, ![4096, 64]⟩ .f32) (r : Fin 4352) (e : Fin 128) : EReal :=
  if h : r.val < 4096 then Ideal.cos (ang (ix2 (⟨r.val, h⟩ : Fin 4096) (⟨e.val / 2, by omega⟩ : Fin 64))) else 1

/-- The sine by which the other entry of the pair is multiplied: with a minus sign for the first of the two. -/
def si (ang : FVec Ideal ⟨2, ![4096, 64]⟩ .f32) (r : Fin 4352) (e : Fin 128) : EReal :=
  if h : r.val < 4096 then (if e.val % 2 = 0 then - Ideal.sin (ang (ix2 (⟨r.val, h⟩ : Fin 4096) (⟨e.val / 2, by omega⟩ : Fin 64)))
    else Ideal.sin (ang (ix2 (⟨r.val, h⟩ : Fin 4096) (⟨e.val / 2, by omega⟩ : Fin 64)))) else 0

/-- The other entry of the pair. -/
def other (e : Fin 128) : Fin 128 := ⟨if e.val % 2 = 0 then e.val + 1 else e.val - 1, by split <;> omega⟩

/-- Entry `e` of a turned head `v` of token `r`. -/
def spun (ang : FVec Ideal ⟨2, ![4096, 64]⟩ .f32) (r : Fin 4352) (v : Fin 128 → EReal) (e : Fin 128) : EReal :=
  v e * co ang r e + v (other e) * si ang r e

/-- Entry `e` of a head divided by the root of the head's mean square, with its gain. -/
def normed (v : Fin 128 → EReal) (e : Fin 128) (g : EReal) : EReal :=
  v e * Ideal.rsqrt (Ideal.div (∑ i, v i * v i) (Ideal.ofBits .f32 0x43000000#32) + Ideal.ofBits .f32 0x358637BD#32) * g

/-- Entry `e` of head `h` of the 36, of token `r` of sequence `q`. -/
def head (p : FVec Ideal ⟨3, ![4, 4352, 11776]⟩ .f32) (q : Fin 4) (r : Fin 4352) (h : Fin 36) (e : Fin 128) : EReal :=
  p (ix3 q r (⟨h.val * 128 + e.val, by omega⟩ : Fin 11776))

/-- A context token's head is as it was. -/
theorem spun_context (ang : FVec Ideal ⟨2, ![4096, 64]⟩ .f32) (r : Fin 4352) (hr : ¬ r.val < 4096) (v : Fin 128 → EReal) (e : Fin 128) :
    spun ang r v e = v e := by
  unfold spun co si
  rw [dif_neg hr, dif_neg hr, mul_one, mul_zero, add_zero]

/-- The first entry of a latent token's pair. -/
theorem spun_even (ang : FVec Ideal ⟨2, ![4096, 64]⟩ .f32) (r : Fin 4352) (hr : r.val < 4096) (v : Fin 128 → EReal) (e : Fin 128) (he : e.val % 2 = 0) :
    spun ang r v e = v e * Ideal.cos (ang (ix2 (⟨r.val, hr⟩ : Fin 4096) (⟨e.val / 2, by omega⟩ : Fin 64)))
      - v (⟨e.val + 1, by omega⟩ : Fin 128) * Ideal.sin (ang (ix2 (⟨r.val, hr⟩ : Fin 4096) (⟨e.val / 2, by omega⟩ : Fin 64))) := by
  have p : other e = (⟨e.val + 1, by omega⟩ : Fin 128) := Fin.ext (if_pos he)
  unfold spun co si
  rw [dif_pos hr, dif_pos hr, if_pos he, p, mul_neg, ← sub_eq_add_neg]

/-- The second entry of a latent token's pair. -/
theorem spun_odd (ang : FVec Ideal ⟨2, ![4096, 64]⟩ .f32) (r : Fin 4352) (hr : r.val < 4096) (v : Fin 128 → EReal) (e : Fin 128) (he : ¬ e.val % 2 = 0) :
    spun ang r v e = v (⟨e.val - 1, by omega⟩ : Fin 128) * Ideal.sin (ang (ix2 (⟨r.val, hr⟩ : Fin 4096) (⟨e.val / 2, by omega⟩ : Fin 64)))
      + v e * Ideal.cos (ang (ix2 (⟨r.val, hr⟩ : Fin 4096) (⟨e.val / 2, by omega⟩ : Fin 64))) := by
  have p : other e = (⟨e.val - 1, by omega⟩ : Fin 128) := Fin.ext (if_neg he)
  unfold spun co si
  rw [dif_pos hr, dif_pos hr, if_neg he, p, add_comm]

end Cert.Spin

end
-- ==== Proof.QkpPay.lean ====
/- THE PREPARATION OF QUERIES, KEYS AND VALUES, the kernel: what a grid point computes of one head of its 256 tokens. -/
module

public import proofs.«01_k».proof.Proof.Gen.QkpIdeal.Value
public import proofs.«01_k».proof.Proof.Spin
public import proofs.«01_k».proof.Proof.Shifts
public import Idealize.ShloMosaic.Lib.WordCmp
public import Idealize.ShloMosaic.Lib.Pipeline.ValueKit
public import Idealize.ShloMosaic.Lib.Pointwise

@[expose] public section

set_option maxRecDepth 16384

noncomputable section

namespace Cert.QkpIdeal.Value

open Cert.QkpIdeal Cert.QkpIdeal.Gen Cert.Spin Idealize.ShloMosaic Idealize.ShloMosaic.TcCoe

/-- A head's tokens as a matrix, -/
def mat (x : FVec Ideal S1x256x128 .f32) : FVec Ideal S256x128 .f32 := shapeCast S256x128 x shapeCasts_S1x256x128_S256x128

/-- and a matrix as it is stored. -/
def put (v : FVec Ideal S256x128 .f32) : FVec Ideal S1x256x128 .bf16 := shapeCast S1x256x128 (truncf .bf16 v bitsLt_bf16_f32) shapeCasts_S256x128_S1x256x128

/-- The kernel's exchange of the entries of each pair: rotated by one either way, and selected. -/
def swap (v : FVec Ideal S256x128 .f32) : FVec Ideal S256x128 .f32 :=
  select k0_pay5 (dynamicRotate 1 1#32 none v rotates_S256x128_d1) (dynamicRotate 1 127#32 none v rotates_S256x128_d1)

/-- The kernel's turn by cosines and signed sines. -/
def turned (c s v : FVec Ideal S256x128 .f32) : FVec Ideal S256x128 .f32 := addf (mulf v c) (mulf (swap v) s)

/-- The queries' factor. -/
def scaled (v : FVec Ideal S256x128 .f32) : FVec Ideal S256x128 .f32 := mulf v (broadcast S256x128 (Scalar.ofBits (F := Ideal) .f32 0x3E0293EE#32))

/-- The kernel's norm. -/
def kn (v : FVec Ideal S256x128 .f32) (g : FVec Ideal S1x128 .f32) : FVec Ideal S256x128 .f32 :=
  mulf (mulf v (broadcastTo S256x128 (rsqrt (addf (divf (shapeCast S256x1 (multiReduction .add [1] S256 (mulf v v) 0x00000000#32 reduces_S256x128_S256 (.inl rfl) rfl) shapeCasts_S256_S256x1)
      (broadcast S256x1 (Scalar.ofBits (F := Ideal) .f32 0x43000000#32))) (broadcast S256x1 (Scalar.ofBits (F := Ideal) .f32 0x358637BD#32)))) broadcasts_S256x1_S256x128))
    (broadcastTo S256x128 g broadcasts_S1x128_S256x128)

/-- Which of its neighbours an entry's partner is. -/
theorem mask : ∀ e : Fin 128, IntOp.cmpi .eq (BitVec.ofNat 32 ((e.val + 128 - 1) % 128)) (IntOp.xori (BitVec.ofNat 32 e.val) 1#32)
    = BitVec.ofBool (decide (¬ e.val % 2 = 0)) := by
  decide +kernel

theorem pay5_apply (a : Fin 256) (e : Fin 128) : k0_pay5 (ix2 a e) = BitVec.ofBool (decide (¬ e.val % 2 = 0)) := by
  refine Eq.trans ?_ (mask e)
  have i : ∀ r : Fin 128, iota .tc S256x128 32 [1] iota_S256x128_d1_w32 (ix2 a r) = BitVec.ofNat 32 r.val := fun r =>
    congrArg (BitVec.ofNat 32) ((congrArg (· + r.val) (Nat.zero_mul 128)).trans (Nat.zero_add r.val))
  show cmpi .eq (dynamicRotate 1 1#32 none (iota .tc S256x128 32 [1] iota_S256x128_d1_w32) rotates_S256x128_d1)
    (xori (iota .tc S256x128 32 [1] iota_S256x128_d1_w32) (broadcast S256x128 1#32)) (ix2 a e) = _
  rw [WordCmp.cmpi_at, Cert.Shifts.lanes 1 1#32 rfl (by decide), i]
  show IntOp.cmpi _ _ (IntOp.xori (iota .tc S256x128 32 [1] iota_S256x128_d1_w32 (ix2 a e)) _) = _
  rw [i]
  rfl

/-- The exchange, entry by entry. -/
theorem swap_apply (v : FVec Ideal S256x128 .f32) (a : Fin 256) (e : Fin 128) : swap v (ix2 a e) = v (ix2 a (other e)) := by
  unfold swap
  rw [WordCmp.select_at, pay5_apply, Cert.Shifts.lanes 1 1#32 rfl (by decide), Cert.Shifts.lanes 127 127#32 rfl (by decide)]
  by_cases h : e.val % 2 = 0
  · rw [decide_eq_false (fun k => k h)]
    show v _ = v _
    refine congrArg (fun r => v (ix2 a r)) (Fin.ext ?_)
    show (e.val + 128 - 127) % 128 = if e.val % 2 = 0 then e.val + 1 else e.val - 1
    rw [if_pos h]
    omega
  · rw [decide_eq_true h]
    show v _ = v _
    refine congrArg (fun r => v (ix2 a r)) (Fin.ext ?_)
    show (e.val + 128 - 1) % 128 = if e.val % 2 = 0 then e.val + 1 else e.val - 1
    rw [if_neg h]
    omega

/-- The turn, entry by entry. -/
theorem turned_apply (c s v : FVec Ideal S256x128 .f32) (a : Fin 256) (e : Fin 128) :
    turned c s v (ix2 a e) = v (ix2 a e) * c (ix2 a e) + v (ix2 a (other e)) * s (ix2 a e) :=
  congrArg (fun k => v (ix2 a e) * c (ix2 a e) + k * s (ix2 a e)) (swap_apply v a e)

theorem put_apply (v : FVec Ideal S256x128 .f32) (a : Fin 256) (e : Fin 128) : put v (ix3 (0 : Fin 1) a e) = v (ix2 a e) := by
  pointwise [put]

theorem mat_apply (x : FVec Ideal S1x256x128 .f32) (a : Fin 256) (e : Fin 128) : mat x (ix2 a e) = x (ix3 (0 : Fin 1) a e) := by
  pointwise [mat]

theorem scaled_apply (v : FVec Ideal S256x128 .f32) (a : Fin 256) (e : Fin 128) : scaled v (ix2 a e) = v (ix2 a e) * Ideal.ofBits .f32 0x3E0293EE#32 := rfl

/-- The norm, entry by entry. -/
theorem kn_apply (v : FVec Ideal S256x128 .f32) (g : FVec Ideal S1x128 .f32) (a : Fin 256) (e : Fin 128) :
    kn v g (ix2 a e) = normed (fun i => v (ix2 a i)) e (g (ix2 (0 : Fin 1) e)) := by
  pointwise [kn, normed]

theorem pay3_apply (c : FVec Ideal S256x128 .f32) (a : Fin 256) (e : Fin 128) : k0_pay3 (F := Ideal) c (ix2 a e) = c (ix2 a e) := by
  pointwise [k0_pay3]

theorem pay4_apply (c : FVec Ideal S256x128 .f32) (a : Fin 256) (e : Fin 128) : k0_pay4 (F := Ideal) c (ix2 a e) = c (ix2 a e) := by
  pointwise [k0_pay4]

end Cert.QkpIdeal.Value

end
-- ==== Proof.QkpRef.lean ====
/- THE PREPARATION OF QUERIES, KEYS AND VALUES, the reference: its heads entry by entry. -/
module

public import proofs.«01_k».proof.Proof.Gen.QkpRefIdeal.Read
public import proofs.«01_k».proof.Proof.Spin
public import Idealize.ShloMosaic.Lib.Pipeline.ValueKit
public import Idealize.ShloMosaic.Lib.Pointwise

@[expose] public section

set_option maxRecDepth 16384

noncomputable section

namespace Cert.QkpRefIdeal.Heads

open Cert.QkpRefIdeal Cert.QkpRefIdeal.Gen Cert.Spin Idealize.ShloMosaic Idealize.ShloMosaic.TcCoe

/-- The prepared heads as the reference has them. -/
abbrev REF (p : FVec Ideal S4x4352x11776 .f32) (ang : FVec Ideal S4096x64 .f32) (g : FVec Ideal S2x128 .f32) : FVec Ideal S4x4352x4608 .bf16 :=
  Cert.QkpRefIdeal.Read.val_main_v148 (F := Ideal) p ang g

/-- The turn of the first queries. -/
theorem turn0 (p : FVec Ideal S4x4352x11776 .f32) (ang : FVec Ideal S4096x64 .f32) (q : Fin 4) (r : Fin 4352) (h : Fin 8) (e : Fin 128) :
    Cert.QkpRefIdeal.Read.val_main_v28 (F := Ideal) p ang (ix4 q r h e)
      = spun ang r (fun i => Cert.QkpRefIdeal.Read.val_main_v2 (F := Ideal) p (ix4 q r h i)) e := by
  by_cases hr : r.val < 4096
  · have s : Cert.QkpRefIdeal.Read.val_main_v28 (F := Ideal) p ang (ix4 q r h e)
        = Cert.QkpRefIdeal.Read.val_main_v25 (F := Ideal) p ang (ix5 q (⟨r.val, hr⟩ : Fin 4096) h (⟨e.val / 2, by omega⟩ : Fin 64) (⟨e.val % 2, by omega⟩ : Fin 2)) := by
      pointwise [Cert.QkpRefIdeal.Read.val_main_v28]
      rw [dif_pos hr, Cert.QkpRefIdeal.Read.val_main_v26_apply]
      refine congrArg (Cert.QkpRefIdeal.Read.val_main_v25 (F := Ideal) p ang) ?_
      blk_ext []
    rw [s]
    by_cases he : e.val % 2 = 0
    · rw [spun_even ang r hr _ e he]
      have k : Cert.QkpRefIdeal.Read.val_main_v25 (F := Ideal) p ang (ix5 q (⟨r.val, hr⟩ : Fin 4096) h (⟨e.val / 2, by omega⟩ : Fin 64) (⟨e.val % 2, by omega⟩ : Fin 2))
          = Cert.QkpRefIdeal.Read.val_main_v23 (F := Ideal) p ang (ix5 q (⟨r.val, hr⟩ : Fin 4096) h (⟨e.val / 2, by omega⟩ : Fin 64) (0 : Fin 1)) := by
        pointwise [Cert.QkpRefIdeal.Read.val_main_v25]
        rw [dif_pos (by omega)]
        refine congrArg (Cert.QkpRefIdeal.Read.val_main_v23 (F := Ideal) p ang) ?_
        blk_ext []
      rw [k]
      simp only [Cert.QkpRefIdeal.Read.val_main_v23_apply, Cert.QkpRefIdeal.Read.val_main_v17_apply, Cert.QkpRefIdeal.Read.val_main_v14_apply, Cert.QkpRefIdeal.Read.val_main_v16_apply, Cert.QkpRefIdeal.Read.val_main_v10_apply, Cert.QkpRefIdeal.Read.val_main_v9_apply, Cert.QkpRefIdeal.Read.val_main_v8_apply, Cert.QkpRefIdeal.Read.val_main_v7_apply, Cert.QkpRefIdeal.Read.val_main_v12_apply, Cert.QkpRefIdeal.Read.val_main_v11_apply, Cert.QkpRefIdeal.Read.val_main_v13_apply, Cert.QkpRefIdeal.Read.val_main_v4_apply, Cert.QkpRefIdeal.Read.val_main_v3_apply, Cert.QkpRefIdeal.Read.val_main_v15_apply, Cert.QkpRefIdeal.Read.val_main_v6_apply, Cert.QkpRefIdeal.Read.val_main_v5_apply]
      refine congrArg₂ (· - ·) (congrArg₂ (· * ·) (congrArg (Cert.QkpRefIdeal.Read.val_main_v2 (F := Ideal) p) ?_) (congrArg (fun i => Ideal.cos (ang i)) ?_))
        (congrArg₂ (· * ·) (congrArg (Cert.QkpRefIdeal.Read.val_main_v2 (F := Ideal) p) ?_) (congrArg (fun i => Ideal.sin (ang i)) ?_)) <;> blk_ext []
    · rw [spun_odd ang r hr _ e he]
      have k : Cert.QkpRefIdeal.Read.val_main_v25 (F := Ideal) p ang (ix5 q (⟨r.val, hr⟩ : Fin 4096) h (⟨e.val / 2, by omega⟩ : Fin 64) (⟨e.val % 2, by omega⟩ : Fin 2))
          = Cert.QkpRefIdeal.Read.val_main_v24 (F := Ideal) p ang (ix5 q (⟨r.val, hr⟩ : Fin 4096) h (⟨e.val / 2, by omega⟩ : Fin 64) (0 : Fin 1)) := by
        pointwise [Cert.QkpRefIdeal.Read.val_main_v25]
        rw [dif_neg (by omega)]
        refine congrArg (Cert.QkpRefIdeal.Read.val_main_v24 (F := Ideal) p ang) ?_
        blk_ext []
      rw [k]
      simp only [Cert.QkpRefIdeal.Read.val_main_v24_apply, Cert.QkpRefIdeal.Read.val_main_v22_apply, Cert.QkpRefIdeal.Read.val_main_v19_apply, Cert.QkpRefIdeal.Read.val_main_v21_apply, Cert.QkpRefIdeal.Read.val_main_v10_apply, Cert.QkpRefIdeal.Read.val_main_v9_apply, Cert.QkpRefIdeal.Read.val_main_v8_apply, Cert.QkpRefIdeal.Read.val_main_v7_apply, Cert.QkpRefIdeal.Read.val_main_v12_apply, Cert.QkpRefIdeal.Read.val_main_v11_apply, Cert.QkpRefIdeal.Read.val_main_v18_apply, Cert.QkpRefIdeal.Read.val_main_v20_apply, Cert.QkpRefIdeal.Read.val_main_v6_apply, Cert.QkpRefIdeal.Read.val_main_v5_apply, Cert.QkpRefIdeal.Read.val_main_v4_apply, Cert.QkpRefIdeal.Read.val_main_v3_apply]
      refine congrArg₂ (· + ·) (congrArg₂ (· * ·) (congrArg (Cert.QkpRefIdeal.Read.val_main_v2 (F := Ideal) p) ?_) (congrArg (fun i => Ideal.sin (ang i)) ?_))
        (congrArg₂ (· * ·) (congrArg (Cert.QkpRefIdeal.Read.val_main_v2 (F := Ideal) p) ?_) (congrArg (fun i => Ideal.cos (ang i)) ?_)) <;> blk_ext []
  · rw [spun_context ang r hr]
    pointwise [Cert.QkpRefIdeal.Read.val_main_v28]
    rw [dif_neg hr, Cert.QkpRefIdeal.Read.val_main_v27_apply]
    refine congrArg (Cert.QkpRefIdeal.Read.val_main_v2 (F := Ideal) p) ?_
    blk_ext []

/-- The turn of the first keys. -/
theorem turn1 (p : FVec Ideal S4x4352x11776 .f32) (ang : FVec Ideal S4096x64 .f32) (q : Fin 4) (r : Fin 4352) (h : Fin 8) (e : Fin 128) :
    Cert.QkpRefIdeal.Read.val_main_v57 (F := Ideal) p ang (ix4 q r h e)
      = spun ang r (fun i => Cert.QkpRefIdeal.Read.val_main_v31 (F := Ideal) p (ix4 q r h i)) e := by
  by_cases hr : r.val < 4096
  · have s : Cert.QkpRefIdeal.Read.val_main_v57 (F := Ideal) p ang (ix4 q r h e)
        = Cert.QkpRefIdeal.Read.val_main_v54 (F := Ideal) p ang (ix5 q (⟨r.val, hr⟩ : Fin 4096) h (⟨e.val / 2, by omega⟩ : Fin 64) (⟨e.val % 2, by omega⟩ : Fin 2)) := by
      pointwise [Cert.QkpRefIdeal.Read.val_main_v57]
      rw [dif_pos hr, Cert.QkpRefIdeal.Read.val_main_v55_apply]
      refine congrArg (Cert.QkpRefIdeal.Read.val_main_v54 (F := Ideal) p ang) ?_
      blk_ext []
    rw [s]
    by_cases he : e.val % 2 = 0
    · rw [spun_even ang r hr _ e he]
      have k : Cert.QkpRefIdeal.Read.val_main_v54 (F := Ideal) p ang (ix5 q (⟨r.val, hr⟩ : Fin 4096) h (⟨e.val / 2, by omega⟩ : Fin 64) (⟨e.val % 2, by omega⟩ : Fin 2))
          = Cert.QkpRefIdeal.Read.val_main_v52 (F := Ideal) p ang (ix5 q (⟨r.val, hr⟩ : Fin 4096) h (⟨e.val / 2, by omega⟩ : Fin 64) (0 : Fin 1)) := by
        pointwise [Cert.QkpRefIdeal.Read.val_main_v54]
        rw [dif_pos (by omega)]
        refine congrArg (Cert.QkpRefIdeal.Read.val_main_v52 (F := Ideal) p ang) ?_
        blk_ext []
      rw [k]
      simp only [Cert.QkpRefIdeal.Read.val_main_v52_apply, Cert.QkpRefIdeal.Read.val_main_v46_apply, Cert.QkpRefIdeal.Read.val_main_v43_apply, Cert.QkpRefIdeal.Read.val_main_v45_apply, Cert.QkpRefIdeal.Read.val_main_v39_apply, Cert.QkpRefIdeal.Read.val_main_v38_apply, Cert.QkpRefIdeal.Read.val_main_v37_apply, Cert.QkpRefIdeal.Read.val_main_v36_apply, Cert.QkpRefIdeal.Read.val_main_v41_apply, Cert.QkpRefIdeal.Read.val_main_v40_apply, Cert.QkpRefIdeal.Read.val_main_v42_apply, Cert.QkpRefIdeal.Read.val_main_v33_apply, Cert.QkpRefIdeal.Read.val_main_v32_apply, Cert.QkpRefIdeal.Read.val_main_v44_apply, Cert.QkpRefIdeal.Read.val_main_v35_apply, Cert.QkpRefIdeal.Read.val_main_v34_apply]
      refine congrArg₂ (· - ·) (congrArg₂ (· * ·) (congrArg (Cert.QkpRefIdeal.Read.val_main_v31 (F := Ideal) p) ?_) (congrArg (fun i => Ideal.cos (ang i)) ?_))
        (congrArg₂ (· * ·) (congrArg (Cert.QkpRefIdeal.Read.val_main_v31 (F := Ideal) p) ?_) (congrArg (fun i => Ideal.sin (ang i)) ?_)) <;> blk_ext []
    · rw [spun_odd ang r hr _ e he]
      have k : Cert.QkpRefIdeal.Read.val_main_v54 (F := Ideal) p ang (ix5 q (⟨r.val, hr⟩ : Fin 4096) h (⟨e.val / 2, by omega⟩ : Fin 64) (⟨e.val % 2, by omega⟩ : Fin 2))
          = Cert.QkpRefIdeal.Read.val_main_v53 (F := Ideal) p ang (ix5 q (⟨r.val, hr⟩ : Fin 4096) h (⟨e.val / 2, by omega⟩ : Fin 64) (0 : Fin 1)) := by
        pointwise [Cert.QkpRefIdeal.Read.val_main_v54]
        rw [dif_neg (by omega)]
        refine congrArg (Cert.QkpRefIdeal.Read.val_main_v53 (F := Ideal) p ang) ?_
        blk_ext []
      rw [k]
      simp only [Cert.QkpRefIdeal.Read.val_main_v53_apply, Cert.QkpRefIdeal.Read.val_main_v51_apply, Cert.QkpRefIdeal.Read.val_main_v48_apply, Cert.QkpRefIdeal.Read.val_main_v50_apply, Cert.QkpRefIdeal.Read.val_main_v39_apply, Cert.QkpRefIdeal.Read.val_main_v38_apply, Cert.QkpRefIdeal.Read.val_main_v37_apply, Cert.QkpRefIdeal.Read.val_main_v36_apply, Cert.QkpRefIdeal.Read.val_main_v41_apply, Cert.QkpRefIdeal.Read.val_main_v40_apply, Cert.QkpRefIdeal.Read.val_main_v47_apply, Cert.QkpRefIdeal.Read.val_main_v49_apply, Cert.QkpRefIdeal.Read.val_main_v35_apply, Cert.QkpRefIdeal.Read.val_main_v34_apply, Cert.QkpRefIdeal.Read.val_main_v33_apply, Cert.QkpRefIdeal.Read.val_main_v32_apply]
      refine congrArg₂ (· + ·) (congrArg₂ (· * ·) (congrArg (Cert.QkpRefIdeal.Read.val_main_v31 (F := Ideal) p) ?_) (congrArg (fun i => Ideal.sin (ang i)) ?_))
        (congrArg₂ (· * ·) (congrArg (Cert.QkpRefIdeal.Read.val_main_v31 (F := Ideal) p) ?_) (congrArg (fun i => Ideal.cos (ang i)) ?_)) <;> blk_ext []
  · rw [spun_context ang r hr]
    pointwise [Cert.QkpRefIdeal.Read.val_main_v57]
    rw [dif_neg hr, Cert.QkpRefIdeal.Read.val_main_v56_apply]
    refine congrArg (Cert.QkpRefIdeal.Read.val_main_v31 (F := Ideal) p) ?_
    blk_ext []

/-- The turn of the grouped queries. -/
theorem turn2 (p : FVec Ideal S4x4352x11776 .f32) (ang : FVec Ideal S4096x64 .f32) (g : FVec Ideal S2x128 .f32) (q : Fin 4) (r : Fin 4352) (h : Fin 8) (e : Fin 128) :
    Cert.QkpRefIdeal.Read.val_main_v100 (F := Ideal) p ang g (ix4 q r h e)
      = spun ang r (fun i => Cert.QkpRefIdeal.Read.val_main_v74 (F := Ideal) p g (ix4 q r h i)) e := by
  by_cases hr : r.val < 4096
  · have s : Cert.QkpRefIdeal.Read.val_main_v100 (F := Ideal) p ang g (ix4 q r h e)
        = Cert.QkpRefIdeal.Read.val_main_v97 (F := Ideal) p ang g (ix5 q (⟨r.val, hr⟩ : Fin 4096) h (⟨e.val / 2, by omega⟩ : Fin 64) (⟨e.val % 2, by omega⟩ : Fin 2)) := by
      pointwise [Cert.QkpRefIdeal.Read.val_main_v100]
      rw [dif_pos hr, Cert.QkpRefIdeal.Read.val_main_v98_apply]
      refine congrArg (Cert.QkpRefIdeal.Read.val_main_v97 (F := Ideal) p ang g) ?_
      blk_ext []
    rw [s]
    by_cases he : e.val % 2 = 0
    · rw [spun_even ang r hr _ e he]
      have k : Cert.QkpRefIdeal.Read.val_main_v97 (F := Ideal) p ang g (ix5 q (⟨r.val, hr⟩ : Fin 4096) h (⟨e.val / 2, by omega⟩ : Fin 64) (⟨e.val % 2, by omega⟩ : Fin 2))
          = Cert.QkpRefIdeal.Read.val_main_v95 (F := Ideal) p ang g (ix5 q (⟨r.val, hr⟩ : Fin 4096) h (⟨e.val / 2, by omega⟩ : Fin 64) (0 : Fin 1)) := by
        pointwise [Cert.QkpRefIdeal.Read.val_main_v97]
        rw [dif_pos (by omega)]
        refine congrArg (Cert.QkpRefIdeal.Read.val_main_v95 (F := Ideal) p ang g) ?_
        blk_ext []
      rw [k]
      simp only [Cert.QkpRefIdeal.Read.val_main_v95_apply, Cert.QkpRefIdeal.Read.val_main_v89_apply, Cert.QkpRefIdeal.Read.val_main_v86_apply, Cert.QkpRefIdeal.Read.val_main_v88_apply, Cert.QkpRefIdeal.Read.val_main_v82_apply, Cert.QkpRefIdeal.Read.val_main_v81_apply, Cert.QkpRefIdeal.Read.val_main_v80_apply, Cert.QkpRefIdeal.Read.val_main_v79_apply, Cert.QkpRefIdeal.Read.val_main_v84_apply, Cert.QkpRefIdeal.Read.val_main_v83_apply, Cert.QkpRefIdeal.Read.val_main_v85_apply, Cert.QkpRefIdeal.Read.val_main_v76_apply, Cert.QkpRefIdeal.Read.val_main_v75_apply, Cert.QkpRefIdeal.Read.val_main_v87_apply, Cert.QkpRefIdeal.Read.val_main_v78_apply, Cert.QkpRefIdeal.Read.val_main_v77_apply]
      refine congrArg₂ (· - ·) (congrArg₂ (· * ·) (congrArg (Cert.QkpRefIdeal.Read.val_main_v74 (F := Ideal) p g) ?_) (congrArg (fun i => Ideal.cos (ang i)) ?_))
        (congrArg₂ (· * ·) (congrArg (Cert.QkpRefIdeal.Read.val_main_v74 (F := Ideal) p g) ?_) (congrArg (fun i => Ideal.sin (ang i)) ?_)) <;> blk_ext []
    · rw [spun_odd ang r hr _ e he]
      have k : Cert.QkpRefIdeal.Read.val_main_v97 (F := Ideal) p ang g (ix5 q (⟨r.val, hr⟩ : Fin 4096) h (⟨e.val / 2, by omega⟩ : Fin 64) (⟨e.val % 2, by omega⟩ : Fin 2))
          = Cert.QkpRefIdeal.Read.val_main_v96 (F := Ideal) p ang g (ix5 q (⟨r.val, hr⟩ : Fin 4096) h (⟨e.val / 2, by omega⟩ : Fin 64) (0 : Fin 1)) := by
        pointwise [Cert.QkpRefIdeal.Read.val_main_v97]
        rw [dif_neg (by omega)]
        refine congrArg (Cert.QkpRefIdeal.Read.val_main_v96 (F := Ideal) p ang g) ?_
        blk_ext []
      rw [k]
      simp only [Cert.QkpRefIdeal.Read.val_main_v96_apply, Cert.QkpRefIdeal.Read.val_main_v94_apply, Cert.QkpRefIdeal.Read.val_main_v91_apply, Cert.QkpRefIdeal.Read.val_main_v93_apply, Cert.QkpRefIdeal.Read.val_main_v82_apply, Cert.QkpRefIdeal.Read.val_main_v81_apply, Cert.QkpRefIdeal.Read.val_main_v80_apply, Cert.QkpRefIdeal.Read.val_main_v79_apply, Cert.QkpRefIdeal.Read.val_main_v84_apply, Cert.QkpRefIdeal.Read.val_main_v83_apply, Cert.QkpRefIdeal.Read.val_main_v90_apply, Cert.QkpRefIdeal.Read.val_main_v92_apply, Cert.QkpRefIdeal.Read.val_main_v78_apply, Cert.QkpRefIdeal.Read.val_main_v77_apply, Cert.QkpRefIdeal.Read.val_main_v76_apply, Cert.QkpRefIdeal.Read.val_main_v75_apply]
      refine congrArg₂ (· + ·) (congrArg₂ (· * ·) (congrArg (Cert.QkpRefIdeal.Read.val_main_v74 (F := Ideal) p g) ?_) (congrArg (fun i => Ideal.sin (ang i)) ?_))
        (congrArg₂ (· * ·) (congrArg (Cert.QkpRefIdeal.Read.val_main_v74 (F := Ideal) p g) ?_) (congrArg (fun i => Ideal.cos (ang i)) ?_)) <;> blk_ext []
  · rw [spun_context ang r hr]
    pointwise [Cert.QkpRefIdeal.Read.val_main_v100]
    rw [dif_neg hr, Cert.QkpRefIdeal.Read.val_main_v99_apply]
    refine congrArg (Cert.QkpRefIdeal.Read.val_main_v74 (F := Ideal) p g) ?_
    blk_ext []

/-- The turn of the grouped keys. -/
theorem turn3 (p : FVec Ideal S4x4352x11776 .f32) (ang : FVec Ideal S4096x64 .f32) (g : FVec Ideal S2x128 .f32) (q : Fin 4) (r : Fin 4352) (h : Fin 2) (e : Fin 128) :
    Cert.QkpRefIdeal.Read.val_main_v144 (F := Ideal) p ang g (ix4 q r h e)
      = spun ang r (fun i => Cert.QkpRefIdeal.Read.val_main_v118 (F := Ideal) p g (ix4 q r h i)) e := by
  by_cases hr : r.val < 4096
  · have s : Cert.QkpRefIdeal.Read.val_main_v144 (F := Ideal) p ang g (ix4 q r h e)
        = Cert.QkpRefIdeal.Read.val_main_v141 (F := Ideal) p ang g (ix5 q (⟨r.val, hr⟩ : Fin 4096) h (⟨e.val / 2, by omega⟩ : Fin 64) (⟨e.val % 2, by omega⟩ : Fin 2)) := by
      pointwise [Cert.QkpRefIdeal.Read.val_main_v144]
      rw [dif_pos hr, Cert.QkpRefIdeal.Read.val_main_v142_apply]
      refine congrArg (Cert.QkpRefIdeal.Read.val_main_v141 (F := Ideal) p ang g) ?_
      blk_ext []
    rw [s]
    by_cases he : e.val % 2 = 0
    · rw [spun_even ang r hr _ e he]
      have k : Cert.QkpRefIdeal.Read.val_main_v141 (F := Ideal) p ang g (ix5 q (⟨r.val, hr⟩ : Fin 4096) h (⟨e.val / 2, by omega⟩ : Fin 64) (⟨e.val % 2, by omega⟩ : Fin 2))
          = Cert.QkpRefIdeal.Read.val_main_v139 (F := Ideal) p ang g (ix5 q (⟨r.val, hr⟩ : Fin 4096) h (⟨e.val / 2, by omega⟩ : Fin 64) (0 : Fin 1)) := by
        pointwise [Cert.QkpRefIdeal.Read.val_main_v141]
        rw [dif_pos (by omega)]
        refine congrArg (Cert.QkpRefIdeal.Read.val_main_v139 (F := Ideal) p ang g) ?_
        blk_ext []
      rw [k]
      simp only [Cert.QkpRefIdeal.Read.val_main_v139_apply, Cert.QkpRefIdeal.Read.val_main_v133_apply, Cert.QkpRefIdeal.Read.val_main_v130_apply, Cert.QkpRefIdeal.Read.val_main_v132_apply, Cert.QkpRefIdeal.Read.val_main_v126_apply, Cert.QkpRefIdeal.Read.val_main_v125_apply, Cert.QkpRefIdeal.Read.val_main_v124_apply, Cert.QkpRefIdeal.Read.val_main_v123_apply, Cert.QkpRefIdeal.Read.val_main_v128_apply, Cert.QkpRefIdeal.Read.val_main_v127_apply, Cert.QkpRefIdeal.Read.val_main_v129_apply, Cert.QkpRefIdeal.Read.val_main_v120_apply, Cert.QkpRefIdeal.Read.val_main_v119_apply, Cert.QkpRefIdeal.Read.val_main_v131_apply, Cert.QkpRefIdeal.Read.val_main_v122_apply, Cert.QkpRefIdeal.Read.val_main_v121_apply]
      refine congrArg₂ (· - ·) (congrArg₂ (· * ·) (congrArg (Cert.QkpRefIdeal.Read.val_main_v118 (F := Ideal) p g) ?_) (congrArg (fun i => Ideal.cos (ang i)) ?_))
        (congrArg₂ (· * ·) (congrArg (Cert.QkpRefIdeal.Read.val_main_v118 (F := Ideal) p g) ?_) (congrArg (fun i => Ideal.sin (ang i)) ?_)) <;> blk_ext []
    · rw [spun_odd ang r hr _ e he]
      have k : Cert.QkpRefIdeal.Read.val_main_v141 (F := Ideal) p ang g (ix5 q (⟨r.val, hr⟩ : Fin 4096) h (⟨e.val / 2, by omega⟩ : Fin 64) (⟨e.val % 2, by omega⟩ : Fin 2))
          = Cert.QkpRefIdeal.Read.val_main_v140 (F := Ideal) p ang g (ix5 q (⟨r.val, hr⟩ : Fin 4096) h (⟨e.val / 2, by omega⟩ : Fin 64) (0 : Fin 1)) := by
        pointwise [Cert.QkpRefIdeal.Read.val_main_v141]
        rw [dif_neg (by omega)]
        refine congrArg (Cert.QkpRefIdeal.Read.val_main_v140 (F := Ideal) p ang g) ?_
        blk_ext []
      rw [k]
      simp only [Cert.QkpRefIdeal.Read.val_main_v140_apply, Cert.QkpRefIdeal.Read.val_main_v138_apply, Cert.QkpRefIdeal.Read.val_main_v135_apply, Cert.QkpRefIdeal.Read.val_main_v137_apply, Cert.QkpRefIdeal.Read.val_main_v126_apply, Cert.QkpRefIdeal.Read.val_main_v125_apply, Cert.QkpRefIdeal.Read.val_main_v124_apply, Cert.QkpRefIdeal.Read.val_main_v123_apply, Cert.QkpRefIdeal.Read.val_main_v128_apply, Cert.QkpRefIdeal.Read.val_main_v127_apply, Cert.QkpRefIdeal.Read.val_main_v134_apply, Cert.QkpRefIdeal.Read.val_main_v136_apply, Cert.QkpRefIdeal.Read.val_main_v122_apply, Cert.QkpRefIdeal.Read.val_main_v121_apply, Cert.QkpRefIdeal.Read.val_main_v120_apply, Cert.QkpRefIdeal.Read.val_main_v119_apply]
      refine congrArg₂ (· + ·) (congrArg₂ (· * ·) (congrArg (Cert.QkpRefIdeal.Read.val_main_v118 (F := Ideal) p g) ?_) (congrArg (fun i => Ideal.sin (ang i)) ?_))
        (congrArg₂ (· * ·) (congrArg (Cert.QkpRefIdeal.Read.val_main_v118 (F := Ideal) p g) ?_) (congrArg (fun i => Ideal.cos (ang i)) ?_)) <;> blk_ext []
  · rw [spun_context ang r hr]
    pointwise [Cert.QkpRefIdeal.Read.val_main_v144]
    rw [dif_neg hr, Cert.QkpRefIdeal.Read.val_main_v143_apply]
    refine congrArg (Cert.QkpRefIdeal.Read.val_main_v118 (F := Ideal) p g) ?_
    blk_ext []

/-- Heads 0 to 7 of the projection. -/
theorem slice0 (p : FVec Ideal S4x4352x11776 .f32) (q : Fin 4) (r : Fin 4352) (h : Fin 8) (e : Fin 128) :
    Cert.QkpRefIdeal.Read.val_main_v2 (F := Ideal) p (ix4 q r h e) = head p q r (⟨0 + h.val, by omega⟩ : Fin 36) e := by
  unfold head
  rw [Cert.QkpRefIdeal.Read.val_main_v2_apply, Cert.QkpRefIdeal.Read.val_main_v1_apply, Cert.QkpRefIdeal.Read.val_main_v0_apply]
  refine congrArg p ?_
  blk_ext []

/-- Heads 8 to 15 of the projection. -/
theorem slice1 (p : FVec Ideal S4x4352x11776 .f32) (q : Fin 4) (r : Fin 4352) (h : Fin 8) (e : Fin 128) :
    Cert.QkpRefIdeal.Read.val_main_v31 (F := Ideal) p (ix4 q r h e) = head p q r (⟨8 + h.val, by omega⟩ : Fin 36) e := by
  unfold head
  rw [Cert.QkpRefIdeal.Read.val_main_v31_apply, Cert.QkpRefIdeal.Read.val_main_v1_apply, Cert.QkpRefIdeal.Read.val_main_v0_apply]
  refine congrArg p ?_
  blk_ext []

/-- Heads 16 to 23 of the projection. -/
theorem slice2 (p : FVec Ideal S4x4352x11776 .f32) (q : Fin 4) (r : Fin 4352) (h : Fin 8) (e : Fin 128) :
    Cert.QkpRefIdeal.Read.val_main_v58 (F := Ideal) p (ix4 q r h e) = head p q r (⟨16 + h.val, by omega⟩ : Fin 36) e := by
  unfold head
  rw [Cert.QkpRefIdeal.Read.val_main_v58_apply, Cert.QkpRefIdeal.Read.val_main_v1_apply, Cert.QkpRefIdeal.Read.val_main_v0_apply]
  refine congrArg p ?_
  blk_ext []

/-- Heads 24 to 31 of the projection. -/
theorem slice3 (p : FVec Ideal S4x4352x11776 .f32) (q : Fin 4) (r : Fin 4352) (h : Fin 8) (e : Fin 128) :
    Cert.QkpRefIdeal.Read.val_main_v59 (F := Ideal) p (ix4 q r h e) = head p q r (⟨24 + h.val, by omega⟩ : Fin 36) e := by
  unfold head
  rw [Cert.QkpRefIdeal.Read.val_main_v59_apply, Cert.QkpRefIdeal.Read.val_main_v1_apply, Cert.QkpRefIdeal.Read.val_main_v0_apply]
  refine congrArg p ?_
  blk_ext []

/-- Heads 32 to 33 of the projection. -/
theorem slice4 (p : FVec Ideal S4x4352x11776 .f32) (q : Fin 4) (r : Fin 4352) (h : Fin 2) (e : Fin 128) :
    Cert.QkpRefIdeal.Read.val_main_v103 (F := Ideal) p (ix4 q r h e) = head p q r (⟨32 + h.val, by omega⟩ : Fin 36) e := by
  unfold head
  rw [Cert.QkpRefIdeal.Read.val_main_v103_apply, Cert.QkpRefIdeal.Read.val_main_v1_apply, Cert.QkpRefIdeal.Read.val_main_v0_apply]
  refine congrArg p ?_
  blk_ext []

/-- Heads 34 to 35 of the projection. -/
theorem slice5 (p : FVec Ideal S4x4352x11776 .f32) (q : Fin 4) (r : Fin 4352) (h : Fin 2) (e : Fin 128) :
    Cert.QkpRefIdeal.Read.val_main_v145 (F := Ideal) p (ix4 q r h e) = head p q r (⟨34 + h.val, by omega⟩ : Fin 36) e := by
  unfold head
  rw [Cert.QkpRefIdeal.Read.val_main_v145_apply, Cert.QkpRefIdeal.Read.val_main_v1_apply, Cert.QkpRefIdeal.Read.val_main_v0_apply]
  refine congrArg p ?_
  blk_ext []

/-- The mean squares of heads 24 to 31. -/
theorem norm3_square (p : FVec Ideal S4x4352x11776 .f32) (q : Fin 4) (r : Fin 4352) (h : Fin 8) :
    Cert.QkpRefIdeal.Read.val_main_v66 (F := Ideal) p (ix4 q r h (0 : Fin 1)) = Ideal.div (∑ i, head p q r (⟨24 + h.val, by omega⟩ : Fin 36) i
      * head p q r (⟨24 + h.val, by omega⟩ : Fin 36) i) (Ideal.ofBits .f32 0x43000000#32) := by
  refine Eq.trans ?_ (congrArg (Ideal.div · _) (Finset.sum_congr rfl fun j _ => congrArg₂ (· * ·) (slice3 p q r h j) (slice3 p q r h j)))
  pointwise [Cert.QkpRefIdeal.Read.val_main_v66, Cert.QkpRefIdeal.Read.val_main_v65, Cert.QkpRefIdeal.Read.val_main_v64, Cert.QkpRefIdeal.Read.val_main_v63, Cert.QkpRefIdeal.Read.val_main_v62, Cert.QkpRefIdeal.Read.val_main_cst_0, Cert.QkpRefIdeal.Read.val_main_cst_1]

/-- Heads 24 to 31, normed. -/
theorem norm3 (p : FVec Ideal S4x4352x11776 .f32) (g : FVec Ideal S2x128 .f32) (q : Fin 4) (r : Fin 4352) (h : Fin 8) (e : Fin 128) :
    Cert.QkpRefIdeal.Read.val_main_v74 (F := Ideal) p g (ix4 q r h e) = normed (head p q r (⟨24 + h.val, by omega⟩ : Fin 36)) e (g (ix2 (0 : Fin 2) e)) := by
  unfold normed
  rw [Cert.QkpRefIdeal.Read.val_main_v74_apply, Cert.QkpRefIdeal.Read.val_main_v71_apply, Cert.QkpRefIdeal.Read.val_main_v70_apply, Cert.QkpRefIdeal.Read.val_main_v69_apply, Cert.QkpRefIdeal.Read.val_main_v68_apply, Cert.QkpRefIdeal.Read.val_main_v67_apply, slice3, Cert.QkpRefIdeal.Read.val_main_v73_apply, Cert.QkpRefIdeal.Read.val_main_v72_apply, Cert.QkpRefIdeal.Read.val_main_v61_apply, Cert.QkpRefIdeal.Read.val_main_v60_apply, Cert.QkpRefIdeal.Read.val_main_cst_2_apply]
  refine congrArg₂ (· * ·) (congrArg (_ * ·) (congrArg Ideal.rsqrt (congrArg₂ (· + ·) ?_ rfl))) (congrArg g ?_)
  · exact (congrArg (Cert.QkpRefIdeal.Read.val_main_v66 (F := Ideal) p) (by blk_ext [])).trans (norm3_square p q r h)
  · blk_ext []

/-- The mean squares of heads 32 to 33. -/
theorem norm4_square (p : FVec Ideal S4x4352x11776 .f32) (q : Fin 4) (r : Fin 4352) (h : Fin 2) :
    Cert.QkpRefIdeal.Read.val_main_v110 (F := Ideal) p (ix4 q r h (0 : Fin 1)) = Ideal.div (∑ i, head p q r (⟨32 + h.val, by omega⟩ : Fin 36) i
      * head p q r (⟨32 + h.val, by omega⟩ : Fin 36) i) (Ideal.ofBits .f32 0x43000000#32) := by
  refine Eq.trans ?_ (congrArg (Ideal.div · _) (Finset.sum_congr rfl fun j _ => congrArg₂ (· * ·) (slice4 p q r h j) (slice4 p q r h j)))
  pointwise [Cert.QkpRefIdeal.Read.val_main_v110, Cert.QkpRefIdeal.Read.val_main_v109, Cert.QkpRefIdeal.Read.val_main_v108, Cert.QkpRefIdeal.Read.val_main_v107, Cert.QkpRefIdeal.Read.val_main_v106, Cert.QkpRefIdeal.Read.val_main_cst_4, Cert.QkpRefIdeal.Read.val_main_cst_5]

/-- Heads 32 to 33, normed. -/
theorem norm4 (p : FVec Ideal S4x4352x11776 .f32) (g : FVec Ideal S2x128 .f32) (q : Fin 4) (r : Fin 4352) (h : Fin 2) (e : Fin 128) :
    Cert.QkpRefIdeal.Read.val_main_v118 (F := Ideal) p g (ix4 q r h e) = normed (head p q r (⟨32 + h.val, by omega⟩ : Fin 36)) e (g (ix2 (1 : Fin 2) e)) := by
  unfold normed
  rw [Cert.QkpRefIdeal.Read.val_main_v118_apply, Cert.QkpRefIdeal.Read.val_main_v115_apply, Cert.QkpRefIdeal.Read.val_main_v114_apply, Cert.QkpRefIdeal.Read.val_main_v113_apply, Cert.QkpRefIdeal.Read.val_main_v112_apply, Cert.QkpRefIdeal.Read.val_main_v111_apply, slice4, Cert.QkpRefIdeal.Read.val_main_v117_apply, Cert.QkpRefIdeal.Read.val_main_v116_apply, Cert.QkpRefIdeal.Read.val_main_v105_apply, Cert.QkpRefIdeal.Read.val_main_v104_apply, Cert.QkpRefIdeal.Read.val_main_cst_6_apply]
  refine congrArg₂ (· * ·) (congrArg (_ * ·) (congrArg Ideal.rsqrt (congrArg₂ (· + ·) ?_ rfl))) (congrArg g ?_)
  · exact (congrArg (Cert.QkpRefIdeal.Read.val_main_v110 (F := Ideal) p) (by blk_ext [])).trans (norm4_square p q r h)
  · blk_ext []

/-- Heads joined: eight, eight, eight, eight, two and two. -/
def joined (a b c d : FVec Ideal S4x4352x8x128 .f32) (e f : FVec Ideal S4x4352x2x128 .f32) : FVec Ideal S4x4352x36x128 .f32 :=
  concatenate S4x4352x36x128 2 [⟨S4x4352x8x128, a⟩, ⟨S4x4352x8x128, b⟩, ⟨S4x4352x8x128, c⟩, ⟨S4x4352x8x128, d⟩, ⟨S4x4352x2x128, e⟩, ⟨S4x4352x2x128, f⟩] concatenates_S4x4352x8x128_S4x4352x8x128_S4x4352x8x128_S4x4352x8x128_S4x4352x2x128_S4x4352x2x128_S4x4352x36x128_d2

/-- Its heads from 0 on. -/
theorem joined_0 (a b c d : FVec Ideal S4x4352x8x128 .f32) (x y : FVec Ideal S4x4352x2x128 .f32) (q : Fin 4) (r : Fin 4352) (h : Fin 8) (e : Fin 128) :
    joined a b c d x y (ix4 q r (⟨0 + h.val, by omega⟩ : Fin 36) e) = a (ix4 q r h e) := by
  pointwise [joined]

/-- Its heads from 8 on. -/
theorem joined_1 (a b c d : FVec Ideal S4x4352x8x128 .f32) (x y : FVec Ideal S4x4352x2x128 .f32) (q : Fin 4) (r : Fin 4352) (h : Fin 8) (e : Fin 128) :
    joined a b c d x y (ix4 q r (⟨8 + h.val, by omega⟩ : Fin 36) e) = b (ix4 q r h e) := by
  pointwise [joined]

/-- Its heads from 16 on. -/
theorem joined_2 (a b c d : FVec Ideal S4x4352x8x128 .f32) (x y : FVec Ideal S4x4352x2x128 .f32) (q : Fin 4) (r : Fin 4352) (h : Fin 8) (e : Fin 128) :
    joined a b c d x y (ix4 q r (⟨16 + h.val, by omega⟩ : Fin 36) e) = c (ix4 q r h e) := by
  pointwise [joined]
  rw [dif_neg (by omega), dif_neg (by omega), dif_pos (by omega)]
  refine congrArg c ?_
  blk_ext []

/-- Its heads from 24 on. -/
theorem joined_3 (a b c d : FVec Ideal S4x4352x8x128 .f32) (x y : FVec Ideal S4x4352x2x128 .f32) (q : Fin 4) (r : Fin 4352) (h : Fin 8) (e : Fin 128) :
    joined a b c d x y (ix4 q r (⟨24 + h.val, by omega⟩ : Fin 36) e) = d (ix4 q r h e) := by
  pointwise [joined]
  rw [dif_neg (by omega), dif_neg (by omega), dif_neg (by omega), dif_pos (by omega)]
  refine congrArg d ?_
  blk_ext []

/-- Its heads from 32 on. -/
theorem joined_4 (a b c d : FVec Ideal S4x4352x8x128 .f32) (x y : FVec Ideal S4x4352x2x128 .f32) (q : Fin 4) (r : Fin 4352) (h : Fin 2) (e : Fin 128) :
    joined a b c d x y (ix4 q r (⟨32 + h.val, by omega⟩ : Fin 36) e) = x (ix4 q r h e) := by
  pointwise [joined]
  rw [dif_neg (by omega), dif_neg (by omega), dif_neg (by omega), dif_neg (by omega), dif_pos (by omega)]
  refine congrArg x ?_
  blk_ext []

/-- Its heads from 34 on. -/
theorem joined_5 (a b c d : FVec Ideal S4x4352x8x128 .f32) (x y : FVec Ideal S4x4352x2x128 .f32) (q : Fin 4) (r : Fin 4352) (h : Fin 2) (e : Fin 128) :
    joined a b c d x y (ix4 q r (⟨34 + h.val, by omega⟩ : Fin 36) e) = y (ix4 q r h e) := by
  pointwise [joined]
  rw [dif_neg (by omega), dif_neg (by omega), dif_neg (by omega), dif_neg (by omega), dif_neg (by omega)]
  refine congrArg y ?_
  blk_ext []

/-- The result's columns are the joined heads. -/
theorem REF_head (p : FVec Ideal S4x4352x11776 .f32) (ang : FVec Ideal S4096x64 .f32) (g : FVec Ideal S2x128 .f32) (q : Fin 4) (r : Fin 4352) (h : Fin 36) (e : Fin 128) :
    REF p ang g (ix3 q r (⟨h.val * 128 + e.val, by omega⟩ : Fin 4608)) = Cert.QkpRefIdeal.Read.val_main_v146 (F := Ideal) p ang g (ix4 q r h e) := by
  unfold REF
  rw [Cert.QkpRefIdeal.Read.val_main_v148_apply, Cert.QkpRefIdeal.Read.val_main_v147_apply]
  refine congrArg (Cert.QkpRefIdeal.Read.val_main_v146 (F := Ideal) p ang g) ?_
  blk_ext []

/-- The first queries. -/
theorem ref0 (p : FVec Ideal S4x4352x11776 .f32) (ang : FVec Ideal S4096x64 .f32) (g : FVec Ideal S2x128 .f32) (q : Fin 4) (r : Fin 4352) (h : Fin 8) (e : Fin 128) :
    REF p ang g (ix3 q r (⟨(0 + h.val) * 128 + e.val, by omega⟩ : Fin 4608)) = spun ang r (head p q r (⟨0 + h.val, by omega⟩ : Fin 36)) e * Ideal.ofBits .f32 0x3E0293EE#32 := by
  rw [REF_head p ang g q r (⟨0 + h.val, by omega⟩ : Fin 36) e]
  refine Eq.trans (b := Cert.QkpRefIdeal.Read.val_main_v30 (F := Ideal) p ang (ix4 q r h e)) ?_ ?_
  · exact joined_0 _ _ _ _ _ _ q r h e
  · rw [Cert.QkpRefIdeal.Read.val_main_v30_apply, turn0, Cert.QkpRefIdeal.Read.val_main_v29_apply, Cert.QkpRefIdeal.Read.val_main_cst_apply]
    simp only [slice0]
    rfl

/-- The first keys. -/
theorem ref1 (p : FVec Ideal S4x4352x11776 .f32) (ang : FVec Ideal S4096x64 .f32) (g : FVec Ideal S2x128 .f32) (q : Fin 4) (r : Fin 4352) (h : Fin 8) (e : Fin 128) :
    REF p ang g (ix3 q r (⟨(8 + h.val) * 128 + e.val, by omega⟩ : Fin 4608)) = spun ang r (head p q r (⟨8 + h.val, by omega⟩ : Fin 36)) e := by
  rw [REF_head p ang g q r (⟨8 + h.val, by omega⟩ : Fin 36) e]
  refine Eq.trans (b := Cert.QkpRefIdeal.Read.val_main_v57 (F := Ideal) p ang (ix4 q r h e)) ?_ ?_
  · exact joined_1 _ _ _ _ _ _ q r h e
  · rw [turn1]
    simp only [slice1]

/-- The first values. -/
theorem ref2 (p : FVec Ideal S4x4352x11776 .f32) (ang : FVec Ideal S4096x64 .f32) (g : FVec Ideal S2x128 .f32) (q : Fin 4) (r : Fin 4352) (h : Fin 8) (e : Fin 128) :
    REF p ang g (ix3 q r (⟨(16 + h.val) * 128 + e.val, by omega⟩ : Fin 4608)) = (head p q r (⟨16 + h.val, by omega⟩ : Fin 36)) e := by
  rw [REF_head p ang g q r (⟨16 + h.val, by omega⟩ : Fin 36) e]
  refine Eq.trans (b := Cert.QkpRefIdeal.Read.val_main_v58 (F := Ideal) p (ix4 q r h e)) ?_ ?_
  · exact joined_2 _ _ _ _ _ _ q r h e
  · exact slice2 p q r h e

/-- The grouped queries. -/
theorem ref3 (p : FVec Ideal S4x4352x11776 .f32) (ang : FVec Ideal S4096x64 .f32) (g : FVec Ideal S2x128 .f32) (q : Fin 4) (r : Fin 4352) (h : Fin 8) (e : Fin 128) :
    REF p ang g (ix3 q r (⟨(24 + h.val) * 128 + e.val, by omega⟩ : Fin 4608)) = spun ang r (fun i => normed (head p q r (⟨24 + h.val, by omega⟩ : Fin 36)) i (g (ix2 (0 : Fin 2) i))) e * Ideal.ofBits .f32 0x3E0293EE#32 := by
  rw [REF_head p ang g q r (⟨24 + h.val, by omega⟩ : Fin 36) e]
  refine Eq.trans (b := Cert.QkpRefIdeal.Read.val_main_v102 (F := Ideal) p ang g (ix4 q r h e)) ?_ ?_
  · exact joined_3 _ _ _ _ _ _ q r h e
  · rw [Cert.QkpRefIdeal.Read.val_main_v102_apply, turn2, Cert.QkpRefIdeal.Read.val_main_v101_apply, Cert.QkpRefIdeal.Read.val_main_cst_3_apply]
    simp only [norm3]
    rfl

/-- The grouped keys. -/
theorem ref4 (p : FVec Ideal S4x4352x11776 .f32) (ang : FVec Ideal S4096x64 .f32) (g : FVec Ideal S2x128 .f32) (q : Fin 4) (r : Fin 4352) (h : Fin 2) (e : Fin 128) :
    REF p ang g (ix3 q r (⟨(32 + h.val) * 128 + e.val, by omega⟩ : Fin 4608)) = spun ang r (fun i => normed (head p q r (⟨32 + h.val, by omega⟩ : Fin 36)) i (g (ix2 (1 : Fin 2) i))) e := by
  rw [REF_head p ang g q r (⟨32 + h.val, by omega⟩ : Fin 36) e]
  refine Eq.trans (b := Cert.QkpRefIdeal.Read.val_main_v144 (F := Ideal) p ang g (ix4 q r h e)) ?_ ?_
  · exact joined_4 _ _ _ _ _ _ q r h e
  · rw [turn3]
    simp only [norm4]

/-- The grouped values. -/
theorem ref5 (p : FVec Ideal S4x4352x11776 .f32) (ang : FVec Ideal S4096x64 .f32) (g : FVec Ideal S2x128 .f32) (q : Fin 4) (r : Fin 4352) (h : Fin 2) (e : Fin 128) :
    REF p ang g (ix3 q r (⟨(34 + h.val) * 128 + e.val, by omega⟩ : Fin 4608)) = (head p q r (⟨34 + h.val, by omega⟩ : Fin 36)) e := by
  rw [REF_head p ang g q r (⟨34 + h.val, by omega⟩ : Fin 36) e]
  refine Eq.trans (b := Cert.QkpRefIdeal.Read.val_main_v145 (F := Ideal) p (ix4 q r h e)) ?_ ?_
  · exact joined_5 _ _ _ _ _ _ q r h e
  · exact slice5 p q r h e

end Cert.QkpRefIdeal.Heads

end
-- ==== Proof.QkpValue.lean ====
/- THE PREPARATION OF QUERIES, KEYS AND VALUES, its value: a grid point works on 256 tokens, one of the 36 heads after
   another; each is what the reference has there. -/
module

public import proofs.«01_k».proof.Proof.QkpPay
public import proofs.«01_k».proof.Proof.QkpRef
public import Idealize.ShloMosaic.Lib.Pipeline.ValueKit
public import Idealize.ShloMosaic.Lib.Pointwise

@[expose] public section

set_option maxRecDepth 16384

noncomputable section

namespace Cert.QkpIdeal.Value

open Cert.QkpIdeal Cert.QkpIdeal.Gen Cert.Spin Idealize.ShloMosaic Idealize.ShloMosaic.TcCoe Idealize.SL.Sem
open Cert.QkpRefIdeal.Heads (REF)
open Idealize.ShloMosaic.Pipeline (Dat)

variable (m : (ℓ : Loc nD τ sig) → Buf (Elt Ideal) ℓ)

/-- The blocks of point `t`: sequence `t / 17`, tokens of block `t % 17`. -/
theorem idx : ∀ t : Fin cfg0.N, win0_0.index t = ![t.val / 17, t.val % 17, 0] ∧ win0_1.index t = ![t.val % 17, 0]
    ∧ win0_2.index t = ![t.val % 17, 0] ∧ win0_3.index t = ![0, 0] ∧ win0_4.index t = ![t.val / 17, t.val % 17, 0] :=
  (by decide +kernel : ∀ t : Fin grid0.N, _)

/-- The host's cosines, -/
def cos2 (ang : FVec Ideal S4096x64 .f32) : FVec Ideal S4352x128 .f32 :=
  concatenate S4352x128 0 [⟨S4096x128, shapeCast S4096x128 (broadcastInDim S4096x64x2 ![0, 1] bcast_S4096x64_S4096x64x2_0_1 (Host.cos ang)) shapeCasts_S4096x64x2_S4096x128⟩,
    ⟨S256x128, broadcastInDim S256x128 ![] bcast_S_S256x128 (constant (F := Ideal) S_ .f32 0x3F800000#32)⟩] concatenates_S4096x128_S256x128_S4352x128_d0

/-- its sines of both signs, pair by pair, -/
def sin1 (ang : FVec Ideal S4096x64 .f32) : FVec Ideal S4096x64x2 .f32 :=
  concatenate S4096x64x2 2 [⟨S4096x64x1, broadcastInDim S4096x64x1 ![0, 1] bcast_S4096x64_S4096x64x1_0_1 (Host.negf (Host.sin ang))⟩,
    ⟨S4096x64x1, broadcastInDim S4096x64x1 ![0, 1] bcast_S4096x64_S4096x64x1_0_1 (Host.sin ang)⟩] concatenates_S4096x64x1_S4096x64x1_S4096x64x2_d2

/-- and with noughts for the context. -/
def sin2 (ang : FVec Ideal S4096x64 .f32) : FVec Ideal S4352x128 .f32 :=
  concatenate S4352x128 0 [⟨S4096x128, shapeCast S4096x128 (sin1 ang) shapeCasts_S4096x64x2_S4096x128⟩,
    ⟨S256x128, broadcastInDim S256x128 ![] bcast_S_S256x128 (constant (F := Ideal) S_ .f32 0x00000000#32)⟩] concatenates_S4096x128_S256x128_S4352x128_d0

theorem cos2_apply (ang : FVec Ideal S4096x64 .f32) (r : Fin 4352) (e : Fin 128) : cos2 ang (ix2 r e) = co ang r e := by
  unfold co
  by_cases hr : r.val < 4096
  · pointwise [cos2]
  · pointwise [cos2]

theorem sin1_apply (ang : FVec Ideal S4096x64 .f32) (r : Fin 4096) (k : Fin 64) (s : Fin 2) :
    sin1 ang (ix3 r k s) = if s.val = 0 then - Ideal.sin (ang (ix2 r k)) else Ideal.sin (ang (ix2 r k)) := by
  by_cases hs : s.val = 0
  · pointwise [sin1]
    rw [dif_pos (by omega), if_pos hs]
  · pointwise [sin1]
    rw [dif_neg (by omega), if_neg hs]

theorem sin2_apply (ang : FVec Ideal S4096x64 .f32) (r : Fin 4352) (e : Fin 128) : sin2 ang (ix2 r e) = si ang r e := by
  unfold si
  by_cases hr : r.val < 4096
  · rw [dif_pos hr]
    refine Eq.trans ?_ (sin1_apply ang (⟨r.val, hr⟩ : Fin 4096) (⟨e.val / 2, by omega⟩ : Fin 64) (⟨e.val % 2, by omega⟩ : Fin 2))
    pointwise [sin2]
    rw [dif_pos hr]
  · pointwise [sin2]
    rw [dif_neg hr, dif_neg hr]

/-- The cosines as the region finds them, -/
theorem V_cos (c : Dev nD) : V m c main_v10 = cos2 (m ((c : Thread nD τ).loc main_arg1)) := by
  entry_read
  rfl

/-- and the sines. -/
theorem V_sin (c : Dev nD) : V m c main_v12 = sin2 (m ((c : Thread nD τ).loc main_arg1)) := by
  entry_read
  rfl

/-- The cosines' block, -/
theorem block_c (c : Dev nD) (t : Fin cfg0.N) (ht : t.val < 68) (a : Fin 256) (e : Fin 128) :
    (iblk m c 1 t : FVec Ideal S256x128 .f32) (ix2 a e) = co (m ((c : Thread nD τ).loc main_arg1)) (⟨t.val % 17 * 256 + a.val, by omega⟩ : Fin 4352) e := by
  obtain ⟨h0, h1, h2, h3, h4⟩ := idx t
  rw [← cos2_apply, ← V_cos]
  blk_point [iblk, h1]

/-- the sines' block, -/
theorem block_s (c : Dev nD) (t : Fin cfg0.N) (ht : t.val < 68) (a : Fin 256) (e : Fin 128) :
    (iblk m c 2 t : FVec Ideal S256x128 .f32) (ix2 a e) = si (m ((c : Thread nD τ).loc main_arg1)) (⟨t.val % 17 * 256 + a.val, by omega⟩ : Fin 4352) e := by
  obtain ⟨h0, h1, h2, h3, h4⟩ := idx t
  rw [← sin2_apply, ← V_sin]
  blk_point [iblk, h2]

/-- the gains' block, -/
abbrev G3 (c : Dev nD) (t : Fin cfg0.N) : FVec Ideal S2x128 .f32 := iblk m c 3 t

theorem block_g (c : Dev nD) (t : Fin cfg0.N) (k : Fin 2) (e : Fin 128) :
    G3 m c t (ix2 k e) = m ((c : Thread nD τ).loc main_arg2) (ix2 k e) := by
  obtain ⟨h0, h1, h2, h3, h4⟩ := idx t
  rw [← V_main_arg2 m c]
  blk_point [iblk, h3]

/-- and the projections' block. -/
theorem block_p (c : Dev nD) (t : Fin cfg0.N) (ht : t.val < 68) (a : Fin 256) (j : Fin 4608) :
    X0_0 m c t (ix3 (0 : Fin 1) a j) = m ((c : Thread nD τ).loc main_arg0) (ix3 (⟨t.val / 17, by omega⟩ : Fin 4) (⟨t.val % 17 * 256 + a.val, by omega⟩ : Fin 4352) (⟨j.val, by omega⟩ : Fin 11776)) := by
  obtain ⟨h0, h1, h2, h3, h4⟩ := idx t
  rw [← V_main_arg0 m c]
  unfold X0_0 Pipeline.Window.fill
  rw [dif_pos (moved0_0 t _)]
  blk_point [iblk, h0]

/-- One head of the projections' block. -/
theorem load (c : Dev nD) (t : Fin cfg0.N) (ht : t.val < 68) (o : ℕ) (h : Fin 36) (ho : o = h.val * 128)
    (inb : ∀ a, (![0, 0, o] : Fin 3 → ℕ) a + S1x256x128.size a ≤ S1x256x4608.size a) (a : Fin 256) (e : Fin 128) :
    (mat (View.ld (Val := Elt Ideal) (e' := .f32) (X0_0 m c t) (Rect.unit (s := S1x256x4608) ![0, 0, o] S1x256x128.size inb))) (ix2 a e) = head (m ((c : Thread nD τ).loc main_arg0)) (⟨t.val / 17, by omega⟩ : Fin 4) (⟨t.val % 17 * 256 + a.val, by omega⟩ : Fin 4352) h e := by
  subst ho
  rw [mat_apply]
  unfold head
  refine Eq.trans ?_ (block_p m c t ht a (⟨h.val * 128 + e.val, by omega⟩ : Fin 4608))
  exact congrArg (X0_0 m c t) (by blk_ext [LoadRect.idx_apply, Rect.unit] <;> simp)

/-- The reference's array, at the entries of a point's block. -/
def G4 (c : Dev nD) (t : Fin cfg0.N) (y : S1x256x4608.Idx) : EReal := REF (m ((c : Thread nD τ).loc main_arg0)) (m ((c : Thread nD τ).loc main_arg1)) (m ((c : Thread nD τ).loc main_arg2)) (((cfg0.win 4).blk t).view.emb y)

/-- Where a stored head lies. -/
theorem place (c : Dev nD) (t : Fin cfg0.N) (ht : t.val < 68) (o : ℕ) (h : Fin 36) (ho : o = h.val * 128)
    (inb : ∀ a, (![0, 0, o] : Fin 3 → ℕ) a + S1x256x128.size a ≤ S1x256x4608.size a) (a : Fin 256) (e : Fin 128) :
    G4 m c t ((Rect.unit (s := S1x256x4608) ![0, 0, o] S1x256x128.size inb).emb (ix3 (0 : Fin 1) a e))
      = REF (m ((c : Thread nD τ).loc main_arg0)) (m ((c : Thread nD τ).loc main_arg1)) (m ((c : Thread nD τ).loc main_arg2)) (ix3 (⟨t.val / 17, by omega⟩ : Fin 4) (⟨t.val % 17 * 256 + a.val, by omega⟩ : Fin 4352) (⟨h.val * 128 + e.val, by omega⟩ : Fin 4608)) := by
  obtain ⟨h0, h1, h2, h3, h4⟩ := idx t
  subst ho
  have q : (Rect.unit (s := S1x256x4608) ![0, 0, h.val * 128] S1x256x128.size inb).emb (ix3 (0 : Fin 1) a e) = ix3 (0 : Fin 1) a (⟨h.val * 128 + e.val, by omega⟩ : Fin 4608) := by
    blk_ext [Rect.unit] <;> simp
  rw [q]
  unfold G4
  refine congrArg (REF (m ((c : Thread nD τ).loc main_arg0)) (m ((c : Thread nD τ).loc main_arg1)) (m ((c : Thread nD τ).loc main_arg2))) ?_
  blk_ext [h4]

/-- A head of the first queries. -/
theorem pc0 (c : Dev nD) (t : Fin cfg0.N) (o : ℕ) (h : Fin 8) (ho : o = (0 + h.val) * 128)
    (inb : ∀ a, (![0, 0, o] : Fin 3 → ℕ) a + S1x256x128.size a ≤ S1x256x4608.size a) (x : S1x256x128.Idx) :
    put (scaled (turned (k0_pay3 (F := Ideal) (iblk m c 1 t)) (k0_pay4 (F := Ideal) (iblk m c 2 t)) (mat (View.ld (Val := Elt Ideal) (e' := .f32) (X0_0 m c t) (Rect.unit (s := S1x256x4608) ![0, 0, o] S1x256x128.size inb))))) x = G4 m c t ((Rect.unit (s := S1x256x4608) ![0, 0, o] S1x256x128.size inb).emb x) := by
  have ht : t.val < 68 := t.isLt
  idx_vars x
  obtain rfl : x0 = 0 := Subsingleton.elim _ _
  have ld := fun e => load m c t ht o (⟨0 + h.val, by omega⟩ : Fin 36) ho inb x1 e
  rw [place m c t ht o (⟨0 + h.val, by omega⟩ : Fin 36) ho inb x1 x2]
  refine Eq.trans ?_ (Cert.QkpRefIdeal.Heads.ref0 (m ((c : Thread nD τ).loc main_arg0)) (m ((c : Thread nD τ).loc main_arg1)) (m ((c : Thread nD τ).loc main_arg2)) (⟨t.val / 17, by omega⟩ : Fin 4) (⟨t.val % 17 * 256 + x1.val, by omega⟩ : Fin 4352) h x2).symm
  rw [put_apply]
  rw [scaled_apply, turned_apply, pay3_apply, pay4_apply, block_c m c t ht, block_s m c t ht, ld, ld]
  rfl

/-- A head of the first keys. -/
theorem pc1 (c : Dev nD) (t : Fin cfg0.N) (o : ℕ) (h : Fin 8) (ho : o = (8 + h.val) * 128)
    (inb : ∀ a, (![0, 0, o] : Fin 3 → ℕ) a + S1x256x128.size a ≤ S1x256x4608.size a) (x : S1x256x128.Idx) :
    put (turned (k0_pay3 (F := Ideal) (iblk m c 1 t)) (k0_pay4 (F := Ideal) (iblk m c 2 t)) (mat (View.ld (Val := Elt Ideal) (e' := .f32) (X0_0 m c t) (Rect.unit (s := S1x256x4608) ![0, 0, o] S1x256x128.size inb)))) x = G4 m c t ((Rect.unit (s := S1x256x4608) ![0, 0, o] S1x256x128.size inb).emb x) := by
  have ht : t.val < 68 := t.isLt
  idx_vars x
  obtain rfl : x0 = 0 := Subsingleton.elim _ _
  have ld := fun e => load m c t ht o (⟨8 + h.val, by omega⟩ : Fin 36) ho inb x1 e
  rw [place m c t ht o (⟨8 + h.val, by omega⟩ : Fin 36) ho inb x1 x2]
  refine Eq.trans ?_ (Cert.QkpRefIdeal.Heads.ref1 (m ((c : Thread nD τ).loc main_arg0)) (m ((c : Thread nD τ).loc main_arg1)) (m ((c : Thread nD τ).loc main_arg2)) (⟨t.val / 17, by omega⟩ : Fin 4) (⟨t.val % 17 * 256 + x1.val, by omega⟩ : Fin 4352) h x2).symm
  rw [put_apply]
  rw [turned_apply, pay3_apply, pay4_apply, block_c m c t ht, block_s m c t ht, ld, ld]
  rfl

/-- A head of the first values. -/
theorem pc2 (c : Dev nD) (t : Fin cfg0.N) (o : ℕ) (h : Fin 8) (ho : o = (16 + h.val) * 128)
    (inb : ∀ a, (![0, 0, o] : Fin 3 → ℕ) a + S1x256x128.size a ≤ S1x256x4608.size a) (x : S1x256x128.Idx) :
    put ((mat (View.ld (Val := Elt Ideal) (e' := .f32) (X0_0 m c t) (Rect.unit (s := S1x256x4608) ![0, 0, o] S1x256x128.size inb)))) x = G4 m c t ((Rect.unit (s := S1x256x4608) ![0, 0, o] S1x256x128.size inb).emb x) := by
  have ht : t.val < 68 := t.isLt
  idx_vars x
  obtain rfl : x0 = 0 := Subsingleton.elim _ _
  have ld := fun e => load m c t ht o (⟨16 + h.val, by omega⟩ : Fin 36) ho inb x1 e
  rw [place m c t ht o (⟨16 + h.val, by omega⟩ : Fin 36) ho inb x1 x2]
  refine Eq.trans ?_ (Cert.QkpRefIdeal.Heads.ref2 (m ((c : Thread nD τ).loc main_arg0)) (m ((c : Thread nD τ).loc main_arg1)) (m ((c : Thread nD τ).loc main_arg2)) (⟨t.val / 17, by omega⟩ : Fin 4) (⟨t.val % 17 * 256 + x1.val, by omega⟩ : Fin 4352) h x2).symm
  rw [put_apply]
  rw [ld]

/-- A head of the grouped queries. -/
theorem pc3 (c : Dev nD) (t : Fin cfg0.N) (o : ℕ) (h : Fin 8) (ho : o = (24 + h.val) * 128)
    (inb : ∀ a, (![0, 0, o] : Fin 3 → ℕ) a + S1x256x128.size a ≤ S1x256x4608.size a) (x : S1x256x128.Idx) :
    put (scaled (turned (k0_pay3 (F := Ideal) (iblk m c 1 t)) (k0_pay4 (F := Ideal) (iblk m c 2 t)) (kn (mat (View.ld (Val := Elt Ideal) (e' := .f32) (X0_0 m c t) (Rect.unit (s := S1x256x4608) ![0, 0, o] S1x256x128.size inb))) (View.ld (Val := Elt Ideal) (e' := .f32) (G3 m c t) (Rect.unit (s := S2x128) ![0, 0] S1x128.size inb_S2x128_S1x128_0_0))))) x = G4 m c t ((Rect.unit (s := S1x256x4608) ![0, 0, o] S1x256x128.size inb).emb x) := by
  have ht : t.val < 68 := t.isLt
  idx_vars x
  obtain rfl : x0 = 0 := Subsingleton.elim _ _
  have ld := fun e => load m c t ht o (⟨24 + h.val, by omega⟩ : Fin 36) ho inb x1 e
  rw [place m c t ht o (⟨24 + h.val, by omega⟩ : Fin 36) ho inb x1 x2]
  refine Eq.trans ?_ (Cert.QkpRefIdeal.Heads.ref3 (m ((c : Thread nD τ).loc main_arg0)) (m ((c : Thread nD τ).loc main_arg1)) (m ((c : Thread nD τ).loc main_arg2)) (⟨t.val / 17, by omega⟩ : Fin 4) (⟨t.val % 17 * 256 + x1.val, by omega⟩ : Fin 4352) h x2).symm
  rw [put_apply]
  have lg : ∀ i : Fin 128, (View.ld (Val := Elt Ideal) (e' := .f32) (G3 m c t) (Rect.unit (s := S2x128) ![0, 0] S1x128.size inb_S2x128_S1x128_0_0)) (ix2 (0 : Fin 1) i) = m ((c : Thread nD τ).loc main_arg2) (ix2 (0 : Fin 2) i) := fun i =>
    (congrArg (G3 m c t) (show _ = ix2 (0 : Fin 2) i by blk_ext [LoadRect.idx_apply, Rect.unit] <;> simp)).trans (block_g m c t (0 : Fin 2) i)
  rw [scaled_apply, turned_apply, pay3_apply, pay4_apply, block_c m c t ht, block_s m c t ht, kn_apply, kn_apply, lg, lg]
  simp only [ld]
  rfl

/-- A head of the grouped keys. -/
theorem pc4 (c : Dev nD) (t : Fin cfg0.N) (o : ℕ) (h : Fin 2) (ho : o = (32 + h.val) * 128)
    (inb : ∀ a, (![0, 0, o] : Fin 3 → ℕ) a + S1x256x128.size a ≤ S1x256x4608.size a) (x : S1x256x128.Idx) :
    put (turned (k0_pay3 (F := Ideal) (iblk m c 1 t)) (k0_pay4 (F := Ideal) (iblk m c 2 t)) (kn (mat (View.ld (Val := Elt Ideal) (e' := .f32) (X0_0 m c t) (Rect.unit (s := S1x256x4608) ![0, 0, o] S1x256x128.size inb))) (View.ld (Val := Elt Ideal) (e' := .f32) (G3 m c t) (Rect.unit (s := S2x128) ![1, 0] S1x128.size inb_S2x128_S1x128_1_0)))) x = G4 m c t ((Rect.unit (s := S1x256x4608) ![0, 0, o] S1x256x128.size inb).emb x) := by
  have ht : t.val < 68 := t.isLt
  idx_vars x
  obtain rfl : x0 = 0 := Subsingleton.elim _ _
  have ld := fun e => load m c t ht o (⟨32 + h.val, by omega⟩ : Fin 36) ho inb x1 e
  rw [place m c t ht o (⟨32 + h.val, by omega⟩ : Fin 36) ho inb x1 x2]
  refine Eq.trans ?_ (Cert.QkpRefIdeal.Heads.ref4 (m ((c : Thread nD τ).loc main_arg0)) (m ((c : Thread nD τ).loc main_arg1)) (m ((c : Thread nD τ).loc main_arg2)) (⟨t.val / 17, by omega⟩ : Fin 4) (⟨t.val % 17 * 256 + x1.val, by omega⟩ : Fin 4352) h x2).symm
  rw [put_apply]
  have lg : ∀ i : Fin 128, (View.ld (Val := Elt Ideal) (e' := .f32) (G3 m c t) (Rect.unit (s := S2x128) ![1, 0] S1x128.size inb_S2x128_S1x128_1_0)) (ix2 (0 : Fin 1) i) = m ((c : Thread nD τ).loc main_arg2) (ix2 (1 : Fin 2) i) := fun i =>
    (congrArg (G3 m c t) (show _ = ix2 (1 : Fin 2) i by blk_ext [LoadRect.idx_apply, Rect.unit] <;> simp)).trans (block_g m c t (1 : Fin 2) i)
  rw [turned_apply, pay3_apply, pay4_apply, block_c m c t ht, block_s m c t ht, kn_apply, kn_apply, lg, lg]
  simp only [ld]
  rfl

/-- A head of the grouped values. -/
theorem pc5 (c : Dev nD) (t : Fin cfg0.N) (o : ℕ) (h : Fin 2) (ho : o = (34 + h.val) * 128)
    (inb : ∀ a, (![0, 0, o] : Fin 3 → ℕ) a + S1x256x128.size a ≤ S1x256x4608.size a) (x : S1x256x128.Idx) :
    put ((mat (View.ld (Val := Elt Ideal) (e' := .f32) (X0_0 m c t) (Rect.unit (s := S1x256x4608) ![0, 0, o] S1x256x128.size inb)))) x = G4 m c t ((Rect.unit (s := S1x256x4608) ![0, 0, o] S1x256x128.size inb).emb x) := by
  have ht : t.val < 68 := t.isLt
  idx_vars x
  obtain rfl : x0 = 0 := Subsingleton.elim _ _
  have ld := fun e => load m c t ht o (⟨34 + h.val, by omega⟩ : Fin 36) ho inb x1 e
  rw [place m c t ht o (⟨34 + h.val, by omega⟩ : Fin 36) ho inb x1 x2]
  refine Eq.trans ?_ (Cert.QkpRefIdeal.Heads.ref5 (m ((c : Thread nD τ).loc main_arg0)) (m ((c : Thread nD τ).loc main_arg1)) (m ((c : Thread nD τ).loc main_arg2)) (⟨t.val / 17, by omega⟩ : Fin 4) (⟨t.val % 17 * 256 + x1.val, by omega⟩ : Fin 4352) h x2).symm
  rw [put_apply]
  rw [ld]

/-- The block that a grid point leaves: its heads, one store each. -/
theorem block_final (c : Dev nD) (t : Fin cfg0.N) (y : S1x256x4608.Idx) : outsAt0 m c t y = G4 m c t y := by
  unfold outsAt0
  frame_out
  refine View.canon_apply_of_pieces (Val := Elt Ideal) (e := .bf16) (G4 m c t) _ ?_ y ?_
  case refine_2 => exact View.cover_of_tiledL (s := S1x256x4608) _ S1x256x128.size (by sl_kernel_rfl) y
  refine List.forall_mem_cons.mpr ⟨fun x => pc5 m c t 4480 (1 : Fin 2) rfl _ x, ?_⟩
  refine List.forall_mem_cons.mpr ⟨fun x => pc5 m c t 4352 (0 : Fin 2) rfl _ x, ?_⟩
  refine List.forall_mem_cons.mpr ⟨fun x => pc4 m c t 4224 (1 : Fin 2) rfl _ x, ?_⟩
  refine List.forall_mem_cons.mpr ⟨fun x => pc4 m c t 4096 (0 : Fin 2) rfl _ x, ?_⟩
  refine List.forall_mem_cons.mpr ⟨fun x => pc3 m c t 3968 (7 : Fin 8) rfl _ x, ?_⟩
  refine List.forall_mem_cons.mpr ⟨fun x => pc3 m c t 3840 (6 : Fin 8) rfl _ x, ?_⟩
  refine List.forall_mem_cons.mpr ⟨fun x => pc3 m c t 3712 (5 : Fin 8) rfl _ x, ?_⟩
  refine List.forall_mem_cons.mpr ⟨fun x => pc3 m c t 3584 (4 : Fin 8) rfl _ x, ?_⟩
  refine List.forall_mem_cons.mpr ⟨fun x => pc3 m c t 3456 (3 : Fin 8) rfl _ x, ?_⟩
  refine List.forall_mem_cons.mpr ⟨fun x => pc3 m c t 3328 (2 : Fin 8) rfl _ x, ?_⟩
  refine List.forall_mem_cons.mpr ⟨fun x => pc3 m c t 3200 (1 : Fin 8) rfl _ x, ?_⟩
  refine List.forall_mem_cons.mpr ⟨fun x => pc3 m c t 3072 (0 : Fin 8) rfl _ x, ?_⟩
  refine List.forall_mem_cons.mpr ⟨fun x => pc2 m c t 2944 (7 : Fin 8) rfl _ x, ?_⟩
  refine List.forall_mem_cons.mpr ⟨fun x => pc2 m c t 2816 (6 : Fin 8) rfl _ x, ?_⟩
  refine List.forall_mem_cons.mpr ⟨fun x => pc2 m c t 2688 (5 : Fin 8) rfl _ x, ?_⟩
  refine List.forall_mem_cons.mpr ⟨fun x => pc2 m c t 2560 (4 : Fin 8) rfl _ x, ?_⟩
  refine List.forall_mem_cons.mpr ⟨fun x => pc2 m c t 2432 (3 : Fin 8) rfl _ x, ?_⟩
  refine List.forall_mem_cons.mpr ⟨fun x => pc2 m c t 2304 (2 : Fin 8) rfl _ x, ?_⟩
  refine List.forall_mem_cons.mpr ⟨fun x => pc2 m c t 2176 (1 : Fin 8) rfl _ x, ?_⟩
  refine List.forall_mem_cons.mpr ⟨fun x => pc2 m c t 2048 (0 : Fin 8) rfl _ x, ?_⟩
  refine List.forall_mem_cons.mpr ⟨fun x => pc1 m c t 1920 (7 : Fin 8) rfl _ x, ?_⟩
  refine List.forall_mem_cons.mpr ⟨fun x => pc1 m c t 1792 (6 : Fin 8) rfl _ x, ?_⟩
  refine List.forall_mem_cons.mpr ⟨fun x => pc1 m c t 1664 (5 : Fin 8) rfl _ x, ?_⟩
  refine List.forall_mem_cons.mpr ⟨fun x => pc1 m c t 1536 (4 : Fin 8) rfl _ x, ?_⟩
  refine List.forall_mem_cons.mpr ⟨fun x => pc1 m c t 1408 (3 : Fin 8) rfl _ x, ?_⟩
  refine List.forall_mem_cons.mpr ⟨fun x => pc1 m c t 1280 (2 : Fin 8) rfl _ x, ?_⟩
  refine List.forall_mem_cons.mpr ⟨fun x => pc1 m c t 1152 (1 : Fin 8) rfl _ x, ?_⟩
  refine List.forall_mem_cons.mpr ⟨fun x => pc1 m c t 1024 (0 : Fin 8) rfl _ x, ?_⟩
  refine List.forall_mem_cons.mpr ⟨fun x => pc0 m c t 896 (7 : Fin 8) rfl _ x, ?_⟩
  refine List.forall_mem_cons.mpr ⟨fun x => pc0 m c t 768 (6 : Fin 8) rfl _ x, ?_⟩
  refine List.forall_mem_cons.mpr ⟨fun x => pc0 m c t 640 (5 : Fin 8) rfl _ x, ?_⟩
  refine List.forall_mem_cons.mpr ⟨fun x => pc0 m c t 512 (4 : Fin 8) rfl _ x, ?_⟩
  refine List.forall_mem_cons.mpr ⟨fun x => pc0 m c t 384 (3 : Fin 8) rfl _ x, ?_⟩
  refine List.forall_mem_cons.mpr ⟨fun x => pc0 m c t 256 (2 : Fin 8) rfl _ x, ?_⟩
  refine List.forall_mem_cons.mpr ⟨fun x => pc0 m c t 128 (1 : Fin 8) rfl _ x, ?_⟩
  refine List.forall_mem_cons.mpr ⟨fun x => pc0 m c t 0 (0 : Fin 8) rfl _ x, ?_⟩
  exact fun p hp => nomatch hp

/-- The whole result array after the run. -/
theorem final (c : Dev nD) : (dats m 0 c).arrAt 4 (cfgs 0).N = REF (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  exact block_final m c t y

end Cert.QkpIdeal.Value

end
-- ==== Proof.QkpClaim.lean ====
/- THE PREPARATION OF QUERIES, KEYS AND VALUES: its claims: each program runs and gives its counters back, and the kernel and the reference end
   with equal results. -/
module

public import proofs.«01_k».proof.Defs
public import proofs.«01_k».proof.Proof.Gen.Qkp.Frame
public import proofs.«01_k».proof.Proof.Gen.QkpRefIdeal.Run
public import proofs.«01_k».proof.Proof.QkpValue

@[expose] public section

set_option maxRecDepth 16384

noncomputable section

namespace Cert.Proof.Qkp

open Idealize.ShloMosaic Idealize.SL.Sem

/-- The kernel runs, its arguments unchanged and its counters back at zero. -/
theorem frame : Cert.quiescent_Qkp := fun m g _ => Cert.Qkp.Gen.frame m g

/-- The kernel read at the extended reals, likewise. -/
theorem frame_ideal : Cert.quiescent_QkpIdeal := fun m g _ => Cert.QkpIdeal.Gen.frame m g

/-- The reference, likewise. -/
theorem frame_ref : Cert.quiescent_QkpRefIdeal := fun m g _ =>
  (θ_run Cert.QkpRefIdeal.defs _ _).mono (fun r h => ⟨fun c => (h c).2, Idealize.ShloMosaic.sem_eq_zero_of_no_sems (by decide) r.2⟩)
    (Cert.QkpRefIdeal.Value.run (F := Ideal) m g)

/-- The kernel's result is the reference's. -/
theorem value : Cert.algebraic_QkpIdeal_QkpRefIdeal := by
  intro m g m' g' _ hagree
  refine ⟨fun c => Cert.QkpRefIdeal.Heads.REF (m ((c.tc : Thread Cert.QkpIdeal.nD Cert.QkpIdeal.τ).loc Cert.QkpIdeal.main_arg0))
      (m ((c.tc : Thread Cert.QkpIdeal.nD Cert.QkpIdeal.τ).loc Cert.QkpIdeal.main_arg1))
      (m ((c.tc : Thread Cert.QkpIdeal.nD Cert.QkpIdeal.τ).loc Cert.QkpIdeal.main_arg2)), ?_, ?_⟩
  · refine (θ_run Cert.QkpIdeal.defs _ _).mono (fun r h c => ⟨(h c).1.trans (Cert.QkpIdeal.Value.final m c), (h c).2⟩)
      (Cert.QkpIdeal.Value.run_blocks (F := Ideal) m g)
  · refine (θ_run Cert.QkpRefIdeal.defs _ _).mono (fun r h c => ⟨(h c).1.trans ?_, (h c).2⟩)
      (Cert.QkpRefIdeal.Value.run (F := Ideal) m' g')
    rw [Cert.QkpRefIdeal.Read.val_main_v148_eq, (hagree c).1, (hagree c).2.1, (hagree c).2.2]

end Cert.Proof.Qkp

end
-- ==== Proof.lean ====
module

public import proofs.«01_k».proof.Defs
public import proofs.«01_k».proof.Proof.Gen.Da
public import proofs.«01_k».proof.Proof.Gen.Da.Skeleton
public import proofs.«01_k».proof.Proof.Gen.Da.Launch
public import proofs.«01_k».proof.Proof.Gen.Da.Points
public import proofs.«01_k».proof.Proof.Gen.Da.Frame
public import proofs.«01_k».proof.Proof.Gen.DaIdeal
public import proofs.«01_k».proof.Proof.Gen.DaIdeal.Skeleton
public import proofs.«01_k».proof.Proof.Gen.DaIdeal.Launch
public import proofs.«01_k».proof.Proof.Gen.DaIdeal.Points
public import proofs.«01_k».proof.Proof.Gen.DaIdeal.Frame
public import proofs.«01_k».proof.Proof.Gen.DaRefIdeal
public import proofs.«01_k».proof.Proof.Gen.Gq
public import proofs.«01_k».proof.Proof.Gen.Gq.Skeleton
public import proofs.«01_k».proof.Proof.Gen.Gq.Launch
public import proofs.«01_k».proof.Proof.Gen.Gq.Points
public import proofs.«01_k».proof.Proof.Gen.Gq.Frame
public import proofs.«01_k».proof.Proof.Gen.GqIdeal
public import proofs.«01_k».proof.Proof.Gen.GqIdeal.Skeleton
public import proofs.«01_k».proof.Proof.Gen.GqIdeal.Launch
public import proofs.«01_k».proof.Proof.Gen.GqIdeal.Points
public import proofs.«01_k».proof.Proof.Gen.GqIdeal.Frame
public import proofs.«01_k».proof.Proof.Gen.GqRefIdeal
public import proofs.«01_k».proof.Proof.Gen.Inp
public import proofs.«01_k».proof.Proof.Gen.Inp.Skeleton
public import proofs.«01_k».proof.Proof.Gen.Inp.Launch
public import proofs.«01_k».proof.Proof.Gen.Inp.Points
public import proofs.«01_k».proof.Proof.Gen.Inp.Frame
public import proofs.«01_k».proof.Proof.Gen.InpIdeal
public import proofs.«01_k».proof.Proof.Gen.InpIdeal.Skeleton
public import proofs.«01_k».proof.Proof.Gen.InpIdeal.Launch
public import proofs.«01_k».proof.Proof.Gen.InpIdeal.Points
public import proofs.«01_k».proof.Proof.Gen.InpIdeal.Frame
public import proofs.«01_k».proof.Proof.Gen.InpRefIdeal
public import proofs.«01_k».proof.Proof.Gen.Outp
public import proofs.«01_k».proof.Proof.Gen.Outp.Skeleton
public import proofs.«01_k».proof.Proof.Gen.Outp.Launch
public import proofs.«01_k».proof.Proof.Gen.Outp.Points
public import proofs.«01_k».proof.Proof.Gen.Outp.Frame
public import proofs.«01_k».proof.Proof.Gen.OutpIdeal
public import proofs.«01_k».proof.Proof.Gen.OutpIdeal.Skeleton
public import proofs.«01_k».proof.Proof.Gen.OutpIdeal.Launch
public import proofs.«01_k».proof.Proof.Gen.OutpIdeal.Points
public import proofs.«01_k».proof.Proof.Gen.OutpIdeal.Frame
public import proofs.«01_k».proof.Proof.Gen.OutpRefIdeal
public import proofs.«01_k».proof.Proof.Gen.Filt
public import proofs.«01_k».proof.Proof.Gen.Filt.Skeleton
public import proofs.«01_k».proof.Proof.Gen.Filt.Launch
public import proofs.«01_k».proof.Proof.Gen.Filt.Points
public import proofs.«01_k».proof.Proof.Gen.Filt.Frame
public import proofs.«01_k».proof.Proof.Gen.FiltIdeal
public import proofs.«01_k».proof.Proof.Gen.FiltIdeal.Skeleton
public import proofs.«01_k».proof.Proof.Gen.FiltIdeal.Launch
public import proofs.«01_k».proof.Proof.Gen.FiltIdeal.Points
public import proofs.«01_k».proof.Proof.Gen.FiltIdeal.Frame
public import proofs.«01_k».proof.Proof.Gen.FiltRefIdeal
public import proofs.«01_k».proof.Proof.Gen.Fwd
public import proofs.«01_k».proof.Proof.Gen.Fwd.Skeleton
public import proofs.«01_k».proof.Proof.Gen.Fwd.Launch
public import proofs.«01_k».proof.Proof.Gen.Fwd.Points
public import proofs.«01_k».proof.Proof.Gen.Fwd.Frame
public import proofs.«01_k».proof.Proof.Gen.FwdIdeal
public import proofs.«01_k».proof.Proof.Gen.FwdIdeal.Skeleton
public import proofs.«01_k».proof.Proof.Gen.FwdIdeal.Launch
public import proofs.«01_k».proof.Proof.Gen.FwdIdeal.Points
public import proofs.«01_k».proof.Proof.Gen.FwdIdeal.Frame
public import proofs.«01_k».proof.Proof.Gen.FwdRefIdeal
public import proofs.«01_k».proof.Proof.Gen.Inva
public import proofs.«01_k».proof.Proof.Gen.Inva.Skeleton
public import proofs.«01_k».proof.Proof.Gen.Inva.Launch
public import proofs.«01_k».proof.Proof.Gen.Inva.Points
public import proofs.«01_k».proof.Proof.Gen.Inva.Frame
public import proofs.«01_k».proof.Proof.Gen.InvaIdeal
public import proofs.«01_k».proof.Proof.Gen.InvaIdeal.Skeleton
public import proofs.«01_k».proof.Proof.Gen.InvaIdeal.Launch
public import proofs.«01_k».proof.Proof.Gen.InvaIdeal.Points
public import proofs.«01_k».proof.Proof.Gen.InvaIdeal.Frame
public import proofs.«01_k».proof.Proof.Gen.InvaRefIdeal
public import proofs.«01_k».proof.Proof.Gen.Invb
public import proofs.«01_k».proof.Proof.Gen.Invb.Skeleton
public import proofs.«01_k».proof.Proof.Gen.Invb.Launch
public import proofs.«01_k».proof.Proof.Gen.Invb.Points
public import proofs.«01_k».proof.Proof.Gen.Invb.Frame
public import proofs.«01_k».proof.Proof.Gen.InvbIdeal
public import proofs.«01_k».proof.Proof.Gen.InvbIdeal.Skeleton
public import proofs.«01_k».proof.Proof.Gen.InvbIdeal.Launch
public import proofs.«01_k».proof.Proof.Gen.InvbIdeal.Points
public import proofs.«01_k».proof.Proof.Gen.InvbIdeal.Frame
public import proofs.«01_k».proof.Proof.Gen.InvbRefIdeal
public import proofs.«01_k».proof.Proof.Gen.Modu
public import proofs.«01_k».proof.Proof.Gen.Modu.Skeleton
public import proofs.«01_k».proof.Proof.Gen.Modu.Launch
public import proofs.«01_k».proof.Proof.Gen.Modu.Points
public import proofs.«01_k».proof.Proof.Gen.Modu.Frame
public import proofs.«01_k».proof.Proof.Gen.ModuIdeal
public import proofs.«01_k».proof.Proof.Gen.ModuIdeal.Skeleton
public import proofs.«01_k».proof.Proof.Gen.ModuIdeal.Launch
public import proofs.«01_k».proof.Proof.Gen.ModuIdeal.Points
public import proofs.«01_k».proof.Proof.Gen.ModuIdeal.Frame
public import proofs.«01_k».proof.Proof.Gen.ModuRefIdeal
public import proofs.«01_k».proof.Proof.Gen.Lna
public import proofs.«01_k».proof.Proof.Gen.Lna.Skeleton
public import proofs.«01_k».proof.Proof.Gen.Lna.Launch
public import proofs.«01_k».proof.Proof.Gen.Lna.Points
public import proofs.«01_k».proof.Proof.Gen.Lna.Frame
public import proofs.«01_k».proof.Proof.Gen.LnaIdeal
public import proofs.«01_k».proof.Proof.Gen.LnaIdeal.Skeleton
public import proofs.«01_k».proof.Proof.Gen.LnaIdeal.Launch
public import proofs.«01_k».proof.Proof.Gen.LnaIdeal.Points
public import proofs.«01_k».proof.Proof.Gen.LnaIdeal.Frame
public import proofs.«01_k».proof.Proof.Gen.LnaRefIdeal
public import proofs.«01_k».proof.Proof.Gen.Lnb
public import proofs.«01_k».proof.Proof.Gen.Lnb.Skeleton
public import proofs.«01_k».proof.Proof.Gen.Lnb.Launch
public import proofs.«01_k».proof.Proof.Gen.Lnb.Points
public import proofs.«01_k».proof.Proof.Gen.Lnb.Frame
public import proofs.«01_k».proof.Proof.Gen.LnbIdeal
public import proofs.«01_k».proof.Proof.Gen.LnbIdeal.Skeleton
public import proofs.«01_k».proof.Proof.Gen.LnbIdeal.Launch
public import proofs.«01_k».proof.Proof.Gen.LnbIdeal.Points
public import proofs.«01_k».proof.Proof.Gen.LnbIdeal.Frame
public import proofs.«01_k».proof.Proof.Gen.LnbRefIdeal
public import proofs.«01_k».proof.Proof.Gen.Lnc
public import proofs.«01_k».proof.Proof.Gen.Lnc.Skeleton
public import proofs.«01_k».proof.Proof.Gen.Lnc.Launch
public import proofs.«01_k».proof.Proof.Gen.Lnc.Points
public import proofs.«01_k».proof.Proof.Gen.Lnc.Frame
public import proofs.«01_k».proof.Proof.Gen.LncIdeal
public import proofs.«01_k».proof.Proof.Gen.LncIdeal.Skeleton
public import proofs.«01_k».proof.Proof.Gen.LncIdeal.Launch
public import proofs.«01_k».proof.Proof.Gen.LncIdeal.Points
public import proofs.«01_k».proof.Proof.Gen.LncIdeal.Frame
public import proofs.«01_k».proof.Proof.Gen.LncRefIdeal
public import proofs.«01_k».proof.Proof.Gen.Mpost
public import proofs.«01_k».proof.Proof.Gen.Mpost.Skeleton
public import proofs.«01_k».proof.Proof.Gen.Mpost.Launch
public import proofs.«01_k».proof.Proof.Gen.Mpost.Points
public import proofs.«01_k».proof.Proof.Gen.Mpost.Frame
public import proofs.«01_k».proof.Proof.Gen.MpostIdeal
public import proofs.«01_k».proof.Proof.Gen.MpostIdeal.Skeleton
public import proofs.«01_k».proof.Proof.Gen.MpostIdeal.Launch
public import proofs.«01_k».proof.Proof.Gen.MpostIdeal.Points
public import proofs.«01_k».proof.Proof.Gen.MpostIdeal.Frame
public import proofs.«01_k».proof.Proof.Gen.MpostRefIdeal
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateRefIdeal
public import proofs.«01_k».proof.Proof.Gen.Rout
public import proofs.«01_k».proof.Proof.Gen.Rout.Skeleton
public import proofs.«01_k».proof.Proof.Gen.Rout.Launch
public import proofs.«01_k».proof.Proof.Gen.Rout.Points
public import proofs.«01_k».proof.Proof.Gen.Rout.Frame
public import proofs.«01_k».proof.Proof.Gen.RoutIdeal
public import proofs.«01_k».proof.Proof.Gen.RoutIdeal.Skeleton
public import proofs.«01_k».proof.Proof.Gen.RoutIdeal.Launch
public import proofs.«01_k».proof.Proof.Gen.RoutIdeal.Points
public import proofs.«01_k».proof.Proof.Gen.RoutIdeal.Frame
public import proofs.«01_k».proof.Proof.Gen.RoutRefIdeal
public import proofs.«01_k».proof.Proof.Gen.Adad
public import proofs.«01_k».proof.Proof.Gen.Adad.Skeleton
public import proofs.«01_k».proof.Proof.Gen.Adad.Launch
public import proofs.«01_k».proof.Proof.Gen.Adad.Points
public import proofs.«01_k».proof.Proof.Gen.Adad.Frame
public import proofs.«01_k».proof.Proof.Gen.AdadIdeal
public import proofs.«01_k».proof.Proof.Gen.AdadIdeal.Skeleton
public import proofs.«01_k».proof.Proof.Gen.AdadIdeal.Launch
public import proofs.«01_k».proof.Proof.Gen.AdadIdeal.Points
public import proofs.«01_k».proof.Proof.Gen.AdadIdeal.Frame
public import proofs.«01_k».proof.Proof.Gen.AdadRefIdeal
public import proofs.«01_k».proof.Proof.Gen.Adau
public import proofs.«01_k».proof.Proof.Gen.Adau.Skeleton
public import proofs.«01_k».proof.Proof.Gen.Adau.Launch
public import proofs.«01_k».proof.Proof.Gen.Adau.Points
public import proofs.«01_k».proof.Proof.Gen.Adau.Frame
public import proofs.«01_k».proof.Proof.Gen.AdauIdeal
public import proofs.«01_k».proof.Proof.Gen.AdauIdeal.Skeleton
public import proofs.«01_k».proof.Proof.Gen.AdauIdeal.Launch
public import proofs.«01_k».proof.Proof.Gen.AdauIdeal.Points
public import proofs.«01_k».proof.Proof.Gen.AdauIdeal.Frame
public import proofs.«01_k».proof.Proof.Gen.AdauRefIdeal
public import proofs.«01_k».proof.Proof.Gen.Hyfa
public import proofs.«01_k».proof.Proof.Gen.Hyfa.Skeleton
public import proofs.«01_k».proof.Proof.Gen.Hyfa.Launch
public import proofs.«01_k».proof.Proof.Gen.Hyfa.Points
public import proofs.«01_k».proof.Proof.Gen.Hyfa.Frame
public import proofs.«01_k».proof.Proof.Gen.HyfaIdeal
public import proofs.«01_k».proof.Proof.Gen.HyfaIdeal.Skeleton
public import proofs.«01_k».proof.Proof.Gen.HyfaIdeal.Launch
public import proofs.«01_k».proof.Proof.Gen.HyfaIdeal.Points
public import proofs.«01_k».proof.Proof.Gen.HyfaIdeal.Frame
public import proofs.«01_k».proof.Proof.Gen.HyfaRefIdeal
public import proofs.«01_k».proof.Proof.Gen.Hyfb
public import proofs.«01_k».proof.Proof.Gen.Hyfb.Skeleton
public import proofs.«01_k».proof.Proof.Gen.Hyfb.Launch
public import proofs.«01_k».proof.Proof.Gen.Hyfb.Points
public import proofs.«01_k».proof.Proof.Gen.Hyfb.Frame
public import proofs.«01_k».proof.Proof.Gen.HyfbIdeal
public import proofs.«01_k».proof.Proof.Gen.HyfbIdeal.Skeleton
public import proofs.«01_k».proof.Proof.Gen.HyfbIdeal.Launch
public import proofs.«01_k».proof.Proof.Gen.HyfbIdeal.Points
public import proofs.«01_k».proof.Proof.Gen.HyfbIdeal.Frame
public import proofs.«01_k».proof.Proof.Gen.HyfbRefIdeal
public import proofs.«01_k».proof.Proof.Gen.Hyfc
public import proofs.«01_k».proof.Proof.Gen.Hyfc.Skeleton
public import proofs.«01_k».proof.Proof.Gen.Hyfc.Launch
public import proofs.«01_k».proof.Proof.Gen.Hyfc.Points
public import proofs.«01_k».proof.Proof.Gen.Hyfc.Frame
public import proofs.«01_k».proof.Proof.Gen.HyfcIdeal
public import proofs.«01_k».proof.Proof.Gen.HyfcIdeal.Skeleton
public import proofs.«01_k».proof.Proof.Gen.HyfcIdeal.Launch
public import proofs.«01_k».proof.Proof.Gen.HyfcIdeal.Points
public import proofs.«01_k».proof.Proof.Gen.HyfcIdeal.Frame
public import proofs.«01_k».proof.Proof.Gen.HyfcRefIdeal
public import proofs.«01_k».proof.Proof.Gen.Sconv
public import proofs.«01_k».proof.Proof.Gen.Sconv.Skeleton
public import proofs.«01_k».proof.Proof.Gen.Sconv.Launch
public import proofs.«01_k».proof.Proof.Gen.Sconv.Points
public import proofs.«01_k».proof.Proof.Gen.Sconv.Frame
public import proofs.«01_k».proof.Proof.Gen.SconvIdeal
public import proofs.«01_k».proof.Proof.Gen.SconvIdeal.Skeleton
public import proofs.«01_k».proof.Proof.Gen.SconvIdeal.Launch
public import proofs.«01_k».proof.Proof.Gen.SconvIdeal.Points
public import proofs.«01_k».proof.Proof.Gen.SconvIdeal.Frame
public import proofs.«01_k».proof.Proof.Gen.SconvRefIdeal
public import proofs.«01_k».proof.Proof.Gen.Sctx
public import proofs.«01_k».proof.Proof.Gen.Sctx.Skeleton
public import proofs.«01_k».proof.Proof.Gen.Sctx.Launch
public import proofs.«01_k».proof.Proof.Gen.Sctx.Points
public import proofs.«01_k».proof.Proof.Gen.Sctx.Frame
public import proofs.«01_k».proof.Proof.Gen.SctxIdeal
public import proofs.«01_k».proof.Proof.Gen.SctxIdeal.Skeleton
public import proofs.«01_k».proof.Proof.Gen.SctxIdeal.Launch
public import proofs.«01_k».proof.Proof.Gen.SctxIdeal.Points
public import proofs.«01_k».proof.Proof.Gen.SctxIdeal.Frame
public import proofs.«01_k».proof.Proof.Gen.SctxRefIdeal
public import proofs.«01_k».proof.Proof.Gen.Qkp
public import proofs.«01_k».proof.Proof.Gen.Qkp.Skeleton
public import proofs.«01_k».proof.Proof.Gen.Qkp.Launch
public import proofs.«01_k».proof.Proof.Gen.Qkp.Points
public import proofs.«01_k».proof.Proof.Gen.Qkp.Frame
public import proofs.«01_k».proof.Proof.Gen.QkpIdeal
public import proofs.«01_k».proof.Proof.Gen.QkpIdeal.Skeleton
public import proofs.«01_k».proof.Proof.Gen.QkpIdeal.Launch
public import proofs.«01_k».proof.Proof.Gen.QkpIdeal.Points
public import proofs.«01_k».proof.Proof.Gen.QkpIdeal.Frame
public import proofs.«01_k».proof.Proof.Gen.QkpRefIdeal
public import proofs.«01_k».proof.Proof.Gen.Pre_da_finite
public import proofs.«01_k».proof.Proof.Gen.Pre_gq_finite
public import proofs.«01_k».proof.Proof.Gen.DaIdeal.Value
public import proofs.«01_k».proof.Proof.Gen.GqIdeal.Value
public import proofs.«01_k».proof.Proof.Gen.InpIdeal.Value
public import proofs.«01_k».proof.Proof.Gen.OutpIdeal.Value
public import proofs.«01_k».proof.Proof.Gen.FiltIdeal.Value
public import proofs.«01_k».proof.Proof.Gen.FwdIdeal.Value
public import proofs.«01_k».proof.Proof.Gen.InvaIdeal.Value
public import proofs.«01_k».proof.Proof.Gen.InvbIdeal.Value
public import proofs.«01_k».proof.Proof.Gen.ModuIdeal.Value
public import proofs.«01_k».proof.Proof.Gen.LnaIdeal.Value
public import proofs.«01_k».proof.Proof.Gen.LnbIdeal.Value
public import proofs.«01_k».proof.Proof.Gen.LncIdeal.Value
public import proofs.«01_k».proof.Proof.Gen.MpostIdeal.Value
public import proofs.«01_k».proof.Proof.Gen.GateIdeal.Value
public import proofs.«01_k».proof.Proof.Gen.RoutIdeal.Value
public import proofs.«01_k».proof.Proof.Gen.AdadIdeal.Value
public import proofs.«01_k».proof.Proof.Gen.AdauIdeal.Value
public import proofs.«01_k».proof.Proof.Gen.HyfaIdeal.Value
public import proofs.«01_k».proof.Proof.Gen.HyfbIdeal.Value
public import proofs.«01_k».proof.Proof.Gen.HyfcIdeal.Value
public import proofs.«01_k».proof.Proof.Gen.SconvIdeal.Value
public import proofs.«01_k».proof.Proof.Gen.SctxIdeal.Value
public import proofs.«01_k».proof.Proof.Gen.QkpIdeal.Value
public import proofs.«01_k».proof.Proof.Gen.DaRefIdeal.Run
public import proofs.«01_k».proof.Proof.Gen.DaRefIdeal.Read
public import proofs.«01_k».proof.Proof.Gen.GqRefIdeal.Run
public import proofs.«01_k».proof.Proof.Gen.GqRefIdeal.Read
public import proofs.«01_k».proof.Proof.Gen.InpRefIdeal.Run
public import proofs.«01_k».proof.Proof.Gen.InpRefIdeal.Read
public import proofs.«01_k».proof.Proof.Gen.OutpRefIdeal.Run
public import proofs.«01_k».proof.Proof.Gen.OutpRefIdeal.Read
public import proofs.«01_k».proof.Proof.Gen.FiltRefIdeal.Run
public import proofs.«01_k».proof.Proof.Gen.FiltRefIdeal.Read
public import proofs.«01_k».proof.Proof.Gen.FwdRefIdeal.Run
public import proofs.«01_k».proof.Proof.Gen.FwdRefIdeal.Read
public import proofs.«01_k».proof.Proof.Gen.InvaRefIdeal.Run
public import proofs.«01_k».proof.Proof.Gen.InvaRefIdeal.Read
public import proofs.«01_k».proof.Proof.Gen.InvbRefIdeal.Run
public import proofs.«01_k».proof.Proof.Gen.InvbRefIdeal.Read
public import proofs.«01_k».proof.Proof.Gen.ModuRefIdeal.Run
public import proofs.«01_k».proof.Proof.Gen.ModuRefIdeal.Read
public import proofs.«01_k».proof.Proof.Gen.LnaRefIdeal.Run
public import proofs.«01_k».proof.Proof.Gen.LnaRefIdeal.Read
public import proofs.«01_k».proof.Proof.Gen.LnbRefIdeal.Run
public import proofs.«01_k».proof.Proof.Gen.LnbRefIdeal.Read
public import proofs.«01_k».proof.Proof.Gen.LncRefIdeal.Run
public import proofs.«01_k».proof.Proof.Gen.LncRefIdeal.Read
public import proofs.«01_k».proof.Proof.Gen.MpostRefIdeal.Run
public import proofs.«01_k».proof.Proof.Gen.MpostRefIdeal.Read
public import proofs.«01_k».proof.Proof.Gen.GateRefIdeal.Run
public import proofs.«01_k».proof.Proof.Gen.GateRefIdeal.Read
public import proofs.«01_k».proof.Proof.Gen.RoutRefIdeal.Run
public import proofs.«01_k».proof.Proof.Gen.RoutRefIdeal.Read
public import proofs.«01_k».proof.Proof.Gen.AdadRefIdeal.Run
public import proofs.«01_k».proof.Proof.Gen.AdadRefIdeal.Read
public import proofs.«01_k».proof.Proof.Gen.AdauRefIdeal.Run
public import proofs.«01_k».proof.Proof.Gen.AdauRefIdeal.Read
public import proofs.«01_k».proof.Proof.Gen.HyfaRefIdeal.Run
public import proofs.«01_k».proof.Proof.Gen.HyfaRefIdeal.Read
public import proofs.«01_k».proof.Proof.Gen.HyfbRefIdeal.Run
public import proofs.«01_k».proof.Proof.Gen.HyfbRefIdeal.Read
public import proofs.«01_k».proof.Proof.Gen.HyfcRefIdeal.Run
public import proofs.«01_k».proof.Proof.Gen.HyfcRefIdeal.Read
public import proofs.«01_k».proof.Proof.Gen.SconvRefIdeal.Run
public import proofs.«01_k».proof.Proof.Gen.SconvRefIdeal.Read
public import proofs.«01_k».proof.Proof.Gen.SctxRefIdeal.Run
public import proofs.«01_k».proof.Proof.Gen.SctxRefIdeal.Read
public import proofs.«01_k».proof.Proof.Gen.QkpRefIdeal.Run
public import proofs.«01_k».proof.Proof.Gen.QkpRefIdeal.Read
public import proofs.«01_k».proof.Proof.DaClaim
public import proofs.«01_k».proof.Proof.GqClaim
public import proofs.«01_k».proof.Proof.InpClaim
public import proofs.«01_k».proof.Proof.OutpClaim
public import proofs.«01_k».proof.Proof.FiltClaim
public import proofs.«01_k».proof.Proof.FwdClaim
public import proofs.«01_k».proof.Proof.InvaClaim
public import proofs.«01_k».proof.Proof.InvbClaim
public import proofs.«01_k».proof.Proof.ModuClaim
public import proofs.«01_k».proof.Proof.LnaClaim
public import proofs.«01_k».proof.Proof.LnbClaim
public import proofs.«01_k».proof.Proof.LncClaim
public import proofs.«01_k».proof.Proof.MpostClaim
public import proofs.«01_k».proof.Proof.GateClaim
public import proofs.«01_k».proof.Proof.RoutClaim
public import proofs.«01_k».proof.Proof.AdadClaim
public import proofs.«01_k».proof.Proof.AdauClaim
public import proofs.«01_k».proof.Proof.HyfaClaim
public import proofs.«01_k».proof.Proof.HyfbClaim
public import proofs.«01_k».proof.Proof.HyfcClaim
public import proofs.«01_k».proof.Proof.SconvClaim
public import proofs.«01_k».proof.Proof.SctxClaim
public import proofs.«01_k».proof.Proof.QkpClaim
public import Idealize.ShloMosaic.Adequacy
public import Idealize.ShloMosaic.Init

@[expose] public section

noncomputable section

namespace Cert.Proof

open Idealize.ShloMosaic Idealize.SL.Sem Cert.Da

theorem claim : Cert.Claim := ⟨Cert.Da.Gen.facts, Cert.DaIdeal.Gen.facts, Cert.DaRefIdeal.Gen.facts, Cert.Gq.Gen.facts, Cert.GqIdeal.Gen.facts, Cert.GqRefIdeal.Gen.facts, Cert.Inp.Gen.facts, Cert.InpIdeal.Gen.facts, Cert.InpRefIdeal.Gen.facts, Cert.Outp.Gen.facts, Cert.OutpIdeal.Gen.facts, Cert.OutpRefIdeal.Gen.facts,
    Cert.Filt.Gen.facts, Cert.FiltIdeal.Gen.facts, Cert.FiltRefIdeal.Gen.facts,
    Cert.Fwd.Gen.facts, Cert.FwdIdeal.Gen.facts, Cert.FwdRefIdeal.Gen.facts,
    Cert.Inva.Gen.facts, Cert.InvaIdeal.Gen.facts, Cert.InvaRefIdeal.Gen.facts,
    Cert.Invb.Gen.facts, Cert.InvbIdeal.Gen.facts, Cert.InvbRefIdeal.Gen.facts,
    Cert.Modu.Gen.facts, Cert.ModuIdeal.Gen.facts, Cert.ModuRefIdeal.Gen.facts,
    Cert.Lna.Gen.facts, Cert.LnaIdeal.Gen.facts, Cert.LnaRefIdeal.Gen.facts,
    Cert.Lnb.Gen.facts, Cert.LnbIdeal.Gen.facts, Cert.LnbRefIdeal.Gen.facts,
    Cert.Lnc.Gen.facts, Cert.LncIdeal.Gen.facts, Cert.LncRefIdeal.Gen.facts,
    Cert.Mpost.Gen.facts, Cert.MpostIdeal.Gen.facts, Cert.MpostRefIdeal.Gen.facts,
    Cert.Gate.Gen.facts, Cert.GateIdeal.Gen.facts, Cert.GateRefIdeal.Gen.facts,
    Cert.Rout.Gen.facts, Cert.RoutIdeal.Gen.facts, Cert.RoutRefIdeal.Gen.facts,
    Cert.Adad.Gen.facts, Cert.AdadIdeal.Gen.facts, Cert.AdadRefIdeal.Gen.facts,
    Cert.Adau.Gen.facts, Cert.AdauIdeal.Gen.facts, Cert.AdauRefIdeal.Gen.facts,
    Cert.Hyfa.Gen.facts, Cert.HyfaIdeal.Gen.facts, Cert.HyfaRefIdeal.Gen.facts,
    Cert.Hyfb.Gen.facts, Cert.HyfbIdeal.Gen.facts, Cert.HyfbRefIdeal.Gen.facts,
    Cert.Hyfc.Gen.facts, Cert.HyfcIdeal.Gen.facts, Cert.HyfcRefIdeal.Gen.facts,
    Cert.Sconv.Gen.facts, Cert.SconvIdeal.Gen.facts, Cert.SconvRefIdeal.Gen.facts,
    Cert.Sctx.Gen.facts, Cert.SctxIdeal.Gen.facts, Cert.SctxRefIdeal.Gen.facts,
    Cert.Qkp.Gen.facts, Cert.QkpIdeal.Gen.facts, Cert.QkpRefIdeal.Gen.facts,
    Cert.Pre_da_finite.Gen.facts, Cert.Pre_gq_finite.Gen.facts, Cert.Proof.Da.frame, Cert.Proof.Da.frame_ideal, Cert.Proof.Da.frame_ideal_pre, Cert.Proof.Da.frame_ref, Cert.Proof.Da.frame_ref_pre,
    Cert.Proof.Gq.frame, Cert.Proof.Gq.frame_ideal, Cert.Proof.Gq.frame_ideal_pre, Cert.Proof.Gq.frame_ref, Cert.Proof.Gq.frame_ref_pre,
    Cert.Proof.Inp.frame, Cert.Proof.Inp.frame_ideal, Cert.Proof.Inp.frame_ref, Cert.Proof.Outp.frame, Cert.Proof.Outp.frame_ideal, Cert.Proof.Outp.frame_ref,
    Cert.Proof.Filt.frame, Cert.Proof.Filt.frame_ideal, Cert.Proof.Filt.frame_ref,
    Cert.Proof.Fwd.frame, Cert.Proof.Fwd.frame_ideal, Cert.Proof.Fwd.frame_ref,
    Cert.Proof.Inva.frame, Cert.Proof.Inva.frame_ideal, Cert.Proof.Inva.frame_ref,
    Cert.Proof.Invb.frame, Cert.Proof.Invb.frame_ideal, Cert.Proof.Invb.frame_ref,
    Cert.Proof.Modu.frame, Cert.Proof.Modu.frame_ideal, Cert.Proof.Modu.frame_ref,
    Cert.Proof.Lna.frame, Cert.Proof.Lna.frame_ideal, Cert.Proof.Lna.frame_ref,
    Cert.Proof.Lnb.frame, Cert.Proof.Lnb.frame_ideal, Cert.Proof.Lnb.frame_ref,
    Cert.Proof.Lnc.frame, Cert.Proof.Lnc.frame_ideal, Cert.Proof.Lnc.frame_ref,
    Cert.Proof.Mpost.frame, Cert.Proof.Mpost.frame_ideal, Cert.Proof.Mpost.frame_ref,
    Cert.Proof.Gate.frame, Cert.Proof.Gate.frame_ideal, Cert.Proof.Gate.frame_ref,
    Cert.Proof.Rout.frame, Cert.Proof.Rout.frame_ideal, Cert.Proof.Rout.frame_ref,
    Cert.Proof.Adad.frame, Cert.Proof.Adad.frame_ideal, Cert.Proof.Adad.frame_ref,
    Cert.Proof.Adau.frame, Cert.Proof.Adau.frame_ideal, Cert.Proof.Adau.frame_ref,
    Cert.Proof.Hyfa.frame, Cert.Proof.Hyfa.frame_ideal, Cert.Proof.Hyfa.frame_ref,
    Cert.Proof.Hyfb.frame, Cert.Proof.Hyfb.frame_ideal, Cert.Proof.Hyfb.frame_ref,
    Cert.Proof.Hyfc.frame, Cert.Proof.Hyfc.frame_ideal, Cert.Proof.Hyfc.frame_ref,
    Cert.Proof.Sconv.frame, Cert.Proof.Sconv.frame_ideal, Cert.Proof.Sconv.frame_ref,
    Cert.Proof.Sctx.frame, Cert.Proof.Sctx.frame_ideal, Cert.Proof.Sctx.frame_ref,
    Cert.Proof.Qkp.frame, Cert.Proof.Qkp.frame_ideal, Cert.Proof.Qkp.frame_ref,
    trivial, Cert.Proof.Da.value, trivial, Cert.Proof.Gq.value, trivial, Cert.Proof.Inp.value, trivial, Cert.Proof.Outp.value,
    trivial, Cert.Proof.Filt.value,
    trivial, Cert.Proof.Fwd.value,
    trivial, Cert.Proof.Inva.value,
    trivial, Cert.Proof.Invb.value,
    trivial, Cert.Proof.Modu.value,
    trivial, Cert.Proof.Lna.value,
    trivial, Cert.Proof.Lnb.value,
    trivial, Cert.Proof.Lnc.value,
    trivial, Cert.Proof.Mpost.value,
    trivial, Cert.Proof.Gate.value,
    trivial, Cert.Proof.Rout.value,
    trivial, Cert.Proof.Adad.value,
    trivial, Cert.Proof.Adau.value,
    trivial, Cert.Proof.Hyfa.value,
    trivial, Cert.Proof.Hyfb.value,
    trivial, Cert.Proof.Hyfc.value,
    trivial, Cert.Proof.Sconv.value,
    trivial, Cert.Proof.Sctx.value,
    trivial, Cert.Proof.Qkp.value⟩

end Cert.Proof

end
